-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_GUp (m : (ℓ : Loc Cert.GUp.nD Cert.GUp.τ Cert.GUp.sig) → Buf (Elt Bits) ℓ) : Prop :=
  True

def Pre_GUpIdeal (m : (ℓ : Loc Cert.GUpIdeal.nD Cert.GUpIdeal.τ Cert.GUpIdeal.sig) → Buf (Elt Ideal) ℓ) : Prop :=
  True

def Pre_GUpRefIdeal (m : (ℓ : Loc Cert.GUpRefIdeal.nD Cert.GUpRefIdeal.τ Cert.GUpRefIdeal.sig) → Buf (Elt Ideal) ℓ) : Prop :=
  True

def Pre_DP (m : (ℓ : Loc Cert.DP.nD Cert.DP.τ Cert.DP.sig) → Buf (Elt Bits) ℓ) : Prop :=
  True

def Pre_DPIdeal (m : (ℓ : Loc Cert.DPIdeal.nD Cert.DPIdeal.τ Cert.DPIdeal.sig) → Buf (Elt Ideal) ℓ) : Prop :=
  True

def Pre_DPRefIdeal (m : (ℓ : Loc Cert.DPRefIdeal.nD Cert.DPRefIdeal.τ Cert.DPRefIdeal.sig) → Buf (Elt Ideal) ℓ) : Prop :=
  True

def Pre_DX (m : (ℓ : Loc Cert.DX.nD Cert.DX.τ Cert.DX.sig) → Buf (Elt Bits) ℓ) : Prop :=
  True

def Pre_DXIdeal (m : (ℓ : Loc Cert.DXIdeal.nD Cert.DXIdeal.τ Cert.DXIdeal.sig) → Buf (Elt Ideal) ℓ) : Prop :=
  True

def Pre_DXRefIdeal (m : (ℓ : Loc Cert.DXRefIdeal.nD Cert.DXRefIdeal.τ Cert.DXRefIdeal.sig) → Buf (Elt Ideal) ℓ) : Prop :=
  True

def Pre_GDown (m : (ℓ : Loc Cert.GDown.nD Cert.GDown.τ Cert.GDown.sig) → Buf (Elt Bits) ℓ) : Prop :=
  True

def Pre_GDownIdeal (m : (ℓ : Loc Cert.GDownIdeal.nD Cert.GDownIdeal.τ Cert.GDownIdeal.sig) → Buf (Elt Ideal) ℓ) : Prop :=
  True

def Pre_GDownRefIdeal (m : (ℓ : Loc Cert.GDownRefIdeal.nD Cert.GDownRefIdeal.τ Cert.GDownRefIdeal.sig) → Buf (Elt Ideal) ℓ) : Prop :=
  True

def Pre_GIn (m : (ℓ : Loc Cert.GIn.nD Cert.GIn.τ Cert.GIn.sig) → Buf (Elt Bits) ℓ) : Prop :=
  True

def Pre_GInIdeal (m : (ℓ : Loc Cert.GInIdeal.nD Cert.GInIdeal.τ Cert.GInIdeal.sig) → Buf (Elt Ideal) ℓ) : Prop :=
  True

def Pre_GInRefIdeal (m : (ℓ : Loc Cert.GInRefIdeal.nD Cert.GInRefIdeal.τ Cert.GInRefIdeal.sig) → Buf (Elt Ideal) ℓ) : Prop :=
  True

def Pre_FUp (m : (ℓ : Loc Cert.FUp.nD Cert.FUp.τ Cert.FUp.sig) → Buf (Elt Bits) ℓ) : Prop :=
  True

def Pre_FUpIdeal (m : (ℓ : Loc Cert.FUpIdeal.nD Cert.FUpIdeal.τ Cert.FUpIdeal.sig) → Buf (Elt Ideal) ℓ) : Prop :=
  True

def Pre_FUpRefIdeal (m : (ℓ : Loc Cert.FUpRefIdeal.nD Cert.FUpRefIdeal.τ Cert.FUpRefIdeal.sig) → Buf (Elt Ideal) ℓ) : Prop :=
  True

def Pre_FDown (m : (ℓ : Loc Cert.FDown.nD Cert.FDown.τ Cert.FDown.sig) → Buf (Elt Bits) ℓ) : Prop :=
  True

def Pre_FDownIdeal (m : (ℓ : Loc Cert.FDownIdeal.nD Cert.FDownIdeal.τ Cert.FDownIdeal.sig) → Buf (Elt Ideal) ℓ) : Prop :=
  True

def Pre_FDownRefIdeal (m : (ℓ : Loc Cert.FDownRefIdeal.nD Cert.FDownRefIdeal.τ Cert.FDownRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_GOut (m : (ℓ : Loc Cert.GOut.nD Cert.GOut.τ Cert.GOut.sig) → Buf (Elt Bits) ℓ) : Prop :=
  True

def Pre_GOutIdeal (m : (ℓ : Loc Cert.GOutIdeal.nD Cert.GOutIdeal.τ Cert.GOutIdeal.sig) → Buf (Elt Ideal) ℓ) : Prop :=
  True

def Pre_GOutRefIdeal (m : (ℓ : Loc Cert.GOutRefIdeal.nD Cert.GOutRefIdeal.τ Cert.GOutRefIdeal.sig) → Buf (Elt Ideal) ℓ) : Prop :=
  True

def Pre_DCat (m : (ℓ : Loc Cert.DCat.nD Cert.DCat.τ Cert.DCat.sig) → Buf (Elt Bits) ℓ) : Prop :=
  True

def Pre_DCatIdeal (m : (ℓ : Loc Cert.DCatIdeal.nD Cert.DCatIdeal.τ Cert.DCatIdeal.sig) → Buf (Elt Ideal) ℓ) : Prop :=
  True

def Pre_DCatRefIdeal (m : (ℓ : Loc Cert.DCatRefIdeal.nD Cert.DCatRefIdeal.τ Cert.DCatRefIdeal.sig) → Buf (Elt Ideal) ℓ) : Prop :=
  True

def Pre_PSb (m : (ℓ : Loc Cert.PSb.nD Cert.PSb.τ Cert.PSb.sig) → Buf (Elt Bits) ℓ) : Prop :=
  True

def Pre_PSbIdeal (m : (ℓ : Loc Cert.PSbIdeal.nD Cert.PSbIdeal.τ Cert.PSbIdeal.sig) → Buf (Elt Ideal) ℓ) : Prop :=
  True

def Pre_PSbRefIdeal (m : (ℓ : Loc Cert.PSbRefIdeal.nD Cert.PSbRefIdeal.τ Cert.PSbRefIdeal.sig) → Buf (Elt Ideal) ℓ) : Prop :=
  True

def Pre_PGla (m : (ℓ : Loc Cert.PGla.nD Cert.PGla.τ Cert.PGla.sig) → Buf (Elt Bits) ℓ) : Prop :=
  True

def Pre_PGlaIdeal (m : (ℓ : Loc Cert.PGlaIdeal.nD Cert.PGlaIdeal.τ Cert.PGlaIdeal.sig) → Buf (Elt Ideal) ℓ) : Prop :=
  True

def Pre_PGlaRefIdeal (m : (ℓ : Loc Cert.PGlaRefIdeal.nD Cert.PGlaRefIdeal.τ Cert.PGlaRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_AOut (m : (ℓ : Loc Cert.AOut.nD Cert.AOut.τ Cert.AOut.sig) → Buf (Elt Bits) ℓ) : Prop :=
  True

def Pre_AOutIdeal (m : (ℓ : Loc Cert.AOutIdeal.nD Cert.AOutIdeal.τ Cert.AOutIdeal.sig) → Buf (Elt Ideal) ℓ) : Prop :=
  True

def Pre_AOutRefIdeal (m : (ℓ : Loc Cert.AOutRefIdeal.nD Cert.AOutRefIdeal.τ Cert.AOutRefIdeal.sig) → Buf (Elt Ideal) ℓ) : Prop :=
  True

def Pre_AUp (m : (ℓ : Loc Cert.AUp.nD Cert.AUp.τ Cert.AUp.sig) → Buf (Elt Bits) ℓ) : Prop :=
  True

def Pre_AUpIdeal (m : (ℓ : Loc Cert.AUpIdeal.nD Cert.AUpIdeal.τ Cert.AUpIdeal.sig) → Buf (Elt Ideal) ℓ) : Prop :=
  True

def Pre_AUpRefIdeal (m : (ℓ : Loc Cert.AUpRefIdeal.nD Cert.AUpRefIdeal.τ Cert.AUpRefIdeal.sig) → Buf (Elt Ideal) ℓ) : Prop :=
  True

def Pre_ADown (m : (ℓ : Loc Cert.ADown.nD Cert.ADown.τ Cert.ADown.sig) → Buf (Elt Bits) ℓ) : Prop :=
  True

def Pre_ADownIdeal (m : (ℓ : Loc Cert.ADownIdeal.nD Cert.ADownIdeal.τ Cert.ADownIdeal.sig) → Buf (Elt Ideal) ℓ) : Prop :=
  True

def Pre_ADownRefIdeal (m : (ℓ : Loc Cert.ADownRefIdeal.nD Cert.ADownRefIdeal.τ Cert.ADownRefIdeal.sig) → Buf (Elt Ideal) ℓ) : Prop :=
  True

def Pre_AGate (m : (ℓ : Loc Cert.AGate.nD Cert.AGate.τ Cert.AGate.sig) → Buf (Elt Bits) ℓ) : Prop :=
  True

def Pre_AGateIdeal (m : (ℓ : Loc Cert.AGateIdeal.nD Cert.AGateIdeal.τ Cert.AGateIdeal.sig) → Buf (Elt Ideal) ℓ) : Prop :=
  True

def Pre_AGateRefIdeal (m : (ℓ : Loc Cert.AGateRefIdeal.nD Cert.AGateRefIdeal.τ Cert.AGateRefIdeal.sig) → Buf (Elt Ideal) ℓ) : Prop :=
  True

def Pre_AConv (m : (ℓ : Loc Cert.AConv.nD Cert.AConv.τ Cert.AConv.sig) → Buf (Elt Bits) ℓ) : Prop :=
  True

def Pre_AConvIdeal (m : (ℓ : Loc Cert.AConvIdeal.nD Cert.AConvIdeal.τ Cert.AConvIdeal.sig) → Buf (Elt Ideal) ℓ) : Prop :=
  True

def Pre_AConvRefIdeal (m : (ℓ : Loc Cert.AConvRefIdeal.nD Cert.AConvRefIdeal.τ Cert.AConvRefIdeal.sig) → Buf (Elt Ideal) ℓ) : Prop :=
  True

def Pre_ARep (m : (ℓ : Loc Cert.ARep.nD Cert.ARep.τ Cert.ARep.sig) → Buf (Elt Bits) ℓ) : Prop :=
  True

def Pre_ARepIdeal (m : (ℓ : Loc Cert.ARepIdeal.nD Cert.ARepIdeal.τ Cert.ARepIdeal.sig) → Buf (Elt Ideal) ℓ) : Prop :=
  True

def Pre_ARepRefIdeal (m : (ℓ : Loc Cert.ARepRefIdeal.nD Cert.ARepRefIdeal.τ Cert.ARepRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1)
      ∧ r.2.mem ((c.tc : Thread Cert.DH.nD Cert.DH.τ).loc Cert.DH.main_arg2) = m ((c.tc : Thread Cert.DH.nD Cert.DH.τ).loc Cert.DH.main_arg2)
      ∧ r.2.mem ((c.tc : Thread Cert.DH.nD Cert.DH.τ).loc Cert.DH.main_arg3) = m ((c.tc : Thread Cert.DH.nD Cert.DH.τ).loc Cert.DH.main_arg3))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
      ∧ r.2.mem ((c.tc : Thread Cert.DHIdeal.nD Cert.DHIdeal.τ).loc Cert.DHIdeal.main_arg2) = m ((c.tc : Thread Cert.DHIdeal.nD Cert.DHIdeal.τ).loc Cert.DHIdeal.main_arg2)
      ∧ r.2.mem ((c.tc : Thread Cert.DHIdeal.nD Cert.DHIdeal.τ).loc Cert.DHIdeal.main_arg3) = m ((c.tc : Thread Cert.DHIdeal.nD Cert.DHIdeal.τ).loc Cert.DHIdeal.main_arg3))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1)
      ∧ r.2.mem ((c.tc : Thread Cert.DHRefIdeal.nD Cert.DHRefIdeal.τ).loc Cert.DHRefIdeal.main_arg2) = m ((c.tc : Thread Cert.DHRefIdeal.nD Cert.DHRefIdeal.τ).loc Cert.DHRefIdeal.main_arg2)
      ∧ r.2.mem ((c.tc : Thread Cert.DHRefIdeal.nD Cert.DHRefIdeal.τ).loc Cert.DHRefIdeal.main_arg3) = m ((c.tc : Thread Cert.DHRefIdeal.nD Cert.DHRefIdeal.τ).loc Cert.DHRefIdeal.main_arg3))
      ∧ r.2.sem = fun _ => 0)

def quiescent_GUp [hGUp : Cert.GUp.Facts] : Prop :=
  ∀ (m : (ℓ : Loc Cert.GUp.nD Cert.GUp.τ Cert.GUp.sig) → Buf (Elt Bits) ℓ) (g : Dev Cert.GUp.nD → PrngReg), Pre_GUp m →
    θ_run (Cert.GUp.defs (F := Bits)) (onTc (τ := Cert.GUp.τ) (Cert.GUp.main (F := Bits))) ⟨m, fun _ => 0, g⟩ (fun r => (∀ c : Dev Cert.GUp.nD,
      r.2.mem ((c.tc : Thread Cert.GUp.nD Cert.GUp.τ).loc Cert.GUp.main_arg0) = m ((c.tc : Thread Cert.GUp.nD Cert.GUp.τ).loc Cert.GUp.main_arg0)
      ∧ r.2.mem ((c.tc : Thread Cert.GUp.nD Cert.GUp.τ).loc Cert.GUp.main_arg1) = m ((c.tc : Thread Cert.GUp.nD Cert.GUp.τ).loc Cert.GUp.main_arg1)
      ∧ r.2.mem ((c.tc : Thread Cert.GUp.nD Cert.GUp.τ).loc Cert.GUp.main_arg2) = m ((c.tc : Thread Cert.GUp.nD Cert.GUp.τ).loc Cert.GUp.main_arg2))
      ∧ r.2.sem = fun _ => 0)

def quiescent_GUpIdeal [hGUpIdeal : Cert.GUpIdeal.Facts] : Prop :=
  ∀ (m : (ℓ : Loc Cert.GUpIdeal.nD Cert.GUpIdeal.τ Cert.GUpIdeal.sig) → Buf (Elt Ideal) ℓ) (g : Dev Cert.GUpIdeal.nD → PrngReg), Pre_GUpIdeal m →
    θ_run (Cert.GUpIdeal.defs (F := Ideal)) (onTc (τ := Cert.GUpIdeal.τ) (Cert.GUpIdeal.main (F := Ideal))) ⟨m, fun _ => 0, g⟩ (fun r => (∀ c : Dev Cert.GUpIdeal.nD,
      r.2.mem ((c.tc : Thread Cert.GUpIdeal.nD Cert.GUpIdeal.τ).loc Cert.GUpIdeal.main_arg0) = m ((c.tc : Thread Cert.GUpIdeal.nD Cert.GUpIdeal.τ).loc Cert.GUpIdeal.main_arg0)
      ∧ r.2.mem ((c.tc : Thread Cert.GUpIdeal.nD Cert.GUpIdeal.τ).loc Cert.GUpIdeal.main_arg1) = m ((c.tc : Thread Cert.GUpIdeal.nD Cert.GUpIdeal.τ).loc Cert.GUpIdeal.main_arg1)
      ∧ r.2.mem ((c.tc : Thread Cert.GUpIdeal.nD Cert.GUpIdeal.τ).loc Cert.GUpIdeal.main_arg2) = m ((c.tc : Thread Cert.GUpIdeal.nD Cert.GUpIdeal.τ).loc Cert.GUpIdeal.main_arg2))
      ∧ r.2.sem = fun _ => 0)

def quiescent_GUpRefIdeal [hGUpRefIdeal : Cert.GUpRefIdeal.Facts] : Prop :=
  ∀ (m : (ℓ : Loc Cert.GUpRefIdeal.nD Cert.GUpRefIdeal.τ Cert.GUpRefIdeal.sig) → Buf (Elt Ideal) ℓ) (g : Dev Cert.GUpRefIdeal.nD → PrngReg), Pre_GUpRefIdeal m →
    θ_run (Cert.GUpRefIdeal.defs (F := Ideal)) (onTc (τ := Cert.GUpRefIdeal.τ) (Cert.GUpRefIdeal.main (F := Ideal))) ⟨m, fun _ => 0, g⟩ (fun r => (∀ c : Dev Cert.GUpRefIdeal.nD,
      r.2.mem ((c.tc : Thread Cert.GUpRefIdeal.nD Cert.GUpRefIdeal.τ).loc Cert.GUpRefIdeal.main_arg0) = m ((c.tc : Thread Cert.GUpRefIdeal.nD Cert.GUpRefIdeal.τ).loc Cert.GUpRefIdeal.main_arg0)
      ∧ r.2.mem ((c.tc : Thread Cert.GUpRefIdeal.nD Cert.GUpRefIdeal.τ).loc Cert.GUpRefIdeal.main_arg1) = m ((c.tc : Thread Cert.GUpRefIdeal.nD Cert.GUpRefIdeal.τ).loc Cert.GUpRefIdeal.main_arg1)
      ∧ r.2.mem ((c.tc : Thread Cert.GUpRefIdeal.nD Cert.GUpRefIdeal.τ).loc Cert.GUpRefIdeal.main_arg2) = m ((c.tc : Thread Cert.GUpRefIdeal.nD Cert.GUpRefIdeal.τ).loc Cert.GUpRefIdeal.main_arg2))
      ∧ r.2.sem = fun _ => 0)

def quiescent_DP [hDP : Cert.DP.Facts] : Prop :=
  ∀ (m : (ℓ : Loc Cert.DP.nD Cert.DP.τ Cert.DP.sig) → Buf (Elt Bits) ℓ) (g : Dev Cert.DP.nD → PrngReg), Pre_DP m →
    θ_run (Cert.DP.defs (F := Bits)) (onTc (τ := Cert.DP.τ) (Cert.DP.main (F := Bits))) ⟨m, fun _ => 0, g⟩ (fun r => (∀ c : Dev Cert.DP.nD,
      r.2.mem ((c.tc : Thread Cert.DP.nD Cert.DP.τ).loc Cert.DP.main_arg0) = m ((c.tc : Thread Cert.DP.nD Cert.DP.τ).loc Cert.DP.main_arg0)
      ∧ r.2.mem ((c.tc : Thread Cert.DP.nD Cert.DP.τ).loc Cert.DP.main_arg1) = m ((c.tc : Thread Cert.DP.nD Cert.DP.τ).loc Cert.DP.main_arg1)
      ∧ r.2.mem ((c.tc : Thread Cert.DP.nD Cert.DP.τ).loc Cert.DP.main_arg2) = m ((c.tc : Thread Cert.DP.nD Cert.DP.τ).loc Cert.DP.main_arg2))
      ∧ r.2.sem = fun _ => 0)

def quiescent_DPIdeal [hDPIdeal : Cert.DPIdeal.Facts] : Prop :=
  ∀ (m : (ℓ : Loc Cert.DPIdeal.nD Cert.DPIdeal.τ Cert.DPIdeal.sig) → Buf (Elt Ideal) ℓ) (g : Dev Cert.DPIdeal.nD → PrngReg), Pre_DPIdeal m →
    θ_run (Cert.DPIdeal.defs (F := Ideal)) (onTc (τ := Cert.DPIdeal.τ) (Cert.DPIdeal.main (F := Ideal))) ⟨m, fun _ => 0, g⟩ (fun r => (∀ c : Dev Cert.DPIdeal.nD,
      r.2.mem ((c.tc : Thread Cert.DPIdeal.nD Cert.DPIdeal.τ).loc Cert.DPIdeal.main_arg0) = m ((c.tc : Thread Cert.DPIdeal.nD Cert.DPIdeal.τ).loc Cert.DPIdeal.main_arg0)
      ∧ r.2.mem ((c.tc : Thread Cert.DPIdeal.nD Cert.DPIdeal.τ).loc Cert.DPIdeal.main_arg1) = m ((c.tc : Thread Cert.DPIdeal.nD Cert.DPIdeal.τ).loc Cert.DPIdeal.main_arg1)
      ∧ r.2.mem ((c.tc : Thread Cert.DPIdeal.nD Cert.DPIdeal.τ).loc Cert.DPIdeal.main_arg2) = m ((c.tc : Thread Cert.DPIdeal.nD Cert.DPIdeal.τ).loc Cert.DPIdeal.main_arg2))
      ∧ r.2.sem = fun _ => 0)

def quiescent_DPRefIdeal [hDPRefIdeal : Cert.DPRefIdeal.Facts] : Prop :=
  ∀ (m : (ℓ : Loc Cert.DPRefIdeal.nD Cert.DPRefIdeal.τ Cert.DPRefIdeal.sig) → Buf (Elt Ideal) ℓ) (g : Dev Cert.DPRefIdeal.nD → PrngReg), Pre_DPRefIdeal m →
    θ_run (Cert.DPRefIdeal.defs (F := Ideal)) (onTc (τ := Cert.DPRefIdeal.τ) (Cert.DPRefIdeal.main (F := Ideal))) ⟨m, fun _ => 0, g⟩ (fun r => (∀ c : Dev Cert.DPRefIdeal.nD,
      r.2.mem ((c.tc : Thread Cert.DPRefIdeal.nD Cert.DPRefIdeal.τ).loc Cert.DPRefIdeal.main_arg0) = m ((c.tc : Thread Cert.DPRefIdeal.nD Cert.DPRefIdeal.τ).loc Cert.DPRefIdeal.main_arg0)
      ∧ r.2.mem ((c.tc : Thread Cert.DPRefIdeal.nD Cert.DPRefIdeal.τ).loc Cert.DPRefIdeal.main_arg1) = m ((c.tc : Thread Cert.DPRefIdeal.nD Cert.DPRefIdeal.τ).loc Cert.DPRefIdeal.main_arg1)
      ∧ r.2.mem ((c.tc : Thread Cert.DPRefIdeal.nD Cert.DPRefIdeal.τ).loc Cert.DPRefIdeal.main_arg2) = m ((c.tc : Thread Cert.DPRefIdeal.nD Cert.DPRefIdeal.τ).loc Cert.DPRefIdeal.main_arg2))
      ∧ r.2.sem = fun _ => 0)

def quiescent_DX [hDX : Cert.DX.Facts] : Prop :=
  ∀ (m : (ℓ : Loc Cert.DX.nD Cert.DX.τ Cert.DX.sig) → Buf (Elt Bits) ℓ) (g : Dev Cert.DX.nD → PrngReg), Pre_DX m →
    θ_run (Cert.DX.defs (F := Bits)) (onTc (τ := Cert.DX.τ) (Cert.DX.main (F := Bits))) ⟨m, fun _ => 0, g⟩ (fun r => (∀ c : Dev Cert.DX.nD,
      r.2.mem ((c.tc : Thread Cert.DX.nD Cert.DX.τ).loc Cert.DX.main_arg0) = m ((c.tc : Thread Cert.DX.nD Cert.DX.τ).loc Cert.DX.main_arg0)
      ∧ r.2.mem ((c.tc : Thread Cert.DX.nD Cert.DX.τ).loc Cert.DX.main_arg1) = m ((c.tc : Thread Cert.DX.nD Cert.DX.τ).loc Cert.DX.main_arg1)
      ∧ r.2.mem ((c.tc : Thread Cert.DX.nD Cert.DX.τ).loc Cert.DX.main_arg2) = m ((c.tc : Thread Cert.DX.nD Cert.DX.τ).loc Cert.DX.main_arg2)
      ∧ r.2.mem ((c.tc : Thread Cert.DX.nD Cert.DX.τ).loc Cert.DX.main_arg3) = m ((c.tc : Thread Cert.DX.nD Cert.DX.τ).loc Cert.DX.main_arg3))
      ∧ r.2.sem = fun _ => 0)

def quiescent_DXIdeal [hDXIdeal : Cert.DXIdeal.Facts] : Prop :=
  ∀ (m : (ℓ : Loc Cert.DXIdeal.nD Cert.DXIdeal.τ Cert.DXIdeal.sig) → Buf (Elt Ideal) ℓ) (g : Dev Cert.DXIdeal.nD → PrngReg), Pre_DXIdeal m →
    θ_run (Cert.DXIdeal.defs (F := Ideal)) (onTc (τ := Cert.DXIdeal.τ) (Cert.DXIdeal.main (F := Ideal))) ⟨m, fun _ => 0, g⟩ (fun r => (∀ c : Dev Cert.DXIdeal.nD,
      r.2.mem ((c.tc : Thread Cert.DXIdeal.nD Cert.DXIdeal.τ).loc Cert.DXIdeal.main_arg0) = m ((c.tc : Thread Cert.DXIdeal.nD Cert.DXIdeal.τ).loc Cert.DXIdeal.main_arg0)
      ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
      ∧ r.2.mem ((c.tc : Thread Cert.DXIdeal.nD Cert.DXIdeal.τ).loc Cert.DXIdeal.main_arg2) = m ((c.tc : Thread Cert.DXIdeal.nD Cert.DXIdeal.τ).loc Cert.DXIdeal.main_arg2)
      ∧ r.2.mem ((c.tc : Thread Cert.DXIdeal.nD Cert.DXIdeal.τ).loc Cert.DXIdeal.main_arg3) = m ((c.tc : Thread Cert.DXIdeal.nD Cert.DXIdeal.τ).loc Cert.DXIdeal.main_arg3))
      ∧ r.2.sem = fun _ => 0)

def quiescent_DXRefIdeal [hDXRefIdeal : Cert.DXRefIdeal.Facts] : Prop :=
  ∀ (m : (ℓ : Loc Cert.DXRefIdeal.nD Cert.DXRefIdeal.τ Cert.DXRefIdeal.sig) → Buf (Elt Ideal) ℓ) (g : Dev Cert.DXRefIdeal.nD → PrngReg), Pre_DXRefIdeal m →
    θ_run (Cert.DXRefIdeal.defs (F := Ideal)) (onTc (τ := Cert.DXRefIdeal.τ) (Cert.DXRefIdeal.main (F := Ideal))) ⟨m, fun _ => 0, g⟩ (fun r => (∀ c : Dev Cert.DXRefIdeal.nD,
      r.2.mem ((c.tc : Thread Cert.DXRefIdeal.nD Cert.DXRefIdeal.τ).loc Cert.DXRefIdeal.main_arg0) = m ((c.tc : Thread Cert.DXRefIdeal.nD Cert.DXRefIdeal.τ).loc Cert.DXRefIdeal.main_arg0)
      ∧ r.2.mem ((c.tc : Thread Cert.DXRefIdeal.nD Cert.DXRefIdeal.τ).loc Cert.DXRefIdeal.main_arg1) = m ((c.tc : Thread Cert.DXRefIdeal.nD Cert.DXRefIdeal.τ).loc Cert.DXRefIdeal.main_arg1)
      ∧ r.2.mem ((c.tc : Thread Cert.DXRefIdeal.nD Cert.DXRefIdeal.τ).loc Cert.DXRefIdeal.main_arg2) = m ((c.tc : Thread Cert.DXRefIdeal.nD Cert.DXRefIdeal.τ).loc Cert.DXRefIdeal.main_arg2)
      ∧ r.2.mem ((c.tc : Thread Cert.DXRefIdeal.nD Cert.DXRefIdeal.τ).loc Cert.DXRefIdeal.main_arg3) = m ((c.tc : Thread Cert.DXRefIdeal.nD Cert.DXRefIdeal.τ).loc Cert.DXRefIdeal.main_arg3))
      ∧ r.2.sem = fun _ => 0)

def quiescent_GDown [hGDown : Cert.GDown.Facts] : Prop :=
  ∀ (m : (ℓ : Loc Cert.GDown.nD Cert.GDown.τ Cert.GDown.sig) → Buf (Elt Bits) ℓ) (g : Dev Cert.GDown.nD → PrngReg), Pre_GDown m →
    θ_run (Cert.GDown.defs (F := Bits)) (onTc (τ := Cert.GDown.τ) (Cert.GDown.main (F := Bits))) ⟨m, fun _ => 0, g⟩ (fun r => (∀ c : Dev Cert.GDown.nD,
      r.2.mem ((c.tc : Thread Cert.GDown.nD Cert.GDown.τ).loc Cert.GDown.main_arg0) = m ((c.tc : Thread Cert.GDown.nD Cert.GDown.τ).loc Cert.GDown.main_arg0)
      ∧ r.2.mem ((c.tc : Thread Cert.GDown.nD Cert.GDown.τ).loc Cert.GDown.main_arg1) = m ((c.tc : Thread Cert.GDown.nD Cert.GDown.τ).loc Cert.GDown.main_arg1)
      ∧ r.2.mem ((c.tc : Thread Cert.GDown.nD Cert.GDown.τ).loc Cert.GDown.main_arg2) = m ((c.tc : Thread Cert.GDown.nD Cert.GDown.τ).loc Cert.GDown.main_arg2))
      ∧ r.2.sem = fun _ => 0)

def quiescent_GDownIdeal [hGDownIdeal : Cert.GDownIdeal.Facts] : Prop :=
  ∀ (m : (ℓ : Loc Cert.GDownIdeal.nD Cert.GDownIdeal.τ Cert.GDownIdeal.sig) → Buf (Elt Ideal) ℓ) (g : Dev Cert.GDownIdeal.nD → PrngReg), Pre_GDownIdeal m →
    θ_run (Cert.GDownIdeal.defs (F := Ideal)) (onTc (τ := Cert.GDownIdeal.τ) (Cert.GDownIdeal.main (F := Ideal))) ⟨m, fun _ => 0, g⟩ (fun r => (∀ c : Dev Cert.GDownIdeal.nD,
      r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
      ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1)
      ∧ r.2.mem ((c.tc : Thread Cert.GDownIdeal.nD Cert.GDownIdeal.τ).loc Cert.GDownIdeal.main_arg2) = m ((c.tc : Thread Cert.GDownIdeal.nD Cert.GDownIdeal.τ).loc Cert.GDownIdeal.main_arg2))
      ∧ r.2.sem = fun _ => 0)

def quiescent_GDownRefIdeal [hGDownRefIdeal : Cert.GDownRefIdeal.Facts] : Prop :=
  ∀ (m : (ℓ : Loc Cert.GDownRefIdeal.nD Cert.GDownRefIdeal.τ Cert.GDownRefIdeal.sig) → Buf (Elt Ideal) ℓ) (g : Dev Cert.GDownRefIdeal.nD → PrngReg), Pre_GDownRefIdeal m →
    θ_run (Cert.GDownRefIdeal.defs (F := Ideal)) (onTc (τ := Cert.GDownRefIdeal.τ) (Cert.GDownRefIdeal.main (F := Ideal))) ⟨m, fun _ => 0, g⟩ (fun r => (∀ c : Dev Cert.GDownRefIdeal.nD,
      r.2.mem ((c.tc : Thread Cert.GDownRefIdeal.nD Cert.GDownRefIdeal.τ).loc Cert.GDownRefIdeal.main_arg0) = m ((c.tc : Thread Cert.GDownRefIdeal.nD Cert.GDownRefIdeal.τ).loc Cert.GDownRefIdeal.main_arg0)
      ∧ r.2.mem ((c.tc : Thread Cert.GDownRefIdeal.nD Cert.GDownRefIdeal.τ).loc Cert.GDownRefIdeal.main_arg1) = m ((c.tc : Thread Cert.GDownRefIdeal.nD Cert.GDownRefIdeal.τ).loc Cert.GDownRefIdeal.main_arg1)
      ∧ r.2.mem ((c.tc : Thread Cert.GDownRefIdeal.nD Cert.GDownRefIdeal.τ).loc Cert.GDownRefIdeal.main_arg2) = m ((c.tc : Thread Cert.GDownRefIdeal.nD Cert.GDownRefIdeal.τ).loc Cert.GDownRefIdeal.main_arg2))
      ∧ r.2.sem = fun _ => 0)

def quiescent_GIn [hGIn : Cert.GIn.Facts] : Prop :=
  ∀ (m : (ℓ : Loc Cert.GIn.nD Cert.GIn.τ Cert.GIn.sig) → Buf (Elt Bits) ℓ) (g : Dev Cert.GIn.nD → PrngReg), Pre_GIn m →
    θ_run (Cert.GIn.defs (F := Bits)) (onTc (τ := Cert.GIn.τ) (Cert.GIn.main (F := Bits))) ⟨m, fun _ => 0, g⟩ (fun r => (∀ c : Dev Cert.GIn.nD,
      r.2.mem ((c.tc : Thread Cert.GIn.nD Cert.GIn.τ).loc Cert.GIn.main_arg0) = m ((c.tc : Thread Cert.GIn.nD Cert.GIn.τ).loc Cert.GIn.main_arg0)
      ∧ r.2.mem ((c.tc : Thread Cert.GIn.nD Cert.GIn.τ).loc Cert.GIn.main_arg1) = m ((c.tc : Thread Cert.GIn.nD Cert.GIn.τ).loc Cert.GIn.main_arg1)
      ∧ r.2.mem ((c.tc : Thread Cert.GIn.nD Cert.GIn.τ).loc Cert.GIn.main_arg2) = m ((c.tc : Thread Cert.GIn.nD Cert.GIn.τ).loc Cert.GIn.main_arg2))
      ∧ r.2.sem = fun _ => 0)

def quiescent_GInIdeal [hGInIdeal : Cert.GInIdeal.Facts] : Prop :=
  ∀ (m : (ℓ : Loc Cert.GInIdeal.nD Cert.GInIdeal.τ Cert.GInIdeal.sig) → Buf (Elt Ideal) ℓ) (g : Dev Cert.GInIdeal.nD → PrngReg), Pre_GInIdeal m →
    θ_run (Cert.GInIdeal.defs (F := Ideal)) (onTc (τ := Cert.GInIdeal.τ) (Cert.GInIdeal.main (F := Ideal))) ⟨m, fun _ => 0, g⟩ (fun r => (∀ c : Dev Cert.GInIdeal.nD,
      r.2.mem ((c.tc : Thread Cert.GInIdeal.nD Cert.GInIdeal.τ).loc Cert.GInIdeal.main_arg0) = m ((c.tc : Thread Cert.GInIdeal.nD Cert.GInIdeal.τ).loc Cert.GInIdeal.main_arg0)
      ∧ r.2.mem ((c.tc : Thread Cert.GInIdeal.nD Cert.GInIdeal.τ).loc Cert.GInIdeal.main_arg1) = m ((c.tc : Thread Cert.GInIdeal.nD Cert.GInIdeal.τ).loc Cert.GInIdeal.main_arg1)
      ∧ r.2.mem ((c.tc : Thread Cert.GInIdeal.nD Cert.GInIdeal.τ).loc Cert.GInIdeal.main_arg2) = m ((c.tc : Thread Cert.GInIdeal.nD Cert.GInIdeal.τ).loc Cert.GInIdeal.main_arg2))
      ∧ r.2.sem = fun _ => 0)

def quiescent_GInRefIdeal [hGInRefIdeal : Cert.GInRefIdeal.Facts] : Prop :=
  ∀ (m : (ℓ : Loc Cert.GInRefIdeal.nD Cert.GInRefIdeal.τ Cert.GInRefIdeal.sig) → Buf (Elt Ideal) ℓ) (g : Dev Cert.GInRefIdeal.nD → PrngReg), Pre_GInRefIdeal m →
    θ_run (Cert.GInRefIdeal.defs (F := Ideal)) (onTc (τ := Cert.GInRefIdeal.τ) (Cert.GInRefIdeal.main (F := Ideal))) ⟨m, fun _ => 0, g⟩ (fun r => (∀ c : Dev Cert.GInRefIdeal.nD,
      r.2.mem ((c.tc : Thread Cert.GInRefIdeal.nD Cert.GInRefIdeal.τ).loc Cert.GInRefIdeal.main_arg0) = m ((c.tc : Thread Cert.GInRefIdeal.nD Cert.GInRefIdeal.τ).loc Cert.GInRefIdeal.main_arg0)
      ∧ r.2.mem ((c.tc : Thread Cert.GInRefIdeal.nD Cert.GInRefIdeal.τ).loc Cert.GInRefIdeal.main_arg1) = m ((c.tc : Thread Cert.GInRefIdeal.nD Cert.GInRefIdeal.τ).loc Cert.GInRefIdeal.main_arg1)
      ∧ r.2.mem ((c.tc : Thread Cert.GInRefIdeal.nD Cert.GInRefIdeal.τ).loc Cert.GInRefIdeal.main_arg2) = m ((c.tc : Thread Cert.GInRefIdeal.nD Cert.GInRefIdeal.τ).loc Cert.GInRefIdeal.main_arg2))
      ∧ r.2.sem = fun _ => 0)

def quiescent_FUp [hFUp : Cert.FUp.Facts] : Prop :=
  ∀ (m : (ℓ : Loc Cert.FUp.nD Cert.FUp.τ Cert.FUp.sig) → Buf (Elt Bits) ℓ) (g : Dev Cert.FUp.nD → PrngReg), Pre_FUp m →
    θ_run (Cert.FUp.defs (F := Bits)) (onTc (τ := Cert.FUp.τ) (Cert.FUp.main (F := Bits))) ⟨m, fun _ => 0, g⟩ (fun r => (∀ c : Dev Cert.FUp.nD,
      r.2.mem ((c.tc : Thread Cert.FUp.nD Cert.FUp.τ).loc Cert.FUp.main_arg0) = m ((c.tc : Thread Cert.FUp.nD Cert.FUp.τ).loc Cert.FUp.main_arg0)
      ∧ r.2.mem ((c.tc : Thread Cert.FUp.nD Cert.FUp.τ).loc Cert.FUp.main_arg1) = m ((c.tc : Thread Cert.FUp.nD Cert.FUp.τ).loc Cert.FUp.main_arg1))
      ∧ r.2.sem = fun _ => 0)

def quiescent_FUpIdeal [hFUpIdeal : Cert.FUpIdeal.Facts] : Prop :=
  ∀ (m : (ℓ : Loc Cert.FUpIdeal.nD Cert.FUpIdeal.τ Cert.FUpIdeal.sig) → Buf (Elt Ideal) ℓ) (g : Dev Cert.FUpIdeal.nD → PrngReg), Pre_FUpIdeal m →
    θ_run (Cert.FUpIdeal.defs (F := Ideal)) (onTc (τ := Cert.FUpIdeal.τ) (Cert.FUpIdeal.main (F := Ideal))) ⟨m, fun _ => 0, g⟩ (fun r => (∀ c : Dev Cert.FUpIdeal.nD,
      r.2.mem ((c.tc : Thread Cert.FUpIdeal.nD Cert.FUpIdeal.τ).loc Cert.FUpIdeal.main_arg0) = m ((c.tc : Thread Cert.FUpIdeal.nD Cert.FUpIdeal.τ).loc Cert.FUpIdeal.main_arg0)
      ∧ r.2.mem ((c.tc : Thread Cert.FUpIdeal.nD Cert.FUpIdeal.τ).loc Cert.FUpIdeal.main_arg1) = m ((c.tc : Thread Cert.FUpIdeal.nD Cert.FUpIdeal.τ).loc Cert.FUpIdeal.main_arg1))
      ∧ r.2.sem = fun _ => 0)

def quiescent_FUpRefIdeal [hFUpRefIdeal : Cert.FUpRefIdeal.Facts] : Prop :=
  ∀ (m : (ℓ : Loc Cert.FUpRefIdeal.nD Cert.FUpRefIdeal.τ Cert.FUpRefIdeal.sig) → Buf (Elt Ideal) ℓ) (g : Dev Cert.FUpRefIdeal.nD → PrngReg), Pre_FUpRefIdeal m →
    θ_run (Cert.FUpRefIdeal.defs (F := Ideal)) (onTc (τ := Cert.FUpRefIdeal.τ) (Cert.FUpRefIdeal.main (F := Ideal))) ⟨m, fun _ => 0, g⟩ (fun r => (∀ c : Dev Cert.FUpRefIdeal.nD,
      r.2.mem ((c.tc : Thread Cert.FUpRefIdeal.nD Cert.FUpRefIdeal.τ).loc Cert.FUpRefIdeal.main_arg0) = m ((c.tc : Thread Cert.FUpRefIdeal.nD Cert.FUpRefIdeal.τ).loc Cert.FUpRefIdeal.main_arg0)
      ∧ r.2.mem ((c.tc : Thread Cert.FUpRefIdeal.nD Cert.FUpRefIdeal.τ).loc Cert.FUpRefIdeal.main_arg1) = m ((c.tc : Thread Cert.FUpRefIdeal.nD Cert.FUpRefIdeal.τ).loc Cert.FUpRefIdeal.main_arg1))
      ∧ r.2.sem = fun _ => 0)

def quiescent_FDown [hFDown : Cert.FDown.Facts] : Prop :=
  ∀ (m : (ℓ : Loc Cert.FDown.nD Cert.FDown.τ Cert.FDown.sig) → Buf (Elt Bits) ℓ) (g : Dev Cert.FDown.nD → PrngReg), Pre_FDown m →
    θ_run (Cert.FDown.defs (F := Bits)) (onTc (τ := Cert.FDown.τ) (Cert.FDown.main (F := Bits))) ⟨m, fun _ => 0, g⟩ (fun r => (∀ c : Dev Cert.FDown.nD,
      r.2.mem ((c.tc : Thread Cert.FDown.nD Cert.FDown.τ).loc Cert.FDown.main_arg0) = m ((c.tc : Thread Cert.FDown.nD Cert.FDown.τ).loc Cert.FDown.main_arg0)
      ∧ r.2.mem ((c.tc : Thread Cert.FDown.nD Cert.FDown.τ).loc Cert.FDown.main_arg1) = m ((c.tc : Thread Cert.FDown.nD Cert.FDown.τ).loc Cert.FDown.main_arg1)
      ∧ r.2.mem ((c.tc : Thread Cert.FDown.nD Cert.FDown.τ).loc Cert.FDown.main_arg2) = m ((c.tc : Thread Cert.FDown.nD Cert.FDown.τ).loc Cert.FDown.main_arg2))
      ∧ r.2.sem = fun _ => 0)

def quiescent_FDownIdeal [hFDownIdeal : Cert.FDownIdeal.Facts] : Prop :=
  ∀ (m : (ℓ : Loc Cert.FDownIdeal.nD Cert.FDownIdeal.τ Cert.FDownIdeal.sig) → Buf (Elt Ideal) ℓ) (g : Dev Cert.FDownIdeal.nD → PrngReg), Pre_FDownIdeal m →
    θ_run (Cert.FDownIdeal.defs (F := Ideal)) (onTc (τ := Cert.FDownIdeal.τ) (Cert.FDownIdeal.main (F := Ideal))) ⟨m, fun _ => 0, g⟩ (fun r => (∀ c : Dev Cert.FDownIdeal.nD,
      r.2.mem ((c.tc : Thread Cert.FDownIdeal.nD Cert.FDownIdeal.τ).loc Cert.FDownIdeal.main_arg0) = m ((c.tc : Thread Cert.FDownIdeal.nD Cert.FDownIdeal.τ).loc Cert.FDownIdeal.main_arg0)
      ∧ r.2.mem ((c.tc : Thread Cert.FDownIdeal.nD Cert.FDownIdeal.τ).loc Cert.FDownIdeal.main_arg1) = m ((c.tc : Thread Cert.FDownIdeal.nD Cert.FDownIdeal.τ).loc Cert.FDownIdeal.main_arg1)
      ∧ r.2.mem ((c.tc : Thread Cert.FDownIdeal.nD Cert.FDownIdeal.τ).loc Cert.FDownIdeal.main_arg2) = m ((c.tc : Thread Cert.FDownIdeal.nD Cert.FDownIdeal.τ).loc Cert.FDownIdeal.main_arg2))
      ∧ r.2.sem = fun _ => 0)

def quiescent_FDownRefIdeal [hFDownRefIdeal : Cert.FDownRefIdeal.Facts] : Prop :=
  ∀ (m : (ℓ : Loc Cert.FDownRefIdeal.nD Cert.FDownRefIdeal.τ Cert.FDownRefIdeal.sig) → Buf (Elt Ideal) ℓ) (g : Dev Cert.FDownRefIdeal.nD → PrngReg), Pre_FDownRefIdeal m →
    θ_run (Cert.FDownRefIdeal.defs (F := Ideal)) (onTc (τ := Cert.FDownRefIdeal.τ) (Cert.FDownRefIdeal.main (F := Ideal))) ⟨m, fun _ => 0, g⟩ (fun r => (∀ c : Dev Cert.FDownRefIdeal.nD,
      r.2.mem ((c.tc : Thread Cert.FDownRefIdeal.nD Cert.FDownRefIdeal.τ).loc Cert.FDownRefIdeal.main_arg0) = m ((c.tc : Thread Cert.FDownRefIdeal.nD Cert.FDownRefIdeal.τ).loc Cert.FDownRefIdeal.main_arg0)
      ∧ r.2.mem ((c.tc : Thread Cert.FDownRefIdeal.nD Cert.FDownRefIdeal.τ).loc Cert.FDownRefIdeal.main_arg1) = m ((c.tc : Thread Cert.FDownRefIdeal.nD Cert.FDownRefIdeal.τ).loc Cert.FDownRefIdeal.main_arg1)
      ∧ r.2.mem ((c.tc : Thread Cert.FDownRefIdeal.nD Cert.FDownRefIdeal.τ).loc Cert.FDownRefIdeal.main_arg2) = m ((c.tc : Thread Cert.FDownRefIdeal.nD Cert.FDownRefIdeal.τ).loc Cert.FDownRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def quiescent_GOut [hGOut : Cert.GOut.Facts] : Prop :=
  ∀ (m : (ℓ : Loc Cert.GOut.nD Cert.GOut.τ Cert.GOut.sig) → Buf (Elt Bits) ℓ) (g : Dev Cert.GOut.nD → PrngReg), Pre_GOut m →
    θ_run (Cert.GOut.defs (F := Bits)) (onTc (τ := Cert.GOut.τ) (Cert.GOut.main (F := Bits))) ⟨m, fun _ => 0, g⟩ (fun r => (∀ c : Dev Cert.GOut.nD,
      r.2.mem ((c.tc : Thread Cert.GOut.nD Cert.GOut.τ).loc Cert.GOut.main_arg0) = m ((c.tc : Thread Cert.GOut.nD Cert.GOut.τ).loc Cert.GOut.main_arg0)
      ∧ r.2.mem ((c.tc : Thread Cert.GOut.nD Cert.GOut.τ).loc Cert.GOut.main_arg1) = m ((c.tc : Thread Cert.GOut.nD Cert.GOut.τ).loc Cert.GOut.main_arg1)
      ∧ r.2.mem ((c.tc : Thread Cert.GOut.nD Cert.GOut.τ).loc Cert.GOut.main_arg2) = m ((c.tc : Thread Cert.GOut.nD Cert.GOut.τ).loc Cert.GOut.main_arg2))
      ∧ r.2.sem = fun _ => 0)

def quiescent_GOutIdeal [hGOutIdeal : Cert.GOutIdeal.Facts] : Prop :=
  ∀ (m : (ℓ : Loc Cert.GOutIdeal.nD Cert.GOutIdeal.τ Cert.GOutIdeal.sig) → Buf (Elt Ideal) ℓ) (g : Dev Cert.GOutIdeal.nD → PrngReg), Pre_GOutIdeal m →
    θ_run (Cert.GOutIdeal.defs (F := Ideal)) (onTc (τ := Cert.GOutIdeal.τ) (Cert.GOutIdeal.main (F := Ideal))) ⟨m, fun _ => 0, g⟩ (fun r => (∀ c : Dev Cert.GOutIdeal.nD,
      r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
      ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1)
      ∧ r.2.mem ((c.tc : Thread Cert.GOutIdeal.nD Cert.GOutIdeal.τ).loc Cert.GOutIdeal.main_arg2) = m ((c.tc : Thread Cert.GOutIdeal.nD Cert.GOutIdeal.τ).loc Cert.GOutIdeal.main_arg2))
      ∧ r.2.sem = fun _ => 0)

def quiescent_GOutRefIdeal [hGOutRefIdeal : Cert.GOutRefIdeal.Facts] : Prop :=
  ∀ (m : (ℓ : Loc Cert.GOutRefIdeal.nD Cert.GOutRefIdeal.τ Cert.GOutRefIdeal.sig) → Buf (Elt Ideal) ℓ) (g : Dev Cert.GOutRefIdeal.nD → PrngReg), Pre_GOutRefIdeal m →
    θ_run (Cert.GOutRefIdeal.defs (F := Ideal)) (onTc (τ := Cert.GOutRefIdeal.τ) (Cert.GOutRefIdeal.main (F := Ideal))) ⟨m, fun _ => 0, g⟩ (fun r => (∀ c : Dev Cert.GOutRefIdeal.nD,
      r.2.mem ((c.tc : Thread Cert.GOutRefIdeal.nD Cert.GOutRefIdeal.τ).loc Cert.GOutRefIdeal.main_arg0) = m ((c.tc : Thread Cert.GOutRefIdeal.nD Cert.GOutRefIdeal.τ).loc Cert.GOutRefIdeal.main_arg0)
      ∧ r.2.mem ((c.tc : Thread Cert.GOutRefIdeal.nD Cert.GOutRefIdeal.τ).loc Cert.GOutRefIdeal.main_arg1) = m ((c.tc : Thread Cert.GOutRefIdeal.nD Cert.GOutRefIdeal.τ).loc Cert.GOutRefIdeal.main_arg1)
      ∧ r.2.mem ((c.tc : Thread Cert.GOutRefIdeal.nD Cert.GOutRefIdeal.τ).loc Cert.GOutRefIdeal.main_arg2) = m ((c.tc : Thread Cert.GOutRefIdeal.nD Cert.GOutRefIdeal.τ).loc Cert.GOutRefIdeal.main_arg2))
      ∧ r.2.sem = fun _ => 0)

def quiescent_DCat [hDCat : Cert.DCat.Facts] : Prop :=
  ∀ (m : (ℓ : Loc Cert.DCat.nD Cert.DCat.τ Cert.DCat.sig) → Buf (Elt Bits) ℓ) (g : Dev Cert.DCat.nD → PrngReg), Pre_DCat m →
    θ_run (Cert.DCat.defs (F := Bits)) (onTc (τ := Cert.DCat.τ) (Cert.DCat.main (F := Bits))) ⟨m, fun _ => 0, g⟩ (fun r => (∀ c : Dev Cert.DCat.nD,
      r.2.mem ((c.tc : Thread Cert.DCat.nD Cert.DCat.τ).loc Cert.DCat.main_arg0) = m ((c.tc : Thread Cert.DCat.nD Cert.DCat.τ).loc Cert.DCat.main_arg0)
      ∧ r.2.mem ((c.tc : Thread Cert.DCat.nD Cert.DCat.τ).loc Cert.DCat.main_arg1) = m ((c.tc : Thread Cert.DCat.nD Cert.DCat.τ).loc Cert.DCat.main_arg1)
      ∧ r.2.mem ((c.tc : Thread Cert.DCat.nD Cert.DCat.τ).loc Cert.DCat.main_arg2) = m ((c.tc : Thread Cert.DCat.nD Cert.DCat.τ).loc Cert.DCat.main_arg2))
      ∧ r.2.sem = fun _ => 0)

def quiescent_DCatIdeal [hDCatIdeal : Cert.DCatIdeal.Facts] : Prop :=
  ∀ (m : (ℓ : Loc Cert.DCatIdeal.nD Cert.DCatIdeal.τ Cert.DCatIdeal.sig) → Buf (Elt Ideal) ℓ) (g : Dev Cert.DCatIdeal.nD → PrngReg), Pre_DCatIdeal m →
    θ_run (Cert.DCatIdeal.defs (F := Ideal)) (onTc (τ := Cert.DCatIdeal.τ) (Cert.DCatIdeal.main (F := Ideal))) ⟨m, fun _ => 0, g⟩ (fun r => (∀ c : Dev Cert.DCatIdeal.nD,
      r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
      ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1)
      ∧ r.2.mem ((c.tc : Thread Cert.DCatIdeal.nD Cert.DCatIdeal.τ).loc Cert.DCatIdeal.main_arg2) = m ((c.tc : Thread Cert.DCatIdeal.nD Cert.DCatIdeal.τ).loc Cert.DCatIdeal.main_arg2))
      ∧ r.2.sem = fun _ => 0)

def quiescent_DCatRefIdeal [hDCatRefIdeal : Cert.DCatRefIdeal.Facts] : Prop :=
  ∀ (m : (ℓ : Loc Cert.DCatRefIdeal.nD Cert.DCatRefIdeal.τ Cert.DCatRefIdeal.sig) → Buf (Elt Ideal) ℓ) (g : Dev Cert.DCatRefIdeal.nD → PrngReg), Pre_DCatRefIdeal m →
    θ_run (Cert.DCatRefIdeal.defs (F := Ideal)) (onTc (τ := Cert.DCatRefIdeal.τ) (Cert.DCatRefIdeal.main (F := Ideal))) ⟨m, fun _ => 0, g⟩ (fun r => (∀ c : Dev Cert.DCatRefIdeal.nD,
      r.2.mem ((c.tc : Thread Cert.DCatRefIdeal.nD Cert.DCatRefIdeal.τ).loc Cert.DCatRefIdeal.main_arg0) = m ((c.tc : Thread Cert.DCatRefIdeal.nD Cert.DCatRefIdeal.τ).loc Cert.DCatRefIdeal.main_arg0)
      ∧ r.2.mem ((c.tc : Thread Cert.DCatRefIdeal.nD Cert.DCatRefIdeal.τ).loc Cert.DCatRefIdeal.main_arg1) = m ((c.tc : Thread Cert.DCatRefIdeal.nD Cert.DCatRefIdeal.τ).loc Cert.DCatRefIdeal.main_arg1)
      ∧ r.2.mem ((c.tc : Thread Cert.DCatRefIdeal.nD Cert.DCatRefIdeal.τ).loc Cert.DCatRefIdeal.main_arg2) = m ((c.tc : Thread Cert.DCatRefIdeal.nD Cert.DCatRefIdeal.τ).loc Cert.DCatRefIdeal.main_arg2))
      ∧ r.2.sem = fun _ => 0)

def quiescent_PSb [hPSb : Cert.PSb.Facts] : Prop :=
  ∀ (m : (ℓ : Loc Cert.PSb.nD Cert.PSb.τ Cert.PSb.sig) → Buf (Elt Bits) ℓ) (g : Dev Cert.PSb.nD → PrngReg), Pre_PSb m →
    θ_run (Cert.PSb.defs (F := Bits)) (onTc (τ := Cert.PSb.τ) (Cert.PSb.main (F := Bits))) ⟨m, fun _ => 0, g⟩ (fun r => (∀ c : Dev Cert.PSb.nD,
      r.2.mem ((c.tc : Thread Cert.PSb.nD Cert.PSb.τ).loc Cert.PSb.main_arg0) = m ((c.tc : Thread Cert.PSb.nD Cert.PSb.τ).loc Cert.PSb.main_arg0)
      ∧ r.2.mem ((c.tc : Thread Cert.PSb.nD Cert.PSb.τ).loc Cert.PSb.main_arg1) = m ((c.tc : Thread Cert.PSb.nD Cert.PSb.τ).loc Cert.PSb.main_arg1))
      ∧ r.2.sem = fun _ => 0)

def quiescent_PSbIdeal [hPSbIdeal : Cert.PSbIdeal.Facts] : Prop :=
  ∀ (m : (ℓ : Loc Cert.PSbIdeal.nD Cert.PSbIdeal.τ Cert.PSbIdeal.sig) → Buf (Elt Ideal) ℓ) (g : Dev Cert.PSbIdeal.nD → PrngReg), Pre_PSbIdeal m →
    θ_run (Cert.PSbIdeal.defs (F := Ideal)) (onTc (τ := Cert.PSbIdeal.τ) (Cert.PSbIdeal.main (F := Ideal))) ⟨m, fun _ => 0, g⟩ (fun r => (∀ c : Dev Cert.PSbIdeal.nD,
      r.2.mem ((c.tc : Thread Cert.PSbIdeal.nD Cert.PSbIdeal.τ).loc Cert.PSbIdeal.main_arg0) = m ((c.tc : Thread Cert.PSbIdeal.nD Cert.PSbIdeal.τ).loc Cert.PSbIdeal.main_arg0)
      ∧ r.2.mem ((c.tc : Thread Cert.PSbIdeal.nD Cert.PSbIdeal.τ).loc Cert.PSbIdeal.main_arg1) = m ((c.tc : Thread Cert.PSbIdeal.nD Cert.PSbIdeal.τ).loc Cert.PSbIdeal.main_arg1))
      ∧ r.2.sem = fun _ => 0)

def quiescent_PSbRefIdeal [hPSbRefIdeal : Cert.PSbRefIdeal.Facts] : Prop :=
  ∀ (m : (ℓ : Loc Cert.PSbRefIdeal.nD Cert.PSbRefIdeal.τ Cert.PSbRefIdeal.sig) → Buf (Elt Ideal) ℓ) (g : Dev Cert.PSbRefIdeal.nD → PrngReg), Pre_PSbRefIdeal m →
    θ_run (Cert.PSbRefIdeal.defs (F := Ideal)) (onTc (τ := Cert.PSbRefIdeal.τ) (Cert.PSbRefIdeal.main (F := Ideal))) ⟨m, fun _ => 0, g⟩ (fun r => (∀ c : Dev Cert.PSbRefIdeal.nD,
      r.2.mem ((c.tc : Thread Cert.PSbRefIdeal.nD Cert.PSbRefIdeal.τ).loc Cert.PSbRefIdeal.main_arg0) = m ((c.tc : Thread Cert.PSbRefIdeal.nD Cert.PSbRefIdeal.τ).loc Cert.PSbRefIdeal.main_arg0)
      ∧ r.2.mem ((c.tc : Thread Cert.PSbRefIdeal.nD Cert.PSbRefIdeal.τ).loc Cert.PSbRefIdeal.main_arg1) = m ((c.tc : Thread Cert.PSbRefIdeal.nD Cert.PSbRefIdeal.τ).loc Cert.PSbRefIdeal.main_arg1))
      ∧ r.2.sem = fun _ => 0)

def quiescent_PGla [hPGla : Cert.PGla.Facts] : Prop :=
  ∀ (m : (ℓ : Loc Cert.PGla.nD Cert.PGla.τ Cert.PGla.sig) → Buf (Elt Bits) ℓ) (g : Dev Cert.PGla.nD → PrngReg), Pre_PGla m →
    θ_run (Cert.PGla.defs (F := Bits)) (onTc (τ := Cert.PGla.τ) (Cert.PGla.main (F := Bits))) ⟨m, fun _ => 0, g⟩ (fun r => (∀ c : Dev Cert.PGla.nD,
      r.2.mem ((c.tc : Thread Cert.PGla.nD Cert.PGla.τ).loc Cert.PGla.main_arg0) = m ((c.tc : Thread Cert.PGla.nD Cert.PGla.τ).loc Cert.PGla.main_arg0)
      ∧ r.2.mem ((c.tc : Thread Cert.PGla.nD Cert.PGla.τ).loc Cert.PGla.main_arg1) = m ((c.tc : Thread Cert.PGla.nD Cert.PGla.τ).loc Cert.PGla.main_arg1))
      ∧ r.2.sem = fun _ => 0)

def quiescent_PGlaIdeal [hPGlaIdeal : Cert.PGlaIdeal.Facts] : Prop :=
  ∀ (m : (ℓ : Loc Cert.PGlaIdeal.nD Cert.PGlaIdeal.τ Cert.PGlaIdeal.sig) → Buf (Elt Ideal) ℓ) (g : Dev Cert.PGlaIdeal.nD → PrngReg), Pre_PGlaIdeal m →
    θ_run (Cert.PGlaIdeal.defs (F := Ideal)) (onTc (τ := Cert.PGlaIdeal.τ) (Cert.PGlaIdeal.main (F := Ideal))) ⟨m, fun _ => 0, g⟩ (fun r => (∀ c : Dev Cert.PGlaIdeal.nD,
      r.2.mem ((c.tc : Thread Cert.PGlaIdeal.nD Cert.PGlaIdeal.τ).loc Cert.PGlaIdeal.main_arg0) = m ((c.tc : Thread Cert.PGlaIdeal.nD Cert.PGlaIdeal.τ).loc Cert.PGlaIdeal.main_arg0)
      ∧ r.2.mem ((c.tc : Thread Cert.PGlaIdeal.nD Cert.PGlaIdeal.τ).loc Cert.PGlaIdeal.main_arg1) = m ((c.tc : Thread Cert.PGlaIdeal.nD Cert.PGlaIdeal.τ).loc Cert.PGlaIdeal.main_arg1))
      ∧ r.2.sem = fun _ => 0)

def quiescent_PGlaRefIdeal [hPGlaRefIdeal : Cert.PGlaRefIdeal.Facts] : Prop :=
  ∀ (m : (ℓ : Loc Cert.PGlaRefIdeal.nD Cert.PGlaRefIdeal.τ Cert.PGlaRefIdeal.sig) → Buf (Elt Ideal) ℓ) (g : Dev Cert.PGlaRefIdeal.nD → PrngReg), Pre_PGlaRefIdeal m →
    θ_run (Cert.PGlaRefIdeal.defs (F := Ideal)) (onTc (τ := Cert.PGlaRefIdeal.τ) (Cert.PGlaRefIdeal.main (F := Ideal))) ⟨m, fun _ => 0, g⟩ (fun r => (∀ c : Dev Cert.PGlaRefIdeal.nD,
      r.2.mem ((c.tc : Thread Cert.PGlaRefIdeal.nD Cert.PGlaRefIdeal.τ).loc Cert.PGlaRefIdeal.main_arg0) = m ((c.tc : Thread Cert.PGlaRefIdeal.nD Cert.PGlaRefIdeal.τ).loc Cert.PGlaRefIdeal.main_arg0)
      ∧ r.2.mem ((c.tc : Thread Cert.PGlaRefIdeal.nD Cert.PGlaRefIdeal.τ).loc Cert.PGlaRefIdeal.main_arg1) = m ((c.tc : Thread Cert.PGlaRefIdeal.nD Cert.PGlaRefIdeal.τ).loc Cert.PGlaRefIdeal.main_arg1))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1)
      ∧ r.2.mem ((c.tc : Thread Cert.AIn.nD Cert.AIn.τ).loc Cert.AIn.main_arg2) = m ((c.tc : Thread Cert.AIn.nD Cert.AIn.τ).loc Cert.AIn.main_arg2)
      ∧ r.2.mem ((c.tc : Thread Cert.AIn.nD Cert.AIn.τ).loc Cert.AIn.main_arg3) = m ((c.tc : Thread Cert.AIn.nD Cert.AIn.τ).loc Cert.AIn.main_arg3))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
      ∧ r.2.mem ((c.tc : Thread Cert.AInIdeal.nD Cert.AInIdeal.τ).loc Cert.AInIdeal.main_arg2) = m ((c.tc : Thread Cert.AInIdeal.nD Cert.AInIdeal.τ).loc Cert.AInIdeal.main_arg2)
      ∧ r.2.mem ((c.tc : Thread Cert.AInIdeal.nD Cert.AInIdeal.τ).loc Cert.AInIdeal.main_arg3) = m ((c.tc : Thread Cert.AInIdeal.nD Cert.AInIdeal.τ).loc Cert.AInIdeal.main_arg3))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1)
      ∧ r.2.mem ((c.tc : Thread Cert.AInRefIdeal.nD Cert.AInRefIdeal.τ).loc Cert.AInRefIdeal.main_arg2) = m ((c.tc : Thread Cert.AInRefIdeal.nD Cert.AInRefIdeal.τ).loc Cert.AInRefIdeal.main_arg2)
      ∧ r.2.mem ((c.tc : Thread Cert.AInRefIdeal.nD Cert.AInRefIdeal.τ).loc Cert.AInRefIdeal.main_arg3) = m ((c.tc : Thread Cert.AInRefIdeal.nD Cert.AInRefIdeal.τ).loc Cert.AInRefIdeal.main_arg3))
      ∧ r.2.sem = fun _ => 0)

def quiescent_AOut [hAOut : Cert.AOut.Facts] : Prop :=
  ∀ (m : (ℓ : Loc Cert.AOut.nD Cert.AOut.τ Cert.AOut.sig) → Buf (Elt Bits) ℓ) (g : Dev Cert.AOut.nD → PrngReg), Pre_AOut m →
    θ_run (Cert.AOut.defs (F := Bits)) (onTc (τ := Cert.AOut.τ) (Cert.AOut.main (F := Bits))) ⟨m, fun _ => 0, g⟩ (fun r => (∀ c : Dev Cert.AOut.nD,
      r.2.mem ((c.tc : Thread Cert.AOut.nD Cert.AOut.τ).loc Cert.AOut.main_arg0) = m ((c.tc : Thread Cert.AOut.nD Cert.AOut.τ).loc Cert.AOut.main_arg0)
      ∧ r.2.mem ((c.tc : Thread Cert.AOut.nD Cert.AOut.τ).loc Cert.AOut.main_arg1) = m ((c.tc : Thread Cert.AOut.nD Cert.AOut.τ).loc Cert.AOut.main_arg1)
      ∧ r.2.mem ((c.tc : Thread Cert.AOut.nD Cert.AOut.τ).loc Cert.AOut.main_arg2) = m ((c.tc : Thread Cert.AOut.nD Cert.AOut.τ).loc Cert.AOut.main_arg2)
      ∧ r.2.mem ((c.tc : Thread Cert.AOut.nD Cert.AOut.τ).loc Cert.AOut.main_arg3) = m ((c.tc : Thread Cert.AOut.nD Cert.AOut.τ).loc Cert.AOut.main_arg3))
      ∧ r.2.sem = fun _ => 0)

def quiescent_AOutIdeal [hAOutIdeal : Cert.AOutIdeal.Facts] : Prop :=
  ∀ (m : (ℓ : Loc Cert.AOutIdeal.nD Cert.AOutIdeal.τ Cert.AOutIdeal.sig) → Buf (Elt Ideal) ℓ) (g : Dev Cert.AOutIdeal.nD → PrngReg), Pre_AOutIdeal m →
    θ_run (Cert.AOutIdeal.defs (F := Ideal)) (onTc (τ := Cert.AOutIdeal.τ) (Cert.AOutIdeal.main (F := Ideal))) ⟨m, fun _ => 0, g⟩ (fun r => (∀ c : Dev Cert.AOutIdeal.nD,
      r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
      ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
      ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2)
      ∧ r.2.mem ((c.tc : Thread Cert.AOutIdeal.nD Cert.AOutIdeal.τ).loc Cert.AOutIdeal.main_arg3) = m ((c.tc : Thread Cert.AOutIdeal.nD Cert.AOutIdeal.τ).loc Cert.AOutIdeal.main_arg3))
      ∧ r.2.sem = fun _ => 0)

def quiescent_AOutRefIdeal [hAOutRefIdeal : Cert.AOutRefIdeal.Facts] : Prop :=
  ∀ (m : (ℓ : Loc Cert.AOutRefIdeal.nD Cert.AOutRefIdeal.τ Cert.AOutRefIdeal.sig) → Buf (Elt Ideal) ℓ) (g : Dev Cert.AOutRefIdeal.nD → PrngReg), Pre_AOutRefIdeal m →
    θ_run (Cert.AOutRefIdeal.defs (F := Ideal)) (onTc (τ := Cert.AOutRefIdeal.τ) (Cert.AOutRefIdeal.main (F := Ideal))) ⟨m, fun _ => 0, g⟩ (fun r => (∀ c : Dev Cert.AOutRefIdeal.nD,
      r.2.mem ((c.tc : Thread Cert.AOutRefIdeal.nD Cert.AOutRefIdeal.τ).loc Cert.AOutRefIdeal.main_arg0) = m ((c.tc : Thread Cert.AOutRefIdeal.nD Cert.AOutRefIdeal.τ).loc Cert.AOutRefIdeal.main_arg0)
      ∧ r.2.mem ((c.tc : Thread Cert.AOutRefIdeal.nD Cert.AOutRefIdeal.τ).loc Cert.AOutRefIdeal.main_arg1) = m ((c.tc : Thread Cert.AOutRefIdeal.nD Cert.AOutRefIdeal.τ).loc Cert.AOutRefIdeal.main_arg1)
      ∧ r.2.mem ((c.tc : Thread Cert.AOutRefIdeal.nD Cert.AOutRefIdeal.τ).loc Cert.AOutRefIdeal.main_arg2) = m ((c.tc : Thread Cert.AOutRefIdeal.nD Cert.AOutRefIdeal.τ).loc Cert.AOutRefIdeal.main_arg2)
      ∧ r.2.mem ((c.tc : Thread Cert.AOutRefIdeal.nD Cert.AOutRefIdeal.τ).loc Cert.AOutRefIdeal.main_arg3) = m ((c.tc : Thread Cert.AOutRefIdeal.nD Cert.AOutRefIdeal.τ).loc Cert.AOutRefIdeal.main_arg3))
      ∧ r.2.sem = fun _ => 0)

def quiescent_AUp [hAUp : Cert.AUp.Facts] : Prop :=
  ∀ (m : (ℓ : Loc Cert.AUp.nD Cert.AUp.τ Cert.AUp.sig) → Buf (Elt Bits) ℓ) (g : Dev Cert.AUp.nD → PrngReg), Pre_AUp m →
    θ_run (Cert.AUp.defs (F := Bits)) (onTc (τ := Cert.AUp.τ) (Cert.AUp.main (F := Bits))) ⟨m, fun _ => 0, g⟩ (fun r => (∀ c : Dev Cert.AUp.nD,
      r.2.mem ((c.tc : Thread Cert.AUp.nD Cert.AUp.τ).loc Cert.AUp.main_arg0) = m ((c.tc : Thread Cert.AUp.nD Cert.AUp.τ).loc Cert.AUp.main_arg0)
      ∧ r.2.mem ((c.tc : Thread Cert.AUp.nD Cert.AUp.τ).loc Cert.AUp.main_arg1) = m ((c.tc : Thread Cert.AUp.nD Cert.AUp.τ).loc Cert.AUp.main_arg1)
      ∧ r.2.mem ((c.tc : Thread Cert.AUp.nD Cert.AUp.τ).loc Cert.AUp.main_arg2) = m ((c.tc : Thread Cert.AUp.nD Cert.AUp.τ).loc Cert.AUp.main_arg2)
      ∧ r.2.mem ((c.tc : Thread Cert.AUp.nD Cert.AUp.τ).loc Cert.AUp.main_arg3) = m ((c.tc : Thread Cert.AUp.nD Cert.AUp.τ).loc Cert.AUp.main_arg3))
      ∧ r.2.sem = fun _ => 0)

def quiescent_AUpIdeal [hAUpIdeal : Cert.AUpIdeal.Facts] : Prop :=
  ∀ (m : (ℓ : Loc Cert.AUpIdeal.nD Cert.AUpIdeal.τ Cert.AUpIdeal.sig) → Buf (Elt Ideal) ℓ) (g : Dev Cert.AUpIdeal.nD → PrngReg), Pre_AUpIdeal m →
    θ_run (Cert.AUpIdeal.defs (F := Ideal)) (onTc (τ := Cert.AUpIdeal.τ) (Cert.AUpIdeal.main (F := Ideal))) ⟨m, fun _ => 0, g⟩ (fun r => (∀ c : Dev Cert.AUpIdeal.nD,
      r.2.mem ((c.tc : Thread Cert.AUpIdeal.nD Cert.AUpIdeal.τ).loc Cert.AUpIdeal.main_arg0) = m ((c.tc : Thread Cert.AUpIdeal.nD Cert.AUpIdeal.τ).loc Cert.AUpIdeal.main_arg0)
      ∧ r.2.mem ((c.tc : Thread Cert.AUpIdeal.nD Cert.AUpIdeal.τ).loc Cert.AUpIdeal.main_arg1) = m ((c.tc : Thread Cert.AUpIdeal.nD Cert.AUpIdeal.τ).loc Cert.AUpIdeal.main_arg1)
      ∧ r.2.mem ((c.tc : Thread Cert.AUpIdeal.nD Cert.AUpIdeal.τ).loc Cert.AUpIdeal.main_arg2) = m ((c.tc : Thread Cert.AUpIdeal.nD Cert.AUpIdeal.τ).loc Cert.AUpIdeal.main_arg2)
      ∧ r.2.mem ((c.tc : Thread Cert.AUpIdeal.nD Cert.AUpIdeal.τ).loc Cert.AUpIdeal.main_arg3) = m ((c.tc : Thread Cert.AUpIdeal.nD Cert.AUpIdeal.τ).loc Cert.AUpIdeal.main_arg3))
      ∧ r.2.sem = fun _ => 0)

def quiescent_AUpRefIdeal [hAUpRefIdeal : Cert.AUpRefIdeal.Facts] : Prop :=
  ∀ (m : (ℓ : Loc Cert.AUpRefIdeal.nD Cert.AUpRefIdeal.τ Cert.AUpRefIdeal.sig) → Buf (Elt Ideal) ℓ) (g : Dev Cert.AUpRefIdeal.nD → PrngReg), Pre_AUpRefIdeal m →
    θ_run (Cert.AUpRefIdeal.defs (F := Ideal)) (onTc (τ := Cert.AUpRefIdeal.τ) (Cert.AUpRefIdeal.main (F := Ideal))) ⟨m, fun _ => 0, g⟩ (fun r => (∀ c : Dev Cert.AUpRefIdeal.nD,
      r.2.mem ((c.tc : Thread Cert.AUpRefIdeal.nD Cert.AUpRefIdeal.τ).loc Cert.AUpRefIdeal.main_arg0) = m ((c.tc : Thread Cert.AUpRefIdeal.nD Cert.AUpRefIdeal.τ).loc Cert.AUpRefIdeal.main_arg0)
      ∧ r.2.mem ((c.tc : Thread Cert.AUpRefIdeal.nD Cert.AUpRefIdeal.τ).loc Cert.AUpRefIdeal.main_arg1) = m ((c.tc : Thread Cert.AUpRefIdeal.nD Cert.AUpRefIdeal.τ).loc Cert.AUpRefIdeal.main_arg1)
      ∧ r.2.mem ((c.tc : Thread Cert.AUpRefIdeal.nD Cert.AUpRefIdeal.τ).loc Cert.AUpRefIdeal.main_arg2) = m ((c.tc : Thread Cert.AUpRefIdeal.nD Cert.AUpRefIdeal.τ).loc Cert.AUpRefIdeal.main_arg2)
      ∧ r.2.mem ((c.tc : Thread Cert.AUpRefIdeal.nD Cert.AUpRefIdeal.τ).loc Cert.AUpRefIdeal.main_arg3) = m ((c.tc : Thread Cert.AUpRefIdeal.nD Cert.AUpRefIdeal.τ).loc Cert.AUpRefIdeal.main_arg3))
      ∧ r.2.sem = fun _ => 0)

def quiescent_ADown [hADown : Cert.ADown.Facts] : Prop :=
  ∀ (m : (ℓ : Loc Cert.ADown.nD Cert.ADown.τ Cert.ADown.sig) → Buf (Elt Bits) ℓ) (g : Dev Cert.ADown.nD → PrngReg), Pre_ADown m →
    θ_run (Cert.ADown.defs (F := Bits)) (onTc (τ := Cert.ADown.τ) (Cert.ADown.main (F := Bits))) ⟨m, fun _ => 0, g⟩ (fun r => (∀ c : Dev Cert.ADown.nD,
      r.2.mem ((c.tc : Thread Cert.ADown.nD Cert.ADown.τ).loc Cert.ADown.main_arg0) = m ((c.tc : Thread Cert.ADown.nD Cert.ADown.τ).loc Cert.ADown.main_arg0)
      ∧ r.2.mem ((c.tc : Thread Cert.ADown.nD Cert.ADown.τ).loc Cert.ADown.main_arg1) = m ((c.tc : Thread Cert.ADown.nD Cert.ADown.τ).loc Cert.ADown.main_arg1)
      ∧ r.2.mem ((c.tc : Thread Cert.ADown.nD Cert.ADown.τ).loc Cert.ADown.main_arg2) = m ((c.tc : Thread Cert.ADown.nD Cert.ADown.τ).loc Cert.ADown.main_arg2)
      ∧ r.2.mem ((c.tc : Thread Cert.ADown.nD Cert.ADown.τ).loc Cert.ADown.main_arg3) = m ((c.tc : Thread Cert.ADown.nD Cert.ADown.τ).loc Cert.ADown.main_arg3))
      ∧ r.2.sem = fun _ => 0)

def quiescent_ADownIdeal [hADownIdeal : Cert.ADownIdeal.Facts] : Prop :=
  ∀ (m : (ℓ : Loc Cert.ADownIdeal.nD Cert.ADownIdeal.τ Cert.ADownIdeal.sig) → Buf (Elt Ideal) ℓ) (g : Dev Cert.ADownIdeal.nD → PrngReg), Pre_ADownIdeal m →
    θ_run (Cert.ADownIdeal.defs (F := Ideal)) (onTc (τ := Cert.ADownIdeal.τ) (Cert.ADownIdeal.main (F := Ideal))) ⟨m, fun _ => 0, g⟩ (fun r => (∀ c : Dev Cert.ADownIdeal.nD,
      r.2.mem ((c.tc : Thread Cert.ADownIdeal.nD Cert.ADownIdeal.τ).loc Cert.ADownIdeal.main_arg0) = m ((c.tc : Thread Cert.ADownIdeal.nD Cert.ADownIdeal.τ).loc Cert.ADownIdeal.main_arg0)
      ∧ r.2.mem ((c.tc : Thread Cert.ADownIdeal.nD Cert.ADownIdeal.τ).loc Cert.ADownIdeal.main_arg1) = m ((c.tc : Thread Cert.ADownIdeal.nD Cert.ADownIdeal.τ).loc Cert.ADownIdeal.main_arg1)
      ∧ r.2.mem ((c.tc : Thread Cert.ADownIdeal.nD Cert.ADownIdeal.τ).loc Cert.ADownIdeal.main_arg2) = m ((c.tc : Thread Cert.ADownIdeal.nD Cert.ADownIdeal.τ).loc Cert.ADownIdeal.main_arg2)
      ∧ r.2.mem ((c.tc : Thread Cert.ADownIdeal.nD Cert.ADownIdeal.τ).loc Cert.ADownIdeal.main_arg3) = m ((c.tc : Thread Cert.ADownIdeal.nD Cert.ADownIdeal.τ).loc Cert.ADownIdeal.main_arg3))
      ∧ r.2.sem = fun _ => 0)

def quiescent_ADownRefIdeal [hADownRefIdeal : Cert.ADownRefIdeal.Facts] : Prop :=
  ∀ (m : (ℓ : Loc Cert.ADownRefIdeal.nD Cert.ADownRefIdeal.τ Cert.ADownRefIdeal.sig) → Buf (Elt Ideal) ℓ) (g : Dev Cert.ADownRefIdeal.nD → PrngReg), Pre_ADownRefIdeal m →
    θ_run (Cert.ADownRefIdeal.defs (F := Ideal)) (onTc (τ := Cert.ADownRefIdeal.τ) (Cert.ADownRefIdeal.main (F := Ideal))) ⟨m, fun _ => 0, g⟩ (fun r => (∀ c : Dev Cert.ADownRefIdeal.nD,
      r.2.mem ((c.tc : Thread Cert.ADownRefIdeal.nD Cert.ADownRefIdeal.τ).loc Cert.ADownRefIdeal.main_arg0) = m ((c.tc : Thread Cert.ADownRefIdeal.nD Cert.ADownRefIdeal.τ).loc Cert.ADownRefIdeal.main_arg0)
      ∧ r.2.mem ((c.tc : Thread Cert.ADownRefIdeal.nD Cert.ADownRefIdeal.τ).loc Cert.ADownRefIdeal.main_arg1) = m ((c.tc : Thread Cert.ADownRefIdeal.nD Cert.ADownRefIdeal.τ).loc Cert.ADownRefIdeal.main_arg1)
      ∧ r.2.mem ((c.tc : Thread Cert.ADownRefIdeal.nD Cert.ADownRefIdeal.τ).loc Cert.ADownRefIdeal.main_arg2) = m ((c.tc : Thread Cert.ADownRefIdeal.nD Cert.ADownRefIdeal.τ).loc Cert.ADownRefIdeal.main_arg2)
      ∧ r.2.mem ((c.tc : Thread Cert.ADownRefIdeal.nD Cert.ADownRefIdeal.τ).loc Cert.ADownRefIdeal.main_arg3) = m ((c.tc : Thread Cert.ADownRefIdeal.nD Cert.ADownRefIdeal.τ).loc Cert.ADownRefIdeal.main_arg3))
      ∧ r.2.sem = fun _ => 0)

def quiescent_AGate [hAGate : Cert.AGate.Facts] : Prop :=
  ∀ (m : (ℓ : Loc Cert.AGate.nD Cert.AGate.τ Cert.AGate.sig) → Buf (Elt Bits) ℓ) (g : Dev Cert.AGate.nD → PrngReg), Pre_AGate m →
    θ_run (Cert.AGate.defs (F := Bits)) (onTc (τ := Cert.AGate.τ) (Cert.AGate.main (F := Bits))) ⟨m, fun _ => 0, g⟩ (fun r => (∀ c : Dev Cert.AGate.nD,
      r.2.mem ((c.tc : Thread Cert.AGate.nD Cert.AGate.τ).loc Cert.AGate.main_arg0) = m ((c.tc : Thread Cert.AGate.nD Cert.AGate.τ).loc Cert.AGate.main_arg0)
      ∧ r.2.mem ((c.tc : Thread Cert.AGate.nD Cert.AGate.τ).loc Cert.AGate.main_arg1) = m ((c.tc : Thread Cert.AGate.nD Cert.AGate.τ).loc Cert.AGate.main_arg1)
      ∧ r.2.mem ((c.tc : Thread Cert.AGate.nD Cert.AGate.τ).loc Cert.AGate.main_arg2) = m ((c.tc : Thread Cert.AGate.nD Cert.AGate.τ).loc Cert.AGate.main_arg2)
      ∧ r.2.mem ((c.tc : Thread Cert.AGate.nD Cert.AGate.τ).loc Cert.AGate.main_arg3) = m ((c.tc : Thread Cert.AGate.nD Cert.AGate.τ).loc Cert.AGate.main_arg3))
      ∧ r.2.sem = fun _ => 0)

def quiescent_AGateIdeal [hAGateIdeal : Cert.AGateIdeal.Facts] : Prop :=
  ∀ (m : (ℓ : Loc Cert.AGateIdeal.nD Cert.AGateIdeal.τ Cert.AGateIdeal.sig) → Buf (Elt Ideal) ℓ) (g : Dev Cert.AGateIdeal.nD → PrngReg), Pre_AGateIdeal m →
    θ_run (Cert.AGateIdeal.defs (F := Ideal)) (onTc (τ := Cert.AGateIdeal.τ) (Cert.AGateIdeal.main (F := Ideal))) ⟨m, fun _ => 0, g⟩ (fun r => (∀ c : Dev Cert.AGateIdeal.nD,
      r.2.mem ((c.tc : Thread Cert.AGateIdeal.nD Cert.AGateIdeal.τ).loc Cert.AGateIdeal.main_arg0) = m ((c.tc : Thread Cert.AGateIdeal.nD Cert.AGateIdeal.τ).loc Cert.AGateIdeal.main_arg0)
      ∧ r.2.mem ((c.tc : Thread Cert.AGateIdeal.nD Cert.AGateIdeal.τ).loc Cert.AGateIdeal.main_arg1) = m ((c.tc : Thread Cert.AGateIdeal.nD Cert.AGateIdeal.τ).loc Cert.AGateIdeal.main_arg1)
      ∧ r.2.mem ((c.tc : Thread Cert.AGateIdeal.nD Cert.AGateIdeal.τ).loc Cert.AGateIdeal.main_arg2) = m ((c.tc : Thread Cert.AGateIdeal.nD Cert.AGateIdeal.τ).loc Cert.AGateIdeal.main_arg2)
      ∧ r.2.mem ((c.tc : Thread Cert.AGateIdeal.nD Cert.AGateIdeal.τ).loc Cert.AGateIdeal.main_arg3) = m ((c.tc : Thread Cert.AGateIdeal.nD Cert.AGateIdeal.τ).loc Cert.AGateIdeal.main_arg3))
      ∧ r.2.sem = fun _ => 0)

def quiescent_AGateRefIdeal [hAGateRefIdeal : Cert.AGateRefIdeal.Facts] : Prop :=
  ∀ (m : (ℓ : Loc Cert.AGateRefIdeal.nD Cert.AGateRefIdeal.τ Cert.AGateRefIdeal.sig) → Buf (Elt Ideal) ℓ) (g : Dev Cert.AGateRefIdeal.nD → PrngReg), Pre_AGateRefIdeal m →
    θ_run (Cert.AGateRefIdeal.defs (F := Ideal)) (onTc (τ := Cert.AGateRefIdeal.τ) (Cert.AGateRefIdeal.main (F := Ideal))) ⟨m, fun _ => 0, g⟩ (fun r => (∀ c : Dev Cert.AGateRefIdeal.nD,
      r.2.mem ((c.tc : Thread Cert.AGateRefIdeal.nD Cert.AGateRefIdeal.τ).loc Cert.AGateRefIdeal.main_arg0) = m ((c.tc : Thread Cert.AGateRefIdeal.nD Cert.AGateRefIdeal.τ).loc Cert.AGateRefIdeal.main_arg0)
      ∧ r.2.mem ((c.tc : Thread Cert.AGateRefIdeal.nD Cert.AGateRefIdeal.τ).loc Cert.AGateRefIdeal.main_arg1) = m ((c.tc : Thread Cert.AGateRefIdeal.nD Cert.AGateRefIdeal.τ).loc Cert.AGateRefIdeal.main_arg1)
      ∧ r.2.mem ((c.tc : Thread Cert.AGateRefIdeal.nD Cert.AGateRefIdeal.τ).loc Cert.AGateRefIdeal.main_arg2) = m ((c.tc : Thread Cert.AGateRefIdeal.nD Cert.AGateRefIdeal.τ).loc Cert.AGateRefIdeal.main_arg2)
      ∧ r.2.mem ((c.tc : Thread Cert.AGateRefIdeal.nD Cert.AGateRefIdeal.τ).loc Cert.AGateRefIdeal.main_arg3) = m ((c.tc : Thread Cert.AGateRefIdeal.nD Cert.AGateRefIdeal.τ).loc Cert.AGateRefIdeal.main_arg3))
      ∧ r.2.sem = fun _ => 0)

def quiescent_AConv [hAConv : Cert.AConv.Facts] : Prop :=
  ∀ (m : (ℓ : Loc Cert.AConv.nD Cert.AConv.τ Cert.AConv.sig) → Buf (Elt Bits) ℓ) (g : Dev Cert.AConv.nD → PrngReg), Pre_AConv m →
    θ_run (Cert.AConv.defs (F := Bits)) (onTc (τ := Cert.AConv.τ) (Cert.AConv.main (F := Bits))) ⟨m, fun _ => 0, g⟩ (fun r => (∀ c : Dev Cert.AConv.nD,
      r.2.mem ((c.tc : Thread Cert.AConv.nD Cert.AConv.τ).loc Cert.AConv.main_arg0) = m ((c.tc : Thread Cert.AConv.nD Cert.AConv.τ).loc Cert.AConv.main_arg0)
      ∧ r.2.mem ((c.tc : Thread Cert.AConv.nD Cert.AConv.τ).loc Cert.AConv.main_arg1) = m ((c.tc : Thread Cert.AConv.nD Cert.AConv.τ).loc Cert.AConv.main_arg1)
      ∧ r.2.mem ((c.tc : Thread Cert.AConv.nD Cert.AConv.τ).loc Cert.AConv.main_arg2) = m ((c.tc : Thread Cert.AConv.nD Cert.AConv.τ).loc Cert.AConv.main_arg2)
      ∧ r.2.mem ((c.tc : Thread Cert.AConv.nD Cert.AConv.τ).loc Cert.AConv.main_arg3) = m ((c.tc : Thread Cert.AConv.nD Cert.AConv.τ).loc Cert.AConv.main_arg3))
      ∧ r.2.sem = fun _ => 0)

def quiescent_AConvIdeal [hAConvIdeal : Cert.AConvIdeal.Facts] : Prop :=
  ∀ (m : (ℓ : Loc Cert.AConvIdeal.nD Cert.AConvIdeal.τ Cert.AConvIdeal.sig) → Buf (Elt Ideal) ℓ) (g : Dev Cert.AConvIdeal.nD → PrngReg), Pre_AConvIdeal m →
    θ_run (Cert.AConvIdeal.defs (F := Ideal)) (onTc (τ := Cert.AConvIdeal.τ) (Cert.AConvIdeal.main (F := Ideal))) ⟨m, fun _ => 0, g⟩ (fun r => (∀ c : Dev Cert.AConvIdeal.nD,
      r.2.mem ((c.tc : Thread Cert.AConvIdeal.nD Cert.AConvIdeal.τ).loc Cert.AConvIdeal.main_arg0) = m ((c.tc : Thread Cert.AConvIdeal.nD Cert.AConvIdeal.τ).loc Cert.AConvIdeal.main_arg0)
      ∧ r.2.mem ((c.tc : Thread Cert.AConvIdeal.nD Cert.AConvIdeal.τ).loc Cert.AConvIdeal.main_arg1) = m ((c.tc : Thread Cert.AConvIdeal.nD Cert.AConvIdeal.τ).loc Cert.AConvIdeal.main_arg1)
      ∧ r.2.mem ((c.tc : Thread Cert.AConvIdeal.nD Cert.AConvIdeal.τ).loc Cert.AConvIdeal.main_arg2) = m ((c.tc : Thread Cert.AConvIdeal.nD Cert.AConvIdeal.τ).loc Cert.AConvIdeal.main_arg2)
      ∧ r.2.mem ((c.tc : Thread Cert.AConvIdeal.nD Cert.AConvIdeal.τ).loc Cert.AConvIdeal.main_arg3) = m ((c.tc : Thread Cert.AConvIdeal.nD Cert.AConvIdeal.τ).loc Cert.AConvIdeal.main_arg3))
      ∧ r.2.sem = fun _ => 0)

def quiescent_AConvRefIdeal [hAConvRefIdeal : Cert.AConvRefIdeal.Facts] : Prop :=
  ∀ (m : (ℓ : Loc Cert.AConvRefIdeal.nD Cert.AConvRefIdeal.τ Cert.AConvRefIdeal.sig) → Buf (Elt Ideal) ℓ) (g : Dev Cert.AConvRefIdeal.nD → PrngReg), Pre_AConvRefIdeal m →
    θ_run (Cert.AConvRefIdeal.defs (F := Ideal)) (onTc (τ := Cert.AConvRefIdeal.τ) (Cert.AConvRefIdeal.main (F := Ideal))) ⟨m, fun _ => 0, g⟩ (fun r => (∀ c : Dev Cert.AConvRefIdeal.nD,
      r.2.mem ((c.tc : Thread Cert.AConvRefIdeal.nD Cert.AConvRefIdeal.τ).loc Cert.AConvRefIdeal.main_arg0) = m ((c.tc : Thread Cert.AConvRefIdeal.nD Cert.AConvRefIdeal.τ).loc Cert.AConvRefIdeal.main_arg0)
      ∧ r.2.mem ((c.tc : Thread Cert.AConvRefIdeal.nD Cert.AConvRefIdeal.τ).loc Cert.AConvRefIdeal.main_arg1) = m ((c.tc : Thread Cert.AConvRefIdeal.nD Cert.AConvRefIdeal.τ).loc Cert.AConvRefIdeal.main_arg1)
      ∧ r.2.mem ((c.tc : Thread Cert.AConvRefIdeal.nD Cert.AConvRefIdeal.τ).loc Cert.AConvRefIdeal.main_arg2) = m ((c.tc : Thread Cert.AConvRefIdeal.nD Cert.AConvRefIdeal.τ).loc Cert.AConvRefIdeal.main_arg2)
      ∧ r.2.mem ((c.tc : Thread Cert.AConvRefIdeal.nD Cert.AConvRefIdeal.τ).loc Cert.AConvRefIdeal.main_arg3) = m ((c.tc : Thread Cert.AConvRefIdeal.nD Cert.AConvRefIdeal.τ).loc Cert.AConvRefIdeal.main_arg3))
      ∧ r.2.sem = fun _ => 0)

def quiescent_ARep [hARep : Cert.ARep.Facts] : Prop :=
  ∀ (m : (ℓ : Loc Cert.ARep.nD Cert.ARep.τ Cert.ARep.sig) → Buf (Elt Bits) ℓ) (g : Dev Cert.ARep.nD → PrngReg), Pre_ARep m →
    θ_run (Cert.ARep.defs (F := Bits)) (onTc (τ := Cert.ARep.τ) (Cert.ARep.main (F := Bits))) ⟨m, fun _ => 0, g⟩ (fun r => (∀ c : Dev Cert.ARep.nD,
      r.2.mem ((c.tc : Thread Cert.ARep.nD Cert.ARep.τ).loc Cert.ARep.main_arg0) = m ((c.tc : Thread Cert.ARep.nD Cert.ARep.τ).loc Cert.ARep.main_arg0)
      ∧ r.2.mem ((c.tc : Thread Cert.ARep.nD Cert.ARep.τ).loc Cert.ARep.main_arg1) = m ((c.tc : Thread Cert.ARep.nD Cert.ARep.τ).loc Cert.ARep.main_arg1)
      ∧ r.2.mem ((c.tc : Thread Cert.ARep.nD Cert.ARep.τ).loc Cert.ARep.main_arg2) = m ((c.tc : Thread Cert.ARep.nD Cert.ARep.τ).loc Cert.ARep.main_arg2)
      ∧ r.2.mem ((c.tc : Thread Cert.ARep.nD Cert.ARep.τ).loc Cert.ARep.main_arg3) = m ((c.tc : Thread Cert.ARep.nD Cert.ARep.τ).loc Cert.ARep.main_arg3)
      ∧ r.2.mem ((c.tc : Thread Cert.ARep.nD Cert.ARep.τ).loc Cert.ARep.main_arg4) = m ((c.tc : Thread Cert.ARep.nD Cert.ARep.τ).loc Cert.ARep.main_arg4)
      ∧ r.2.mem ((c.tc : Thread Cert.ARep.nD Cert.ARep.τ).loc Cert.ARep.main_arg5) = m ((c.tc : Thread Cert.ARep.nD Cert.ARep.τ).loc Cert.ARep.main_arg5)
      ∧ r.2.mem ((c.tc : Thread Cert.ARep.nD Cert.ARep.τ).loc Cert.ARep.main_arg6) = m ((c.tc : Thread Cert.ARep.nD Cert.ARep.τ).loc Cert.ARep.main_arg6)
      ∧ r.2.mem ((c.tc : Thread Cert.ARep.nD Cert.ARep.τ).loc Cert.ARep.main_arg7) = m ((c.tc : Thread Cert.ARep.nD Cert.ARep.τ).loc Cert.ARep.main_arg7)
      ∧ r.2.mem ((c.tc : Thread Cert.ARep.nD Cert.ARep.τ).loc Cert.ARep.main_arg8) = m ((c.tc : Thread Cert.ARep.nD Cert.ARep.τ).loc Cert.ARep.main_arg8)
      ∧ r.2.mem ((c.tc : Thread Cert.ARep.nD Cert.ARep.τ).loc Cert.ARep.main_arg9) = m ((c.tc : Thread Cert.ARep.nD Cert.ARep.τ).loc Cert.ARep.main_arg9)
      ∧ r.2.mem ((c.tc : Thread Cert.ARep.nD Cert.ARep.τ).loc Cert.ARep.main_arg10) = m ((c.tc : Thread Cert.ARep.nD Cert.ARep.τ).loc Cert.ARep.main_arg10)
      ∧ r.2.mem ((c.tc : Thread Cert.ARep.nD Cert.ARep.τ).loc Cert.ARep.main_arg11) = m ((c.tc : Thread Cert.ARep.nD Cert.ARep.τ).loc Cert.ARep.main_arg11)
      ∧ r.2.mem ((c.tc : Thread Cert.ARep.nD Cert.ARep.τ).loc Cert.ARep.main_arg12) = m ((c.tc : Thread Cert.ARep.nD Cert.ARep.τ).loc Cert.ARep.main_arg12)
      ∧ r.2.mem ((c.tc : Thread Cert.ARep.nD Cert.ARep.τ).loc Cert.ARep.main_arg13) = m ((c.tc : Thread Cert.ARep.nD Cert.ARep.τ).loc Cert.ARep.main_arg13)
      ∧ r.2.mem ((c.tc : Thread Cert.ARep.nD Cert.ARep.τ).loc Cert.ARep.main_arg14) = m ((c.tc : Thread Cert.ARep.nD Cert.ARep.τ).loc Cert.ARep.main_arg14)
      ∧ r.2.mem ((c.tc : Thread Cert.ARep.nD Cert.ARep.τ).loc Cert.ARep.main_arg15) = m ((c.tc : Thread Cert.ARep.nD Cert.ARep.τ).loc Cert.ARep.main_arg15)
      ∧ r.2.mem ((c.tc : Thread Cert.ARep.nD Cert.ARep.τ).loc Cert.ARep.main_arg16) = m ((c.tc : Thread Cert.ARep.nD Cert.ARep.τ).loc Cert.ARep.main_arg16)
      ∧ r.2.mem ((c.tc : Thread Cert.ARep.nD Cert.ARep.τ).loc Cert.ARep.main_arg17) = m ((c.tc : Thread Cert.ARep.nD Cert.ARep.τ).loc Cert.ARep.main_arg17)
      ∧ r.2.mem ((c.tc : Thread Cert.ARep.nD Cert.ARep.τ).loc Cert.ARep.main_arg18) = m ((c.tc : Thread Cert.ARep.nD Cert.ARep.τ).loc Cert.ARep.main_arg18)
      ∧ r.2.mem ((c.tc : Thread Cert.ARep.nD Cert.ARep.τ).loc Cert.ARep.main_arg19) = m ((c.tc : Thread Cert.ARep.nD Cert.ARep.τ).loc Cert.ARep.main_arg19)
      ∧ r.2.mem ((c.tc : Thread Cert.ARep.nD Cert.ARep.τ).loc Cert.ARep.main_arg20) = m ((c.tc : Thread Cert.ARep.nD Cert.ARep.τ).loc Cert.ARep.main_arg20)
      ∧ r.2.mem ((c.tc : Thread Cert.ARep.nD Cert.ARep.τ).loc Cert.ARep.main_arg21) = m ((c.tc : Thread Cert.ARep.nD Cert.ARep.τ).loc Cert.ARep.main_arg21)
      ∧ r.2.mem ((c.tc : Thread Cert.ARep.nD Cert.ARep.τ).loc Cert.ARep.main_arg22) = m ((c.tc : Thread Cert.ARep.nD Cert.ARep.τ).loc Cert.ARep.main_arg22)
      ∧ r.2.mem ((c.tc : Thread Cert.ARep.nD Cert.ARep.τ).loc Cert.ARep.main_arg23) = m ((c.tc : Thread Cert.ARep.nD Cert.ARep.τ).loc Cert.ARep.main_arg23)
      ∧ r.2.mem ((c.tc : Thread Cert.ARep.nD Cert.ARep.τ).loc Cert.ARep.main_arg24) = m ((c.tc : Thread Cert.ARep.nD Cert.ARep.τ).loc Cert.ARep.main_arg24)
      ∧ r.2.mem ((c.tc : Thread Cert.ARep.nD Cert.ARep.τ).loc Cert.ARep.main_arg25) = m ((c.tc : Thread Cert.ARep.nD Cert.ARep.τ).loc Cert.ARep.main_arg25)
      ∧ r.2.mem ((c.tc : Thread Cert.ARep.nD Cert.ARep.τ).loc Cert.ARep.main_arg26) = m ((c.tc : Thread Cert.ARep.nD Cert.ARep.τ).loc Cert.ARep.main_arg26)
      ∧ r.2.mem ((c.tc : Thread Cert.ARep.nD Cert.ARep.τ).loc Cert.ARep.main_arg27) = m ((c.tc : Thread Cert.ARep.nD Cert.ARep.τ).loc Cert.ARep.main_arg27)
      ∧ r.2.mem ((c.tc : Thread Cert.ARep.nD Cert.ARep.τ).loc Cert.ARep.main_arg28) = m ((c.tc : Thread Cert.ARep.nD Cert.ARep.τ).loc Cert.ARep.main_arg28))
      ∧ r.2.sem = fun _ => 0)

def quiescent_ARepIdeal [hARepIdeal : Cert.ARepIdeal.Facts] : Prop :=
  ∀ (m : (ℓ : Loc Cert.ARepIdeal.nD Cert.ARepIdeal.τ Cert.ARepIdeal.sig) → Buf (Elt Ideal) ℓ) (g : Dev Cert.ARepIdeal.nD → PrngReg), Pre_ARepIdeal m →
    θ_run (Cert.ARepIdeal.defs (F := Ideal)) (onTc (τ := Cert.ARepIdeal.τ) (Cert.ARepIdeal.main (F := Ideal))) ⟨m, fun _ => 0, g⟩ (fun r => (∀ c : Dev Cert.ARepIdeal.nD,
      r.2.mem ((c.tc : Thread Cert.ARepIdeal.nD Cert.ARepIdeal.τ).loc Cert.ARepIdeal.main_arg0) = m ((c.tc : Thread Cert.ARepIdeal.nD Cert.ARepIdeal.τ).loc Cert.ARepIdeal.main_arg0)
      ∧ r.2.mem ((c.tc : Thread Cert.ARepIdeal.nD Cert.ARepIdeal.τ).loc Cert.ARepIdeal.main_arg1) = m ((c.tc : Thread Cert.ARepIdeal.nD Cert.ARepIdeal.τ).loc Cert.ARepIdeal.main_arg1)
      ∧ r.2.mem ((c.tc : Thread Cert.ARepIdeal.nD Cert.ARepIdeal.τ).loc Cert.ARepIdeal.main_arg2) = m ((c.tc : Thread Cert.ARepIdeal.nD Cert.ARepIdeal.τ).loc Cert.ARepIdeal.main_arg2)
      ∧ r.2.mem ((c.tc : Thread Cert.ARepIdeal.nD Cert.ARepIdeal.τ).loc Cert.ARepIdeal.main_arg3) = m ((c.tc : Thread Cert.ARepIdeal.nD Cert.ARepIdeal.τ).loc Cert.ARepIdeal.main_arg3)
      ∧ r.2.mem ((c.tc : Thread Cert.ARepIdeal.nD Cert.ARepIdeal.τ).loc Cert.ARepIdeal.main_arg4) = m ((c.tc : Thread Cert.ARepIdeal.nD Cert.ARepIdeal.τ).loc Cert.ARepIdeal.main_arg4)
      ∧ r.2.mem ((c.tc : Thread Cert.ARepIdeal.nD Cert.ARepIdeal.τ).loc Cert.ARepIdeal.main_arg5) = m ((c.tc : Thread Cert.ARepIdeal.nD Cert.ARepIdeal.τ).loc Cert.ARepIdeal.main_arg5)
      ∧ r.2.mem ((c.tc : Thread Cert.ARepIdeal.nD Cert.ARepIdeal.τ).loc Cert.ARepIdeal.main_arg6) = m ((c.tc : Thread Cert.ARepIdeal.nD Cert.ARepIdeal.τ).loc Cert.ARepIdeal.main_arg6)
      ∧ r.2.mem ((c.tc : Thread Cert.ARepIdeal.nD Cert.ARepIdeal.τ).loc Cert.ARepIdeal.main_arg7) = m ((c.tc : Thread Cert.ARepIdeal.nD Cert.ARepIdeal.τ).loc Cert.ARepIdeal.main_arg7)
      ∧ r.2.mem ((c.tc : Thread Cert.ARepIdeal.nD Cert.ARepIdeal.τ).loc Cert.ARepIdeal.main_arg8) = m ((c.tc : Thread Cert.ARepIdeal.nD Cert.ARepIdeal.τ).loc Cert.ARepIdeal.main_arg8)
      ∧ r.2.mem ((c.tc : Thread Cert.ARepIdeal.nD Cert.ARepIdeal.τ).loc Cert.ARepIdeal.main_arg9) = m ((c.tc : Thread Cert.ARepIdeal.nD Cert.ARepIdeal.τ).loc Cert.ARepIdeal.main_arg9)
      ∧ r.2.mem ((c.tc : Thread Cert.ARepIdeal.nD Cert.ARepIdeal.τ).loc Cert.ARepIdeal.main_arg10) = m ((c.tc : Thread Cert.ARepIdeal.nD Cert.ARepIdeal.τ).loc Cert.ARepIdeal.main_arg10)
      ∧ r.2.mem ((c.tc : Thread Cert.ARepIdeal.nD Cert.ARepIdeal.τ).loc Cert.ARepIdeal.main_arg11) = m ((c.tc : Thread Cert.ARepIdeal.nD Cert.ARepIdeal.τ).loc Cert.ARepIdeal.main_arg11)
      ∧ r.2.mem ((c.tc : Thread Cert.ARepIdeal.nD Cert.ARepIdeal.τ).loc Cert.ARepIdeal.main_arg12) = m ((c.tc : Thread Cert.ARepIdeal.nD Cert.ARepIdeal.τ).loc Cert.ARepIdeal.main_arg12)
      ∧ r.2.mem ((c.tc : Thread Cert.ARepIdeal.nD Cert.ARepIdeal.τ).loc Cert.ARepIdeal.main_arg13) = m ((c.tc : Thread Cert.ARepIdeal.nD Cert.ARepIdeal.τ).loc Cert.ARepIdeal.main_arg13)
      ∧ r.2.mem ((c.tc : Thread Cert.ARepIdeal.nD Cert.ARepIdeal.τ).loc Cert.ARepIdeal.main_arg14) = m ((c.tc : Thread Cert.ARepIdeal.nD Cert.ARepIdeal.τ).loc Cert.ARepIdeal.main_arg14)
      ∧ r.2.mem ((c.tc : Thread Cert.ARepIdeal.nD Cert.ARepIdeal.τ).loc Cert.ARepIdeal.main_arg15) = m ((c.tc : Thread Cert.ARepIdeal.nD Cert.ARepIdeal.τ).loc Cert.ARepIdeal.main_arg15)
      ∧ r.2.mem ((c.tc : Thread Cert.ARepIdeal.nD Cert.ARepIdeal.τ).loc Cert.ARepIdeal.main_arg16) = m ((c.tc : Thread Cert.ARepIdeal.nD Cert.ARepIdeal.τ).loc Cert.ARepIdeal.main_arg16)
      ∧ r.2.mem ((c.tc : Thread Cert.ARepIdeal.nD Cert.ARepIdeal.τ).loc Cert.ARepIdeal.main_arg17) = m ((c.tc : Thread Cert.ARepIdeal.nD Cert.ARepIdeal.τ).loc Cert.ARepIdeal.main_arg17)
      ∧ r.2.mem ((c.tc : Thread Cert.ARepIdeal.nD Cert.ARepIdeal.τ).loc Cert.ARepIdeal.main_arg18) = m ((c.tc : Thread Cert.ARepIdeal.nD Cert.ARepIdeal.τ).loc Cert.ARepIdeal.main_arg18)
      ∧ r.2.mem ((c.tc : Thread Cert.ARepIdeal.nD Cert.ARepIdeal.τ).loc Cert.ARepIdeal.main_arg19) = m ((c.tc : Thread Cert.ARepIdeal.nD Cert.ARepIdeal.τ).loc Cert.ARepIdeal.main_arg19)
      ∧ r.2.mem ((c.tc : Thread Cert.ARepIdeal.nD Cert.ARepIdeal.τ).loc Cert.ARepIdeal.main_arg20) = m ((c.tc : Thread Cert.ARepIdeal.nD Cert.ARepIdeal.τ).loc Cert.ARepIdeal.main_arg20)
      ∧ r.2.mem ((c.tc : Thread Cert.ARepIdeal.nD Cert.ARepIdeal.τ).loc Cert.ARepIdeal.main_arg21) = m ((c.tc : Thread Cert.ARepIdeal.nD Cert.ARepIdeal.τ).loc Cert.ARepIdeal.main_arg21)
      ∧ r.2.mem ((c.tc : Thread Cert.ARepIdeal.nD Cert.ARepIdeal.τ).loc Cert.ARepIdeal.main_arg22) = m ((c.tc : Thread Cert.ARepIdeal.nD Cert.ARepIdeal.τ).loc Cert.ARepIdeal.main_arg22)
      ∧ r.2.mem ((c.tc : Thread Cert.ARepIdeal.nD Cert.ARepIdeal.τ).loc Cert.ARepIdeal.main_arg23) = m ((c.tc : Thread Cert.ARepIdeal.nD Cert.ARepIdeal.τ).loc Cert.ARepIdeal.main_arg23)
      ∧ r.2.mem ((c.tc : Thread Cert.ARepIdeal.nD Cert.ARepIdeal.τ).loc Cert.ARepIdeal.main_arg24) = m ((c.tc : Thread Cert.ARepIdeal.nD Cert.ARepIdeal.τ).loc Cert.ARepIdeal.main_arg24)
      ∧ r.2.mem ((c.tc : Thread Cert.ARepIdeal.nD Cert.ARepIdeal.τ).loc Cert.ARepIdeal.main_arg25) = m ((c.tc : Thread Cert.ARepIdeal.nD Cert.ARepIdeal.τ).loc Cert.ARepIdeal.main_arg25)
      ∧ r.2.mem ((c.tc : Thread Cert.ARepIdeal.nD Cert.ARepIdeal.τ).loc Cert.ARepIdeal.main_arg26) = m ((c.tc : Thread Cert.ARepIdeal.nD Cert.ARepIdeal.τ).loc Cert.ARepIdeal.main_arg26)
      ∧ r.2.mem ((c.tc : Thread Cert.ARepIdeal.nD Cert.ARepIdeal.τ).loc Cert.ARepIdeal.main_arg27) = m ((c.tc : Thread Cert.ARepIdeal.nD Cert.ARepIdeal.τ).loc Cert.ARepIdeal.main_arg27)
      ∧ r.2.mem ((c.tc : Thread Cert.ARepIdeal.nD Cert.ARepIdeal.τ).loc Cert.ARepIdeal.main_arg28) = m ((c.tc : Thread Cert.ARepIdeal.nD Cert.ARepIdeal.τ).loc Cert.ARepIdeal.main_arg28))
      ∧ r.2.sem = fun _ => 0)

def quiescent_ARepRefIdeal [hARepRefIdeal : Cert.ARepRefIdeal.Facts] : Prop :=
  ∀ (m : (ℓ : Loc Cert.ARepRefIdeal.nD Cert.ARepRefIdeal.τ Cert.ARepRefIdeal.sig) → Buf (Elt Ideal) ℓ) (g : Dev Cert.ARepRefIdeal.nD → PrngReg), Pre_ARepRefIdeal m →
    θ_run (Cert.ARepRefIdeal.defs (F := Ideal)) (onTc (τ := Cert.ARepRefIdeal.τ) (Cert.ARepRefIdeal.main (F := Ideal))) ⟨m, fun _ => 0, g⟩ (fun r => (∀ c : Dev Cert.ARepRefIdeal.nD,
      r.2.mem ((c.tc : Thread Cert.ARepRefIdeal.nD Cert.ARepRefIdeal.τ).loc Cert.ARepRefIdeal.main_arg0) = m ((c.tc : Thread Cert.ARepRefIdeal.nD Cert.ARepRefIdeal.τ).loc Cert.ARepRefIdeal.main_arg0)
      ∧ r.2.mem ((c.tc : Thread Cert.ARepRefIdeal.nD Cert.ARepRefIdeal.τ).loc Cert.ARepRefIdeal.main_arg1) = m ((c.tc : Thread Cert.ARepRefIdeal.nD Cert.ARepRefIdeal.τ).loc Cert.ARepRefIdeal.main_arg1)
      ∧ r.2.mem ((c.tc : Thread Cert.ARepRefIdeal.nD Cert.ARepRefIdeal.τ).loc Cert.ARepRefIdeal.main_arg2) = m ((c.tc : Thread Cert.ARepRefIdeal.nD Cert.ARepRefIdeal.τ).loc Cert.ARepRefIdeal.main_arg2)
      ∧ r.2.mem ((c.tc : Thread Cert.ARepRefIdeal.nD Cert.ARepRefIdeal.τ).loc Cert.ARepRefIdeal.main_arg3) = m ((c.tc : Thread Cert.ARepRefIdeal.nD Cert.ARepRefIdeal.τ).loc Cert.ARepRefIdeal.main_arg3)
      ∧ r.2.mem ((c.tc : Thread Cert.ARepRefIdeal.nD Cert.ARepRefIdeal.τ).loc Cert.ARepRefIdeal.main_arg4) = m ((c.tc : Thread Cert.ARepRefIdeal.nD Cert.ARepRefIdeal.τ).loc Cert.ARepRefIdeal.main_arg4)
      ∧ r.2.mem ((c.tc : Thread Cert.ARepRefIdeal.nD Cert.ARepRefIdeal.τ).loc Cert.ARepRefIdeal.main_arg5) = m ((c.tc : Thread Cert.ARepRefIdeal.nD Cert.ARepRefIdeal.τ).loc Cert.ARepRefIdeal.main_arg5)
      ∧ r.2.mem ((c.tc : Thread Cert.ARepRefIdeal.nD Cert.ARepRefIdeal.τ).loc Cert.ARepRefIdeal.main_arg6) = m ((c.tc : Thread Cert.ARepRefIdeal.nD Cert.ARepRefIdeal.τ).loc Cert.ARepRefIdeal.main_arg6)
      ∧ r.2.mem ((c.tc : Thread Cert.ARepRefIdeal.nD Cert.ARepRefIdeal.τ).loc Cert.ARepRefIdeal.main_arg7) = m ((c.tc : Thread Cert.ARepRefIdeal.nD Cert.ARepRefIdeal.τ).loc Cert.ARepRefIdeal.main_arg7)
      ∧ r.2.mem ((c.tc : Thread Cert.ARepRefIdeal.nD Cert.ARepRefIdeal.τ).loc Cert.ARepRefIdeal.main_arg8) = m ((c.tc : Thread Cert.ARepRefIdeal.nD Cert.ARepRefIdeal.τ).loc Cert.ARepRefIdeal.main_arg8)
      ∧ r.2.mem ((c.tc : Thread Cert.ARepRefIdeal.nD Cert.ARepRefIdeal.τ).loc Cert.ARepRefIdeal.main_arg9) = m ((c.tc : Thread Cert.ARepRefIdeal.nD Cert.ARepRefIdeal.τ).loc Cert.ARepRefIdeal.main_arg9)
      ∧ r.2.mem ((c.tc : Thread Cert.ARepRefIdeal.nD Cert.ARepRefIdeal.τ).loc Cert.ARepRefIdeal.main_arg10) = m ((c.tc : Thread Cert.ARepRefIdeal.nD Cert.ARepRefIdeal.τ).loc Cert.ARepRefIdeal.main_arg10)
      ∧ r.2.mem ((c.tc : Thread Cert.ARepRefIdeal.nD Cert.ARepRefIdeal.τ).loc Cert.ARepRefIdeal.main_arg11) = m ((c.tc : Thread Cert.ARepRefIdeal.nD Cert.ARepRefIdeal.τ).loc Cert.ARepRefIdeal.main_arg11)
      ∧ r.2.mem ((c.tc : Thread Cert.ARepRefIdeal.nD Cert.ARepRefIdeal.τ).loc Cert.ARepRefIdeal.main_arg12) = m ((c.tc : Thread Cert.ARepRefIdeal.nD Cert.ARepRefIdeal.τ).loc Cert.ARepRefIdeal.main_arg12)
      ∧ r.2.mem ((c.tc : Thread Cert.ARepRefIdeal.nD Cert.ARepRefIdeal.τ).loc Cert.ARepRefIdeal.main_arg13) = m ((c.tc : Thread Cert.ARepRefIdeal.nD Cert.ARepRefIdeal.τ).loc Cert.ARepRefIdeal.main_arg13)
      ∧ r.2.mem ((c.tc : Thread Cert.ARepRefIdeal.nD Cert.ARepRefIdeal.τ).loc Cert.ARepRefIdeal.main_arg14) = m ((c.tc : Thread Cert.ARepRefIdeal.nD Cert.ARepRefIdeal.τ).loc Cert.ARepRefIdeal.main_arg14)
      ∧ r.2.mem ((c.tc : Thread Cert.ARepRefIdeal.nD Cert.ARepRefIdeal.τ).loc Cert.ARepRefIdeal.main_arg15) = m ((c.tc : Thread Cert.ARepRefIdeal.nD Cert.ARepRefIdeal.τ).loc Cert.ARepRefIdeal.main_arg15)
      ∧ r.2.mem ((c.tc : Thread Cert.ARepRefIdeal.nD Cert.ARepRefIdeal.τ).loc Cert.ARepRefIdeal.main_arg16) = m ((c.tc : Thread Cert.ARepRefIdeal.nD Cert.ARepRefIdeal.τ).loc Cert.ARepRefIdeal.main_arg16)
      ∧ r.2.mem ((c.tc : Thread Cert.ARepRefIdeal.nD Cert.ARepRefIdeal.τ).loc Cert.ARepRefIdeal.main_arg17) = m ((c.tc : Thread Cert.ARepRefIdeal.nD Cert.ARepRefIdeal.τ).loc Cert.ARepRefIdeal.main_arg17)
      ∧ r.2.mem ((c.tc : Thread Cert.ARepRefIdeal.nD Cert.ARepRefIdeal.τ).loc Cert.ARepRefIdeal.main_arg18) = m ((c.tc : Thread Cert.ARepRefIdeal.nD Cert.ARepRefIdeal.τ).loc Cert.ARepRefIdeal.main_arg18)
      ∧ r.2.mem ((c.tc : Thread Cert.ARepRefIdeal.nD Cert.ARepRefIdeal.τ).loc Cert.ARepRefIdeal.main_arg19) = m ((c.tc : Thread Cert.ARepRefIdeal.nD Cert.ARepRefIdeal.τ).loc Cert.ARepRefIdeal.main_arg19)
      ∧ r.2.mem ((c.tc : Thread Cert.ARepRefIdeal.nD Cert.ARepRefIdeal.τ).loc Cert.ARepRefIdeal.main_arg20) = m ((c.tc : Thread Cert.ARepRefIdeal.nD Cert.ARepRefIdeal.τ).loc Cert.ARepRefIdeal.main_arg20)
      ∧ r.2.mem ((c.tc : Thread Cert.ARepRefIdeal.nD Cert.ARepRefIdeal.τ).loc Cert.ARepRefIdeal.main_arg21) = m ((c.tc : Thread Cert.ARepRefIdeal.nD Cert.ARepRefIdeal.τ).loc Cert.ARepRefIdeal.main_arg21)
      ∧ r.2.mem ((c.tc : Thread Cert.ARepRefIdeal.nD Cert.ARepRefIdeal.τ).loc Cert.ARepRefIdeal.main_arg22) = m ((c.tc : Thread Cert.ARepRefIdeal.nD Cert.ARepRefIdeal.τ).loc Cert.ARepRefIdeal.main_arg22)
      ∧ r.2.mem ((c.tc : Thread Cert.ARepRefIdeal.nD Cert.ARepRefIdeal.τ).loc Cert.ARepRefIdeal.main_arg23) = m ((c.tc : Thread Cert.ARepRefIdeal.nD Cert.ARepRefIdeal.τ).loc Cert.ARepRefIdeal.main_arg23)
      ∧ r.2.mem ((c.tc : Thread Cert.ARepRefIdeal.nD Cert.ARepRefIdeal.τ).loc Cert.ARepRefIdeal.main_arg24) = m ((c.tc : Thread Cert.ARepRefIdeal.nD Cert.ARepRefIdeal.τ).loc Cert.ARepRefIdeal.main_arg24)
      ∧ r.2.mem ((c.tc : Thread Cert.ARepRefIdeal.nD Cert.ARepRefIdeal.τ).loc Cert.ARepRefIdeal.main_arg25) = m ((c.tc : Thread Cert.ARepRefIdeal.nD Cert.ARepRefIdeal.τ).loc Cert.ARepRefIdeal.main_arg25)
      ∧ r.2.mem ((c.tc : Thread Cert.ARepRefIdeal.nD Cert.ARepRefIdeal.τ).loc Cert.ARepRefIdeal.main_arg26) = m ((c.tc : Thread Cert.ARepRefIdeal.nD Cert.ARepRefIdeal.τ).loc Cert.ARepRefIdeal.main_arg26)
      ∧ r.2.mem ((c.tc : Thread Cert.ARepRefIdeal.nD Cert.ARepRefIdeal.τ).loc Cert.ARepRefIdeal.main_arg27) = m ((c.tc : Thread Cert.ARepRefIdeal.nD Cert.ARepRefIdeal.τ).loc Cert.ARepRefIdeal.main_arg27)
      ∧ r.2.mem ((c.tc : Thread Cert.ARepRefIdeal.nD Cert.ARepRefIdeal.τ).loc Cert.ARepRefIdeal.main_arg28) = m ((c.tc : Thread Cert.ARepRefIdeal.nD Cert.ARepRefIdeal.τ).loc Cert.ARepRefIdeal.main_arg28))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)
      ∧ m' ((c.tc : Thread Cert.DHRefIdeal.nD Cert.DHRefIdeal.τ).loc Cert.DHRefIdeal.main_arg2) = m ((c.tc : Thread Cert.DHIdeal.nD Cert.DHIdeal.τ).loc Cert.DHIdeal.main_arg2)
      ∧ m' ((c.tc : Thread Cert.DHRefIdeal.nD Cert.DHRefIdeal.τ).loc Cert.DHRefIdeal.main_arg3) = m ((c.tc : Thread Cert.DHIdeal.nD Cert.DHIdeal.τ).loc Cert.DHIdeal.main_arg3)) →
    ∃ (v0 : (c : Dev Cert.DHIdeal.nD) → Buf (Elt Ideal) ((c.tc : Thread Cert.DHIdeal.nD Cert.DHIdeal.τ).loc Cert.DHIdeal.main_v2)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v2) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
          ∧ r.2.mem ((c.tc : Thread Cert.DHIdeal.nD Cert.DHIdeal.τ).loc Cert.DHIdeal.main_arg2) = m ((c.tc : Thread Cert.DHIdeal.nD Cert.DHIdeal.τ).loc Cert.DHIdeal.main_arg2)
          ∧ r.2.mem ((c.tc : Thread Cert.DHIdeal.nD Cert.DHIdeal.τ).loc Cert.DHIdeal.main_arg3) = m ((c.tc : Thread Cert.DHIdeal.nD Cert.DHIdeal.τ).loc Cert.DHIdeal.main_arg3))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v8) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1)
          ∧ r.2.mem ((c.tc : Thread Cert.DHRefIdeal.nD Cert.DHRefIdeal.τ).loc Cert.DHRefIdeal.main_arg2) = m' ((c.tc : Thread Cert.DHRefIdeal.nD Cert.DHRefIdeal.τ).loc Cert.DHRefIdeal.main_arg2)
          ∧ r.2.mem ((c.tc : Thread Cert.DHRefIdeal.nD Cert.DHRefIdeal.τ).loc Cert.DHRefIdeal.main_arg3) = m' ((c.tc : Thread Cert.DHRefIdeal.nD Cert.DHRefIdeal.τ).loc Cert.DHRefIdeal.main_arg3))

def preserves_GUp_GUpIdeal : Prop :=
  True

def algebraic_GUpIdeal_GUpRefIdeal [hGUpIdeal : Cert.GUpIdeal.Facts] [hGUpRefIdeal : Cert.GUpRefIdeal.Facts] : Prop :=
  ∀ (m : (ℓ : Loc Cert.GUpIdeal.nD Cert.GUpIdeal.τ Cert.GUpIdeal.sig) → Buf (Elt Ideal) ℓ) (g : Dev Cert.GUpIdeal.nD → PrngReg)
    (m' : (ℓ : Loc Cert.GUpRefIdeal.nD Cert.GUpRefIdeal.τ Cert.GUpRefIdeal.sig) → Buf (Elt Ideal) ℓ) (g' : Dev Cert.GUpRefIdeal.nD → PrngReg), Pre_GUpIdeal m →
    (∀ c : Dev Cert.GUpIdeal.nD,
      m' ((c.tc : Thread Cert.GUpRefIdeal.nD Cert.GUpRefIdeal.τ).loc Cert.GUpRefIdeal.main_arg0) = m ((c.tc : Thread Cert.GUpIdeal.nD Cert.GUpIdeal.τ).loc Cert.GUpIdeal.main_arg0)
      ∧ m' ((c.tc : Thread Cert.GUpRefIdeal.nD Cert.GUpRefIdeal.τ).loc Cert.GUpRefIdeal.main_arg1) = m ((c.tc : Thread Cert.GUpIdeal.nD Cert.GUpIdeal.τ).loc Cert.GUpIdeal.main_arg1)
      ∧ m' ((c.tc : Thread Cert.GUpRefIdeal.nD Cert.GUpRefIdeal.τ).loc Cert.GUpRefIdeal.main_arg2) = m ((c.tc : Thread Cert.GUpIdeal.nD Cert.GUpIdeal.τ).loc Cert.GUpIdeal.main_arg2)) →
    ∃ (v0 : (c : Dev Cert.GUpIdeal.nD) → Buf (Elt Ideal) ((c.tc : Thread Cert.GUpIdeal.nD Cert.GUpIdeal.τ).loc Cert.GUpIdeal.main_v2)),
      θ_run (Cert.GUpIdeal.defs (F := Ideal)) (onTc (τ := Cert.GUpIdeal.τ) (Cert.GUpIdeal.main (F := Ideal))) ⟨m, fun _ => 0, g⟩ (fun r => ∀ c : Dev Cert.GUpIdeal.nD,
          r.2.mem ((c.tc : Thread Cert.GUpIdeal.nD Cert.GUpIdeal.τ).loc Cert.GUpIdeal.main_v2) = v0 c
          ∧ r.2.mem ((c.tc : Thread Cert.GUpIdeal.nD Cert.GUpIdeal.τ).loc Cert.GUpIdeal.main_arg0) = m ((c.tc : Thread Cert.GUpIdeal.nD Cert.GUpIdeal.τ).loc Cert.GUpIdeal.main_arg0)
          ∧ r.2.mem ((c.tc : Thread Cert.GUpIdeal.nD Cert.GUpIdeal.τ).loc Cert.GUpIdeal.main_arg1) = m ((c.tc : Thread Cert.GUpIdeal.nD Cert.GUpIdeal.τ).loc Cert.GUpIdeal.main_arg1)
          ∧ r.2.mem ((c.tc : Thread Cert.GUpIdeal.nD Cert.GUpIdeal.τ).loc Cert.GUpIdeal.main_arg2) = m ((c.tc : Thread Cert.GUpIdeal.nD Cert.GUpIdeal.τ).loc Cert.GUpIdeal.main_arg2))
      ∧ θ_run (Cert.GUpRefIdeal.defs (F := Ideal)) (onTc (τ := Cert.GUpRefIdeal.τ) (Cert.GUpRefIdeal.main (F := Ideal))) ⟨m', fun _ => 0, g'⟩ (fun r => ∀ c : Dev Cert.GUpRefIdeal.nD,
          r.2.mem ((c.tc : Thread Cert.GUpRefIdeal.nD Cert.GUpRefIdeal.τ).loc Cert.GUpRefIdeal.main_v4) = v0 c
          ∧ r.2.mem ((c.tc : Thread Cert.GUpRefIdeal.nD Cert.GUpRefIdeal.τ).loc Cert.GUpRefIdeal.main_arg0) = m' ((c.tc : Thread Cert.GUpRefIdeal.nD Cert.GUpRefIdeal.τ).loc Cert.GUpRefIdeal.main_arg0)
          ∧ r.2.mem ((c.tc : Thread Cert.GUpRefIdeal.nD Cert.GUpRefIdeal.τ).loc Cert.GUpRefIdeal.main_arg1) = m' ((c.tc : Thread Cert.GUpRefIdeal.nD Cert.GUpRefIdeal.τ).loc Cert.GUpRefIdeal.main_arg1)
          ∧ r.2.mem ((c.tc : Thread Cert.GUpRefIdeal.nD Cert.GUpRefIdeal.τ).loc Cert.GUpRefIdeal.main_arg2) = m' ((c.tc : Thread Cert.GUpRefIdeal.nD Cert.GUpRefIdeal.τ).loc Cert.GUpRefIdeal.main_arg2))

def preserves_DP_DPIdeal : Prop :=
  True

def algebraic_DPIdeal_DPRefIdeal [hDPIdeal : Cert.DPIdeal.Facts] [hDPRefIdeal : Cert.DPRefIdeal.Facts] : Prop :=
  ∀ (m : (ℓ : Loc Cert.DPIdeal.nD Cert.DPIdeal.τ Cert.DPIdeal.sig) → Buf (Elt Ideal) ℓ) (g : Dev Cert.DPIdeal.nD → PrngReg)
    (m' : (ℓ : Loc Cert.DPRefIdeal.nD Cert.DPRefIdeal.τ Cert.DPRefIdeal.sig) → Buf (Elt Ideal) ℓ) (g' : Dev Cert.DPRefIdeal.nD → PrngReg), Pre_DPIdeal m →
    (∀ c : Dev Cert.DPIdeal.nD,
      m' ((c.tc : Thread Cert.DPRefIdeal.nD Cert.DPRefIdeal.τ).loc Cert.DPRefIdeal.main_arg0) = m ((c.tc : Thread Cert.DPIdeal.nD Cert.DPIdeal.τ).loc Cert.DPIdeal.main_arg0)
      ∧ m' ((c.tc : Thread Cert.DPRefIdeal.nD Cert.DPRefIdeal.τ).loc Cert.DPRefIdeal.main_arg1) = m ((c.tc : Thread Cert.DPIdeal.nD Cert.DPIdeal.τ).loc Cert.DPIdeal.main_arg1)
      ∧ m' ((c.tc : Thread Cert.DPRefIdeal.nD Cert.DPRefIdeal.τ).loc Cert.DPRefIdeal.main_arg2) = m ((c.tc : Thread Cert.DPIdeal.nD Cert.DPIdeal.τ).loc Cert.DPIdeal.main_arg2)) →
    ∃ (v0 : (c : Dev Cert.DPIdeal.nD) → Buf (Elt Ideal) ((c.tc : Thread Cert.DPIdeal.nD Cert.DPIdeal.τ).loc Cert.DPIdeal.main_v2)),
      θ_run (Cert.DPIdeal.defs (F := Ideal)) (onTc (τ := Cert.DPIdeal.τ) (Cert.DPIdeal.main (F := Ideal))) ⟨m, fun _ => 0, g⟩ (fun r => ∀ c : Dev Cert.DPIdeal.nD,
          r.2.mem ((c.tc : Thread Cert.DPIdeal.nD Cert.DPIdeal.τ).loc Cert.DPIdeal.main_v2) = v0 c
          ∧ r.2.mem ((c.tc : Thread Cert.DPIdeal.nD Cert.DPIdeal.τ).loc Cert.DPIdeal.main_arg0) = m ((c.tc : Thread Cert.DPIdeal.nD Cert.DPIdeal.τ).loc Cert.DPIdeal.main_arg0)
          ∧ r.2.mem ((c.tc : Thread Cert.DPIdeal.nD Cert.DPIdeal.τ).loc Cert.DPIdeal.main_arg1) = m ((c.tc : Thread Cert.DPIdeal.nD Cert.DPIdeal.τ).loc Cert.DPIdeal.main_arg1)
          ∧ r.2.mem ((c.tc : Thread Cert.DPIdeal.nD Cert.DPIdeal.τ).loc Cert.DPIdeal.main_arg2) = m ((c.tc : Thread Cert.DPIdeal.nD Cert.DPIdeal.τ).loc Cert.DPIdeal.main_arg2))
      ∧ θ_run (Cert.DPRefIdeal.defs (F := Ideal)) (onTc (τ := Cert.DPRefIdeal.τ) (Cert.DPRefIdeal.main (F := Ideal))) ⟨m', fun _ => 0, g'⟩ (fun r => ∀ c : Dev Cert.DPRefIdeal.nD,
          r.2.mem ((c.tc : Thread Cert.DPRefIdeal.nD Cert.DPRefIdeal.τ).loc Cert.DPRefIdeal.main_v4) = v0 c
          ∧ r.2.mem ((c.tc : Thread Cert.DPRefIdeal.nD Cert.DPRefIdeal.τ).loc Cert.DPRefIdeal.main_arg0) = m' ((c.tc : Thread Cert.DPRefIdeal.nD Cert.DPRefIdeal.τ).loc Cert.DPRefIdeal.main_arg0)
          ∧ r.2.mem ((c.tc : Thread Cert.DPRefIdeal.nD Cert.DPRefIdeal.τ).loc Cert.DPRefIdeal.main_arg1) = m' ((c.tc : Thread Cert.DPRefIdeal.nD Cert.DPRefIdeal.τ).loc Cert.DPRefIdeal.main_arg1)
          ∧ r.2.mem ((c.tc : Thread Cert.DPRefIdeal.nD Cert.DPRefIdeal.τ).loc Cert.DPRefIdeal.main_arg2) = m' ((c.tc : Thread Cert.DPRefIdeal.nD Cert.DPRefIdeal.τ).loc Cert.DPRefIdeal.main_arg2))

def preserves_DX_DXIdeal : Prop :=
  True

def algebraic_DXIdeal_DXRefIdeal [hDXIdeal : Cert.DXIdeal.Facts] [hDXRefIdeal : Cert.DXRefIdeal.Facts] : Prop :=
  ∀ (m : (ℓ : Loc Cert.DXIdeal.nD Cert.DXIdeal.τ Cert.DXIdeal.sig) → Buf (Elt Ideal) ℓ) (g : Dev Cert.DXIdeal.nD → PrngReg)
    (m' : (ℓ : Loc Cert.DXRefIdeal.nD Cert.DXRefIdeal.τ Cert.DXRefIdeal.sig) → Buf (Elt Ideal) ℓ) (g' : Dev Cert.DXRefIdeal.nD → PrngReg), Pre_DXIdeal m →
    (∀ c : Dev Cert.DXIdeal.nD,
      m' ((c.tc : Thread Cert.DXRefIdeal.nD Cert.DXRefIdeal.τ).loc Cert.DXRefIdeal.main_arg0) = m ((c.tc : Thread Cert.DXIdeal.nD Cert.DXIdeal.τ).loc Cert.DXIdeal.main_arg0)
      ∧ m' ((c.tc : Thread Cert.DXRefIdeal.nD Cert.DXRefIdeal.τ).loc Cert.DXRefIdeal.main_arg1) = m ((c.tc : Thread Cert.DXIdeal.nD Cert.DXIdeal.τ).loc Cert.DXIdeal.main_arg1)
      ∧ m' ((c.tc : Thread Cert.DXRefIdeal.nD Cert.DXRefIdeal.τ).loc Cert.DXRefIdeal.main_arg2) = m ((c.tc : Thread Cert.DXIdeal.nD Cert.DXIdeal.τ).loc Cert.DXIdeal.main_arg2)
      ∧ m' ((c.tc : Thread Cert.DXRefIdeal.nD Cert.DXRefIdeal.τ).loc Cert.DXRefIdeal.main_arg3) = m ((c.tc : Thread Cert.DXIdeal.nD Cert.DXIdeal.τ).loc Cert.DXIdeal.main_arg3)) →
    ∃ (v0 : (c : Dev Cert.DXIdeal.nD) → Buf (Elt Ideal) ((c.tc : Thread Cert.DXIdeal.nD Cert.DXIdeal.τ).loc Cert.DXIdeal.main_v4)),
      θ_run (Cert.DXIdeal.defs (F := Ideal)) (onTc (τ := Cert.DXIdeal.τ) (Cert.DXIdeal.main (F := Ideal))) ⟨m, fun _ => 0, g⟩ (fun r => ∀ c : Dev Cert.DXIdeal.nD,
          r.2.mem ((c.tc : Thread Cert.DXIdeal.nD Cert.DXIdeal.τ).loc Cert.DXIdeal.main_v4) = v0 c
          ∧ r.2.mem ((c.tc : Thread Cert.DXIdeal.nD Cert.DXIdeal.τ).loc Cert.DXIdeal.main_arg0) = m ((c.tc : Thread Cert.DXIdeal.nD Cert.DXIdeal.τ).loc Cert.DXIdeal.main_arg0)
          ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
          ∧ r.2.mem ((c.tc : Thread Cert.DXIdeal.nD Cert.DXIdeal.τ).loc Cert.DXIdeal.main_arg2) = m ((c.tc : Thread Cert.DXIdeal.nD Cert.DXIdeal.τ).loc Cert.DXIdeal.main_arg2)
          ∧ r.2.mem ((c.tc : Thread Cert.DXIdeal.nD Cert.DXIdeal.τ).loc Cert.DXIdeal.main_arg3) = m ((c.tc : Thread Cert.DXIdeal.nD Cert.DXIdeal.τ).loc Cert.DXIdeal.main_arg3))
      ∧ θ_run (Cert.DXRefIdeal.defs (F := Ideal)) (onTc (τ := Cert.DXRefIdeal.τ) (Cert.DXRefIdeal.main (F := Ideal))) ⟨m', fun _ => 0, g'⟩ (fun r => ∀ c : Dev Cert.DXRefIdeal.nD,
          r.2.mem ((c.tc : Thread Cert.DXRefIdeal.nD Cert.DXRefIdeal.τ).loc Cert.DXRefIdeal.main_v6) = v0 c
          ∧ r.2.mem ((c.tc : Thread Cert.DXRefIdeal.nD Cert.DXRefIdeal.τ).loc Cert.DXRefIdeal.main_arg0) = m' ((c.tc : Thread Cert.DXRefIdeal.nD Cert.DXRefIdeal.τ).loc Cert.DXRefIdeal.main_arg0)
          ∧ r.2.mem ((c.tc : Thread Cert.DXRefIdeal.nD Cert.DXRefIdeal.τ).loc Cert.DXRefIdeal.main_arg1) = m' ((c.tc : Thread Cert.DXRefIdeal.nD Cert.DXRefIdeal.τ).loc Cert.DXRefIdeal.main_arg1)
          ∧ r.2.mem ((c.tc : Thread Cert.DXRefIdeal.nD Cert.DXRefIdeal.τ).loc Cert.DXRefIdeal.main_arg2) = m' ((c.tc : Thread Cert.DXRefIdeal.nD Cert.DXRefIdeal.τ).loc Cert.DXRefIdeal.main_arg2)
          ∧ r.2.mem ((c.tc : Thread Cert.DXRefIdeal.nD Cert.DXRefIdeal.τ).loc Cert.DXRefIdeal.main_arg3) = m' ((c.tc : Thread Cert.DXRefIdeal.nD Cert.DXRefIdeal.τ).loc Cert.DXRefIdeal.main_arg3))

def preserves_GDown_GDownIdeal : Prop :=
  True

def algebraic_GDownIdeal_GDownRefIdeal [hGDownIdeal : Cert.GDownIdeal.Facts] [hGDownRefIdeal : Cert.GDownRefIdeal.Facts] : Prop :=
  ∀ (m : (ℓ : Loc Cert.GDownIdeal.nD Cert.GDownIdeal.τ Cert.GDownIdeal.sig) → Buf (Elt Ideal) ℓ) (g : Dev Cert.GDownIdeal.nD → PrngReg)
    (m' : (ℓ : Loc Cert.GDownRefIdeal.nD Cert.GDownRefIdeal.τ Cert.GDownRefIdeal.sig) → Buf (Elt Ideal) ℓ) (g' : Dev Cert.GDownRefIdeal.nD → PrngReg), Pre_GDownIdeal m →
    (∀ c : Dev Cert.GDownIdeal.nD,
      m' ((c.tc : Thread Cert.GDownRefIdeal.nD Cert.GDownRefIdeal.τ).loc Cert.GDownRefIdeal.main_arg0) = m ((c.tc : Thread Cert.GDownIdeal.nD Cert.GDownIdeal.τ).loc Cert.GDownIdeal.main_arg0)
      ∧ m' ((c.tc : Thread Cert.GDownRefIdeal.nD Cert.GDownRefIdeal.τ).loc Cert.GDownRefIdeal.main_arg1) = m ((c.tc : Thread Cert.GDownIdeal.nD Cert.GDownIdeal.τ).loc Cert.GDownIdeal.main_arg1)
      ∧ m' ((c.tc : Thread Cert.GDownRefIdeal.nD Cert.GDownRefIdeal.τ).loc Cert.GDownRefIdeal.main_arg2) = m ((c.tc : Thread Cert.GDownIdeal.nD Cert.GDownIdeal.τ).loc Cert.GDownIdeal.main_arg2)) →
    ∃ (v0 : (c : Dev Cert.GDownIdeal.nD) → Buf (Elt Ideal) ((c.tc : Thread Cert.GDownIdeal.nD Cert.GDownIdeal.τ).loc Cert.GDownIdeal.main_v2)),
      θ_run (Cert.GDownIdeal.defs (F := Ideal)) (onTc (τ := Cert.GDownIdeal.τ) (Cert.GDownIdeal.main (F := Ideal))) ⟨m, fun _ => 0, g⟩ (fun r => ∀ c : Dev Cert.GDownIdeal.nD,
          r.2.mem ((c.tc : Thread Cert.GDownIdeal.nD Cert.GDownIdeal.τ).loc Cert.GDownIdeal.main_v2) = v0 c
          ∧ r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
          ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1)
          ∧ r.2.mem ((c.tc : Thread Cert.GDownIdeal.nD Cert.GDownIdeal.τ).loc Cert.GDownIdeal.main_arg2) = m ((c.tc : Thread Cert.GDownIdeal.nD Cert.GDownIdeal.τ).loc Cert.GDownIdeal.main_arg2))
      ∧ θ_run (Cert.GDownRefIdeal.defs (F := Ideal)) (onTc (τ := Cert.GDownRefIdeal.τ) (Cert.GDownRefIdeal.main (F := Ideal))) ⟨m', fun _ => 0, g'⟩ (fun r => ∀ c : Dev Cert.GDownRefIdeal.nD,
          r.2.mem ((c.tc : Thread Cert.GDownRefIdeal.nD Cert.GDownRefIdeal.τ).loc Cert.GDownRefIdeal.main_v4) = v0 c
          ∧ r.2.mem ((c.tc : Thread Cert.GDownRefIdeal.nD Cert.GDownRefIdeal.τ).loc Cert.GDownRefIdeal.main_arg0) = m' ((c.tc : Thread Cert.GDownRefIdeal.nD Cert.GDownRefIdeal.τ).loc Cert.GDownRefIdeal.main_arg0)
          ∧ r.2.mem ((c.tc : Thread Cert.GDownRefIdeal.nD Cert.GDownRefIdeal.τ).loc Cert.GDownRefIdeal.main_arg1) = m' ((c.tc : Thread Cert.GDownRefIdeal.nD Cert.GDownRefIdeal.τ).loc Cert.GDownRefIdeal.main_arg1)
          ∧ r.2.mem ((c.tc : Thread Cert.GDownRefIdeal.nD Cert.GDownRefIdeal.τ).loc Cert.GDownRefIdeal.main_arg2) = m' ((c.tc : Thread Cert.GDownRefIdeal.nD Cert.GDownRefIdeal.τ).loc Cert.GDownRefIdeal.main_arg2))

def preserves_GIn_GInIdeal : Prop :=
  True

def algebraic_GInIdeal_GInRefIdeal [hGInIdeal : Cert.GInIdeal.Facts] [hGInRefIdeal : Cert.GInRefIdeal.Facts] : Prop :=
  ∀ (m : (ℓ : Loc Cert.GInIdeal.nD Cert.GInIdeal.τ Cert.GInIdeal.sig) → Buf (Elt Ideal) ℓ) (g : Dev Cert.GInIdeal.nD → PrngReg)
    (m' : (ℓ : Loc Cert.GInRefIdeal.nD Cert.GInRefIdeal.τ Cert.GInRefIdeal.sig) → Buf (Elt Ideal) ℓ) (g' : Dev Cert.GInRefIdeal.nD → PrngReg), Pre_GInIdeal m →
    (∀ c : Dev Cert.GInIdeal.nD,
      m' ((c.tc : Thread Cert.GInRefIdeal.nD Cert.GInRefIdeal.τ).loc Cert.GInRefIdeal.main_arg0) = m ((c.tc : Thread Cert.GInIdeal.nD Cert.GInIdeal.τ).loc Cert.GInIdeal.main_arg0)
      ∧ m' ((c.tc : Thread Cert.GInRefIdeal.nD Cert.GInRefIdeal.τ).loc Cert.GInRefIdeal.main_arg1) = m ((c.tc : Thread Cert.GInIdeal.nD Cert.GInIdeal.τ).loc Cert.GInIdeal.main_arg1)
      ∧ m' ((c.tc : Thread Cert.GInRefIdeal.nD Cert.GInRefIdeal.τ).loc Cert.GInRefIdeal.main_arg2) = m ((c.tc : Thread Cert.GInIdeal.nD Cert.GInIdeal.τ).loc Cert.GInIdeal.main_arg2)) →
    ∃ (v0 : (c : Dev Cert.GInIdeal.nD) → Buf (Elt Ideal) ((c.tc : Thread Cert.GInIdeal.nD Cert.GInIdeal.τ).loc Cert.GInIdeal.main_v2)),
      θ_run (Cert.GInIdeal.defs (F := Ideal)) (onTc (τ := Cert.GInIdeal.τ) (Cert.GInIdeal.main (F := Ideal))) ⟨m, fun _ => 0, g⟩ (fun r => ∀ c : Dev Cert.GInIdeal.nD,
          r.2.mem ((c.tc : Thread Cert.GInIdeal.nD Cert.GInIdeal.τ).loc Cert.GInIdeal.main_v2) = v0 c
          ∧ r.2.mem ((c.tc : Thread Cert.GInIdeal.nD Cert.GInIdeal.τ).loc Cert.GInIdeal.main_arg0) = m ((c.tc : Thread Cert.GInIdeal.nD Cert.GInIdeal.τ).loc Cert.GInIdeal.main_arg0)
          ∧ r.2.mem ((c.tc : Thread Cert.GInIdeal.nD Cert.GInIdeal.τ).loc Cert.GInIdeal.main_arg1) = m ((c.tc : Thread Cert.GInIdeal.nD Cert.GInIdeal.τ).loc Cert.GInIdeal.main_arg1)
          ∧ r.2.mem ((c.tc : Thread Cert.GInIdeal.nD Cert.GInIdeal.τ).loc Cert.GInIdeal.main_arg2) = m ((c.tc : Thread Cert.GInIdeal.nD Cert.GInIdeal.τ).loc Cert.GInIdeal.main_arg2))
      ∧ θ_run (Cert.GInRefIdeal.defs (F := Ideal)) (onTc (τ := Cert.GInRefIdeal.τ) (Cert.GInRefIdeal.main (F := Ideal))) ⟨m', fun _ => 0, g'⟩ (fun r => ∀ c : Dev Cert.GInRefIdeal.nD,
          r.2.mem ((c.tc : Thread Cert.GInRefIdeal.nD Cert.GInRefIdeal.τ).loc Cert.GInRefIdeal.main_v4) = v0 c
          ∧ r.2.mem ((c.tc : Thread Cert.GInRefIdeal.nD Cert.GInRefIdeal.τ).loc Cert.GInRefIdeal.main_arg0) = m' ((c.tc : Thread Cert.GInRefIdeal.nD Cert.GInRefIdeal.τ).loc Cert.GInRefIdeal.main_arg0)
          ∧ r.2.mem ((c.tc : Thread Cert.GInRefIdeal.nD Cert.GInRefIdeal.τ).loc Cert.GInRefIdeal.main_arg1) = m' ((c.tc : Thread Cert.GInRefIdeal.nD Cert.GInRefIdeal.τ).loc Cert.GInRefIdeal.main_arg1)
          ∧ r.2.mem ((c.tc : Thread Cert.GInRefIdeal.nD Cert.GInRefIdeal.τ).loc Cert.GInRefIdeal.main_arg2) = m' ((c.tc : Thread Cert.GInRefIdeal.nD Cert.GInRefIdeal.τ).loc Cert.GInRefIdeal.main_arg2))

def preserves_FUp_FUpIdeal : Prop :=
  True

def algebraic_FUpIdeal_FUpRefIdeal [hFUpIdeal : Cert.FUpIdeal.Facts] [hFUpRefIdeal : Cert.FUpRefIdeal.Facts] : Prop :=
  ∀ (m : (ℓ : Loc Cert.FUpIdeal.nD Cert.FUpIdeal.τ Cert.FUpIdeal.sig) → Buf (Elt Ideal) ℓ) (g : Dev Cert.FUpIdeal.nD → PrngReg)
    (m' : (ℓ : Loc Cert.FUpRefIdeal.nD Cert.FUpRefIdeal.τ Cert.FUpRefIdeal.sig) → Buf (Elt Ideal) ℓ) (g' : Dev Cert.FUpRefIdeal.nD → PrngReg), Pre_FUpIdeal m →
    (∀ c : Dev Cert.FUpIdeal.nD,
      m' ((c.tc : Thread Cert.FUpRefIdeal.nD Cert.FUpRefIdeal.τ).loc Cert.FUpRefIdeal.main_arg0) = m ((c.tc : Thread Cert.FUpIdeal.nD Cert.FUpIdeal.τ).loc Cert.FUpIdeal.main_arg0)
      ∧ m' ((c.tc : Thread Cert.FUpRefIdeal.nD Cert.FUpRefIdeal.τ).loc Cert.FUpRefIdeal.main_arg1) = m ((c.tc : Thread Cert.FUpIdeal.nD Cert.FUpIdeal.τ).loc Cert.FUpIdeal.main_arg1)) →
    ∃ (v0 : (c : Dev Cert.FUpIdeal.nD) → Buf (Elt Ideal) ((c.tc : Thread Cert.FUpIdeal.nD Cert.FUpIdeal.τ).loc Cert.FUpIdeal.main_v2)),
      θ_run (Cert.FUpIdeal.defs (F := Ideal)) (onTc (τ := Cert.FUpIdeal.τ) (Cert.FUpIdeal.main (F := Ideal))) ⟨m, fun _ => 0, g⟩ (fun r => ∀ c : Dev Cert.FUpIdeal.nD,
          r.2.mem ((c.tc : Thread Cert.FUpIdeal.nD Cert.FUpIdeal.τ).loc Cert.FUpIdeal.main_v2) = v0 c
          ∧ r.2.mem ((c.tc : Thread Cert.FUpIdeal.nD Cert.FUpIdeal.τ).loc Cert.FUpIdeal.main_arg0) = m ((c.tc : Thread Cert.FUpIdeal.nD Cert.FUpIdeal.τ).loc Cert.FUpIdeal.main_arg0)
          ∧ r.2.mem ((c.tc : Thread Cert.FUpIdeal.nD Cert.FUpIdeal.τ).loc Cert.FUpIdeal.main_arg1) = m ((c.tc : Thread Cert.FUpIdeal.nD Cert.FUpIdeal.τ).loc Cert.FUpIdeal.main_arg1))
      ∧ θ_run (Cert.FUpRefIdeal.defs (F := Ideal)) (onTc (τ := Cert.FUpRefIdeal.τ) (Cert.FUpRefIdeal.main (F := Ideal))) ⟨m', fun _ => 0, g'⟩ (fun r => ∀ c : Dev Cert.FUpRefIdeal.nD,
          r.2.mem ((c.tc : Thread Cert.FUpRefIdeal.nD Cert.FUpRefIdeal.τ).loc Cert.FUpRefIdeal.main_v0) = v0 c
          ∧ r.2.mem ((c.tc : Thread Cert.FUpRefIdeal.nD Cert.FUpRefIdeal.τ).loc Cert.FUpRefIdeal.main_arg0) = m' ((c.tc : Thread Cert.FUpRefIdeal.nD Cert.FUpRefIdeal.τ).loc Cert.FUpRefIdeal.main_arg0)
          ∧ r.2.mem ((c.tc : Thread Cert.FUpRefIdeal.nD Cert.FUpRefIdeal.τ).loc Cert.FUpRefIdeal.main_arg1) = m' ((c.tc : Thread Cert.FUpRefIdeal.nD Cert.FUpRefIdeal.τ).loc Cert.FUpRefIdeal.main_arg1))

def preserves_FDown_FDownIdeal : Prop :=
  True

def algebraic_FDownIdeal_FDownRefIdeal [hFDownIdeal : Cert.FDownIdeal.Facts] [hFDownRefIdeal : Cert.FDownRefIdeal.Facts] : Prop :=
  ∀ (m : (ℓ : Loc Cert.FDownIdeal.nD Cert.FDownIdeal.τ Cert.FDownIdeal.sig) → Buf (Elt Ideal) ℓ) (g : Dev Cert.FDownIdeal.nD → PrngReg)
    (m' : (ℓ : Loc Cert.FDownRefIdeal.nD Cert.FDownRefIdeal.τ Cert.FDownRefIdeal.sig) → Buf (Elt Ideal) ℓ) (g' : Dev Cert.FDownRefIdeal.nD → PrngReg), Pre_FDownIdeal m →
    (∀ c : Dev Cert.FDownIdeal.nD,
      m' ((c.tc : Thread Cert.FDownRefIdeal.nD Cert.FDownRefIdeal.τ).loc Cert.FDownRefIdeal.main_arg0) = m ((c.tc : Thread Cert.FDownIdeal.nD Cert.FDownIdeal.τ).loc Cert.FDownIdeal.main_arg0)
      ∧ m' ((c.tc : Thread Cert.FDownRefIdeal.nD Cert.FDownRefIdeal.τ).loc Cert.FDownRefIdeal.main_arg1) = m ((c.tc : Thread Cert.FDownIdeal.nD Cert.FDownIdeal.τ).loc Cert.FDownIdeal.main_arg1)
      ∧ m' ((c.tc : Thread Cert.FDownRefIdeal.nD Cert.FDownRefIdeal.τ).loc Cert.FDownRefIdeal.main_arg2) = m ((c.tc : Thread Cert.FDownIdeal.nD Cert.FDownIdeal.τ).loc Cert.FDownIdeal.main_arg2)) →
    ∃ (v0 : (c : Dev Cert.FDownIdeal.nD) → Buf (Elt Ideal) ((c.tc : Thread Cert.FDownIdeal.nD Cert.FDownIdeal.τ).loc Cert.FDownIdeal.main_v2)),
      θ_run (Cert.FDownIdeal.defs (F := Ideal)) (onTc (τ := Cert.FDownIdeal.τ) (Cert.FDownIdeal.main (F := Ideal))) ⟨m, fun _ => 0, g⟩ (fun r => ∀ c : Dev Cert.FDownIdeal.nD,
          r.2.mem ((c.tc : Thread Cert.FDownIdeal.nD Cert.FDownIdeal.τ).loc Cert.FDownIdeal.main_v2) = v0 c
          ∧ r.2.mem ((c.tc : Thread Cert.FDownIdeal.nD Cert.FDownIdeal.τ).loc Cert.FDownIdeal.main_arg0) = m ((c.tc : Thread Cert.FDownIdeal.nD Cert.FDownIdeal.τ).loc Cert.FDownIdeal.main_arg0)
          ∧ r.2.mem ((c.tc : Thread Cert.FDownIdeal.nD Cert.FDownIdeal.τ).loc Cert.FDownIdeal.main_arg1) = m ((c.tc : Thread Cert.FDownIdeal.nD Cert.FDownIdeal.τ).loc Cert.FDownIdeal.main_arg1)
          ∧ r.2.mem ((c.tc : Thread Cert.FDownIdeal.nD Cert.FDownIdeal.τ).loc Cert.FDownIdeal.main_arg2) = m ((c.tc : Thread Cert.FDownIdeal.nD Cert.FDownIdeal.τ).loc Cert.FDownIdeal.main_arg2))
      ∧ θ_run (Cert.FDownRefIdeal.defs (F := Ideal)) (onTc (τ := Cert.FDownRefIdeal.τ) (Cert.FDownRefIdeal.main (F := Ideal))) ⟨m', fun _ => 0, g'⟩ (fun r => ∀ c : Dev Cert.FDownRefIdeal.nD,
          r.2.mem ((c.tc : Thread Cert.FDownRefIdeal.nD Cert.FDownRefIdeal.τ).loc Cert.FDownRefIdeal.main_v3) = v0 c
          ∧ r.2.mem ((c.tc : Thread Cert.FDownRefIdeal.nD Cert.FDownRefIdeal.τ).loc Cert.FDownRefIdeal.main_arg0) = m' ((c.tc : Thread Cert.FDownRefIdeal.nD Cert.FDownRefIdeal.τ).loc Cert.FDownRefIdeal.main_arg0)
          ∧ r.2.mem ((c.tc : Thread Cert.FDownRefIdeal.nD Cert.FDownRefIdeal.τ).loc Cert.FDownRefIdeal.main_arg1) = m' ((c.tc : Thread Cert.FDownRefIdeal.nD Cert.FDownRefIdeal.τ).loc Cert.FDownRefIdeal.main_arg1)
          ∧ r.2.mem ((c.tc : Thread Cert.FDownRefIdeal.nD Cert.FDownRefIdeal.τ).loc Cert.FDownRefIdeal.main_arg2) = m' ((c.tc : Thread Cert.FDownRefIdeal.nD Cert.FDownRefIdeal.τ).loc Cert.FDownRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v3) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def preserves_GOut_GOutIdeal : Prop :=
  True

def algebraic_GOutIdeal_GOutRefIdeal [hGOutIdeal : Cert.GOutIdeal.Facts] [hGOutRefIdeal : Cert.GOutRefIdeal.Facts] : Prop :=
  ∀ (m : (ℓ : Loc Cert.GOutIdeal.nD Cert.GOutIdeal.τ Cert.GOutIdeal.sig) → Buf (Elt Ideal) ℓ) (g : Dev Cert.GOutIdeal.nD → PrngReg)
    (m' : (ℓ : Loc Cert.GOutRefIdeal.nD Cert.GOutRefIdeal.τ Cert.GOutRefIdeal.sig) → Buf (Elt Ideal) ℓ) (g' : Dev Cert.GOutRefIdeal.nD → PrngReg), Pre_GOutIdeal m →
    (∀ c : Dev Cert.GOutIdeal.nD,
      m' ((c.tc : Thread Cert.GOutRefIdeal.nD Cert.GOutRefIdeal.τ).loc Cert.GOutRefIdeal.main_arg0) = m ((c.tc : Thread Cert.GOutIdeal.nD Cert.GOutIdeal.τ).loc Cert.GOutIdeal.main_arg0)
      ∧ m' ((c.tc : Thread Cert.GOutRefIdeal.nD Cert.GOutRefIdeal.τ).loc Cert.GOutRefIdeal.main_arg1) = m ((c.tc : Thread Cert.GOutIdeal.nD Cert.GOutIdeal.τ).loc Cert.GOutIdeal.main_arg1)
      ∧ m' ((c.tc : Thread Cert.GOutRefIdeal.nD Cert.GOutRefIdeal.τ).loc Cert.GOutRefIdeal.main_arg2) = m ((c.tc : Thread Cert.GOutIdeal.nD Cert.GOutIdeal.τ).loc Cert.GOutIdeal.main_arg2)) →
    ∃ (v0 : (c : Dev Cert.GOutIdeal.nD) → Buf (Elt Ideal) ((c.tc : Thread Cert.GOutIdeal.nD Cert.GOutIdeal.τ).loc Cert.GOutIdeal.main_v2)),
      θ_run (Cert.GOutIdeal.defs (F := Ideal)) (onTc (τ := Cert.GOutIdeal.τ) (Cert.GOutIdeal.main (F := Ideal))) ⟨m, fun _ => 0, g⟩ (fun r => ∀ c : Dev Cert.GOutIdeal.nD,
          r.2.mem ((c.tc : Thread Cert.GOutIdeal.nD Cert.GOutIdeal.τ).loc Cert.GOutIdeal.main_v2) = v0 c
          ∧ r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
          ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1)
          ∧ r.2.mem ((c.tc : Thread Cert.GOutIdeal.nD Cert.GOutIdeal.τ).loc Cert.GOutIdeal.main_arg2) = m ((c.tc : Thread Cert.GOutIdeal.nD Cert.GOutIdeal.τ).loc Cert.GOutIdeal.main_arg2))
      ∧ θ_run (Cert.GOutRefIdeal.defs (F := Ideal)) (onTc (τ := Cert.GOutRefIdeal.τ) (Cert.GOutRefIdeal.main (F := Ideal))) ⟨m', fun _ => 0, g'⟩ (fun r => ∀ c : Dev Cert.GOutRefIdeal.nD,
          r.2.mem ((c.tc : Thread Cert.GOutRefIdeal.nD Cert.GOutRefIdeal.τ).loc Cert.GOutRefIdeal.main_v4) = v0 c
          ∧ r.2.mem ((c.tc : Thread Cert.GOutRefIdeal.nD Cert.GOutRefIdeal.τ).loc Cert.GOutRefIdeal.main_arg0) = m' ((c.tc : Thread Cert.GOutRefIdeal.nD Cert.GOutRefIdeal.τ).loc Cert.GOutRefIdeal.main_arg0)
          ∧ r.2.mem ((c.tc : Thread Cert.GOutRefIdeal.nD Cert.GOutRefIdeal.τ).loc Cert.GOutRefIdeal.main_arg1) = m' ((c.tc : Thread Cert.GOutRefIdeal.nD Cert.GOutRefIdeal.τ).loc Cert.GOutRefIdeal.main_arg1)
          ∧ r.2.mem ((c.tc : Thread Cert.GOutRefIdeal.nD Cert.GOutRefIdeal.τ).loc Cert.GOutRefIdeal.main_arg2) = m' ((c.tc : Thread Cert.GOutRefIdeal.nD Cert.GOutRefIdeal.τ).loc Cert.GOutRefIdeal.main_arg2))

def preserves_DCat_DCatIdeal : Prop :=
  True

def algebraic_DCatIdeal_DCatRefIdeal [hDCatIdeal : Cert.DCatIdeal.Facts] [hDCatRefIdeal : Cert.DCatRefIdeal.Facts] : Prop :=
  ∀ (m : (ℓ : Loc Cert.DCatIdeal.nD Cert.DCatIdeal.τ Cert.DCatIdeal.sig) → Buf (Elt Ideal) ℓ) (g : Dev Cert.DCatIdeal.nD → PrngReg)
    (m' : (ℓ : Loc Cert.DCatRefIdeal.nD Cert.DCatRefIdeal.τ Cert.DCatRefIdeal.sig) → Buf (Elt Ideal) ℓ) (g' : Dev Cert.DCatRefIdeal.nD → PrngReg), Pre_DCatIdeal m →
    (∀ c : Dev Cert.DCatIdeal.nD,
      m' ((c.tc : Thread Cert.DCatRefIdeal.nD Cert.DCatRefIdeal.τ).loc Cert.DCatRefIdeal.main_arg0) = m ((c.tc : Thread Cert.DCatIdeal.nD Cert.DCatIdeal.τ).loc Cert.DCatIdeal.main_arg0)
      ∧ m' ((c.tc : Thread Cert.DCatRefIdeal.nD Cert.DCatRefIdeal.τ).loc Cert.DCatRefIdeal.main_arg1) = m ((c.tc : Thread Cert.DCatIdeal.nD Cert.DCatIdeal.τ).loc Cert.DCatIdeal.main_arg1)
      ∧ m' ((c.tc : Thread Cert.DCatRefIdeal.nD Cert.DCatRefIdeal.τ).loc Cert.DCatRefIdeal.main_arg2) = m ((c.tc : Thread Cert.DCatIdeal.nD Cert.DCatIdeal.τ).loc Cert.DCatIdeal.main_arg2)) →
    ∃ (v0 : (c : Dev Cert.DCatIdeal.nD) → Buf (Elt Ideal) ((c.tc : Thread Cert.DCatIdeal.nD Cert.DCatIdeal.τ).loc Cert.DCatIdeal.main_v2)),
      θ_run (Cert.DCatIdeal.defs (F := Ideal)) (onTc (τ := Cert.DCatIdeal.τ) (Cert.DCatIdeal.main (F := Ideal))) ⟨m, fun _ => 0, g⟩ (fun r => ∀ c : Dev Cert.DCatIdeal.nD,
          r.2.mem ((c.tc : Thread Cert.DCatIdeal.nD Cert.DCatIdeal.τ).loc Cert.DCatIdeal.main_v2) = v0 c
          ∧ r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
          ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1)
          ∧ r.2.mem ((c.tc : Thread Cert.DCatIdeal.nD Cert.DCatIdeal.τ).loc Cert.DCatIdeal.main_arg2) = m ((c.tc : Thread Cert.DCatIdeal.nD Cert.DCatIdeal.τ).loc Cert.DCatIdeal.main_arg2))
      ∧ θ_run (Cert.DCatRefIdeal.defs (F := Ideal)) (onTc (τ := Cert.DCatRefIdeal.τ) (Cert.DCatRefIdeal.main (F := Ideal))) ⟨m', fun _ => 0, g'⟩ (fun r => ∀ c : Dev Cert.DCatRefIdeal.nD,
          r.2.mem ((c.tc : Thread Cert.DCatRefIdeal.nD Cert.DCatRefIdeal.τ).loc Cert.DCatRefIdeal.main_v3) = v0 c
          ∧ r.2.mem ((c.tc : Thread Cert.DCatRefIdeal.nD Cert.DCatRefIdeal.τ).loc Cert.DCatRefIdeal.main_arg0) = m' ((c.tc : Thread Cert.DCatRefIdeal.nD Cert.DCatRefIdeal.τ).loc Cert.DCatRefIdeal.main_arg0)
          ∧ r.2.mem ((c.tc : Thread Cert.DCatRefIdeal.nD Cert.DCatRefIdeal.τ).loc Cert.DCatRefIdeal.main_arg1) = m' ((c.tc : Thread Cert.DCatRefIdeal.nD Cert.DCatRefIdeal.τ).loc Cert.DCatRefIdeal.main_arg1)
          ∧ r.2.mem ((c.tc : Thread Cert.DCatRefIdeal.nD Cert.DCatRefIdeal.τ).loc Cert.DCatRefIdeal.main_arg2) = m' ((c.tc : Thread Cert.DCatRefIdeal.nD Cert.DCatRefIdeal.τ).loc Cert.DCatRefIdeal.main_arg2))

def preserves_PSb_PSbIdeal : Prop :=
  True

def algebraic_PSbIdeal_PSbRefIdeal [hPSbIdeal : Cert.PSbIdeal.Facts] [hPSbRefIdeal : Cert.PSbRefIdeal.Facts] : Prop :=
  ∀ (m : (ℓ : Loc Cert.PSbIdeal.nD Cert.PSbIdeal.τ Cert.PSbIdeal.sig) → Buf (Elt Ideal) ℓ) (g : Dev Cert.PSbIdeal.nD → PrngReg)
    (m' : (ℓ : Loc Cert.PSbRefIdeal.nD Cert.PSbRefIdeal.τ Cert.PSbRefIdeal.sig) → Buf (Elt Ideal) ℓ) (g' : Dev Cert.PSbRefIdeal.nD → PrngReg), Pre_PSbIdeal m →
    (∀ c : Dev Cert.PSbIdeal.nD,
      m' ((c.tc : Thread Cert.PSbRefIdeal.nD Cert.PSbRefIdeal.τ).loc Cert.PSbRefIdeal.main_arg0) = m ((c.tc : Thread Cert.PSbIdeal.nD Cert.PSbIdeal.τ).loc Cert.PSbIdeal.main_arg0)
      ∧ m' ((c.tc : Thread Cert.PSbRefIdeal.nD Cert.PSbRefIdeal.τ).loc Cert.PSbRefIdeal.main_arg1) = m ((c.tc : Thread Cert.PSbIdeal.nD Cert.PSbIdeal.τ).loc Cert.PSbIdeal.main_arg1)) →
    ∃ (v0 : (c : Dev Cert.PSbIdeal.nD) → Buf (Elt Ideal) ((c.tc : Thread Cert.PSbIdeal.nD Cert.PSbIdeal.τ).loc Cert.PSbIdeal.main_v2)),
      θ_run (Cert.PSbIdeal.defs (F := Ideal)) (onTc (τ := Cert.PSbIdeal.τ) (Cert.PSbIdeal.main (F := Ideal))) ⟨m, fun _ => 0, g⟩ (fun r => ∀ c : Dev Cert.PSbIdeal.nD,
          r.2.mem ((c.tc : Thread Cert.PSbIdeal.nD Cert.PSbIdeal.τ).loc Cert.PSbIdeal.main_v2) = v0 c
          ∧ r.2.mem ((c.tc : Thread Cert.PSbIdeal.nD Cert.PSbIdeal.τ).loc Cert.PSbIdeal.main_arg0) = m ((c.tc : Thread Cert.PSbIdeal.nD Cert.PSbIdeal.τ).loc Cert.PSbIdeal.main_arg0)
          ∧ r.2.mem ((c.tc : Thread Cert.PSbIdeal.nD Cert.PSbIdeal.τ).loc Cert.PSbIdeal.main_arg1) = m ((c.tc : Thread Cert.PSbIdeal.nD Cert.PSbIdeal.τ).loc Cert.PSbIdeal.main_arg1))
      ∧ θ_run (Cert.PSbRefIdeal.defs (F := Ideal)) (onTc (τ := Cert.PSbRefIdeal.τ) (Cert.PSbRefIdeal.main (F := Ideal))) ⟨m', fun _ => 0, g'⟩ (fun r => ∀ c : Dev Cert.PSbRefIdeal.nD,
          r.2.mem ((c.tc : Thread Cert.PSbRefIdeal.nD Cert.PSbRefIdeal.τ).loc Cert.PSbRefIdeal.main_v1) = v0 c
          ∧ r.2.mem ((c.tc : Thread Cert.PSbRefIdeal.nD Cert.PSbRefIdeal.τ).loc Cert.PSbRefIdeal.main_arg0) = m' ((c.tc : Thread Cert.PSbRefIdeal.nD Cert.PSbRefIdeal.τ).loc Cert.PSbRefIdeal.main_arg0)
          ∧ r.2.mem ((c.tc : Thread Cert.PSbRefIdeal.nD Cert.PSbRefIdeal.τ).loc Cert.PSbRefIdeal.main_arg1) = m' ((c.tc : Thread Cert.PSbRefIdeal.nD Cert.PSbRefIdeal.τ).loc Cert.PSbRefIdeal.main_arg1))

def preserves_PGla_PGlaIdeal : Prop :=
  True

def algebraic_PGlaIdeal_PGlaRefIdeal [hPGlaIdeal : Cert.PGlaIdeal.Facts] [hPGlaRefIdeal : Cert.PGlaRefIdeal.Facts] : Prop :=
  ∀ (m : (ℓ : Loc Cert.PGlaIdeal.nD Cert.PGlaIdeal.τ Cert.PGlaIdeal.sig) → Buf (Elt Ideal) ℓ) (g : Dev Cert.PGlaIdeal.nD → PrngReg)
    (m' : (ℓ : Loc Cert.PGlaRefIdeal.nD Cert.PGlaRefIdeal.τ Cert.PGlaRefIdeal.sig) → Buf (Elt Ideal) ℓ) (g' : Dev Cert.PGlaRefIdeal.nD → PrngReg), Pre_PGlaIdeal m →
    (∀ c : Dev Cert.PGlaIdeal.nD,
      m' ((c.tc : Thread Cert.PGlaRefIdeal.nD Cert.PGlaRefIdeal.τ).loc Cert.PGlaRefIdeal.main_arg0) = m ((c.tc : Thread Cert.PGlaIdeal.nD Cert.PGlaIdeal.τ).loc Cert.PGlaIdeal.main_arg0)
      ∧ m' ((c.tc : Thread Cert.PGlaRefIdeal.nD Cert.PGlaRefIdeal.τ).loc Cert.PGlaRefIdeal.main_arg1) = m ((c.tc : Thread Cert.PGlaIdeal.nD Cert.PGlaIdeal.τ).loc Cert.PGlaIdeal.main_arg1)) →
    ∃ (v0 : (c : Dev Cert.PGlaIdeal.nD) → Buf (Elt Ideal) ((c.tc : Thread Cert.PGlaIdeal.nD Cert.PGlaIdeal.τ).loc Cert.PGlaIdeal.main_v2)),
      θ_run (Cert.PGlaIdeal.defs (F := Ideal)) (onTc (τ := Cert.PGlaIdeal.τ) (Cert.PGlaIdeal.main (F := Ideal))) ⟨m, fun _ => 0, g⟩ (fun r => ∀ c : Dev Cert.PGlaIdeal.nD,
          r.2.mem ((c.tc : Thread Cert.PGlaIdeal.nD Cert.PGlaIdeal.τ).loc Cert.PGlaIdeal.main_v2) = v0 c
          ∧ r.2.mem ((c.tc : Thread Cert.PGlaIdeal.nD Cert.PGlaIdeal.τ).loc Cert.PGlaIdeal.main_arg0) = m ((c.tc : Thread Cert.PGlaIdeal.nD Cert.PGlaIdeal.τ).loc Cert.PGlaIdeal.main_arg0)
          ∧ r.2.mem ((c.tc : Thread Cert.PGlaIdeal.nD Cert.PGlaIdeal.τ).loc Cert.PGlaIdeal.main_arg1) = m ((c.tc : Thread Cert.PGlaIdeal.nD Cert.PGlaIdeal.τ).loc Cert.PGlaIdeal.main_arg1))
      ∧ θ_run (Cert.PGlaRefIdeal.defs (F := Ideal)) (onTc (τ := Cert.PGlaRefIdeal.τ) (Cert.PGlaRefIdeal.main (F := Ideal))) ⟨m', fun _ => 0, g'⟩ (fun r => ∀ c : Dev Cert.PGlaRefIdeal.nD,
          r.2.mem ((c.tc : Thread Cert.PGlaRefIdeal.nD Cert.PGlaRefIdeal.τ).loc Cert.PGlaRefIdeal.main_v0) = v0 c
          ∧ r.2.mem ((c.tc : Thread Cert.PGlaRefIdeal.nD Cert.PGlaRefIdeal.τ).loc Cert.PGlaRefIdeal.main_arg0) = m' ((c.tc : Thread Cert.PGlaRefIdeal.nD Cert.PGlaRefIdeal.τ).loc Cert.PGlaRefIdeal.main_arg0)
          ∧ r.2.mem ((c.tc : Thread Cert.PGlaRefIdeal.nD Cert.PGlaRefIdeal.τ).loc Cert.PGlaRefIdeal.main_arg1) = m' ((c.tc : Thread Cert.PGlaRefIdeal.nD Cert.PGlaRefIdeal.τ).loc Cert.PGlaRefIdeal.main_arg1))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)
      ∧ m' ((c.tc : Thread Cert.AInRefIdeal.nD Cert.AInRefIdeal.τ).loc Cert.AInRefIdeal.main_arg2) = m ((c.tc : Thread Cert.AInIdeal.nD Cert.AInIdeal.τ).loc Cert.AInIdeal.main_arg2)
      ∧ m' ((c.tc : Thread Cert.AInRefIdeal.nD Cert.AInRefIdeal.τ).loc Cert.AInRefIdeal.main_arg3) = m ((c.tc : Thread Cert.AInIdeal.nD Cert.AInIdeal.τ).loc Cert.AInIdeal.main_arg3)) →
    ∃ (v0 : (c : Dev Cert.AInIdeal.nD) → Buf (Elt Ideal) ((c.tc : Thread Cert.AInIdeal.nD Cert.AInIdeal.τ).loc Cert.AInIdeal.main_v0_0)) (v1 : (c : Dev Cert.AInIdeal.nD) → Buf (Elt Ideal) ((c.tc : Thread Cert.AInIdeal.nD Cert.AInIdeal.τ).loc Cert.AInIdeal.main_v0_1)) (v2 : (c : Dev Cert.AInIdeal.nD) → Buf (Elt Ideal) ((c.tc : Thread Cert.AInIdeal.nD Cert.AInIdeal.τ).loc Cert.AInIdeal.main_v0_2)) (v3 : (c : Dev Cert.AInIdeal.nD) → Buf (Elt Ideal) ((c.tc : Thread Cert.AInIdeal.nD Cert.AInIdeal.τ).loc Cert.AInIdeal.main_v0_3)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v0_0) = v0 c
          ∧ r.2.mem ((c.tc : Thread Cert.AInIdeal.nD Cert.AInIdeal.τ).loc Cert.AInIdeal.main_v0_1) = v1 c
          ∧ r.2.mem ((c.tc : Thread Cert.AInIdeal.nD Cert.AInIdeal.τ).loc Cert.AInIdeal.main_v0_2) = v2 c
          ∧ r.2.mem ((c.tc : Thread Cert.AInIdeal.nD Cert.AInIdeal.τ).loc Cert.AInIdeal.main_v0_3) = v3 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
          ∧ r.2.mem ((c.tc : Thread Cert.AInIdeal.nD Cert.AInIdeal.τ).loc Cert.AInIdeal.main_arg2) = m ((c.tc : Thread Cert.AInIdeal.nD Cert.AInIdeal.τ).loc Cert.AInIdeal.main_arg2)
          ∧ r.2.mem ((c.tc : Thread Cert.AInIdeal.nD Cert.AInIdeal.τ).loc Cert.AInIdeal.main_arg3) = m ((c.tc : Thread Cert.AInIdeal.nD Cert.AInIdeal.τ).loc Cert.AInIdeal.main_arg3))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v1) = v0 c
          ∧ r.2.mem ((c.tc : Thread Cert.AInRefIdeal.nD Cert.AInRefIdeal.τ).loc Cert.AInRefIdeal.main_v25) = v1 c
          ∧ r.2.mem ((c.tc : Thread Cert.AInRefIdeal.nD Cert.AInRefIdeal.τ).loc Cert.AInRefIdeal.main_v6) = v2 c
          ∧ r.2.mem ((c.tc : Thread Cert.AInRefIdeal.nD Cert.AInRefIdeal.τ).loc Cert.AInRefIdeal.main_v12) = v3 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1)
          ∧ r.2.mem ((c.tc : Thread Cert.AInRefIdeal.nD Cert.AInRefIdeal.τ).loc Cert.AInRefIdeal.main_arg2) = m' ((c.tc : Thread Cert.AInRefIdeal.nD Cert.AInRefIdeal.τ).loc Cert.AInRefIdeal.main_arg2)
          ∧ r.2.mem ((c.tc : Thread Cert.AInRefIdeal.nD Cert.AInRefIdeal.τ).loc Cert.AInRefIdeal.main_arg3) = m' ((c.tc : Thread Cert.AInRefIdeal.nD Cert.AInRefIdeal.τ).loc Cert.AInRefIdeal.main_arg3))

def preserves_AOut_AOutIdeal : Prop :=
  True

def algebraic_AOutIdeal_AOutRefIdeal [hAOutIdeal : Cert.AOutIdeal.Facts] [hAOutRefIdeal : Cert.AOutRefIdeal.Facts] : Prop :=
  ∀ (m : (ℓ : Loc Cert.AOutIdeal.nD Cert.AOutIdeal.τ Cert.AOutIdeal.sig) → Buf (Elt Ideal) ℓ) (g : Dev Cert.AOutIdeal.nD → PrngReg)
    (m' : (ℓ : Loc Cert.AOutRefIdeal.nD Cert.AOutRefIdeal.τ Cert.AOutRefIdeal.sig) → Buf (Elt Ideal) ℓ) (g' : Dev Cert.AOutRefIdeal.nD → PrngReg), Pre_AOutIdeal m →
    (∀ c : Dev Cert.AOutIdeal.nD,
      m' ((c.tc : Thread Cert.AOutRefIdeal.nD Cert.AOutRefIdeal.τ).loc Cert.AOutRefIdeal.main_arg0) = m ((c.tc : Thread Cert.AOutIdeal.nD Cert.AOutIdeal.τ).loc Cert.AOutIdeal.main_arg0)
      ∧ m' ((c.tc : Thread Cert.AOutRefIdeal.nD Cert.AOutRefIdeal.τ).loc Cert.AOutRefIdeal.main_arg1) = m ((c.tc : Thread Cert.AOutIdeal.nD Cert.AOutIdeal.τ).loc Cert.AOutIdeal.main_arg1)
      ∧ m' ((c.tc : Thread Cert.AOutRefIdeal.nD Cert.AOutRefIdeal.τ).loc Cert.AOutRefIdeal.main_arg2) = m ((c.tc : Thread Cert.AOutIdeal.nD Cert.AOutIdeal.τ).loc Cert.AOutIdeal.main_arg2)
      ∧ m' ((c.tc : Thread Cert.AOutRefIdeal.nD Cert.AOutRefIdeal.τ).loc Cert.AOutRefIdeal.main_arg3) = m ((c.tc : Thread Cert.AOutIdeal.nD Cert.AOutIdeal.τ).loc Cert.AOutIdeal.main_arg3)) →
    ∃ (v0 : (c : Dev Cert.AOutIdeal.nD) → Buf (Elt Ideal) ((c.tc : Thread Cert.AOutIdeal.nD Cert.AOutIdeal.τ).loc Cert.AOutIdeal.main_v0_0)) (v1 : (c : Dev Cert.AOutIdeal.nD) → Buf (Elt Ideal) ((c.tc : Thread Cert.AOutIdeal.nD Cert.AOutIdeal.τ).loc Cert.AOutIdeal.main_v0_1)) (v2 : (c : Dev Cert.AOutIdeal.nD) → Buf (Elt Ideal) ((c.tc : Thread Cert.AOutIdeal.nD Cert.AOutIdeal.τ).loc Cert.AOutIdeal.main_v0_2)) (v3 : (c : Dev Cert.AOutIdeal.nD) → Buf (Elt Ideal) ((c.tc : Thread Cert.AOutIdeal.nD Cert.AOutIdeal.τ).loc Cert.AOutIdeal.main_v0_3)),
      θ_run (Cert.AOutIdeal.defs (F := Ideal)) (onTc (τ := Cert.AOutIdeal.τ) (Cert.AOutIdeal.main (F := Ideal))) ⟨m, fun _ => 0, g⟩ (fun r => ∀ c : Dev Cert.AOutIdeal.nD,
          r.2.mem ((c.tc : Thread Cert.AOutIdeal.nD Cert.AOutIdeal.τ).loc Cert.AOutIdeal.main_v0_0) = v0 c
          ∧ r.2.mem ((c.tc : Thread Cert.AOutIdeal.nD Cert.AOutIdeal.τ).loc Cert.AOutIdeal.main_v0_1) = v1 c
          ∧ r.2.mem ((c.tc : Thread Cert.AOutIdeal.nD Cert.AOutIdeal.τ).loc Cert.AOutIdeal.main_v0_2) = v2 c
          ∧ r.2.mem ((c.tc : Thread Cert.AOutIdeal.nD Cert.AOutIdeal.τ).loc Cert.AOutIdeal.main_v0_3) = v3 c
          ∧ r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
          ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
          ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2)
          ∧ r.2.mem ((c.tc : Thread Cert.AOutIdeal.nD Cert.AOutIdeal.τ).loc Cert.AOutIdeal.main_arg3) = m ((c.tc : Thread Cert.AOutIdeal.nD Cert.AOutIdeal.τ).loc Cert.AOutIdeal.main_arg3))
      ∧ θ_run (Cert.AOutRefIdeal.defs (F := Ideal)) (onTc (τ := Cert.AOutRefIdeal.τ) (Cert.AOutRefIdeal.main (F := Ideal))) ⟨m', fun _ => 0, g'⟩ (fun r => ∀ c : Dev Cert.AOutRefIdeal.nD,
          r.2.mem ((c.tc : Thread Cert.AOutRefIdeal.nD Cert.AOutRefIdeal.τ).loc Cert.AOutRefIdeal.main_v1) = v0 c
          ∧ r.2.mem ((c.tc : Thread Cert.AOutRefIdeal.nD Cert.AOutRefIdeal.τ).loc Cert.AOutRefIdeal.main_v25) = v1 c
          ∧ r.2.mem ((c.tc : Thread Cert.AOutRefIdeal.nD Cert.AOutRefIdeal.τ).loc Cert.AOutRefIdeal.main_v6) = v2 c
          ∧ r.2.mem ((c.tc : Thread Cert.AOutRefIdeal.nD Cert.AOutRefIdeal.τ).loc Cert.AOutRefIdeal.main_v12) = v3 c
          ∧ r.2.mem ((c.tc : Thread Cert.AOutRefIdeal.nD Cert.AOutRefIdeal.τ).loc Cert.AOutRefIdeal.main_arg0) = m' ((c.tc : Thread Cert.AOutRefIdeal.nD Cert.AOutRefIdeal.τ).loc Cert.AOutRefIdeal.main_arg0)
          ∧ r.2.mem ((c.tc : Thread Cert.AOutRefIdeal.nD Cert.AOutRefIdeal.τ).loc Cert.AOutRefIdeal.main_arg1) = m' ((c.tc : Thread Cert.AOutRefIdeal.nD Cert.AOutRefIdeal.τ).loc Cert.AOutRefIdeal.main_arg1)
          ∧ r.2.mem ((c.tc : Thread Cert.AOutRefIdeal.nD Cert.AOutRefIdeal.τ).loc Cert.AOutRefIdeal.main_arg2) = m' ((c.tc : Thread Cert.AOutRefIdeal.nD Cert.AOutRefIdeal.τ).loc Cert.AOutRefIdeal.main_arg2)
          ∧ r.2.mem ((c.tc : Thread Cert.AOutRefIdeal.nD Cert.AOutRefIdeal.τ).loc Cert.AOutRefIdeal.main_arg3) = m' ((c.tc : Thread Cert.AOutRefIdeal.nD Cert.AOutRefIdeal.τ).loc Cert.AOutRefIdeal.main_arg3))

def preserves_AUp_AUpIdeal : Prop :=
  True

def algebraic_AUpIdeal_AUpRefIdeal [hAUpIdeal : Cert.AUpIdeal.Facts] [hAUpRefIdeal : Cert.AUpRefIdeal.Facts] : Prop :=
  ∀ (m : (ℓ : Loc Cert.AUpIdeal.nD Cert.AUpIdeal.τ Cert.AUpIdeal.sig) → Buf (Elt Ideal) ℓ) (g : Dev Cert.AUpIdeal.nD → PrngReg)
    (m' : (ℓ : Loc Cert.AUpRefIdeal.nD Cert.AUpRefIdeal.τ Cert.AUpRefIdeal.sig) → Buf (Elt Ideal) ℓ) (g' : Dev Cert.AUpRefIdeal.nD → PrngReg), Pre_AUpIdeal m →
    (∀ c : Dev Cert.AUpIdeal.nD,
      m' ((c.tc : Thread Cert.AUpRefIdeal.nD Cert.AUpRefIdeal.τ).loc Cert.AUpRefIdeal.main_arg0) = m ((c.tc : Thread Cert.AUpIdeal.nD Cert.AUpIdeal.τ).loc Cert.AUpIdeal.main_arg0)
      ∧ m' ((c.tc : Thread Cert.AUpRefIdeal.nD Cert.AUpRefIdeal.τ).loc Cert.AUpRefIdeal.main_arg1) = m ((c.tc : Thread Cert.AUpIdeal.nD Cert.AUpIdeal.τ).loc Cert.AUpIdeal.main_arg1)
      ∧ m' ((c.tc : Thread Cert.AUpRefIdeal.nD Cert.AUpRefIdeal.τ).loc Cert.AUpRefIdeal.main_arg2) = m ((c.tc : Thread Cert.AUpIdeal.nD Cert.AUpIdeal.τ).loc Cert.AUpIdeal.main_arg2)
      ∧ m' ((c.tc : Thread Cert.AUpRefIdeal.nD Cert.AUpRefIdeal.τ).loc Cert.AUpRefIdeal.main_arg3) = m ((c.tc : Thread Cert.AUpIdeal.nD Cert.AUpIdeal.τ).loc Cert.AUpIdeal.main_arg3)) →
    ∃ (v0 : (c : Dev Cert.AUpIdeal.nD) → Buf (Elt Ideal) ((c.tc : Thread Cert.AUpIdeal.nD Cert.AUpIdeal.τ).loc Cert.AUpIdeal.main_v0_0)) (v1 : (c : Dev Cert.AUpIdeal.nD) → Buf (Elt Ideal) ((c.tc : Thread Cert.AUpIdeal.nD Cert.AUpIdeal.τ).loc Cert.AUpIdeal.main_v0_1)) (v2 : (c : Dev Cert.AUpIdeal.nD) → Buf (Elt Ideal) ((c.tc : Thread Cert.AUpIdeal.nD Cert.AUpIdeal.τ).loc Cert.AUpIdeal.main_v0_2)) (v3 : (c : Dev Cert.AUpIdeal.nD) → Buf (Elt Ideal) ((c.tc : Thread Cert.AUpIdeal.nD Cert.AUpIdeal.τ).loc Cert.AUpIdeal.main_v0_3)),
      θ_run (Cert.AUpIdeal.defs (F := Ideal)) (onTc (τ := Cert.AUpIdeal.τ) (Cert.AUpIdeal.main (F := Ideal))) ⟨m, fun _ => 0, g⟩ (fun r => ∀ c : Dev Cert.AUpIdeal.nD,
          r.2.mem ((c.tc : Thread Cert.AUpIdeal.nD Cert.AUpIdeal.τ).loc Cert.AUpIdeal.main_v0_0) = v0 c
          ∧ r.2.mem ((c.tc : Thread Cert.AUpIdeal.nD Cert.AUpIdeal.τ).loc Cert.AUpIdeal.main_v0_1) = v1 c
          ∧ r.2.mem ((c.tc : Thread Cert.AUpIdeal.nD Cert.AUpIdeal.τ).loc Cert.AUpIdeal.main_v0_2) = v2 c
          ∧ r.2.mem ((c.tc : Thread Cert.AUpIdeal.nD Cert.AUpIdeal.τ).loc Cert.AUpIdeal.main_v0_3) = v3 c
          ∧ r.2.mem ((c.tc : Thread Cert.AUpIdeal.nD Cert.AUpIdeal.τ).loc Cert.AUpIdeal.main_arg0) = m ((c.tc : Thread Cert.AUpIdeal.nD Cert.AUpIdeal.τ).loc Cert.AUpIdeal.main_arg0)
          ∧ r.2.mem ((c.tc : Thread Cert.AUpIdeal.nD Cert.AUpIdeal.τ).loc Cert.AUpIdeal.main_arg1) = m ((c.tc : Thread Cert.AUpIdeal.nD Cert.AUpIdeal.τ).loc Cert.AUpIdeal.main_arg1)
          ∧ r.2.mem ((c.tc : Thread Cert.AUpIdeal.nD Cert.AUpIdeal.τ).loc Cert.AUpIdeal.main_arg2) = m ((c.tc : Thread Cert.AUpIdeal.nD Cert.AUpIdeal.τ).loc Cert.AUpIdeal.main_arg2)
          ∧ r.2.mem ((c.tc : Thread Cert.AUpIdeal.nD Cert.AUpIdeal.τ).loc Cert.AUpIdeal.main_arg3) = m ((c.tc : Thread Cert.AUpIdeal.nD Cert.AUpIdeal.τ).loc Cert.AUpIdeal.main_arg3))
      ∧ θ_run (Cert.AUpRefIdeal.defs (F := Ideal)) (onTc (τ := Cert.AUpRefIdeal.τ) (Cert.AUpRefIdeal.main (F := Ideal))) ⟨m', fun _ => 0, g'⟩ (fun r => ∀ c : Dev Cert.AUpRefIdeal.nD,
          r.2.mem ((c.tc : Thread Cert.AUpRefIdeal.nD Cert.AUpRefIdeal.τ).loc Cert.AUpRefIdeal.main_v1) = v0 c
          ∧ r.2.mem ((c.tc : Thread Cert.AUpRefIdeal.nD Cert.AUpRefIdeal.τ).loc Cert.AUpRefIdeal.main_v25) = v1 c
          ∧ r.2.mem ((c.tc : Thread Cert.AUpRefIdeal.nD Cert.AUpRefIdeal.τ).loc Cert.AUpRefIdeal.main_v6) = v2 c
          ∧ r.2.mem ((c.tc : Thread Cert.AUpRefIdeal.nD Cert.AUpRefIdeal.τ).loc Cert.AUpRefIdeal.main_v12) = v3 c
          ∧ r.2.mem ((c.tc : Thread Cert.AUpRefIdeal.nD Cert.AUpRefIdeal.τ).loc Cert.AUpRefIdeal.main_arg0) = m' ((c.tc : Thread Cert.AUpRefIdeal.nD Cert.AUpRefIdeal.τ).loc Cert.AUpRefIdeal.main_arg0)
          ∧ r.2.mem ((c.tc : Thread Cert.AUpRefIdeal.nD Cert.AUpRefIdeal.τ).loc Cert.AUpRefIdeal.main_arg1) = m' ((c.tc : Thread Cert.AUpRefIdeal.nD Cert.AUpRefIdeal.τ).loc Cert.AUpRefIdeal.main_arg1)
          ∧ r.2.mem ((c.tc : Thread Cert.AUpRefIdeal.nD Cert.AUpRefIdeal.τ).loc Cert.AUpRefIdeal.main_arg2) = m' ((c.tc : Thread Cert.AUpRefIdeal.nD Cert.AUpRefIdeal.τ).loc Cert.AUpRefIdeal.main_arg2)
          ∧ r.2.mem ((c.tc : Thread Cert.AUpRefIdeal.nD Cert.AUpRefIdeal.τ).loc Cert.AUpRefIdeal.main_arg3) = m' ((c.tc : Thread Cert.AUpRefIdeal.nD Cert.AUpRefIdeal.τ).loc Cert.AUpRefIdeal.main_arg3))

def preserves_ADown_ADownIdeal : Prop :=
  True

def algebraic_ADownIdeal_ADownRefIdeal [hADownIdeal : Cert.ADownIdeal.Facts] [hADownRefIdeal : Cert.ADownRefIdeal.Facts] : Prop :=
  ∀ (m : (ℓ : Loc Cert.ADownIdeal.nD Cert.ADownIdeal.τ Cert.ADownIdeal.sig) → Buf (Elt Ideal) ℓ) (g : Dev Cert.ADownIdeal.nD → PrngReg)
    (m' : (ℓ : Loc Cert.ADownRefIdeal.nD Cert.ADownRefIdeal.τ Cert.ADownRefIdeal.sig) → Buf (Elt Ideal) ℓ) (g' : Dev Cert.ADownRefIdeal.nD → PrngReg), Pre_ADownIdeal m →
    (∀ c : Dev Cert.ADownIdeal.nD,
      m' ((c.tc : Thread Cert.ADownRefIdeal.nD Cert.ADownRefIdeal.τ).loc Cert.ADownRefIdeal.main_arg0) = m ((c.tc : Thread Cert.ADownIdeal.nD Cert.ADownIdeal.τ).loc Cert.ADownIdeal.main_arg0)
      ∧ m' ((c.tc : Thread Cert.ADownRefIdeal.nD Cert.ADownRefIdeal.τ).loc Cert.ADownRefIdeal.main_arg1) = m ((c.tc : Thread Cert.ADownIdeal.nD Cert.ADownIdeal.τ).loc Cert.ADownIdeal.main_arg1)
      ∧ m' ((c.tc : Thread Cert.ADownRefIdeal.nD Cert.ADownRefIdeal.τ).loc Cert.ADownRefIdeal.main_arg2) = m ((c.tc : Thread Cert.ADownIdeal.nD Cert.ADownIdeal.τ).loc Cert.ADownIdeal.main_arg2)
      ∧ m' ((c.tc : Thread Cert.ADownRefIdeal.nD Cert.ADownRefIdeal.τ).loc Cert.ADownRefIdeal.main_arg3) = m ((c.tc : Thread Cert.ADownIdeal.nD Cert.ADownIdeal.τ).loc Cert.ADownIdeal.main_arg3)) →
    ∃ (v0 : (c : Dev Cert.ADownIdeal.nD) → Buf (Elt Ideal) ((c.tc : Thread Cert.ADownIdeal.nD Cert.ADownIdeal.τ).loc Cert.ADownIdeal.main_v0_0)) (v1 : (c : Dev Cert.ADownIdeal.nD) → Buf (Elt Ideal) ((c.tc : Thread Cert.ADownIdeal.nD Cert.ADownIdeal.τ).loc Cert.ADownIdeal.main_v0_1)) (v2 : (c : Dev Cert.ADownIdeal.nD) → Buf (Elt Ideal) ((c.tc : Thread Cert.ADownIdeal.nD Cert.ADownIdeal.τ).loc Cert.ADownIdeal.main_v0_2)) (v3 : (c : Dev Cert.ADownIdeal.nD) → Buf (Elt Ideal) ((c.tc : Thread Cert.ADownIdeal.nD Cert.ADownIdeal.τ).loc Cert.ADownIdeal.main_v0_3)),
      θ_run (Cert.ADownIdeal.defs (F := Ideal)) (onTc (τ := Cert.ADownIdeal.τ) (Cert.ADownIdeal.main (F := Ideal))) ⟨m, fun _ => 0, g⟩ (fun r => ∀ c : Dev Cert.ADownIdeal.nD,
          r.2.mem ((c.tc : Thread Cert.ADownIdeal.nD Cert.ADownIdeal.τ).loc Cert.ADownIdeal.main_v0_0) = v0 c
          ∧ r.2.mem ((c.tc : Thread Cert.ADownIdeal.nD Cert.ADownIdeal.τ).loc Cert.ADownIdeal.main_v0_1) = v1 c
          ∧ r.2.mem ((c.tc : Thread Cert.ADownIdeal.nD Cert.ADownIdeal.τ).loc Cert.ADownIdeal.main_v0_2) = v2 c
          ∧ r.2.mem ((c.tc : Thread Cert.ADownIdeal.nD Cert.ADownIdeal.τ).loc Cert.ADownIdeal.main_v0_3) = v3 c
          ∧ r.2.mem ((c.tc : Thread Cert.ADownIdeal.nD Cert.ADownIdeal.τ).loc Cert.ADownIdeal.main_arg0) = m ((c.tc : Thread Cert.ADownIdeal.nD Cert.ADownIdeal.τ).loc Cert.ADownIdeal.main_arg0)
          ∧ r.2.mem ((c.tc : Thread Cert.ADownIdeal.nD Cert.ADownIdeal.τ).loc Cert.ADownIdeal.main_arg1) = m ((c.tc : Thread Cert.ADownIdeal.nD Cert.ADownIdeal.τ).loc Cert.ADownIdeal.main_arg1)
          ∧ r.2.mem ((c.tc : Thread Cert.ADownIdeal.nD Cert.ADownIdeal.τ).loc Cert.ADownIdeal.main_arg2) = m ((c.tc : Thread Cert.ADownIdeal.nD Cert.ADownIdeal.τ).loc Cert.ADownIdeal.main_arg2)
          ∧ r.2.mem ((c.tc : Thread Cert.ADownIdeal.nD Cert.ADownIdeal.τ).loc Cert.ADownIdeal.main_arg3) = m ((c.tc : Thread Cert.ADownIdeal.nD Cert.ADownIdeal.τ).loc Cert.ADownIdeal.main_arg3))
      ∧ θ_run (Cert.ADownRefIdeal.defs (F := Ideal)) (onTc (τ := Cert.ADownRefIdeal.τ) (Cert.ADownRefIdeal.main (F := Ideal))) ⟨m', fun _ => 0, g'⟩ (fun r => ∀ c : Dev Cert.ADownRefIdeal.nD,
          r.2.mem ((c.tc : Thread Cert.ADownRefIdeal.nD Cert.ADownRefIdeal.τ).loc Cert.ADownRefIdeal.main_v1) = v0 c
          ∧ r.2.mem ((c.tc : Thread Cert.ADownRefIdeal.nD Cert.ADownRefIdeal.τ).loc Cert.ADownRefIdeal.main_v25) = v1 c
          ∧ r.2.mem ((c.tc : Thread Cert.ADownRefIdeal.nD Cert.ADownRefIdeal.τ).loc Cert.ADownRefIdeal.main_v6) = v2 c
          ∧ r.2.mem ((c.tc : Thread Cert.ADownRefIdeal.nD Cert.ADownRefIdeal.τ).loc Cert.ADownRefIdeal.main_v12) = v3 c
          ∧ r.2.mem ((c.tc : Thread Cert.ADownRefIdeal.nD Cert.ADownRefIdeal.τ).loc Cert.ADownRefIdeal.main_arg0) = m' ((c.tc : Thread Cert.ADownRefIdeal.nD Cert.ADownRefIdeal.τ).loc Cert.ADownRefIdeal.main_arg0)
          ∧ r.2.mem ((c.tc : Thread Cert.ADownRefIdeal.nD Cert.ADownRefIdeal.τ).loc Cert.ADownRefIdeal.main_arg1) = m' ((c.tc : Thread Cert.ADownRefIdeal.nD Cert.ADownRefIdeal.τ).loc Cert.ADownRefIdeal.main_arg1)
          ∧ r.2.mem ((c.tc : Thread Cert.ADownRefIdeal.nD Cert.ADownRefIdeal.τ).loc Cert.ADownRefIdeal.main_arg2) = m' ((c.tc : Thread Cert.ADownRefIdeal.nD Cert.ADownRefIdeal.τ).loc Cert.ADownRefIdeal.main_arg2)
          ∧ r.2.mem ((c.tc : Thread Cert.ADownRefIdeal.nD Cert.ADownRefIdeal.τ).loc Cert.ADownRefIdeal.main_arg3) = m' ((c.tc : Thread Cert.ADownRefIdeal.nD Cert.ADownRefIdeal.τ).loc Cert.ADownRefIdeal.main_arg3))

def preserves_AGate_AGateIdeal : Prop :=
  True

def algebraic_AGateIdeal_AGateRefIdeal [hAGateIdeal : Cert.AGateIdeal.Facts] [hAGateRefIdeal : Cert.AGateRefIdeal.Facts] : Prop :=
  ∀ (m : (ℓ : Loc Cert.AGateIdeal.nD Cert.AGateIdeal.τ Cert.AGateIdeal.sig) → Buf (Elt Ideal) ℓ) (g : Dev Cert.AGateIdeal.nD → PrngReg)
    (m' : (ℓ : Loc Cert.AGateRefIdeal.nD Cert.AGateRefIdeal.τ Cert.AGateRefIdeal.sig) → Buf (Elt Ideal) ℓ) (g' : Dev Cert.AGateRefIdeal.nD → PrngReg), Pre_AGateIdeal m →
    (∀ c : Dev Cert.AGateIdeal.nD,
      m' ((c.tc : Thread Cert.AGateRefIdeal.nD Cert.AGateRefIdeal.τ).loc Cert.AGateRefIdeal.main_arg0) = m ((c.tc : Thread Cert.AGateIdeal.nD Cert.AGateIdeal.τ).loc Cert.AGateIdeal.main_arg0)
      ∧ m' ((c.tc : Thread Cert.AGateRefIdeal.nD Cert.AGateRefIdeal.τ).loc Cert.AGateRefIdeal.main_arg1) = m ((c.tc : Thread Cert.AGateIdeal.nD Cert.AGateIdeal.τ).loc Cert.AGateIdeal.main_arg1)
      ∧ m' ((c.tc : Thread Cert.AGateRefIdeal.nD Cert.AGateRefIdeal.τ).loc Cert.AGateRefIdeal.main_arg2) = m ((c.tc : Thread Cert.AGateIdeal.nD Cert.AGateIdeal.τ).loc Cert.AGateIdeal.main_arg2)
      ∧ m' ((c.tc : Thread Cert.AGateRefIdeal.nD Cert.AGateRefIdeal.τ).loc Cert.AGateRefIdeal.main_arg3) = m ((c.tc : Thread Cert.AGateIdeal.nD Cert.AGateIdeal.τ).loc Cert.AGateIdeal.main_arg3)) →
    ∃ (v0 : (c : Dev Cert.AGateIdeal.nD) → Buf (Elt Ideal) ((c.tc : Thread Cert.AGateIdeal.nD Cert.AGateIdeal.τ).loc Cert.AGateIdeal.main_v0_0)) (v1 : (c : Dev Cert.AGateIdeal.nD) → Buf (Elt Ideal) ((c.tc : Thread Cert.AGateIdeal.nD Cert.AGateIdeal.τ).loc Cert.AGateIdeal.main_v0_1)) (v2 : (c : Dev Cert.AGateIdeal.nD) → Buf (Elt Ideal) ((c.tc : Thread Cert.AGateIdeal.nD Cert.AGateIdeal.τ).loc Cert.AGateIdeal.main_v0_2)) (v3 : (c : Dev Cert.AGateIdeal.nD) → Buf (Elt Ideal) ((c.tc : Thread Cert.AGateIdeal.nD Cert.AGateIdeal.τ).loc Cert.AGateIdeal.main_v0_3)),
      θ_run (Cert.AGateIdeal.defs (F := Ideal)) (onTc (τ := Cert.AGateIdeal.τ) (Cert.AGateIdeal.main (F := Ideal))) ⟨m, fun _ => 0, g⟩ (fun r => ∀ c : Dev Cert.AGateIdeal.nD,
          r.2.mem ((c.tc : Thread Cert.AGateIdeal.nD Cert.AGateIdeal.τ).loc Cert.AGateIdeal.main_v0_0) = v0 c
          ∧ r.2.mem ((c.tc : Thread Cert.AGateIdeal.nD Cert.AGateIdeal.τ).loc Cert.AGateIdeal.main_v0_1) = v1 c
          ∧ r.2.mem ((c.tc : Thread Cert.AGateIdeal.nD Cert.AGateIdeal.τ).loc Cert.AGateIdeal.main_v0_2) = v2 c
          ∧ r.2.mem ((c.tc : Thread Cert.AGateIdeal.nD Cert.AGateIdeal.τ).loc Cert.AGateIdeal.main_v0_3) = v3 c
          ∧ r.2.mem ((c.tc : Thread Cert.AGateIdeal.nD Cert.AGateIdeal.τ).loc Cert.AGateIdeal.main_arg0) = m ((c.tc : Thread Cert.AGateIdeal.nD Cert.AGateIdeal.τ).loc Cert.AGateIdeal.main_arg0)
          ∧ r.2.mem ((c.tc : Thread Cert.AGateIdeal.nD Cert.AGateIdeal.τ).loc Cert.AGateIdeal.main_arg1) = m ((c.tc : Thread Cert.AGateIdeal.nD Cert.AGateIdeal.τ).loc Cert.AGateIdeal.main_arg1)
          ∧ r.2.mem ((c.tc : Thread Cert.AGateIdeal.nD Cert.AGateIdeal.τ).loc Cert.AGateIdeal.main_arg2) = m ((c.tc : Thread Cert.AGateIdeal.nD Cert.AGateIdeal.τ).loc Cert.AGateIdeal.main_arg2)
          ∧ r.2.mem ((c.tc : Thread Cert.AGateIdeal.nD Cert.AGateIdeal.τ).loc Cert.AGateIdeal.main_arg3) = m ((c.tc : Thread Cert.AGateIdeal.nD Cert.AGateIdeal.τ).loc Cert.AGateIdeal.main_arg3))
      ∧ θ_run (Cert.AGateRefIdeal.defs (F := Ideal)) (onTc (τ := Cert.AGateRefIdeal.τ) (Cert.AGateRefIdeal.main (F := Ideal))) ⟨m', fun _ => 0, g'⟩ (fun r => ∀ c : Dev Cert.AGateRefIdeal.nD,
          r.2.mem ((c.tc : Thread Cert.AGateRefIdeal.nD Cert.AGateRefIdeal.τ).loc Cert.AGateRefIdeal.main_v0) = v0 c
          ∧ r.2.mem ((c.tc : Thread Cert.AGateRefIdeal.nD Cert.AGateRefIdeal.τ).loc Cert.AGateRefIdeal.main_v24) = v1 c
          ∧ r.2.mem ((c.tc : Thread Cert.AGateRefIdeal.nD Cert.AGateRefIdeal.τ).loc Cert.AGateRefIdeal.main_v5) = v2 c
          ∧ r.2.mem ((c.tc : Thread Cert.AGateRefIdeal.nD Cert.AGateRefIdeal.τ).loc Cert.AGateRefIdeal.main_v11) = v3 c
          ∧ r.2.mem ((c.tc : Thread Cert.AGateRefIdeal.nD Cert.AGateRefIdeal.τ).loc Cert.AGateRefIdeal.main_arg0) = m' ((c.tc : Thread Cert.AGateRefIdeal.nD Cert.AGateRefIdeal.τ).loc Cert.AGateRefIdeal.main_arg0)
          ∧ r.2.mem ((c.tc : Thread Cert.AGateRefIdeal.nD Cert.AGateRefIdeal.τ).loc Cert.AGateRefIdeal.main_arg1) = m' ((c.tc : Thread Cert.AGateRefIdeal.nD Cert.AGateRefIdeal.τ).loc Cert.AGateRefIdeal.main_arg1)
          ∧ r.2.mem ((c.tc : Thread Cert.AGateRefIdeal.nD Cert.AGateRefIdeal.τ).loc Cert.AGateRefIdeal.main_arg2) = m' ((c.tc : Thread Cert.AGateRefIdeal.nD Cert.AGateRefIdeal.τ).loc Cert.AGateRefIdeal.main_arg2)
          ∧ r.2.mem ((c.tc : Thread Cert.AGateRefIdeal.nD Cert.AGateRefIdeal.τ).loc Cert.AGateRefIdeal.main_arg3) = m' ((c.tc : Thread Cert.AGateRefIdeal.nD Cert.AGateRefIdeal.τ).loc Cert.AGateRefIdeal.main_arg3))

def preserves_AConv_AConvIdeal : Prop :=
  True

def algebraic_AConvIdeal_AConvRefIdeal [hAConvIdeal : Cert.AConvIdeal.Facts] [hAConvRefIdeal : Cert.AConvRefIdeal.Facts] : Prop :=
  ∀ (m : (ℓ : Loc Cert.AConvIdeal.nD Cert.AConvIdeal.τ Cert.AConvIdeal.sig) → Buf (Elt Ideal) ℓ) (g : Dev Cert.AConvIdeal.nD → PrngReg)
    (m' : (ℓ : Loc Cert.AConvRefIdeal.nD Cert.AConvRefIdeal.τ Cert.AConvRefIdeal.sig) → Buf (Elt Ideal) ℓ) (g' : Dev Cert.AConvRefIdeal.nD → PrngReg), Pre_AConvIdeal m →
    (∀ c : Dev Cert.AConvIdeal.nD,
      m' ((c.tc : Thread Cert.AConvRefIdeal.nD Cert.AConvRefIdeal.τ).loc Cert.AConvRefIdeal.main_arg0) = m ((c.tc : Thread Cert.AConvIdeal.nD Cert.AConvIdeal.τ).loc Cert.AConvIdeal.main_arg0)
      ∧ m' ((c.tc : Thread Cert.AConvRefIdeal.nD Cert.AConvRefIdeal.τ).loc Cert.AConvRefIdeal.main_arg1) = m ((c.tc : Thread Cert.AConvIdeal.nD Cert.AConvIdeal.τ).loc Cert.AConvIdeal.main_arg1)
      ∧ m' ((c.tc : Thread Cert.AConvRefIdeal.nD Cert.AConvRefIdeal.τ).loc Cert.AConvRefIdeal.main_arg2) = m ((c.tc : Thread Cert.AConvIdeal.nD Cert.AConvIdeal.τ).loc Cert.AConvIdeal.main_arg2)
      ∧ m' ((c.tc : Thread Cert.AConvRefIdeal.nD Cert.AConvRefIdeal.τ).loc Cert.AConvRefIdeal.main_arg3) = m ((c.tc : Thread Cert.AConvIdeal.nD Cert.AConvIdeal.τ).loc Cert.AConvIdeal.main_arg3)) →
    ∃ (v0 : (c : Dev Cert.AConvIdeal.nD) → Buf (Elt Ideal) ((c.tc : Thread Cert.AConvIdeal.nD Cert.AConvIdeal.τ).loc Cert.AConvIdeal.main_v0_0)) (v1 : (c : Dev Cert.AConvIdeal.nD) → Buf (Elt Ideal) ((c.tc : Thread Cert.AConvIdeal.nD Cert.AConvIdeal.τ).loc Cert.AConvIdeal.main_v0_1)) (v2 : (c : Dev Cert.AConvIdeal.nD) → Buf (Elt Ideal) ((c.tc : Thread Cert.AConvIdeal.nD Cert.AConvIdeal.τ).loc Cert.AConvIdeal.main_v0_2)) (v3 : (c : Dev Cert.AConvIdeal.nD) → Buf (Elt Ideal) ((c.tc : Thread Cert.AConvIdeal.nD Cert.AConvIdeal.τ).loc Cert.AConvIdeal.main_v0_3)),
      θ_run (Cert.AConvIdeal.defs (F := Ideal)) (onTc (τ := Cert.AConvIdeal.τ) (Cert.AConvIdeal.main (F := Ideal))) ⟨m, fun _ => 0, g⟩ (fun r => ∀ c : Dev Cert.AConvIdeal.nD,
          r.2.mem ((c.tc : Thread Cert.AConvIdeal.nD Cert.AConvIdeal.τ).loc Cert.AConvIdeal.main_v0_0) = v0 c
          ∧ r.2.mem ((c.tc : Thread Cert.AConvIdeal.nD Cert.AConvIdeal.τ).loc Cert.AConvIdeal.main_v0_1) = v1 c
          ∧ r.2.mem ((c.tc : Thread Cert.AConvIdeal.nD Cert.AConvIdeal.τ).loc Cert.AConvIdeal.main_v0_2) = v2 c
          ∧ r.2.mem ((c.tc : Thread Cert.AConvIdeal.nD Cert.AConvIdeal.τ).loc Cert.AConvIdeal.main_v0_3) = v3 c
          ∧ r.2.mem ((c.tc : Thread Cert.AConvIdeal.nD Cert.AConvIdeal.τ).loc Cert.AConvIdeal.main_arg0) = m ((c.tc : Thread Cert.AConvIdeal.nD Cert.AConvIdeal.τ).loc Cert.AConvIdeal.main_arg0)
          ∧ r.2.mem ((c.tc : Thread Cert.AConvIdeal.nD Cert.AConvIdeal.τ).loc Cert.AConvIdeal.main_arg1) = m ((c.tc : Thread Cert.AConvIdeal.nD Cert.AConvIdeal.τ).loc Cert.AConvIdeal.main_arg1)
          ∧ r.2.mem ((c.tc : Thread Cert.AConvIdeal.nD Cert.AConvIdeal.τ).loc Cert.AConvIdeal.main_arg2) = m ((c.tc : Thread Cert.AConvIdeal.nD Cert.AConvIdeal.τ).loc Cert.AConvIdeal.main_arg2)
          ∧ r.2.mem ((c.tc : Thread Cert.AConvIdeal.nD Cert.AConvIdeal.τ).loc Cert.AConvIdeal.main_arg3) = m ((c.tc : Thread Cert.AConvIdeal.nD Cert.AConvIdeal.τ).loc Cert.AConvIdeal.main_arg3))
      ∧ θ_run (Cert.AConvRefIdeal.defs (F := Ideal)) (onTc (τ := Cert.AConvRefIdeal.τ) (Cert.AConvRefIdeal.main (F := Ideal))) ⟨m', fun _ => 0, g'⟩ (fun r => ∀ c : Dev Cert.AConvRefIdeal.nD,
          r.2.mem ((c.tc : Thread Cert.AConvRefIdeal.nD Cert.AConvRefIdeal.τ).loc Cert.AConvRefIdeal.main_v0) = v0 c
          ∧ r.2.mem ((c.tc : Thread Cert.AConvRefIdeal.nD Cert.AConvRefIdeal.τ).loc Cert.AConvRefIdeal.main_v24) = v1 c
          ∧ r.2.mem ((c.tc : Thread Cert.AConvRefIdeal.nD Cert.AConvRefIdeal.τ).loc Cert.AConvRefIdeal.main_v5) = v2 c
          ∧ r.2.mem ((c.tc : Thread Cert.AConvRefIdeal.nD Cert.AConvRefIdeal.τ).loc Cert.AConvRefIdeal.main_v11) = v3 c
          ∧ r.2.mem ((c.tc : Thread Cert.AConvRefIdeal.nD Cert.AConvRefIdeal.τ).loc Cert.AConvRefIdeal.main_arg0) = m' ((c.tc : Thread Cert.AConvRefIdeal.nD Cert.AConvRefIdeal.τ).loc Cert.AConvRefIdeal.main_arg0)
          ∧ r.2.mem ((c.tc : Thread Cert.AConvRefIdeal.nD Cert.AConvRefIdeal.τ).loc Cert.AConvRefIdeal.main_arg1) = m' ((c.tc : Thread Cert.AConvRefIdeal.nD Cert.AConvRefIdeal.τ).loc Cert.AConvRefIdeal.main_arg1)
          ∧ r.2.mem ((c.tc : Thread Cert.AConvRefIdeal.nD Cert.AConvRefIdeal.τ).loc Cert.AConvRefIdeal.main_arg2) = m' ((c.tc : Thread Cert.AConvRefIdeal.nD Cert.AConvRefIdeal.τ).loc Cert.AConvRefIdeal.main_arg2)
          ∧ r.2.mem ((c.tc : Thread Cert.AConvRefIdeal.nD Cert.AConvRefIdeal.τ).loc Cert.AConvRefIdeal.main_arg3) = m' ((c.tc : Thread Cert.AConvRefIdeal.nD Cert.AConvRefIdeal.τ).loc Cert.AConvRefIdeal.main_arg3))

def preserves_ARep_ARepIdeal : Prop :=
  True

def algebraic_ARepIdeal_ARepRefIdeal [hARepIdeal : Cert.ARepIdeal.Facts] [hARepRefIdeal : Cert.ARepRefIdeal.Facts] : Prop :=
  ∀ (m : (ℓ : Loc Cert.ARepIdeal.nD Cert.ARepIdeal.τ Cert.ARepIdeal.sig) → Buf (Elt Ideal) ℓ) (g : Dev Cert.ARepIdeal.nD → PrngReg)
    (m' : (ℓ : Loc Cert.ARepRefIdeal.nD Cert.ARepRefIdeal.τ Cert.ARepRefIdeal.sig) → Buf (Elt Ideal) ℓ) (g' : Dev Cert.ARepRefIdeal.nD → PrngReg), Pre_ARepIdeal m →
    (∀ c : Dev Cert.ARepIdeal.nD,
      m' ((c.tc : Thread Cert.ARepRefIdeal.nD Cert.ARepRefIdeal.τ).loc Cert.ARepRefIdeal.main_arg0) = m ((c.tc : Thread Cert.ARepIdeal.nD Cert.ARepIdeal.τ).loc Cert.ARepIdeal.main_arg0)
      ∧ m' ((c.tc : Thread Cert.ARepRefIdeal.nD Cert.ARepRefIdeal.τ).loc Cert.ARepRefIdeal.main_arg1) = m ((c.tc : Thread Cert.ARepIdeal.nD Cert.ARepIdeal.τ).loc Cert.ARepIdeal.main_arg1)
      ∧ m' ((c.tc : Thread Cert.ARepRefIdeal.nD Cert.ARepRefIdeal.τ).loc Cert.ARepRefIdeal.main_arg2) = m ((c.tc : Thread Cert.ARepIdeal.nD Cert.ARepIdeal.τ).loc Cert.ARepIdeal.main_arg2)
      ∧ m' ((c.tc : Thread Cert.ARepRefIdeal.nD Cert.ARepRefIdeal.τ).loc Cert.ARepRefIdeal.main_arg3) = m ((c.tc : Thread Cert.ARepIdeal.nD Cert.ARepIdeal.τ).loc Cert.ARepIdeal.main_arg3)
      ∧ m' ((c.tc : Thread Cert.ARepRefIdeal.nD Cert.ARepRefIdeal.τ).loc Cert.ARepRefIdeal.main_arg4) = m ((c.tc : Thread Cert.ARepIdeal.nD Cert.ARepIdeal.τ).loc Cert.ARepIdeal.main_arg4)
      ∧ m' ((c.tc : Thread Cert.ARepRefIdeal.nD Cert.ARepRefIdeal.τ).loc Cert.ARepRefIdeal.main_arg5) = m ((c.tc : Thread Cert.ARepIdeal.nD Cert.ARepIdeal.τ).loc Cert.ARepIdeal.main_arg5)
      ∧ m' ((c.tc : Thread Cert.ARepRefIdeal.nD Cert.ARepRefIdeal.τ).loc Cert.ARepRefIdeal.main_arg6) = m ((c.tc : Thread Cert.ARepIdeal.nD Cert.ARepIdeal.τ).loc Cert.ARepIdeal.main_arg6)
      ∧ m' ((c.tc : Thread Cert.ARepRefIdeal.nD Cert.ARepRefIdeal.τ).loc Cert.ARepRefIdeal.main_arg7) = m ((c.tc : Thread Cert.ARepIdeal.nD Cert.ARepIdeal.τ).loc Cert.ARepIdeal.main_arg7)
      ∧ m' ((c.tc : Thread Cert.ARepRefIdeal.nD Cert.ARepRefIdeal.τ).loc Cert.ARepRefIdeal.main_arg8) = m ((c.tc : Thread Cert.ARepIdeal.nD Cert.ARepIdeal.τ).loc Cert.ARepIdeal.main_arg8)
      ∧ m' ((c.tc : Thread Cert.ARepRefIdeal.nD Cert.ARepRefIdeal.τ).loc Cert.ARepRefIdeal.main_arg9) = m ((c.tc : Thread Cert.ARepIdeal.nD Cert.ARepIdeal.τ).loc Cert.ARepIdeal.main_arg9)
      ∧ m' ((c.tc : Thread Cert.ARepRefIdeal.nD Cert.ARepRefIdeal.τ).loc Cert.ARepRefIdeal.main_arg10) = m ((c.tc : Thread Cert.ARepIdeal.nD Cert.ARepIdeal.τ).loc Cert.ARepIdeal.main_arg10)
      ∧ m' ((c.tc : Thread Cert.ARepRefIdeal.nD Cert.ARepRefIdeal.τ).loc Cert.ARepRefIdeal.main_arg11) = m ((c.tc : Thread Cert.ARepIdeal.nD Cert.ARepIdeal.τ).loc Cert.ARepIdeal.main_arg11)
      ∧ m' ((c.tc : Thread Cert.ARepRefIdeal.nD Cert.ARepRefIdeal.τ).loc Cert.ARepRefIdeal.main_arg12) = m ((c.tc : Thread Cert.ARepIdeal.nD Cert.ARepIdeal.τ).loc Cert.ARepIdeal.main_arg12)
      ∧ m' ((c.tc : Thread Cert.ARepRefIdeal.nD Cert.ARepRefIdeal.τ).loc Cert.ARepRefIdeal.main_arg13) = m ((c.tc : Thread Cert.ARepIdeal.nD Cert.ARepIdeal.τ).loc Cert.ARepIdeal.main_arg13)
      ∧ m' ((c.tc : Thread Cert.ARepRefIdeal.nD Cert.ARepRefIdeal.τ).loc Cert.ARepRefIdeal.main_arg14) = m ((c.tc : Thread Cert.ARepIdeal.nD Cert.ARepIdeal.τ).loc Cert.ARepIdeal.main_arg14)
      ∧ m' ((c.tc : Thread Cert.ARepRefIdeal.nD Cert.ARepRefIdeal.τ).loc Cert.ARepRefIdeal.main_arg15) = m ((c.tc : Thread Cert.ARepIdeal.nD Cert.ARepIdeal.τ).loc Cert.ARepIdeal.main_arg15)
      ∧ m' ((c.tc : Thread Cert.ARepRefIdeal.nD Cert.ARepRefIdeal.τ).loc Cert.ARepRefIdeal.main_arg16) = m ((c.tc : Thread Cert.ARepIdeal.nD Cert.ARepIdeal.τ).loc Cert.ARepIdeal.main_arg16)
      ∧ m' ((c.tc : Thread Cert.ARepRefIdeal.nD Cert.ARepRefIdeal.τ).loc Cert.ARepRefIdeal.main_arg17) = m ((c.tc : Thread Cert.ARepIdeal.nD Cert.ARepIdeal.τ).loc Cert.ARepIdeal.main_arg17)
      ∧ m' ((c.tc : Thread Cert.ARepRefIdeal.nD Cert.ARepRefIdeal.τ).loc Cert.ARepRefIdeal.main_arg18) = m ((c.tc : Thread Cert.ARepIdeal.nD Cert.ARepIdeal.τ).loc Cert.ARepIdeal.main_arg18)
      ∧ m' ((c.tc : Thread Cert.ARepRefIdeal.nD Cert.ARepRefIdeal.τ).loc Cert.ARepRefIdeal.main_arg19) = m ((c.tc : Thread Cert.ARepIdeal.nD Cert.ARepIdeal.τ).loc Cert.ARepIdeal.main_arg19)
      ∧ m' ((c.tc : Thread Cert.ARepRefIdeal.nD Cert.ARepRefIdeal.τ).loc Cert.ARepRefIdeal.main_arg20) = m ((c.tc : Thread Cert.ARepIdeal.nD Cert.ARepIdeal.τ).loc Cert.ARepIdeal.main_arg20)
      ∧ m' ((c.tc : Thread Cert.ARepRefIdeal.nD Cert.ARepRefIdeal.τ).loc Cert.ARepRefIdeal.main_arg21) = m ((c.tc : Thread Cert.ARepIdeal.nD Cert.ARepIdeal.τ).loc Cert.ARepIdeal.main_arg21)
      ∧ m' ((c.tc : Thread Cert.ARepRefIdeal.nD Cert.ARepRefIdeal.τ).loc Cert.ARepRefIdeal.main_arg22) = m ((c.tc : Thread Cert.ARepIdeal.nD Cert.ARepIdeal.τ).loc Cert.ARepIdeal.main_arg22)
      ∧ m' ((c.tc : Thread Cert.ARepRefIdeal.nD Cert.ARepRefIdeal.τ).loc Cert.ARepRefIdeal.main_arg23) = m ((c.tc : Thread Cert.ARepIdeal.nD Cert.ARepIdeal.τ).loc Cert.ARepIdeal.main_arg23)
      ∧ m' ((c.tc : Thread Cert.ARepRefIdeal.nD Cert.ARepRefIdeal.τ).loc Cert.ARepRefIdeal.main_arg24) = m ((c.tc : Thread Cert.ARepIdeal.nD Cert.ARepIdeal.τ).loc Cert.ARepIdeal.main_arg24)
      ∧ m' ((c.tc : Thread Cert.ARepRefIdeal.nD Cert.ARepRefIdeal.τ).loc Cert.ARepRefIdeal.main_arg25) = m ((c.tc : Thread Cert.ARepIdeal.nD Cert.ARepIdeal.τ).loc Cert.ARepIdeal.main_arg25)
      ∧ m' ((c.tc : Thread Cert.ARepRefIdeal.nD Cert.ARepRefIdeal.τ).loc Cert.ARepRefIdeal.main_arg26) = m ((c.tc : Thread Cert.ARepIdeal.nD Cert.ARepIdeal.τ).loc Cert.ARepIdeal.main_arg26)
      ∧ m' ((c.tc : Thread Cert.ARepRefIdeal.nD Cert.ARepRefIdeal.τ).loc Cert.ARepRefIdeal.main_arg27) = m ((c.tc : Thread Cert.ARepIdeal.nD Cert.ARepIdeal.τ).loc Cert.ARepIdeal.main_arg27)
      ∧ m' ((c.tc : Thread Cert.ARepRefIdeal.nD Cert.ARepRefIdeal.τ).loc Cert.ARepRefIdeal.main_arg28) = m ((c.tc : Thread Cert.ARepIdeal.nD Cert.ARepIdeal.τ).loc Cert.ARepIdeal.main_arg28)) →
    ∃ (v0 : (c : Dev Cert.ARepIdeal.nD) → Buf (Elt Ideal) ((c.tc : Thread Cert.ARepIdeal.nD Cert.ARepIdeal.τ).loc Cert.ARepIdeal.main_v0_0)) (v1 : (c : Dev Cert.ARepIdeal.nD) → Buf (Elt Ideal) ((c.tc : Thread Cert.ARepIdeal.nD Cert.ARepIdeal.τ).loc Cert.ARepIdeal.main_v0_1)) (v2 : (c : Dev Cert.ARepIdeal.nD) → Buf (Elt Ideal) ((c.tc : Thread Cert.ARepIdeal.nD Cert.ARepIdeal.τ).loc Cert.ARepIdeal.main_v0_2)) (v3 : (c : Dev Cert.ARepIdeal.nD) → Buf (Elt Ideal) ((c.tc : Thread Cert.ARepIdeal.nD Cert.ARepIdeal.τ).loc Cert.ARepIdeal.main_v0_3)) (v4 : (c : Dev Cert.ARepIdeal.nD) → Buf (Elt Ideal) ((c.tc : Thread Cert.ARepIdeal.nD Cert.ARepIdeal.τ).loc Cert.ARepIdeal.main_v0_4)) (v5 : (c : Dev Cert.ARepIdeal.nD) → Buf (Elt Ideal) ((c.tc : Thread Cert.ARepIdeal.nD Cert.ARepIdeal.τ).loc Cert.ARepIdeal.main_v0_5)) (v6 : (c : Dev Cert.ARepIdeal.nD) → Buf (Elt Ideal) ((c.tc : Thread Cert.ARepIdeal.nD Cert.ARepIdeal.τ).loc Cert.ARepIdeal.main_v0_6)) (v7 : (c : Dev Cert.ARepIdeal.nD) → Buf (Elt Ideal) ((c.tc : Thread Cert.ARepIdeal.nD Cert.ARepIdeal.τ).loc Cert.ARepIdeal.main_v0_7)) (v8 : (c : Dev Cert.ARepIdeal.nD) → Buf (Elt Ideal) ((c.tc : Thread Cert.ARepIdeal.nD Cert.ARepIdeal.τ).loc Cert.ARepIdeal.main_v0_8)) (v9 : (c : Dev Cert.ARepIdeal.nD) → Buf (Elt Ideal) ((c.tc : Thread Cert.ARepIdeal.nD Cert.ARepIdeal.τ).loc Cert.ARepIdeal.main_v0_9)) (v10 : (c : Dev Cert.ARepIdeal.nD) → Buf (Elt Ideal) ((c.tc : Thread Cert.ARepIdeal.nD Cert.ARepIdeal.τ).loc Cert.ARepIdeal.main_v0_10)) (v11 : (c : Dev Cert.ARepIdeal.nD) → Buf (Elt Ideal) ((c.tc : Thread Cert.ARepIdeal.nD Cert.ARepIdeal.τ).loc Cert.ARepIdeal.main_v0_11)) (v12 : (c : Dev Cert.ARepIdeal.nD) → Buf (Elt Ideal) ((c.tc : Thread Cert.ARepIdeal.nD Cert.ARepIdeal.τ).loc Cert.ARepIdeal.main_v0_12)) (v13 : (c : Dev Cert.ARepIdeal.nD) → Buf (Elt Ideal) ((c.tc : Thread Cert.ARepIdeal.nD Cert.ARepIdeal.τ).loc Cert.ARepIdeal.main_v0_13)) (v14 : (c : Dev Cert.ARepIdeal.nD) → Buf (Elt Ideal) ((c.tc : Thread Cert.ARepIdeal.nD Cert.ARepIdeal.τ).loc Cert.ARepIdeal.main_v0_14)) (v15 : (c : Dev Cert.ARepIdeal.nD) → Buf (Elt Ideal) ((c.tc : Thread Cert.ARepIdeal.nD Cert.ARepIdeal.τ).loc Cert.ARepIdeal.main_v0_15)) (v16 : (c : Dev Cert.ARepIdeal.nD) → Buf (Elt Ideal) ((c.tc : Thread Cert.ARepIdeal.nD Cert.ARepIdeal.τ).loc Cert.ARepIdeal.main_v0_16)) (v17 : (c : Dev Cert.ARepIdeal.nD) → Buf (Elt Ideal) ((c.tc : Thread Cert.ARepIdeal.nD Cert.ARepIdeal.τ).loc Cert.ARepIdeal.main_v0_17)) (v18 : (c : Dev Cert.ARepIdeal.nD) → Buf (Elt Ideal) ((c.tc : Thread Cert.ARepIdeal.nD Cert.ARepIdeal.τ).loc Cert.ARepIdeal.main_v0_18)) (v19 : (c : Dev Cert.ARepIdeal.nD) → Buf (Elt Ideal) ((c.tc : Thread Cert.ARepIdeal.nD Cert.ARepIdeal.τ).loc Cert.ARepIdeal.main_v0_19)) (v20 : (c : Dev Cert.ARepIdeal.nD) → Buf (Elt Ideal) ((c.tc : Thread Cert.ARepIdeal.nD Cert.ARepIdeal.τ).loc Cert.ARepIdeal.main_v0_20)) (v21 : (c : Dev Cert.ARepIdeal.nD) → Buf (Elt Ideal) ((c.tc : Thread Cert.ARepIdeal.nD Cert.ARepIdeal.τ).loc Cert.ARepIdeal.main_v0_21)) (v22 : (c : Dev Cert.ARepIdeal.nD) → Buf (Elt Ideal) ((c.tc : Thread Cert.ARepIdeal.nD Cert.ARepIdeal.τ).loc Cert.ARepIdeal.main_v0_22)) (v23 : (c : Dev Cert.ARepIdeal.nD) → Buf (Elt Ideal) ((c.tc : Thread Cert.ARepIdeal.nD Cert.ARepIdeal.τ).loc Cert.ARepIdeal.main_v0_23)) (v24 : (c : Dev Cert.ARepIdeal.nD) → Buf (Elt Ideal) ((c.tc : Thread Cert.ARepIdeal.nD Cert.ARepIdeal.τ).loc Cert.ARepIdeal.main_v0_24)) (v25 : (c : Dev Cert.ARepIdeal.nD) → Buf (Elt Ideal) ((c.tc : Thread Cert.ARepIdeal.nD Cert.ARepIdeal.τ).loc Cert.ARepIdeal.main_v0_25)) (v26 : (c : Dev Cert.ARepIdeal.nD) → Buf (Elt Ideal) ((c.tc : Thread Cert.ARepIdeal.nD Cert.ARepIdeal.τ).loc Cert.ARepIdeal.main_v0_26)) (v27 : (c : Dev Cert.ARepIdeal.nD) → Buf (Elt Ideal) ((c.tc : Thread Cert.ARepIdeal.nD Cert.ARepIdeal.τ).loc Cert.ARepIdeal.main_v0_27)) (v28 : (c : Dev Cert.ARepIdeal.nD) → Buf (Elt Ideal) ((c.tc : Thread Cert.ARepIdeal.nD Cert.ARepIdeal.τ).loc Cert.ARepIdeal.main_v0_28)),
      θ_run (Cert.ARepIdeal.defs (F := Ideal)) (onTc (τ := Cert.ARepIdeal.τ) (Cert.ARepIdeal.main (F := Ideal))) ⟨m, fun _ => 0, g⟩ (fun r => ∀ c : Dev Cert.ARepIdeal.nD,
          r.2.mem ((c.tc : Thread Cert.ARepIdeal.nD Cert.ARepIdeal.τ).loc Cert.ARepIdeal.main_v0_0) = v0 c
          ∧ r.2.mem ((c.tc : Thread Cert.ARepIdeal.nD Cert.ARepIdeal.τ).loc Cert.ARepIdeal.main_v0_1) = v1 c
          ∧ r.2.mem ((c.tc : Thread Cert.ARepIdeal.nD Cert.ARepIdeal.τ).loc Cert.ARepIdeal.main_v0_2) = v2 c
          ∧ r.2.mem ((c.tc : Thread Cert.ARepIdeal.nD Cert.ARepIdeal.τ).loc Cert.ARepIdeal.main_v0_3) = v3 c
          ∧ r.2.mem ((c.tc : Thread Cert.ARepIdeal.nD Cert.ARepIdeal.τ).loc Cert.ARepIdeal.main_v0_4) = v4 c
          ∧ r.2.mem ((c.tc : Thread Cert.ARepIdeal.nD Cert.ARepIdeal.τ).loc Cert.ARepIdeal.main_v0_5) = v5 c
          ∧ r.2.mem ((c.tc : Thread Cert.ARepIdeal.nD Cert.ARepIdeal.τ).loc Cert.ARepIdeal.main_v0_6) = v6 c
          ∧ r.2.mem ((c.tc : Thread Cert.ARepIdeal.nD Cert.ARepIdeal.τ).loc Cert.ARepIdeal.main_v0_7) = v7 c
          ∧ r.2.mem ((c.tc : Thread Cert.ARepIdeal.nD Cert.ARepIdeal.τ).loc Cert.ARepIdeal.main_v0_8) = v8 c
          ∧ r.2.mem ((c.tc : Thread Cert.ARepIdeal.nD Cert.ARepIdeal.τ).loc Cert.ARepIdeal.main_v0_9) = v9 c
          ∧ r.2.mem ((c.tc : Thread Cert.ARepIdeal.nD Cert.ARepIdeal.τ).loc Cert.ARepIdeal.main_v0_10) = v10 c
          ∧ r.2.mem ((c.tc : Thread Cert.ARepIdeal.nD Cert.ARepIdeal.τ).loc Cert.ARepIdeal.main_v0_11) = v11 c
          ∧ r.2.mem ((c.tc : Thread Cert.ARepIdeal.nD Cert.ARepIdeal.τ).loc Cert.ARepIdeal.main_v0_12) = v12 c
          ∧ r.2.mem ((c.tc : Thread Cert.ARepIdeal.nD Cert.ARepIdeal.τ).loc Cert.ARepIdeal.main_v0_13) = v13 c
          ∧ r.2.mem ((c.tc : Thread Cert.ARepIdeal.nD Cert.ARepIdeal.τ).loc Cert.ARepIdeal.main_v0_14) = v14 c
          ∧ r.2.mem ((c.tc : Thread Cert.ARepIdeal.nD Cert.ARepIdeal.τ).loc Cert.ARepIdeal.main_v0_15) = v15 c
          ∧ r.2.mem ((c.tc : Thread Cert.ARepIdeal.nD Cert.ARepIdeal.τ).loc Cert.ARepIdeal.main_v0_16) = v16 c
          ∧ r.2.mem ((c.tc : Thread Cert.ARepIdeal.nD Cert.ARepIdeal.τ).loc Cert.ARepIdeal.main_v0_17) = v17 c
          ∧ r.2.mem ((c.tc : Thread Cert.ARepIdeal.nD Cert.ARepIdeal.τ).loc Cert.ARepIdeal.main_v0_18) = v18 c
          ∧ r.2.mem ((c.tc : Thread Cert.ARepIdeal.nD Cert.ARepIdeal.τ).loc Cert.ARepIdeal.main_v0_19) = v19 c
          ∧ r.2.mem ((c.tc : Thread Cert.ARepIdeal.nD Cert.ARepIdeal.τ).loc Cert.ARepIdeal.main_v0_20) = v20 c
          ∧ r.2.mem ((c.tc : Thread Cert.ARepIdeal.nD Cert.ARepIdeal.τ).loc Cert.ARepIdeal.main_v0_21) = v21 c
          ∧ r.2.mem ((c.tc : Thread Cert.ARepIdeal.nD Cert.ARepIdeal.τ).loc Cert.ARepIdeal.main_v0_22) = v22 c
          ∧ r.2.mem ((c.tc : Thread Cert.ARepIdeal.nD Cert.ARepIdeal.τ).loc Cert.ARepIdeal.main_v0_23) = v23 c
          ∧ r.2.mem ((c.tc : Thread Cert.ARepIdeal.nD Cert.ARepIdeal.τ).loc Cert.ARepIdeal.main_v0_24) = v24 c
          ∧ r.2.mem ((c.tc : Thread Cert.ARepIdeal.nD Cert.ARepIdeal.τ).loc Cert.ARepIdeal.main_v0_25) = v25 c
          ∧ r.2.mem ((c.tc : Thread Cert.ARepIdeal.nD Cert.ARepIdeal.τ).loc Cert.ARepIdeal.main_v0_26) = v26 c
          ∧ r.2.mem ((c.tc : Thread Cert.ARepIdeal.nD Cert.ARepIdeal.τ).loc Cert.ARepIdeal.main_v0_27) = v27 c
          ∧ r.2.mem ((c.tc : Thread Cert.ARepIdeal.nD Cert.ARepIdeal.τ).loc Cert.ARepIdeal.main_v0_28) = v28 c
          ∧ r.2.mem ((c.tc : Thread Cert.ARepIdeal.nD Cert.ARepIdeal.τ).loc Cert.ARepIdeal.main_arg0) = m ((c.tc : Thread Cert.ARepIdeal.nD Cert.ARepIdeal.τ).loc Cert.ARepIdeal.main_arg0)
          ∧ r.2.mem ((c.tc : Thread Cert.ARepIdeal.nD Cert.ARepIdeal.τ).loc Cert.ARepIdeal.main_arg1) = m ((c.tc : Thread Cert.ARepIdeal.nD Cert.ARepIdeal.τ).loc Cert.ARepIdeal.main_arg1)
          ∧ r.2.mem ((c.tc : Thread Cert.ARepIdeal.nD Cert.ARepIdeal.τ).loc Cert.ARepIdeal.main_arg2) = m ((c.tc : Thread Cert.ARepIdeal.nD Cert.ARepIdeal.τ).loc Cert.ARepIdeal.main_arg2)
          ∧ r.2.mem ((c.tc : Thread Cert.ARepIdeal.nD Cert.ARepIdeal.τ).loc Cert.ARepIdeal.main_arg3) = m ((c.tc : Thread Cert.ARepIdeal.nD Cert.ARepIdeal.τ).loc Cert.ARepIdeal.main_arg3)
          ∧ r.2.mem ((c.tc : Thread Cert.ARepIdeal.nD Cert.ARepIdeal.τ).loc Cert.ARepIdeal.main_arg4) = m ((c.tc : Thread Cert.ARepIdeal.nD Cert.ARepIdeal.τ).loc Cert.ARepIdeal.main_arg4)
          ∧ r.2.mem ((c.tc : Thread Cert.ARepIdeal.nD Cert.ARepIdeal.τ).loc Cert.ARepIdeal.main_arg5) = m ((c.tc : Thread Cert.ARepIdeal.nD Cert.ARepIdeal.τ).loc Cert.ARepIdeal.main_arg5)
          ∧ r.2.mem ((c.tc : Thread Cert.ARepIdeal.nD Cert.ARepIdeal.τ).loc Cert.ARepIdeal.main_arg6) = m ((c.tc : Thread Cert.ARepIdeal.nD Cert.ARepIdeal.τ).loc Cert.ARepIdeal.main_arg6)
          ∧ r.2.mem ((c.tc : Thread Cert.ARepIdeal.nD Cert.ARepIdeal.τ).loc Cert.ARepIdeal.main_arg7) = m ((c.tc : Thread Cert.ARepIdeal.nD Cert.ARepIdeal.τ).loc Cert.ARepIdeal.main_arg7)
          ∧ r.2.mem ((c.tc : Thread Cert.ARepIdeal.nD Cert.ARepIdeal.τ).loc Cert.ARepIdeal.main_arg8) = m ((c.tc : Thread Cert.ARepIdeal.nD Cert.ARepIdeal.τ).loc Cert.ARepIdeal.main_arg8)
          ∧ r.2.mem ((c.tc : Thread Cert.ARepIdeal.nD Cert.ARepIdeal.τ).loc Cert.ARepIdeal.main_arg9) = m ((c.tc : Thread Cert.ARepIdeal.nD Cert.ARepIdeal.τ).loc Cert.ARepIdeal.main_arg9)
          ∧ r.2.mem ((c.tc : Thread Cert.ARepIdeal.nD Cert.ARepIdeal.τ).loc Cert.ARepIdeal.main_arg10) = m ((c.tc : Thread Cert.ARepIdeal.nD Cert.ARepIdeal.τ).loc Cert.ARepIdeal.main_arg10)
          ∧ r.2.mem ((c.tc : Thread Cert.ARepIdeal.nD Cert.ARepIdeal.τ).loc Cert.ARepIdeal.main_arg11) = m ((c.tc : Thread Cert.ARepIdeal.nD Cert.ARepIdeal.τ).loc Cert.ARepIdeal.main_arg11)
          ∧ r.2.mem ((c.tc : Thread Cert.ARepIdeal.nD Cert.ARepIdeal.τ).loc Cert.ARepIdeal.main_arg12) = m ((c.tc : Thread Cert.ARepIdeal.nD Cert.ARepIdeal.τ).loc Cert.ARepIdeal.main_arg12)
          ∧ r.2.mem ((c.tc : Thread Cert.ARepIdeal.nD Cert.ARepIdeal.τ).loc Cert.ARepIdeal.main_arg13) = m ((c.tc : Thread Cert.ARepIdeal.nD Cert.ARepIdeal.τ).loc Cert.ARepIdeal.main_arg13)
          ∧ r.2.mem ((c.tc : Thread Cert.ARepIdeal.nD Cert.ARepIdeal.τ).loc Cert.ARepIdeal.main_arg14) = m ((c.tc : Thread Cert.ARepIdeal.nD Cert.ARepIdeal.τ).loc Cert.ARepIdeal.main_arg14)
          ∧ r.2.mem ((c.tc : Thread Cert.ARepIdeal.nD Cert.ARepIdeal.τ).loc Cert.ARepIdeal.main_arg15) = m ((c.tc : Thread Cert.ARepIdeal.nD Cert.ARepIdeal.τ).loc Cert.ARepIdeal.main_arg15)
          ∧ r.2.mem ((c.tc : Thread Cert.ARepIdeal.nD Cert.ARepIdeal.τ).loc Cert.ARepIdeal.main_arg16) = m ((c.tc : Thread Cert.ARepIdeal.nD Cert.ARepIdeal.τ).loc Cert.ARepIdeal.main_arg16)
          ∧ r.2.mem ((c.tc : Thread Cert.ARepIdeal.nD Cert.ARepIdeal.τ).loc Cert.ARepIdeal.main_arg17) = m ((c.tc : Thread Cert.ARepIdeal.nD Cert.ARepIdeal.τ).loc Cert.ARepIdeal.main_arg17)
          ∧ r.2.mem ((c.tc : Thread Cert.ARepIdeal.nD Cert.ARepIdeal.τ).loc Cert.ARepIdeal.main_arg18) = m ((c.tc : Thread Cert.ARepIdeal.nD Cert.ARepIdeal.τ).loc Cert.ARepIdeal.main_arg18)
          ∧ r.2.mem ((c.tc : Thread Cert.ARepIdeal.nD Cert.ARepIdeal.τ).loc Cert.ARepIdeal.main_arg19) = m ((c.tc : Thread Cert.ARepIdeal.nD Cert.ARepIdeal.τ).loc Cert.ARepIdeal.main_arg19)
          ∧ r.2.mem ((c.tc : Thread Cert.ARepIdeal.nD Cert.ARepIdeal.τ).loc Cert.ARepIdeal.main_arg20) = m ((c.tc : Thread Cert.ARepIdeal.nD Cert.ARepIdeal.τ).loc Cert.ARepIdeal.main_arg20)
          ∧ r.2.mem ((c.tc : Thread Cert.ARepIdeal.nD Cert.ARepIdeal.τ).loc Cert.ARepIdeal.main_arg21) = m ((c.tc : Thread Cert.ARepIdeal.nD Cert.ARepIdeal.τ).loc Cert.ARepIdeal.main_arg21)
          ∧ r.2.mem ((c.tc : Thread Cert.ARepIdeal.nD Cert.ARepIdeal.τ).loc Cert.ARepIdeal.main_arg22) = m ((c.tc : Thread Cert.ARepIdeal.nD Cert.ARepIdeal.τ).loc Cert.ARepIdeal.main_arg22)
          ∧ r.2.mem ((c.tc : Thread Cert.ARepIdeal.nD Cert.ARepIdeal.τ).loc Cert.ARepIdeal.main_arg23) = m ((c.tc : Thread Cert.ARepIdeal.nD Cert.ARepIdeal.τ).loc Cert.ARepIdeal.main_arg23)
          ∧ r.2.mem ((c.tc : Thread Cert.ARepIdeal.nD Cert.ARepIdeal.τ).loc Cert.ARepIdeal.main_arg24) = m ((c.tc : Thread Cert.ARepIdeal.nD Cert.ARepIdeal.τ).loc Cert.ARepIdeal.main_arg24)
          ∧ r.2.mem ((c.tc : Thread Cert.ARepIdeal.nD Cert.ARepIdeal.τ).loc Cert.ARepIdeal.main_arg25) = m ((c.tc : Thread Cert.ARepIdeal.nD Cert.ARepIdeal.τ).loc Cert.ARepIdeal.main_arg25)
          ∧ r.2.mem ((c.tc : Thread Cert.ARepIdeal.nD Cert.ARepIdeal.τ).loc Cert.ARepIdeal.main_arg26) = m ((c.tc : Thread Cert.ARepIdeal.nD Cert.ARepIdeal.τ).loc Cert.ARepIdeal.main_arg26)
          ∧ r.2.mem ((c.tc : Thread Cert.ARepIdeal.nD Cert.ARepIdeal.τ).loc Cert.ARepIdeal.main_arg27) = m ((c.tc : Thread Cert.ARepIdeal.nD Cert.ARepIdeal.τ).loc Cert.ARepIdeal.main_arg27)
          ∧ r.2.mem ((c.tc : Thread Cert.ARepIdeal.nD Cert.ARepIdeal.τ).loc Cert.ARepIdeal.main_arg28) = m ((c.tc : Thread Cert.ARepIdeal.nD Cert.ARepIdeal.τ).loc Cert.ARepIdeal.main_arg28))
      ∧ θ_run (Cert.ARepRefIdeal.defs (F := Ideal)) (onTc (τ := Cert.ARepRefIdeal.τ) (Cert.ARepRefIdeal.main (F := Ideal))) ⟨m', fun _ => 0, g'⟩ (fun r => ∀ c : Dev Cert.ARepRefIdeal.nD,
          r.2.mem ((c.tc : Thread Cert.ARepRefIdeal.nD Cert.ARepRefIdeal.τ).loc Cert.ARepRefIdeal.main_v0) = v0 c
          ∧ r.2.mem ((c.tc : Thread Cert.ARepRefIdeal.nD Cert.ARepRefIdeal.τ).loc Cert.ARepRefIdeal.main_v1) = v1 c
          ∧ r.2.mem ((c.tc : Thread Cert.ARepRefIdeal.nD Cert.ARepRefIdeal.τ).loc Cert.ARepRefIdeal.main_v25) = v2 c
          ∧ r.2.mem ((c.tc : Thread Cert.ARepRefIdeal.nD Cert.ARepRefIdeal.τ).loc Cert.ARepRefIdeal.main_v6) = v3 c
          ∧ r.2.mem ((c.tc : Thread Cert.ARepRefIdeal.nD Cert.ARepRefIdeal.τ).loc Cert.ARepRefIdeal.main_v12) = v4 c
          ∧ r.2.mem ((c.tc : Thread Cert.ARepRefIdeal.nD Cert.ARepRefIdeal.τ).loc Cert.ARepRefIdeal.main_v26) = v5 c
          ∧ r.2.mem ((c.tc : Thread Cert.ARepRefIdeal.nD Cert.ARepRefIdeal.τ).loc Cert.ARepRefIdeal.main_v50) = v6 c
          ∧ r.2.mem ((c.tc : Thread Cert.ARepRefIdeal.nD Cert.ARepRefIdeal.τ).loc Cert.ARepRefIdeal.main_v31) = v7 c
          ∧ r.2.mem ((c.tc : Thread Cert.ARepRefIdeal.nD Cert.ARepRefIdeal.τ).loc Cert.ARepRefIdeal.main_v37) = v8 c
          ∧ r.2.mem ((c.tc : Thread Cert.ARepRefIdeal.nD Cert.ARepRefIdeal.τ).loc Cert.ARepRefIdeal.main_v51) = v9 c
          ∧ r.2.mem ((c.tc : Thread Cert.ARepRefIdeal.nD Cert.ARepRefIdeal.τ).loc Cert.ARepRefIdeal.main_v75) = v10 c
          ∧ r.2.mem ((c.tc : Thread Cert.ARepRefIdeal.nD Cert.ARepRefIdeal.τ).loc Cert.ARepRefIdeal.main_v56) = v11 c
          ∧ r.2.mem ((c.tc : Thread Cert.ARepRefIdeal.nD Cert.ARepRefIdeal.τ).loc Cert.ARepRefIdeal.main_v62) = v12 c
          ∧ r.2.mem ((c.tc : Thread Cert.ARepRefIdeal.nD Cert.ARepRefIdeal.τ).loc Cert.ARepRefIdeal.main_v76) = v13 c
          ∧ r.2.mem ((c.tc : Thread Cert.ARepRefIdeal.nD Cert.ARepRefIdeal.τ).loc Cert.ARepRefIdeal.main_v100) = v14 c
          ∧ r.2.mem ((c.tc : Thread Cert.ARepRefIdeal.nD Cert.ARepRefIdeal.τ).loc Cert.ARepRefIdeal.main_v81) = v15 c
          ∧ r.2.mem ((c.tc : Thread Cert.ARepRefIdeal.nD Cert.ARepRefIdeal.τ).loc Cert.ARepRefIdeal.main_v87) = v16 c
          ∧ r.2.mem ((c.tc : Thread Cert.ARepRefIdeal.nD Cert.ARepRefIdeal.τ).loc Cert.ARepRefIdeal.main_v101) = v17 c
          ∧ r.2.mem ((c.tc : Thread Cert.ARepRefIdeal.nD Cert.ARepRefIdeal.τ).loc Cert.ARepRefIdeal.main_v125) = v18 c
          ∧ r.2.mem ((c.tc : Thread Cert.ARepRefIdeal.nD Cert.ARepRefIdeal.τ).loc Cert.ARepRefIdeal.main_v106) = v19 c
          ∧ r.2.mem ((c.tc : Thread Cert.ARepRefIdeal.nD Cert.ARepRefIdeal.τ).loc Cert.ARepRefIdeal.main_v112) = v20 c
          ∧ r.2.mem ((c.tc : Thread Cert.ARepRefIdeal.nD Cert.ARepRefIdeal.τ).loc Cert.ARepRefIdeal.main_v126) = v21 c
          ∧ r.2.mem ((c.tc : Thread Cert.ARepRefIdeal.nD Cert.ARepRefIdeal.τ).loc Cert.ARepRefIdeal.main_v150) = v22 c
          ∧ r.2.mem ((c.tc : Thread Cert.ARepRefIdeal.nD Cert.ARepRefIdeal.τ).loc Cert.ARepRefIdeal.main_v131) = v23 c
          ∧ r.2.mem ((c.tc : Thread Cert.ARepRefIdeal.nD Cert.ARepRefIdeal.τ).loc Cert.ARepRefIdeal.main_v137) = v24 c
          ∧ r.2.mem ((c.tc : Thread Cert.ARepRefIdeal.nD Cert.ARepRefIdeal.τ).loc Cert.ARepRefIdeal.main_v151) = v25 c
          ∧ r.2.mem ((c.tc : Thread Cert.ARepRefIdeal.nD Cert.ARepRefIdeal.τ).loc Cert.ARepRefIdeal.main_v175) = v26 c
          ∧ r.2.mem ((c.tc : Thread Cert.ARepRefIdeal.nD Cert.ARepRefIdeal.τ).loc Cert.ARepRefIdeal.main_v156) = v27 c
          ∧ r.2.mem ((c.tc : Thread Cert.ARepRefIdeal.nD Cert.ARepRefIdeal.τ).loc Cert.ARepRefIdeal.main_v162) = v28 c
          ∧ r.2.mem ((c.tc : Thread Cert.ARepRefIdeal.nD Cert.ARepRefIdeal.τ).loc Cert.ARepRefIdeal.main_arg0) = m' ((c.tc : Thread Cert.ARepRefIdeal.nD Cert.ARepRefIdeal.τ).loc Cert.ARepRefIdeal.main_arg0)
          ∧ r.2.mem ((c.tc : Thread Cert.ARepRefIdeal.nD Cert.ARepRefIdeal.τ).loc Cert.ARepRefIdeal.main_arg1) = m' ((c.tc : Thread Cert.ARepRefIdeal.nD Cert.ARepRefIdeal.τ).loc Cert.ARepRefIdeal.main_arg1)
          ∧ r.2.mem ((c.tc : Thread Cert.ARepRefIdeal.nD Cert.ARepRefIdeal.τ).loc Cert.ARepRefIdeal.main_arg2) = m' ((c.tc : Thread Cert.ARepRefIdeal.nD Cert.ARepRefIdeal.τ).loc Cert.ARepRefIdeal.main_arg2)
          ∧ r.2.mem ((c.tc : Thread Cert.ARepRefIdeal.nD Cert.ARepRefIdeal.τ).loc Cert.ARepRefIdeal.main_arg3) = m' ((c.tc : Thread Cert.ARepRefIdeal.nD Cert.ARepRefIdeal.τ).loc Cert.ARepRefIdeal.main_arg3)
          ∧ r.2.mem ((c.tc : Thread Cert.ARepRefIdeal.nD Cert.ARepRefIdeal.τ).loc Cert.ARepRefIdeal.main_arg4) = m' ((c.tc : Thread Cert.ARepRefIdeal.nD Cert.ARepRefIdeal.τ).loc Cert.ARepRefIdeal.main_arg4)
          ∧ r.2.mem ((c.tc : Thread Cert.ARepRefIdeal.nD Cert.ARepRefIdeal.τ).loc Cert.ARepRefIdeal.main_arg5) = m' ((c.tc : Thread Cert.ARepRefIdeal.nD Cert.ARepRefIdeal.τ).loc Cert.ARepRefIdeal.main_arg5)
          ∧ r.2.mem ((c.tc : Thread Cert.ARepRefIdeal.nD Cert.ARepRefIdeal.τ).loc Cert.ARepRefIdeal.main_arg6) = m' ((c.tc : Thread Cert.ARepRefIdeal.nD Cert.ARepRefIdeal.τ).loc Cert.ARepRefIdeal.main_arg6)
          ∧ r.2.mem ((c.tc : Thread Cert.ARepRefIdeal.nD Cert.ARepRefIdeal.τ).loc Cert.ARepRefIdeal.main_arg7) = m' ((c.tc : Thread Cert.ARepRefIdeal.nD Cert.ARepRefIdeal.τ).loc Cert.ARepRefIdeal.main_arg7)
          ∧ r.2.mem ((c.tc : Thread Cert.ARepRefIdeal.nD Cert.ARepRefIdeal.τ).loc Cert.ARepRefIdeal.main_arg8) = m' ((c.tc : Thread Cert.ARepRefIdeal.nD Cert.ARepRefIdeal.τ).loc Cert.ARepRefIdeal.main_arg8)
          ∧ r.2.mem ((c.tc : Thread Cert.ARepRefIdeal.nD Cert.ARepRefIdeal.τ).loc Cert.ARepRefIdeal.main_arg9) = m' ((c.tc : Thread Cert.ARepRefIdeal.nD Cert.ARepRefIdeal.τ).loc Cert.ARepRefIdeal.main_arg9)
          ∧ r.2.mem ((c.tc : Thread Cert.ARepRefIdeal.nD Cert.ARepRefIdeal.τ).loc Cert.ARepRefIdeal.main_arg10) = m' ((c.tc : Thread Cert.ARepRefIdeal.nD Cert.ARepRefIdeal.τ).loc Cert.ARepRefIdeal.main_arg10)
          ∧ r.2.mem ((c.tc : Thread Cert.ARepRefIdeal.nD Cert.ARepRefIdeal.τ).loc Cert.ARepRefIdeal.main_arg11) = m' ((c.tc : Thread Cert.ARepRefIdeal.nD Cert.ARepRefIdeal.τ).loc Cert.ARepRefIdeal.main_arg11)
          ∧ r.2.mem ((c.tc : Thread Cert.ARepRefIdeal.nD Cert.ARepRefIdeal.τ).loc Cert.ARepRefIdeal.main_arg12) = m' ((c.tc : Thread Cert.ARepRefIdeal.nD Cert.ARepRefIdeal.τ).loc Cert.ARepRefIdeal.main_arg12)
          ∧ r.2.mem ((c.tc : Thread Cert.ARepRefIdeal.nD Cert.ARepRefIdeal.τ).loc Cert.ARepRefIdeal.main_arg13) = m' ((c.tc : Thread Cert.ARepRefIdeal.nD Cert.ARepRefIdeal.τ).loc Cert.ARepRefIdeal.main_arg13)
          ∧ r.2.mem ((c.tc : Thread Cert.ARepRefIdeal.nD Cert.ARepRefIdeal.τ).loc Cert.ARepRefIdeal.main_arg14) = m' ((c.tc : Thread Cert.ARepRefIdeal.nD Cert.ARepRefIdeal.τ).loc Cert.ARepRefIdeal.main_arg14)
          ∧ r.2.mem ((c.tc : Thread Cert.ARepRefIdeal.nD Cert.ARepRefIdeal.τ).loc Cert.ARepRefIdeal.main_arg15) = m' ((c.tc : Thread Cert.ARepRefIdeal.nD Cert.ARepRefIdeal.τ).loc Cert.ARepRefIdeal.main_arg15)
          ∧ r.2.mem ((c.tc : Thread Cert.ARepRefIdeal.nD Cert.ARepRefIdeal.τ).loc Cert.ARepRefIdeal.main_arg16) = m' ((c.tc : Thread Cert.ARepRefIdeal.nD Cert.ARepRefIdeal.τ).loc Cert.ARepRefIdeal.main_arg16)
          ∧ r.2.mem ((c.tc : Thread Cert.ARepRefIdeal.nD Cert.ARepRefIdeal.τ).loc Cert.ARepRefIdeal.main_arg17) = m' ((c.tc : Thread Cert.ARepRefIdeal.nD Cert.ARepRefIdeal.τ).loc Cert.ARepRefIdeal.main_arg17)
          ∧ r.2.mem ((c.tc : Thread Cert.ARepRefIdeal.nD Cert.ARepRefIdeal.τ).loc Cert.ARepRefIdeal.main_arg18) = m' ((c.tc : Thread Cert.ARepRefIdeal.nD Cert.ARepRefIdeal.τ).loc Cert.ARepRefIdeal.main_arg18)
          ∧ r.2.mem ((c.tc : Thread Cert.ARepRefIdeal.nD Cert.ARepRefIdeal.τ).loc Cert.ARepRefIdeal.main_arg19) = m' ((c.tc : Thread Cert.ARepRefIdeal.nD Cert.ARepRefIdeal.τ).loc Cert.ARepRefIdeal.main_arg19)
          ∧ r.2.mem ((c.tc : Thread Cert.ARepRefIdeal.nD Cert.ARepRefIdeal.τ).loc Cert.ARepRefIdeal.main_arg20) = m' ((c.tc : Thread Cert.ARepRefIdeal.nD Cert.ARepRefIdeal.τ).loc Cert.ARepRefIdeal.main_arg20)
          ∧ r.2.mem ((c.tc : Thread Cert.ARepRefIdeal.nD Cert.ARepRefIdeal.τ).loc Cert.ARepRefIdeal.main_arg21) = m' ((c.tc : Thread Cert.ARepRefIdeal.nD Cert.ARepRefIdeal.τ).loc Cert.ARepRefIdeal.main_arg21)
          ∧ r.2.mem ((c.tc : Thread Cert.ARepRefIdeal.nD Cert.ARepRefIdeal.τ).loc Cert.ARepRefIdeal.main_arg22) = m' ((c.tc : Thread Cert.ARepRefIdeal.nD Cert.ARepRefIdeal.τ).loc Cert.ARepRefIdeal.main_arg22)
          ∧ r.2.mem ((c.tc : Thread Cert.ARepRefIdeal.nD Cert.ARepRefIdeal.τ).loc Cert.ARepRefIdeal.main_arg23) = m' ((c.tc : Thread Cert.ARepRefIdeal.nD Cert.ARepRefIdeal.τ).loc Cert.ARepRefIdeal.main_arg23)
          ∧ r.2.mem ((c.tc : Thread Cert.ARepRefIdeal.nD Cert.ARepRefIdeal.τ).loc Cert.ARepRefIdeal.main_arg24) = m' ((c.tc : Thread Cert.ARepRefIdeal.nD Cert.ARepRefIdeal.τ).loc Cert.ARepRefIdeal.main_arg24)
          ∧ r.2.mem ((c.tc : Thread Cert.ARepRefIdeal.nD Cert.ARepRefIdeal.τ).loc Cert.ARepRefIdeal.main_arg25) = m' ((c.tc : Thread Cert.ARepRefIdeal.nD Cert.ARepRefIdeal.τ).loc Cert.ARepRefIdeal.main_arg25)
          ∧ r.2.mem ((c.tc : Thread Cert.ARepRefIdeal.nD Cert.ARepRefIdeal.τ).loc Cert.ARepRefIdeal.main_arg26) = m' ((c.tc : Thread Cert.ARepRefIdeal.nD Cert.ARepRefIdeal.τ).loc Cert.ARepRefIdeal.main_arg26)
          ∧ r.2.mem ((c.tc : Thread Cert.ARepRefIdeal.nD Cert.ARepRefIdeal.τ).loc Cert.ARepRefIdeal.main_arg27) = m' ((c.tc : Thread Cert.ARepRefIdeal.nD Cert.ARepRefIdeal.τ).loc Cert.ARepRefIdeal.main_arg27)
          ∧ r.2.mem ((c.tc : Thread Cert.ARepRefIdeal.nD Cert.ARepRefIdeal.τ).loc Cert.ARepRefIdeal.main_arg28) = m' ((c.tc : Thread Cert.ARepRefIdeal.nD Cert.ARepRefIdeal.τ).loc Cert.ARepRefIdeal.main_arg28))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v21) = v0 c
          ∧ r.2.mem ((c.tc : Thread Cert.NormRefIdeal.nD Cert.NormRefIdeal.τ).loc Cert.NormRefIdeal.main_v22) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def Claim : Prop :=
  ∃ (hKernel : Cert.Kernel.Facts) (hKernelIdeal : Cert.KernelIdeal.Facts) (hReferenceIdeal : Cert.ReferenceIdeal.Facts) (hDH : Cert.DH.Facts) (hDHIdeal : Cert.DHIdeal.Facts) (hDHRefIdeal : Cert.DHRefIdeal.Facts) (hGUp : Cert.GUp.Facts) (hGUpIdeal : Cert.GUpIdeal.Facts) (hGUpRefIdeal : Cert.GUpRefIdeal.Facts) (hDP : Cert.DP.Facts) (hDPIdeal : Cert.DPIdeal.Facts) (hDPRefIdeal : Cert.DPRefIdeal.Facts) (hDX : Cert.DX.Facts) (hDXIdeal : Cert.DXIdeal.Facts) (hDXRefIdeal : Cert.DXRefIdeal.Facts) (hGDown : Cert.GDown.Facts) (hGDownIdeal : Cert.GDownIdeal.Facts) (hGDownRefIdeal : Cert.GDownRefIdeal.Facts) (hGIn : Cert.GIn.Facts) (hGInIdeal : Cert.GInIdeal.Facts) (hGInRefIdeal : Cert.GInRefIdeal.Facts) (hFUp : Cert.FUp.Facts) (hFUpIdeal : Cert.FUpIdeal.Facts) (hFUpRefIdeal : Cert.FUpRefIdeal.Facts) (hFDown : Cert.FDown.Facts) (hFDownIdeal : Cert.FDownIdeal.Facts) (hFDownRefIdeal : Cert.FDownRefIdeal.Facts) (hMix : Cert.Mix.Facts) (hMixIdeal : Cert.MixIdeal.Facts) (hMixRefIdeal : Cert.MixRefIdeal.Facts) (hGOut : Cert.GOut.Facts) (hGOutIdeal : Cert.GOutIdeal.Facts) (hGOutRefIdeal : Cert.GOutRefIdeal.Facts) (hDCat : Cert.DCat.Facts) (hDCatIdeal : Cert.DCatIdeal.Facts) (hDCatRefIdeal : Cert.DCatRefIdeal.Facts) (hPSb : Cert.PSb.Facts) (hPSbIdeal : Cert.PSbIdeal.Facts) (hPSbRefIdeal : Cert.PSbRefIdeal.Facts) (hPGla : Cert.PGla.Facts) (hPGlaIdeal : Cert.PGlaIdeal.Facts) (hPGlaRefIdeal : Cert.PGlaRefIdeal.Facts) (hAIn : Cert.AIn.Facts) (hAInIdeal : Cert.AInIdeal.Facts) (hAInRefIdeal : Cert.AInRefIdeal.Facts) (hAOut : Cert.AOut.Facts) (hAOutIdeal : Cert.AOutIdeal.Facts) (hAOutRefIdeal : Cert.AOutRefIdeal.Facts) (hAUp : Cert.AUp.Facts) (hAUpIdeal : Cert.AUpIdeal.Facts) (hAUpRefIdeal : Cert.AUpRefIdeal.Facts) (hADown : Cert.ADown.Facts) (hADownIdeal : Cert.ADownIdeal.Facts) (hADownRefIdeal : Cert.ADownRefIdeal.Facts) (hAGate : Cert.AGate.Facts) (hAGateIdeal : Cert.AGateIdeal.Facts) (hAGateRefIdeal : Cert.AGateRefIdeal.Facts) (hAConv : Cert.AConv.Facts) (hAConvIdeal : Cert.AConvIdeal.Facts) (hAConvRefIdeal : Cert.AConvRefIdeal.Facts) (hARep : Cert.ARep.Facts) (hARepIdeal : Cert.ARepIdeal.Facts) (hARepRefIdeal : Cert.ARepRefIdeal.Facts) (hNorm : Cert.Norm.Facts) (hNormIdeal : Cert.NormIdeal.Facts) (hNormRefIdeal : Cert.NormRefIdeal.Facts),
    quiescent_Kernel (hKernel := hKernel)
    ∧ quiescent_KernelIdeal (hKernelIdeal := hKernelIdeal)
    ∧ quiescent_ReferenceIdeal (hReferenceIdeal := hReferenceIdeal)
    ∧ quiescent_DH (hDH := hDH)
    ∧ quiescent_DHIdeal (hDHIdeal := hDHIdeal)
    ∧ quiescent_DHRefIdeal (hDHRefIdeal := hDHRefIdeal)
    ∧ quiescent_GUp (hGUp := hGUp)
    ∧ quiescent_GUpIdeal (hGUpIdeal := hGUpIdeal)
    ∧ quiescent_GUpRefIdeal (hGUpRefIdeal := hGUpRefIdeal)
    ∧ quiescent_DP (hDP := hDP)
    ∧ quiescent_DPIdeal (hDPIdeal := hDPIdeal)
    ∧ quiescent_DPRefIdeal (hDPRefIdeal := hDPRefIdeal)
    ∧ quiescent_DX (hDX := hDX)
    ∧ quiescent_DXIdeal (hDXIdeal := hDXIdeal)
    ∧ quiescent_DXRefIdeal (hDXRefIdeal := hDXRefIdeal)
    ∧ quiescent_GDown (hGDown := hGDown)
    ∧ quiescent_GDownIdeal (hGDownIdeal := hGDownIdeal)
    ∧ quiescent_GDownRefIdeal (hGDownRefIdeal := hGDownRefIdeal)
    ∧ quiescent_GIn (hGIn := hGIn)
    ∧ quiescent_GInIdeal (hGInIdeal := hGInIdeal)
    ∧ quiescent_GInRefIdeal (hGInRefIdeal := hGInRefIdeal)
    ∧ quiescent_FUp (hFUp := hFUp)
    ∧ quiescent_FUpIdeal (hFUpIdeal := hFUpIdeal)
    ∧ quiescent_FUpRefIdeal (hFUpRefIdeal := hFUpRefIdeal)
    ∧ quiescent_FDown (hFDown := hFDown)
    ∧ quiescent_FDownIdeal (hFDownIdeal := hFDownIdeal)
    ∧ quiescent_FDownRefIdeal (hFDownRefIdeal := hFDownRefIdeal)
    ∧ quiescent_Mix (hMix := hMix)
    ∧ quiescent_MixIdeal (hMixIdeal := hMixIdeal)
    ∧ quiescent_MixRefIdeal (hMixRefIdeal := hMixRefIdeal)
    ∧ quiescent_GOut (hGOut := hGOut)
    ∧ quiescent_GOutIdeal (hGOutIdeal := hGOutIdeal)
    ∧ quiescent_GOutRefIdeal (hGOutRefIdeal := hGOutRefIdeal)
    ∧ quiescent_DCat (hDCat := hDCat)
    ∧ quiescent_DCatIdeal (hDCatIdeal := hDCatIdeal)
    ∧ quiescent_DCatRefIdeal (hDCatRefIdeal := hDCatRefIdeal)
    ∧ quiescent_PSb (hPSb := hPSb)
    ∧ quiescent_PSbIdeal (hPSbIdeal := hPSbIdeal)
    ∧ quiescent_PSbRefIdeal (hPSbRefIdeal := hPSbRefIdeal)
    ∧ quiescent_PGla (hPGla := hPGla)
    ∧ quiescent_PGlaIdeal (hPGlaIdeal := hPGlaIdeal)
    ∧ quiescent_PGlaRefIdeal (hPGlaRefIdeal := hPGlaRefIdeal)
    ∧ quiescent_AIn (hAIn := hAIn)
    ∧ quiescent_AInIdeal (hAInIdeal := hAInIdeal)
    ∧ quiescent_AInRefIdeal (hAInRefIdeal := hAInRefIdeal)
    ∧ quiescent_AOut (hAOut := hAOut)
    ∧ quiescent_AOutIdeal (hAOutIdeal := hAOutIdeal)
    ∧ quiescent_AOutRefIdeal (hAOutRefIdeal := hAOutRefIdeal)
    ∧ quiescent_AUp (hAUp := hAUp)
    ∧ quiescent_AUpIdeal (hAUpIdeal := hAUpIdeal)
    ∧ quiescent_AUpRefIdeal (hAUpRefIdeal := hAUpRefIdeal)
    ∧ quiescent_ADown (hADown := hADown)
    ∧ quiescent_ADownIdeal (hADownIdeal := hADownIdeal)
    ∧ quiescent_ADownRefIdeal (hADownRefIdeal := hADownRefIdeal)
    ∧ quiescent_AGate (hAGate := hAGate)
    ∧ quiescent_AGateIdeal (hAGateIdeal := hAGateIdeal)
    ∧ quiescent_AGateRefIdeal (hAGateRefIdeal := hAGateRefIdeal)
    ∧ quiescent_AConv (hAConv := hAConv)
    ∧ quiescent_AConvIdeal (hAConvIdeal := hAConvIdeal)
    ∧ quiescent_AConvRefIdeal (hAConvRefIdeal := hAConvRefIdeal)
    ∧ quiescent_ARep (hARep := hARep)
    ∧ quiescent_ARepIdeal (hARepIdeal := hARepIdeal)
    ∧ quiescent_ARepRefIdeal (hARepRefIdeal := hARepRefIdeal)
    ∧ quiescent_Norm (hNorm := hNorm)
    ∧ quiescent_NormIdeal (hNormIdeal := hNormIdeal)
    ∧ quiescent_NormRefIdeal (hNormRefIdeal := hNormRefIdeal)
    ∧ preserves_Kernel_KernelIdeal
    ∧ algebraic_KernelIdeal_ReferenceIdeal (hKernelIdeal := hKernelIdeal) (hReferenceIdeal := hReferenceIdeal)
    ∧ preserves_DH_DHIdeal
    ∧ algebraic_DHIdeal_DHRefIdeal (hDHIdeal := hDHIdeal) (hDHRefIdeal := hDHRefIdeal)
    ∧ preserves_GUp_GUpIdeal
    ∧ algebraic_GUpIdeal_GUpRefIdeal (hGUpIdeal := hGUpIdeal) (hGUpRefIdeal := hGUpRefIdeal)
    ∧ preserves_DP_DPIdeal
    ∧ algebraic_DPIdeal_DPRefIdeal (hDPIdeal := hDPIdeal) (hDPRefIdeal := hDPRefIdeal)
    ∧ preserves_DX_DXIdeal
    ∧ algebraic_DXIdeal_DXRefIdeal (hDXIdeal := hDXIdeal) (hDXRefIdeal := hDXRefIdeal)
    ∧ preserves_GDown_GDownIdeal
    ∧ algebraic_GDownIdeal_GDownRefIdeal (hGDownIdeal := hGDownIdeal) (hGDownRefIdeal := hGDownRefIdeal)
    ∧ preserves_GIn_GInIdeal
    ∧ algebraic_GInIdeal_GInRefIdeal (hGInIdeal := hGInIdeal) (hGInRefIdeal := hGInRefIdeal)
    ∧ preserves_FUp_FUpIdeal
    ∧ algebraic_FUpIdeal_FUpRefIdeal (hFUpIdeal := hFUpIdeal) (hFUpRefIdeal := hFUpRefIdeal)
    ∧ preserves_FDown_FDownIdeal
    ∧ algebraic_FDownIdeal_FDownRefIdeal (hFDownIdeal := hFDownIdeal) (hFDownRefIdeal := hFDownRefIdeal)
    ∧ preserves_Mix_MixIdeal
    ∧ algebraic_MixIdeal_MixRefIdeal (hMixIdeal := hMixIdeal) (hMixRefIdeal := hMixRefIdeal)
    ∧ preserves_GOut_GOutIdeal
    ∧ algebraic_GOutIdeal_GOutRefIdeal (hGOutIdeal := hGOutIdeal) (hGOutRefIdeal := hGOutRefIdeal)
    ∧ preserves_DCat_DCatIdeal
    ∧ algebraic_DCatIdeal_DCatRefIdeal (hDCatIdeal := hDCatIdeal) (hDCatRefIdeal := hDCatRefIdeal)
    ∧ preserves_PSb_PSbIdeal
    ∧ algebraic_PSbIdeal_PSbRefIdeal (hPSbIdeal := hPSbIdeal) (hPSbRefIdeal := hPSbRefIdeal)
    ∧ preserves_PGla_PGlaIdeal
    ∧ algebraic_PGlaIdeal_PGlaRefIdeal (hPGlaIdeal := hPGlaIdeal) (hPGlaRefIdeal := hPGlaRefIdeal)
    ∧ preserves_AIn_AInIdeal
    ∧ algebraic_AInIdeal_AInRefIdeal (hAInIdeal := hAInIdeal) (hAInRefIdeal := hAInRefIdeal)
    ∧ preserves_AOut_AOutIdeal
    ∧ algebraic_AOutIdeal_AOutRefIdeal (hAOutIdeal := hAOutIdeal) (hAOutRefIdeal := hAOutRefIdeal)
    ∧ preserves_AUp_AUpIdeal
    ∧ algebraic_AUpIdeal_AUpRefIdeal (hAUpIdeal := hAUpIdeal) (hAUpRefIdeal := hAUpRefIdeal)
    ∧ preserves_ADown_ADownIdeal
    ∧ algebraic_ADownIdeal_ADownRefIdeal (hADownIdeal := hADownIdeal) (hADownRefIdeal := hADownRefIdeal)
    ∧ preserves_AGate_AGateIdeal
    ∧ algebraic_AGateIdeal_AGateRefIdeal (hAGateIdeal := hAGateIdeal) (hAGateRefIdeal := hAGateRefIdeal)
    ∧ preserves_AConv_AConvIdeal
    ∧ algebraic_AConvIdeal_AConvRefIdeal (hAConvIdeal := hAConvIdeal) (hAConvRefIdeal := hAConvRefIdeal)
    ∧ preserves_ARep_ARepIdeal
    ∧ algebraic_ARepIdeal_ARepRefIdeal (hARepIdeal := hARepIdeal) (hARepRefIdeal := hARepRefIdeal)
    ∧ preserves_Norm_NormIdeal
    ∧ algebraic_NormIdeal_NormRefIdeal (hNormIdeal := hNormIdeal) (hNormRefIdeal := hNormRefIdeal)
-- ==== Kernel.lean ====
abbrev S4096x512 : Shape := ⟨2, ![4096, 512]⟩
abbrev S4096x1024 : Shape := ⟨2, ![4096, 1024]⟩
abbrev S4096x8x64 : Shape := ⟨3, ![4096, 8, 64]⟩
abbrev S8x4096x4096 : Shape := ⟨3, ![8, 4096, 4096]⟩
abbrev S_ : Shape := ⟨0, ![]⟩
abbrev S4096x4096 : Shape := ⟨2, ![4096, 4096]⟩
abbrev S8x4x1024x32x128 : Shape := ⟨5, ![8, 4, 1024, 32, 128]⟩
abbrev S8x4x32x1024x128 : Shape := ⟨5, ![8, 4, 32, 1024, 128]⟩
abbrev S4096x1536 : Shape := ⟨2, ![4096, 1536]⟩
abbrev S1024x128 : Shape := ⟨2, ![1024, 128]⟩
abbrev S4096x128 : Shape := ⟨2, ![4096, 128]⟩
abbrev S2x2x1024x128 : Shape := ⟨4, ![2, 2, 1024, 128]⟩
abbrev S2 : Shape := ⟨1, ![2]⟩
abbrev S8x2x1024x128 : Shape := ⟨4, ![8, 2, 1024, 128]⟩
abbrev S8 : Shape := ⟨1, ![8]⟩
abbrev S128x256 : Shape := ⟨2, ![128, 256]⟩
abbrev S128x128 : Shape := ⟨2, ![128, 128]⟩
abbrev S1024x256 : Shape := ⟨2, ![1024, 256]⟩
abbrev S1 : Shape := ⟨1, ![1]⟩
abbrev S1x2x1024x128 : Shape := ⟨4, ![1, 2, 1024, 128]⟩
abbrev S2x1024x128 : Shape := ⟨3, ![2, 1024, 128]⟩
abbrev S2x1x1x1024x128 : Shape := ⟨5, ![2, 1, 1, 1024, 128]⟩
abbrev S256x256 : Shape := ⟨2, ![256, 256]⟩
abbrev S1x1024x128 : Shape := ⟨3, ![1, 1024, 128]⟩
abbrev S1024x512 : Shape := ⟨2, ![1024, 512]⟩
abbrev S512x256 : Shape := ⟨2, ![512, 256]⟩
abbrev S256x128 : Shape := ⟨2, ![256, 128]⟩
abbrev S896x256 : Shape := ⟨2, ![896, 256]⟩
abbrev S896x128 : Shape := ⟨2, ![896, 128]⟩
abbrev S1x896x128 : Shape := ⟨3, ![1, 896, 128]⟩
abbrev S896x512 : Shape := ⟨2, ![896, 512]⟩
abbrev S768x256 : Shape := ⟨2, ![768, 256]⟩
abbrev S768x128 : Shape := ⟨2, ![768, 128]⟩
abbrev S1x768x128 : Shape := ⟨3, ![1, 768, 128]⟩
abbrev S768x512 : Shape := ⟨2, ![768, 512]⟩
abbrev S640x256 : Shape := ⟨2, ![640, 256]⟩
abbrev S640x128 : Shape := ⟨2, ![640, 128]⟩
abbrev S1x640x128 : Shape := ⟨3, ![1, 640, 128]⟩
abbrev S384x128 : Shape := ⟨2, ![384, 128]⟩
abbrev S640x512 : Shape := ⟨2, ![640, 512]⟩
abbrev S512x128 : Shape := ⟨2, ![512, 128]⟩
abbrev S1x512x128 : Shape := ⟨3, ![1, 512, 128]⟩
abbrev S512x512 : Shape := ⟨2, ![512, 512]⟩
abbrev S384x256 : Shape := ⟨2, ![384, 256]⟩
abbrev S1x384x128 : Shape := ⟨3, ![1, 384, 128]⟩
abbrev S384x512 : Shape := ⟨2, ![384, 512]⟩
abbrev S1x256x128 : Shape := ⟨3, ![1, 256, 128]⟩
abbrev S256x512 : Shape := ⟨2, ![256, 512]⟩
abbrev S1x128x128 : Shape := ⟨3, ![1, 128, 128]⟩
abbrev S128x512 : Shape := ⟨2, ![128, 512]⟩

abbrev nBuf : Space → Nat
  | .hbm => 73
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S4096x8x64, .f32⟩
  | .hbm, ⟨5, _⟩ => ⟨S4096x8x64, .f32⟩
  | .hbm, ⟨6, _⟩ => ⟨S8x4096x4096, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S8x4096x4096, .i1⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S_, .f32⟩
  | .hbm, ⟨32, _⟩ => ⟨S8x4096x4096, .i1⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S_, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S8x4096x4096, .i1⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S_, .f32⟩
  | .hbm, ⟨59, _⟩ => ⟨S8x4096x4096, .i1⟩
  | .hbm, ⟨60, _⟩ => ⟨S8x4096x4096, .f32⟩
  | .hbm, ⟨61, _⟩ => ⟨S8x4096x4096, .f32⟩
  | .hbm, ⟨62, _⟩ => ⟨S8x4096x4096, .bf16⟩
  | .hbm, ⟨63, _⟩ => ⟨S8x4x1024x32x128, .bf16⟩
  | .hbm, ⟨64, _⟩ => ⟨S8x4x32x1024x128, .bf16⟩
  | .hbm, ⟨65, _⟩ => ⟨S_, .f32⟩
  | .hbm, ⟨66, _⟩ => ⟨S4096x512, .f32⟩
  | .hbm, ⟨67, _⟩ => ⟨S4096x512, .f32⟩
  | .hbm, ⟨68, _⟩ => ⟨S4096x1536, .f32⟩
  | .hbm, ⟨69, _⟩ => ⟨S4096x1536, .bf16⟩
  | .hbm, ⟨70, _⟩ => ⟨S4096x512, .bf16⟩
  | .hbm, ⟨71, _⟩ => ⟨S4096x512, .bf16⟩
  | .hbm, ⟨72, _⟩ => ⟨S4096x512, .bf16⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .f32⟩
  | .local _ .vmem, ⟨15, _⟩ => ⟨S4096x128, .f32⟩
  | .local _ .vmem, ⟨16, _⟩ => ⟨S2x2x1024x128, .bf16⟩
  | .local _ .vmem, ⟨17, _⟩ => ⟨S8x2x1024x128, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v9 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v10 : Ref sig .tc := ⟨.hbm, 34, rfl⟩
abbrev main_call2_cst : Ref sig .tc := ⟨.hbm, 35, rfl⟩
abbrev main_call2_v0 : Ref sig .tc := ⟨.hbm, 36, rfl⟩
abbrev main_v11 : Ref sig .tc := ⟨.hbm, 37, rfl⟩
abbrev main_v12 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_cst_2 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24_0 : Ref sig .tc := ⟨.hbm, 70, rfl⟩
abbrev main_v24_1 : Ref sig .tc := ⟨.hbm, 71, rfl⟩
abbrev main_v24_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_off1 (i : grid0.Coords) (c0_i32_7 : BitVec 32) : Fin 5 → Nat :=
  let c2_i32 : BitVec 32 := 2#32
  let arg0 : BitVec 32 := BitVec.ofNat 32 (i 0).val
  let v25 : BitVec 32 := Scalar.muli c2_i32 arg0
  let arg1 : BitVec 32 := BitVec.ofNat 32 (i 1).val
  let c8_i32_6 : BitVec 32 := 8#32
  let v26 : BitVec 32 := Scalar.muli c8_i32_6 arg1
  let v27 : BitVec 32 := Scalar.addi v26 c0_i32_7
  let c0_i32_13 : BitVec 32 := 0#32
  let c0_i32_14 : BitVec 32 := 0#32
  ![v25.toNat, arg1.toNat, v27.toNat, 0, 0]
def k0_cond2 (i : grid0.Coords) : BitVec 1 :=
  let c8_i32 : BitVec 32 := 8#32
  let arg1 : BitVec 32 := BitVec.ofNat 32 (i 1).val
  let v24 : BitVec 32 := Scalar.muli c8_i32 arg1
  let c1_i32_79 : BitVec 32 := 1#32
  let v97 : BitVec 1 := Scalar.cmpi .sge v24 c1_i32_79
  let v98 : BitVec 32 := Scalar.extui v97
  let c0_i32_80 : BitVec 32 := 0#32
  let v99 : BitVec 1 := Scalar.cmpi .ne v98 c0_i32_80
  v99

def k0_off2 (i : grid0.Coords) : Fin 5 → Nat :=
  let c2_i32_470 : BitVec 32 := 2#32
  let arg0 : BitVec 32 := BitVec.ofNat 32 (i 0).val
  let v1248 : BitVec 32 := Scalar.muli c2_i32_470 arg0
  let arg1 : BitVec 32 := BitVec.ofNat 32 (i 1).val
  let c0_i32_471 : BitVec 32 := 0#32
  let c0_i32_477 : BitVec 32 := 0#32
  let c0_i32_478 : BitVec 32 := 0#32
  ![v1248.toNat, arg1.toNat, 0, 0, 0]
@[reducible] def k0_t1_loop (i : grid0.Coords) : Scf.Loop 32 :=
  let c0_i32_83 : BitVec 32 := 0#32
  let c8_i32 : BitVec 32 := 8#32
  let arg1 : BitVec 32 := BitVec.ofNat 32 (i 1).val
  let v24 : BitVec 32 := Scalar.muli c8_i32 arg1
  let v102 : BitVec 32 := Scalar.subi v24 c0_i32_83
  let c1_i32_84 : BitVec 32 := 1#32
  let v104 : BitVec 32 := Scalar.divsi v102 c1_i32_84
  let v105 : BitVec 32 := Scalar.muli v104 c1_i32_84
  let v106 : BitVec 32 := Scalar.addi c0_i32_83 v105
  let c1_i32_85 : BitVec 32 := 1#32
  ⟨c0_i32_83, v106, c1_i32_85⟩
def k0_cond3 (i : grid0.Coords) (k0_t1 : Fin (k0_t1_loop i).trips) : BitVec 1 :=
  let c0_i32_83 : BitVec 32 := 0#32
  let c1_i32_85 : BitVec 32 := 1#32
  let arg16 : BitVec 32 := Scf.iv c0_i32_83 c1_i32_85 k0_t1
  let c1_i32_476 : BitVec 32 := 1#32
  let v1258 : BitVec 32 := Scalar.addi arg16 c1_i32_476
  let c8_i32 : BitVec 32 := 8#32
  let arg1 : BitVec 32 := BitVec.ofNat 32 (i 1).val
  let v24 : BitVec 32 := Scalar.muli c8_i32 arg1
  let v1259 : BitVec 1 := Scalar.cmpi .slt v1258 v24
  let v1260 : BitVec 32 := Scalar.extui v1259
  let c0_i32_477 : BitVec 32 := 0#32
  let v1261 : BitVec 1 := Scalar.cmpi .ne v1260 c0_i32_477
  v1261

def k0_off3 (i : grid0.Coords) (k0_t1 : Fin (k0_t1_loop i).trips) : Fin 1 → Nat :=
  let c1_i32_516 : BitVec 32 := 1#32
  let c0_i32_83 : BitVec 32 := 0#32
  let c1_i32_85 : BitVec 32 := 1#32
  let arg16 : BitVec 32 := Scf.iv c0_i32_83 c1_i32_85 k0_t1
  let c2_i32_470 : BitVec 32 := 2#32
  let c0_i32_471 : BitVec 32 := 0#32
  let v1248 : BitVec 1 := Scalar.cmpi .eq c2_i32_470 c0_i32_471
  let c1_i32_472 : BitVec 32 := 1#32
  let v1249 : BitVec 32 := Scalar.select v1248 c1_i32_472 c2_i32_470
  let v1250 : BitVec 32 := Scalar.remsi arg16 v1249
  let c0_i32_474 : BitVec 32 := 0#32
  let v1252 : BitVec 1 := Scalar.cmpi .slt v1250 c0_i32_474
  let c0_i32_475 : BitVec 32 := 0#32
  let v1253 : BitVec 1 := Scalar.cmpi .slt v1249 c0_i32_475
  let v1254 : BitVec 1 := Scalar.xori v1252 v1253
  let c0_i32_473 : BitVec 32 := 0#32
  let v1251 : BitVec 1 := Scalar.cmpi .ne v1250 c0_i32_473
  let v1255 : BitVec 1 := Scalar.andi v1254 v1251
  let v1256 : BitVec 32 := Scalar.addi v1250 v1249
  let v1257 : BitVec 32 := Scalar.select v1255 v1256 v1250
  let v1376 : BitVec 32 := Scalar.subi c1_i32_516 v1257
  ![v1376.toNat]
def k0_off4 (i : grid0.Coords) (k0_t1 : Fin (k0_t1_loop i).trips) : Fin 4 → Nat :=
  let c1_i32_516 : BitVec 32 := 1#32
  let c0_i32_83 : BitVec 32 := 0#32
  let c1_i32_85 : BitVec 32 := 1#32
  let arg16 : BitVec 32 := Scf.iv c0_i32_83 c1_i32_85 k0_t1
  let c2_i32_470 : BitVec 32 := 2#32
  let c0_i32_471 : BitVec 32 := 0#32
  let v1248 : BitVec 1 := Scalar.cmpi .eq c2_i32_470 c0_i32_471
  let c1_i32_472 : BitVec 32 := 1#32
  let v1249 : BitVec 32 := Scalar.select v1248 c1_i32_472 c2_i32_470
  let v1250 : BitVec 32 := Scalar.remsi arg16 v1249
  let c0_i32_474 : BitVec 32 := 0#32
  let v1252 : BitVec 1 := Scalar.cmpi .slt v1250 c0_i32_474
  let c0_i32_475 : BitVec 32 := 0#32
  let v1253 : BitVec 1 := Scalar.cmpi .slt v1249 c0_i32_475
  let v1254 : BitVec 1 := Scalar.xori v1252 v1253
  let c0_i32_473 : BitVec 32 := 0#32
  let v1251 : BitVec 1 := Scalar.cmpi .ne v1250 c0_i32_473
  let v1255 : BitVec 1 := Scalar.andi v1254 v1251
  let v1256 : BitVec 32 := Scalar.addi v1250 v1249
  let v1257 : BitVec 32 := Scalar.select v1255 v1256 v1250
  let v1376 : BitVec 32 := Scalar.subi c1_i32_516 v1257
  let c0_i32_519 : BitVec 32 := 0#32
  let c0_i32_520 : BitVec 32 := 0#32
  let c0_i32_521 : BitVec 32 := 0#32
  ![v1376.toNat, 0, 0, 0]
def k0_off5 (i : grid0.Coords) (k0_t1 : Fin (k0_t1_loop i).trips) : Fin 5 → Nat :=
  let c2_i32_518 : BitVec 32 := 2#32
  let arg0 : BitVec 32 := BitVec.ofNat 32 (i 0).val
  let v1378 : BitVec 32 := Scalar.muli c2_i32_518 arg0
  let arg1 : BitVec 32 := BitVec.ofNat 32 (i 1).val
  let c0_i32_83 : BitVec 32 := 0#32
  let c1_i32_85 : BitVec 32 := 1#32
  let arg16 : BitVec 32 := Scf.iv c0_i32_83 c1_i32_85 k0_t1
  let c1_i32_517 : BitVec 32 := 1#32
  let v1377 : BitVec 32 := Scalar.addi arg16 c1_i32_517
  let c0_i32_522 : BitVec 32 := 0#32
  let c0_i32_523 : BitVec 32 := 0#32
  ![v1378.toNat, arg1.toNat, v1377.toNat, 0, 0]
def k0_off6 (i : grid0.Coords) (k0_t1 : Fin (k0_t1_loop i).trips) : Fin 1 → Nat :=
  let c0_i32_83 : BitVec 32 := 0#32
  let c1_i32_85 : BitVec 32 := 1#32
  let arg16 : BitVec 32 := Scf.iv c0_i32_83 c1_i32_85 k0_t1
  let c2_i32_470 : BitVec 32 := 2#32
  let c0_i32_471 : BitVec 32 := 0#32
  let v1248 : BitVec 1 := Scalar.cmpi .eq c2_i32_470 c0_i32_471
  let c1_i32_472 : BitVec 32 := 1#32
  let v1249 : BitVec 32 := Scalar.select v1248 c1_i32_472 c2_i32_470
  let v1250 : BitVec 32 := Scalar.remsi arg16 v1249
  let c0_i32_474 : BitVec 32 := 0#32
  let v1252 : BitVec 1 := Scalar.cmpi .slt v1250 c0_i32_474
  let c0_i32_475 : BitVec 32 := 0#32
  let v1253 : BitVec 1 := Scalar.cmpi .slt v1249 c0_i32_475
  let v1254 : BitVec 1 := Scalar.xori v1252 v1253
  let c0_i32_473 : BitVec 32 := 0#32
  let v1251 : BitVec 1 := Scalar.cmpi .ne v1250 c0_i32_473
  let v1255 : BitVec 1 := Scalar.andi v1254 v1251
  let v1256 : BitVec 32 := Scalar.addi v1250 v1249
  let v1257 : BitVec 32 := Scalar.select v1255 v1256 v1250
  ![v1257.toNat]
def k0_off7 (i : grid0.Coords) (k0_t1 : Fin (k0_t1_loop i).trips) : Fin 4 → Nat :=
  let c0_i32_83 : BitVec 32 := 0#32
  let c1_i32_85 : BitVec 32 := 1#32
  let arg16 : BitVec 32 := Scf.iv c0_i32_83 c1_i32_85 k0_t1
  let c2_i32_470 : BitVec 32 := 2#32
  let c0_i32_471 : BitVec 32 := 0#32
  let v1248 : BitVec 1 := Scalar.cmpi .eq c2_i32_470 c0_i32_471
  let c1_i32_472 : BitVec 32 := 1#32
  let v1249 : BitVec 32 := Scalar.select v1248 c1_i32_472 c2_i32_470
  let v1250 : BitVec 32 := Scalar.remsi arg16 v1249
  let c0_i32_474 : BitVec 32 := 0#32
  let v1252 : BitVec 1 := Scalar.cmpi .slt v1250 c0_i32_474
  let c0_i32_475 : BitVec 32 := 0#32
  let v1253 : BitVec 1 := Scalar.cmpi .slt v1249 c0_i32_475
  let v1254 : BitVec 1 := Scalar.xori v1252 v1253
  let c0_i32_473 : BitVec 32 := 0#32
  let v1251 : BitVec 1 := Scalar.cmpi .ne v1250 c0_i32_473
  let v1255 : BitVec 1 := Scalar.andi v1254 v1251
  let v1256 : BitVec 32 := Scalar.addi v1250 v1249
  let v1257 : BitVec 32 := Scalar.select v1255 v1256 v1250
  let c0_i32_479 : BitVec 32 := 0#32
  let c0_i32_480 : BitVec 32 := 0#32
  let c0_i32_481 : BitVec 32 := 0#32
  ![v1257.toNat, 0, 0, 0]
def k0_off8 (i : grid0.Coords) (k0_t1 : Fin (k0_t1_loop i).trips) : Fin 5 → Nat :=
  let c2_i32_478 : BitVec 32 := 2#32
  let arg0 : BitVec 32 := BitVec.ofNat 32 (i 0).val
  let v1262 : BitVec 32 := Scalar.muli c2_i32_478 arg0
  let arg1 : BitVec 32 := BitVec.ofNat 32 (i 1).val
  let c0_i32_83 : BitVec 32 := 0#32
  let c1_i32_85 : BitVec 32 := 1#32
  let arg16 : BitVec 32 := Scf.iv c0_i32_83 c1_i32_85 k0_t1
  let c0_i32_482 : BitVec 32 := 0#32
  let c0_i32_483 : BitVec 32 := 0#32
  ![v1262.toNat, arg1.toNat, arg16.toNat, 0, 0]
def k0_mult1 (i : grid0.Coords) (k0_t1 : Fin (k0_t1_loop i).trips) : BitVec 32 :=
  let c0_i32_83 : BitVec 32 := 0#32
  let c1_i32_85 : BitVec 32 := 1#32
  let arg16 : BitVec 32 := Scf.iv c0_i32_83 c1_i32_85 k0_t1
  let c128_i32_484 : BitVec 32 := 128#32
  let v1269 : BitVec 32 := Scalar.muli arg16 c128_i32_484
  v1269
def k0_off9 (i : grid0.Coords) (k0_t1 : Fin (k0_t1_loop i).trips) : Fin 2 → Nat :=
  let c0_i32_83 : BitVec 32 := 0#32
  let c1_i32_85 : BitVec 32 := 1#32
  let arg16 : BitVec 32 := Scf.iv c0_i32_83 c1_i32_85 k0_t1
  let c128_i32_484 : BitVec 32 := 128#32
  let v1269 : BitVec 32 := Scalar.muli arg16 c128_i32_484
  let v1270 : BitVec 32 := v1269
  let v1271 : Index := Scalar.indexCast v1270
  let c0_485 : Index := 0#32
  ![v1271.toNat, 0]
@[reducible] def k0_t2_loop (i : grid0.Coords) : Scf.Loop 32 :=
  let c0_i32_83 : BitVec 32 := 0#32
  let c8_i32 : BitVec 32 := 8#32
  let arg1 : BitVec 32 := BitVec.ofNat 32 (i 1).val
  let v24 : BitVec 32 := Scalar.muli c8_i32 arg1
  let v102 : BitVec 32 := Scalar.subi v24 c0_i32_83
  let c1_i32_84 : BitVec 32 := 1#32
  let v104 : BitVec 32 := Scalar.divsi v102 c1_i32_84
  let v105 : BitVec 32 := Scalar.muli v104 c1_i32_84
  let v106 : BitVec 32 := Scalar.addi c0_i32_83 v105
  let v103 : BitVec 32 := Scalar.addi c0_i32_83 v102
  let c1_i32_86 : BitVec 32 := 1#32
  ⟨v106, v103, c1_i32_86⟩
def k0_cond4 (i : grid0.Coords) (k0_t2 : Fin (k0_t2_loop i).trips) : BitVec 1 :=
  let c0_i32_83 : BitVec 32 := 0#32
  let c8_i32 : BitVec 32 := 8#32
  let arg1 : BitVec 32 := BitVec.ofNat 32 (i 1).val
  let v24 : BitVec 32 := Scalar.muli c8_i32 arg1
  let v102 : BitVec 32 := Scalar.subi v24 c0_i32_83
  let c1_i32_84 : BitVec 32 := 1#32
  let v104 : BitVec 32 := Scalar.divsi v102 c1_i32_84
  let v105 : BitVec 32 := Scalar.muli v104 c1_i32_84
  let v106 : BitVec 32 := Scalar.addi c0_i32_83 v105
  let c1_i32_86 : BitVec 32 := 1#32
  let arg16 : BitVec 32 := Scf.iv v106 c1_i32_86 k0_t2
  let c1_i32_476 : BitVec 32 := 1#32
  let v1258 : BitVec 32 := Scalar.addi arg16 c1_i32_476
  let v1259 : BitVec 1 := Scalar.cmpi .slt v1258 v24
  let v1260 : BitVec 32 := Scalar.extui v1259
  let c0_i32_477 : BitVec 32 := 0#32
  let v1261 : BitVec 1 := Scalar.cmpi .ne v1260 c0_i32_477
  v1261

def k0_off10 (i : grid0.Coords) (k0_t2 : Fin (k0_t2_loop i).trips) : Fin 1 → Nat :=
  let c1_i32_516 : BitVec 32 := 1#32
  let c0_i32_83 : BitVec 32 := 0#32
  let c8_i32 : BitVec 32 := 8#32
  let arg1 : BitVec 32 := BitVec.ofNat 32 (i 1).val
  let v24 : BitVec 32 := Scalar.muli c8_i32 arg1
  let v102 : BitVec 32 := Scalar.subi v24 c0_i32_83
  let c1_i32_84 : BitVec 32 := 1#32
  let v104 : BitVec 32 := Scalar.divsi v102 c1_i32_84
  let v105 : BitVec 32 := Scalar.muli v104 c1_i32_84
  let v106 : BitVec 32 := Scalar.addi c0_i32_83 v105
  let c1_i32_86 : BitVec 32 := 1#32
  let arg16 : BitVec 32 := Scf.iv v106 c1_i32_86 k0_t2
  let c2_i32_470 : BitVec 32 := 2#32
  let c0_i32_471 : BitVec 32 := 0#32
  let v1248 : BitVec 1 := Scalar.cmpi .eq c2_i32_470 c0_i32_471
  let c1_i32_472 : BitVec 32 := 1#32
  let v1249 : BitVec 32 := Scalar.select v1248 c1_i32_472 c2_i32_470
  let v1250 : BitVec 32 := Scalar.remsi arg16 v1249
  let c0_i32_474 : BitVec 32 := 0#32
  let v1252 : BitVec 1 := Scalar.cmpi .slt v1250 c0_i32_474
  let c0_i32_475 : BitVec 32 := 0#32
  let v1253 : BitVec 1 := Scalar.cmpi .slt v1249 c0_i32_475
  let v1254 : BitVec 1 := Scalar.xori v1252 v1253
  let c0_i32_473 : BitVec 32 := 0#32
  let v1251 : BitVec 1 := Scalar.cmpi .ne v1250 c0_i32_473
  let v1255 : BitVec 1 := Scalar.andi v1254 v1251
  let v1256 : BitVec 32 := Scalar.addi v1250 v1249
  let v1257 : BitVec 32 := Scalar.select v1255 v1256 v1250
  let v1376 : BitVec 32 := Scalar.subi c1_i32_516 v1257
  ![v1376.toNat]
def k0_off11 (i : grid0.Coords) (k0_t2 : Fin (k0_t2_loop i).trips) : Fin 4 → Nat :=
  let c1_i32_516 : BitVec 32 := 1#32
  let c0_i32_83 : BitVec 32 := 0#32
  let c8_i32 : BitVec 32 := 8#32
  let arg1 : BitVec 32 := BitVec.ofNat 32 (i 1).val
  let v24 : BitVec 32 := Scalar.muli c8_i32 arg1
  let v102 : BitVec 32 := Scalar.subi v24 c0_i32_83
  let c1_i32_84 : BitVec 32 := 1#32
  let v104 : BitVec 32 := Scalar.divsi v102 c1_i32_84
  let v105 : BitVec 32 := Scalar.muli v104 c1_i32_84
  let v106 : BitVec 32 := Scalar.addi c0_i32_83 v105
  let c1_i32_86 : BitVec 32 := 1#32
  let arg16 : BitVec 32 := Scf.iv v106 c1_i32_86 k0_t2
  let c2_i32_470 : BitVec 32 := 2#32
  let c0_i32_471 : BitVec 32 := 0#32
  let v1248 : BitVec 1 := Scalar.cmpi .eq c2_i32_470 c0_i32_471
  let c1_i32_472 : BitVec 32 := 1#32
  let v1249 : BitVec 32 := Scalar.select v1248 c1_i32_472 c2_i32_470
  let v1250 : BitVec 32 := Scalar.remsi arg16 v1249
  let c0_i32_474 : BitVec 32 := 0#32
  let v1252 : BitVec 1 := Scalar.cmpi .slt v1250 c0_i32_474
  let c0_i32_475 : BitVec 32 := 0#32
  let v1253 : BitVec 1 := Scalar.cmpi .slt v1249 c0_i32_475
  let v1254 : BitVec 1 := Scalar.xori v1252 v1253
  let c0_i32_473 : BitVec 32 := 0#32
  let v1251 : BitVec 1 := Scalar.cmpi .ne v1250 c0_i32_473
  let v1255 : BitVec 1 := Scalar.andi v1254 v1251
  let v1256 : BitVec 32 := Scalar.addi v1250 v1249
  let v1257 : BitVec 32 := Scalar.select v1255 v1256 v1250
  let v1376 : BitVec 32 := Scalar.subi c1_i32_516 v1257
  let c0_i32_519 : BitVec 32 := 0#32
  let c0_i32_520 : BitVec 32 := 0#32
  let c0_i32_521 : BitVec 32 := 0#32
  ![v1376.toNat, 0, 0, 0]
def k0_off12 (i : grid0.Coords) (k0_t2 : Fin (k0_t2_loop i).trips) : Fin 5 → Nat :=
  let c2_i32_518 : BitVec 32 := 2#32
  let arg0 : BitVec 32 := BitVec.ofNat 32 (i 0).val
  let v1378 : BitVec 32 := Scalar.muli c2_i32_518 arg0
  let arg1 : BitVec 32 := BitVec.ofNat 32 (i 1).val
  let c0_i32_83 : BitVec 32 := 0#32
  let c8_i32 : BitVec 32 := 8#32
  let v24 : BitVec 32 := Scalar.muli c8_i32 arg1
  let v102 : BitVec 32 := Scalar.subi v24 c0_i32_83
  let c1_i32_84 : BitVec 32 := 1#32
  let v104 : BitVec 32 := Scalar.divsi v102 c1_i32_84
  let v105 : BitVec 32 := Scalar.muli v104 c1_i32_84
  let v106 : BitVec 32 := Scalar.addi c0_i32_83 v105
  let c1_i32_86 : BitVec 32 := 1#32
  let arg16 : BitVec 32 := Scf.iv v106 c1_i32_86 k0_t2
  let c1_i32_517 : BitVec 32 := 1#32
  let v1377 : BitVec 32 := Scalar.addi arg16 c1_i32_517
  let c0_i32_522 : BitVec 32 := 0#32
  let c0_i32_523 : BitVec 32 := 0#32
  ![v1378.toNat, arg1.toNat, v1377.toNat, 0, 0]
def k0_off13 (i : grid0.Coords) (k0_t2 : Fin (k0_t2_loop i).trips) : Fin 1 → Nat :=
  let c0_i32_83 : BitVec 32 := 0#32
  let c8_i32 : BitVec 32 := 8#32
  let arg1 : BitVec 32 := BitVec.ofNat 32 (i 1).val
  let v24 : BitVec 32 := Scalar.muli c8_i32 arg1
  let v102 : BitVec 32 := Scalar.subi v24 c0_i32_83
  let c1_i32_84 : BitVec 32 := 1#32
  let v104 : BitVec 32 := Scalar.divsi v102 c1_i32_84
  let v105 : BitVec 32 := Scalar.muli v104 c1_i32_84
  let v106 : BitVec 32 := Scalar.addi c0_i32_83 v105
  let c1_i32_86 : BitVec 32 := 1#32
  let arg16 : BitVec 32 := Scf.iv v106 c1_i32_86 k0_t2
  let c2_i32_470 : BitVec 32 := 2#32
  let c0_i32_471 : BitVec 32 := 0#32
  let v1248 : BitVec 1 := Scalar.cmpi .eq c2_i32_470 c0_i32_471
  let c1_i32_472 : BitVec 32 := 1#32
  let v1249 : BitVec 32 := Scalar.select v1248 c1_i32_472 c2_i32_470
  let v1250 : BitVec 32 := Scalar.remsi arg16 v1249
  let c0_i32_474 : BitVec 32 := 0#32
  let v1252 : BitVec 1 := Scalar.cmpi .slt v1250 c0_i32_474
  let c0_i32_475 : BitVec 32 := 0#32
  let v1253 : BitVec 1 := Scalar.cmpi .slt v1249 c0_i32_475
  let v1254 : BitVec 1 := Scalar.xori v1252 v1253
  let c0_i32_473 : BitVec 32 := 0#32
  let v1251 : BitVec 1 := Scalar.cmpi .ne v1250 c0_i32_473
  let v1255 : BitVec 1 := Scalar.andi v1254 v1251
  let v1256 : BitVec 32 := Scalar.addi v1250 v1249
  let v1257 : BitVec 32 := Scalar.select v1255 v1256 v1250
  ![v1257.toNat]
def k0_off14 (i : grid0.Coords) (k0_t2 : Fin (k0_t2_loop i).trips) : Fin 4 → Nat :=
  let c0_i32_83 : BitVec 32 := 0#32
  let c8_i32 : BitVec 32 := 8#32
  let arg1 : BitVec 32 := BitVec.ofNat 32 (i 1).val
  let v24 : BitVec 32 := Scalar.muli c8_i32 arg1
  let v102 : BitVec 32 := Scalar.subi v24 c0_i32_83
  let c1_i32_84 : BitVec 32 := 1#32
  let v104 : BitVec 32 := Scalar.divsi v102 c1_i32_84
  let v105 : BitVec 32 := Scalar.muli v104 c1_i32_84
  let v106 : BitVec 32 := Scalar.addi c0_i32_83 v105
  let c1_i32_86 : BitVec 32 := 1#32
  let arg16 : BitVec 32 := Scf.iv v106 c1_i32_86 k0_t2
  let c2_i32_470 : BitVec 32 := 2#32
  let c0_i32_471 : BitVec 32 := 0#32
  let v1248 : BitVec 1 := Scalar.cmpi .eq c2_i32_470 c0_i32_471
  let c1_i32_472 : BitVec 32 := 1#32
  let v1249 : BitVec 32 := Scalar.select v1248 c1_i32_472 c2_i32_470
  let v1250 : BitVec 32 := Scalar.remsi arg16 v1249
  let c0_i32_474 : BitVec 32 := 0#32
  let v1252 : BitVec 1 := Scalar.cmpi .slt v1250 c0_i32_474
  let c0_i32_475 : BitVec 32 := 0#32
  let v1253 : BitVec 1 := Scalar.cmpi .slt v1249 c0_i32_475
  let v1254 : BitVec 1 := Scalar.xori v1252 v1253
  let c0_i32_473 : BitVec 32 := 0#32
  let v1251 : BitVec 1 := Scalar.cmpi .ne v1250 c0_i32_473
  let v1255 : BitVec 1 := Scalar.andi v1254 v1251
  let v1256 : BitVec 32 := Scalar.addi v1250 v1249
  let v1257 : BitVec 32 := Scalar.select v1255 v1256 v1250
  let c0_i32_479 : BitVec 32 := 0#32
  let c0_i32_480 : BitVec 32 := 0#32
  let c0_i32_481 : BitVec 32 := 0#32
  ![v1257.toNat, 0, 0, 0]
def k0_off15 (i : grid0.Coords) (k0_t2 : Fin (k0_t2_loop i).trips) : Fin 5 → Nat :=
  let c2_i32_478 : BitVec 32 := 2#32
  let arg0 : BitVec 32 := BitVec.ofNat 32 (i 0).val
  let v1262 : BitVec 32 := Scalar.muli c2_i32_478 arg0
  let arg1 : BitVec 32 := BitVec.ofNat 32 (i 1).val
  let c0_i32_83 : BitVec 32 := 0#32
  let c8_i32 : BitVec 32 := 8#32
  let v24 : BitVec 32 := Scalar.muli c8_i32 arg1
  let v102 : BitVec 32 := Scalar.subi v24 c0_i32_83
  let c1_i32_84 : BitVec 32 := 1#32
  let v104 : BitVec 32 := Scalar.divsi v102 c1_i32_84
  let v105 : BitVec 32 := Scalar.muli v104 c1_i32_84
  let v106 : BitVec 32 := Scalar.addi c0_i32_83 v105
  let c1_i32_86 : BitVec 32 := 1#32
  let arg16 : BitVec 32 := Scf.iv v106 c1_i32_86 k0_t2
  let c0_i32_482 : BitVec 32 := 0#32
  let c0_i32_483 : BitVec 32 := 0#32
  ![v1262.toNat, arg1.toNat, arg16.toNat, 0, 0]
def k0_mult2 (i : grid0.Coords) (k0_t2 : Fin (k0_t2_loop i).trips) : BitVec 32 :=
  let c0_i32_83 : BitVec 32 := 0#32
  let c8_i32 : BitVec 32 := 8#32
  let arg1 : BitVec 32 := BitVec.ofNat 32 (i 1).val
  let v24 : BitVec 32 := Scalar.muli c8_i32 arg1
  let v102 : BitVec 32 := Scalar.subi v24 c0_i32_83
  let c1_i32_84 : BitVec 32 := 1#32
  let v104 : BitVec 32 := Scalar.divsi v102 c1_i32_84
  let v105 : BitVec 32 := Scalar.muli v104 c1_i32_84
  let v106 : BitVec 32 := Scalar.addi c0_i32_83 v105
  let c1_i32_86 : BitVec 32 := 1#32
  let arg16 : BitVec 32 := Scf.iv v106 c1_i32_86 k0_t2
  let c128_i32_484 : BitVec 32 := 128#32
  let v1269 : BitVec 32 := Scalar.muli arg16 c128_i32_484
  v1269
def k0_off16 (i : grid0.Coords) (k0_t2 : Fin (k0_t2_loop i).trips) : Fin 2 → Nat :=
  let c0_i32_83 : BitVec 32 := 0#32
  let c8_i32 : BitVec 32 := 8#32
  let arg1 : BitVec 32 := BitVec.ofNat 32 (i 1).val
  let v24 : BitVec 32 := Scalar.muli c8_i32 arg1
  let v102 : BitVec 32 := Scalar.subi v24 c0_i32_83
  let c1_i32_84 : BitVec 32 := 1#32
  let v104 : BitVec 32 := Scalar.divsi v102 c1_i32_84
  let v105 : BitVec 32 := Scalar.muli v104 c1_i32_84
  let v106 : BitVec 32 := Scalar.addi c0_i32_83 v105
  let c1_i32_86 : BitVec 32 := 1#32
  let arg16 : BitVec 32 := Scf.iv v106 c1_i32_86 k0_t2
  let c128_i32_484 : BitVec 32 := 128#32
  let v1269 : BitVec 32 := Scalar.muli arg16 c128_i32_484
  let v1270 : BitVec 32 := v1269
  let v1271 : Index := Scalar.indexCast v1270
  let c0_485 : Index := 0#32
  ![v1271.toNat, 0]
def k0_mult3 (i : grid0.Coords) : BitVec 32 :=
  let c8_i32 : BitVec 32 := 8#32
  let arg1 : BitVec 32 := BitVec.ofNat 32 (i 1).val
  let v24 : BitVec 32 := Scalar.muli c8_i32 arg1
  let c0_i32_167 : BitVec 32 := 0#32
  let v181 : BitVec 32 := Scalar.addi v24 c0_i32_167
  let c128_i32_168 : BitVec 32 := 128#32
  let v182 : BitVec 32 := Scalar.muli v181 c128_i32_168
  v182
def k0_off17 (i : grid0.Coords) (c0_i32_167 : BitVec 32) : Fin 2 → Nat :=
  let c8_i32 : BitVec 32 := 8#32
  let arg1 : BitVec 32 := BitVec.ofNat 32 (i 1).val
  let v24 : BitVec 32 := Scalar.muli c8_i32 arg1
  let v181 : BitVec 32 := Scalar.addi v24 c0_i32_167
  let c128_i32_168 : BitVec 32 := 128#32
  let v182 : BitVec 32 := Scalar.muli v181 c128_i32_168
  let v183 : BitVec 32 := v182
  let v184 : Index := Scalar.indexCast v183
  let c0_169 : Index := 0#32
  ![v184.toNat, 0]
def k0_mult4 (i : grid0.Coords) : BitVec 32 :=
  let c8_i32 : BitVec 32 := 8#32
  let arg1 : BitVec 32 := BitVec.ofNat 32 (i 1).val
  let v24 : BitVec 32 := Scalar.muli c8_i32 arg1
  let c1_i32_205 : BitVec 32 := 1#32
  let v299 : BitVec 32 := Scalar.addi v24 c1_i32_205
  let c128_i32_206 : BitVec 32 := 128#32
  let v300 : BitVec 32 := Scalar.muli v299 c128_i32_206
  v300
def k0_mult5 (i : grid0.Coords) : BitVec 32 :=
  let c8_i32 : BitVec 32 := 8#32
  let arg1 : BitVec 32 := BitVec.ofNat 32 (i 1).val
  let v24 : BitVec 32 := Scalar.muli c8_i32 arg1
  let c2_i32_243 : BitVec 32 := 2#32
  let v435 : BitVec 32 := Scalar.addi v24 c2_i32_243
  let c128_i32_244 : BitVec 32 := 128#32
  let v436 : BitVec 32 := Scalar.muli v435 c128_i32_244
  v436
def k0_mult6 (i : grid0.Coords) : BitVec 32 :=
  let c8_i32 : BitVec 32 := 8#32
  let arg1 : BitVec 32 := BitVec.ofNat 32 (i 1).val
  let v24 : BitVec 32 := Scalar.muli c8_i32 arg1
  let c3_i32_280 : BitVec 32 := 3#32
  let v571 : BitVec 32 := Scalar.addi v24 c3_i32_280
  let c128_i32_281 : BitVec 32 := 128#32
  let v572 : BitVec 32 := Scalar.muli v571 c128_i32_281
  v572
def k0_mult7 (i : grid0.Coords) : BitVec 32 :=
  let c8_i32 : BitVec 32 := 8#32
  let arg1 : BitVec 32 := BitVec.ofNat 32 (i 1).val
  let v24 : BitVec 32 := Scalar.muli c8_i32 arg1
  let c4_i32_317 : BitVec 32 := 4#32
  let v707 : BitVec 32 := Scalar.addi v24 c4_i32_317
  let c128_i32_318 : BitVec 32 := 128#32
  let v708 : BitVec 32 := Scalar.muli v707 c128_i32_318
  v708
def k0_mult8 (i : grid0.Coords) : BitVec 32 :=
  let c8_i32 : BitVec 32 := 8#32
  let arg1 : BitVec 32 := BitVec.ofNat 32 (i 1).val
  let v24 : BitVec 32 := Scalar.muli c8_i32 arg1
  let c5_i32_354 : BitVec 32 := 5#32
  let v843 : BitVec 32 := Scalar.addi v24 c5_i32_354
  let c128_i32_355 : BitVec 32 := 128#32
  let v844 : BitVec 32 := Scalar.muli v843 c128_i32_355
  v844
def k0_mult9 (i : grid0.Coords) : BitVec 32 :=
  let c8_i32 : BitVec 32 := 8#32
  let arg1 : BitVec 32 := BitVec.ofNat 32 (i 1).val
  let v24 : BitVec 32 := Scalar.muli c8_i32 arg1
  let c6_i32_391 : BitVec 32 := 6#32
  let v979 : BitVec 32 := Scalar.addi v24 c6_i32_391
  let c128_i32_392 : BitVec 32 := 128#32
  let v980 : BitVec 32 := Scalar.muli v979 c128_i32_392
  v980
def k0_mult10 (i : grid0.Coords) : BitVec 32 :=
  let c8_i32 : BitVec 32 := 8#32
  let arg1 : BitVec 32 := BitVec.ofNat 32 (i 1).val
  let v24 : BitVec 32 := Scalar.muli c8_i32 arg1
  let c7_i32_428 : BitVec 32 := 7#32
  let v1115 : BitVec 32 := Scalar.addi v24 c7_i32_428
  let c128_i32_429 : BitVec 32 := 128#32
  let v1116 : BitVec 32 := Scalar.muli v1115 c128_i32_429
  v1116
def k0_cond5 (i : grid0.Coords) : BitVec 1 :=
  let arg1 : BitVec 32 := BitVec.ofNat 32 (i 1).val
  let c3_i32_468 : BitVec 32 := 3#32
  let v1245 : BitVec 1 := Scalar.cmpi .eq arg1 c3_i32_468
  let v1246 : BitVec 32 := Scalar.extui v1245
  let c0_i32_469 : BitVec 32 := 0#32
  let v1247 : BitVec 1 := Scalar.cmpi .ne v1246 c0_i32_469
  v1247

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4096x512 : Shape := ⟨2, ![4096, 512]⟩
abbrev S4096x1024 : Shape := ⟨2, ![4096, 1024]⟩
abbrev S4096x8x64 : Shape := ⟨3, ![4096, 8, 64]⟩
abbrev S8x4096x4096 : Shape := ⟨3, ![8, 4096, 4096]⟩
abbrev S_ : Shape := ⟨0, ![]⟩
abbrev S4096x4096 : Shape := ⟨2, ![4096, 4096]⟩
abbrev S8x64x4096 : Shape := ⟨3, ![8, 64, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S4096x8x64, .f32⟩
  | .hbm, ⟨5, _⟩ => ⟨S4096x8x64, .f32⟩
  | .hbm, ⟨6, _⟩ => ⟨S8x4096x4096, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S8x4096x4096, .i1⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S_, .f32⟩
  | .hbm, ⟨32, _⟩ => ⟨S8x4096x4096, .i1⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S_, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S8x4096x4096, .i1⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S_, .f32⟩
  | .hbm, ⟨59, _⟩ => ⟨S8x4096x4096, .i1⟩
  | .hbm, ⟨60, _⟩ => ⟨S8x4096x4096, .f32⟩
  | .hbm, ⟨61, _⟩ => ⟨S8x4096x4096, .f32⟩
  | .hbm, ⟨62, _⟩ => ⟨S4096x8x64, .f32⟩
  | .hbm, ⟨63, _⟩ => ⟨S8x64x4096, .f32⟩
  | .hbm, ⟨64, _⟩ => ⟨S4096x8x64, .f32⟩
  | .hbm, ⟨65, _⟩ => ⟨S4096x512, .f32⟩
  | .hbm, ⟨66, _⟩ => ⟨S4096x512, .f32⟩
  | .hbm, ⟨67, _⟩ => ⟨S4096x8x64, .f32⟩
  | .hbm, ⟨68, _⟩ => ⟨S8x64x4096, .f32⟩
  | .hbm, ⟨69, _⟩ => ⟨S8x64x4096, .f32⟩
  | .hbm, ⟨70, _⟩ => ⟨S4096x8x64, .f32⟩
  | .hbm, ⟨71, _⟩ => ⟨S4096x512, .f32⟩
  | .hbm, ⟨72, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v9 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v10 : Ref sig .tc := ⟨.hbm, 34, rfl⟩
abbrev main_call2_cst : Ref sig .tc := ⟨.hbm, 35, rfl⟩
abbrev main_call2_v0 : Ref sig .tc := ⟨.hbm, 36, rfl⟩
abbrev main_v11 : Ref sig .tc := ⟨.hbm, 37, rfl⟩
abbrev main_v12 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩

abbrev nD : Nat := 1
abbrev τ : Topo := Topo.v7x

variable {F : FTy → Type} [FloatOps F]
-- ==== DH.lean ====
abbrev S4096x1024 : Shape := ⟨2, ![4096, 1024]⟩
abbrev S1024x5632 : Shape := ⟨2, ![1024, 5632]⟩
abbrev S4096x5632 : Shape := ⟨2, ![4096, 5632]⟩
abbrev S1024x1408 : Shape := ⟨2, ![1024, 1408]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x1024, .f32⟩
  | .hbm, ⟨4, _⟩ => ⟨S4096x5632, .bf16⟩
  | .hbm, ⟨5, _⟩ => ⟨S1024x5632, .bf16⟩
  | .hbm, ⟨6, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DHRefIdeal.lean ====
abbrev S4096x1024 : Shape := ⟨2, ![4096, 1024]⟩
abbrev S1024x5632 : Shape := ⟨2, ![1024, 5632]⟩
abbrev S4096x5632 : Shape := ⟨2, ![4096, 5632]⟩
abbrev S_ : Shape := ⟨0, ![]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x1024, .f32⟩
  | .hbm, ⟨4, _⟩ => ⟨S4096x5632, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S5632x1024, .f32⟩
  | .hbm, ⟨12, _⟩ => ⟨S1024x5632, .f32⟩
  | .hbm, ⟨13, _⟩ => ⟨S4096x1024, .f32⟩
  | .hbm, ⟨14, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== GUp.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x1024, .bf16⟩
  | .hbm, ⟨4, _⟩ => ⟨S4096x5632, .bf16⟩
  | .hbm, ⟨5, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GUpRefIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S4096x1024, .f32⟩
  | .hbm, ⟨7, _⟩ => ⟨S1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DP.lean ====
abbrev S4096x2816 : Shape := ⟨2, ![4096, 2816]⟩
abbrev S2816x1024 : Shape := ⟨2, ![2816, 1024]⟩
abbrev S4096x1024 : Shape := ⟨2, ![4096, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .bf16⟩
  | .hbm, ⟨4, _⟩ => ⟨S2816x1024, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DPRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4096x2816, .f32⟩
  | .hbm, ⟨7, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DX.lean ====
abbrev S4096x1024 : Shape := ⟨2, ![4096, 1024]⟩
abbrev S1024x3088 : Shape := ⟨2, ![1024, 3088]⟩
abbrev S4096x3088 : Shape := ⟨2, ![4096, 3088]⟩
abbrev S_ : Shape := ⟨0, ![]⟩
abbrev S1024x3200 : Shape := ⟨2, ![1024, 3200]⟩
abbrev S4096x3200 : Shape := ⟨2, ![4096, 3200]⟩
abbrev S1024x640 : Shape := ⟨2, ![1024, 640]⟩
abbrev S1024x1024 : Shape := ⟨2, ![1024, 1024]⟩

abbrev nBuf : Space → Nat
  | .hbm => 13
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x3088, .f32⟩
  | .hbm, ⟨2, _⟩ => ⟨S4096x3088, .f32⟩
  | .hbm, ⟨3, _⟩ => ⟨S4096x1024, .f32⟩
  | .hbm, ⟨4, _⟩ => ⟨S1024x3088, .bf16⟩
  | .hbm, ⟨5, _⟩ => ⟨S_, .i32⟩
  | .hbm, ⟨6, _⟩ => ⟨S_, .bf16⟩
  | .hbm, ⟨7, _⟩ => ⟨S1024x3200, .bf16⟩
  | .hbm, ⟨8, _⟩ => ⟨S4096x3088, .bf16⟩
  | .hbm, ⟨9, _⟩ => ⟨S_, .i32⟩
  | .hbm, ⟨10, _⟩ => ⟨S_, .bf16⟩
  | .hbm, ⟨11, _⟩ => ⟨S4096x3200, .bf16⟩
  | .hbm, ⟨12, _⟩ => ⟨S4096x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 5], ![false, false, false]⟩

def k0_cond3 (i : grid0.Coords) : BitVec 1 :=
  let arg2 : BitVec 32 := BitVec.ofNat 32 (i 2).val
  let c4_i32_6 : BitVec 32 := 4#32
  let v13 : BitVec 1 := Scalar.cmpi .eq arg2 c4_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DXRefIdeal.lean ====
abbrev S4096x1024 : Shape := ⟨2, ![4096, 1024]⟩
abbrev S1024x3088 : Shape := ⟨2, ![1024, 3088]⟩
abbrev S4096x3088 : Shape := ⟨2, ![4096, 3088]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3088, .f32⟩
  | .hbm, ⟨2, _⟩ => ⟨S4096x3088, .f32⟩
  | .hbm, ⟨3, _⟩ => ⟨S4096x1024, .f32⟩
  | .hbm, ⟨4, _⟩ => ⟨S4096x3088, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== GDown.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S4096x1024, .bf16⟩
  | .hbm, ⟨5, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GDownRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4096x2816, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GIn.lean ====
abbrev S4096x1024 : Shape := ⟨2, ![4096, 1024]⟩
abbrev S1024x3200 : Shape := ⟨2, ![1024, 3200]⟩
abbrev S4096x3200 : Shape := ⟨2, ![4096, 3200]⟩
abbrev S1024x1024 : Shape := ⟨2, ![1024, 1024]⟩
abbrev S1024x640 : Shape := ⟨2, ![1024, 640]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3200, .f32⟩
  | .hbm, ⟨2, _⟩ => ⟨S4096x3200, .f32⟩
  | .hbm, ⟨3, _⟩ => ⟨S4096x1024, .bf16⟩
  | .hbm, ⟨4, _⟩ => ⟨S4096x3200, .bf16⟩
  | .hbm, ⟨5, _⟩ => ⟨S1024x3200, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GInRefIdeal.lean ====
abbrev S4096x1024 : Shape := ⟨2, ![4096, 1024]⟩
abbrev S1024x3200 : Shape := ⟨2, ![1024, 3200]⟩
abbrev S4096x3200 : Shape := ⟨2, ![4096, 3200]⟩
abbrev S3200x1024 : Shape := ⟨2, ![3200, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3200, .f32⟩
  | .hbm, ⟨2, _⟩ => ⟨S4096x3200, .f32⟩
  | .hbm, ⟨3, _⟩ => ⟨S4096x3200, .f32⟩
  | .hbm, ⟨4, _⟩ => ⟨S3200x1024, .f32⟩
  | .hbm, ⟨5, _⟩ => ⟨S1024x3200, .f32⟩
  | .hbm, ⟨6, _⟩ => ⟨S4096x1024, .f32⟩
  | .hbm, ⟨7, _⟩ => ⟨S1024x3200, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FUp.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FUpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FDown.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FDownRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Mix.lean ====
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== GOut.lean ====
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GOutRefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DCat.lean ====
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DCatRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PSb.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1536, .f32⟩
  | .hbm, ⟨2, _⟩ => ⟨S4096x1024, .bf16⟩
  | .hbm, ⟨3, _⟩ => ⟨S1024x1536, .bf16⟩
  | .hbm, ⟨4, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PSbRefIdeal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1536, .f32⟩
  | .hbm, ⟨2, _⟩ => ⟨S4096x1536, .f32⟩
  | .hbm, ⟨3, _⟩ => ⟨S4096x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PGla.lean ====
abbrev S4096x1024 : Shape := ⟨2, ![4096, 1024]⟩
abbrev S1024x1664 : Shape := ⟨2, ![1024, 1664]⟩
abbrev S4096x1664 : Shape := ⟨2, ![4096, 1664]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1664, .f32⟩
  | .hbm, ⟨2, _⟩ => ⟨S4096x1024, .bf16⟩
  | .hbm, ⟨3, _⟩ => ⟨S1024x1664, .bf16⟩
  | .hbm, ⟨4, _⟩ => ⟨S4096x1664, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .f32⟩
  | .local _ .vmem, ⟨4, _⟩ => ⟨S1024x1664, .f32⟩
  | .local _ .vmem, ⟨5, _⟩ => ⟨S1024x1664, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PGlaRefIdeal.lean ====
abbrev S4096x1024 : Shape := ⟨2, ![4096, 1024]⟩
abbrev S1024x1664 : Shape := ⟨2, ![1024, 1664]⟩
abbrev S4096x1664 : Shape := ⟨2, ![4096, 1664]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1664, .f32⟩
  | .hbm, ⟨2, _⟩ => ⟨S4096x1664, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AIn.lean ====
abbrev S8x1024x386 : Shape := ⟨3, ![8, 1024, 386]⟩
abbrev S1024x386 : Shape := ⟨2, ![1024, 386]⟩
abbrev S8x256x386 : Shape := ⟨3, ![8, 256, 386]⟩
abbrev S256x386 : Shape := ⟨2, ![256, 386]⟩
abbrev S1x256x386 : Shape := ⟨3, ![1, 256, 386]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x386, .bf16⟩
  | .hbm, ⟨1, _⟩ => ⟨S1024x386, .f32⟩
  | .hbm, ⟨2, _⟩ => ⟨S1024x386, .f32⟩
  | .hbm, ⟨3, _⟩ => ⟨S1024x386, .f32⟩
  | .hbm, ⟨4, _⟩ => ⟨S1024x386, .f32⟩
  | .hbm, ⟨5, _⟩ => ⟨S1024x386, .f32⟩
  | .hbm, ⟨6, _⟩ => ⟨S1024x386, .f32⟩
  | .hbm, ⟨7, _⟩ => ⟨S1024x386, .f32⟩
  | .local _ .vmem, ⟨0, _⟩ => ⟨S8x256x386, .bf16⟩
  | .local _ .vmem, ⟨1, _⟩ => ⟨S8x256x386, .bf16⟩
  | .local _ .vmem, ⟨2, _⟩ => ⟨S256x386, .f32⟩
  | .local _ .vmem, ⟨3, _⟩ => ⟨S256x386, .f32⟩
  | .local _ .vmem, ⟨4, _⟩ => ⟨S256x386, .f32⟩
  | .local _ .vmem, ⟨5, _⟩ => ⟨S256x386, .f32⟩
  | .local _ .vmem, ⟨6, _⟩ => ⟨S256x386, .f32⟩
  | .local _ .vmem, ⟨7, _⟩ => ⟨S256x386, .f32⟩
  | .local _ .vmem, ⟨8, _⟩ => ⟨S256x386, .f32⟩
  | .local _ .vmem, ⟨9, _⟩ => ⟨S256x386, .f32⟩
  | .local _ .vmem, ⟨10, _⟩ => ⟨S256x386, .f32⟩
  | .local _ .vmem, ⟨11, _⟩ => ⟨S256x386, .f32⟩
  | .local _ .vmem, ⟨12, _⟩ => ⟨S256x386, .f32⟩
  | .local _ .vmem, ⟨13, _⟩ => ⟨S256x386, .f32⟩
  | .local _ .vmem, ⟨14, _⟩ => ⟨S256x386, .f32⟩
  | .local _ .vmem, ⟨15, _⟩ => ⟨S256x386, .f32⟩
  | _, _ => ⟨S8x1024x386, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x386 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x386 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x386 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AInIdeal.lean ====
abbrev S8x1024x386 : Shape := ⟨3, ![8, 1024, 386]⟩
abbrev S1024x386 : Shape := ⟨2, ![1024, 386]⟩
abbrev S8x256x386 : Shape := ⟨3, ![8, 256, 386]⟩
abbrev S256x386 : Shape := ⟨2, ![256, 386]⟩
abbrev S1x256x386 : Shape := ⟨3, ![1, 256, 386]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x386, .bf16⟩
  | .hbm, ⟨1, _⟩ => ⟨S1024x386, .f32⟩
  | .hbm, ⟨2, _⟩ => ⟨S1024x386, .f32⟩
  | .hbm, ⟨3, _⟩ => ⟨S1024x386, .f32⟩
  | .hbm, ⟨4, _⟩ => ⟨S1024x386, .f32⟩
  | .hbm, ⟨5, _⟩ => ⟨S1024x386, .f32⟩
  | .hbm, ⟨6, _⟩ => ⟨S1024x386, .f32⟩
  | .hbm, ⟨7, _⟩ => ⟨S1024x386, .f32⟩
  | .local _ .vmem, ⟨0, _⟩ => ⟨S8x256x386, .bf16⟩
  | .local _ .vmem, ⟨1, _⟩ => ⟨S8x256x386, .bf16⟩
  | .local _ .vmem, ⟨2, _⟩ => ⟨S256x386, .f32⟩
  | .local _ .vmem, ⟨3, _⟩ => ⟨S256x386, .f32⟩
  | .local _ .vmem, ⟨4, _⟩ => ⟨S256x386, .f32⟩
  | .local _ .vmem, ⟨5, _⟩ => ⟨S256x386, .f32⟩
  | .local _ .vmem, ⟨6, _⟩ => ⟨S256x386, .f32⟩
  | .local _ .vmem, ⟨7, _⟩ => ⟨S256x386, .f32⟩
  | .local _ .vmem, ⟨8, _⟩ => ⟨S256x386, .f32⟩
  | .local _ .vmem, ⟨9, _⟩ => ⟨S256x386, .f32⟩
  | .local _ .vmem, ⟨10, _⟩ => ⟨S256x386, .f32⟩
  | .local _ .vmem, ⟨11, _⟩ => ⟨S256x386, .f32⟩
  | .local _ .vmem, ⟨12, _⟩ => ⟨S256x386, .f32⟩
  | .local _ .vmem, ⟨13, _⟩ => ⟨S256x386, .f32⟩
  | .local _ .vmem, ⟨14, _⟩ => ⟨S256x386, .f32⟩
  | .local _ .vmem, ⟨15, _⟩ => ⟨S256x386, .f32⟩
  | _, _ => ⟨S8x1024x386, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x386 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x386 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x386 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AInRefIdeal.lean ====
abbrev S8x1024x386 : Shape := ⟨3, ![8, 1024, 386]⟩
abbrev S1024x386 : Shape := ⟨2, ![1024, 386]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x386, .bf16⟩
  | .hbm, ⟨1, _⟩ => ⟨S1024x386, .f32⟩
  | .hbm, ⟨2, _⟩ => ⟨S1024x386, .f32⟩
  | .hbm, ⟨3, _⟩ => ⟨S1024x386, .f32⟩
  | .hbm, ⟨4, _⟩ => ⟨S8x1024x386, .f32⟩
  | .hbm, ⟨5, _⟩ => ⟨S_, .f32⟩
  | .hbm, ⟨6, _⟩ => ⟨S1024x386, .f32⟩
  | .hbm, ⟨7, _⟩ => ⟨S_, .f32⟩
  | .hbm, ⟨8, _⟩ => ⟨S1024x386, .f32⟩
  | .hbm, ⟨9, _⟩ => ⟨S1024x386, .f32⟩
  | .hbm, ⟨10, _⟩ => ⟨S_, .f32⟩
  | .hbm, ⟨11, _⟩ => ⟨S1024x386, .f32⟩
  | .hbm, ⟨12, _⟩ => ⟨S1024x386, .f32⟩
  | .hbm, ⟨13, _⟩ => ⟨S1024x386, .f32⟩
  | .hbm, ⟨14, _⟩ => ⟨S_, .f32⟩
  | .hbm, ⟨15, _⟩ => ⟨S1024x386, .f32⟩
  | .hbm, ⟨16, _⟩ => ⟨S1024x386, .f32⟩
  | .hbm, ⟨17, _⟩ => ⟨S1024x386, .f32⟩
  | .hbm, ⟨18, _⟩ => ⟨S_, .f32⟩
  | .hbm, ⟨19, _⟩ => ⟨S1024x386, .f32⟩
  | .hbm, ⟨20, _⟩ => ⟨S1024x386, .f32⟩
  | .hbm, ⟨21, _⟩ => ⟨S1024x386, .f32⟩
  | .hbm, ⟨22, _⟩ => ⟨S_, .f32⟩
  | .hbm, ⟨23, _⟩ => ⟨S1024x386, .f32⟩
  | .hbm, ⟨24, _⟩ => ⟨S1024x386, .f32⟩
  | .hbm, ⟨25, _⟩ => ⟨S_, .f32⟩
  | .hbm, ⟨26, _⟩ => ⟨S1024x386, .f32⟩
  | .hbm, ⟨27, _⟩ => ⟨S1024x386, .f32⟩
  | .hbm, ⟨28, _⟩ => ⟨S1024x386, .f32⟩
  | .hbm, ⟨29, _⟩ => ⟨S_, .f32⟩
  | .hbm, ⟨30, _⟩ => ⟨S1024x386, .f32⟩
  | .hbm, ⟨31, _⟩ => ⟨S1024x386, .f32⟩
  | .hbm, ⟨32, _⟩ => ⟨S1024x386, .f32⟩
  | .hbm, ⟨33, _⟩ => ⟨S_, .f32⟩
  | .hbm, ⟨34, _⟩ => ⟨S1024x386, .f32⟩
  | .hbm, ⟨35, _⟩ => ⟨S1024x386, .f32⟩
  | .hbm, ⟨36, _⟩ => ⟨S1024x386, .f32⟩
  | .hbm, ⟨37, _⟩ => ⟨S_, .f32⟩
  | .hbm, ⟨38, _⟩ => ⟨S1024x386, .f32⟩
  | .hbm, ⟨39, _⟩ => ⟨S1024x386, .f32⟩
  | _, _ => ⟨S8x1024x386, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AOutIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AOutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AUp.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AUpIdeal.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AUpRefIdeal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== ADown.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ADownIdeal.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ADownRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AGate.lean ====
abbrev S8x16x32 : Shape := ⟨3, ![8, 16, 32]⟩
abbrev S16x32 : Shape := ⟨2, ![16, 32]⟩
abbrev S1x16x32 : Shape := ⟨3, ![1, 16, 32]⟩

abbrev nBuf : Space → Nat
  | .hbm => 8
  | .vmem => 8
  | .smem => 0
  | _ => 0

abbrev bufTy : (tb : Table) → Fin (tcTables nBuf tb) → BufTy
  | .hbm, ⟨0, _⟩ => ⟨S8x16x32, .f32⟩
  | .hbm, ⟨1, _⟩ => ⟨S16x32, .f32⟩
  | .hbm, ⟨2, _⟩ => ⟨S16x32, .f32⟩
  | .hbm, ⟨3, _⟩ => ⟨S16x32, .f32⟩
  | .hbm, ⟨4, _⟩ => ⟨S16x32, .f32⟩
  | .hbm, ⟨5, _⟩ => ⟨S16x32, .f32⟩
  | .hbm, ⟨6, _⟩ => ⟨S16x32, .f32⟩
  | .hbm, ⟨7, _⟩ => ⟨S16x32, .f32⟩
  | .local _ .vmem, ⟨0, _⟩ => ⟨S8x16x32, .f32⟩
  | .local _ .vmem, ⟨1, _⟩ => ⟨S16x32, .f32⟩
  | .local _ .vmem, ⟨2, _⟩ => ⟨S16x32, .f32⟩
  | .local _ .vmem, ⟨3, _⟩ => ⟨S16x32, .f32⟩
  | .local _ .vmem, ⟨4, _⟩ => ⟨S16x32, .f32⟩
  | .local _ .vmem, ⟨5, _⟩ => ⟨S16x32, .f32⟩
  | .local _ .vmem, ⟨6, _⟩ => ⟨S16x32, .f32⟩
  | .local _ .vmem, ⟨7, _⟩ => ⟨S16x32, .f32⟩
  | _, _ => ⟨S8x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AGateIdeal.lean ====
abbrev S8x16x32 : Shape := ⟨3, ![8, 16, 32]⟩
abbrev S16x32 : Shape := ⟨2, ![16, 32]⟩
abbrev S1x16x32 : Shape := ⟨3, ![1, 16, 32]⟩

abbrev nBuf : Space → Nat
  | .hbm => 8
  | .vmem => 8
  | .smem => 0
  | _ => 0

abbrev bufTy : (tb : Table) → Fin (tcTables nBuf tb) → BufTy
  | .hbm, ⟨0, _⟩ => ⟨S8x16x32, .f32⟩
  | .hbm, ⟨1, _⟩ => ⟨S16x32, .f32⟩
  | .hbm, ⟨2, _⟩ => ⟨S16x32, .f32⟩
  | .hbm, ⟨3, _⟩ => ⟨S16x32, .f32⟩
  | .hbm, ⟨4, _⟩ => ⟨S16x32, .f32⟩
  | .hbm, ⟨5, _⟩ => ⟨S16x32, .f32⟩
  | .hbm, ⟨6, _⟩ => ⟨S16x32, .f32⟩
  | .hbm, ⟨7, _⟩ => ⟨S16x32, .f32⟩
  | .local _ .vmem, ⟨0, _⟩ => ⟨S8x16x32, .f32⟩
  | .local _ .vmem, ⟨1, _⟩ => ⟨S16x32, .f32⟩
  | .local _ .vmem, ⟨2, _⟩ => ⟨S16x32, .f32⟩
  | .local _ .vmem, ⟨3, _⟩ => ⟨S16x32, .f32⟩
  | .local _ .vmem, ⟨4, _⟩ => ⟨S16x32, .f32⟩
  | .local _ .vmem, ⟨5, _⟩ => ⟨S16x32, .f32⟩
  | .local _ .vmem, ⟨6, _⟩ => ⟨S16x32, .f32⟩
  | .local _ .vmem, ⟨7, _⟩ => ⟨S16x32, .f32⟩
  | _, _ => ⟨S8x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AGateRefIdeal.lean ====
abbrev S8x16x32 : Shape := ⟨3, ![8, 16, 32]⟩
abbrev S16x32 : Shape := ⟨2, ![16, 32]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x32, .f32⟩
  | .hbm, ⟨1, _⟩ => ⟨S16x32, .f32⟩
  | .hbm, ⟨2, _⟩ => ⟨S16x32, .f32⟩
  | .hbm, ⟨3, _⟩ => ⟨S16x32, .f32⟩
  | .hbm, ⟨4, _⟩ => ⟨S_, .f32⟩
  | .hbm, ⟨5, _⟩ => ⟨S16x32, .f32⟩
  | .hbm, ⟨6, _⟩ => ⟨S_, .f32⟩
  | .hbm, ⟨7, _⟩ => ⟨S16x32, .f32⟩
  | .hbm, ⟨8, _⟩ => ⟨S16x32, .f32⟩
  | .hbm, ⟨9, _⟩ => ⟨S_, .f32⟩
  | .hbm, ⟨10, _⟩ => ⟨S16x32, .f32⟩
  | .hbm, ⟨11, _⟩ => ⟨S16x32, .f32⟩
  | .hbm, ⟨12, _⟩ => ⟨S16x32, .f32⟩
  | .hbm, ⟨13, _⟩ => ⟨S_, .f32⟩
  | .hbm, ⟨14, _⟩ => ⟨S16x32, .f32⟩
  | .hbm, ⟨15, _⟩ => ⟨S16x32, .f32⟩
  | .hbm, ⟨16, _⟩ => ⟨S16x32, .f32⟩
  | .hbm, ⟨17, _⟩ => ⟨S_, .f32⟩
  | .hbm, ⟨18, _⟩ => ⟨S16x32, .f32⟩
  | .hbm, ⟨19, _⟩ => ⟨S16x32, .f32⟩
  | .hbm, ⟨20, _⟩ => ⟨S16x32, .f32⟩
  | .hbm, ⟨21, _⟩ => ⟨S_, .f32⟩
  | .hbm, ⟨22, _⟩ => ⟨S16x32, .f32⟩
  | .hbm, ⟨23, _⟩ => ⟨S16x32, .f32⟩
  | .hbm, ⟨24, _⟩ => ⟨S_, .f32⟩
  | .hbm, ⟨25, _⟩ => ⟨S16x32, .f32⟩
  | .hbm, ⟨26, _⟩ => ⟨S16x32, .f32⟩
  | .hbm, ⟨27, _⟩ => ⟨S16x32, .f32⟩
  | .hbm, ⟨28, _⟩ => ⟨S_, .f32⟩
  | .hbm, ⟨29, _⟩ => ⟨S16x32, .f32⟩
  | .hbm, ⟨30, _⟩ => ⟨S16x32, .f32⟩
  | .hbm, ⟨31, _⟩ => ⟨S16x32, .f32⟩
  | .hbm, ⟨32, _⟩ => ⟨S_, .f32⟩
  | .hbm, ⟨33, _⟩ => ⟨S16x32, .f32⟩
  | .hbm, ⟨34, _⟩ => ⟨S16x32, .f32⟩
  | .hbm, ⟨35, _⟩ => ⟨S16x32, .f32⟩
  | .hbm, ⟨36, _⟩ => ⟨S_, .f32⟩
  | .hbm, ⟨37, _⟩ => ⟨S16x32, .f32⟩
  | .hbm, ⟨38, _⟩ => ⟨S16x32, .f32⟩
  | _, _ => ⟨S8x16x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AConv.lean ====
abbrev S8x3x704 : Shape := ⟨3, ![8, 3, 704]⟩
abbrev S3x704 : Shape := ⟨2, ![3, 704]⟩
abbrev S1x3x704 : Shape := ⟨3, ![1, 3, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .local _ .vmem, ⟨0, _⟩ => ⟨S8x3x704, .f32⟩
  | .local _ .vmem, ⟨1, _⟩ => ⟨S3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AConvRefIdeal.lean ====
abbrev S8x3x704 : Shape := ⟨3, ![8, 3, 704]⟩
abbrev S3x704 : Shape := ⟨2, ![3, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S_, .f32⟩
  | .hbm, ⟨7, _⟩ => ⟨S3x704, .f32⟩
  | .hbm, ⟨8, _⟩ => ⟨S3x704, .f32⟩
  | .hbm, ⟨9, _⟩ => ⟨S_, .f32⟩
  | .hbm, ⟨10, _⟩ => ⟨S3x704, .f32⟩
  | .hbm, ⟨11, _⟩ => ⟨S3x704, .f32⟩
  | .hbm, ⟨12, _⟩ => ⟨S3x704, .f32⟩
  | .hbm, ⟨13, _⟩ => ⟨S_, .f32⟩
  | .hbm, ⟨14, _⟩ => ⟨S3x704, .f32⟩
  | .hbm, ⟨15, _⟩ => ⟨S3x704, .f32⟩
  | .hbm, ⟨16, _⟩ => ⟨S3x704, .f32⟩
  | .hbm, ⟨17, _⟩ => ⟨S_, .f32⟩
  | .hbm, ⟨18, _⟩ => ⟨S3x704, .f32⟩
  | .hbm, ⟨19, _⟩ => ⟨S3x704, .f32⟩
  | .hbm, ⟨20, _⟩ => ⟨S3x704, .f32⟩
  | .hbm, ⟨21, _⟩ => ⟨S_, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S_, .f32⟩
  | .hbm, ⟨29, _⟩ => ⟨S3x704, .f32⟩
  | .hbm, ⟨30, _⟩ => ⟨S3x704, .f32⟩
  | .hbm, ⟨31, _⟩ => ⟨S3x704, .f32⟩
  | .hbm, ⟨32, _⟩ => ⟨S_, .f32⟩
  | .hbm, ⟨33, _⟩ => ⟨S3x704, .f32⟩
  | .hbm, ⟨34, _⟩ => ⟨S3x704, .f32⟩
  | .hbm, ⟨35, _⟩ => ⟨S3x704, .f32⟩
  | .hbm, ⟨36, _⟩ => ⟨S_, .f32⟩
  | .hbm, ⟨37, _⟩ => ⟨S3x704, .f32⟩
  | .hbm, ⟨38, _⟩ => ⟨S3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== ARep.lean ====
abbrev S8x1x256 : Shape := ⟨3, ![8, 1, 256]⟩
abbrev S8x1x128 : Shape := ⟨3, ![8, 1, 128]⟩
abbrev S8x1x1024 : Shape := ⟨3, ![8, 1, 1024]⟩
abbrev S8x1x5632 : Shape := ⟨3, ![8, 1, 5632]⟩
abbrev S1x256 : Shape := ⟨2, ![1, 256]⟩
abbrev S1x128 : Shape := ⟨2, ![1, 128]⟩
abbrev S1x1024 : Shape := ⟨2, ![1, 1024]⟩
abbrev S1x5632 : Shape := ⟨2, ![1, 5632]⟩
abbrev S1x1x128 : Shape := ⟨3, ![1, 1, 128]⟩
abbrev S1x1x256 : Shape := ⟨3, ![1, 1, 256]⟩
abbrev S1x1x1024 : Shape := ⟨3, ![1, 1, 1024]⟩
abbrev S1x1x5632 : Shape := ⟨3, ![1, 1, 5632]⟩

abbrev nBuf : Space → Nat
  | .hbm => 58
  | .vmem => 58
  | .smem => 0
  | _ => 0

abbrev bufTy : (tb : Table) → Fin (tcTables nBuf tb) → BufTy
  | .hbm, ⟨0, _⟩ => ⟨S8x1x256, .f32⟩
  | .hbm, ⟨1, _⟩ => ⟨S8x1x128, .f32⟩
  | .hbm, ⟨2, _⟩ => ⟨S8x1x1024, .f32⟩
  | .hbm, ⟨3, _⟩ => ⟨S8x1x1024, .f32⟩
  | .hbm, ⟨4, _⟩ => ⟨S8x1x5632, .f32⟩
  | .hbm, ⟨5, _⟩ => ⟨S8x1x1024, .f32⟩
  | .hbm, ⟨6, _⟩ => ⟨S8x1x1024, .f32⟩
  | .hbm, ⟨7, _⟩ => ⟨S8x1x128, .f32⟩
  | .hbm, ⟨8, _⟩ => ⟨S1x256, .f32⟩
  | .hbm, ⟨9, _⟩ => ⟨S1x128, .f32⟩
  | .hbm, ⟨10, _⟩ => ⟨S1x1024, .f32⟩
  | .hbm, ⟨11, _⟩ => ⟨S1x1024, .f32⟩
  | .hbm, ⟨12, _⟩ => ⟨S1x5632, .f32⟩
  | .hbm, ⟨13, _⟩ => ⟨S1x1024, .f32⟩
  | .hbm, ⟨14, _⟩ => ⟨S1x1024, .f32⟩
  | .hbm, ⟨15, _⟩ => ⟨S1x256, .f32⟩
  | .hbm, ⟨16, _⟩ => ⟨S1x128, .f32⟩
  | .hbm, ⟨17, _⟩ => ⟨S1x1024, .f32⟩
  | .hbm, ⟨18, _⟩ => ⟨S1x1024, .f32⟩
  | .hbm, ⟨19, _⟩ => ⟨S1x5632, .f32⟩
  | .hbm, ⟨20, _⟩ => ⟨S1x1024, .f32⟩
  | .hbm, ⟨21, _⟩ => ⟨S1x1024, .f32⟩
  | .hbm, ⟨22, _⟩ => ⟨S1x256, .f32⟩
  | .hbm, ⟨23, _⟩ => ⟨S1x128, .f32⟩
  | .hbm, ⟨24, _⟩ => ⟨S1x1024, .f32⟩
  | .hbm, ⟨25, _⟩ => ⟨S1x1024, .f32⟩
  | .hbm, ⟨26, _⟩ => ⟨S1x5632, .f32⟩
  | .hbm, ⟨27, _⟩ => ⟨S1x1024, .f32⟩
  | .hbm, ⟨28, _⟩ => ⟨S1x1024, .f32⟩
  | .hbm, ⟨29, _⟩ => ⟨S1x128, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x5632, .f32⟩
  | .hbm, ⟨47, _⟩ => ⟨S1x5632, .f32⟩
  | .hbm, ⟨48, _⟩ => ⟨S1x5632, .f32⟩
  | .hbm, ⟨49, _⟩ => ⟨S1x5632, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .local _ .vmem, ⟨0, _⟩ => ⟨S8x1x256, .f32⟩
  | .local _ .vmem, ⟨1, _⟩ => ⟨S8x1x128, .f32⟩
  | .local _ .vmem, ⟨2, _⟩ => ⟨S8x1x1024, .f32⟩
  | .local _ .vmem, ⟨3, _⟩ => ⟨S8x1x1024, .f32⟩
  | .local _ .vmem, ⟨4, _⟩ => ⟨S8x1x5632, .f32⟩
  | .local _ .vmem, ⟨5, _⟩ => ⟨S8x1x1024, .f32⟩
  | .local _ .vmem, ⟨6, _⟩ => ⟨S8x1x1024, .f32⟩
  | .local _ .vmem, ⟨7, _⟩ => ⟨S8x1x128, .f32⟩
  | .local _ .vmem, ⟨8, _⟩ => ⟨S1x256, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S1x5632, .f32⟩
  | .local _ .vmem, ⟨13, _⟩ => ⟨S1x1024, .f32⟩
  | .local _ .vmem, ⟨14, _⟩ => ⟨S1x1024, .f32⟩
  | .local _ .vmem, ⟨15, _⟩ => ⟨S1x256, .f32⟩
  | .local _ .vmem, ⟨16, _⟩ => ⟨S1x128, .f32⟩
  | .local _ .vmem, ⟨17, _⟩ => ⟨S1x1024, .f32⟩
  | .local _ .vmem, ⟨18, _⟩ => ⟨S1x1024, .f32⟩
  | .local _ .vmem, ⟨19, _⟩ => ⟨S1x5632, .f32⟩
  | .local _ .vmem, ⟨20, _⟩ => ⟨S1x1024, .f32⟩
  | .local _ .vmem, ⟨21, _⟩ => ⟨S1x1024, .f32⟩
  | .local _ .vmem, ⟨22, _⟩ => ⟨S1x256, .f32⟩
  | .local _ .vmem, ⟨23, _⟩ => ⟨S1x128, .f32⟩
  | .local _ .vmem, ⟨24, _⟩ => ⟨S1x1024, .f32⟩
  | .local _ .vmem, ⟨25, _⟩ => ⟨S1x1024, .f32⟩
  | .local _ .vmem, ⟨26, _⟩ => ⟨S1x5632, .f32⟩
  | .local _ .vmem, ⟨27, _⟩ => ⟨S1x1024, .f32⟩
  | .local _ .vmem, ⟨28, _⟩ => ⟨S1x1024, .f32⟩
  | .local _ .vmem, ⟨29, _⟩ => ⟨S1x128, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x5632, .f32⟩
  | .local _ .vmem, ⟨47, _⟩ => ⟨S1x5632, .f32⟩
  | .local _ .vmem, ⟨48, _⟩ => ⟨S1x5632, .f32⟩
  | .local _ .vmem, ⟨49, _⟩ => ⟨S1x5632, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S1x1024, .f32⟩
  | .local _ .vmem, ⟨57, _⟩ => ⟨S1x1024, .f32⟩
  | _, _ => ⟨S8x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0_0 : Ref sig .tc := ⟨.hbm, 29, rfl⟩
abbrev main_v0_1 : Ref sig .tc := ⟨.hbm, 30, rfl⟩
abbrev main_v0_2 : Ref sig .tc := ⟨.hbm, 31, rfl⟩
abbrev main_v0_3 : Ref sig .tc := ⟨.hbm, 32, rfl⟩
abbrev main_v0_4 : Ref sig .tc := ⟨.hbm, 33, rfl⟩
abbrev main_v0_5 : Ref sig .tc := ⟨.hbm, 34, rfl⟩
abbrev main_v0_6 : Ref sig .tc := ⟨.hbm, 35, rfl⟩
abbrev main_v0_7 : Ref sig .tc := ⟨.hbm, 36, rfl⟩
abbrev main_v0_8 : Ref sig .tc := ⟨.hbm, 37, rfl⟩
abbrev main_v0_9 : Ref sig .tc := ⟨.hbm, 38, rfl⟩
abbrev main_v0_10 : Ref sig .tc := ⟨.hbm, 39, rfl⟩
abbrev main_v0_11 : Ref sig .tc := ⟨.hbm, 40, rfl⟩
abbrev main_v0_12 : Ref sig .tc := ⟨.hbm, 41, rfl⟩
abbrev main_v0_13 : Ref sig .tc := ⟨.hbm, 42, rfl⟩
abbrev main_v0_14 : Ref sig .tc := ⟨.hbm, 43, rfl⟩
abbrev main_v0_15 : Ref sig .tc := ⟨.hbm, 44, rfl⟩
abbrev main_v0_16 : Ref sig .tc := ⟨.hbm, 45, rfl⟩
abbrev main_v0_17 : Ref sig .tc := ⟨.hbm, 46, rfl⟩
abbrev main_v0_18 : Ref sig .tc := ⟨.hbm, 47, rfl⟩
abbrev main_v0_19 : Ref sig .tc := ⟨.hbm, 48, rfl⟩
abbrev main_v0_20 : Ref sig .tc := ⟨.hbm, 49, rfl⟩
abbrev main_v0_21 : Ref sig .tc := ⟨.hbm, 50, rfl⟩
abbrev main_v0_22 : Ref sig .tc := ⟨.hbm, 51, rfl⟩
abbrev main_v0_23 : Ref sig .tc := ⟨.hbm, 52, rfl⟩
abbrev main_v0_24 : Ref sig .tc := ⟨.hbm, 53, rfl⟩
abbrev main_v0_25 : Ref sig .tc := ⟨.hbm, 54, rfl⟩
abbrev main_v0_26 : Ref sig .tc := ⟨.hbm, 55, rfl⟩
abbrev main_v0_27 : Ref sig .tc := ⟨.hbm, 56, rfl⟩
abbrev main_v0_28 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57

abbrev nD : Nat := 1
abbrev τ : Topo := Topo.v7x

variable {F : FTy → Type} [FloatOps F]

abbrev grid0 : Pipeline.Grid := .none

abbrev stage0_0 : Fin 1 → Memref sig .tc .vmem S8x1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x5632 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x5632 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x256 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x256 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x5632 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x5632 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x5632 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x5632 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))
-- ==== ARepRefIdeal.lean ====
abbrev S8x1x256 : Shape := ⟨3, ![8, 1, 256]⟩
abbrev S8x1x128 : Shape := ⟨3, ![8, 1, 128]⟩
abbrev S8x1x1024 : Shape := ⟨3, ![8, 1, 1024]⟩
abbrev S8x1x5632 : Shape := ⟨3, ![8, 1, 5632]⟩
abbrev S1x256 : Shape := ⟨2, ![1, 256]⟩
abbrev S1x128 : Shape := ⟨2, ![1, 128]⟩
abbrev S1x1024 : Shape := ⟨2, ![1, 1024]⟩
abbrev S1x5632 : Shape := ⟨2, ![1, 5632]⟩
abbrev S_ : Shape := ⟨0, ![]⟩

abbrev nBuf : Space → Nat
  | .hbm => 276
  | .vmem => 0
  | .smem => 0
  | _ => 0

abbrev hbmTy0_0 (i : Nat) : BufTy := match i % 128 with
  | 0 => ⟨S8x1x256, .f32⟩
  | 1 => ⟨S8x1x128, .f32⟩
  | 2 => ⟨S8x1x1024, .f32⟩
  | 3 => ⟨S8x1x1024, .f32⟩
  | 4 => ⟨S8x1x5632, .f32⟩
  | 5 => ⟨S8x1x1024, .f32⟩
  | 6 => ⟨S8x1x1024, .f32⟩
  | 7 => ⟨S8x1x128, .f32⟩
  | 8 => ⟨S1x256, .f32⟩
  | 9 => ⟨S1x128, .f32⟩
  | 10 => ⟨S1x1024, .f32⟩
  | 11 => ⟨S1x1024, .f32⟩
  | 12 => ⟨S1x5632, .f32⟩
  | 13 => ⟨S1x1024, .f32⟩
  | 14 => ⟨S1x1024, .f32⟩
  | 15 => ⟨S1x256, .f32⟩
  | 16 => ⟨S1x128, .f32⟩
  | 17 => ⟨S1x1024, .f32⟩
  | 18 => ⟨S1x1024, .f32⟩
  | 19 => ⟨S1x5632, .f32⟩
  | 20 => ⟨S1x1024, .f32⟩
  | 21 => ⟨S1x1024, .f32⟩
  | 22 => ⟨S1x256, .f32⟩
  | 23 => ⟨S1x128, .f32⟩
  | 24 => ⟨S1x1024, .f32⟩
  | 25 => ⟨S1x1024, .f32⟩
  | 26 => ⟨S1x5632, .f32⟩
  | 27 => ⟨S1x1024, .f32⟩
  | 28 => ⟨S1x1024, .f32⟩
  | 29 => ⟨S_, .f32⟩
  | 30 => ⟨S1x128, .f32⟩
  | 31 => ⟨S_, .f32⟩
  | 32 => ⟨S1x256, .f32⟩
  | 33 => ⟨S_, .f32⟩
  | 34 => ⟨S1x256, .f32⟩
  | 35 => ⟨S1x256, .f32⟩
  | 36 => ⟨S_, .f32⟩
  | 37 => ⟨S1x256, .f32⟩
  | 38 => ⟨S1x256, .f32⟩
  | 39 => ⟨S1x256, .f32⟩
  | 40 => ⟨S_, .f32⟩
  | 41 => ⟨S1x256, .f32⟩
  | 42 => ⟨S1x256, .f32⟩
  | 43 => ⟨S1x256, .f32⟩
  | 44 => ⟨S_, .f32⟩
  | 45 => ⟨S1x256, .f32⟩
  | 46 => ⟨S1x256, .f32⟩
  | 47 => ⟨S1x256, .f32⟩
  | 48 => ⟨S_, .f32⟩
  | 49 => ⟨S1x256, .f32⟩
  | 50 => ⟨S1x256, .f32⟩
  | 51 => ⟨S_, .f32⟩
  | 52 => ⟨S1x256, .f32⟩
  | 53 => ⟨S1x256, .f32⟩
  | 54 => ⟨S1x256, .f32⟩
  | 55 => ⟨S_, .f32⟩
  | 56 => ⟨S1x256, .f32⟩
  | 57 => ⟨S1x256, .f32⟩
  | 58 => ⟨S1x256, .f32⟩
  | 59 => ⟨S_, .f32⟩
  | 60 => ⟨S1x256, .f32⟩
  | 61 => ⟨S1x256, .f32⟩
  | 62 => ⟨S1x256, .f32⟩
  | 63 => ⟨S_, .f32⟩
  | 64 => ⟨S1x256, .f32⟩
  | 65 => ⟨S1x256, .f32⟩
  | 66 => ⟨S_, .f32⟩
  | 67 => ⟨S1x128, .f32⟩
  | 68 => ⟨S_, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S_, .f32⟩
  | 91 => ⟨S1x128, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S_, .f32⟩
  | 102 => ⟨S1x1024, .f32⟩
  | 103 => ⟨S_, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S1x1024, .f32⟩
  | 110 => ⟨S_, .f32⟩
  | 111 => ⟨S1x1024, .f32⟩
  | 112 => ⟨S1x1024, .f32⟩
  | 113 => ⟨S1x1024, .f32⟩
  | 114 => ⟨S_, .f32⟩
  | 115 => ⟨S1x1024, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S8x1x256, .f32⟩

abbrev hbmTy0_1 (i : Nat) : BufTy := match i % 128 with
  | 0 => ⟨S1x1024, .f32⟩
  | 1 => ⟨S_, .f32⟩
  | 2 => ⟨S1x1024, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S_, .f32⟩
  | 9 => ⟨S1x1024, .f32⟩
  | 10 => ⟨S_, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S_, .f32⟩
  | 44 => ⟨S1x5632, .f32⟩
  | 45 => ⟨S_, .f32⟩
  | 46 => ⟨S1x5632, .f32⟩
  | 47 => ⟨S1x5632, .f32⟩
  | 48 => ⟨S_, .f32⟩
  | 49 => ⟨S1x5632, .f32⟩
  | 50 => ⟨S1x5632, .f32⟩
  | 51 => ⟨S1x5632, .f32⟩
  | 52 => ⟨S_, .f32⟩
  | 53 => ⟨S1x5632, .f32⟩
  | 54 => ⟨S1x5632, .f32⟩
  | 55 => ⟨S1x5632, .f32⟩
  | 56 => ⟨S_, .f32⟩
  | 57 => ⟨S1x5632, .f32⟩
  | 58 => ⟨S1x5632, .f32⟩
  | 59 => ⟨S1x5632, .f32⟩
  | 60 => ⟨S_, .f32⟩
  | 61 => ⟨S1x5632, .f32⟩
  | 62 => ⟨S1x5632, .f32⟩
  | 63 => ⟨S_, .f32⟩
  | 64 => ⟨S1x5632, .f32⟩
  | 65 => ⟨S1x5632, .f32⟩
  | 66 => ⟨S1x5632, .f32⟩
  | 67 => ⟨S_, .f32⟩
  | 68 => ⟨S1x5632, .f32⟩
  | 69 => ⟨S1x5632, .f32⟩
  | 70 => ⟨S1x5632, .f32⟩
  | 71 => ⟨S_, .f32⟩
  | 72 => ⟨S1x5632, .f32⟩
  | 73 => ⟨S1x5632, .f32⟩
  | 74 => ⟨S1x5632, .f32⟩
  | 75 => ⟨S_, .f32⟩
  | 76 => ⟨S1x5632, .f32⟩
  | 77 => ⟨S1x5632, .f32⟩
  | 78 => ⟨S_, .f32⟩
  | 79 => ⟨S1x1024, .f32⟩
  | 80 => ⟨S_, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S1x1024, .f32⟩
  | 110 => ⟨S_, .f32⟩
  | 111 => ⟨S1x1024, .f32⟩
  | 112 => ⟨S1x1024, .f32⟩
  | 113 => ⟨S_, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S8x1x256, .f32⟩

abbrev hbmTy0_2 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | _ => ⟨S8x1x256, .f32⟩

abbrev hbmTy (i : Nat) : BufTy := match i / 128 with
  | 0 => hbmTy0_0 i
  | 1 => hbmTy0_1 i
  | 2 => hbmTy0_2 i
  | _ => ⟨S8x1x256, .f32⟩

abbrev bufTy : (tb : Table) → Fin (tcTables nBuf tb) → BufTy
  | .hbm, ⟨i, _⟩ => hbmTy i
  | _, _ => ⟨S8x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_cst_0 : Ref sig .tc := ⟨.hbm, 31, rfl⟩
abbrev main_v1 : Ref sig .tc := ⟨.hbm, 32, rfl⟩
abbrev main_cst_1 : Ref sig .tc := ⟨.hbm, 33, rfl⟩
abbrev main_v2 : Ref sig .tc := ⟨.hbm, 34, rfl⟩
abbrev main_v3 : Ref sig .tc := ⟨.hbm, 35, rfl⟩
abbrev main_cst_2 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst_3 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst_4 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_cst_5 : Ref sig .tc := ⟨.hbm, 48, rfl⟩
abbrev main_v13 : Ref sig .tc := ⟨.hbm, 49, rfl⟩
abbrev main_v14 : Ref sig .tc := ⟨.hbm, 50, rfl⟩
abbrev main_cst_6 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_cst_7 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_8 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_9 : Ref sig .tc := ⟨.hbm, 63, rfl⟩
abbrev main_v24 : Ref sig .tc := ⟨.hbm, 64, rfl⟩
abbrev main_v25 : Ref sig .tc := ⟨.hbm, 65, rfl⟩
abbrev main_cst_10 : Ref sig .tc := ⟨.hbm, 66, rfl⟩
abbrev main_v26 : Ref sig .tc := ⟨.hbm, 67, rfl⟩
abbrev main_cst_11 : Ref sig .tc := ⟨.hbm, 68, rfl⟩
abbrev main_v27 : Ref sig .tc := ⟨.hbm, 69, rfl⟩
abbrev main_v28 : Ref sig .tc := ⟨.hbm, 70, rfl⟩
abbrev main_cst_12 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_13 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_14 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_15 : Ref sig .tc := ⟨.hbm, 83, rfl⟩
abbrev main_v38 : Ref sig .tc := ⟨.hbm, 84, rfl⟩
abbrev main_v39 : Ref sig .tc := ⟨.hbm, 85, rfl⟩
abbrev main_cst_16 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst_17 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_cst_18 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_cst_19 : Ref sig .tc := ⟨.hbm, 98, rfl⟩
abbrev main_v49 : Ref sig .tc := ⟨.hbm, 99, rfl⟩
abbrev main_v50 : Ref sig .tc := ⟨.hbm, 100, rfl⟩
abbrev main_cst_20 : Ref sig .tc := ⟨.hbm, 101, rfl⟩
abbrev main_v51 : Ref sig .tc := ⟨.hbm, 102, rfl⟩
abbrev main_cst_21 : Ref sig .tc := ⟨.hbm, 103, rfl⟩
abbrev main_v52 : Ref sig .tc := ⟨.hbm, 104, rfl⟩
abbrev main_v53 : Ref sig .tc := ⟨.hbm, 105, rfl⟩
abbrev main_cst_22 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_23 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_cst_24 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_25 : Ref sig .tc := ⟨.hbm, 118, rfl⟩
abbrev main_v63 : Ref sig .tc := ⟨.hbm, 119, rfl⟩
abbrev main_v64 : Ref sig .tc := ⟨.hbm, 120, rfl⟩
abbrev main_cst_26 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_cst_27 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_28 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_cst_29 : Ref sig .tc := ⟨.hbm, 133, rfl⟩
abbrev main_v74 : Ref sig .tc := ⟨.hbm, 134, rfl⟩
abbrev main_v75 : Ref sig .tc := ⟨.hbm, 135, rfl⟩
abbrev main_cst_30 : Ref sig .tc := ⟨.hbm, 136, rfl⟩
abbrev main_v76 : Ref sig .tc := ⟨.hbm, 137, rfl⟩
abbrev main_cst_31 : Ref sig .tc := ⟨.hbm, 138, rfl⟩
abbrev main_v77 : Ref sig .tc := ⟨.hbm, 139, rfl⟩
abbrev main_v78 : Ref sig .tc := ⟨.hbm, 140, rfl⟩
abbrev main_cst_32 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_cst_33 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_cst_34 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_35 : Ref sig .tc := ⟨.hbm, 153, rfl⟩
abbrev main_v88 : Ref sig .tc := ⟨.hbm, 154, rfl⟩
abbrev main_v89 : Ref sig .tc := ⟨.hbm, 155, rfl⟩
abbrev main_cst_36 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_cst_37 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_cst_38 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_cst_39 : Ref sig .tc := ⟨.hbm, 168, rfl⟩
abbrev main_v99 : Ref sig .tc := ⟨.hbm, 169, rfl⟩
abbrev main_v100 : Ref sig .tc := ⟨.hbm, 170, rfl⟩
abbrev main_cst_40 : Ref sig .tc := ⟨.hbm, 171, rfl⟩
abbrev main_v101 : Ref sig .tc := ⟨.hbm, 172, rfl⟩
abbrev main_cst_41 : Ref sig .tc := ⟨.hbm, 173, rfl⟩
abbrev main_v102 : Ref sig .tc := ⟨.hbm, 174, rfl⟩
abbrev main_v103 : Ref sig .tc := ⟨.hbm, 175, rfl⟩
abbrev main_cst_42 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_cst_43 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_cst_44 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_cst_45 : Ref sig .tc := ⟨.hbm, 188, rfl⟩
abbrev main_v113 : Ref sig .tc := ⟨.hbm, 189, rfl⟩
abbrev main_v114 : Ref sig .tc := ⟨.hbm, 190, rfl⟩
abbrev main_cst_46 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_cst_47 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_cst_48 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_cst_49 : Ref sig .tc := ⟨.hbm, 203, rfl⟩
abbrev main_v124 : Ref sig .tc := ⟨.hbm, 204, rfl⟩
abbrev main_v125 : Ref sig .tc := ⟨.hbm, 205, rfl⟩
abbrev main_cst_50 : Ref sig .tc := ⟨.hbm, 206, rfl⟩
abbrev main_v126 : Ref sig .tc := ⟨.hbm, 207, rfl⟩
abbrev main_cst_51 : Ref sig .tc := ⟨.hbm, 208, rfl⟩
abbrev main_v127 : Ref sig .tc := ⟨.hbm, 209, rfl⟩
abbrev main_v128 : Ref sig .tc := ⟨.hbm, 210, rfl⟩
abbrev main_cst_52 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_cst_53 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_cst_54 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_cst_55 : Ref sig .tc := ⟨.hbm, 223, rfl⟩
abbrev main_v138 : Ref sig .tc := ⟨.hbm, 224, rfl⟩
abbrev main_v139 : Ref sig .tc := ⟨.hbm, 225, rfl⟩
abbrev main_cst_56 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_cst_57 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_cst_58 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_cst_59 : Ref sig .tc := ⟨.hbm, 238, rfl⟩
abbrev main_v149 : Ref sig .tc := ⟨.hbm, 239, rfl⟩
abbrev main_v150 : Ref sig .tc := ⟨.hbm, 240, rfl⟩
abbrev main_cst_60 : Ref sig .tc := ⟨.hbm, 241, rfl⟩
abbrev main_v151 : Ref sig .tc := ⟨.hbm, 242, rfl⟩
abbrev main_cst_61 : Ref sig .tc := ⟨.hbm, 243, rfl⟩
abbrev main_v152 : Ref sig .tc := ⟨.hbm, 244, rfl⟩
abbrev main_v153 : Ref sig .tc := ⟨.hbm, 245, rfl⟩
abbrev main_cst_62 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_cst_63 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_cst_64 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_cst_65 : Ref sig .tc := ⟨.hbm, 258, rfl⟩
abbrev main_v163 : Ref sig .tc := ⟨.hbm, 259, rfl⟩
abbrev main_v164 : Ref sig .tc := ⟨.hbm, 260, rfl⟩
abbrev main_cst_66 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_cst_67 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_cst_68 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_cst_69 : Ref sig .tc := ⟨.hbm, 273, rfl⟩
abbrev main_v174 : Ref sig .tc := ⟨.hbm, 274, rfl⟩
abbrev main_v175 : Ref sig .tc := ⟨.hbm, 275, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Names.lean ====
/-
  The canonical names of the attention gradient's own transfers: the block of weights a transfer reads out of HBM, the slot it
  lands in, the cell it signals; the printed offsets of the loop in closed form; the printed slices rewritten to those names.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Ring
public import Idealize.ShloMosaic.Lib.Affine
public import Idealize.ShloMosaic.Lib.Tactic
public import Idealize.ShloMosaic.Lib.Transfers

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

/-- The weights in HBM; the two slots of the loop's blocks; the eight slots of the diagonal band. -/
abbrev wM : Memref sig .tc .hbm S8x4x32x1024x128 .bf16 := Memref.whole main_v19
abbrev ringM : Memref sig .tc .vmem S2x2x1024x128 .bf16 := Memref.whole cc0_scratch2
abbrev bandM : Memref sig .tc .vmem S8x2x1024x128 .bf16 := Memref.whole cc0_scratch4

/-- Where key block `b` of the grid point's head pair and query block lies among the weights. -/
abbrev grpOff (i : grid0.Coords) (b : Fin 32) : Fin 5 → Nat := ![2 * (i 0).val, (i 1).val, b.val, 0, 0]
theorem grpOff_inb (i : grid0.Coords) (b : Fin 32) : ∀ a, grpOff i b a + S2x1x1x1024x128.size a ≤ S8x4x32x1024x128.size a := by
  have h0 : (i 0).val < 4 := (i 0).isLt
  have h1 : (i 1).val < 4 := (i 1).isLt
  have := b.isLt; intro a; fin_cases a
  · show 2 * (i 0).val + 2 ≤ 8; omega
  · show (i 1).val + 1 ≤ 4; omega
  · show b.val + 1 ≤ 32; omega
  · show 0 + 1024 ≤ 1024; omega
  · show 0 + 128 ≤ 128; omega
abbrev slotOff (s : Fin 2) : Fin 4 → Nat := ![s.val, 0, 0, 0]
theorem slotOff_inb (s : Fin 2) : ∀ a, slotOff s a + S1x2x1024x128.size a ≤ S2x2x1024x128.size a := by
  have := s.isLt; intro a; fin_cases a
  · show s.val + 1 ≤ 2; omega
  · show 0 + 2 ≤ 2; omega
  · show 0 + 1024 ≤ 1024; omega
  · show 0 + 128 ≤ 128; omega
abbrev semOff (s : Fin 2) : Fin 1 → Nat := ![s.val]
theorem semOff_inb (s : Fin 2) : ∀ a, semOff s a + S1.size a ≤ S2.size a := by
  have := s.isLt; intro a; fin_cases a; show s.val + 1 ≤ 2; omega
abbrev bandOff (u : Fin 8) : Fin 4 → Nat := ![u.val, 0, 0, 0]
theorem bandOff_inb (u : Fin 8) : ∀ a, bandOff u a + S1x2x1024x128.size a ≤ S8x2x1024x128.size a := by
  have := u.isLt; intro a; fin_cases a
  · show u.val + 1 ≤ 8; omega
  · show 0 + 2 ≤ 2; omega
  · show 0 + 1024 ≤ 1024; omega
  · show 0 + 128 ≤ 128; omega
abbrev bsemOff (u : Fin 8) : Fin 1 → Nat := ![u.val]
theorem bsemOff_inb (u : Fin 8) : ∀ a, bsemOff u a + S1.size a ≤ S8.size a := by
  have := u.isLt; intro a; fin_cases a; show u.val + 1 ≤ 8; omega

/-- Key block `b`'s weights, as the body slices and squeezes them. -/
def grp (i : grid0.Coords) (b : Fin 32) : Memref sig .tc .hbm S2x1024x128 .bf16 :=
  (wM.slice (Rect.unit (s := S8x4x32x1024x128) (grpOff i b) S2x1x1x1024x128.size (grpOff_inb i b)) (fun _ => rfl)).squeeze S2x1024x128 squeezes_S2x1x1x1024x128_S2x1024x128
/-- Slot `s` of the loop's two. -/
def rslot (s : Fin 2) : Memref sig .tc .vmem S2x1024x128 .bf16 :=
  (ringM.slice (Rect.unit (s := S2x2x1024x128) (slotOff s) S1x2x1024x128.size (slotOff_inb s)) (fun _ => rfl)).squeeze S2x1024x128 squeezes_S1x2x1024x128_S2x1024x128
/-- Slot `u` of the band's eight. -/
def bslot (u : Fin 8) : Memref sig .tc .vmem S2x1024x128 .bf16 :=
  (bandM.slice (Rect.unit (s := S8x2x1024x128) (bandOff u) S1x2x1024x128.size (bandOff_inb u)) (fun _ => rfl)).squeeze S2x1024x128 squeezes_S1x2x1024x128_S2x1024x128
/-- The cells of the two slots, and of the band's eight. -/
def csm (s : Fin 2) : DmaSems sig S_ := (cc0_scratch3.slice (Rect.unit (s := S2) (semOff s) S1.size (semOff_inb s))).squeeze S_ squeezes_S1_S_
def bsm (u : Fin 8) : DmaSems sig S_ := (cc0_scratch5.slice (Rect.unit (s := S8) (bsemOff u) S1.size (bsemOff_inb u))).squeeze S_ squeezes_S1_S_

instance (s : Fin 2) : ClosedOff (slotOff s) := ⟨slotOff s, rfl⟩
instance (u : Fin 8) : ClosedOff (bandOff u) := ⟨bandOff u, rfl⟩
instance (i : grid0.Coords) (b : Fin 32) : ClosedOff (grpOff i b) := ⟨grpOff i b, rfl⟩

/-! ## The loop's words in closed form -/

/-- The blocks below the diagonal: eight per query block before this one. -/
theorem trips1_eq : ∀ i : grid0.Coords, (k0_t1_loop i).trips = 8 * (i 1).val := by decide +kernel
theorem trips2_eq (i : grid0.Coords) : (k0_t2_loop i).trips = 0 := Nat.le_zero.mp (k0_t2_abs i).2.1
theorem cond2_iff : ∀ i : grid0.Coords, k0_cond2 i = 1#1 ↔ 0 < (k0_t1_loop i).trips := by decide +kernel
theorem cond3_iff : ∀ (i : grid0.Coords) (k : Fin (k0_t1_loop i).trips), k0_cond3 i k = 1#1 ↔ k.val + 1 < (k0_t1_loop i).trips := by decide +kernel

theorem off3_eq : ∀ (i : grid0.Coords) (k : Fin (k0_t1_loop i).trips), k0_off3 i k = semOff (Ring.sl 2 (k.val + 1)) := by decide +kernel
theorem off4_eq : ∀ (i : grid0.Coords) (k : Fin (k0_t1_loop i).trips), k0_off4 i k = slotOff (Ring.sl 2 (k.val + 1)) := by decide +kernel
theorem off6_eq : ∀ (i : grid0.Coords) (k : Fin (k0_t1_loop i).trips), k0_off6 i k = semOff (Ring.sl 2 k.val) := by decide +kernel
theorem off7_eq : ∀ (i : grid0.Coords) (k : Fin (k0_t1_loop i).trips), k0_off7 i k = slotOff (Ring.sl 2 k.val) := by decide +kernel
theorem trip_lt (i : grid0.Coords) (k : Fin (k0_t1_loop i).trips) : k.val < 24 := by
  have h := Nat.lt_of_lt_of_eq k.isLt (trips1_eq i); have : (i 1).val < 4 := (i 1).isLt; omega
theorem off2_eq (i : grid0.Coords) : k0_off2 i = grpOff i (Ring.bk 32 0) := k0_off2_eq i
theorem off5_eq (i : grid0.Coords) (k : Fin (k0_t1_loop i).trips) : k0_off5 i k = grpOff i (Ring.bk 32 (k.val + 1)) := by
  rw [k0_off5_eq, grpOff, Ring.bk_val (by have := trip_lt i k; omega)]
theorem off8_eq (i : grid0.Coords) (k : Fin (k0_t1_loop i).trips) : k0_off8 i k = grpOff i (Ring.bk 32 k.val) := by
  rw [k0_off8_eq, grpOff, Ring.bk_val (by have := trip_lt i k; omega)]
/-- The band's block `u`: `8` blocks per query block, then `u`. -/
abbrev bnd (i : grid0.Coords) (u : Fin 8) : Fin 32 := ⟨8 * (i 1).val + u.val, by have : (i 1).val < 4 := (i 1).isLt; have := u.isLt; omega⟩
theorem off1_eq (i : grid0.Coords) (u : Fin 8) : k0_off1 i (BitVec.ofNat 32 u.val) = grpOff i (bnd i u) := k0_off1_eq i u

instance (i : grid0.Coords) (k : Fin (k0_t1_loop i).trips) : ClosedOff (k0_off7 i k) := ⟨slotOff (Ring.sl 2 k.val), off7_eq i k⟩
instance (i : grid0.Coords) (k : Fin (k0_t1_loop i).trips) : ClosedOff (k0_off4 i k) := ⟨slotOff (Ring.sl 2 (k.val + 1)), off4_eq i k⟩

/-! ## The printed slices are these names -/

theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
theorem bsm_congr {off : Fin 1 → Nat} {u : Fin 8} (e : off = bsemOff u) (hh) :
    (cc0_scratch5.slice (Rect.unit (s := S8) off S1.size hh)).squeeze S_ squeezes_S1_S_ = bsm u :=
  congrArg (fun A : DmaSems sig S1 => A.squeeze S_ squeezes_S1_S_) (SemArray.slice_unit_congr _ e _ _)
theorem rslot_congr {off : Fin 4 → Nat} {s : Fin 2} (e : off = slotOff s) (hh hs) :
    (ringM.slice (Rect.unit (s := S2x2x1024x128) off S1x2x1024x128.size hh) hs).squeeze S2x1024x128 squeezes_S1x2x1024x128_S2x1024x128 = rslot s :=
  congrArg (fun M : Memref sig .tc .vmem S1x2x1024x128 .bf16 => M.squeeze S2x1024x128 squeezes_S1x2x1024x128_S2x1024x128) (Memref.slice_unit_congr _ e _ _ _ _)
theorem bslot_congr {off : Fin 4 → Nat} {u : Fin 8} (e : off = bandOff u) (hh hs) :
    (bandM.slice (Rect.unit (s := S8x2x1024x128) off S1x2x1024x128.size hh) hs).squeeze S2x1024x128 squeezes_S1x2x1024x128_S2x1024x128 = bslot u :=
  congrArg (fun M : Memref sig .tc .vmem S1x2x1024x128 .bf16 => M.squeeze S2x1024x128 squeezes_S1x2x1024x128_S2x1024x128) (Memref.slice_unit_congr _ e _ _ _ _)
theorem grp_congr {off : Fin 5 → Nat} {i : grid0.Coords} {b : Fin 32} (e : off = grpOff i b) (hh hs) :
    (wM.slice (Rect.unit (s := S8x4x32x1024x128) off S2x1x1x1024x128.size hh) hs).squeeze S2x1024x128 squeezes_S2x1x1x1024x128_S2x1024x128 = grp i b :=
  congrArg (fun M : Memref sig .tc .hbm S2x1x1x1024x128 .bf16 => M.squeeze S2x1024x128 squeezes_S2x1x1x1024x128_S2x1024x128) (Memref.slice_unit_congr _ e _ _ _ _)

/-- Before the loop: slot and cell 0, block 0. -/
@[sl_canon] theorem semL0 (hh) : (cc0_scratch3.slice (Rect.unit (s := S2) ![0] S1.size hh)).squeeze S_ squeezes_S1_S_ = csm 0 := csm_congr (by decide) _
@[sl_canon] theorem slotL0 (hh hs) : (ringM.slice (Rect.unit (s := S2x2x1024x128) ![0, 0, 0, 0] S1x2x1024x128.size hh) hs).squeeze S2x1024x128 squeezes_S1x2x1024x128_S2x1024x128 = rslot 0 := rslot_congr (by decide) _ _
@[sl_canon] theorem grpL0 (i : grid0.Coords) (hh hs) : (wM.slice (Rect.unit (s := S8x4x32x1024x128) (k0_off2 i) S2x1x1x1024x128.size hh) hs).squeeze S2x1024x128 squeezes_S2x1x1x1024x128_S2x1024x128 = grp i (Ring.bk 32 0) := grp_congr (off2_eq i) _ _

/-- Trip `k`: cell and slot `k % 2` waited on block `k`, the other slot issued with block `k + 1`. -/
@[sl_canon] theorem semI (i : grid0.Coords) (k : Fin (k0_t1_loop i).trips) (hh) : (cc0_scratch3.slice (Rect.unit (s := S2) (k0_off3 i k) S1.size hh)).squeeze S_ squeezes_S1_S_ = csm (Ring.sl 2 (k.val + 1)) := csm_congr (off3_eq i k) _
@[sl_canon] theorem semW (i : grid0.Coords) (k : Fin (k0_t1_loop i).trips) (hh) : (cc0_scratch3.slice (Rect.unit (s := S2) (k0_off6 i k) S1.size hh)).squeeze S_ squeezes_S1_S_ = csm (Ring.sl 2 k.val) := csm_congr (off6_eq i k) _
@[sl_canon] theorem slotI (i : grid0.Coords) (k : Fin (k0_t1_loop i).trips) (hh hs) : (ringM.slice (Rect.unit (s := S2x2x1024x128) (k0_off4 i k) S1x2x1024x128.size hh) hs).squeeze S2x1024x128 squeezes_S1x2x1024x128_S2x1024x128 = rslot (Ring.sl 2 (k.val + 1)) := rslot_congr (off4_eq i k) _ _
@[sl_canon] theorem slotW (i : grid0.Coords) (k : Fin (k0_t1_loop i).trips) (hh hs) : (ringM.slice (Rect.unit (s := S2x2x1024x128) (k0_off7 i k) S1x2x1024x128.size hh) hs).squeeze S2x1024x128 squeezes_S1x2x1024x128_S2x1024x128 = rslot (Ring.sl 2 k.val) := rslot_congr (off7_eq i k) _ _
@[sl_canon] theorem grpI (i : grid0.Coords) (k : Fin (k0_t1_loop i).trips) (hh hs) : (wM.slice (Rect.unit (s := S8x4x32x1024x128) (k0_off5 i k) S2x1x1x1024x128.size hh) hs).squeeze S2x1024x128 squeezes_S2x1x1x1024x128_S2x1024x128 = grp i (Ring.bk 32 (k.val + 1)) := grp_congr (off5_eq i k) _ _
@[sl_canon] theorem grpW (i : grid0.Coords) (k : Fin (k0_t1_loop i).trips) (hh hs) : (wM.slice (Rect.unit (s := S8x4x32x1024x128) (k0_off8 i k) S2x1x1x1024x128.size hh) hs).squeeze S2x1024x128 squeezes_S2x1x1x1024x128_S2x1024x128 = grp i (Ring.bk 32 k.val) := grp_congr (off8_eq i k) _ _

/-! The band's eight slots, cells and blocks. -/
@[sl_canon] theorem bsem0 (hh) : (cc0_scratch5.slice (Rect.unit (s := S8) ![0] S1.size hh)).squeeze S_ squeezes_S1_S_ = bsm 0 := bsm_congr (by decide) _
@[sl_canon] theorem bslot0 (hh hs) : (bandM.slice (Rect.unit (s := S8x2x1024x128) ![0, 0, 0, 0] S1x2x1024x128.size hh) hs).squeeze S2x1024x128 squeezes_S1x2x1024x128_S2x1024x128 = bslot 0 := bslot_congr (by decide) _ _
@[sl_canon] theorem bgrp0 (i : grid0.Coords) (hh hs) : (wM.slice (Rect.unit (s := S8x4x32x1024x128) (k0_off1 i 0#32) S2x1x1x1024x128.size hh) hs).squeeze S2x1024x128 squeezes_S2x1x1x1024x128_S2x1024x128 = grp i (bnd i 0) := grp_congr (off1_eq i 0) _ _
@[sl_canon] theorem bsem1 (hh) : (cc0_scratch5.slice (Rect.unit (s := S8) ![1] S1.size hh)).squeeze S_ squeezes_S1_S_ = bsm 1 := bsm_congr (by decide) _
@[sl_canon] theorem bslot1 (hh hs) : (bandM.slice (Rect.unit (s := S8x2x1024x128) ![1, 0, 0, 0] S1x2x1024x128.size hh) hs).squeeze S2x1024x128 squeezes_S1x2x1024x128_S2x1024x128 = bslot 1 := bslot_congr (by decide) _ _
@[sl_canon] theorem bgrp1 (i : grid0.Coords) (hh hs) : (wM.slice (Rect.unit (s := S8x4x32x1024x128) (k0_off1 i 1#32) S2x1x1x1024x128.size hh) hs).squeeze S2x1024x128 squeezes_S2x1x1x1024x128_S2x1024x128 = grp i (bnd i 1) := grp_congr (off1_eq i 1) _ _
@[sl_canon] theorem bsem2 (hh) : (cc0_scratch5.slice (Rect.unit (s := S8) ![2] S1.size hh)).squeeze S_ squeezes_S1_S_ = bsm 2 := bsm_congr (by decide) _
@[sl_canon] theorem bslot2 (hh hs) : (bandM.slice (Rect.unit (s := S8x2x1024x128) ![2, 0, 0, 0] S1x2x1024x128.size hh) hs).squeeze S2x1024x128 squeezes_S1x2x1024x128_S2x1024x128 = bslot 2 := bslot_congr (by decide) _ _
@[sl_canon] theorem bgrp2 (i : grid0.Coords) (hh hs) : (wM.slice (Rect.unit (s := S8x4x32x1024x128) (k0_off1 i 2#32) S2x1x1x1024x128.size hh) hs).squeeze S2x1024x128 squeezes_S2x1x1x1024x128_S2x1024x128 = grp i (bnd i 2) := grp_congr (off1_eq i 2) _ _
@[sl_canon] theorem bsem3 (hh) : (cc0_scratch5.slice (Rect.unit (s := S8) ![3] S1.size hh)).squeeze S_ squeezes_S1_S_ = bsm 3 := bsm_congr (by decide) _
@[sl_canon] theorem bslot3 (hh hs) : (bandM.slice (Rect.unit (s := S8x2x1024x128) ![3, 0, 0, 0] S1x2x1024x128.size hh) hs).squeeze S2x1024x128 squeezes_S1x2x1024x128_S2x1024x128 = bslot 3 := bslot_congr (by decide) _ _
@[sl_canon] theorem bgrp3 (i : grid0.Coords) (hh hs) : (wM.slice (Rect.unit (s := S8x4x32x1024x128) (k0_off1 i 3#32) S2x1x1x1024x128.size hh) hs).squeeze S2x1024x128 squeezes_S2x1x1x1024x128_S2x1024x128 = grp i (bnd i 3) := grp_congr (off1_eq i 3) _ _
@[sl_canon] theorem bsem4 (hh) : (cc0_scratch5.slice (Rect.unit (s := S8) ![4] S1.size hh)).squeeze S_ squeezes_S1_S_ = bsm 4 := bsm_congr (by decide) _
@[sl_canon] theorem bslot4 (hh hs) : (bandM.slice (Rect.unit (s := S8x2x1024x128) ![4, 0, 0, 0] S1x2x1024x128.size hh) hs).squeeze S2x1024x128 squeezes_S1x2x1024x128_S2x1024x128 = bslot 4 := bslot_congr (by decide) _ _
@[sl_canon] theorem bgrp4 (i : grid0.Coords) (hh hs) : (wM.slice (Rect.unit (s := S8x4x32x1024x128) (k0_off1 i 4#32) S2x1x1x1024x128.size hh) hs).squeeze S2x1024x128 squeezes_S2x1x1x1024x128_S2x1024x128 = grp i (bnd i 4) := grp_congr (off1_eq i 4) _ _
@[sl_canon] theorem bsem5 (hh) : (cc0_scratch5.slice (Rect.unit (s := S8) ![5] S1.size hh)).squeeze S_ squeezes_S1_S_ = bsm 5 := bsm_congr (by decide) _
@[sl_canon] theorem bslot5 (hh hs) : (bandM.slice (Rect.unit (s := S8x2x1024x128) ![5, 0, 0, 0] S1x2x1024x128.size hh) hs).squeeze S2x1024x128 squeezes_S1x2x1024x128_S2x1024x128 = bslot 5 := bslot_congr (by decide) _ _
@[sl_canon] theorem bgrp5 (i : grid0.Coords) (hh hs) : (wM.slice (Rect.unit (s := S8x4x32x1024x128) (k0_off1 i 5#32) S2x1x1x1024x128.size hh) hs).squeeze S2x1024x128 squeezes_S2x1x1x1024x128_S2x1024x128 = grp i (bnd i 5) := grp_congr (off1_eq i 5) _ _
@[sl_canon] theorem bsem6 (hh) : (cc0_scratch5.slice (Rect.unit (s := S8) ![6] S1.size hh)).squeeze S_ squeezes_S1_S_ = bsm 6 := bsm_congr (by decide) _
@[sl_canon] theorem bslot6 (hh hs) : (bandM.slice (Rect.unit (s := S8x2x1024x128) ![6, 0, 0, 0] S1x2x1024x128.size hh) hs).squeeze S2x1024x128 squeezes_S1x2x1024x128_S2x1024x128 = bslot 6 := bslot_congr (by decide) _ _
@[sl_canon] theorem bgrp6 (i : grid0.Coords) (hh hs) : (wM.slice (Rect.unit (s := S8x4x32x1024x128) (k0_off1 i 6#32) S2x1x1x1024x128.size hh) hs).squeeze S2x1024x128 squeezes_S2x1x1x1024x128_S2x1024x128 = grp i (bnd i 6) := grp_congr (off1_eq i 6) _ _
@[sl_canon] theorem bsem7 (hh) : (cc0_scratch5.slice (Rect.unit (s := S8) ![7] S1.size hh)).squeeze S_ squeezes_S1_S_ = bsm 7 := bsm_congr (by decide) _
@[sl_canon] theorem bslot7 (hh hs) : (bandM.slice (Rect.unit (s := S8x2x1024x128) ![7, 0, 0, 0] S1x2x1024x128.size hh) hs).squeeze S2x1024x128 squeezes_S1x2x1024x128_S2x1024x128 = bslot 7 := bslot_congr (by decide) _ _
@[sl_canon] theorem bgrp7 (i : grid0.Coords) (hh hs) : (wM.slice (Rect.unit (s := S8x4x32x1024x128) (k0_off1 i 7#32) S2x1x1x1024x128.size hh) hs).squeeze S2x1024x128 squeezes_S2x1x1x1024x128_S2x1024x128 = grp i (bnd i 7) := grp_congr (off1_eq i 7) _ _

end Cert.KernelIdeal.Sb

end
-- ==== Proof.Block.lean ====
/-
  What the attention gradient adds to its second accumulator.  `Part` says of a block's product that its factors' relevant
  parts are rows of the block's weights and of the point's query block; `TripRel`, `Reach`, `BandRel`, `BodyRel` follow
  the accumulator through a trip, the loop, the diagonal band and the whole point.
-/
module

public import proofs.«01_k».proof.Proof.Names
public import Idealize.ShloMosaic.Lib.ValueLayout
public import Idealize.ShloMosaic.Lib.VecWindow
public import Idealize.ShloMosaic.Lib.Pipeline.Value

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx
open Idealize.SL Idealize.SL.Sem

variable {F : FTy → Type} [FloatOps F] [∀ e, Nonempty (Elt F e)]

abbrev accK : Memref sig .tc .vmem S4096x128 .f32 := Memref.whole cc0_scratch0
abbrev accV : Memref sig .tc .vmem S4096x128 .f32 := Memref.whole cc0_scratch1

/-- `x` holds rows `r`, `r + 1`, … of head `h` of a pair's block. -/
def Rows {n : ℕ} (h r : ℕ) (blk : S2x1024x128.Idx → Elt F .bf16) (x : FVec F ⟨2, ![n, 128]⟩ .bf16) : Prop :=
  ∀ (y : (⟨2, ![n, 128]⟩ : Shape).Idx) (z : S2x1024x128.Idx), (z 0).val = h → (z 1).val = r + (y 0).val → (z 2).val = (y 1).val → x y = blk z

/-- `P` is the product of four blocks side by side, the last two rows `r`, … of the two heads' weights, with rows `r`, … of `q`. -/
def Part (n r : ℕ) (blk : S2x1024x128.Idx → Elt F .bf16) (q : FVec F S1024x256 .bf16) (P : FVec F S512x256 .f32) : Prop :=
  ∃ (d0 d1 w0 w1 : FVec F ⟨2, ![n, 128]⟩ .bf16) (qs : FVec F ⟨2, ![n, 256]⟩ .bf16) (hw : _) (hc : _),
    P = matmul (⟨[0], [0], [1], [1], [], [], hw⟩ : DotDims ⟨2, ![n, 512]⟩ ⟨2, ![n, 256]⟩ S512x256) none
        (concatenate (⟨2, ![n, 512]⟩ : Shape) 1 [⟨⟨2, ![n, 128]⟩, d0⟩, ⟨⟨2, ![n, 128]⟩, d1⟩, ⟨⟨2, ![n, 128]⟩, w0⟩, ⟨⟨2, ![n, 128]⟩, w1⟩] hc) qs
        (constant S512x256 .f32 0x00000000#32)
    ∧ Rows 0 r blk w0 ∧ Rows 1 r blk w1
    ∧ ∀ (y : (⟨2, ![n, 256]⟩ : Shape).Idx) (z : S1024x256.Idx), (z 0).val = r + (y 0).val → (z 1).val = (y 1).val → qs y = q z

/-- Rows of one head, cast from a load of that head's rows. -/
theorem rows_of_load {n h r : ℕ} {blk : S2x1024x128.Idx → Elt F .bf16} (x : FVec F ⟨3, ![1, n, 128]⟩ .bf16)
    (hx : ∀ (y : (⟨3, ![1, n, 128]⟩ : Shape).Idx) (z : S2x1024x128.Idx), (z 0).val = h → (z 1).val = r + (y 1).val → (z 2).val = (y 2).val → x y = blk z)
    (hc) : Rows h r blk (shapeCast ⟨2, ![n, 128]⟩ x hc) := by
  intro y z h0 h1 h2
  exact (congrArg (shapeCast ⟨2, ![n, 128]⟩ x hc) (eq_ix2 y)).trans ((shapeCast_1ab_ab_apply x hc (y 0) (y 1)).trans (hx _ z h0 h1 h2))

/-- A load of one head's rows `r`, … out of a buffer that reads `blk`. -/
theorem load_rows {n h r : ℕ} {blk : S2x1024x128.Idx → Elt F .bf16} {sp : Space} (v : View sig .tc sp S2x1024x128 .bf16) (f : v.ty.Contents (Elt F))
    (hf : v.read (Elt F) f = blk) {off : Fin 3 → ℕ} (ho : off = ![h, r, 0]) (inb : ∀ a, off a + (![1, n, 128] : Fin 3 → ℕ) a ≤ S2x1024x128.size a)
    (y : (⟨3, ![1, n, 128]⟩ : Shape).Idx) (z : S2x1024x128.Idx) (h0 : (z 0).val = h) (h1 : (z 1).val = r + (y 1).val) (h2 : (z 2).val = (y 2).val) :
    v.readAt (Elt F) (Rect.unit (s := S2x1024x128) off ![1, n, 128] inb).toLoadRect f y = blk z := by
  subst ho
  refine (congrFun hf _).trans (congrArg blk (funext fun a => Fin.ext ?_))
  have hy : (y 0).val < 1 := (y 0).isLt
  fin_cases a
  · show h + 1 * (y 0).val = (z 0).val; omega
  · show r + 1 * (y 1).val = (z 1).val; omega
  · show 0 + 1 * (y 2).val = (z 2).val; omega

/-- All the rows of the query block, and rows `r`, … of it. -/
theorem query_whole (q : FVec F S1024x256 .bf16) (y z : S1024x256.Idx) (h0 : (z 0).val = 0 + (y 0).val) (h1 : (z 1).val = (y 1).val) : q y = q z :=
  congrArg q (funext fun a => Fin.ext (by
    fin_cases a
    · exact (h0.trans (Nat.zero_add _)).symm
    · exact h1.symm))
theorem query_rows {n r : ℕ} (q : FVec F S1024x256 .bf16) {off : Fin 2 → ℕ} (ho : off = ![r, 0]) (hs) (y : (⟨2, ![n, 256]⟩ : Shape).Idx) (z : S1024x256.Idx)
    (h0 : (z 0).val = r + (y 0).val) (h1 : (z 1).val = (y 1).val) : extractStridedSlice ⟨2, ![n, 256]⟩ off q hs y = q z := by
  subst ho
  refine extractStridedSlice_apply _ _ _ _ _ fun a => ?_
  fin_cases a
  · exact h0
  · exact h1.trans (Nat.zero_add _).symm

/-- A buffer overwritten whole reads what was written. -/
theorem read_whole {sp : Space} {S : Shape} {e : EltTy} (v : View sig .tc sp S e) (f : v.ty.Contents (Elt F)) (x : S.Idx → Elt F e) :
    v.read (Elt F) (v.writes (Elt F) f [⟨Rect.whole S, x⟩]) = x := by
  funext y
  have := View.read_writes_cons_emb v f (Rect.whole S) x [] y
  rwa [show (Rect.whole S).emb y = y by simp] at this

variable (c : Dev nD) (XA : Buf (Elt F) (wM.view.loc (c : Thread nD τ))) (i : grid0.Coords)

/-- Key block `b`'s weights. -/
abbrev blkAt (b : Fin 32) : S2x1024x128.Idx → Elt F .bf16 := (grp i b).view.read (Elt F) XA

/-- The second accumulator's contents. -/
abbrev AccV : Type := Buf (Elt F) ((accV : Memref sig .tc .vmem S4096x128 .f32).view.loc (c : Thread nD τ))

/-- Rows of a key block in the accumulators. -/
abbrev accOff (j : ℕ) : Fin 2 → ℕ := ![128 * j, 0]

/-- One trip: key block `j`'s rows take the block's part, the other rows are kept. -/
def TripRel (v18 : IVec S128x128 1) (q : FVec F S1024x256 .bf16) (j : ℕ) (f f' : AccV (F := F) c) : Prop :=
  ∃ (off : Fin 2 → ℕ) (h : ∀ a, off a + S128x128.size a ≤ S4096x128.size a) (P : FVec F S512x256 .f32),
    off = accOff j ∧ Part 1024 0 (blkAt c XA i (Ring.bk 32 j)) q P
    ∧ f' = accV.view.writes (Elt F) f [⟨Rect.unit (s := S4096x128) off S128x128.size h,
        k0_pay257 v18 P (accV.view.readAt (Elt F) (Rect.unit (s := S4096x128) off S128x128.size h).toLoadRect f)⟩]

/-- What `k` trips may leave. -/
inductive Reach (v18 : IVec S128x128 1) (q : FVec F S1024x256 .bf16) (f : AccV (F := F) c) : ℕ → AccV (F := F) c → Prop
  | zero : Reach v18 q f 0 f
  | succ {k : ℕ} {g g' : AccV (F := F) c} : Reach v18 q f k g → TripRel c XA i v18 q k g g' → Reach v18 q f (k + 1) g'

/-- Any product the trip's payload is made of, as the relation has it. -/
theorem trip_rel {v18 : IVec S128x128 1} {q : FVec F S1024x256 .bf16} {k : Fin (k0_t1_loop i).trips} {f : AccV (F := F) c} {P : FVec F S512x256 .f32}
    (hP : Part 1024 0 (blkAt c XA i (Ring.bk 32 k.val)) q P) (h) :
    TripRel c XA i v18 q k.val f (accV.view.writes (Elt F) f [⟨Rect.unit (s := S4096x128) (k0_off9 i k) S128x128.size h,
        k0_pay257 v18 P (accV.view.readAt (Elt F) (Rect.unit (s := S4096x128) (k0_off9 i k) S128x128.size h).toLoadRect f)⟩]) :=
  ⟨k0_off9 i k, h, P, k0_off9_eq i k, hP, rfl⟩

/-- The band: key blocks `8 i`, …, `8 i + 7` each take their part, block `u` from the query rows `128 u`, …. -/
def BandRel (v18 : IVec S128x128 1) (q : FVec F S1024x256 .bf16) (f f' : AccV (F := F) c) : Prop :=
  ∃ (off : Fin 8 → Fin 2 → ℕ) (h : ∀ u a, off u a + S128x128.size a ≤ S4096x128.size a) (P : Fin 8 → FVec F S512x256 .f32),
    (∀ u : Fin 8, off u = accOff (8 * (i 1).val + u.val)) ∧ (∀ u : Fin 8, Part (1024 - 128 * u.val) (128 * u.val) (blkAt c XA i (bnd i u)) q (P u))
    ∧ f' = accV.view.writes (Elt F) f (([7, 6, 5, 4, 3, 2, 1, 0] : List (Fin 8)).map fun u => ⟨Rect.unit (s := S4096x128) (off u) S128x128.size (h u),
        k0_pay257 v18 (P u) (accV.view.readAt (Elt F) (Rect.unit (s := S4096x128) (off u) S128x128.size (h u)).toLoadRect f)⟩)

/-- The accumulator once the first query block has started it at zero. -/
def InitRel (f f₀ : AccV (F := F) c) : Prop :=
  ((i 1).val = 0 → accV.view.read (Elt F) f₀ = k0_pay51) ∧ ((i 1).val ≠ 0 → f₀ = f)

theorem cond1_iff : ∀ i : grid0.Coords, (Scalar.cmpi .ne (Scalar.extui (Scalar.cmpi .eq (BitVec.ofNat 32 (i 1).val) 0#32) : BitVec 32) 0#32 : BitVec 1) = 1#1 ↔ (i 1).val = 0 := by
  decide +kernel

theorem init_rel {v : BitVec 1} (hv : v = 1#1 ↔ (i 1).val = 0) (f : AccV (F := F) c)
    (inb : ∀ a, (![0, 0] : Fin 2 → ℕ) a + S4096x128.size a ≤ S4096x128.size a) :
    InitRel c i f (if _ : v = 1#1 then accV.view.writes (Elt F) f [⟨Rect.unit (s := S4096x128) ![0, 0] S4096x128.size inb, k0_pay51⟩] else f) := by
  constructor
  · intro h; rw [dif_pos (hv.mpr h)]; exact View.read_writes_full _ _ inb _ []
  · intro h; rw [dif_neg (fun h' => h (hv.mp h'))]

/-- The whole point: the accumulator started at the first query block, the loop, the band. -/
def BodyRel (x5 : S1024x128.Idx → Elt F .f32) (f f' : AccV (F := F) c) : Prop :=
  ∃ (x2 : S1024x128.Idx → Elt F .bf16) (f₀ g : AccV (F := F) c),
    InitRel c i f f₀ ∧ Reach c XA i k0_pay53 (k0_pay54 x2 x5) f₀ (8 * (i 1).val) g ∧ BandRel c XA i k0_pay53 (k0_pay54 x2 x5) g f'

theorem band_off (u : Fin 8) : k0_off17 i (BitVec.ofNat 32 u.val) = accOff (8 * (i 1).val + u.val) :=
  (k0_off17_eq i u).trans
    (congrArg (fun n : ℕ => (![n, 0] : Fin 2 → ℕ)) (show 1024 * (i 1).val + 128 * u.val = 128 * (8 * (i 1).val + u.val) by omega))

theorem band_inb (u : Fin 8) (a : Fin 2) : k0_off17 i (BitVec.ofNat 32 u.val) a + S128x128.size a ≤ S4096x128.size a := by
  rw [band_off]
  have hi : (i 1).val < 4 := (i 1).isLt
  have hu := u.isLt
  fin_cases a
  · show 128 * (8 * (i 1).val + u.val) + 128 ≤ 4096; omega
  · exact Nat.le_refl _

/-- A load of one head's rows `r`, … out of a band slot the block was copied to, cast. -/
theorem band_rows {n : ℕ} (u : Fin 8) (h r : ℕ) (inb : ∀ a, (![h, r, 0] : Fin 3 → ℕ) a + (![1, n, 128] : Fin 3 → ℕ) a ≤ S2x1024x128.size a)
    (hc) :
    Rows h r (blkAt c XA i (bnd i u)) (shapeCast ⟨2, ![n, 128]⟩ ((bslot u).view.readCov (Val := Elt F) [⟨Rect.whole S2x1024x128, ReadAs.same.apply (blkAt c XA i (bnd i u))⟩]
      (Rect.unit (s := S2x1024x128) ![h, r, 0] ![1, n, 128] inb).toLoadRect) hc) :=
  rows_of_load _ (load_rows _ _ (read_whole _ _ _) rfl _) _

/-- The band's parts, block by block. -/
theorem parts_of {q : FVec F S1024x256 .bf16} {P : Fin 8 → FVec F S512x256 .f32}
    (h0 : Part 1024 0 (blkAt c XA i (bnd i 0)) q (P 0)) (h1 : Part 896 128 (blkAt c XA i (bnd i 1)) q (P 1))
    (h2 : Part 768 256 (blkAt c XA i (bnd i 2)) q (P 2)) (h3 : Part 640 384 (blkAt c XA i (bnd i 3)) q (P 3))
    (h4 : Part 512 512 (blkAt c XA i (bnd i 4)) q (P 4)) (h5 : Part 384 640 (blkAt c XA i (bnd i 5)) q (P 5))
    (h6 : Part 256 768 (blkAt c XA i (bnd i 6)) q (P 6)) (h7 : Part 128 896 (blkAt c XA i (bnd i 7)) q (P 7))
    (u : Fin 8) : Part (1024 - 128 * u.val) (128 * u.val) (blkAt c XA i (bnd i u)) q (P u) := by
  fin_cases u
  exacts [h0, h1, h2, h3, h4, h5, h6, h7]

/-- What the last query block stores of the accumulator. -/
theorem stored_acc {v : BitVec 1} (hv : v = 1#1) (w : View sig .tc .vmem S4096x128 .bf16) (f9 : w.ty.Contents (Elt F)) (f : AccV (F := F) c)
    (inb inb' : ∀ a, (![0, 0] : Fin 2 → ℕ) a + S4096x128.size a ≤ S4096x128.size a) :
    w.read (Elt F) (if _ : v = 1#1 then w.writes (Elt F) f9 [⟨Rect.unit (s := S4096x128) ![0, 0] S4096x128.size inb,
        k0_pay3 (accV.view.readAt (Elt F) (Rect.unit (s := S4096x128) ![0, 0] S4096x128.size inb').toLoadRect f)⟩] else f9)
      = k0_pay3 (accV.view.read (Elt F) f) := by
  rw [dif_pos hv, View.read_writes_full _ _ inb _ [], View.readAt_full]

end Cert.KernelIdeal.Sb

end
-- ==== Proof.Trip.lean ====
/-
  One trip of the attention gradient's loop over the blocks below the diagonal, and the loop's invariant: before trip `k` block
  `k` of weights is in flight into slot `k % 2` and the other slot is free; a trip issues the next block, waits for its own,
  reads it and adds to the two accumulators.
-/
module

public import proofs.«01_k».proof.Proof.Block

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

section Pieces

variable (c : Dev nD) (XA : Buf (Elt F) (wM.view.loc (c : Thread nD τ))) (i : grid0.Coords)

/-- The weights at a share, whole; one key block of them; the rest of them (its points-to kept folded). -/
def allW (q : PosShare TreeShare) : sProp 𝕄 := wM.view.loc (c : Thread nD τ) ↦{q} XA
abbrev blkW (q : PosShare TreeShare) (b : Fin 32) : sProp 𝕄 := (grp i b).view.loc (c : Thread nD τ) ↦[(grp i b).view.set]{q} XA
def awayW (q : PosShare TreeShare) (b : Fin 32) : sProp 𝕄 := wM.view.loc (c : Thread nD τ) ↦[Finset.univ \ (grp i b).view.set]{q} XA

theorem allW_split (q : PosShare TreeShare) (b : Fin 32) : allW c XA q ⊢ (iprop(blkW c XA i q b ∗ awayW c XA i q b) : sProp 𝕄) :=
  (pointsTo_split_subset (Finset.subset_univ _)).1
theorem allW_join (q : PosShare TreeShare) (b : Fin 32) : iprop(blkW c XA i q b ∗ awayW c XA i q b) ⊢ (allW c XA q : sProp 𝕄) :=
  (pointsTo_split_subset (Finset.subset_univ _)).2

/-- The shares: one per slot of the loop, one per slot of the band. -/
def qL (s : Fin 2) : PosShare TreeShare := Transfers.shareTokN fullShare s.val
def qB (u : Fin 8) : PosShare TreeShare := Transfers.shareTokN fullShare (2 + u.val)

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
abbrev bcellP (u : Fin 8) : sProp 𝕄 := semVal ((c : Thread nD τ), SemLoc.dma (bsm u).sem) 0
abbrev bslotP (u : Fin 8) (f : Buf (Elt F) ((bslot u).view.loc (c : Thread nD τ))) : sProp 𝕄 :=
  (bslot u).view.loc (c : Thread nD τ) ↦[(bslot u).view.set]{fullShare} f

/-- Slot `s` idle: at some contents, its cell at zero, its share of the weights whole. -/
def idleP (s : Fin 2) : sProp 𝕄 := iprop((∃ f, slotP c s f) ∗ cellP c s ∗ allW c XA (qL s))
/-- Slot `s` in flight with block `b`, at what the transfer will leave there. -/
def flyP (s : Fin 2) (b : Fin 32) : sProp 𝕄 :=
  iprop((∃ f, ⌜(rslot s).view.read (Elt F) f = blkAt c XA i b⌝ ∗ Transfers.Flight countersEmb (c : Thread nD τ) (SemLoc.dma (csm s).sem) () 16384 iprop(slotP c s f ∗ blkW c XA i (qL s) b)) ∗ awayW c XA i (qL s) b)

/-- The two slots before trip `k` of `T`. -/
def slotsAt (T k : ℕ) : sProp 𝕄 :=
  if k < T then iprop(flyP c XA i (Ring.sl 2 k) (Ring.bk 32 k) ∗ idleP c XA (Ring.sl 2 (k + 1)))
  else iprop(idleP c XA (Ring.sl 2 k) ∗ idleP c XA (Ring.sl 2 (k + 1)))

theorem sl2_add2 (k : ℕ) : Ring.sl 2 (k + 1 + 1) = Ring.sl 2 k := by rw [show k + 1 + 1 = k + 2 from rfl, Ring.sl_add]

end Pieces

section Trip

variable (c : Dev nD) (XA : Buf (Elt F) (wM.view.loc (c : Thread nD τ))) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1024x128 .f32) (harg5 : arg5.IsWhole)
  (arg7 : Memref sig .tc .vmem S1024x128 .bf16) (harg7 : arg7.IsWhole)
  (arg8 : Memref sig .tc .vmem S4096x128 .bf16) (harg8 : arg8.IsWhole)
  (arg9 : Memref sig .tc .vmem S4096x128 .bf16) (harg9 : arg9.IsWhole)

/-- A memref's buffer, whole, at some contents. -/
abbrev anyP {sp : Space} {S : Shape} {e : EltTy} (M : Memref sig .tc sp S e) : sProp 𝕄 :=
  iprop(∃ f : Buf (Elt F) (M.view.loc (c : Thread nD τ)), M.view.loc (c : Thread nD τ) ↦[M.view.set]{fullShare} f)

/-- A scratch buffer, whole, at some contents. -/
abbrev anyW {sp : Space} {S : Shape} {e : EltTy} (M : Memref sig .tc sp S e) : sProp 𝕄 :=
  iprop(∃ f : Buf (Elt F) (M.view.loc (c : Thread nD τ)), M.view.loc (c : Thread nD τ) ↦{fullShare} f)

variable (f₀ : AccV (F := F) c) (a0 a1 : BitVec 32) (v15 : FVec F S128x256 .bf16) (v18 : IVec S128x128 1) (v23 : FVec F S1024x256 .bf16) (v24 : BitVec 32)

/-- Everything a trip touches, before trip `k`; the second accumulator at what `k` trips may leave of `f₀`. -/
def loopAt (k : ℕ) : sProp 𝕄 :=
  iprop(anyP c arg3 ∗ anyP c arg4 ∗ anyW c accK
    ∗ (∃ f, ⌜Reach c XA i v18 v23 f₀ k f⌝ ∗ accV.view.loc (c : Thread nD τ) ↦{fullShare} f)
    ∗ slotsAt c XA i (k0_t1_loop i).trips k ∗ (∃ W, owes (c : Thread nD τ) 0 W))

/-- One trip at a symbolic `k`, with a next block to issue or without. -/
theorem tripRun (k : Fin (k0_t1_loop i).trips) (acc) :
    loopAt c XA i arg3 arg4 f₀ v18 v23 k.val ⊢ wp frame (wpE (defs₀ (F := F)) Variants.none (c : Thread nD τ) none) Set.univ
      (k0_t1_body (F := F) i arg2 harg2 arg3 harg3 arg4 harg4 arg5 harg5 wM (Memref.isWhole_whole _) arg7 harg7 arg8 harg8 arg9 harg9
        accK (Memref.isWhole_whole _) accV (Memref.isWhole_whole _) ringM (Memref.isWhole_whole _) cc0_scratch3 bandM (Memref.isWhole_whole _) cc0_scratch5 a0 a1 v15 v18 v23 v24 k acc)
      (fun _ => loopAt c XA i arg3 arg4 f₀ v18 v23 (k.val + 1)) := by
  unfold loopAt slotsAt
  rw [if_pos k.isLt, sl2_add2]
  iintro ⟨⟨%f3, H3⟩, ⟨%f4, H4⟩, ⟨%fK, HK⟩, ⟨%fV, %hV, HV⟩, ⟨HF, HI⟩, ⟨%W, HW⟩⟩
  unfold flyP idleP
  icases HF with ⟨⟨%fs, %hs, HF⟩, Haway⟩
  icases HI with ⟨⟨%fi, Hi⟩, Hci, Hwi⟩
  rcases Classical.em (k0_cond3 i k = 1#1) with hc | hc
  · have hk := (cond3_iff i k).mp hc
    rw [if_pos hk]
    ihave Hw := (allW_split c XA i (qL (Ring.sl 2 (k.val + 1))) (Ring.bk 32 (k.val + 1))) $$ Hwi
    icases Hw with ⟨Hwb, Hwa⟩
    sl_unfold [k0_t1_body]
    sl_exec
    sl_step
    isplitl [H3]; · iexists _; iexact H3
    isplitl [H4]; · iexists _; iexact H4
    isplitl [HK]; · iexists _; iexact HK
    isplitl [HV]
    · iexists _; isplitr; swap; · iexact HV
      ipureintro
      refine .succ hV (trip_rel c XA i ?_ _)
      refine ⟨_, _, _, _, _, _, _, rfl, rows_of_load _ (load_rows _ _ hs rfl _) _, rows_of_load _ (load_rows _ _ hs rfl _) _, query_whole _⟩
    isplitr [HW]
    · isplitl [Hci Hwa]
      · isplitl [Hci]
        · iexists _; isplitr; swap; · iexact Hci
          ipureintro; exact read_whole _ _ _
        iexact Hwa
      · isplitl [HF_dst]; · iexists _; iexact HF_dst
        isplitl [HF]; · iexact HF
        iapply (allW_join c XA i (qL (Ring.sl 2 k.val)) (Ring.bk 32 k.val))
        isplitl [HF_src]; · iexact HF_src
        iexact Haway
    iexists _; iexact HW
  · have hk := fun h => hc ((cond3_iff i k).mpr h)
    rw [if_neg hk]
    sl_unfold [k0_t1_body]
    sl_exec
    sl_step
    isplitl [H3]; · iexists _; iexact H3
    isplitl [H4]; · iexists _; iexact H4
    isplitl [HK]; · iexists _; iexact HK
    isplitl [HV]
    · iexists _; isplitr; swap; · iexact HV
      ipureintro
      refine .succ hV (trip_rel c XA i ?_ _)
      refine ⟨_, _, _, _, _, _, _, rfl, rows_of_load _ (load_rows _ _ hs rfl _) _, rows_of_load _ (load_rows _ _ hs rfl _) _, query_whole _⟩
    isplitr [HW]
    · isplitl [Hi Hci Hwi]
      · isplitl [Hi]; · iexists _; iexact Hi
        isplitl [Hci]; · iexact Hci
        iexact Hwi
      · isplitl [HF_dst]; · iexists _; iexact HF_dst
        isplitl [HF]; · iexact HF
        iapply (allW_join c XA i (qL (Ring.sl 2 k.val)) (Ring.bk 32 k.val))
        isplitl [HF_src]; · iexact HF_src
        iexact Haway
    iexists _; iexact HW

end Trip

end Cert.KernelIdeal.Sb

end
-- ==== Proof.Body.lean ====
/-
  The attention gradient's kernel run once on any staging buffers: the band's eight blocks issued, the loop below the diagonal at its
  invariant, the band's blocks waited and read, the results stored; every buffer is handed back at some contents, every cell at zero.
-/
module

public import proofs.«01_k».proof.Proof.Trip

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

section Body

variable (c : Dev nD) (XA : Buf (Elt F) (wM.view.loc (c : Thread nD τ))) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1024x128 .f32) (harg5 : arg5.IsWhole)
  (arg7 : Memref sig .tc .vmem S1024x128 .bf16) (harg7 : arg7.IsWhole)
  (arg8 : Memref sig .tc .vmem S4096x128 .bf16) (harg8 : arg8.IsWhole)
  (arg9 : Memref sig .tc .vmem S4096x128 .bf16) (harg9 : arg9.IsWhole)

/-- Slot `u` of the band idle: at some contents, its cell at zero, its share of the weights whole. -/
def bidleP (u : Fin 8) : sProp 𝕄 := iprop((∃ f, bslotP c u f) ∗ bcellP c u ∗ allW c XA (qB u))

/-- The band's slots. -/
abbrev bandsP : sProp 𝕄 := iprop(bidleP c XA 0 ∗ bidleP c XA 1 ∗ bidleP c XA 2 ∗ bidleP c XA 3 ∗ bidleP c XA 4 ∗ bidleP c XA 5 ∗ bidleP c XA 6 ∗ bidleP c XA 7)
/-- What the body starts from: the second accumulator at `fV`, the other operand of its products at `f5`. -/
def bodyRes (fV : AccV (F := F) c) (f5 : Buf (Elt F) (arg5.view.loc (c : Thread nD τ))) : sProp 𝕄 :=
  iprop((anyP c arg2 ∗ anyP c arg3 ∗ anyP c arg4 ∗ (arg5.view.loc (c : Thread nD τ) ↦[arg5.view.set]{fullShare} f5) ∗ anyP c arg7 ∗ anyP c arg8 ∗ anyP c arg9)
    ∗ (anyW c accK ∗ (accV.view.loc (c : Thread nD τ) ↦{fullShare} fV)) ∗ (idleP c XA 0 ∗ idleP c XA 1) ∗ bandsP c XA ∗ (∃ W, owes (c : Thread nD τ) 0 W))
/-- The results the body stores, the second accumulator at `fV`: at the last query block the third result is that accumulator. -/
def storedP (fV : AccV (F := F) c) : sProp 𝕄 :=
  iprop(∃ f9 : Buf (Elt F) (arg9.view.loc (c : Thread nD τ)), (arg9.view.loc (c : Thread nD τ) ↦[arg9.view.set]{fullShare} f9)
    ∗ ⌜k0_cond5 i = 1#1 → arg9.view.read (Elt F) f9 = k0_pay3 (accV.view.read (Elt F) fV)⌝)
/-- What it ends with. -/
def bodyEnd (fV : AccV (F := F) c) (f5 : Buf (Elt F) (arg5.view.loc (c : Thread nD τ))) : sProp 𝕄 :=
  iprop((anyP c arg2 ∗ anyP c arg3 ∗ anyP c arg4 ∗ anyP c arg5 ∗ anyP c arg7 ∗ anyP c arg8)
    ∗ (∃ fV', (accV.view.loc (c : Thread nD τ) ↦{fullShare} fV') ∗ anyW c accK ∗ storedP c i arg9 fV' ∗ ⌜BodyRel c XA i (arg5.view.read (Elt F) f5) fV fV'⌝)
    ∗ (idleP c XA 0 ∗ idleP c XA 1) ∗ bandsP c XA ∗ (∃ W, owes (c : Thread nD τ) 0 W))

/-- The two slots, named by a trip count's parity, are the two slots. -/
theorem two_of_roles (P : Fin 2 → sProp 𝕄) (T : ℕ) : iprop(P (Ring.sl 2 T) ∗ P (Ring.sl 2 (T + 1))) ⊢ iprop(P 0 ∗ P 1) := by
  rcases Nat.mod_two_eq_zero_or_one T with h | h
  · rw [show Ring.sl 2 T = 0 from Fin.ext h, show Ring.sl 2 (T + 1) = 1 from Fin.ext (by show (T + 1) % 2 = 1; omega)]
  · rw [show Ring.sl 2 T = 1 from Fin.ext h, show Ring.sl 2 (T + 1) = 0 from Fin.ext (by show (T + 1) % 2 = 0; omega)]
    exact sep_comm.1

attribute [local irreducible] shapeCast

/-- The second accumulator before the loop, whatever it holds. -/
theorem init_acc (fV f₀ : AccV (F := F) c) (h : InitRel c i fV f₀) :
    (accV.view.loc (c : Thread nD τ) ↦{fullShare} f₀ : sProp 𝕄) ⊢ iprop(∃ f₀', ⌜InitRel c i fV f₀'⌝ ∗ (accV.view.loc (c : Thread nD τ) ↦{fullShare} f₀')) := by
  iintro H
  iexists f₀
  isplitr; swap; · iexact H
  ipureintro; exact h

/-- The point's query block and its other operand side by side, as loaded. -/
abbrev sideBySide (f2 : Buf (Elt F) (arg2.view.loc (c : Thread nD τ))) (f5 : Buf (Elt F) (arg5.view.loc (c : Thread nD τ))) : FVec F S1024x256 .bf16 :=
  k0_pay54 (arg2.view.readAt (Elt F) (Rect.unit (s := S1024x128) ![0, 0] S1024x128.size inb_S1024x128_S1024x128_0_0).toLoadRect f2)
    (arg5.view.readAt (Elt F) (Rect.unit (s := S1024x128) ![0, 0] S1024x128.size inb_S1024x128_S1024x128_0_0).toLoadRect f5)

theorem end_rel {fV f₀ g f' : AccV (F := F) c} {f2 : Buf (Elt F) (arg2.view.loc (c : Thread nD τ))} {f5 : Buf (Elt F) (arg5.view.loc (c : Thread nD τ))}
    (hI : InitRel c i fV f₀) (hR : Reach c XA i k0_pay53 (sideBySide c arg2 arg5 f2 f5) f₀ (k0_t1_loop i).trips g)
    (hB : BandRel c XA i k0_pay53 (sideBySide c arg2 arg5 f2 f5) g f') : BodyRel c XA i (arg5.view.read (Elt F) f5) fV f' := by
  rw [trips1_eq] at hR
  unfold sideBySide at hR hB
  rw [View.readAt_full arg5.view] at hR hB
  exact ⟨_, f₀, g, hI, hR, hB⟩

set_option maxHeartbeats 4000000 in
theorem bodyRun (fV : AccV (F := F) c) (f5 : Buf (Elt F) (arg5.view.loc (c : Thread nD τ))) :
    bodyRes c XA arg2 arg3 arg4 arg5 arg7 arg8 arg9 fV f5 ⊢ wp frame (wpE (defs₀ (F := F)) Variants.none (c : Thread nD τ) none) Set.univ
      (cc0_sb_bwd (F := F) i arg2 harg2 arg3 harg3 arg4 harg4 arg5 harg5 wM (Memref.isWhole_whole _) arg7 harg7 arg8 harg8 arg9 harg9
        accK (Memref.isWhole_whole _) accV (Memref.isWhole_whole _) ringM (Memref.isWhole_whole _) cc0_scratch3 bandM (Memref.isWhole_whole _) cc0_scratch5)
      (fun _ => bodyEnd c XA i arg2 arg3 arg4 arg5 arg7 arg8 arg9 fV f5) := by
  unfold bodyRes bodyEnd storedP
  iintro ⟨⟨⟨%f2, H2⟩, ⟨%f3, H3⟩, ⟨%f4, H4⟩, H5, ⟨%f7, H7⟩, ⟨%f8, H8⟩, ⟨%f9, H9⟩⟩, ⟨⟨%fK, HK⟩, HV⟩, ⟨HI0, HI1⟩, ⟨HB0, HB1, HB2, HB3, HB4, HB5, HB6, HB7⟩, ⟨%W, HW⟩⟩
  unfold bidleP
  icases HB0 with ⟨⟨%g0, B0⟩, C0, Wq0⟩
  ihave Wx0 := (allW_split c XA i (qB 0) (bnd i 0)) $$ Wq0
  icases Wx0 with ⟨Wb0, Wa0⟩
  icases HB1 with ⟨⟨%g1, B1⟩, C1, Wq1⟩
  ihave Wx1 := (allW_split c XA i (qB 1) (bnd i 1)) $$ Wq1
  icases Wx1 with ⟨Wb1, Wa1⟩
  icases HB2 with ⟨⟨%g2, B2⟩, C2, Wq2⟩
  ihave Wx2 := (allW_split c XA i (qB 2) (bnd i 2)) $$ Wq2
  icases Wx2 with ⟨Wb2, Wa2⟩
  icases HB3 with ⟨⟨%g3, B3⟩, C3, Wq3⟩
  ihave Wx3 := (allW_split c XA i (qB 3) (bnd i 3)) $$ Wq3
  icases Wx3 with ⟨Wb3, Wa3⟩
  icases HB4 with ⟨⟨%g4, B4⟩, C4, Wq4⟩
  ihave Wx4 := (allW_split c XA i (qB 4) (bnd i 4)) $$ Wq4
  icases Wx4 with ⟨Wb4, Wa4⟩
  icases HB5 with ⟨⟨%g5, B5⟩, C5, Wq5⟩
  ihave Wx5 := (allW_split c XA i (qB 5) (bnd i 5)) $$ Wq5
  icases Wx5 with ⟨Wb5, Wa5⟩
  icases HB6 with ⟨⟨%g6, B6⟩, C6, Wq6⟩
  ihave Wx6 := (allW_split c XA i (qB 6) (bnd i 6)) $$ Wq6
  icases Wx6 with ⟨Wb6, Wa6⟩
  icases HB7 with ⟨⟨%g7, B7⟩, C7, Wq7⟩
  ihave Wx7 := (allW_split c XA i (qB 7) (bnd i 7)) $$ Wq7
  icases Wx7 with ⟨Wb7, Wa7⟩
  sl_unfold [cc0_sb_bwd]
  rcases Classical.em (k0_cond2 i = 1#1) with hc | hc
  · have hT := (cond2_iff i).mp hc
    unfold idleP
    icases HI0 with ⟨⟨%s0, S0⟩, D0, V0⟩
    ihave Vx := (allW_split c XA i (qL 0) (Ring.bk 32 0)) $$ V0
    icases Vx with ⟨Vb, Va⟩
    sl_exec
    ihave HV0 := (init_acc c i fV _ (init_rel c i (v := bodyRun.sl.v2 i) (cond1_iff i) fV inb_S4096x128_S4096x128_0_0)) $$ HV
    icases HV0 with ⟨%f₀, %hI, HV⟩
    sl_for (fun k _ => loopAt c XA i arg3 arg4 f₀ k0_pay53 (sideBySide c arg2 arg5 f2 f5) k) $$ [H3 H4 HK HV D0 Va HI1 HW]
    case region =>
      intro k acc
      exact tripRun c XA i arg2 harg2 arg3 harg3 arg4 harg4 arg5 harg5 arg7 harg7 arg8 harg8 arg9 harg9 _ _ _ _ _ _ _ k acc
    · unfold loopAt
      isplitl [H3]; · iexists _; iexact H3
      isplitl [H4]; · iexists _; iexact H4
      isplitl [HK]; · iexists _; iexact HK
      isplitl [HV]
      · iexists _; isplitr; swap; · iexact HV
        ipureintro; exact .zero
      isplitr [HW]
      · unfold slotsAt
        irw [if_pos hT]
        unfold flyP idleP
        irw [show Ring.sl 2 0 = (0 : Fin 2) from rfl, show Ring.sl 2 (0 + 1) = (1 : Fin 2) from rfl]
        isplitl [D0 Va]
        · isplitl [D0]
          · iexists _; isplitr; swap; · iexact D0
            ipureintro; exact read_whole _ _ _
          iexact Va
        iexact HI1
      iexists _; iexact HW
    unfold loopAt
    irw [slotsAt, if_neg (Nat.lt_irrefl _)]
    iintro %acc ⟨⟨%f3', H3⟩, ⟨%f4', H4⟩, ⟨%fK', HK⟩, ⟨%fV', %hV', HV⟩, ⟨HI0, HI1⟩, ⟨%W', HW⟩⟩
    obtain ⟨p0, p1, p2⟩ := acc
    have htr : (k0_t2_loop i).trips = 0 := trips2_eq i
    sl_exec
    sl_step
    isplitl [H2 H3 H4 H5 H7 H8]
    · isplitl [H2]; · iexists _; iexact H2
      isplitl [H3]; · iexists _; iexact H3
      isplitl [H4]; · iexists _; iexact H4
      isplitl [H5]; · iexists _; iexact H5
      isplitl [H7]; · iexists _; iexact H7
      iexists _; iexact H8
    isplitl [H9 HK HV]
    · iexists _; isplitl [HV]; · iexact HV
      isplitl [HK]; · iexists _; iexact HK
      isplitl [H9]
      · iexists _; isplitl [H9]; · iexact H9
        ipureintro
        intro h5
        exact stored_acc c h5 _ _ _ _ _
      ipureintro
      refine end_rel c XA i arg2 arg5 hI hV' ⟨fun u => k0_off17 i (BitVec.ofNat 32 u.val), band_inb i, ![_, _, _, _, _, _, _, _], band_off i, ?_, rfl⟩
      refine parts_of c XA i ?_ ?_ ?_ ?_ ?_ ?_ ?_ ?_
      all_goals
        refine ⟨_, _, _, _, _, _, _, rfl, ?_, ?_, ?_⟩
        · exact band_rows c XA i _ 0 _ _ _
        · exact band_rows c XA i _ 1 _ _ _
      · exact query_whole _
      all_goals exact query_rows _ rfl _
    isplitl [HI0 HI1]
    · iapply (two_of_roles (idleP c XA) (k0_t1_loop i).trips)
      isplitl [HI0]; · iexact HI0
      iexact HI1
    isplitr [HW]
    · isplitl [C0 B0 Wb0 Wa0]
      · unfold bidleP
        isplitl [B0]; · iexists _; iexact B0
        isplitl [C0]; · iexact C0
        iapply (allW_join c XA i (qB 0) (bnd i 0))
        isplitl [Wb0]; · iexact Wb0
        iexact Wa0
      isplitl [C1 B1 Wb1 Wa1]
      · unfold bidleP
        isplitl [B1]; · iexists _; iexact B1
        isplitl [C1]; · iexact C1
        iapply (allW_join c XA i (qB 1) (bnd i 1))
        isplitl [Wb1]; · iexact Wb1
        iexact Wa1
      isplitl [C2 B2 Wb2 Wa2]
      · unfold bidleP
        isplitl [B2]; · iexists _; iexact B2
        isplitl [C2]; · iexact C2
        iapply (allW_join c XA i (qB 2) (bnd i 2))
        isplitl [Wb2]; · iexact Wb2
        iexact Wa2
      isplitl [C3 B3 Wb3 Wa3]
      · unfold bidleP
        isplitl [B3]; · iexists _; iexact B3
        isplitl [C3]; · iexact C3
        iapply (allW_join c XA i (qB 3) (bnd i 3))
        isplitl [Wb3]; · iexact Wb3
        iexact Wa3
      isplitl [C4 B4 Wb4 Wa4]
      · unfold bidleP
        isplitl [B4]; · iexists _; iexact B4
        isplitl [C4]; · iexact C4
        iapply (allW_join c XA i (qB 4) (bnd i 4))
        isplitl [Wb4]; · iexact Wb4
        iexact Wa4
      isplitl [C5 B5 Wb5 Wa5]
      · unfold bidleP
        isplitl [B5]; · iexists _; iexact B5
        isplitl [C5]; · iexact C5
        iapply (allW_join c XA i (qB 5) (bnd i 5))
        isplitl [Wb5]; · iexact Wb5
        iexact Wa5
      isplitl [C6 B6 Wb6 Wa6]
      · unfold bidleP
        isplitl [B6]; · iexists _; iexact B6
        isplitl [C6]; · iexact C6
        iapply (allW_join c XA i (qB 6) (bnd i 6))
        isplitl [Wb6]; · iexact Wb6
        iexact Wa6
      unfold bidleP
      isplitl [B7]; · iexists _; iexact B7
      isplitl [C7]; · iexact C7
      iapply (allW_join c XA i (qB 7) (bnd i 7))
      isplitl [Wb7]; · iexact Wb7
      iexact Wa7
    iexists _; iexact HW

  · have hT : ¬ 0 < (k0_t1_loop i).trips := fun h => hc ((cond2_iff i).mpr h)
    sl_exec
    ihave HV0 := (init_acc c i fV _ (init_rel c i (v := bodyRun.sl.v2_1 i) (cond1_iff i) fV inb_S4096x128_S4096x128_0_0)) $$ HV
    icases HV0 with ⟨%f₀, %hI, HV⟩
    sl_for (fun k _ => loopAt c XA i arg3 arg4 f₀ k0_pay53 (sideBySide c arg2 arg5 f2 f5) k) $$ [H3 H4 HK HV HI0 HI1 HW]
    case region =>
      intro k acc
      exact tripRun c XA i arg2 harg2 arg3 harg3 arg4 harg4 arg5 harg5 arg7 harg7 arg8 harg8 arg9 harg9 _ _ _ _ _ _ _ k acc
    · unfold loopAt
      isplitl [H3]; · iexists _; iexact H3
      isplitl [H4]; · iexists _; iexact H4
      isplitl [HK]; · iexists _; iexact HK
      isplitl [HV]
      · iexists _; isplitr; swap; · iexact HV
        ipureintro; exact .zero
      isplitr [HW]
      · unfold slotsAt
        irw [if_neg hT]
        irw [show Ring.sl 2 0 = (0 : Fin 2) from rfl, show Ring.sl 2 (0 + 1) = (1 : Fin 2) from rfl]
        isplitl [HI0]; · iexact HI0
        iexact HI1
      iexists _; iexact HW
    unfold loopAt
    irw [slotsAt, if_neg (Nat.lt_irrefl _)]
    iintro %acc ⟨⟨%f3', H3⟩, ⟨%f4', H4⟩, ⟨%fK', HK⟩, ⟨%fV', %hV', HV⟩, ⟨HI0, HI1⟩, ⟨%W', HW⟩⟩
    obtain ⟨p0, p1, p2⟩ := acc
    have htr : (k0_t2_loop i).trips = 0 := trips2_eq i
    sl_exec
    sl_step
    isplitl [H2 H3 H4 H5 H7 H8]
    · isplitl [H2]; · iexists _; iexact H2
      isplitl [H3]; · iexists _; iexact H3
      isplitl [H4]; · iexists _; iexact H4
      isplitl [H5]; · iexists _; iexact H5
      isplitl [H7]; · iexists _; iexact H7
      iexists _; iexact H8
    isplitl [H9 HK HV]
    · iexists _; isplitl [HV]; · iexact HV
      isplitl [HK]; · iexists _; iexact HK
      isplitl [H9]
      · iexists _; isplitl [H9]; · iexact H9
        ipureintro
        intro h5
        exact stored_acc c h5 _ _ _ _ _
      ipureintro
      refine end_rel c XA i arg2 arg5 hI hV' ⟨fun u => k0_off17 i (BitVec.ofNat 32 u.val), band_inb i, ![_, _, _, _, _, _, _, _], band_off i, ?_, rfl⟩
      refine parts_of c XA i ?_ ?_ ?_ ?_ ?_ ?_ ?_ ?_
      all_goals
        refine ⟨_, _, _, _, _, _, _, rfl, ?_, ?_, ?_⟩
        · exact band_rows c XA i _ 0 _ _ _
        · exact band_rows c XA i _ 1 _ _ _
      · exact query_whole _
      all_goals exact query_rows _ rfl _
    isplitl [HI0 HI1]
    · iapply (two_of_roles (idleP c XA) (k0_t1_loop i).trips)
      isplitl [HI0]; · iexact HI0
      iexact HI1
    isplitr [HW]
    · isplitl [C0 B0 Wb0 Wa0]
      · unfold bidleP
        isplitl [B0]; · iexists _; iexact B0
        isplitl [C0]; · iexact C0
        iapply (allW_join c XA i (qB 0) (bnd i 0))
        isplitl [Wb0]; · iexact Wb0
        iexact Wa0
      isplitl [C1 B1 Wb1 Wa1]
      · unfold bidleP
        isplitl [B1]; · iexists _; iexact B1
        isplitl [C1]; · iexact C1
        iapply (allW_join c XA i (qB 1) (bnd i 1))
        isplitl [Wb1]; · iexact Wb1
        iexact Wa1
      isplitl [C2 B2 Wb2 Wa2]
      · unfold bidleP
        isplitl [B2]; · iexists _; iexact B2
        isplitl [C2]; · iexact C2
        iapply (allW_join c XA i (qB 2) (bnd i 2))
        isplitl [Wb2]; · iexact Wb2
        iexact Wa2
      isplitl [C3 B3 Wb3 Wa3]
      · unfold bidleP
        isplitl [B3]; · iexists _; iexact B3
        isplitl [C3]; · iexact C3
        iapply (allW_join c XA i (qB 3) (bnd i 3))
        isplitl [Wb3]; · iexact Wb3
        iexact Wa3
      isplitl [C4 B4 Wb4 Wa4]
      · unfold bidleP
        isplitl [B4]; · iexists _; iexact B4
        isplitl [C4]; · iexact C4
        iapply (allW_join c XA i (qB 4) (bnd i 4))
        isplitl [Wb4]; · iexact Wb4
        iexact Wa4
      isplitl [C5 B5 Wb5 Wa5]
      · unfold bidleP
        isplitl [B5]; · iexists _; iexact B5
        isplitl [C5]; · iexact C5
        iapply (allW_join c XA i (qB 5) (bnd i 5))
        isplitl [Wb5]; · iexact Wb5
        iexact Wa5
      isplitl [C6 B6 Wb6 Wa6]
      · unfold bidleP
        isplitl [B6]; · iexists _; iexact B6
        isplitl [C6]; · iexact C6
        iapply (allW_join c XA i (qB 6) (bnd i 6))
        isplitl [Wb6]; · iexact Wb6
        iexact Wa6
      unfold bidleP
      isplitl [B7]; · iexists _; iexact B7
      isplitl [C7]; · iexact C7
      iapply (allW_join c XA i (qB 7) (bnd i 7))
      isplitl [Wb7]; · iexact Wb7
      iexact Wa7
    iexists _; iexact HW

end Body

end Cert.KernelIdeal.Sb

end
-- ==== Proof.Run.lean ====
/-
  The attention gradient's launch: the body obligation at every point from the body's one run, the second accumulator followed from
  point to point and the third result told from it, and the run of the whole program from any memory, at any float values.
-/
module

public import proofs.«01_k».proof.Proof.Body
public import proofs.«01_k».proof.Proof.Gen.KernelIdeal.Frame
public import Idealize.ShloMosaic.Lib.Pipeline.FrameBody

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The scratch buffers in slots -/

abbrev R2 (s : Fin 2) : Finset S2x2x1024x128.Idx := (Rect.unit (s := S2x2x1024x128) (slotOff s) S1x2x1024x128.size (slotOff_inb s)).set
abbrev R8 (u : Fin 8) : Finset S8x2x1024x128.Idx := (Rect.unit (s := S8x2x1024x128) (bandOff u) S1x2x1024x128.size (bandOff_inb u)).set

theorem rslot_set (s : Fin 2) : (rslot s : Memref sig .tc .vmem _ _).view.set = R2 s := (View.set_reshape _ _).trans (View.set_slice_whole _ _)
theorem bslot_set (u : Fin 8) : (bslot u : Memref sig .tc .vmem _ _).view.set = R8 u := (View.set_reshape _ _).trans (View.set_slice_whole _ _)

theorem mem_R2 (s : Fin 2) (y : S2x2x1024x128.Idx) : y ∈ R2 s ↔ (y 0).val = s.val := by
  rw [Rect.mem_set_unit]
  constructor
  · intro h; have := h 0; simp only [slotOff] at this
    have h1 : s.val ≤ (y 0).val := this.1
    have h2 : (y 0).val < s.val + 1 := this.2
    omega
  · intro h a
    have hy := (y a).isLt
    fin_cases a
    · exact ⟨le_of_eq h.symm, by show (y 0).val < s.val + 1; omega⟩
    · exact ⟨Nat.zero_le _, by show (y 1).val < 0 + 2; have : (y 1).val < 2 := hy; omega⟩
    · exact ⟨Nat.zero_le _, by show (y 2).val < 0 + 1024; have : (y 2).val < 1024 := hy; omega⟩
    · exact ⟨Nat.zero_le _, by show (y 3).val < 0 + 128; have : (y 3).val < 128 := hy; omega⟩
theorem mem_R8 (s : Fin 8) (y : S8x2x1024x128.Idx) : y ∈ R8 s ↔ (y 0).val = s.val := by
  rw [Rect.mem_set_unit]
  constructor
  · intro h; have := h 0; simp only [bandOff] at this
    have h1 : s.val ≤ (y 0).val := this.1
    have h2 : (y 0).val < s.val + 1 := this.2
    omega
  · intro h a
    have hy := (y a).isLt
    fin_cases a
    · exact ⟨le_of_eq h.symm, by show (y 0).val < s.val + 1; omega⟩
    · exact ⟨Nat.zero_le _, by show (y 1).val < 0 + 2; have : (y 1).val < 2 := hy; omega⟩
    · exact ⟨Nat.zero_le _, by show (y 2).val < 0 + 1024; have : (y 2).val < 1024 := hy; omega⟩
    · exact ⟨Nat.zero_le _, by show (y 3).val < 0 + 128; have : (y 3).val < 128 := hy; omega⟩

theorem R2_disjoint : ∀ s s' : Fin 2, s ≠ s' → Disjoint (R2 s) (R2 s') := fun s s' h =>
  Finset.disjoint_left.mpr fun y hy hy' => h (Fin.ext (((mem_R2 s y).mp hy).symm.trans ((mem_R2 s' y).mp hy')))
theorem R2_cover : (Finset.univ : Finset (Fin 2)).biUnion R2 = Finset.univ :=
  Finset.eq_univ_iff_forall.mpr fun y => Finset.mem_biUnion.mpr ⟨(⟨(y 0).val, (y 0).isLt⟩ : Fin 2), Finset.mem_univ _, (mem_R2 _ y).mpr rfl⟩
theorem R8_disjoint : ∀ s s' : Fin 8, s ≠ s' → Disjoint (R8 s) (R8 s') := fun s s' h =>
  Finset.disjoint_left.mpr fun y hy hy' => h (Fin.ext (((mem_R8 s y).mp hy).symm.trans ((mem_R8 s' y).mp hy')))
theorem R8_cover : (Finset.univ : Finset (Fin 8)).biUnion R8 = Finset.univ :=
  Finset.eq_univ_iff_forall.mpr fun y => Finset.mem_biUnion.mpr ⟨(⟨(y 0).val, (y 0).isLt⟩ : Fin 8), Finset.mem_univ _, (mem_R8 _ y).mpr rfl⟩

theorem bigSep_fin2 (Φ : Fin 2 → sProp 𝕄) : bigSep Finset.univ Φ = iprop(Φ 0 ∗ Φ 1) :=
  bigSep_univ_eq_bigSepL [(0 : Fin 2), 1] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem slotP_eq (c : Dev nD) (s : Fin 2) (f) : slotP c s f = (((c : Thread nD τ).loc cc0_scratch2) ↦[R2 s]{fullShare} f : sProp 𝕄) :=
  congrArg (fun S => (_ ↦[S]{fullShare} f : sProp 𝕄)) (rslot_set s)
theorem bslotP_eq (c : Dev nD) (u : Fin 8) (f) : bslotP c u f = (((c : Thread nD τ).loc cc0_scratch4) ↦[R8 u]{fullShare} f : sProp 𝕄) :=
  congrArg (fun S => (_ ↦[S]{fullShare} f : sProp 𝕄)) (bslot_set u)

/-- The loop's buffer whole is its two slots, and back. -/
theorem ring_split (c : Dev nD) :
    iprop(∃ f : Buf (Elt F) ((c : Thread nD τ).loc cc0_scratch2), ((c : Thread nD τ).loc cc0_scratch2) ↦{fullShare} f)
      ⊢ (iprop((∃ f, slotP c 0 f) ∗ ∃ f, slotP c 1 f) : sProp 𝕄) := by
  iintro ⟨%f, H⟩
  ihave H2 := ((Entails.of_eq (Ring.pointsTo_blocks (Ix := Unit) (Name := ℕ) (U := Pipeline.UD sig nD τ) (Lvl := ℕ) (q := fullShare) (ℓ := (c : Thread nD τ).loc cc0_scratch2) R2 R2_disjoint R2_cover f))
    |>.trans ((bigSep_mono fun s _ => (Entails.of_eq (slotP_eq c s f).symm).trans (exists_intro f)).trans (Entails.of_eq (bigSep_fin2 (fun s => iprop(∃ f, slotP c s f)))))) $$ H
  iexact H2
theorem ring_join (c : Dev nD) :
    (iprop((∃ f, slotP c 0 f) ∗ ∃ f, slotP c 1 f) : sProp 𝕄)
      ⊢ iprop(∃ f : Buf (Elt F) ((c : Thread nD τ).loc cc0_scratch2), ((c : Thread nD τ).loc cc0_scratch2) ↦{fullShare} f) :=
  (Entails.of_eq (bigSep_fin2 (fun s => iprop(∃ f, slotP c s f))).symm).trans <| (bigSep_mono fun s _ => exists_elim fun f => (Entails.of_eq (slotP_eq c s f)).trans (exists_intro f)).trans
    (Ring.pointsTo_blocks_join_exists (ℓ := (c : Thread nD τ).loc cc0_scratch2) R2 R2_disjoint R2_cover (Classical.arbitrary _))
/-- The band's buffer whole is its eight slots, and back. -/
theorem band_split (c : Dev nD) :
    iprop(∃ f : Buf (Elt F) ((c : Thread nD τ).loc cc0_scratch4), ((c : Thread nD τ).loc cc0_scratch4) ↦{fullShare} f)
      ⊢ (iprop((∃ f, bslotP c 0 f) ∗ (∃ f, bslotP c 1 f) ∗ (∃ f, bslotP c 2 f) ∗ (∃ f, bslotP c 3 f) ∗ (∃ f, bslotP c 4 f) ∗ (∃ f, bslotP c 5 f) ∗ (∃ f, bslotP c 6 f) ∗ (∃ f, bslotP c 7 f)) : sProp 𝕄) := by
  iintro ⟨%f, H⟩
  ihave H2 := ((Entails.of_eq (Ring.pointsTo_blocks (Ix := Unit) (Name := ℕ) (U := Pipeline.UD sig nD τ) (Lvl := ℕ) (q := fullShare) (ℓ := (c : Thread nD τ).loc cc0_scratch4) R8 R8_disjoint R8_cover f))
    |>.trans ((bigSep_mono fun s _ => (Entails.of_eq (bslotP_eq c s f).symm).trans (exists_intro f)).trans (Entails.of_eq (bigSep_fin8 (fun s => iprop(∃ f, bslotP c s f)))))) $$ H
  iexact H2
theorem band_join (c : Dev nD) :
    (iprop((∃ f, bslotP c 0 f) ∗ (∃ f, bslotP c 1 f) ∗ (∃ f, bslotP c 2 f) ∗ (∃ f, bslotP c 3 f) ∗ (∃ f, bslotP c 4 f) ∗ (∃ f, bslotP c 5 f) ∗ (∃ f, bslotP c 6 f) ∗ (∃ f, bslotP c 7 f)) : sProp 𝕄)
      ⊢ iprop(∃ f : Buf (Elt F) ((c : Thread nD τ).loc cc0_scratch4), ((c : Thread nD τ).loc cc0_scratch4) ↦{fullShare} f) :=
  (Entails.of_eq (bigSep_fin8 (fun s => iprop(∃ f, bslotP c s f))).symm).trans <| (bigSep_mono fun s _ => exists_elim fun f => (Entails.of_eq (bslotP_eq c s f)).trans (exists_intro f)).trans
    (Ring.pointsTo_blocks_join_exists (ℓ := (c : Thread nD τ).loc cc0_scratch4) R8 R8_disjoint R8_cover (Classical.arbitrary _))

/-! ## The kernel's own cells and the weights -/

/-- The kernel's own cells: the loop's two, then the band's eight. -/
abbrev osem0 : Fin 10 → SemLoc sig := fun j => (![.dma 14, .dma 15, .dma 16, .dma 17, .dma 18, .dma 19, .dma 20, .dma 21, .dma 22, .dma 23] : Fin 10 → SemLoc sig) j
theorem ownSemFacts0 : Pipeline.OwnSemFacts spec0 osem0 := by decide
theorem csm_eq : (SemLoc.dma (sig := sig) (csm 0).sem = .dma 14) ∧ (SemLoc.dma (sig := sig) (csm 1).sem = .dma 15) := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 ∗ cellP c 1 ∗ bcellP c 0 ∗ bcellP c 1 ∗ bcellP c 2 ∗ bcellP c 3 ∗ bcellP c 4 ∗ bcellP c 5 ∗ bcellP c 6 ∗ bcellP c 7) := by
  rw [Pipeline.ownSems0_eq_of_list c osem0 [0, 1, 2, 3, 4, 5, 6, 7, 8, 9] (by decide) (by decide)]; rfl

/-- The weights, left in HBM. -/
def H0 : Finset (Ref sig .tc) := {main_v19}
theorem H0_sub : H0 ⊆ Pipeline.restRefs sig spec0 := by decide
theorem hbmPts0_eq (c : Dev nD) :
    (bigSep H0 (fun b => ((c : Thread nD τ).loc b) ↦{fullShare} V m c b) : sProp 𝕄) = iprop(((c : Thread nD τ).loc main_v19) ↦{fullShare} V m c main_v19) := by
  rw [BI.bigSep_eq_bigSepL_of_eq [main_v19] (by decide) (by decide)]; rfl

/-- The weights whole are ten shares of them and a rest. -/
theorem w_split (c : Dev nD) (XA : Buf (Elt F) (wM.view.loc (c : Thread nD τ))) :
    (((c : Thread nD τ).loc main_v19) ↦{fullShare} XA : sProp 𝕄)
      = iprop(allW c XA (Transfers.shareDrop fullShare 10) ∗ allW c XA (qL 0) ∗ allW c XA (qL 1)
          ∗ allW c XA (qB 0) ∗ allW c XA (qB 1) ∗ allW c XA (qB 2) ∗ allW c XA (qB 3) ∗ allW c XA (qB 4) ∗ allW c XA (qB 5) ∗ allW c XA (qB 6) ∗ allW c XA (qB 7)) := by
  have h := Transfers.pointsTo_toks (Ix := Unit) (Name := ℕ) (U := Pipeline.UD sig nD τ) (Lvl := ℕ) (ℓ := (c : Thread nD τ).loc main_v19) (S := Finset.univ) (f := XA) fullShare 10
  rw [BI.Entails.antisymm h.1 h.2, bigSep_univ_eq_bigSepL [(0 : Fin 10), 1, 2, 3, 4, 5, 6, 7, 8, 9] (by decide) (by decide)]; rfl

/-- The invariant between points, in the body's pieces beside the ones it does not touch. -/
theorem phi_open (c : Dev nD) :
    (Pipeline.ΦD osem0 spec0 H0 (V m) c : sProp 𝕄)
      ⊢ iprop((∃ r, prngReg c r) ∗ allW c (V m c main_v19) (Transfers.shareDrop fullShare 10) ∗ (anyW c accK ∗ anyW c accV)
          ∗ (idleP c (V m c main_v19) 0 ∗ idleP c (V m c main_v19) 1) ∗ bandsP c (V m c main_v19)) := by
  rw [Pipeline.ΦD_eq, scopedRest0_eq, ownSems00_eq, hbmPts0_eq, w_split]
  iintro ⟨⟨HK, HV, HR, HB⟩, Hg, ⟨C0, C1, D0, D1, D2, D3, D4, D5, D6, D7⟩, ⟨HX, W0, W1, Y0, Y1, Y2, Y3, Y4, Y5, Y6, Y7⟩⟩
  ihave HR2 := (ring_split c) $$ HR
  ihave HB2 := (band_split c) $$ HB
  icases HR2 with ⟨R0, R1⟩
  icases HB2 with ⟨B0, B1, B2, B3, B4, B5, B6, B7⟩
  unfold idleP bandsP bidleP
  isplitl [Hg]; · iexact Hg
  isplitl [HX]; · iexact HX
  isplitl [HK HV]
  · isplitl [HK]; · iexact HK
    iexact HV
  isplitl [R0 C0 W0 R1 C1 W1]
  · isplitl [R0 C0 W0]
    · isplitl [R0]; · iexact R0
      isplitl [C0]; · iexact C0
      iexact W0
    isplitl [R1]; · iexact R1
    isplitl [C1]; · iexact C1
    iexact W1
  isplitl [B0 D0 Y0]
  · isplitl [B0]; · iexact B0
    isplitl [D0]; · iexact D0
    iexact Y0
  isplitl [B1 D1 Y1]
  · isplitl [B1]; · iexact B1
    isplitl [D1]; · iexact D1
    iexact Y1
  isplitl [B2 D2 Y2]
  · isplitl [B2]; · iexact B2
    isplitl [D2]; · iexact D2
    iexact Y2
  isplitl [B3 D3 Y3]
  · isplitl [B3]; · iexact B3
    isplitl [D3]; · iexact D3
    iexact Y3
  isplitl [B4 D4 Y4]
  · isplitl [B4]; · iexact B4
    isplitl [D4]; · iexact D4
    iexact Y4
  isplitl [B5 D5 Y5]
  · isplitl [B5]; · iexact B5
    isplitl [D5]; · iexact D5
    iexact Y5
  isplitl [B6 D6 Y6]
  · isplitl [B6]; · iexact B6
    isplitl [D6]; · iexact D6
    iexact Y6
  isplitl [B7]; · iexact B7
  isplitl [D7]; · iexact D7
  iexact Y7

theorem phi_close (c : Dev nD) :
    iprop((∃ r, prngReg c r) ∗ allW c (V m c main_v19) (Transfers.shareDrop fullShare 10) ∗ (anyW c accK ∗ anyW c accV)
          ∗ (idleP c (V m c main_v19) 0 ∗ idleP c (V m c main_v19) 1) ∗ bandsP c (V m c main_v19))
      ⊢ (Pipeline.ΦD osem0 spec0 H0 (V m) c : sProp 𝕄) := by
  rw [Pipeline.ΦD_eq, scopedRest0_eq, ownSems00_eq, hbmPts0_eq, w_split]
  unfold idleP bandsP bidleP
  iintro ⟨Hg, HX, ⟨HK, HV⟩, ⟨⟨R0, C0, W0⟩, ⟨R1, C1, W1⟩⟩, ⟨B0, D0, Y0⟩, ⟨B1, D1, Y1⟩, ⟨B2, D2, Y2⟩, ⟨B3, D3, Y3⟩, ⟨B4, D4, Y4⟩, ⟨B5, D5, Y5⟩, ⟨B6, D6, Y6⟩, ⟨B7, D7, Y7⟩⟩
  ihave HR := (ring_join c) $$ [R0 R1]
  · isplitl [R0]; · iexact R0
    iexact R1
  ihave HB := (band_join c) $$ [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [HK HV HR HB]
  · isplitl [HK]; · iexact HK
    isplitl [HV]; · iexact HV
    isplitl [HR]; · iexact HR
    iexact HB
  isplitl [Hg]; · iexact Hg
  isplitl [C0 C1 D0 D1 D2 D3 D4 D5 D6 D7]
  · sl_close
  · sl_close

/-! ## The proof data and the body obligation -/

/-- The other operand's block at point `t`. -/
def doBlk (c : Dev nD) (t : Fin cfg0.N) : S1024x128.Idx → Elt F .f32 := ((cfg0.win 3).blk t).view.read (Elt F) (V m c main_arg3)

/-- What the second accumulator may hold after `n` points. -/
def AccInv (c : Dev nD) : ℕ → AccV (F := F) c → Prop
  | 0, _ => True
  | n + 1, f' => ∃ f, AccInv c n f ∧ ∀ h : n < cfg0.N, BodyRel c (V m c main_v19) (grid0.coords ⟨n, h⟩) (doBlk m c ⟨n, h⟩) f f'

/-- The invariant between points, the second accumulator at `fV`. -/
def phiAt (c : Dev nD) (fV : AccV (F := F) c) : sProp 𝕄 :=
  iprop((∃ r, prngReg c r) ∗ allW c (V m c main_v19) (Transfers.shareDrop fullShare 10) ∗ (anyW c accK ∗ (accV.view.loc (c : Thread nD τ) ↦{fullShare} fV))
    ∗ (idleP c (V m c main_v19) 0 ∗ idleP c (V m c main_v19) 1) ∗ bandsP c (V m c main_v19))

/-- What the body may leave: the third result, written at a pair's last point, is the second accumulator cut; of the others nothing is said. -/
def leaves (c : Dev nD) : (w : Fin cfg0.W) → Fin cfg0.N → (Y X : (cfg0.win w).block.Idx → Elt F (cfg0.win w).elt) → Prop
  | 0, _, _, _ => True | 1, _, _, _ => True | 2, _, _, _ => True | 3, _, _, _ => True | 4, _, _, _ => True | 5, _, _, _ => True
  | 6, t, _, X => t.val % 4 = 3 → ∃ f, AccInv m c (t.val + 1) f ∧ X = (k0_pay3 (accV.view.read (Elt F) f) : FVec F S4096x128 .bf16)
  | ⟨_ + 7, h⟩, _, _, _ => absurd h (Nat.not_lt.2 (Nat.le_add_left _ _))

def dats (c : Dev nD) : Pipeline.RDat τ (Elt F) Unit ℕ (Pipeline.UD sig nD τ) ℕ cfg0 c where
  A w := V m c (Pipeline.arrRef spec0 w)
  after := leaves m c
  Φ t := iprop(∃ fV, ⌜AccInv m c t.val fV⌝ ∗ phiAt m c fV)
  q w := Pipeline.shareOf spec0 w
  owed _ := 0

theorem A_eq (c : Dev nD) (w : Fin cfg0.W) : (dats m c).A w = V m c (Pipeline.arrRef spec0 w) := by dsimp only [dats]

theorem cond5_of : ∀ t : Fin cfg0.N, t.val % 4 = 3 → k0_cond5 (grid0.coords t) = 1#1 :=
  (by decide +kernel : ∀ t : Fin grid0.N, t.val % 4 = 3 → k0_cond5 (grid0.coords t) = 1#1)

/-- Between points the accumulator holds something; at the first point, anything. -/
theorem phi_in (c : Dev nD) : (Pipeline.ΦD osem0 spec0 H0 (V m) c : sProp 𝕄) ⊢ (dats m c).Φ 0 := by
  refine (phi_open m c).trans ?_
  unfold dats phiAt
  iintro ⟨Hg, HX, ⟨HK, ⟨%fV, HV⟩⟩, HI, HB⟩
  iexists fV
  isplitr; · ipureintro; trivial
  isplitl [Hg]; · iexact Hg
  isplitl [HX]; · iexact HX
  isplitl [HK HV]
  · isplitl [HK]; · iexact HK
    iexact HV
  isplitl [HI]; · iexact HI
  iexact HB
theorem phi_out (c : Dev nD) (t : Fin (cfg0.N + 1)) : (dats m c).Φ t ⊢ (Pipeline.ΦD osem0 spec0 H0 (V m) c : sProp 𝕄) := by
  rw [show (dats m c).Φ t = iprop(∃ fV, ⌜AccInv m c t.val fV⌝ ∗ phiAt m c fV) from rfl]
  unfold phiAt
  iintro ⟨%fV, -, Hg, HX, ⟨HK, HV⟩, HI, HB⟩
  iapply (phi_close m c)
  isplitl [Hg]; · iexact Hg
  isplitl [HX]; · iexact HX
  isplitl [HK HV]
  · isplitl [HK]; · iexact HK
    iexists fV; iexact HV
  isplitl [HI]; · iexact HI
  iexact HB

/-- A window's staging buffer at contents `d`; at contents the body may leave. -/
abbrev stg (c : Dev nD) (w : Fin cfg0.W) (t : Fin cfg0.N) (d : (cfg0.win w).block.Idx → Elt F (cfg0.win w).elt) : sProp 𝕄 :=
  owns (c : Thread nD τ) ((cfg0.win w).stage (cfg0.slots t w)) fullShare d
abbrev left (c : Dev nD) (w : Fin cfg0.W) (t : Fin cfg0.N) (d : (cfg0.win w).block.Idx → Elt F (cfg0.win w).elt) : sProp 𝕄 :=
  iprop(∃ X, ⌜(dats m c).after w t d X⌝ ∗ owns (c : Thread nD τ) ((cfg0.win w).stage (cfg0.slots t w)) fullShare X)
def bodyPre (c : Dev nD) (t : Fin cfg0.N) (Y : (w : Fin cfg0.W) → (cfg0.win w).block.Idx → Elt F (cfg0.win w).elt) : sProp 𝕄 :=
  iprop((dats m c).Φ t.castSucc ∗ (dats m c).owesAt () t.castSucc
    ∗ stg c 0 t (Y 0) ∗ stg c 1 t (Y 1) ∗ stg c 2 t (Y 2) ∗ stg c 3 t (Y 3) ∗ stg c 4 t (Y 4) ∗ stg c 5 t (Y 5) ∗ stg c 6 t (Y 6))
def bodyPost (c : Dev nD) (t : Fin cfg0.N) (Y : (w : Fin cfg0.W) → (cfg0.win w).block.Idx → Elt F (cfg0.win w).elt) : sProp 𝕄 :=
  iprop((dats m c).Φ t.succ ∗ (dats m c).owesAt () t.succ
    ∗ left m c 0 t (Y 0) ∗ left m c 1 t (Y 1) ∗ left m c 2 t (Y 2) ∗ left m c 3 t (Y 3) ∗ left m c 4 t (Y 4) ∗ left m c 5 t (Y 5) ∗ left m c 6 t (Y 6))

/-- A whole memref owned at some contents is its buffer at some contents. -/
theorem any_of_owns (c : Dev nD) {sp : Space} {S : Shape} {e : EltTy} (M : Memref sig .tc sp S e) (d : S.Idx → Elt F e) :
    (owns (c : Thread nD τ) M fullShare d : sProp 𝕄) ⊢ anyP c M := by
  unfold owns
  iintro ⟨%f, -, H⟩
  iexists f; iexact H
theorem owns_of_any (c : Dev nD) {sp : Space} {S : Shape} {e : EltTy} (M : Memref sig .tc sp S e) (P : (S.Idx → Elt F e) → Prop) (hP : ∀ X, P X) :
    (anyP c M : sProp 𝕄) ⊢ iprop(∃ d, ⌜P d⌝ ∗ owns (c : Thread nD τ) M fullShare d) := by
  unfold owns
  iintro ⟨%f, H⟩
  iexists (M.view.read (Elt F) f); isplitr; · ipureintro; exact hP _
  iexists f; isplitr; swap; · iexact H
  ipureintro; rfl
theorem owns_of_at (c : Dev nD) {sp : Space} {S : Shape} {e : EltTy} (M : Memref sig .tc sp S e) (f : Buf (Elt F) (M.view.loc (c : Thread nD τ)))
    (P : (S.Idx → Elt F e) → Prop) (hP : P (M.view.read (Elt F) f)) :
    (M.view.loc (c : Thread nD τ) ↦[M.view.set]{fullShare} f : sProp 𝕄) ⊢ iprop(∃ d, ⌜P d⌝ ∗ owns (c : Thread nD τ) M fullShare d) := by
  unfold owns
  iintro H
  iexists (M.view.read (Elt F) f); isplitr; · ipureintro; exact hP
  iexists f; isplitr; swap; · iexact H
  ipureintro; rfl

theorem sound_body (c : Dev nD) (t : Fin cfg0.N) (Y : (w : Fin cfg0.W) → (cfg0.win w).block.Idx → Elt F (cfg0.win w).elt)
    (hY : ∀ w, (dats m c).Finds w t (Y w)) :
    bodyPre m c t Y ⊢ wp frame (wpE (defs₀ (F := F)) Variants.none c none) Set.univ (bodyAt0 t) (fun _ => bodyPost m c t Y) := by
  obtain ⟨d3, h3⟩ := ((dats m c).finds_of_fetch (fetch0_3 t) (Y 3)).mp (hY 3)
  have h3 : Y 3 = doBlk m c t := h3
  unfold bodyPre bodyPost bodyAt0
  rw [show (dats m c).owesAt () t.succ = (dats m c).owesAt () t.castSucc from rfl,
    show (dats m c).Φ t.castSucc = iprop(∃ fV, ⌜AccInv m c t.val fV⌝ ∗ phiAt m c fV) from rfl,
    show (dats m c).Φ t.succ = iprop(∃ fV, ⌜AccInv m c (t.val + 1) fV⌝ ∗ phiAt m c fV) from rfl]
  unfold Pipeline.RDat.owesAt Pipeline.owesWithin phiAt
  rw [show (dats m c).owed t.castSucc = 0 from rfl]
  iintro ⟨⟨%fV, %hV, Hg, HX, ⟨HK, HV⟩, HI, HB⟩, ⟨%W, %hW, HO⟩, H0, H1, H2, H3, H4, H5, H6⟩
  ihave H0 := (any_of_owns c _ _) $$ H0
  ihave H1 := (any_of_owns c _ _) $$ H1
  ihave H2 := (any_of_owns c _ _) $$ H2
  ihave H4 := (any_of_owns c _ _) $$ H4
  ihave H5 := (any_of_owns c _ _) $$ H5
  ihave H6 := (any_of_owns c _ _) $$ H6
  unfold stg owns
  icases H3 with ⟨%f5, %h5, H3⟩
  iapply (wp_wand_r Idealize.ShloMosaic.frame (wpE (defs₀ (F := F)) Variants.none (c : Thread nD τ) none) Set.univ)
  isplitl [HO H0 H1 H2 H3 H4 H5 H6 HK HV HI HB]
  · iapply (bodyRun c (V m c main_v19) (grid0.coords t) _ _ _ _ _ _ _ _ _ _ _ _ _ _ fV f5)
    unfold bodyRes
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [HK HV]
    · isplitl [HK]; · iexact HK
      iexact HV
    isplitl [HI]; · iexact HI
    isplitl [HB]; · iexact HB
    iexists _; iexact HO
  · iintro %_ H
    unfold bodyEnd storedP
    icases H with ⟨⟨H0, H1, H2, H3, H4, H5⟩, ⟨%fV', HV, HK, ⟨%f9, H6, %h9⟩, %hR⟩, HI, HB, ⟨%W', HO⟩⟩
    have hA : AccInv m c (t.val + 1) fV' := ⟨fV, hV, fun h => by rw [← h3, ← h5]; exact hR⟩
    isplitl [Hg HX HK HV HI HB]
    · iexists fV'
      isplitr; · ipureintro; exact hA
      isplitl [Hg]; · iexact Hg
      isplitl [HX]; · iexact HX
      isplitl [HK HV]
      · isplitl [HK]; · iexact HK
        iexact HV
      isplitl [HI]; · iexact HI
      iexact HB
    isplitl [HO]
    · iexists W'; isplitr; · ipureintro; exact fun _ _ => Or.inl trivial
      iexact HO
    isplitl [H0]; · iapply (owns_of_any c _ _ (fun _ => trivial)); iexact H0
    isplitl [H1]; · iapply (owns_of_any c _ _ (fun _ => trivial)); iexact H1
    isplitl [H2]; · iapply (owns_of_any c _ _ (fun _ => trivial)); iexact H2
    isplitl [H3]; · iapply (owns_of_any c _ _ (fun _ => trivial)); iexact H3
    isplitl [H4]; · iapply (owns_of_any c _ _ (fun _ => trivial)); iexact H4
    isplitl [H5]; · iapply (owns_of_any c _ _ (fun _ => trivial)); iexact H5
    iapply (owns_of_at c _ f9 _ (fun ht => ⟨fV', hA, h9 (cond5_of t ht)⟩)); iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) :
    (dats (F := F) m c).BodyObligation (defs₀ (F := F)) Variants.none () Set.univ := fun t Y hY => by
  rw [bigSep_W0, bigSep_W0, defs₀_row]
  exact triple_restated (sound_body m c t Y hY) rfl .rfl fun _ => .rfl

/-! ## The launch -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

-- the launch's implicit arguments are found by unifying its conclusion with this statement
set_option backward.isDefEq.respectTransparency.types false in
theorem run_main :
    θ_run defs (onTc (τ := τ) (main (F := F))) (s₀ m ρ)
      (fun r => Pipeline.RDat.FramePost (cfgs 0) (fun c => dats m c) (V m) r ∧ r.2.sem = fun _ => 0) :=
  Pipeline.RDat.θ_run_frame_dma_shared (Q' := _) cfgs (0 : Fin 1) launch₀0 osem0 defs₀ Variants.none (dats m) ownSemFacts0 H0 H0_sub m ρ main
    (hbody := fun c => body_obligation m c) (hq := fun _ _ _ => rfl)
    (howed := fun _ _ => rfl) (V := V m) (hmain := hmainD m Variants.none) (hA := A_eq m)
    (hin := phi_in m) (hout := fun c => phi_out m c _)

variable {m ρ}

/-- After the run the arguments hold what they held at launch. -/
theorem final {r : PUnit × MemSt nD τ sig (Elt F)}
    (h : Pipeline.RDat.FramePost (cfgs 0) (fun c => dats (F := F) m c) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   (h.arr_in c (3 : Fin 7) rfl).trans (V_main_arg3 m c)⟩

variable (m ρ)

/-- The run, kept to what the frame claims. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => final h.1 c, h.2⟩) (run_main m ρ)

end Cert.KernelIdeal.Sb

end
-- ==== Proof.Products.lean ====
/-
  Matrix products computed tile by tile, over the extended reals.  A rank-2 array is read at a pair of natural
  numbers (`at2`), so that a tile of it is the same array read at shifted numbers and the three layouts of a
  product are sums over a range.  `folded` is the one induction every accumulating product uses.
-/
module

public import Idealize.ShloMosaic.PureOps.Ideal.Laws
public import Idealize.ShloMosaic.Lib.ValueIdxCore
public import Idealize.ShloMosaic.Lib.KernelVsHost
public import Idealize.ShloMosaic.Lib.Pipeline.Value

@[expose] public section

noncomputable section

namespace Cert.Products

open Idealize.ShloMosaic Idealize.ShloMosaic.ValueIdx
open scoped BigOperators

/-- The two zero offsets of an access to a whole tile. -/
theorem origin : (![0, 0] : Fin 2 → ℕ) = fun _ => 0 := funext fun a => by fin_cases a <;> rfl

/-- The array `x` at row `i`, column `j`, and zero outside it. -/
def at2 {M N : ℕ} (x : (⟨2, ![M, N]⟩ : Shape).Idx → EReal) (i j : ℕ) : EReal :=
  if h : i < M ∧ j < N then x (ix2 ⟨i, h.1⟩ ⟨j, h.2⟩) else 0

/-- An array at an index is the array at the index's two numbers. -/
theorem at2_idx {M N : ℕ} (x : (⟨2, ![M, N]⟩ : Shape).Idx → EReal) (y : (⟨2, ![M, N]⟩ : Shape).Idx) {i j : ℕ}
    (hi : (y 0).val = i) (hj : (y 1).val = j) : x y = at2 x i j := by
  subst hi hj
  unfold at2
  rw [dif_pos ⟨(y 0).isLt, (y 1).isLt⟩]
  exact congrArg x (eq_ix2 y)

/-- A tile read at a pair of numbers inside it is the array read at the shifted pair. -/
theorem at2_tile {M N m n : ℕ} (x : (⟨2, ![M, N]⟩ : Shape).Idx → EReal) (z : (⟨2, ![m, n]⟩ : Shape).Idx → EReal)
    (e : (⟨2, ![m, n]⟩ : Shape).Idx → (⟨2, ![M, N]⟩ : Shape).Idx) (a b : ℕ) (hz : ∀ y, z y = x (e y))
    (h0 : ∀ y, (e y 0).val = a * m + 1 * (y 0).val) (h1 : ∀ y, (e y 1).val = b * n + 1 * (y 1).val)
    {i j : ℕ} (hi : i < m) (hj : j < n) : at2 z i j = at2 x (a * m + i) (b * n + j) := by
  refine (at2_idx z (ix2 ⟨i, hi⟩ ⟨j, hj⟩) rfl rfl).symm.trans ?_
  rw [hz]
  exact at2_idx x _ ((h0 _).trans (by rw [Nat.one_mul]; rfl)) ((h1 _).trans (by rw [Nat.one_mul]; rfl))

/-- Columns of zeros behind an array change no entry that is read. -/
theorem at2_pad {M N L p : ℕ} (x : (⟨2, ![M, N]⟩ : Shape).Idx → EReal) {u : Shape} (v : u.Idx → EReal)
    (h : (⟨2, ![M, N]⟩ : Shape).Pads ![0, 0] ![0, p] ![0, 0] ⟨2, ![M, L]⟩) (hu : 0 < u.numel) (hv : v (Shape.Idx.first hu) = 0)
    (hN : N ≤ L) (i j : ℕ) : at2 (pad ⟨2, ![M, L]⟩ ![0, 0] ![0, p] ![0, 0] x v h hu) i j = at2 x i j := by
  unfold at2
  by_cases hi : i < M
  · by_cases hj : j < N
    · rw [dif_pos (show i < M ∧ j < L from ⟨hi, lt_of_lt_of_le hj hN⟩), dif_pos (show i < M ∧ j < N from ⟨hi, hj⟩)]
      exact pad_apply_of_inside _ _ _ x v h hu _ (ix2 ⟨i, hi⟩ ⟨j, hj⟩) fun a => by fin_cases a <;> simp [ix2]
    · rw [dif_neg (show ¬(i < M ∧ j < N) from fun e => hj e.2)]
      by_cases hL : j < L
      · rw [dif_pos (show i < M ∧ j < L from ⟨hi, hL⟩)]
        exact (pad_apply_of_not_inside _ _ _ x v h hu _ (1 : Fin 2) fun e => hj (by
          have q := e.2.2
          simp [ix2] at q
          exact q)).trans hv
      · rw [dif_neg (show ¬(i < M ∧ j < L) from fun e => hL e.2)]
  · rw [dif_neg (show ¬(i < M ∧ j < L) from fun e => hi e.1), dif_neg (show ¬(i < M ∧ j < N) from fun e => hi e.1)]

/-- Past an array's last column there is nothing to sum. -/
theorem sum_past {M N L : ℕ} (x : (⟨2, ![M, N]⟩ : Shape).Idx → EReal) (i : ℕ) (f : ℕ → EReal) (hN : N ≤ L) :
    (∑ k ∈ Finset.range L, at2 x i k * f k) = ∑ k ∈ Finset.range N, at2 x i k * f k :=
  (Finset.sum_subset (Finset.range_subset_range.mpr hN) fun k _ hk => by
    unfold at2
    rw [dif_neg (fun e => hk (Finset.mem_range.mpr e.2)), zero_mul]).symm

/-- Rows times rows: both factors are contracted along their columns. -/
theorem sum_nt {M K N : ℕ} (w) (l : (⟨2, ![M, K]⟩ : Shape).Idx → EReal) (r : (⟨2, ![N, K]⟩ : Shape).Idx → EReal)
    (o : (⟨2, ![M, N]⟩ : Shape).Idx) :
    let D : DotDims ⟨2, ![M, K]⟩ ⟨2, ![N, K]⟩ ⟨2, ![M, N]⟩ := ⟨[1], [1], [0], [0], [], [], w⟩
    (∑ k : D.contr.Idx, l (D.lhsIdx o k) * r (D.rhsIdx o k))
      = ∑ k ∈ Finset.range K, at2 l (o 0).val k * at2 r (o 1).val k := by
  intro D
  rw [← Equiv.sum_comp (contrEquiv1 D K rfl rfl).symm, Finset.sum_range]
  refine Finset.sum_congr rfl fun k _ => ?_
  have hk := contrEquiv1_symm_val D K rfl rfl k
  exact congrArg₂ (· * ·) (at2_idx l _ rfl hk) (at2_idx r _ rfl hk)

/-- Columns times columns: both factors are contracted along their rows. -/
theorem sum_tn {M K N : ℕ} (w) (l : (⟨2, ![K, M]⟩ : Shape).Idx → EReal) (r : (⟨2, ![K, N]⟩ : Shape).Idx → EReal)
    (o : (⟨2, ![M, N]⟩ : Shape).Idx) :
    let D : DotDims ⟨2, ![K, M]⟩ ⟨2, ![K, N]⟩ ⟨2, ![M, N]⟩ := ⟨[0], [0], [1], [1], [], [], w⟩
    (∑ k : D.contr.Idx, l (D.lhsIdx o k) * r (D.rhsIdx o k))
      = ∑ k ∈ Finset.range K, at2 l k (o 0).val * at2 r k (o 1).val := by
  intro D
  rw [← Equiv.sum_comp (contrEquiv1 D K rfl rfl).symm, Finset.sum_range]
  refine Finset.sum_congr rfl fun k _ => ?_
  have hk := contrEquiv1_symm_val D K rfl rfl k
  exact congrArg₂ (· * ·) (at2_idx l _ hk rfl) (at2_idx r _ hk rfl)

/-- Rows times columns, the plain product. -/
theorem sum_nn {M K N : ℕ} (w) (l : (⟨2, ![M, K]⟩ : Shape).Idx → EReal) (r : (⟨2, ![K, N]⟩ : Shape).Idx → EReal)
    (o : (⟨2, ![M, N]⟩ : Shape).Idx) :
    let D : DotDims ⟨2, ![M, K]⟩ ⟨2, ![K, N]⟩ ⟨2, ![M, N]⟩ := ⟨[1], [0], [0], [1], [], [], w⟩
    (∑ k : D.contr.Idx, l (D.lhsIdx o k) * r (D.rhsIdx o k))
      = ∑ k ∈ Finset.range K, at2 l (o 0).val k * at2 r k (o 1).val := by
  intro D
  rw [← Equiv.sum_comp (contrEquiv1 D K rfl rfl).symm, Finset.sum_range]
  refine Finset.sum_congr rfl fun k _ => ?_
  have hk := contrEquiv1_symm_val D K rfl rfl k
  exact congrArg₂ (· * ·) (at2_idx l _ rfl hk) (at2_idx r _ hk rfl)

/-- A kernel's product onto zero and the host's product, rows times rows, at an index. -/
theorem matmul_nt {M K N : ℕ} {φ₁ φ₂ : FTy} (w) (l : FVec Ideal ⟨2, ![M, K]⟩ φ₁) (r : FVec Ideal ⟨2, ![N, K]⟩ φ₂)
    (o : (⟨2, ![M, N]⟩ : Shape).Idx) :
    matmul (⟨[1], [1], [0], [0], [], [], w⟩ : DotDims ⟨2, ![M, K]⟩ ⟨2, ![N, K]⟩ ⟨2, ![M, N]⟩) none l r
      (constant ⟨2, ![M, N]⟩ .f32 0x00000000#32) o = ∑ k ∈ Finset.range K, at2 l (o 0).val k * at2 r (o 1).val k :=
  (Ideal.matmul_constant_zero_apply _ none l r o).trans (sum_nt w l r o)

theorem dot_nt {M K N : ℕ} {φ₁ φ₂ : FTy} (w) (l : FVec Ideal ⟨2, ![M, K]⟩ φ₁) (r : FVec Ideal ⟨2, ![N, K]⟩ φ₂)
    (o : (⟨2, ![M, N]⟩ : Shape).Idx) :
    Host.dotGeneral (⟨[1], [1], [0], [0], [], [], w⟩ : DotDims ⟨2, ![M, K]⟩ ⟨2, ![N, K]⟩ ⟨2, ![M, N]⟩) none l r o
      = ∑ k ∈ Finset.range K, at2 l (o 0).val k * at2 r (o 1).val k :=
  (Ideal.dotGeneral_apply _ none _ l r o).trans (sum_nt w l r o)

/-- A kernel's product onto zero and the host's product, columns times columns, at an index. -/
theorem matmul_tn {M K N : ℕ} {φ₁ φ₂ : FTy} (w) (l : FVec Ideal ⟨2, ![K, M]⟩ φ₁) (r : FVec Ideal ⟨2, ![K, N]⟩ φ₂)
    (o : (⟨2, ![M, N]⟩ : Shape).Idx) :
    matmul (⟨[0], [0], [1], [1], [], [], w⟩ : DotDims ⟨2, ![K, M]⟩ ⟨2, ![K, N]⟩ ⟨2, ![M, N]⟩) none l r
      (constant ⟨2, ![M, N]⟩ .f32 0x00000000#32) o = ∑ k ∈ Finset.range K, at2 l k (o 0).val * at2 r k (o 1).val :=
  (Ideal.matmul_constant_zero_apply _ none l r o).trans (sum_tn w l r o)

theorem dot_tn {M K N : ℕ} {φ₁ φ₂ : FTy} (w) (l : FVec Ideal ⟨2, ![K, M]⟩ φ₁) (r : FVec Ideal ⟨2, ![K, N]⟩ φ₂)
    (o : (⟨2, ![M, N]⟩ : Shape).Idx) :
    Host.dotGeneral (⟨[0], [0], [1], [1], [], [], w⟩ : DotDims ⟨2, ![K, M]⟩ ⟨2, ![K, N]⟩ ⟨2, ![M, N]⟩) none l r o
      = ∑ k ∈ Finset.range K, at2 l k (o 0).val * at2 r k (o 1).val :=
  (Ideal.dotGeneral_apply _ none _ l r o).trans (sum_tn w l r o)

/-- A kernel's product onto zero and the host's product, rows times columns, at an index. -/
theorem matmul_nn {M K N : ℕ} {φ₁ φ₂ : FTy} (w) (l : FVec Ideal ⟨2, ![M, K]⟩ φ₁) (r : FVec Ideal ⟨2, ![K, N]⟩ φ₂)
    (o : (⟨2, ![M, N]⟩ : Shape).Idx) :
    matmul (⟨[1], [0], [0], [1], [], [], w⟩ : DotDims ⟨2, ![M, K]⟩ ⟨2, ![K, N]⟩ ⟨2, ![M, N]⟩) none l r
      (constant ⟨2, ![M, N]⟩ .f32 0x00000000#32) o = ∑ k ∈ Finset.range K, at2 l (o 0).val k * at2 r k (o 1).val :=
  (Ideal.matmul_constant_zero_apply _ none l r o).trans (sum_nn w l r o)

theorem dot_nn {M K N : ℕ} {φ₁ φ₂ : FTy} (w) (l : FVec Ideal ⟨2, ![M, K]⟩ φ₁) (r : FVec Ideal ⟨2, ![K, N]⟩ φ₂)
    (o : (⟨2, ![M, N]⟩ : Shape).Idx) :
    Host.dotGeneral (⟨[1], [0], [0], [1], [], [], w⟩ : DotDims ⟨2, ![M, K]⟩ ⟨2, ![K, N]⟩ ⟨2, ![M, N]⟩) none l r o
      = ∑ k ∈ Finset.range K, at2 l (o 0).val k * at2 r k (o 1).val :=
  (Ideal.dotGeneral_apply _ none _ l r o).trans (sum_nn w l r o)

/-- An accumulator that starts at a tile's sum where the step number is a multiple of `J` and adds the tile's sum
    at every other step but the last of the `J`, holds the sum over all the tiles met since it started. -/
theorem folded {ι : Type} {N J T : ℕ} (hJ : 1 < J) (S : (n : ℕ) → n < N → ι → EReal) (f : ℕ → ι → ℕ → EReal)
    (h0 : ∀ n h, n % J = 0 → ∀ i, S n h i = ∑ k ∈ Finset.range T, f (n / J) i (n % J * T + k))
    (h1 : ∀ n (h : n + 1 < N), ¬(n + 1) % J = 0 → ¬(n + 1) % J = J - 1 → ∀ i,
      S (n + 1) h i = S n (Nat.lt_of_succ_lt h) i + ∑ k ∈ Finset.range T, f ((n + 1) / J) i ((n + 1) % J * T + k)) :
    ∀ n h, ¬n % J = J - 1 → ∀ i, S n h i = ∑ k ∈ Finset.range ((n % J + 1) * T), f (n / J) i k := by
  intro n
  induction n with
  | zero =>
    intro h _ i
    rw [h0 0 h (Nat.zero_mod J) i]
    simp
  | succ n ih =>
    intro h hl i
    have hm := Nat.mod_lt n (by omega : 0 < J)
    have hd := Nat.div_add_mod n J
    by_cases hz : (n + 1) % J = 0
    · rw [h0 (n + 1) h hz i, hz]
      simp
    · have hn : ¬n % J = J - 1 := fun e => hz (by
        rw [Nat.add_mod, e, Nat.mod_eq_of_lt hJ, Nat.sub_add_cancel (by omega), Nat.mod_self])
      have hs : (n + 1) % J = n % J + 1 := by
        rw [Nat.add_mod, Nat.mod_eq_of_lt hJ, Nat.mod_eq_of_lt (by omega)]
      have hq : (n + 1) / J = n / J := by
        have := Nat.div_add_mod (n + 1) J
        rw [hs] at this
        exact Nat.eq_of_mul_eq_mul_left (by omega : 0 < J) (by omega)
      rw [h1 n h hz hl i, ih _ hn i, hs, hq, Nat.add_mul (n % J + 1) 1 T, Nat.one_mul, Finset.sum_range_add]

/-- The last step's sum with the accumulator's: the sum over every tile. -/
theorem folded_last {J T t : ℕ} (g : ℕ → EReal) (hJ : 1 < J) (ht : t % J = J - 1) :
    (∑ k ∈ Finset.range (((t - 1) % J + 1) * T), g k) + ∑ k ∈ Finset.range T, g (t % J * T + k)
      = ∑ k ∈ Finset.range (J * T), g k := by
  have hle := Nat.mod_le t J
  have hs : (t - 1) % J + 1 = t % J := by
    have e : (t - 1) % J = J - 2 := by
      have hd := Nat.div_add_mod t J
      rw [show t - 1 = (J - 2) + J * (t / J) by omega, Nat.add_mul_mod_self_left, Nat.mod_eq_of_lt (by omega)]
    omega
  rw [hs, ← Finset.sum_range_add, ht]
  congr 2
  conv_lhs => rw [← Nat.one_mul T, ← Nat.mul_assoc, Nat.mul_one, ← Nat.add_mul]
  rw [Nat.sub_add_cancel (by omega)]

/-- The step before a last one is in the same run and is not a last one. -/
theorem before_last {J t : ℕ} (hJ : 1 < J) (ht : t % J = J - 1) :
    ¬(t - 1) % J = J - 1 ∧ (t - 1) / J = t / J := by
  have hle := Nat.mod_le t J
  have hd := Nat.div_add_mod t J
  have e : t - 1 = (J - 2) + J * (t / J) := by omega
  constructor
  · rw [e, Nat.add_mul_mod_self_left, Nat.mod_eq_of_lt (by omega)]; omega
  · rw [e, Nat.add_mul_div_left _ _ (by omega), Nat.div_eq_of_lt (by omega), Nat.zero_add]

/-- Points taken in runs of `J`, the first of a run storing its part `P` in `S` and each later one adding its part to what
    `S` held: at the last of a run, what `S` held and that point's part are the whole sum. -/
theorem accumulated {ι : Type} {N J T : ℕ} (hJ : 1 < J) (S P : (n : ℕ) → n < N → ι → EReal) (f : ℕ → ι → ℕ → EReal)
    (hP : ∀ n h i, P n h i = ∑ k ∈ Finset.range T, f (n / J) i (n % J * T + k))
    (h0 : ∀ n h, n % J = 0 → ∀ i, S n h i = P n h i)
    (h1 : ∀ n (h : n < N), ¬n % J = 0 → ¬n % J = J - 1 → ∀ i,
      S n h i = S (n - 1) (Nat.lt_of_le_of_lt (Nat.sub_le _ _) h) i + P n h i)
    (t : ℕ) (h : t < N) (ht : t % J = J - 1) (i : ι) :
    S (t - 1) (Nat.lt_of_le_of_lt (Nat.sub_le _ _) h) i + P t h i = ∑ k ∈ Finset.range (J * T), f (t / J) i k := by
  obtain ⟨hb, hq⟩ := before_last hJ ht
  rw [folded hJ S f (fun n h e i => (h0 n h e i).trans (hP n h i))
    (fun n h e e' i => (h1 (n + 1) h e e' i).trans (congrArg (_ + ·) (hP (n + 1) h i))) (t - 1) _ hb i, hq, hP t h i]
  exact folded_last (f (t / J) i) hJ ht

/-- Columns times columns, tile by tile: runs of `J` points, each taking its rows `T` at a time, leave the product of the whole
    columns that the run's tiles lie in (`a` and `b` say which). -/
theorem accumulated_tn {M K N k m n L J : ℕ} {φ : FTy} (hJ : 1 < J) (A : (⟨2, ![K, M]⟩ : Shape).Idx → EReal)
    (B : (⟨2, ![K, N]⟩ : Shape).Idx → EReal) (a b : ℕ → ℕ) (l : Fin L → FVec Ideal ⟨2, ![k, m]⟩ φ) (r : Fin L → FVec Ideal ⟨2, ![k, n]⟩ φ)
    (hl : ∀ t {x i}, x < k → i < m → at2 (l t) x i = at2 A (t.val % J * k + x) (a (t.val / J) * m + i))
    (hr : ∀ t {x i}, x < k → i < n → at2 (r t) x i = at2 B (t.val % J * k + x) (b (t.val / J) * n + i))
    (S : (t : ℕ) → t < L → FVec Ideal ⟨2, ![m, n]⟩ .f32) (P : Fin L → FVec Ideal ⟨2, ![m, n]⟩ .f32)
    (hP : ∀ t y, P t y = ∑ x ∈ Finset.range k, at2 (l t) x (y 0).val * at2 (r t) x (y 1).val)
    (h0 : ∀ t : Fin L, t.val % J = 0 → S t.val t.isLt = P t)
    (h1 : ∀ t : Fin L, ¬t.val % J = 0 → ¬t.val % J = J - 1 →
      S t.val t.isLt = addf (S (t.val - 1) (Nat.lt_of_le_of_lt (Nat.sub_le _ _) t.isLt)) (P t))
    (t : Fin L) (ht : t.val % J = J - 1) (y : (⟨2, ![m, n]⟩ : Shape).Idx) :
    addf (S (t.val - 1) (Nat.lt_of_le_of_lt (Nat.sub_le _ _) t.isLt)) (P t) y
      = ∑ x ∈ Finset.range (J * k), at2 A x (a (t.val / J) * m + (y 0).val) * at2 B x (b (t.val / J) * n + (y 1).val) :=
  accumulated hJ (fun t h y => S t h y) (fun t h y => P ⟨t, h⟩ y)
    (fun q y x => at2 A x (a q * m + (y 0).val) * at2 B x (b q * n + (y 1).val))
    (fun t h y => by
      refine (hP ⟨t, h⟩ y).trans (Finset.sum_congr rfl fun x hx => ?_)
      rw [hl ⟨t, h⟩ (Finset.mem_range.mp hx) (y 0).isLt, hr ⟨t, h⟩ (Finset.mem_range.mp hx) (y 1).isLt])
    (fun t h e y => congrFun (h0 ⟨t, h⟩ e) y) (fun t h e e' y => congrFun (h1 ⟨t, h⟩ e e') y) t.val t.isLt ht y

/-- Rows times rows, tile by tile, likewise. -/
theorem accumulated_nt {M K N k m n L J : ℕ} {φ : FTy} (hJ : 1 < J) (A : (⟨2, ![M, K]⟩ : Shape).Idx → EReal)
    (B : (⟨2, ![N, K]⟩ : Shape).Idx → EReal) (a b : ℕ → ℕ) (l : Fin L → FVec Ideal ⟨2, ![m, k]⟩ φ) (r : Fin L → FVec Ideal ⟨2, ![n, k]⟩ φ)
    (hl : ∀ t {i x}, i < m → x < k → at2 (l t) i x = at2 A (a (t.val / J) * m + i) (t.val % J * k + x))
    (hr : ∀ t {i x}, i < n → x < k → at2 (r t) i x = at2 B (b (t.val / J) * n + i) (t.val % J * k + x))
    (S : (t : ℕ) → t < L → FVec Ideal ⟨2, ![m, n]⟩ .f32) (P : Fin L → FVec Ideal ⟨2, ![m, n]⟩ .f32)
    (hP : ∀ t y, P t y = ∑ x ∈ Finset.range k, at2 (l t) (y 0).val x * at2 (r t) (y 1).val x)
    (h0 : ∀ t : Fin L, t.val % J = 0 → S t.val t.isLt = P t)
    (h1 : ∀ t : Fin L, ¬t.val % J = 0 → ¬t.val % J = J - 1 →
      S t.val t.isLt = addf (S (t.val - 1) (Nat.lt_of_le_of_lt (Nat.sub_le _ _) t.isLt)) (P t))
    (t : Fin L) (ht : t.val % J = J - 1) (y : (⟨2, ![m, n]⟩ : Shape).Idx) :
    addf (S (t.val - 1) (Nat.lt_of_le_of_lt (Nat.sub_le _ _) t.isLt)) (P t) y
      = ∑ x ∈ Finset.range (J * k), at2 A (a (t.val / J) * m + (y 0).val) x * at2 B (b (t.val / J) * n + (y 1).val) x :=
  accumulated hJ (fun t h y => S t h y) (fun t h y => P ⟨t, h⟩ y)
    (fun q y x => at2 A (a q * m + (y 0).val) x * at2 B (b q * n + (y 1).val) x)
    (fun t h y => by
      refine (hP ⟨t, h⟩ y).trans (Finset.sum_congr rfl fun x hx => ?_)
      rw [hl ⟨t, h⟩ (y 0).isLt (Finset.mem_range.mp hx), hr ⟨t, h⟩ (y 1).isLt (Finset.mem_range.mp hx)])
    (fun t h e y => congrFun (h0 ⟨t, h⟩ e) y) (fun t h e e' y => congrFun (h1 ⟨t, h⟩ e e') y) t.val t.isLt ht y

/-- Rows times columns, tile by tile, likewise. -/
theorem accumulated_nn {M K N k m n L J : ℕ} {φ : FTy} (hJ : 1 < J) (A : (⟨2, ![M, K]⟩ : Shape).Idx → EReal)
    (B : (⟨2, ![K, N]⟩ : Shape).Idx → EReal) (a b : ℕ → ℕ) (l : Fin L → FVec Ideal ⟨2, ![m, k]⟩ φ) (r : Fin L → FVec Ideal ⟨2, ![k, n]⟩ φ)
    (hl : ∀ t {i x}, i < m → x < k → at2 (l t) i x = at2 A (a (t.val / J) * m + i) (t.val % J * k + x))
    (hr : ∀ t {x i}, x < k → i < n → at2 (r t) x i = at2 B (t.val % J * k + x) (b (t.val / J) * n + i))
    (S : (t : ℕ) → t < L → FVec Ideal ⟨2, ![m, n]⟩ .f32) (P : Fin L → FVec Ideal ⟨2, ![m, n]⟩ .f32)
    (hP : ∀ t y, P t y = ∑ x ∈ Finset.range k, at2 (l t) (y 0).val x * at2 (r t) x (y 1).val)
    (h0 : ∀ t : Fin L, t.val % J = 0 → S t.val t.isLt = P t)
    (h1 : ∀ t : Fin L, ¬t.val % J = 0 → ¬t.val % J = J - 1 →
      S t.val t.isLt = addf (S (t.val - 1) (Nat.lt_of_le_of_lt (Nat.sub_le _ _) t.isLt)) (P t))
    (t : Fin L) (ht : t.val % J = J - 1) (y : (⟨2, ![m, n]⟩ : Shape).Idx) :
    addf (S (t.val - 1) (Nat.lt_of_le_of_lt (Nat.sub_le _ _) t.isLt)) (P t) y
      = ∑ x ∈ Finset.range (J * k), at2 A (a (t.val / J) * m + (y 0).val) x * at2 B x (b (t.val / J) * n + (y 1).val) :=
  accumulated hJ (fun t h y => S t h y) (fun t h y => P ⟨t, h⟩ y)
    (fun q y x => at2 A (a q * m + (y 0).val) x * at2 B x (b q * n + (y 1).val))
    (fun t h y => by
      refine (hP ⟨t, h⟩ y).trans (Finset.sum_congr rfl fun x hx => ?_)
      rw [hl ⟨t, h⟩ (y 0).isLt (Finset.mem_range.mp hx), hr ⟨t, h⟩ (Finset.mem_range.mp hx) (y 1).isLt])
    (fun t h e y => congrFun (h0 ⟨t, h⟩ e) y) (fun t h e e' y => congrFun (h1 ⟨t, h⟩ e e') y) t.val t.isLt ht y

end Cert.Products

end
-- ==== Proof.DvStep.lean ====
/-
  The second accumulator over the extended reals.  A block's part of the value gradient is, at a key and a column, the
  weighted sum of the point's upstream gradients (`blockSum`); the causal zeros of the weights make the band's shorter
  sums whole (`Causal`), so that a point adds to every key the sum over its query block (`point_adds`).
-/
module

public import proofs.«01_k».proof.Proof.Block
public import proofs.«01_k».proof.Proof.Products
public import Idealize.ShloMosaic.Lib.WritesUnit

@[expose] public section

set_option maxRecDepth 16384

noncomputable section

namespace Cert.KernelIdeal.Sb

open Cert.KernelIdeal Cert.KernelIdeal.Gen Cert.Products
open Idealize.ShloMosaic Idealize.ShloMosaic.TcCoe Idealize.ShloMosaic.ValueIdx
open Idealize.SL Idealize.SL.Sem
open scoped BigOperators

/-- A pair's block at head `h`, query row `r`, key `k` of the block, and zero outside it. -/
def at3 (x : S2x1024x128.Idx → EReal) (h r k : ℕ) : EReal :=
  if H : h < 2 ∧ r < 1024 ∧ k < 128 then x (ix3 ⟨h, H.1⟩ ⟨r, H.2.1⟩ ⟨k, H.2.2⟩) else 0

/-- Rows of a head, at a pair of numbers inside them. -/
theorem at2_rows {n h r : ℕ} {blk : S2x1024x128.Idx → EReal} {x : FVec Ideal ⟨2, ![n, 128]⟩ .bf16} (hx : Rows (F := Ideal) h r blk x)
    (hh : h < 2) (hn : r + n ≤ 1024) {k j : ℕ} (hk : k < n) (hj : j < 128) : at2 x k j = at3 blk h (r + k) j := by
  unfold at2 at3
  rw [dif_pos ⟨hk, hj⟩, dif_pos ⟨hh, by omega, hj⟩]
  exact hx _ _ rfl rfl rfl

/-- The part's entry in head `h`'s weights rows and a gradient column. -/
theorem part_apply {n r h : ℕ} {blk : S2x1024x128.Idx → EReal} {q : FVec Ideal S1024x256 .bf16} {P : FVec Ideal S512x256 .f32}
    (hP : Part (F := Ideal) n r blk q P) (hh : h < 2) (hn : r + n ≤ 1024) (y : S512x256.Idx) (j : ℕ) (hj : j < 128)
    (hy : (y 0).val = 256 + 128 * h + j) :
    P y = ∑ k ∈ Finset.range n, at3 blk h (r + k) j * at2 q (r + k) (y 1).val := by
  obtain ⟨d0, d1, w0, w1, qs, hw, hc, rfl, h0, h1, hq⟩ := hP
  refine (matmul_tn (φ₁ := .bf16) (φ₂ := .bf16) hw _ qs y).trans (Finset.sum_congr rfl fun k hk => ?_)
  have hk := Finset.mem_range.mp hk
  have e2 : at2 qs k (y 1).val = at2 q (r + k) (y 1).val := by
    have h256 : (y 1).val < 256 := (y 1).isLt
    unfold at2
    rw [dif_pos ⟨hk, h256⟩, dif_pos ⟨by omega, h256⟩]
    exact hq _ _ rfl rfl
  refine congrArg₂ (· * ·) ?_ e2
  have hy0 : (y 0).val < 512 := (y 0).isLt
  unfold at2
  rw [dif_pos ⟨hk, hy0⟩]
  rcases (show h = 0 ∨ h = 1 by omega) with rfl | rfl
  · refine (concatenate_apply_piece _ _ hc _ 2 (by simp) ⟨2, ![n, 128]⟩ w0 rfl rfl 256 rfl (ix2 ⟨k, hk⟩ ⟨j, hj⟩) (fun b hb => ?_) ?_).trans ?_
    · fin_cases b
      · rfl
      · exact absurd rfl hb
    · show 256 + j = (y 0).val; omega
    · rw [← at2_rows h0 (by omega) hn hk hj]; unfold at2; rw [dif_pos ⟨hk, hj⟩]
  · refine (concatenate_apply_piece _ _ hc _ 3 (by simp) ⟨2, ![n, 128]⟩ w1 rfl rfl 384 rfl (ix2 ⟨k, hk⟩ ⟨j, hj⟩) (fun b hb => ?_) ?_).trans ?_
    · fin_cases b
      · rfl
      · exact absurd rfl hb
    · show 384 + j = (y 0).val; omega
    · rw [← at2_rows h1 (by omega) hn hk hj]; unfold at2; rw [dif_pos ⟨hk, hj⟩]

/-- The right half of a query block beside its gradients is the gradients. -/
theorem query_grad (x2 : S1024x128.Idx → EReal) (x5 : S1024x128.Idx → EReal) {r e : ℕ} (hr : r < 1024) (he : e < 128) :
    at2 (k0_pay54 (F := Ideal) x2 x5 : S1024x256.Idx → EReal) r (128 + e) = at2 x5 r e := by
  unfold at2
  rw [dif_pos ⟨hr, by omega⟩, dif_pos ⟨hr, he⟩]
  unfold k0_pay54
  refine (concatenate_apply_piece (1 : Fin S1024x256.rank) [⟨S1024x128, _⟩, ⟨S1024x128, _⟩] _ _ 1 (by simp) S1024x128 _ rfl rfl 128 rfl (ix2 ⟨r, hr⟩ ⟨e, he⟩) (fun b hb => ?_) ?_).trans ?_
  · fin_cases b
    · rfl
    · exact absurd rfl hb
  · rfl
  · rfl

theorem left_head : ∀ n : Fin 128, IntOp.cmpi .slt (BitVec.ofNat 32 n.val) 64#32 = (1 : BitVec 1) ↔ n.val < 64 := by decide

/-- The columns of the first head. -/
theorem first_head (y : S128x128.Idx) : k0_pay53 y = (1 : BitVec 1) ↔ (y 1).val < 64 := by
  refine Iff.trans (Eq.to_iff (congrArg (· = (1 : BitVec 1)) ?_)) (left_head (y 1))
  show IntOp.cmpi .slt (BitVec.ofNat 32 (0 * 128 + (y 1).val)) 64#32 = _
  rw [Nat.zero_mul, Nat.zero_add]

/-- A block's part of a key's row: what the query rows `r`, … of the block give. -/
def blockSum (n r : ℕ) (blk : S2x1024x128.Idx → EReal) (x5 : S1024x128.Idx → EReal) (kk e : ℕ) : EReal :=
  ∑ k ∈ Finset.range n, at3 blk (e / 64) (r + k) kk * at2 x5 (r + k) e

theorem payload {n r : ℕ} {blk : S2x1024x128.Idx → EReal} {x2 x5 : S1024x128.Idx → EReal} {P : FVec Ideal S512x256 .f32}
    (hP : Part (F := Ideal) n r blk (k0_pay54 (F := Ideal) x2 x5) P) (hn : r + n ≤ 1024) (x : S128x128.Idx → EReal) (y : S128x128.Idx) :
    (k0_pay257 (F := Ideal) k0_pay53 P x : S128x128.Idx → EReal) y = x y + blockSum n r blk x5 (y 0).val (y 1).val := by
  have h0 : (y 0).val < 128 := (y 0).isLt
  have h1 : (y 1).val < 128 := (y 1).isLt
  have key : ∀ h, h < 2 → (y 1).val / 64 = h → ∀ z : S512x256.Idx, (z 0).val = 256 + 128 * h + (y 0).val → (z 1).val = 128 + (y 1).val →
      P z = blockSum n r blk x5 (y 0).val (y 1).val := by
    intro h hh he z hz0 hz1
    refine (part_apply hP hh hn z (y 0).val h0 hz0).trans (Finset.sum_congr rfl fun k hk => ?_)
    have hk := Finset.mem_range.mp hk
    rw [hz1, query_grad x2 x5 (by omega) h1, he]
  unfold k0_pay257
  rw [shapeCast_self]
  refine congrArg (x y + ·) ?_
  by_cases hc : (y 1).val < 64
  · refine (if_pos ((first_head y).mpr hc)).trans ?_
    refine (extractStridedSlice_apply _ _ _ _ (ix2 ⟨256 + (y 0).val, by omega⟩ ⟨128 + (y 1).val, by omega⟩ : S512x256.Idx) fun a => ?_).trans
      (key 0 (by omega) (by omega) _ rfl rfl)
    fin_cases a <;> rfl
  · refine (if_neg (fun h => hc ((first_head y).mp h))).trans ?_
    refine (extractStridedSlice_apply _ _ _ _ (ix2 ⟨384 + (y 0).val, by omega⟩ ⟨128 + (y 1).val, by omega⟩ : S512x256.Idx) fun a => ?_).trans
      (key 1 (by omega) (by omega) _ rfl rfl)
    fin_cases a <;> rfl

/-! ## One point -/

/-- The weights at head `h`, query `q`, key `k`, and zero outside them. -/
def weight (XA : S8x4x32x1024x128.Idx → EReal) (h q k : ℕ) : EReal :=
  if H : h < 8 ∧ q < 4096 ∧ k < 4096 then
    XA (ix5 ⟨h, H.1⟩ ⟨q / 1024, by omega⟩ ⟨k / 128, by omega⟩ ⟨q % 1024, by omega⟩ ⟨k % 128, by omega⟩)
  else 0

/-- No query weighs a key that is not before it. -/
def Causal (XA : S8x4x32x1024x128.Idx → EReal) : Prop := ∀ h q k, q ≤ k → weight XA h q k = 0

variable (c : Dev nD) (XA : S8x4x32x1024x128.Idx → EReal) (i : grid0.Coords)

/-- An index of a pair's block, matched with the block's place among the weights. -/
theorem reshapeEquiv_block (h : S2x1024x128.numel = S2x1x1x1024x128.numel) (x : Fin 2) (y : Fin 1024) (z : Fin 128) :
    Shape.reshapeEquiv h (ix3 x y z : S2x1024x128.Idx) = (ix5 x (0 : Fin 1) (0 : Fin 1) y z : S2x1x1x1024x128.Idx) :=
  Shape.reshapeEquiv_eq_of_rowMajor h (by
    refine (Shape.rowMajor_val_five _).trans (Eq.trans ?_ (Shape.rowMajor_val_three _).symm)
    show ((((x.val * 1 + 0) * 1 + 0) * 1024 + y.val) * 128 + z.val) = (x.val * 1024 + y.val) * 128 + z.val
    omega)

/-- A pair's block of the weights. -/
theorem block_weight (b : Fin 32) {h r k : ℕ} (hh : h < 2) (hr : r < 1024) (hk : k < 128) :
    at3 (blkAt (F := Ideal) c XA i b) h r k = weight XA (2 * (i 0).val + h) (1024 * (i 1).val + r) (128 * b.val + k) := by
  have h0 : (i 0).val < 4 := (i 0).isLt
  have h1 : (i 1).val < 4 := (i 1).isLt
  have hb := b.isLt
  unfold at3 weight
  rw [dif_pos ⟨hh, hr, hk⟩, dif_pos ⟨by omega, by omega, by omega⟩]
  refine (congrArg (fun z => XA ((Rect.unit (s := S8x4x32x1024x128) (grpOff i b) S2x1x1x1024x128.size (grpOff_inb i b)).emb z))
    (reshapeEquiv_block squeezes_S2x1x1x1024x128_S2x1024x128.numel_eq ⟨h, hh⟩ ⟨r, hr⟩ ⟨k, hk⟩)).trans (congrArg XA (funext fun a => Fin.ext ?_))
  fin_cases a
  · show 2 * (i 0).val + 1 * h = 2 * (i 0).val + h; omega
  · show (i 1).val + 1 * 0 = (1024 * (i 1).val + r) / 1024; omega
  · show b.val + 1 * 0 = (128 * b.val + k) / 128; omega
  · show 0 + 1 * r = (1024 * (i 1).val + r) % 1024; omega
  · show 0 + 1 * k = (128 * b.val + k) % 128; omega

/-- What a point adds to key `k` in column `e`. -/
def pointSum (x5 : S1024x128.Idx → EReal) (k e : ℕ) : EReal :=
  ∑ r ∈ Finset.range 1024, weight XA (2 * (i 0).val + e / 64) (1024 * (i 1).val + r) k * at2 x5 r e

variable {XA}

/-- A block's part is the point's, the weights left out being zero. -/
theorem blockSum_eq (hz : Causal XA) (x5 : S1024x128.Idx → EReal) (b : Fin 32) {n r : ℕ} (hn : r + n = 1024)
    (hr : ∀ q, q < r → 1024 * (i 1).val + q ≤ 128 * b.val) {kk e : ℕ} (hk : kk < 128) (he : e < 128) :
    blockSum n r (blkAt (F := Ideal) c XA i b) x5 kk e = pointSum XA i x5 (128 * b.val + kk) e := by
  unfold blockSum pointSum
  rw [show Finset.range 1024 = Finset.range (r + n) from congrArg _ hn.symm, Finset.sum_range_add, Finset.sum_eq_zero (s := Finset.range r), zero_add]
  · refine Finset.sum_congr rfl fun k hk' => ?_
    have := Finset.mem_range.mp hk'
    rw [block_weight c XA i b (by omega) (by omega) hk]
  · intro q hq
    have := hr q (Finset.mem_range.mp hq)
    rw [hz _ _ _ (by omega), zero_mul]

/-- A load of a key block's rows. -/
theorem load_acc (f : AccV (F := Ideal) c) {off : Fin 2 → ℕ} {j : ℕ} (ho : off = accOff j) (h) (x : S128x128.Idx) (y : S4096x128.Idx)
    (h0 : (y 0).val = 128 * j + (x 0).val) (h1 : (y 1).val = (x 1).val) :
    accV.view.readAt (Elt Ideal) (Rect.unit (s := S4096x128) off S128x128.size h).toLoadRect f x = accV.view.read (Elt Ideal) f y := by
  subst ho
  refine congrArg (accV.view.read (Elt Ideal) f) (funext fun a => Fin.ext ?_)
  fin_cases a
  · show 128 * j + 1 * (x 0).val = (y 0).val; omega
  · show 0 + 1 * (x 1).val = (y 1).val; omega

/-- What is stored in key block `b`'s rows. -/
theorem stored (hz : Causal XA) (x2 x5 : S1024x128.Idx → EReal) (b : Fin 32) {n r : ℕ} (hn : r + n = 1024)
    (hr : ∀ q, q < r → 1024 * (i 1).val + q ≤ 128 * b.val) {P : FVec Ideal S512x256 .f32}
    (hP : Part (F := Ideal) n r (blkAt c XA i b) (k0_pay54 (F := Ideal) x2 x5) P) (f : AccV (F := Ideal) c) {off : Fin 2 → ℕ} (ho : off = accOff b.val) (h)
    (x : S128x128.Idx) (y : S4096x128.Idx) (h0 : (y 0).val = 128 * b.val + (x 0).val) (h1 : (y 1).val = (x 1).val) :
    (k0_pay257 (F := Ideal) k0_pay53 P (accV.view.readAt (Elt Ideal) (Rect.unit (s := S4096x128) off S128x128.size h).toLoadRect f) : S128x128.Idx → EReal) x
      = accV.view.read (Elt Ideal) f y + pointSum XA i x5 (y 0).val (y 1).val := by
  rw [payload hP (by omega), load_acc c f ho h x y h0 h1, blockSum_eq c i hz x5 b hn hr (x 0).isLt (x 1).isLt, h0, h1]

/-- A trip adds its block's part to its block's rows. -/
theorem trip_adds (hz : Causal XA) {x2 x5 : S1024x128.Idx → EReal} {j : ℕ} (hj : j < 32) {f f' : AccV (F := Ideal) c}
    (hT : TripRel (F := Ideal) c XA i k0_pay53 (k0_pay54 (F := Ideal) x2 x5) j f f') (y : S4096x128.Idx) :
    accV.view.read (Elt Ideal) f' y = if (y 0).val / 128 = j then accV.view.read (Elt Ideal) f y + pointSum XA i x5 (y 0).val (y 1).val
      else accV.view.read (Elt Ideal) f y := by
  obtain ⟨off, h, P, ho, hP, rfl⟩ := hT
  have hb : (Ring.bk 32 j).val = j := Nat.mod_eq_of_lt hj
  by_cases hc : (y 0).val / 128 = j
  · rw [if_pos hc]
    have e0 : (y 0).val = 128 * j + (y 0).val % 128 := by omega
    refine (View.read_writes_cons_rows_of_mem accV.view f h _ [] y (ix2 ⟨(y 0).val % 128, Nat.mod_lt _ (by omega)⟩ (y 1)) ho e0 rfl).trans ?_
    exact stored c i hz x2 x5 (Ring.bk 32 j) rfl (fun q hq => absurd hq (Nat.not_lt_zero q)) hP f (by rw [hb]; exact ho) h _ y (by rw [hb]; exact e0) rfl
  · rw [if_neg hc]
    exact View.read_writes_cons_rows_of_not_mem (W := 128) accV.view f h _ [] y ho rfl (by omega)

/-- The loop adds the point's part to the rows of the key blocks before the band. -/
theorem loop_adds (hz : Causal XA) {x2 x5 : S1024x128.Idx → EReal} {f : AccV (F := Ideal) c} {n : ℕ} {g : AccV (F := Ideal) c}
    (hR : Reach (F := Ideal) c XA i k0_pay53 (k0_pay54 (F := Ideal) x2 x5) f n g) (hn : n ≤ 32) (y : S4096x128.Idx) :
    accV.view.read (Elt Ideal) g y = if (y 0).val / 128 < n then accV.view.read (Elt Ideal) f y + pointSum XA i x5 (y 0).val (y 1).val
      else accV.view.read (Elt Ideal) f y := by
  induction hR with
  | zero => rw [if_neg (Nat.not_lt_zero _)]
  | @succ k g g' _ hT ih =>
    rw [trip_adds c i hz (by omega) hT y, ih (by omega)]
    by_cases hc : (y 0).val / 128 = k
    · rw [if_pos hc, if_neg (by omega), if_pos (by omega)]
    · rw [if_neg hc]
      by_cases hl : (y 0).val / 128 < k
      · rw [if_pos hl, if_pos (by omega)]
      · rw [if_neg hl, if_neg (by omega)]

/-- Some rows of the accumulator overwritten: each row reads its own piece. -/
theorem read_pieces (f : AccV (F := Ideal) c) (off : Fin 8 → Fin 2 → ℕ) (h : ∀ u a, off u a + S128x128.size a ≤ S4096x128.size a) (j : Fin 8 → ℕ)
    (ho : ∀ u, off u = accOff (j u)) (w : Fin 8 → S128x128.Idx → EReal) (y : S4096x128.Idx) (T : EReal) (L : List (Fin 8))
    (hin : ∀ u ∈ L, (y 0).val / 128 = j u → ∀ x : S128x128.Idx, (y 0).val = 128 * j u + (x 0).val → (y 1).val = (x 1).val → w u x = T)
    (hout : (∀ u ∈ L, (y 0).val / 128 ≠ j u) → accV.view.read (Elt Ideal) f y = T) :
    accV.view.read (Elt Ideal) (accV.view.writes (Elt Ideal) f (L.map fun u => ⟨Rect.unit (s := S4096x128) (off u) S128x128.size (h u), w u⟩)) y = T := by
  induction L with
  | nil => exact hout (fun u hu => absurd hu (by simp))
  | cons u L ih =>
    by_cases hc : (y 0).val / 128 = j u
    · have e0 : (y 0).val = 128 * j u + (y 0).val % 128 := by omega
      refine (View.read_writes_cons_rows_of_mem accV.view f (h u) (w u) _ y (ix2 ⟨(y 0).val % 128, Nat.mod_lt _ (by omega)⟩ (y 1)) (ho u) e0 rfl).trans ?_
      exact hin u (by simp) hc _ e0 rfl
    · refine (View.read_writes_cons_rows_of_not_mem (W := 128) accV.view f (h u) (w u) _ y (ho u) rfl (by omega)).trans (ih (fun v hv => hin v (by simp [hv])) fun hv => ?_)
      refine hout fun v hv' => ?_
      rcases List.mem_cons.mp hv' with rfl | hv'
      · exact hc
      · exact hv v hv'

/-- The band adds the point's part to its key blocks' rows. -/
theorem band_adds (hz : Causal XA) {x2 x5 : S1024x128.Idx → EReal} {f f' : AccV (F := Ideal) c}
    (hB : BandRel (F := Ideal) c XA i k0_pay53 (k0_pay54 (F := Ideal) x2 x5) f f') (y : S4096x128.Idx) :
    accV.view.read (Elt Ideal) f' y = if (y 0).val / 128 < 8 * (i 1).val then accV.view.read (Elt Ideal) f y
      else accV.view.read (Elt Ideal) f y + pointSum XA i x5 (y 0).val (y 1).val := by
  obtain ⟨off, h, P, ho, hP, rfl⟩ := hB
  refine read_pieces c f off h (fun u => 8 * (i 1).val + u.val) ho _ y _ _ (fun u _ hc x h0 h1 => ?_) fun hc => ?_
  · have hu := u.isLt
    rw [if_neg (by omega)]
    exact stored c i hz x2 x5 (bnd i u) (by omega) (fun q hq => by show _ ≤ 128 * (8 * (i 1).val + u.val); omega) (hP u) f (ho u) (h u) x y h0 h1
  · by_cases hl : (y 0).val / 128 < 8 * (i 1).val
    · rw [if_pos hl]
    · have hbig : 8 * (i 1).val + 8 ≤ (y 0).val / 128 := by
        by_contra hs
        exact hc ⟨(y 0).val / 128 - 8 * (i 1).val, by omega⟩ (by generalize (⟨_, _⟩ : Fin 8) = u; revert u; decide)
          (by show _ = 8 * (i 1).val + ((y 0).val / 128 - 8 * (i 1).val); omega)
      rw [if_neg hl]
      unfold pointSum
      rw [Finset.sum_eq_zero, add_zero]
      intro r hr
      have := Finset.mem_range.mp hr
      rw [hz _ _ _ (by omega), zero_mul]

/-- A point adds its part to every row, having started the accumulator at zero if it is a pair's first. -/
theorem point_adds (hz : Causal XA) {x5 : S1024x128.Idx → EReal} {f f' : AccV (F := Ideal) c}
    (hB : BodyRel (F := Ideal) c XA i x5 f f') (y : S4096x128.Idx) :
    accV.view.read (Elt Ideal) f' y
      = (if (i 1).val = 0 then 0 else accV.view.read (Elt Ideal) f y) + pointSum XA i x5 (y 0).val (y 1).val := by
  obtain ⟨x2, f₀, g, ⟨hi0, hi1⟩, hR, hB⟩ := hB
  have h1 : (i 1).val < 4 := (i 1).isLt
  have h0 : accV.view.read (Elt Ideal) f₀ y = (if (i 1).val = 0 then 0 else accV.view.read (Elt Ideal) f y : EReal) := by
    by_cases h : (i 1).val = 0
    · rw [if_pos h, hi0 h]
      unfold k0_pay51
      rw [shapeCast_self]
      exact Ideal.ofBits_zero_f32
    · rw [if_neg h, hi1 h]
  rw [band_adds c i hz hB y, loop_adds c i hz hR (by omega) y, h0]
  by_cases hl : (y 0).val / 128 < 8 * (i 1).val
  · rw [if_pos hl, if_pos hl]
  · rw [if_neg hl, if_neg hl]

end Cert.KernelIdeal.Sb

end
-- ==== Proof.DvRef.lean ====
/-
  The reference's value gradient at an index, of any weights: the upstream gradients' column weighted by the weights of
  the column's head.
-/
module

public import proofs.«01_k».proof.Proof.Products
public import proofs.«01_k».proof.Proof.Gen.ReferenceIdeal.Run

@[expose] public section

set_option maxRecDepth 16384

noncomputable section

namespace Cert.ReferenceIdeal.Sb

open Cert.ReferenceIdeal Cert.ReferenceIdeal.Gen Cert.Products
open Idealize.ShloMosaic Idealize.ShloMosaic.TcCoe Idealize.ShloMosaic.ValueIdx
open scoped BigOperators

/-- The reference's last operations, of its weights and the upstream gradients. -/
def weighted (D : FVec Ideal S4096x1024 .f32) (W : FVec Ideal S8x4096x4096 .f32) : FVec Ideal S4096x512 .bf16 :=
  truncf .bf16 (shapeCast S4096x512 (transpose S4096x8x64 [2, 0, 1] (Host.dotGeneral dot_S8x64x4096_S8x4096x4096_S8x64x4096_2_1_1_2_0_0 none
    (transpose S8x64x4096 [1, 2, 0] (shapeCast S4096x8x64 (extractStridedSlice S4096x512 ![0, 0] D slices_S4096x1024_S4096x512_0_0) shapeCasts_S4096x512_S4096x8x64)
      transposes_S4096x8x64_S8x64x4096_1_2_0) W) transposes_S8x64x4096_S4096x8x64_2_0_1) shapeCasts_S4096x8x64_S4096x512) bitsLt_bf16_f32

/-- The weights at three numbers, and zero outside them. -/
def at3 (W : S8x4096x4096.Idx → EReal) (h q k : ℕ) : EReal :=
  if H : h < 8 ∧ q < 4096 ∧ k < 4096 then W (ix3 ⟨h, H.1⟩ ⟨q, H.2.1⟩ ⟨k, H.2.2⟩) else 0

/-- The gradients' head `h`, entry `e`, query `q`. -/
theorem grads (D : FVec Ideal S4096x1024 .f32) (x : S8x64x4096.Idx) :
    (transpose S8x64x4096 [1, 2, 0] (shapeCast S4096x8x64 (extractStridedSlice S4096x512 ![0, 0] D slices_S4096x1024_S4096x512_0_0) shapeCasts_S4096x512_S4096x8x64)
      transposes_S4096x8x64_S8x64x4096_1_2_0 : S8x64x4096.Idx → EReal) x = at2 D (x 2).val (64 * (x 0).val + (x 1).val) := by
  have h0 : (x 0).val < 8 := (x 0).isLt
  have h1 : (x 1).val < 64 := (x 1).isLt
  have h2 : (x 2).val < 4096 := (x 2).isLt
  refine (transpose_apply _ _ _ x (ix3 (x 2) (x 0) (x 1) : S4096x8x64.Idx) fun b => by fin_cases b <;> rfl).trans ?_
  refine (shapeCast_apply _ _ _ (ix2 (x 2) ⟨64 * (x 0).val + (x 1).val, by omega⟩ : S4096x512.Idx) ?_).trans ?_
  · refine (Shape.rowMajor_val_two _).trans (Eq.trans ?_ (Shape.rowMajor_val_three _).symm)
    show (x 2).val * 512 + (64 * (x 0).val + (x 1).val) = ((x 2).val * 8 + (x 0).val) * 64 + (x 1).val
    omega
  refine (extractStridedSlice_apply _ _ _ _ (ix2 (x 2) ⟨64 * (x 0).val + (x 1).val, by omega⟩ : S4096x1024.Idx) fun a => ?_).trans (at2_idx D _ rfl rfl)
  fin_cases a
  · exact (Nat.zero_add _).symm
  · exact (Nat.zero_add _).symm

/-- A narrower format keeps the value. -/
theorem narrowed {s : Shape} (x : FVec Ideal s .f32) (h) (y : s.Idx) : (truncf .bf16 x h : s.Idx → EReal) y = (x : s.Idx → EReal) y := rfl

theorem weighted_apply (D : FVec Ideal S4096x1024 .f32) (W : FVec Ideal S8x4096x4096 .f32) (y : S4096x512.Idx) :
    (weighted D W : S4096x512.Idx → EReal) y = ∑ q ∈ Finset.range 4096, at3 W ((y 1).val / 64) q (y 0).val * at2 D q (y 1).val := by
  have h0 : (y 0).val < 4096 := (y 0).isLt
  have h1 : (y 1).val < 512 := (y 1).isLt
  unfold weighted
  refine (narrowed _ _ y).trans ?_
  refine (shapeCast_apply _ shapeCasts_S4096x8x64_S4096x512 y (ix3 (y 0) ⟨(y 1).val / 64, by omega⟩ ⟨(y 1).val % 64, by omega⟩ : S4096x8x64.Idx) ?_).trans ?_
  · refine (Shape.rowMajor_val_three _).trans (Eq.trans ?_ (Shape.rowMajor_val_two _).symm)
    show ((y 0).val * 8 + (y 1).val / 64) * 64 + (y 1).val % 64 = (y 0).val * 512 + (y 1).val
    omega
  refine (transpose_apply _ _ _ _ (ix3 ⟨(y 1).val / 64, by omega⟩ ⟨(y 1).val % 64, by omega⟩ (y 0) : S8x64x4096.Idx) fun b => by fin_cases b <;> rfl).trans ?_
  refine (Ideal.dotGeneral_apply _ none _ _ _ _).trans ?_
  rw [← Equiv.sum_comp (contrEquiv1 dot_S8x64x4096_S8x4096x4096_S8x64x4096_2_1_1_2_0_0 4096 rfl rfl).symm, Finset.sum_range]
  refine Finset.sum_congr rfl fun q _ => ?_
  have hq := contrEquiv1_symm_val dot_S8x64x4096_S8x4096x4096_S8x64x4096_2_1_1_2_0_0 4096 rfl rfl q
  rw [mul_comm]
  refine congrArg₂ (· * ·) ?_ ((grads D _).trans ?_)
  · unfold at3
    rw [dif_pos ⟨by omega, q.isLt, h0⟩]
    refine congrArg W (funext fun a => Fin.ext ?_)
    fin_cases a
    · rfl
    · exact hq
    · rfl
  · refine congrArg₂ (at2 D) hq ?_
    show 64 * ((y 1).val / 64) + (y 1).val % 64 = (y 1).val
    omega

end Cert.ReferenceIdeal.Sb

end
-- ==== Proof.DvHost.lean ====
/-
  What the attention gradient's call finds in its weights operand: the reference's own weights, cut into key blocks.
-/
module

public import proofs.«01_k».proof.Defs
public import proofs.«01_k».proof.Proof.DvStep
public import proofs.«01_k».proof.Proof.Gen.KernelIdeal.Frame
public import proofs.«01_k».proof.Proof.DvRef

@[expose] public section

set_option maxRecDepth 16384

noncomputable section

namespace Cert.KernelIdeal.Sb

open Cert.KernelIdeal Cert.KernelIdeal.Gen Cert.Products
open Idealize.ShloMosaic Idealize.ShloMosaic.TcCoe Idealize.ShloMosaic.ValueIdx
open Idealize.SL Idealize.SL.Sem
open StableHlo

variable (m : (ℓ : Loc nD τ sig) → Buf (Elt Ideal) ℓ)

/-- The causal mask: the key before the query. -/
abbrev before : IVec S8x4096x4096 1 :=
  broadcastInDim S8x4096x4096 ![1, 2] bcast_S4096x4096_S8x4096x4096_1_2 (cmpi .slt (iotaInDim S4096x4096 32 1) (iotaInDim S4096x4096 32 0))

/-- Core `c`'s buffers once the host has formed the weights. -/
abbrev W0 (c : Dev nD) : Valuation τ sig (Elt Ideal) :=
  StableHlo.after (List.flatten [hostOps0, hostOps0_1, hostOps0_2, hostOps0_3, hostOps0_4, hostOps0_5, hostOps0_6, hostOps0_7, hostOps0_8]) (fun b => m (c, b))

/-- The weights. -/
def weights (c : Dev nD) : S8x4096x4096.Idx → EReal := W0 m c (Proc.devRef .tc main_v16)

set_option maxHeartbeats 4000000 in
/-- They are zero where the mask is. -/
theorem weights_masked (c : Dev nD) : ∃ E : S8x4096x4096.Idx → EReal, weights m c
    = select before E (broadcastInDim S8x4096x4096 ![] bcast_S_S8x4096x4096 (constant (F := Ideal) S_ .f32 0x00000000#32)) := by
  refine ⟨?_, ?_⟩
  rotate_left
  · show StableHlo.after _ (fun b => m (c, b)) _ = _
    simp only [hostOps0, hostOps0_1, hostOps0_2, hostOps0_3, hostOps0_4, hostOps0_5, hostOps0_6, hostOps0_7, hostOps0_8, List.flatten_cons, List.flatten_nil, List.append_nil, List.cons_append,
      List.nil_append, TRef.binary, TRef.nullary, TRef.ternary, TRef.unary, TRef.toBuf, TRef.ofBuf, cast_eq]
    after_results_simp
    rfl

theorem cut (f : Valuation τ sig (Elt Ideal)) : (StableHlo.after hostOps0_9 f (Proc.devRef .tc main_v19) : S8x4x32x1024x128.Idx → EReal)
    = transpose S8x4x32x1024x128 [0, 1, 3, 2, 4] (shapeCast S8x4x1024x32x128 (f (Proc.devRef .tc main_v16) : S8x4096x4096.Idx → EReal) shapeCasts_S8x4096x4096_S8x4x1024x32x128)
      transposes_S8x4x1024x32x128_S8x4x32x1024x128_0_1_3_2_4 := by
  after_results_simp
  rfl

/-- The operand is the weights cut into key blocks. -/
theorem entry_v19 (c : Dev nD) : (V m c main_v19 : S8x4x32x1024x128.Idx → EReal)
    = transpose S8x4x32x1024x128 [0, 1, 3, 2, 4] (shapeCast S8x4x1024x32x128 (weights m c) shapeCasts_S8x4096x4096_S8x4x1024x32x128)
      transposes_S8x4x1024x32x128_S8x4x32x1024x128_0_1_3_2_4 := by
  have e : V m c main_v19 = StableHlo.after hostOps0_9 (W0 m c) (Proc.devRef .tc main_v19) := by
    rw [← StableHlo.after_append]
    rfl
  exact e.trans (cut _)

/-- The weight of a key for a query, off the host's array. -/
theorem weight_eq (c : Dev nD) (h q k : ℕ) : weight (V m c main_v19) h q k = Cert.ReferenceIdeal.Sb.at3 (weights m c) h q k := by
  unfold weight Cert.ReferenceIdeal.Sb.at3
  by_cases H : h < 8 ∧ q < 4096 ∧ k < 4096
  · rw [dif_pos H, dif_pos H, entry_v19]
    obtain ⟨hh, hq, hk⟩ := H
    refine (transpose_apply _ _ _ _ (ix5 ⟨h, hh⟩ ⟨q / 1024, by omega⟩ ⟨q % 1024, by omega⟩ ⟨k / 128, by omega⟩ ⟨k % 128, by omega⟩ : S8x4x1024x32x128.Idx)
      fun b => by fin_cases b <;> rfl).trans ?_
    refine shapeCast_apply _ _ _ _ ((Shape.rowMajor_val_three _).trans (Eq.trans ?_ (Shape.rowMajor_val_five _).symm))
    show (h * 4096 + q) * 4096 + k = (((h * 4 + q / 1024) * 1024 + q % 1024) * 32 + k / 128) * 128 + k % 128
    omega
  · rw [dif_neg H, dif_neg H]

/-- Two numbers below the arrays' extent compare as words as they do as numbers. -/
theorem slt_word {a b : ℕ} (ha : a < 4096) (hb : b < 4096) (h : b ≤ a) : (BitVec.ofNat 32 a).slt (BitVec.ofNat 32 b) = false := by
  have ea : (BitVec.ofNat 32 a).toInt = (a : ℤ) := by
    rw [BitVec.toInt_eq_toNat_of_lt (by rw [BitVec.toNat_ofNat]; omega), BitVec.toNat_ofNat, Nat.mod_eq_of_lt (by omega)]
  have eb : (BitVec.ofNat 32 b).toInt = (b : ℤ) := by
    rw [BitVec.toInt_eq_toNat_of_lt (by rw [BitVec.toNat_ofNat]; omega), BitVec.toNat_ofNat, Nat.mod_eq_of_lt (by omega)]
  rw [BitVec.slt_eq_decide, ea, eb]
  exact decide_eq_false (by omega)

/-- The weights are causal. -/
theorem causal (c : Dev nD) : Causal (V m c main_v19) := by
  intro h q k hqk
  rw [weight_eq]
  unfold Cert.ReferenceIdeal.Sb.at3
  split
  · rename_i H
    obtain ⟨E, hE⟩ := weights_masked m c
    rw [hE]
    refine (if_neg fun hc => ?_).trans Ideal.ofBits_zero_f32
    have : BitVec.ofBool ((BitVec.ofNat 32 k).slt (BitVec.ofNat 32 q)) = (1 : BitVec 1) := hc
    rw [slt_word H.2.2 H.2.1 hqk] at this
    exact absurd this (by decide)
  · rfl

set_option maxHeartbeats 4000000 in
/-- The reference's result, of the same weights. -/
theorem reference_term (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc Cert.KernelIdeal.main_arg0))
    (h1 : m' ((c.tc : Thread Cert.ReferenceIdeal.nD Cert.ReferenceIdeal.τ).loc Cert.ReferenceIdeal.main_arg1) = m ((c.tc : Thread nD τ).loc Cert.KernelIdeal.main_arg1))
    (h3 : m' ((c.tc : Thread Cert.ReferenceIdeal.nD Cert.ReferenceIdeal.τ).loc Cert.ReferenceIdeal.main_arg3) = m ((c.tc : Thread nD τ).loc Cert.KernelIdeal.main_arg3)) :
    (Cert.ReferenceIdeal.Value.res_out0 (F := Ideal) m' c : S4096x512.Idx → EReal)
      = Cert.ReferenceIdeal.Sb.weighted (m ((c.tc : Thread nD τ).loc Cert.KernelIdeal.main_arg3)) (weights m c) := by
  unfold Cert.ReferenceIdeal.Value.res_out0 Cert.ReferenceIdeal.Value.res_main_v27
  rw [h0, h1, h3]
  unfold Cert.ReferenceIdeal.Sb.weighted
  refine congrArg (fun w : FVec Ideal Cert.ReferenceIdeal.S8x4096x4096 .f32 => Cert.ReferenceIdeal.Sb.weighted (m ((c.tc : Thread nD τ).loc Cert.KernelIdeal.main_arg3)) w) (Eq.symm ?_)
  show StableHlo.after _ (fun b => m (c, b)) _ = _
  simp only [hostOps0, hostOps0_1, hostOps0_2, hostOps0_3, hostOps0_4, hostOps0_5, hostOps0_6, hostOps0_7, hostOps0_8, List.flatten_cons, List.flatten_nil, List.append_nil, List.cons_append,
    List.nil_append, TRef.binary, TRef.nullary, TRef.ternary, TRef.unary, TRef.toBuf, TRef.ofBuf, cast_eq]
  after_results_simp
  rfl

end Cert.KernelIdeal.Sb

end
-- ==== Proof.DvValue.lean ====
/-
  The value gradient the attention gradient's call writes, over the extended reals: the second accumulator holds, after each
  point, the sum over the query rows met so far, and what a pair's last point writes of it are the reference's columns.
-/
module

public import proofs.«01_k».proof.Proof.Run
public import proofs.«01_k».proof.Proof.DvHost
public import Idealize.ShloMosaic.Lib.Pipeline.ArrRel
public import Idealize.ShloMosaic.Lib.Pipeline.ValueKit.Geometry

@[expose] public section

set_option maxRecDepth 16384

noncomputable section

namespace Cert.KernelIdeal.Sb

open Cert.KernelIdeal Cert.KernelIdeal.Gen Cert.Products
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg)

/-- The upstream gradients. -/
abbrev upstream (c : Dev nD) : FVec Ideal S4096x1024 .f32 := m ((c.tc : Thread nD τ).loc main_arg3)

/-- Which pair and query block a point works on, and which blocks it reads and writes. -/
theorem places : ∀ t : Fin cfg0.N, (grid0.coords t 0).val = t.val / 4 ∧ (grid0.coords t 1).val = t.val % 4
    ∧ win0_3.index t = ![t.val % 4, t.val / 4] ∧ win0_6.index t = ![0, t.val / 4] :=
  (by decide +kernel : ∀ t : Fin grid0.N, _)

/-- A point's block of the upstream gradients. -/
theorem grad_tile (c : Dev nD) (t : Fin cfg0.N) {r e : ℕ} (hr : r < 1024) (he : e < 128) :
    at2 (doBlk m c t : S1024x128.Idx → EReal) r e = at2 (upstream m c) (t.val % 4 * 1024 + r) (t.val / 4 * 128 + e) := by
  obtain ⟨-, -, h, -⟩ := places t
  refine at2_tile (upstream m c) _ (((cfg0.win 3).blk t).view.emb) _ _ (fun y => ?_) (fun y => ?_) (fun y => ?_) hr he
  · exact congrFun (V_main_arg3 m c) _
  · show win0_3.index t (0 : Fin 2) * 1024 + 1 * (y 0).val = _; rw [h]; rfl
  · show win0_3.index t (1 : Fin 2) * 128 + 1 * (y 1).val = _; rw [h]; rfl

/-- What query `q` gives key `k` in pair `p`'s column `e`. -/
def given (c : Dev nD) (p k e q : ℕ) : EReal := weight (V m c main_v19) (2 * p + e / 64) q k * at2 (upstream m c) q (p * 128 + e)

theorem point_sum (c : Dev nD) (t : Fin cfg0.N) (k e : ℕ) (he : e < 128) :
    pointSum (XA := V m c main_v19) (grid0.coords t) (doBlk m c t) k e
      = ∑ r ∈ Finset.range 1024, given m c (t.val / 4) k e (t.val % 4 * 1024 + r) := by
  obtain ⟨h0, h1, -, -⟩ := places t
  refine Finset.sum_congr rfl fun r hr => ?_
  unfold given
  rw [grad_tile m c t (Finset.mem_range.mp hr) he, h0, h1, Nat.mul_comm 1024]

/-- After a point the accumulator holds the sum over the pair's query rows met so far. -/
theorem acc_sum (c : Dev nD) : ∀ (n : ℕ) (h : n < cfg0.N) (f : AccV (F := Ideal) c), AccInv m c (n + 1) f → ∀ y : S4096x128.Idx,
    accV.view.read (Elt Ideal) f y = ∑ q ∈ Finset.range ((n % 4 + 1) * 1024), given m c (n / 4) (y 0).val (y 1).val q := by
  intro n
  induction n with
  | zero =>
    intro h f ⟨f₀, _, hB⟩ y
    obtain ⟨-, h1, -, -⟩ := places ⟨0, h⟩
    rw [point_adds c _ (causal m c) (hB h) y, if_pos (h1.trans (Nat.zero_mod 4)), zero_add, point_sum m c ⟨0, h⟩ _ _ (y 1).isLt]
    simp
  | succ n ih =>
    intro h f ⟨f₀, hf₀, hB⟩ y
    obtain ⟨-, h1, -, -⟩ := places ⟨n + 1, h⟩
    have h1 : (grid0.coords (⟨n + 1, h⟩ : Fin cfg0.N) 1).val = (n + 1) % 4 := h1
    rw [point_adds c _ (causal m c) (hB h) y, point_sum m c ⟨n + 1, h⟩ _ _ (y 1).isLt, h1]
    dsimp only
    by_cases hz : (n + 1) % 4 = 0
    · rw [if_pos hz, zero_add, hz]
      simp
    · rw [if_neg hz, ih (by omega) f₀ hf₀ y, show (n + 1) % 4 = n % 4 + 1 by omega, show (n + 1) / 4 = n / 4 by omega,
        ← Finset.sum_range_add, ← Nat.add_one_mul]

/-- The value gradient at an index. -/
def result (c : Dev nD) : S4096x512.Idx → EReal := fun y =>
  ∑ q ∈ Finset.range 4096, Cert.ReferenceIdeal.Sb.at3 (weights m c) ((y 1).val / 64) q (y 0).val * at2 (upstream m c) q (y 1).val

/-- What a pair's last point writes are the result's columns. -/
theorem written (c : Dev nD) (t : Fin cfg0.N) (hf : (cfg0.win 6).flush t = true) {X : (cfg0.win 6).block.Idx → Elt Ideal (cfg0.win 6).elt}
    (hX : (dats m c).Leaves 6 t X) (y : S4096x128.Idx) :
    (X : S4096x128.Idx → EReal) y = result m c (((cfg0.win 6).blk t).view.emb y) := by
  have ht : t.val % 4 = 3 := (flush0_6 t).mp hf
  obtain ⟨Y, -, hA⟩ := hX
  obtain ⟨f, hI, rfl⟩ := (show t.val % 4 = 3 → ∃ f, AccInv m c (t.val + 1) f ∧ X = (k0_pay3 (accV.view.read (Elt Ideal) f) : FVec Ideal S4096x128 .bf16) from hA) ht
  obtain ⟨-, -, -, h6⟩ := places t
  have h1 : (y 1).val < 128 := (y 1).isLt
  have e0 : (((cfg0.win 6).blk t).view.emb y 0).val = (y 0).val := by
    show win0_6.index t (0 : Fin 2) * 4096 + 1 * (y 0).val = _; rw [h6, Nat.one_mul]; exact (congrArg (· + _) (Nat.zero_mul _)).trans (Nat.zero_add _)
  have e1 : (((cfg0.win 6).blk t).view.emb y 1).val = t.val / 4 * 128 + (y 1).val := by
    show win0_6.index t (1 : Fin 2) * 128 + 1 * (y 1).val = _; rw [h6, Nat.one_mul]; rfl
  refine (acc_sum m c t.val t.isLt f hI y).trans ?_
  unfold result
  rw [e0, e1, ht]
  refine Finset.sum_congr rfl fun q _ => ?_
  unfold given
  rw [weight_eq, show 2 * (t.val / 4) + (y 1).val / 64 = (t.val / 4 * 128 + (y 1).val) / 64 by omega]

/-- The third array after the run. -/
theorem array {r : PUnit × MemSt nD τ sig (Elt Ideal)}
    (h : Pipeline.RDat.FramePost (cfgs 0) (fun c => dats (F := Ideal) m c) (V m) r) (c : Dev nD) :
    r.2.mem ((c.tc : Thread nD τ).loc main_v24_2) = result m c := by
  obtain ⟨after, hL, hA⟩ := h.exists_exact c
  refine (hA 6).trans ?_
  refine ((dats (F := Ideal) m c).withAfter after).arrAt_eq_of_covers (6 : Fin cfg0.W) (result m c) (by decide +kernel) fun t hf y => ?_
  exact written m c t hf (hL 6 t hf) y

end Cert.KernelIdeal.Sb

namespace Cert.Proof

open Idealize.ShloMosaic Idealize.ShloMosaic.TcCoe Idealize.SL.Sem

theorem algebraic_dv : Cert.algebraic_KernelIdeal_ReferenceIdeal := by
  intro m ρ m' ρ' _ hagree
  refine ⟨fun c => Cert.KernelIdeal.Sb.result m c,
    (θ_run Cert.KernelIdeal.defs _ _).mono (fun _ h c => ⟨Cert.KernelIdeal.Sb.array m h.1 c, Cert.KernelIdeal.Sb.final h.1 c⟩)
      (Cert.KernelIdeal.Sb.run_main (F := Ideal) m ρ),
    (θ_run Cert.ReferenceIdeal.defs _ _).mono (fun _ h c => ⟨(h c).1.trans ?_, (h c).2⟩)
      (Cert.ReferenceIdeal.Value.run (F := Ideal) m' ρ')⟩
  obtain ⟨h0, h1, -, h3⟩ := hagree c
  refine (Cert.KernelIdeal.Sb.reference_term m m' c h0 h1 h3).trans (funext fun y => ?_)
  exact Cert.ReferenceIdeal.Sb.weighted_apply _ _ y

end Cert.Proof

end
-- ==== Proof.LayerNorm.lean ====
/-
  The first layer norm of the forward pass, eight blocks of rows: each row is centred by its mean, scaled by the inverse
  root of its variance, and then by the gain and the shift; in float32 and rounded to bfloat16.
-/
module

public import proofs.«01_k».proof.Defs
public import proofs.«01_k».proof.Proof.Products
public import proofs.«01_k».proof.Proof.Gen.NormIdeal.Value
public import proofs.«01_k».proof.Proof.Gen.NormRefIdeal.Run
public import Idealize.ShloMosaic.Lib.Pipeline.ValueKit.Geometry
public import Idealize.ShloMosaic.Lib.Pointwise.Reduce
public import Idealize.ShloMosaic.Lib.IdealHost
public import Idealize.ShloMosaic.Lib.ValueLayoutCasts
public import Idealize.ShloMosaic.Lib.Tactic

@[expose] public section

noncomputable section

namespace Cert.LayerNorm

open Idealize.ShloMosaic

variable {R : ℕ}

/-- A row's mean. -/
def mean (v : (⟨2, ![R, 1024]⟩ : Shape).Idx → EReal) (i : Fin R) : EReal :=
  FloatOps.divf (F := Ideal) (φ := .f32) (∑ k : Fin 1024, v (ValueIdx.ix2 i k)) (Scalar.ofBits .f32 0x44800000#32)

/-- The rows less their means. -/
def centred (v : (⟨2, ![R, 1024]⟩ : Shape).Idx → EReal) : (⟨2, ![R, 1024]⟩ : Shape).Idx → EReal := fun y =>
  FloatOps.subf (F := Ideal) (φ := .f32) (v y) (mean v (y 0))

/-- The squares of a matrix's elements. -/
def squares (v : (⟨2, ![R, 1024]⟩ : Shape).Idx → EReal) : (⟨2, ![R, 1024]⟩ : Shape).Idx → EReal := fun y =>
  FloatOps.mulf (F := Ideal) (φ := .f32) (v y) (v y)

/-- The inverse root of a row's variance. -/
def scale (v : (⟨2, ![R, 1024]⟩ : Shape).Idx → EReal) (i : Fin R) : EReal :=
  FloatOps.rsqrt (F := Ideal) (φ := .f32) (FloatOps.addf (F := Ideal) (φ := .f32) (mean (squares (centred v)) i)
    (Scalar.ofBits .f32 0x3727C5AC#32))

/-- The layer norm of the rows. -/
def norm (v : (⟨2, ![R, 1024]⟩ : Shape).Idx → EReal) (g b : (⟨2, ![1, 1024]⟩ : Shape).Idx → EReal) :
    FVec Ideal ⟨2, ![R, 1024]⟩ .f32 := fun y =>
  FloatOps.addf (F := Ideal) (φ := .f32) (FloatOps.mulf (F := Ideal) (φ := .f32)
    (FloatOps.mulf (F := Ideal) (φ := .f32) (centred v y) (scale v (y 0))) (g (ValueIdx.ix2 0 (y 1)))) (b (ValueIdx.ix2 0 (y 1)))

/-- The mean, the centred row and the scale of a row depend on that row alone. -/
theorem mean_row {Q : ℕ} (v : (⟨2, ![R, 1024]⟩ : Shape).Idx → EReal) (w : (⟨2, ![Q, 1024]⟩ : Shape).Idx → EReal) (i : Fin R)
    (j : Fin Q) (h : ∀ k, v (ValueIdx.ix2 i k) = w (ValueIdx.ix2 j k)) : mean v i = mean w j := by
  unfold mean; rw [Finset.sum_congr rfl fun k _ => h k]

theorem centred_row {Q : ℕ} (v : (⟨2, ![R, 1024]⟩ : Shape).Idx → EReal) (w : (⟨2, ![Q, 1024]⟩ : Shape).Idx → EReal) (i : Fin R)
    (j : Fin Q) (h : ∀ k, v (ValueIdx.ix2 i k) = w (ValueIdx.ix2 j k)) (k : Fin 1024) :
    centred v (ValueIdx.ix2 i k) = centred w (ValueIdx.ix2 j k) :=
  congrArg₂ (FloatOps.subf (F := Ideal) (φ := .f32)) (h k) (mean_row v w i j h)

theorem scale_row {Q : ℕ} (v : (⟨2, ![R, 1024]⟩ : Shape).Idx → EReal) (w : (⟨2, ![Q, 1024]⟩ : Shape).Idx → EReal) (i : Fin R)
    (j : Fin Q) (h : ∀ k, v (ValueIdx.ix2 i k) = w (ValueIdx.ix2 j k)) : scale v i = scale w j := by
  unfold scale
  rw [mean_row (squares (centred v)) (squares (centred w)) i j fun k => by unfold squares; rw [centred_row v w i j h k]]

/-- So does the layer norm. -/
theorem norm_row {Q : ℕ} (v : (⟨2, ![R, 1024]⟩ : Shape).Idx → EReal) (w : (⟨2, ![Q, 1024]⟩ : Shape).Idx → EReal)
    (g b : (⟨2, ![1, 1024]⟩ : Shape).Idx → EReal) (i : Fin R)
    (j : Fin Q) (h : ∀ k, v (ValueIdx.ix2 i k) = w (ValueIdx.ix2 j k)) (k : Fin 1024) :
    norm v g b (ValueIdx.ix2 i k) = norm w g b (ValueIdx.ix2 j k) := by
  show FloatOps.addf (F := Ideal) (φ := .f32) (FloatOps.mulf (F := Ideal) (φ := .f32)
    (FloatOps.mulf (F := Ideal) (φ := .f32) (centred v (ValueIdx.ix2 i k)) (scale v i)) _) _ = _
  rw [centred_row v w i j h k, scale_row v w i j h]; rfl

/-- The means as the body computes them, kept as a column. -/
theorem mean_body (v : FVec Ideal ⟨2, ![R, 1024]⟩ .f32) (h : (⟨2, ![R, 1024]⟩ : Shape).Reduces [1] ⟨1, ![R]⟩) (hφ)
    (hacc) (hs : (⟨1, ![R]⟩ : Shape).ShapeCasts ⟨2, ![R, 1]⟩) :
    divf (shapeCast ⟨2, ![R, 1]⟩ (multiReduction .add [1] ⟨1, ![R]⟩ v 0x00000000#32 h hφ hacc) hs)
      (broadcast ⟨2, ![R, 1]⟩ (Scalar.ofBits .f32 0x44800000#32)) = fun y => mean v (y 0) := by
  funext y
  refine congrArg (FloatOps.divf (F := Ideal) (φ := .f32) · (Scalar.ofBits .f32 0x44800000#32)) ?_
  exact (congrArg (shapeCast ⟨2, ![R, 1]⟩ (multiReduction .add [1] ⟨1, ![R]⟩ v 0x00000000#32 h hφ hacc) hs)
    (ValueIdx.eq_ix2 y)).trans ((ValueIdx.shapeCast_a_a1_apply _ hs (y 0) (y 1)).trans (Ideal.reduceAdd_r2_a1 h v _))

/-- The sum of a row in the reference. -/
theorem total_host (v : FVec Ideal ⟨2, ![R, 1024]⟩ .f32) (h : (⟨2, ![R, 1024]⟩ : Shape).ReducesTo [1] ⟨1, ![R]⟩)
    (hu : 0 < (⟨0, ![]⟩ : Shape).numel) (i : Fin R) :
    Host.reduceAdd v (constant ⟨0, ![]⟩ .f32 0x00000000#32) h hu (ValueIdx.ix1 i) = ∑ k : Fin 1024, v (ValueIdx.ix2 i k) := by
  rw [Host.reduceAdd_apply, Ideal.hostReduceAdd_def, Ideal.hostReduceAdd_r2_a1,
    show (constant (F := Ideal) ⟨0, ![]⟩ .f32 0x00000000#32) (Shape.Idx.first hu) = (0 : EReal) from Ideal.ofBits_zero_f32,
    zero_add]
  rfl

/-- A vector kept as a column. -/
theorem column_host (x : (⟨1, ![R]⟩ : Shape).Idx → EReal) (h : (⟨1, ![R]⟩ : Shape).BroadcastsInDim ⟨2, ![R, 1]⟩ ![0])
    (hR : R ≠ 1) (i : Fin R) (u : Fin 1) : broadcastInDim ⟨2, ![R, 1]⟩ ![0] h x (ValueIdx.ix2 i u) = x (ValueIdx.ix1 i) :=
  broadcastInDim_apply ![0] h x (ValueIdx.ix2 i u) (ValueIdx.ix1 i) fun a => by
    match a with
    | ⟨0, _⟩ => exact (if_neg hR).symm

/-- The same in the reference. -/
theorem mean_host (v : FVec Ideal ⟨2, ![R, 1024]⟩ .f32) (h : (⟨2, ![R, 1024]⟩ : Shape).ReducesTo [1] ⟨1, ![R]⟩)
    (hu : 0 < (⟨0, ![]⟩ : Shape).numel) (hb : (⟨1, ![R]⟩ : Shape).BroadcastsInDim ⟨2, ![R, 1]⟩ ![0])
    (hc : (⟨0, ![]⟩ : Shape).BroadcastsInDim ⟨2, ![R, 1]⟩ ![]) (hR : R ≠ 1) :
    Host.divf (broadcastInDim ⟨2, ![R, 1]⟩ ![0] hb (Host.reduceAdd v (constant ⟨0, ![]⟩ .f32 0x00000000#32) h hu))
      (broadcastInDim ⟨2, ![R, 1]⟩ ![] hc (constant (F := Ideal) ⟨0, ![]⟩ .f32 0x44800000#32)) = fun y => mean v (y 0) := by
  have e (i : Fin R) (u : Fin 1) := (column_host _ hb hR i u).trans (total_host v h hu i)
  generalize broadcastInDim ⟨2, ![R, 1]⟩ ![0] hb (Host.reduceAdd v (constant ⟨0, ![]⟩ .f32 0x00000000#32) h hu) = w at e ⊢
  funext y
  exact congrArg (FloatOps.divf (F := Ideal) (φ := .f32) · (Scalar.ofBits .f32 0x44800000#32))
    ((congrArg w (ValueIdx.eq_ix2 y)).trans (e (y 0) (y 1)))

/-- A column spread over the columns, in the body and in the reference. -/
theorem spread_body (w : (⟨2, ![R, 1]⟩ : Shape).Idx → EReal) (h : (⟨2, ![R, 1]⟩ : Shape).Broadcasts ⟨2, ![R, 1024]⟩)
    (hR : R ≠ 1) : broadcastTo ⟨2, ![R, 1024]⟩ w h = fun y => w (ValueIdx.ix2 (y 0) 0) := by
  funext y
  exact broadcastTo_apply w h y (ValueIdx.ix2 (y 0) 0) fun a => by
    match a with
    | ⟨0, _⟩ => exact (if_neg hR).symm
    | ⟨1, _⟩ => rfl

theorem spread_host (w : (⟨2, ![R, 1]⟩ : Shape).Idx → EReal)
    (h : (⟨2, ![R, 1]⟩ : Shape).BroadcastsInDim ⟨2, ![R, 1024]⟩ ![0, 1])
    (hR : R ≠ 1) : broadcastInDim ⟨2, ![R, 1024]⟩ ![0, 1] h w = fun y => w (ValueIdx.ix2 (y 0) 0) := by
  funext y
  exact broadcastInDim_apply ![0, 1] h w y (ValueIdx.ix2 (y 0) 0) fun a => by
    match a with
    | ⟨0, _⟩ => exact (if_neg hR).symm
    | ⟨1, _⟩ => rfl

/-- A row spread over the rows. -/
theorem repeat_body (w : (⟨2, ![1, 1024]⟩ : Shape).Idx → EReal) (h : (⟨2, ![1, 1024]⟩ : Shape).Broadcasts ⟨2, ![R, 1024]⟩) :
    broadcastTo ⟨2, ![R, 1024]⟩ w h = fun y => w (ValueIdx.ix2 0 (y 1)) := by
  funext y
  exact broadcastTo_apply w h y (ValueIdx.ix2 0 (y 1)) fun a => by
    match a with
    | ⟨0, _⟩ => rfl
    | ⟨1, _⟩ => rfl

theorem repeat_host (w : (⟨2, ![1, 1024]⟩ : Shape).Idx → EReal)
    (h : (⟨2, ![1, 1024]⟩ : Shape).BroadcastsInDim ⟨2, ![R, 1024]⟩ ![0, 1]) :
    broadcastInDim ⟨2, ![R, 1024]⟩ ![0, 1] h w = fun y => w (ValueIdx.ix2 0 (y 1)) := by
  funext y
  exact broadcastInDim_apply ![0, 1] h w y (ValueIdx.ix2 0 (y 1)) fun a => by
    match a with
    | ⟨0, _⟩ => rfl
    | ⟨1, _⟩ => rfl

/-- The norm as the body computes it. -/
theorem norm_body (v : FVec Ideal ⟨2, ![R, 1024]⟩ .f32) (g b : FVec Ideal ⟨2, ![1, 1024]⟩ .f32)
    (h : (⟨2, ![R, 1024]⟩ : Shape).Reduces [1] ⟨1, ![R]⟩) (hφ) (hacc) (hs : (⟨1, ![R]⟩ : Shape).ShapeCasts ⟨2, ![R, 1]⟩)
    (hb : (⟨2, ![R, 1]⟩ : Shape).Broadcasts ⟨2, ![R, 1024]⟩) (hr : (⟨2, ![1, 1024]⟩ : Shape).Broadcasts ⟨2, ![R, 1024]⟩)
    (hR : R ≠ 1) (μ d : FVec Ideal ⟨2, ![R, 1024]⟩ .f32)
    (hμ : μ = broadcastTo ⟨2, ![R, 1024]⟩ (divf
      (shapeCast ⟨2, ![R, 1]⟩ (multiReduction .add [1] ⟨1, ![R]⟩ v 0x00000000#32 h hφ hacc) hs)
      (broadcast ⟨2, ![R, 1]⟩ (Scalar.ofBits .f32 0x44800000#32))) hb) (hd : d = subf v μ) :
    addf (mulf (mulf d (broadcastTo ⟨2, ![R, 1024]⟩ (rsqrt (addf (divf
      (shapeCast ⟨2, ![R, 1]⟩ (multiReduction .add [1] ⟨1, ![R]⟩ (mulf d d) 0x00000000#32 h hφ hacc) hs)
      (broadcast ⟨2, ![R, 1]⟩ (Scalar.ofBits .f32 0x44800000#32))) (broadcast ⟨2, ![R, 1]⟩ (Scalar.ofBits .f32 0x3727C5AC#32))))
      hb)) (broadcastTo ⟨2, ![R, 1024]⟩ g hr)) (broadcastTo ⟨2, ![R, 1024]⟩ b hr) = norm v g b := by
  rw [mean_body, spread_body _ _ hR] at hμ
  obtain rfl : d = centred v := by rw [hd, hμ]; rfl
  rw [mean_body, spread_body _ _ hR, repeat_body, repeat_body]
  rfl

/-- The norm as the reference computes it. -/
theorem norm_host (v : FVec Ideal ⟨2, ![R, 1024]⟩ .f32) (g b : FVec Ideal ⟨2, ![1, 1024]⟩ .f32)
    (h : (⟨2, ![R, 1024]⟩ : Shape).ReducesTo [1] ⟨1, ![R]⟩) (hu : 0 < (⟨0, ![]⟩ : Shape).numel)
    (hs : (⟨1, ![R]⟩ : Shape).BroadcastsInDim ⟨2, ![R, 1]⟩ ![0]) (hc : (⟨0, ![]⟩ : Shape).BroadcastsInDim ⟨2, ![R, 1]⟩ ![])
    (hb : (⟨2, ![R, 1]⟩ : Shape).BroadcastsInDim ⟨2, ![R, 1024]⟩ ![0, 1])
    (hr : (⟨2, ![1, 1024]⟩ : Shape).BroadcastsInDim ⟨2, ![R, 1024]⟩ ![0, 1]) (hR : R ≠ 1) (μ d : FVec Ideal ⟨2, ![R, 1024]⟩ .f32)
    (hμ : μ = broadcastInDim ⟨2, ![R, 1024]⟩ ![0, 1] hb (Host.divf
      (broadcastInDim ⟨2, ![R, 1]⟩ ![0] hs (Host.reduceAdd v (constant ⟨0, ![]⟩ .f32 0x00000000#32) h hu))
      (broadcastInDim ⟨2, ![R, 1]⟩ ![] hc (constant ⟨0, ![]⟩ .f32 0x44800000#32)))) (hd : d = subf v μ) :
    addf (mulf (mulf d (broadcastInDim ⟨2, ![R, 1024]⟩ ![0, 1] hb (Host.rsqrt (addf (Host.divf
      (broadcastInDim ⟨2, ![R, 1]⟩ ![0] hs (Host.reduceAdd (mulf d d) (constant ⟨0, ![]⟩ .f32 0x00000000#32) h hu))
      (broadcastInDim ⟨2, ![R, 1]⟩ ![] hc (constant ⟨0, ![]⟩ .f32 0x44800000#32)))
      (broadcastInDim ⟨2, ![R, 1]⟩ ![] hc (constant ⟨0, ![]⟩ .f32 0x3727C5AC#32))))))
      (broadcastInDim ⟨2, ![R, 1024]⟩ ![0, 1] hr g)) (broadcastInDim ⟨2, ![R, 1024]⟩ ![0, 1] hr b) = norm v g b := by
  rw [mean_host _ _ _ _ _ hR, spread_host _ _ hR] at hμ
  obtain rfl : d = centred v := by rw [hd, hμ]; rfl
  rw [mean_host _ _ _ _ _ hR, spread_host _ _ hR, repeat_host, repeat_host]
  rfl

end Cert.LayerNorm

namespace Cert.NormIdeal.Step

open Cert.NormIdeal Cert.NormIdeal.Gen Cert.NormIdeal.Value Cert.LayerNorm Cert.Products
open Idealize.ShloMosaic Idealize.ShloMosaic.TcCoe Idealize.SL.Sem

variable (m : (ℓ : Loc nD τ sig) → Buf (Elt Ideal) ℓ) (c : Dev nD) (t : Fin cfg0.N)

/-- The tokens, the gain and the shift. -/
abbrev tokens : S4096x1024.Idx → EReal := m ((c : Thread nD τ).loc main_arg0)
abbrev gain : S1x1024.Idx → EReal := m ((c : Thread nD τ).loc main_arg1)
abbrev shift : S1x1024.Idx → EReal := m ((c : Thread nD τ).loc main_arg2)

/-- What the body computes of a block of rows. -/
theorem block_norm (x : FVec Ideal S512x1024 .f32) (g b : FVec Ideal S1x1024 .f32) :
    k0_pay1 x g b = norm (R := 512) x g b := by
  rw [lay3_0_eq]
  exact norm_body (R := 512) x g b _ _ _ _ _ _ (by decide) _ _ rfl rfl

theorem block_rounded (x : FVec Ideal S512x1024 .f32) (g b : FVec Ideal S1x1024 .f32) :
    k0_pay2 x g b = truncf .bf16 (norm (R := 512) x g b) bitsLt_bf16_f32 := congrArg (truncf .bf16 · _) (block_norm x g b)

/-- A point's blocks: its rows of the tokens, the whole gain, the whole shift. -/
theorem block_gain : iblk m c 1 t = gain m c := by
  refine funext fun y => congrArg (m ((c : Thread nD τ).loc main_arg1)) (funext fun a => Fin.ext ?_)
  fin_cases a
  · show 0 * 1 + 1 * (y 0).val = (y 0).val; omega
  · show 0 * 1024 + 1 * (y 1).val = (y 1).val; omega

theorem block_shift : iblk m c 2 t = shift m c := by
  refine funext fun y => congrArg (m ((c : Thread nD τ).loc main_arg2)) (funext fun a => Fin.ext ?_)
  fin_cases a
  · show 0 * 1 + 1 * (y 0).val = (y 0).val; omega
  · show 0 * 1024 + 1 * (y 1).val = (y 1).val; omega

/-- The norm of a point's rows is those rows of the norm. -/
theorem rows (y : S512x1024.Idx) : norm (R := 512) (iblk m c 0 t : S512x1024.Idx → EReal) (gain m c) (shift m c) y
    = norm (R := 4096) (tokens m c) (gain m c) (shift m c) (((cfg0.win 3).blk t).view.emb y) := by
  have e (k : Fin 1024) : ((cfg0.win 3).blk t).view.emb (ValueIdx.ix2 (y 0) k)
      = ValueIdx.ix2 ((((cfg0.win 3).blk t).view.emb y) 0) k := by
    refine funext fun a => Fin.ext ?_
    fin_cases a
    · rfl
    · show 0 * 1024 + 1 * k.val = k.val; omega
  have h := norm_row (R := 512) (Q := 4096) (iblk m c 0 t : S512x1024.Idx → EReal) (tokens m c) (gain m c) (shift m c) (y 0)
    ((((cfg0.win 3).blk t).view.emb y) 0) (fun k => congrArg (m ((c : Thread nD τ).loc main_arg0)) (e k)) (y 1)
  refine (congrArg (norm (R := 512) (iblk m c 0 t : S512x1024.Idx → EReal) (gain m c) (shift m c)) (ValueIdx.eq_ix2 y)).trans
    (h.trans (congrArg (norm (R := 4096) (tokens m c) (gain m c) (shift m c)) ?_))
  exact (e (y 1)).symm.trans (congrArg ((cfg0.win 3).blk t).view.emb (ValueIdx.eq_ix2 y).symm)

/-- What a point writes back. -/
theorem flushed_y : (dats m 0 c).flushed 3 t = ((cfg0.win 3).blk t).view.read (Elt Ideal)
    (norm (R := 4096) (tokens m c) (gain m c) (shift m c)) := by
  rw [flushed3]; unfold out0_3; rw [View.canon_unit_zero origin]
  simp only [View.ld_unit_zero (S := S512x1024) origin, View.ld_unit_zero (S := S1x1024) origin]
  rw [block_norm, block_gain, block_shift]
  exact funext fun y => rows m c t y

theorem flushed_b : (dats m 0 c).flushed 4 t = ((cfg0.win 4).blk t).view.read (Elt Ideal)
    (norm (R := 4096) (tokens m c) (gain m c) (shift m c)) := by
  rw [flushed4]; unfold out0_4; rw [View.canon_unit_zero origin]
  simp only [View.ld_unit_zero (S := S512x1024) origin, View.ld_unit_zero (S := S1x1024) origin]
  rw [block_rounded, block_gain, block_shift]
  exact funext fun y => rows m c t y

/-- The two arrays after the run: the points' blocks cover them. -/
theorem final : (dats m 0 c).arrAt 3 cfg0.N = norm (R := 4096) (tokens m c) (gain m c) (shift m c)
    ∧ (dats m 0 c).arrAt 4 cfg0.N = norm (R := 4096) (tokens m c) (gain m c) (shift m c) :=
  ⟨(dats m 0 c).arrAt_eq_of_cover 3 _ (fun t _ => flushed_y m c t)
      ((by decide +kernel : (cfg0.win 3).Covers).cover _ (Memref.isWhole_whole _)),
    (dats m 0 c).arrAt_eq_of_cover 4 _ (fun t _ => flushed_b m c t)
      ((by decide +kernel : (cfg0.win 4).Covers).cover _ (Memref.isWhole_whole _))⟩

end Cert.NormIdeal.Step

namespace Cert.Proof

open Idealize.ShloMosaic Idealize.ShloMosaic.TcCoe Idealize.SL.Sem

theorem frame_NormRefIdeal : Cert.quiescent_NormRefIdeal := fun m ρ _ =>
  (θ_run Cert.NormRefIdeal.defs _ _).mono (fun r h => ⟨fun c => (h c).2.2, sem_eq_zero_of_no_sems (by decide) r.2⟩)
    (Cert.NormRefIdeal.Value.run (F := Ideal) m ρ)

theorem algebraic_Norm : Cert.algebraic_NormIdeal_NormRefIdeal := by
  intro m ρ m' ρ' _ hagree
  refine ⟨_, _, (θ_run Cert.NormIdeal.defs _ _).mono (fun _ h c =>
      have f := Cert.NormIdeal.Step.final m c
      ⟨(h c).1.trans f.1, (h c).2.1.trans f.2, (h c).2.2⟩)
      (Cert.NormIdeal.Value.run_blocks (F := Ideal) m ρ),
    (θ_run Cert.NormRefIdeal.defs _ _).mono (fun _ h c => ?_) (Cert.NormRefIdeal.Value.run (F := Ideal) m' ρ')⟩
  have h' := h c
  obtain ⟨h0, h1, h2⟩ := hagree c
  rw [h0, h1, h2] at h'
  exact ⟨h'.1.trans (Cert.LayerNorm.norm_host (R := 4096) _ _ _ _ _ _ _ _ _ (by decide) _ _ rfl rfl),
    h'.2.1.trans (congrArg (truncf .bf16 · _)
      (Cert.LayerNorm.norm_host (R := 4096) _ _ _ _ _ _ _ _ _ (by decide) _ _ rfl rfl)), (h c).2.2⟩

end Cert.Proof

end
-- ==== Proof.Adam.lean ====
/-
  The step of the optimiser on one weight, over arrays of any shape: the gradients received from the eight devices are
  added up, the two running averages move, and the step is their corrected quotient and the weight's decay.
-/
module

public import Idealize.ShloMosaic.PureOps.Ideal.Laws
public import Idealize.ShloMosaic.Lib.ValueIdxCore
public import Idealize.ShloMosaic.Lib.ValueLayout
public import Idealize.ShloMosaic.Lib.IdealHost
public import Idealize.ShloMosaic.Lib.KernelVsHost
public import Idealize.ShloMosaic.Lib.Pipeline.Value
public import Idealize.ShloMosaic.Lib.Pipeline.ValueKit.Tiles
public import Idealize.ShloMosaic.Lib.Pointwise.Reduce

@[expose] public section

noncomputable section

namespace Cert.Adam

open Idealize.ShloMosaic Idealize.ShloMosaic.ValueIdx
open scoped BigOperators

variable {A B : ℕ} {s : Shape}

/-- What device `k` sent. -/
def slice (x : (⟨3, ![8, A, B]⟩ : Shape).Idx → EReal) (k : Fin 8) : (⟨2, ![A, B]⟩ : Shape).Idx → EReal :=
  fun y => x (ValueIdx.ix3 k (y 0) (y 1))

/-- The gradients of the eight devices added up. -/
def total (x : (⟨3, ![8, A, B]⟩ : Shape).Idx → EReal) : (⟨2, ![A, B]⟩ : Shape).Idx → EReal :=
  fun y => slice x 0 y + slice x 1 y + slice x 2 y + slice x 3 y + slice x 4 y + slice x 5 y + slice x 6 y + slice x 7 y

/-- The running average of the gradient. -/
def first (g m : FVec Ideal s .f32) : FVec Ideal s .f32 :=
  addf (mulf (broadcast s (Scalar.ofBits .f32 0x3F666666#32)) m) (mulf (broadcast s (Scalar.ofBits .f32 0x3DCCCCCD#32)) g)

/-- The running average of its square. -/
def second (g v : FVec Ideal s .f32) : FVec Ideal s .f32 :=
  addf (mulf (broadcast s (Scalar.ofBits .f32 0x3F7FBE77#32)) v)
    (mulf (broadcast s (Scalar.ofBits .f32 0x3A83126F#32)) (mulf g g))

/-- The step the weight takes. -/
def step (g w m v : FVec Ideal s .f32) : FVec Ideal s .f32 :=
  mulf (broadcast s (Scalar.ofBits .f32 0xBA83126F#32))
    (addf (divf (divf (first g m) (broadcast s (Scalar.ofBits .f32 0x3F26BD02#32)))
        (addf (sqrt (divf (second g v) (broadcast s (Scalar.ofBits .f32 0x3C231ACC#32))))
          (broadcast s (Scalar.ofBits .f32 0x322BCC77#32))))
      (mulf (broadcast s (Scalar.ofBits .f32 0x3C23D70A#32)) w))

/-- The reference's sum over the devices. -/
theorem total_host {u : Shape} (x : FVec Ideal ⟨3, ![8, A, B]⟩ .f32) (init : FVec Ideal u .f32)
    (h : (⟨3, ![8, A, B]⟩ : Shape).ReducesTo [0] ⟨2, ![A, B]⟩) (hu : 0 < u.numel) (hi : init (Shape.Idx.first hu) = 0) :
    Host.reduceAdd x init h hu = total x := by
  funext y
  rw [hostReduceAdd_apply, Ideal.hostReduceAdd_r3_a0, hi, Fin.sum_univ_eight]
  exact zero_add _

/-- A device's part of a block lies in it. -/
theorem inside (k : Fin 8) (a : Fin 3) :
    (![k.val, 0, 0] : Fin 3 → ℕ) a + (![1, A, B] : Fin 3 → ℕ) a ≤ (⟨3, ![8, A, B]⟩ : Shape).size a := by
  fin_cases a
  · show k.val + 1 ≤ 8; omega
  · show 0 + A ≤ A; omega
  · show 0 + B ≤ B; omega

/-- A device's part of a block as the kernel has it in hand. -/
abbrev part (x : (⟨3, ![8, A, B]⟩ : Shape).Idx → EReal) (k : Fin 8)
    (h : (⟨3, ![1, A, B]⟩ : Shape).ShapeCasts ⟨2, ![A, B]⟩) : (⟨2, ![A, B]⟩ : Shape).Idx → EReal :=
  shapeCast ⟨2, ![A, B]⟩ (View.ld (Val := fun _ => EReal) (e' := .f32) x
    (Rect.unit (s := ⟨3, ![8, A, B]⟩) ![k.val, 0, 0] ![1, A, B] (inside k))) h

theorem part_apply (x : (⟨3, ![8, A, B]⟩ : Shape).Idx → EReal) (k : Fin 8)
    (h : (⟨3, ![1, A, B]⟩ : Shape).ShapeCasts ⟨2, ![A, B]⟩) (y : (⟨2, ![A, B]⟩ : Shape).Idx) : part x k h y = slice x k y := by
  refine (congrArg (part x k h) (ValueIdx.eq_ix2 y)).trans ((shapeCast_1ab_ab_apply _ h (y 0) (y 1)).trans ?_)
  refine congrArg x (funext fun a => Fin.ext ?_)
  fin_cases a
  · show k.val + 1 * 0 = k.val; omega
  · show 0 + 1 * (y 0).val = (y 0).val; omega
  · show 0 + 1 * (y 1).val = (y 1).val; omega

/-- The kernel's sum over the devices. -/
theorem gathered (x : (⟨3, ![8, A, B]⟩ : Shape).Idx → EReal)
    (h : (⟨3, ![1, A, B]⟩ : Shape).ShapeCasts ⟨2, ![A, B]⟩) :
    (fun y => part x 0 h y + part x 1 h y + part x 2 h y + part x 3 h y + part x 4 h y + part x 5 h y + part x 6 h y
      + part x 7 h y) = total x := by
  funext y
  simp only [part_apply]
  rfl

/-- The step on a block is the block of the step: everything but the sum works element by element. -/
theorem blockwise {R C : ℕ} (x : (⟨3, ![8, R, C]⟩ : Shape).Idx → EReal) (w m v : FVec Ideal ⟨2, ![R, C]⟩ .f32)
    (z : (⟨3, ![8, A, B]⟩ : Shape).Idx → EReal) (e : (⟨2, ![A, B]⟩ : Shape).Idx → (⟨2, ![R, C]⟩ : Shape).Idx)
    (hz : ∀ (k : Fin 8) y, slice z k y = slice x k (e y)) :
    total z = (fun y => total x (e y))
      ∧ step (s := ⟨2, ![A, B]⟩) (total z) (fun y => w (e y)) (fun y => m (e y)) (fun y => v (e y))
        = (fun y => step (s := ⟨2, ![R, C]⟩) (total x) w m v (e y))
      ∧ first (s := ⟨2, ![A, B]⟩) (total z) (fun y => m (e y)) = (fun y => first (s := ⟨2, ![R, C]⟩) (total x) m (e y))
      ∧ second (s := ⟨2, ![A, B]⟩) (total z) (fun y => v (e y))
        = (fun y => second (s := ⟨2, ![R, C]⟩) (total x) v (e y)) := by
  have h : total z = fun y => total x (e y) := by
    funext y
    unfold total
    simp only [hz]
  rw [h]
  exact ⟨rfl, rfl, rfl, rfl⟩

end Cert.Adam

end
-- ==== Proof.RepBody.lean ====
/-
  The optimiser's step on the weights every device holds whole, and the loss: what the body of the call leaves in its
  twenty-nine results.
-/
module

public import proofs.«01_k».proof.Proof.Adam
public import proofs.«01_k».proof.Proof.Products
public import proofs.«01_k».proof.Proof.Gen.ARepIdeal.Launch
public import proofs.«01_k».proof.Proof.Gen.ARepIdeal.Skeleton
public import proofs.«01_k».proof.Proof.Gen.ARepIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.ARepIdeal.Body

open Cert.ARepIdeal Cert.ARepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {n : ℕ}

/-- A row, and what the eight devices sent for it. -/
abbrev Row (n : ℕ) : Shape := ⟨2, ![1, n]⟩
abbrev Rows (n : ℕ) : Shape := ⟨3, ![8, 1, n]⟩

theorem casts (n : ℕ) : (⟨3, ![1, 1, n]⟩ : Shape).ShapeCasts (Row n) := by
  simp [Shape.ShapeCasts, Shape.numel, Fin.prod_univ_succ]

theorem within (n : ℕ) (a : Fin 2) : (![0, 0] : Fin 2 → ℕ) a + (Row n).size a ≤ (Row n).size a := by
  fin_cases a <;> exact le_of_eq (Nat.zero_add _)

/-- The whole of a row. -/
abbrev all (n : ℕ) : Rect (Row n) := Rect.unit (s := Row n) ![0, 0] (Row n).size (within n)

/-- What device `k` sent, and the sum over the devices. -/
abbrev part (x : Vec F (Rows n) .f32) (k : Fin 8) : FVec F (Row n) .f32 :=
  shapeCast (Row n) (View.ld x (Rect.unit (s := Rows n) ![k.val, 0, 0] ![1, 1, n] (Cert.Adam.inside k))) (casts n)

def sum (x : Vec F (Rows n) .f32) : FVec F (Row n) .f32 :=
  addf (addf (addf (addf (addf (addf (addf (part x 0) (part x 1)) (part x 2)) (part x 3)) (part x 4)) (part x 5))
    (part x 6)) (part x 7)

/-- The two running averages and the step, of a sum. -/
def first (g m : FVec F (Row n) .f32) : FVec F (Row n) .f32 :=
  addf (mulf (broadcast (Row n) (Scalar.ofBits .f32 0x3F666666#32)) m)
    (mulf (broadcast (Row n) (Scalar.ofBits .f32 0x3DCCCCCD#32)) g)

def second (g v : FVec F (Row n) .f32) : FVec F (Row n) .f32 :=
  addf (mulf (broadcast (Row n) (Scalar.ofBits .f32 0x3F7FBE77#32)) v)
    (mulf (broadcast (Row n) (Scalar.ofBits .f32 0x3A83126F#32)) (mulf g g))

def step (g w m v : FVec F (Row n) .f32) : FVec F (Row n) .f32 :=
  mulf (broadcast (Row n) (Scalar.ofBits .f32 0xBA83126F#32))
    (addf (divf (divf (first g m) (broadcast (Row n) (Scalar.ofBits .f32 0x3F26BD02#32)))
        (addf (sqrt (divf (second g v) (broadcast (Row n) (Scalar.ofBits .f32 0x3C231ACC#32))))
          (broadcast (Row n) (Scalar.ofBits .f32 0x322BCC77#32))))
      (mulf (broadcast (Row n) (Scalar.ofBits .f32 0x3C23D70A#32)) w))

/-- What is left in a result: the sum, the step and the two averages, stored whole. -/
def sent (x : Vec F (Rows n) .f32) : Vec F (Row n) .f32 := View.canon [⟨all n, sum x⟩]
def moved (x : Vec F (Rows n) .f32) (w m v : Vec F (Row n) .f32) : Vec F (Row n) .f32 :=
  View.canon [⟨all n, step (sum x) (View.ld w (all n)) (View.ld m (all n)) (View.ld v (all n))⟩]
def mean (x : Vec F (Rows n) .f32) (m : Vec F (Row n) .f32) : Vec F (Row n) .f32 :=
  View.canon [⟨all n, first (sum x) (View.ld m (all n))⟩]
def square (x : Vec F (Rows n) .f32) (v : Vec F (Row n) .f32) : Vec F (Row n) .f32 :=
  View.canon [⟨all n, second (sum x) (View.ld v (all n))⟩]

/-- One store through the whole row covers it. -/
theorem covered (p : Vec F (Row n) .f32) (y : (Row n).Idx) :
    ∃ q ∈ ([⟨all n, p⟩] : List (View.Piece (Elt F) (Row n) .f32)), y ∈ q.1.set :=
  ⟨_, List.mem_singleton.2 rfl, View.mem_set_unit_zero Cert.Products.origin (within n) y⟩

set_option maxHeartbeats 4000000 in
/-- The body, run on whole buffers that hold the arrays given, leaves those as they were and its results at the values
    above. -/
theorem sound_kernel (c : Dev nD) (E : Set ℕ) (arg0 : Memref sig .tc .vmem S8x1x256 .f32) (harg0 : arg0.IsWhole)
    (arg1 : Memref sig .tc .vmem S8x1x128 .f32) (harg1 : arg1.IsWhole) (arg2 : Memref sig .tc .vmem S8x1x1024 .f32)
    (harg2 : arg2.IsWhole) (arg3 : Memref sig .tc .vmem S8x1x1024 .f32) (harg3 : arg3.IsWhole) (arg4 : Memref sig .tc
    .vmem S8x1x5632 .f32) (harg4 : arg4.IsWhole) (arg5 : Memref sig .tc .vmem S8x1x1024 .f32) (harg5 : arg5.IsWhole)
    (arg6 : Memref sig .tc .vmem S8x1x1024 .f32) (harg6 : arg6.IsWhole) (arg7 : Memref sig .tc .vmem S8x1x128 .f32)
    (harg7 : arg7.IsWhole) (arg8 : Memref sig .tc .vmem S1x256 .f32) (harg8 : arg8.IsWhole) (arg9 : Memref sig .tc
    .vmem S1x128 .f32) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x5632 .f32)
    (harg12 : arg12.IsWhole) (arg13 : Memref sig .tc .vmem S1x1024 .f32) (harg13 : arg13.IsWhole) (arg14 : Memref sig
    .tc .vmem S1x1024 .f32) (harg14 : arg14.IsWhole) (arg15 : Memref sig .tc .vmem S1x256 .f32) (harg15 :
    arg15.IsWhole) (arg16 : Memref sig .tc .vmem S1x128 .f32) (harg16 : arg16.IsWhole) (arg17 : Memref sig .tc .vmem
    S1x1024 .f32) (harg17 : arg17.IsWhole) (arg18 : Memref sig .tc .vmem S1x1024 .f32) (harg18 : arg18.IsWhole)
    (arg19 : Memref sig .tc .vmem S1x5632 .f32) (harg19 : arg19.IsWhole) (arg20 : Memref sig .tc .vmem S1x1024 .f32)
    (harg20 : arg20.IsWhole) (arg21 : Memref sig .tc .vmem S1x1024 .f32) (harg21 : arg21.IsWhole) (arg22 : Memref sig
    .tc .vmem S1x256 .f32) (harg22 : arg22.IsWhole) (arg23 : Memref sig .tc .vmem S1x128 .f32) (harg23 :
    arg23.IsWhole) (arg24 : Memref sig .tc .vmem S1x1024 .f32) (harg24 : arg24.IsWhole) (arg25 : Memref sig .tc .vmem
    S1x1024 .f32) (harg25 : arg25.IsWhole) (arg26 : Memref sig .tc .vmem S1x5632 .f32) (harg26 : arg26.IsWhole)
    (arg27 : Memref sig .tc .vmem S1x1024 .f32) (harg27 : arg27.IsWhole) (arg28 : Memref sig .tc .vmem S1x1024 .f32)
    (harg28 : arg28.IsWhole) (arg29 : Memref sig .tc .vmem S1x128 .f32) (harg29 : arg29.IsWhole) (arg30 : Memref sig
    .tc .vmem S1x256 .f32) (harg30 : arg30.IsWhole) (arg31 : Memref sig .tc .vmem S1x256 .f32) (harg31 :
    arg31.IsWhole) (arg32 : Memref sig .tc .vmem S1x256 .f32) (harg32 : arg32.IsWhole) (arg33 : Memref sig .tc .vmem
    S1x256 .f32) (harg33 : arg33.IsWhole) (arg34 : Memref sig .tc .vmem S1x128 .f32) (harg34 : arg34.IsWhole) (arg35
    : Memref sig .tc .vmem S1x128 .f32) (harg35 : arg35.IsWhole) (arg36 : Memref sig .tc .vmem S1x128 .f32) (harg36 :
    arg36.IsWhole) (arg37 : Memref sig .tc .vmem S1x128 .f32) (harg37 : arg37.IsWhole) (arg38 : Memref sig .tc .vmem
    S1x1024 .f32) (harg38 : arg38.IsWhole) (arg39 : Memref sig .tc .vmem S1x1024 .f32) (harg39 : arg39.IsWhole)
    (arg40 : Memref sig .tc .vmem S1x1024 .f32) (harg40 : arg40.IsWhole) (arg41 : Memref sig .tc .vmem S1x1024 .f32)
    (harg41 : arg41.IsWhole) (arg42 : Memref sig .tc .vmem S1x1024 .f32) (harg42 : arg42.IsWhole) (arg43 : Memref sig
    .tc .vmem S1x1024 .f32) (harg43 : arg43.IsWhole) (arg44 : Memref sig .tc .vmem S1x1024 .f32) (harg44 :
    arg44.IsWhole) (arg45 : Memref sig .tc .vmem S1x1024 .f32) (harg45 : arg45.IsWhole) (arg46 : Memref sig .tc .vmem
    S1x5632 .f32) (harg46 : arg46.IsWhole) (arg47 : Memref sig .tc .vmem S1x5632 .f32) (harg47 : arg47.IsWhole)
    (arg48 : Memref sig .tc .vmem S1x5632 .f32) (harg48 : arg48.IsWhole) (arg49 : Memref sig .tc .vmem S1x5632 .f32)
    (harg49 : arg49.IsWhole) (arg50 : Memref sig .tc .vmem S1x1024 .f32) (harg50 : arg50.IsWhole) (arg51 : Memref sig
    .tc .vmem S1x1024 .f32) (harg51 : arg51.IsWhole) (arg52 : Memref sig .tc .vmem S1x1024 .f32) (harg52 :
    arg52.IsWhole) (arg53 : Memref sig .tc .vmem S1x1024 .f32) (harg53 : arg53.IsWhole) (arg54 : Memref sig .tc .vmem
    S1x1024 .f32) (harg54 : arg54.IsWhole) (arg55 : Memref sig .tc .vmem S1x1024 .f32) (harg55 : arg55.IsWhole)
    (arg56 : Memref sig .tc .vmem S1x1024 .f32) (harg56 : arg56.IsWhole) (arg57 : Memref sig .tc .vmem S1x1024 .f32)
    (harg57 : arg57.IsWhole)
    (x0 : Vec F S8x1x256 .f32) (x1 : Vec F S8x1x128 .f32) (x2 : Vec F S8x1x1024 .f32) (x3 : Vec F S8x1x1024 .f32) (x4
        : Vec F S8x1x5632 .f32) (x5 : Vec F S8x1x1024 .f32) (x6 : Vec F S8x1x1024 .f32) (x7 : Vec F S8x1x128 .f32)
        (x8 : Vec F S1x256 .f32) (x9 : Vec F S1x128 .f32) (x10 : Vec F S1x1024 .f32) (x11 : Vec F S1x1024 .f32) (x12
        : Vec F S1x5632 .f32) (x13 : Vec F S1x1024 .f32) (x14 : Vec F S1x1024 .f32) (x15 : Vec F S1x256 .f32) (x16 :
        Vec F S1x128 .f32) (x17 : Vec F S1x1024 .f32) (x18 : Vec F S1x1024 .f32) (x19 : Vec F S1x5632 .f32) (x20 :
        Vec F S1x1024 .f32) (x21 : Vec F S1x1024 .f32) (x22 : Vec F S1x256 .f32) (x23 : Vec F S1x128 .f32) (x24 : Vec
        F S1x1024 .f32) (x25 : Vec F S1x1024 .f32) (x26 : Vec F S1x5632 .f32) (x27 : Vec F S1x1024 .f32) (x28 : Vec F
        S1x1024 .f32) (K : PUnit → sProp (MT nD τ sig Unit (Elt F) ℕ (UR sig nD τ) ℕ)) :
    iprop(owns (c : Thread nD τ) arg0 fullShare x0 ∗ owns (c : Thread nD τ) arg1 fullShare x1 ∗ owns (c : Thread nD
        τ) arg2 fullShare x2 ∗ owns (c : Thread nD τ) arg3 fullShare x3 ∗ owns (c : Thread nD τ) arg4 fullShare x4 ∗
        owns (c : Thread nD τ) arg5 fullShare x5 ∗ owns (c : Thread nD τ) arg6 fullShare x6 ∗ owns (c : Thread nD τ)
        arg7 fullShare x7 ∗ owns (c : Thread nD τ) arg8 fullShare x8 ∗ owns (c : Thread nD τ) arg9 fullShare x9 ∗
        owns (c : Thread nD τ) arg10 fullShare x10 ∗ owns (c : Thread nD τ) arg11 fullShare x11 ∗ owns (c : Thread nD
        τ) arg12 fullShare x12 ∗ owns (c : Thread nD τ) arg13 fullShare x13 ∗ owns (c : Thread nD τ) arg14 fullShare
        x14 ∗ owns (c : Thread nD τ) arg15 fullShare x15 ∗ owns (c : Thread nD τ) arg16 fullShare x16 ∗ owns (c :
        Thread nD τ) arg17 fullShare x17 ∗ owns (c : Thread nD τ) arg18 fullShare x18 ∗ owns (c : Thread nD τ) arg19
        fullShare x19 ∗ owns (c : Thread nD τ) arg20 fullShare x20 ∗ owns (c : Thread nD τ) arg21 fullShare x21 ∗
        owns (c : Thread nD τ) arg22 fullShare x22 ∗ owns (c : Thread nD τ) arg23 fullShare x23 ∗ owns (c : Thread nD
        τ) arg24 fullShare x24 ∗ owns (c : Thread nD τ) arg25 fullShare x25 ∗ owns (c : Thread nD τ) arg26 fullShare
        x26 ∗ owns (c : Thread nD τ) arg27 fullShare x27 ∗ owns (c : Thread nD τ) arg28 fullShare x28 ∗ (∃ d, owns (c
        : Thread nD τ) arg29 fullShare d) ∗ (∃ d, owns (c : Thread nD τ) arg30 fullShare d) ∗ (∃ d, owns (c : Thread
        nD τ) arg31 fullShare d) ∗ (∃ d, owns (c : Thread nD τ) arg32 fullShare d) ∗ (∃ d, owns (c : Thread nD τ)
        arg33 fullShare d) ∗ (∃ d, owns (c : Thread nD τ) arg34 fullShare d) ∗ (∃ d, owns (c : Thread nD τ) arg35
        fullShare d) ∗ (∃ d, owns (c : Thread nD τ) arg36 fullShare d) ∗ (∃ d, owns (c : Thread nD τ) arg37 fullShare
        d) ∗ (∃ d, owns (c : Thread nD τ) arg38 fullShare d) ∗ (∃ d, owns (c : Thread nD τ) arg39 fullShare d) ∗ (∃
        d, owns (c : Thread nD τ) arg40 fullShare d) ∗ (∃ d, owns (c : Thread nD τ) arg41 fullShare d) ∗ (∃ d, owns
        (c : Thread nD τ) arg42 fullShare d) ∗ (∃ d, owns (c : Thread nD τ) arg43 fullShare d) ∗ (∃ d, owns (c :
        Thread nD τ) arg44 fullShare d) ∗ (∃ d, owns (c : Thread nD τ) arg45 fullShare d) ∗ (∃ d, owns (c : Thread nD
        τ) arg46 fullShare d) ∗ (∃ d, owns (c : Thread nD τ) arg47 fullShare d) ∗ (∃ d, owns (c : Thread nD τ) arg48
        fullShare d) ∗ (∃ d, owns (c : Thread nD τ) arg49 fullShare d) ∗ (∃ d, owns (c : Thread nD τ) arg50 fullShare
        d) ∗ (∃ d, owns (c : Thread nD τ) arg51 fullShare d) ∗ (∃ d, owns (c : Thread nD τ) arg52 fullShare d) ∗ (∃
        d, owns (c : Thread nD τ) arg53 fullShare d) ∗ (∃ d, owns (c : Thread nD τ) arg54 fullShare d) ∗ (∃ d, owns
        (c : Thread nD τ) arg55 fullShare d) ∗ (∃ d, owns (c : Thread nD τ) arg56 fullShare d) ∗ (∃ d, owns (c :
        Thread nD τ) arg57 fullShare d)
        ∗ (iprop(owns (c : Thread nD τ) arg0 fullShare x0 ∗ owns (c : Thread nD τ) arg1 fullShare x1 ∗ owns (c :
            Thread nD τ) arg2 fullShare x2 ∗ owns (c : Thread nD τ) arg3 fullShare x3 ∗ owns (c : Thread nD τ) arg4
            fullShare x4 ∗ owns (c : Thread nD τ) arg5 fullShare x5 ∗ owns (c : Thread nD τ) arg6 fullShare x6 ∗ owns
            (c : Thread nD τ) arg7 fullShare x7 ∗ owns (c : Thread nD τ) arg8 fullShare x8 ∗ owns (c : Thread nD τ)
            arg9 fullShare x9 ∗ owns (c : Thread nD τ) arg10 fullShare x10 ∗ owns (c : Thread nD τ) arg11 fullShare
            x11 ∗ owns (c : Thread nD τ) arg12 fullShare x12 ∗ owns (c : Thread nD τ) arg13 fullShare x13 ∗ owns (c :
            Thread nD τ) arg14 fullShare x14 ∗ owns (c : Thread nD τ) arg15 fullShare x15 ∗ owns (c : Thread nD τ)
            arg16 fullShare x16 ∗ owns (c : Thread nD τ) arg17 fullShare x17 ∗ owns (c : Thread nD τ) arg18 fullShare
            x18 ∗ owns (c : Thread nD τ) arg19 fullShare x19 ∗ owns (c : Thread nD τ) arg20 fullShare x20 ∗ owns (c :
            Thread nD τ) arg21 fullShare x21 ∗ owns (c : Thread nD τ) arg22 fullShare x22 ∗ owns (c : Thread nD τ)
            arg23 fullShare x23 ∗ owns (c : Thread nD τ) arg24 fullShare x24 ∗ owns (c : Thread nD τ) arg25 fullShare
            x25 ∗ owns (c : Thread nD τ) arg26 fullShare x26 ∗ owns (c : Thread nD τ) arg27 fullShare x27 ∗ owns (c :
            Thread nD τ) arg28 fullShare x28 ∗ owns (c : Thread nD τ) arg29 fullShare (sent x7) ∗ owns (c : Thread nD
            τ) arg30 fullShare (sent x0) ∗ owns (c : Thread nD τ) arg31 fullShare (moved x0 x8 x15 x22) ∗ owns (c :
            Thread nD τ) arg32 fullShare (mean x0 x15) ∗ owns (c : Thread nD τ) arg33 fullShare (square x0 x22) ∗
            owns (c : Thread nD τ) arg34 fullShare (sent x1) ∗ owns (c : Thread nD τ) arg35 fullShare (moved x1 x9
            x16 x23) ∗ owns (c : Thread nD τ) arg36 fullShare (mean x1 x16) ∗ owns (c : Thread nD τ) arg37 fullShare
            (square x1 x23) ∗ owns (c : Thread nD τ) arg38 fullShare (sent x2) ∗ owns (c : Thread nD τ) arg39
            fullShare (moved x2 x10 x17 x24) ∗ owns (c : Thread nD τ) arg40 fullShare (mean x2 x17) ∗ owns (c :
            Thread nD τ) arg41 fullShare (square x2 x24) ∗ owns (c : Thread nD τ) arg42 fullShare (sent x3) ∗ owns (c
            : Thread nD τ) arg43 fullShare (moved x3 x11 x18 x25) ∗ owns (c : Thread nD τ) arg44 fullShare (mean x3
            x18) ∗ owns (c : Thread nD τ) arg45 fullShare (square x3 x25) ∗ owns (c : Thread nD τ) arg46 fullShare
            (sent x4) ∗ owns (c : Thread nD τ) arg47 fullShare (moved x4 x12 x19 x26) ∗ owns (c : Thread nD τ) arg48
            fullShare (mean x4 x19) ∗ owns (c : Thread nD τ) arg49 fullShare (square x4 x26) ∗ owns (c : Thread nD τ)
            arg50 fullShare (sent x5) ∗ owns (c : Thread nD τ) arg51 fullShare (moved x5 x13 x20 x27) ∗ owns (c :
            Thread nD τ) arg52 fullShare (mean x5 x20) ∗ owns (c : Thread nD τ) arg53 fullShare (square x5 x27) ∗
            owns (c : Thread nD τ) arg54 fullShare (sent x6) ∗ owns (c : Thread nD τ) arg55 fullShare (moved x6 x14
            x21 x28) ∗ owns (c : Thread nD τ) arg56 fullShare (mean x6 x21) ∗ owns (c : Thread nD τ) arg57 fullShare
            (square x6 x28)) -∗ K ⟨⟩))
      ⊢ wp frame (wpE (defs₀ (F := F)) Variants.none c none) E (cc0_adamw_replicated arg0 harg0 arg1 harg1 arg2 harg2
          arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19
          arg20 harg20 arg21 harg21 arg22 harg22 arg23 harg23 arg24 harg24 arg25 harg25 arg26 harg26 arg27 harg27
          arg28 harg28 arg29 harg29 arg30 harg30 arg31 harg31 arg32 harg32 arg33 harg33 arg34 harg34 arg35 harg35
          arg36 harg36 arg37 harg37 arg38 harg38 arg39 harg39 arg40 harg40 arg41 harg41 arg42 harg42 arg43 harg43
          arg44 harg44 arg45 harg45 arg46 harg46 arg47 harg47 arg48 harg48 arg49 harg49 arg50 harg50 arg51 harg51
          arg52 harg52 arg53 harg53 arg54 harg54 arg55 harg55 arg56 harg56 arg57 harg57) K := by
  simp only [cc0_adamw_replicated_eq_skeleton]; unfold cc0_adamw_replicated_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
      %hf6, H6⟩, ⟨%f7, %hf7, H7⟩, ⟨%f8, %hf8, H8⟩, ⟨%f9, %hf9, H9⟩, ⟨%f10, %hf10, H10⟩, ⟨%f11, %hf11, H11⟩, ⟨%f12,
      %hf12, H12⟩, ⟨%f13, %hf13, H13⟩, ⟨%f14, %hf14, H14⟩, ⟨%f15, %hf15, H15⟩, ⟨%f16, %hf16, H16⟩, ⟨%f17, %hf17,
      H17⟩, ⟨%f18, %hf18, H18⟩, ⟨%f19, %hf19, H19⟩, ⟨%f20, %hf20, H20⟩, ⟨%f21, %hf21, H21⟩, ⟨%f22, %hf22, H22⟩,
      ⟨%f23, %hf23, H23⟩, ⟨%f24, %hf24, H24⟩, ⟨%f25, %hf25, H25⟩, ⟨%f26, %hf26, H26⟩, ⟨%f27, %hf27, H27⟩, ⟨%f28,
      %hf28, H28⟩, ⟨%d29, %f29, -, H29⟩, ⟨%d30, %f30, -, H30⟩, ⟨%d31, %f31, -, H31⟩, ⟨%d32, %f32, -, H32⟩, ⟨%d33,
      %f33, -, H33⟩, ⟨%d34, %f34, -, H34⟩, ⟨%d35, %f35, -, H35⟩, ⟨%d36, %f36, -, H36⟩, ⟨%d37, %f37, -, H37⟩, ⟨%d38,
      %f38, -, H38⟩, ⟨%d39, %f39, -, H39⟩, ⟨%d40, %f40, -, H40⟩, ⟨%d41, %f41, -, H41⟩, ⟨%d42, %f42, -, H42⟩, ⟨%d43,
      %f43, -, H43⟩, ⟨%d44, %f44, -, H44⟩, ⟨%d45, %f45, -, H45⟩, ⟨%d46, %f46, -, H46⟩, ⟨%d47, %f47, -, H47⟩, ⟨%d48,
      %f48, -, H48⟩, ⟨%d49, %f49, -, H49⟩, ⟨%d50, %f50, -, H50⟩, ⟨%d51, %f51, -, H51⟩, ⟨%d52, %f52, -, H52⟩, ⟨%d53,
      %f53, -, H53⟩, ⟨%d54, %f54, -, H54⟩, ⟨%d55, %f55, -, H55⟩, ⟨%d56, %f56, -, H56⟩, ⟨%d57, %f57, -, H57⟩, Hk⟩
  subst hf0 hf1 hf2 hf3 hf4 hf5 hf6 hf7 hf8 hf9 hf10 hf11 hf12 hf13 hf14 hf15 hf16 hf17 hf18 hf19 hf20 hf21 hf22 hf23
      hf24 hf25 hf26 hf27 hf28
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists _; isplitr; swap; · iexact H29
    ipureintro; exact (View.read_writes_eq_canon _ _ _ (covered _)).trans rfl
  isplitl [H30]
  · iexists _; isplitr; swap; · iexact H30
    ipureintro; exact (View.read_writes_eq_canon _ _ _ (covered _)).trans rfl
  isplitl [H31]
  · iexists _; isplitr; swap; · iexact H31
    ipureintro; exact (View.read_writes_eq_canon _ _ _ (covered _)).trans rfl
  isplitl [H32]
  · iexists _; isplitr; swap; · iexact H32
    ipureintro; exact (View.read_writes_eq_canon _ _ _ (covered _)).trans rfl
  isplitl [H33]
  · iexists _; isplitr; swap; · iexact H33
    ipureintro; exact (View.read_writes_eq_canon _ _ _ (covered _)).trans rfl
  isplitl [H34]
  · iexists _; isplitr; swap; · iexact H34
    ipureintro; exact (View.read_writes_eq_canon _ _ _ (covered _)).trans rfl
  isplitl [H35]
  · iexists _; isplitr; swap; · iexact H35
    ipureintro; exact (View.read_writes_eq_canon _ _ _ (covered _)).trans rfl
  isplitl [H36]
  · iexists _; isplitr; swap; · iexact H36
    ipureintro; exact (View.read_writes_eq_canon _ _ _ (covered _)).trans rfl
  isplitl [H37]
  · iexists _; isplitr; swap; · iexact H37
    ipureintro; exact (View.read_writes_eq_canon _ _ _ (covered _)).trans rfl
  isplitl [H38]
  · iexists _; isplitr; swap; · iexact H38
    ipureintro; exact (View.read_writes_eq_canon _ _ _ (covered _)).trans rfl
  isplitl [H39]
  · iexists _; isplitr; swap; · iexact H39
    ipureintro; exact (View.read_writes_eq_canon _ _ _ (covered _)).trans rfl
  isplitl [H40]
  · iexists _; isplitr; swap; · iexact H40
    ipureintro; exact (View.read_writes_eq_canon _ _ _ (covered _)).trans rfl
  isplitl [H41]
  · iexists _; isplitr; swap; · iexact H41
    ipureintro; exact (View.read_writes_eq_canon _ _ _ (covered _)).trans rfl
  isplitl [H42]
  · iexists _; isplitr; swap; · iexact H42
    ipureintro; exact (View.read_writes_eq_canon _ _ _ (covered _)).trans rfl
  isplitl [H43]
  · iexists _; isplitr; swap; · iexact H43
    ipureintro; exact (View.read_writes_eq_canon _ _ _ (covered _)).trans rfl
  isplitl [H44]
  · iexists _; isplitr; swap; · iexact H44
    ipureintro; exact (View.read_writes_eq_canon _ _ _ (covered _)).trans rfl
  isplitl [H45]
  · iexists _; isplitr; swap; · iexact H45
    ipureintro; exact (View.read_writes_eq_canon _ _ _ (covered _)).trans rfl
  isplitl [H46]
  · iexists _; isplitr; swap; · iexact H46
    ipureintro; exact (View.read_writes_eq_canon _ _ _ (covered _)).trans rfl
  isplitl [H47]
  · iexists _; isplitr; swap; · iexact H47
    ipureintro; exact (View.read_writes_eq_canon _ _ _ (covered _)).trans rfl
  isplitl [H48]
  · iexists _; isplitr; swap; · iexact H48
    ipureintro; exact (View.read_writes_eq_canon _ _ _ (covered _)).trans rfl
  isplitl [H49]
  · iexists _; isplitr; swap; · iexact H49
    ipureintro; exact (View.read_writes_eq_canon _ _ _ (covered _)).trans rfl
  isplitl [H50]
  · iexists _; isplitr; swap; · iexact H50
    ipureintro; exact (View.read_writes_eq_canon _ _ _ (covered _)).trans rfl
  isplitl [H51]
  · iexists _; isplitr; swap; · iexact H51
    ipureintro; exact (View.read_writes_eq_canon _ _ _ (covered _)).trans rfl
  isplitl [H52]
  · iexists _; isplitr; swap; · iexact H52
    ipureintro; exact (View.read_writes_eq_canon _ _ _ (covered _)).trans rfl
  isplitl [H53]
  · iexists _; isplitr; swap; · iexact H53
    ipureintro; exact (View.read_writes_eq_canon _ _ _ (covered _)).trans rfl
  isplitl [H54]
  · iexists _; isplitr; swap; · iexact H54
    ipureintro; exact (View.read_writes_eq_canon _ _ _ (covered _)).trans rfl
  isplitl [H55]
  · iexists _; isplitr; swap; · iexact H55
    ipureintro; exact (View.read_writes_eq_canon _ _ _ (covered _)).trans rfl
  isplitl [H56]
  · iexists _; isplitr; swap; · iexact H56
    ipureintro; exact (View.read_writes_eq_canon _ _ _ (covered _)).trans rfl
  iexists _; isplitr; swap; · iexact H57
  ipureintro; exact (View.read_writes_eq_canon _ _ _ (covered _)).trans rfl

end Cert.ARepIdeal.Body

end
-- ==== Proof.RepFrame.lean ====
/-
  The optimiser's step on the weights every device holds whole, and the loss: the run of the call.
-/
module

public import proofs.«01_k».proof.Proof.RepBody

@[expose] public section

set_option maxRecDepth 16384

noncomputable section

namespace Cert.ARepIdeal.Body

open Cert.ARepIdeal Cert.ARepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The arrays when the call starts: as given. -/
abbrev V (c : Dev nD) (b : Ref sig .tc) : Buf (Elt F) ((c : Thread nD τ).loc b) := m ((c : Thread nD τ).loc b)

set_option maxHeartbeats 4000000 in
theorem hmain (𝒱₀ : Variants) : Pipeline.HMain (Ix := Unit) (Name := ℕ) (U := UR sig nD τ) (Lvl := ℕ) cfgs 0 defs₀ 𝒱₀ m
    (main (F := F)) (V m) :=
  Pipeline.hmain_region cfgs 0 defs₀ 𝒱₀ m main fun c => (main_chain c).trans rfl

/-- Window `w`'s block, read off its array. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The call's data: after the body a given array's buffer holds its block, and a result's what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => sent (iblk m c 7 t)
    | ⟨30, _⟩ => sent (iblk m c 0 t)
    | ⟨31, _⟩ => moved (iblk m c 0 t) (iblk m c 8 t) (iblk m c 15 t) (iblk m c 22 t)
    | ⟨32, _⟩ => mean (iblk m c 0 t) (iblk m c 15 t)
    | ⟨33, _⟩ => square (iblk m c 0 t) (iblk m c 22 t)
    | ⟨34, _⟩ => sent (iblk m c 1 t)
    | ⟨35, _⟩ => moved (iblk m c 1 t) (iblk m c 9 t) (iblk m c 16 t) (iblk m c 23 t)
    | ⟨36, _⟩ => mean (iblk m c 1 t) (iblk m c 16 t)
    | ⟨37, _⟩ => square (iblk m c 1 t) (iblk m c 23 t)
    | ⟨38, _⟩ => sent (iblk m c 2 t)
    | ⟨39, _⟩ => moved (iblk m c 2 t) (iblk m c 10 t) (iblk m c 17 t) (iblk m c 24 t)
    | ⟨40, _⟩ => mean (iblk m c 2 t) (iblk m c 17 t)
    | ⟨41, _⟩ => square (iblk m c 2 t) (iblk m c 24 t)
    | ⟨42, _⟩ => sent (iblk m c 3 t)
    | ⟨43, _⟩ => moved (iblk m c 3 t) (iblk m c 11 t) (iblk m c 18 t) (iblk m c 25 t)
    | ⟨44, _⟩ => mean (iblk m c 3 t) (iblk m c 18 t)
    | ⟨45, _⟩ => square (iblk m c 3 t) (iblk m c 25 t)
    | ⟨46, _⟩ => sent (iblk m c 4 t)
    | ⟨47, _⟩ => moved (iblk m c 4 t) (iblk m c 12 t) (iblk m c 19 t) (iblk m c 26 t)
    | ⟨48, _⟩ => mean (iblk m c 4 t) (iblk m c 19 t)
    | ⟨49, _⟩ => square (iblk m c 4 t) (iblk m c 26 t)
    | ⟨50, _⟩ => sent (iblk m c 5 t)
    | ⟨51, _⟩ => moved (iblk m c 5 t) (iblk m c 13 t) (iblk m c 20 t) (iblk m c 27 t)
    | ⟨52, _⟩ => mean (iblk m c 5 t) (iblk m c 20 t)
    | ⟨53, _⟩ => square (iblk m c 5 t) (iblk m c 27 t)
    | ⟨54, _⟩ => sent (iblk m c 6 t)
    | ⟨55, _⟩ => moved (iblk m c 6 t) (iblk m c 14 t) (iblk m c 21 t) (iblk m c 28 t)
    | ⟨56, _⟩ => mean (iblk m c 6 t) (iblk m c 21 t)
    | ⟨57, _⟩ => square (iblk m c 6 t) (iblk m c 28 t)
    | ⟨_ + 58, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- A buffer whose block the body leaves in place holds it before the body as well. -/
theorem held (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = (dats m 0 c).blockOf w t)
    (x : Fin cfg0.N → (cfg0.win w).block.Idx → Elt F (cfg0.win w).elt)
    (hx : ∀ t d, (cfg0.win w).fill (cfg0.grid.coords t) d (iblk m c w t) = x t) (t : Fin cfg0.N) (d) :
    (dats m 0 c).before w t d = x t :=
  ((dats m 0 c).before_in_eq_fetched w hw hlive hclip hkeep t d).trans (hx t d)

/-! What the body leaves and finds, buffer by buffer. -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = iblk m c 25 t := by dsimp only [dats]
theorem after26 (c : Dev nD) (t : Fin cfg0.N) : (dats m 0 c).after 26 t = iblk m c 26 t := by dsimp only [dats]
theorem after27 (c : Dev nD) (t : Fin cfg0.N) : (dats m 0 c).after 27 t = iblk m c 27 t := by dsimp only [dats]
theorem after28 (c : Dev nD) (t : Fin cfg0.N) : (dats m 0 c).after 28 t = iblk m c 28 t := by dsimp only [dats]
theorem after29 (c : Dev nD) (t : Fin cfg0.N) : (dats m 0 c).after 29 t = sent (iblk m c 7 t) := by dsimp only [dats]
theorem after30 (c : Dev nD) (t : Fin cfg0.N) : (dats m 0 c).after 30 t = sent (iblk m c 0 t) := by dsimp only [dats]
theorem after31 (c : Dev nD) (t : Fin cfg0.N) : (dats m 0 c).after 31 t = moved (iblk m c 0 t) (iblk m c 8 t) (iblk m c 15 t) (iblk m c 22 t) := by dsimp only [dats]
theorem after32 (c : Dev nD) (t : Fin cfg0.N) : (dats m 0 c).after 32 t = mean (iblk m c 0 t) (iblk m c 15 t) := by dsimp only [dats]
theorem after33 (c : Dev nD) (t : Fin cfg0.N) : (dats m 0 c).after 33 t = square (iblk m c 0 t) (iblk m c 22 t) := by dsimp only [dats]
theorem after34 (c : Dev nD) (t : Fin cfg0.N) : (dats m 0 c).after 34 t = sent (iblk m c 1 t) := by dsimp only [dats]
theorem after35 (c : Dev nD) (t : Fin cfg0.N) : (dats m 0 c).after 35 t = moved (iblk m c 1 t) (iblk m c 9 t) (iblk m c 16 t) (iblk m c 23 t) := by dsimp only [dats]
theorem after36 (c : Dev nD) (t : Fin cfg0.N) : (dats m 0 c).after 36 t = mean (iblk m c 1 t) (iblk m c 16 t) := by dsimp only [dats]
theorem after37 (c : Dev nD) (t : Fin cfg0.N) : (dats m 0 c).after 37 t = square (iblk m c 1 t) (iblk m c 23 t) := by dsimp only [dats]
theorem after38 (c : Dev nD) (t : Fin cfg0.N) : (dats m 0 c).after 38 t = sent (iblk m c 2 t) := by dsimp only [dats]
theorem after39 (c : Dev nD) (t : Fin cfg0.N) : (dats m 0 c).after 39 t = moved (iblk m c 2 t) (iblk m c 10 t) (iblk m c 17 t) (iblk m c 24 t) := by dsimp only [dats]
theorem after40 (c : Dev nD) (t : Fin cfg0.N) : (dats m 0 c).after 40 t = mean (iblk m c 2 t) (iblk m c 17 t) := by dsimp only [dats]
theorem after41 (c : Dev nD) (t : Fin cfg0.N) : (dats m 0 c).after 41 t = square (iblk m c 2 t) (iblk m c 24 t) := by dsimp only [dats]
theorem after42 (c : Dev nD) (t : Fin cfg0.N) : (dats m 0 c).after 42 t = sent (iblk m c 3 t) := by dsimp only [dats]
theorem after43 (c : Dev nD) (t : Fin cfg0.N) : (dats m 0 c).after 43 t = moved (iblk m c 3 t) (iblk m c 11 t) (iblk m c 18 t) (iblk m c 25 t) := by dsimp only [dats]
theorem after44 (c : Dev nD) (t : Fin cfg0.N) : (dats m 0 c).after 44 t = mean (iblk m c 3 t) (iblk m c 18 t) := by dsimp only [dats]
theorem after45 (c : Dev nD) (t : Fin cfg0.N) : (dats m 0 c).after 45 t = square (iblk m c 3 t) (iblk m c 25 t) := by dsimp only [dats]
theorem after46 (c : Dev nD) (t : Fin cfg0.N) : (dats m 0 c).after 46 t = sent (iblk m c 4 t) := by dsimp only [dats]
theorem after47 (c : Dev nD) (t : Fin cfg0.N) : (dats m 0 c).after 47 t = moved (iblk m c 4 t) (iblk m c 12 t) (iblk m c 19 t) (iblk m c 26 t) := by dsimp only [dats]
theorem after48 (c : Dev nD) (t : Fin cfg0.N) : (dats m 0 c).after 48 t = mean (iblk m c 4 t) (iblk m c 19 t) := by dsimp only [dats]
theorem after49 (c : Dev nD) (t : Fin cfg0.N) : (dats m 0 c).after 49 t = square (iblk m c 4 t) (iblk m c 26 t) := by dsimp only [dats]
theorem after50 (c : Dev nD) (t : Fin cfg0.N) : (dats m 0 c).after 50 t = sent (iblk m c 5 t) := by dsimp only [dats]
theorem after51 (c : Dev nD) (t : Fin cfg0.N) : (dats m 0 c).after 51 t = moved (iblk m c 5 t) (iblk m c 13 t) (iblk m c 20 t) (iblk m c 27 t) := by dsimp only [dats]
theorem after52 (c : Dev nD) (t : Fin cfg0.N) : (dats m 0 c).after 52 t = mean (iblk m c 5 t) (iblk m c 20 t) := by dsimp only [dats]
theorem after53 (c : Dev nD) (t : Fin cfg0.N) : (dats m 0 c).after 53 t = square (iblk m c 5 t) (iblk m c 27 t) := by dsimp only [dats]
theorem after54 (c : Dev nD) (t : Fin cfg0.N) : (dats m 0 c).after 54 t = sent (iblk m c 6 t) := by dsimp only [dats]
theorem after55 (c : Dev nD) (t : Fin cfg0.N) : (dats m 0 c).after 55 t = moved (iblk m c 6 t) (iblk m c 14 t) (iblk m c 21 t) (iblk m c 28 t) := by dsimp only [dats]
theorem after56 (c : Dev nD) (t : Fin cfg0.N) : (dats m 0 c).after 56 t = mean (iblk m c 6 t) (iblk m c 21 t) := by dsimp only [dats]
theorem after57 (c : Dev nD) (t : Fin cfg0.N) : (dats m 0 c).after 57 t = square (iblk m c 6 t) (iblk m c 28 t) := by dsimp only [dats]

theorem before0 (c : Dev nD) (t : Fin cfg0.N) (d) : (dats m 0 c).before 0 t d = iblk m c 0 t :=
  held m c 0 rfl (fun _ => rfl) (fun _ _ _ => rfl) (fun t => by rw [after0]; rfl) (fun t => iblk m c 0 t) (fun _ _ => rfl) t d
theorem before1 (c : Dev nD) (t : Fin cfg0.N) (d) : (dats m 0 c).before 1 t d = iblk m c 1 t :=
  held m c 1 rfl (fun _ => rfl) (fun _ _ _ => rfl) (fun t => by rw [after1]; rfl) (fun t => iblk m c 1 t) (fun _ _ => rfl) t d
theorem before2 (c : Dev nD) (t : Fin cfg0.N) (d) : (dats m 0 c).before 2 t d = iblk m c 2 t :=
  held m c 2 rfl (fun _ => rfl) (fun _ _ _ => rfl) (fun t => by rw [after2]; rfl) (fun t => iblk m c 2 t) (fun _ _ => rfl) t d
theorem before3 (c : Dev nD) (t : Fin cfg0.N) (d) : (dats m 0 c).before 3 t d = iblk m c 3 t :=
  held m c 3 rfl (fun _ => rfl) (fun _ _ _ => rfl) (fun t => by rw [after3]; rfl) (fun t => iblk m c 3 t) (fun _ _ => rfl) t d
theorem before4 (c : Dev nD) (t : Fin cfg0.N) (d) : (dats m 0 c).before 4 t d = iblk m c 4 t :=
  held m c 4 rfl (fun _ => rfl) (fun _ _ _ => rfl) (fun t => by rw [after4]; rfl) (fun t => iblk m c 4 t) (fun _ _ => rfl) t d
theorem before5 (c : Dev nD) (t : Fin cfg0.N) (d) : (dats m 0 c).before 5 t d = iblk m c 5 t :=
  held m c 5 rfl (fun _ => rfl) (fun _ _ _ => rfl) (fun t => by rw [after5]; rfl) (fun t => iblk m c 5 t) (fun _ _ => rfl) t d
theorem before6 (c : Dev nD) (t : Fin cfg0.N) (d) : (dats m 0 c).before 6 t d = iblk m c 6 t :=
  held m c 6 rfl (fun _ => rfl) (fun _ _ _ => rfl) (fun t => by rw [after6]; rfl) (fun t => iblk m c 6 t) (fun _ _ => rfl) t d
theorem before7 (c : Dev nD) (t : Fin cfg0.N) (d) : (dats m 0 c).before 7 t d = iblk m c 7 t :=
  held m c 7 rfl (fun _ => rfl) (fun _ _ _ => rfl) (fun t => by rw [after7]; rfl) (fun t => iblk m c 7 t) (fun _ _ => rfl) t d
theorem before8 (c : Dev nD) (t : Fin cfg0.N) (d) : (dats m 0 c).before 8 t d = iblk m c 8 t :=
  held m c 8 rfl (fun _ => rfl) (fun _ _ _ => rfl) (fun t => by rw [after8]; rfl) (fun t => iblk m c 8 t) (fun _ _ => rfl) t d
theorem before9 (c : Dev nD) (t : Fin cfg0.N) (d) : (dats m 0 c).before 9 t d = iblk m c 9 t :=
  held m c 9 rfl (fun _ => rfl) (fun _ _ _ => rfl) (fun t => by rw [after9]; rfl) (fun t => iblk m c 9 t) (fun _ _ => rfl) t d
theorem before10 (c : Dev nD) (t : Fin cfg0.N) (d) : (dats m 0 c).before 10 t d = iblk m c 10 t :=
  held m c 10 rfl (fun _ => rfl) (fun _ _ _ => rfl) (fun t => by rw [after10]; rfl) (fun t => iblk m c 10 t) (fun _ _ => rfl) t d
theorem before11 (c : Dev nD) (t : Fin cfg0.N) (d) : (dats m 0 c).before 11 t d = iblk m c 11 t :=
  held m c 11 rfl (fun _ => rfl) (fun _ _ _ => rfl) (fun t => by rw [after11]; rfl) (fun t => iblk m c 11 t) (fun _ _ => rfl) t d
theorem before12 (c : Dev nD) (t : Fin cfg0.N) (d) : (dats m 0 c).before 12 t d = iblk m c 12 t :=
  held m c 12 rfl (fun _ => rfl) (fun _ _ _ => rfl) (fun t => by rw [after12]; rfl) (fun t => iblk m c 12 t) (fun _ _ => rfl) t d
theorem before13 (c : Dev nD) (t : Fin cfg0.N) (d) : (dats m 0 c).before 13 t d = iblk m c 13 t :=
  held m c 13 rfl (fun _ => rfl) (fun _ _ _ => rfl) (fun t => by rw [after13]; rfl) (fun t => iblk m c 13 t) (fun _ _ => rfl) t d
theorem before14 (c : Dev nD) (t : Fin cfg0.N) (d) : (dats m 0 c).before 14 t d = iblk m c 14 t :=
  held m c 14 rfl (fun _ => rfl) (fun _ _ _ => rfl) (fun t => by rw [after14]; rfl) (fun t => iblk m c 14 t) (fun _ _ => rfl) t d
theorem before15 (c : Dev nD) (t : Fin cfg0.N) (d) : (dats m 0 c).before 15 t d = iblk m c 15 t :=
  held m c 15 rfl (fun _ => rfl) (fun _ _ _ => rfl) (fun t => by rw [after15]; rfl) (fun t => iblk m c 15 t) (fun _ _ => rfl) t d
theorem before16 (c : Dev nD) (t : Fin cfg0.N) (d) : (dats m 0 c).before 16 t d = iblk m c 16 t :=
  held m c 16 rfl (fun _ => rfl) (fun _ _ _ => rfl) (fun t => by rw [after16]; rfl) (fun t => iblk m c 16 t) (fun _ _ => rfl) t d
theorem before17 (c : Dev nD) (t : Fin cfg0.N) (d) : (dats m 0 c).before 17 t d = iblk m c 17 t :=
  held m c 17 rfl (fun _ => rfl) (fun _ _ _ => rfl) (fun t => by rw [after17]; rfl) (fun t => iblk m c 17 t) (fun _ _ => rfl) t d
theorem before18 (c : Dev nD) (t : Fin cfg0.N) (d) : (dats m 0 c).before 18 t d = iblk m c 18 t :=
  held m c 18 rfl (fun _ => rfl) (fun _ _ _ => rfl) (fun t => by rw [after18]; rfl) (fun t => iblk m c 18 t) (fun _ _ => rfl) t d
theorem before19 (c : Dev nD) (t : Fin cfg0.N) (d) : (dats m 0 c).before 19 t d = iblk m c 19 t :=
  held m c 19 rfl (fun _ => rfl) (fun _ _ _ => rfl) (fun t => by rw [after19]; rfl) (fun t => iblk m c 19 t) (fun _ _ => rfl) t d
theorem before20 (c : Dev nD) (t : Fin cfg0.N) (d) : (dats m 0 c).before 20 t d = iblk m c 20 t :=
  held m c 20 rfl (fun _ => rfl) (fun _ _ _ => rfl) (fun t => by rw [after20]; rfl) (fun t => iblk m c 20 t) (fun _ _ => rfl) t d
theorem before21 (c : Dev nD) (t : Fin cfg0.N) (d) : (dats m 0 c).before 21 t d = iblk m c 21 t :=
  held m c 21 rfl (fun _ => rfl) (fun _ _ _ => rfl) (fun t => by rw [after21]; rfl) (fun t => iblk m c 21 t) (fun _ _ => rfl) t d
theorem before22 (c : Dev nD) (t : Fin cfg0.N) (d) : (dats m 0 c).before 22 t d = iblk m c 22 t :=
  held m c 22 rfl (fun _ => rfl) (fun _ _ _ => rfl) (fun t => by rw [after22]; rfl) (fun t => iblk m c 22 t) (fun _ _ => rfl) t d
theorem before23 (c : Dev nD) (t : Fin cfg0.N) (d) : (dats m 0 c).before 23 t d = iblk m c 23 t :=
  held m c 23 rfl (fun _ => rfl) (fun _ _ _ => rfl) (fun t => by rw [after23]; rfl) (fun t => iblk m c 23 t) (fun _ _ => rfl) t d
theorem before24 (c : Dev nD) (t : Fin cfg0.N) (d) : (dats m 0 c).before 24 t d = iblk m c 24 t :=
  held m c 24 rfl (fun _ => rfl) (fun _ _ _ => rfl) (fun t => by rw [after24]; rfl) (fun t => iblk m c 24 t) (fun _ _ => rfl) t d
theorem before25 (c : Dev nD) (t : Fin cfg0.N) (d) : (dats m 0 c).before 25 t d = iblk m c 25 t :=
  held m c 25 rfl (fun _ => rfl) (fun _ _ _ => rfl) (fun t => by rw [after25]; rfl) (fun t => iblk m c 25 t) (fun _ _ => rfl) t d
theorem before26 (c : Dev nD) (t : Fin cfg0.N) (d) : (dats m 0 c).before 26 t d = iblk m c 26 t :=
  held m c 26 rfl (fun _ => rfl) (fun _ _ _ => rfl) (fun t => by rw [after26]; rfl) (fun t => iblk m c 26 t) (fun _ _ => rfl) t d
theorem before27 (c : Dev nD) (t : Fin cfg0.N) (d) : (dats m 0 c).before 27 t d = iblk m c 27 t :=
  held m c 27 rfl (fun _ => rfl) (fun _ _ _ => rfl) (fun t => by rw [after27]; rfl) (fun t => iblk m c 27 t) (fun _ _ => rfl) t d
theorem before28 (c : Dev nD) (t : Fin cfg0.N) (d) : (dats m 0 c).before 28 t d = iblk m c 28 t :=
  held m c 28 rfl (fun _ => rfl) (fun _ _ _ => rfl) (fun t => by rw [after28]; rfl) (fun t => iblk m c 28 t) (fun _ _ => rfl) t d

/-- What the body starts from, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d)))

/-- and what it ends in. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t))

set_option maxHeartbeats 20000000 in
/-- The body's run, between the two. -/
theorem sound_body (c : Dev nD) (t : Fin cfg0.N) :
    bodyPre m c t ⊢ wp frame (wpE (defs₀ (F := F)) Variants.none c none) Set.univ (bodyAt0 t) (fun _ => bodyPost m c
        t) := by
  unfold bodyPre bodyPost bodyAt0
  simp only [before0, before1, before2, before3, before4, before5, before6, before7, before8, before9, before10,
      before11, before12, before13, before14, before15, before16, before17, before18, before19, before20, before21,
      before22, before23, before24, before25, before26, before27, before28]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12,
        after13, after14, after15, after16, after17, after18, after19, after20, after21, after22, after23, after24,
        after25, after26, after27, after28, after29, after30, after31, after32, after33, after34, after35, after36,
        after37, after38, after39, after40, after41, after42, after43, after44, after45, after46, after47, after48,
        after49, after50, after51, after52, after53, after54, after55, after56, after57]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
      ⟨%d9, H9⟩, ⟨%d10, H10⟩, ⟨%d11, H11⟩, ⟨%d12, H12⟩, ⟨%d13, H13⟩, ⟨%d14, H14⟩, ⟨%d15, H15⟩, ⟨%d16, H16⟩, ⟨%d17,
      H17⟩, ⟨%d18, H18⟩, ⟨%d19, H19⟩, ⟨%d20, H20⟩, ⟨%d21, H21⟩, ⟨%d22, H22⟩, ⟨%d23, H23⟩, ⟨%d24, H24⟩, ⟨%d25, H25⟩,
      ⟨%d26, H26⟩, ⟨%d27, H27⟩, ⟨%d28, H28⟩, ⟨%d29, H29⟩, ⟨%d30, H30⟩, ⟨%d31, H31⟩, ⟨%d32, H32⟩, ⟨%d33, H33⟩, ⟨%d34,
      H34⟩, ⟨%d35, H35⟩, ⟨%d36, H36⟩, ⟨%d37, H37⟩, ⟨%d38, H38⟩, ⟨%d39, H39⟩, ⟨%d40, H40⟩, ⟨%d41, H41⟩, ⟨%d42, H42⟩,
      ⟨%d43, H43⟩, ⟨%d44, H44⟩, ⟨%d45, H45⟩, ⟨%d46, H46⟩, ⟨%d47, H47⟩, ⟨%d48, H48⟩, ⟨%d49, H49⟩, ⟨%d50, H50⟩, ⟨%d51,
      H51⟩, ⟨%d52, H52⟩, ⟨%d53, H53⟩, ⟨%d54, H54⟩, ⟨%d55, H55⟩, ⟨%d56, H56⟩, ⟨%d57, H57⟩⟩
  iapply (sound_kernel c Set.univ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)
      (iblk m c 12 t) (iblk m c 13 t) (iblk m c 14 t) (iblk m c 15 t) (iblk m c 16 t) (iblk m c 17 t) (iblk m c 18 t)
      (iblk m c 19 t) (iblk m c 20 t) (iblk m c 21 t) (iblk m c 22 t) (iblk m c 23 t) (iblk m c 24 t) (iblk m c 25 t)
      (iblk m c 26 t) (iblk m c 27 t) (iblk m c 28 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  iintro ⟨H0, H1, H2, H3, H4, H5, H6, H7, H8, H9, H10, H11, H12, H13, H14, H15, H16, H17, H18, H19, H20, H21, H22,
      H23, H24, H25, H26, H27, H28, H29, H30, H31, H32, H33, H34, H35, H36, H37, H38, H39, H40, H41, H42, H43, H44,
      H45, H46, H47, H48, H49, H50, H51, H52, H53, H54, H55, H56, H57⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  iexact H57

theorem row (t : Fin cfg0.N) : defs₀ (F := F) .tc cfg0.body (cfg0.bodyArgs t (cfg0.slots t)) = bodyAt0 t := by
  unfold defs₀; rw [Defs.onTc_tc]

set_option maxHeartbeats 20000000 in
theorem body_obligation (c : Dev nD) :
    BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 20000000 in
/-- The run: every array ends at what the data compute, and every semaphore at zero. -/
theorem run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A given array ends as it was. -/
theorem given (c : Dev nD) (w : Fin cfg0.W)
    (hw : (cfg0.win w).isOut = false) :
    (dats m 0 c).arrAt w cfg0.N = V m c (Pipeline.arrRef spec0 w) :=
  ((dats m 0 c).arrAt_in w hw _).trans (A_eq m c w)

end Cert.ARepIdeal.Body

end
-- ==== Proof.RepStep.lean ====
/-
  The optimiser's step on the weights every device holds whole, and the loss: the values of the twenty-nine results.
-/
module

public import proofs.«01_k».proof.Defs
public import proofs.«01_k».proof.Proof.Adam
public import proofs.«01_k».proof.Proof.RepFrame
public import proofs.«01_k».proof.Proof.Gen.ARepRefIdeal.Run
public import Idealize.ShloMosaic.Lib.Pipeline.ValueKit.Geometry

@[expose] public section

set_option maxRecDepth 16384

noncomputable section

namespace Cert.ARepIdeal.Step

open Cert.ARepIdeal Cert.ARepIdeal.Gen Cert.ARepIdeal.Body
open Idealize.ShloMosaic Idealize.ShloMosaic.TcCoe Idealize.SL.Sem

section Frame

variable {F : FTy → Type} [FloatOps F] (m : (ℓ : Loc nD τ sig) → Buf (Elt F) ℓ) (ρ : Dev nD → PrngReg)

/-- The given arrays end as they were. -/
theorem kept (r : PUnit × MemSt nD τ sig (Elt F)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17)
    ∧ r.2.mem ((c : Thread nD τ).loc main_arg18) = m ((c : Thread nD τ).loc main_arg18)
    ∧ r.2.mem ((c : Thread nD τ).loc main_arg19) = m ((c : Thread nD τ).loc main_arg19)
    ∧ r.2.mem ((c : Thread nD τ).loc main_arg20) = m ((c : Thread nD τ).loc main_arg20)
    ∧ r.2.mem ((c : Thread nD τ).loc main_arg21) = m ((c : Thread nD τ).loc main_arg21)
    ∧ r.2.mem ((c : Thread nD τ).loc main_arg22) = m ((c : Thread nD τ).loc main_arg22)
    ∧ r.2.mem ((c : Thread nD τ).loc main_arg23) = m ((c : Thread nD τ).loc main_arg23)
    ∧ r.2.mem ((c : Thread nD τ).loc main_arg24) = m ((c : Thread nD τ).loc main_arg24)
    ∧ r.2.mem ((c : Thread nD τ).loc main_arg25) = m ((c : Thread nD τ).loc main_arg25)
    ∧ r.2.mem ((c : Thread nD τ).loc main_arg26) = m ((c : Thread nD τ).loc main_arg26)
    ∧ r.2.mem ((c : Thread nD τ).loc main_arg27) = m ((c : Thread nD τ).loc main_arg27)
    ∧ r.2.mem ((c : Thread nD τ).loc main_arg28) = m ((c : Thread nD τ).loc main_arg28) :=
  have k := fun w hw => ((h c).1 w).trans (given m c w hw)
  ⟨k 0 rfl, k 1 rfl, k 2 rfl, k 3 rfl, k 4 rfl, k 5 rfl, k 6 rfl, k 7 rfl, k 8 rfl, k 9 rfl, k 10 rfl, k 11 rfl, k 12 rfl, k 13 rfl, k 14 rfl, k 15 rfl, k 16 rfl, k 17 rfl, k 18 rfl, k 19 rfl, k 20 rfl, k 21 rfl, k 22 rfl, k 23 rfl, k 24 rfl, k 25 rfl, k 26 rfl, k 27 rfl, k 28 rfl⟩

/-- The run leaves them so, and every semaphore at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28))
    ∧ r.2.sem = fun _ => 0) :=
  (θ_run defs _ _).mono (fun r h => ⟨kept m r h.1, h.2⟩) (run m ρ)

end Frame

/-- What the body leaves, as the step on arrays. -/
theorem sum_total {n : ℕ} (x : (Rows n).Idx → EReal) : sum (F := Ideal) x = Adam.total (A := 1) (B := n) x :=
  Adam.gathered (A := 1) (B := n) x (casts n)

theorem sent_eq {n : ℕ} {x X : (Rows n).Idx → EReal} (hx : x = X) : sent (F := Ideal) x = Adam.total (A := 1) (B := n) X := by
  subst hx
  exact (View.canon_unit_zero Products.origin (within n) _).trans (sum_total x)

theorem ld_all {n : ℕ} (x : Vec Ideal (Row n) .f32) : View.ld x (all n) = x := View.ld_unit_zero Products.origin (within n) x

theorem moved_eq {n : ℕ} {x X : (Rows n).Idx → EReal} {w W a A v V : (Row n).Idx → EReal} (hx : x = X) (hw : w = W)
    (ha : a = A) (hv : v = V) :
    moved (F := Ideal) x w a v = Adam.step (s := Row n) (Adam.total (A := 1) (B := n) X) W A V := by
  subst hx hw ha hv
  unfold moved
  rw [View.canon_unit_zero Products.origin (within n), ld_all, ld_all, ld_all, sum_total]
  rfl

theorem mean_eq {n : ℕ} {x X : (Rows n).Idx → EReal} {a A : (Row n).Idx → EReal} (hx : x = X) (ha : a = A) :
    mean (F := Ideal) x a = Adam.first (s := Row n) (Adam.total (A := 1) (B := n) X) A := by
  subst hx ha
  unfold mean
  rw [View.canon_unit_zero Products.origin (within n), ld_all, sum_total]
  rfl

theorem square_eq {n : ℕ} {x X : (Rows n).Idx → EReal} {v V : (Row n).Idx → EReal} (hx : x = X) (hv : v = V) :
    square (F := Ideal) x v = Adam.second (s := Row n) (Adam.total (A := 1) (B := n) X) V := by
  subst hx hv
  unfold square
  rw [View.canon_unit_zero Products.origin (within n), ld_all, sum_total]
  rfl

/-- A block that is the whole array. -/
theorem here {s : Shape} (x : s.Idx → EReal) (e : s.Idx → s.Idx) (h : ∀ y a, (e y a).val = (y a).val) :
    (fun y => x (e y)) = x :=
  funext fun y => congrArg x (funext fun a => Fin.ext (h y a))

theorem still (k : ℕ) : 0 + 1 * k = k := (Nat.zero_add _).trans (Nat.one_mul _)

variable (m : (ℓ : Loc nD τ sig) → Buf (Elt Ideal) ℓ) (c : Dev nD) (t : Fin cfg0.N)

/-! The given arrays, each its one block. -/

theorem in0 : iblk m c 0 t = m ((c : Thread nD τ).loc main_arg0) :=
  here (s := (Rows 256)) (m ((c : Thread nD τ).loc main_arg0)) ((cfg0.win 0).blk t).view.emb fun _ a => by fin_cases a <;> exact still _
theorem in1 : iblk m c 1 t = m ((c : Thread nD τ).loc main_arg1) :=
  here (s := (Rows 128)) (m ((c : Thread nD τ).loc main_arg1)) ((cfg0.win 1).blk t).view.emb fun _ a => by fin_cases a <;> exact still _
theorem in2 : iblk m c 2 t = m ((c : Thread nD τ).loc main_arg2) :=
  here (s := (Rows 1024)) (m ((c : Thread nD τ).loc main_arg2)) ((cfg0.win 2).blk t).view.emb fun _ a => by fin_cases a <;> exact still _
theorem in3 : iblk m c 3 t = m ((c : Thread nD τ).loc main_arg3) :=
  here (s := (Rows 1024)) (m ((c : Thread nD τ).loc main_arg3)) ((cfg0.win 3).blk t).view.emb fun _ a => by fin_cases a <;> exact still _
theorem in4 : iblk m c 4 t = m ((c : Thread nD τ).loc main_arg4) :=
  here (s := (Rows 5632)) (m ((c : Thread nD τ).loc main_arg4)) ((cfg0.win 4).blk t).view.emb fun _ a => by fin_cases a <;> exact still _
theorem in5 : iblk m c 5 t = m ((c : Thread nD τ).loc main_arg5) :=
  here (s := (Rows 1024)) (m ((c : Thread nD τ).loc main_arg5)) ((cfg0.win 5).blk t).view.emb fun _ a => by fin_cases a <;> exact still _
theorem in6 : iblk m c 6 t = m ((c : Thread nD τ).loc main_arg6) :=
  here (s := (Rows 1024)) (m ((c : Thread nD τ).loc main_arg6)) ((cfg0.win 6).blk t).view.emb fun _ a => by fin_cases a <;> exact still _
theorem in7 : iblk m c 7 t = m ((c : Thread nD τ).loc main_arg7) :=
  here (s := (Rows 128)) (m ((c : Thread nD τ).loc main_arg7)) ((cfg0.win 7).blk t).view.emb fun _ a => by fin_cases a <;> exact still _
theorem in8 : iblk m c 8 t = m ((c : Thread nD τ).loc main_arg8) :=
  here (s := (Row 256)) (m ((c : Thread nD τ).loc main_arg8)) ((cfg0.win 8).blk t).view.emb fun _ a => by fin_cases a <;> exact still _
theorem in9 : iblk m c 9 t = m ((c : Thread nD τ).loc main_arg9) :=
  here (s := (Row 128)) (m ((c : Thread nD τ).loc main_arg9)) ((cfg0.win 9).blk t).view.emb fun _ a => by fin_cases a <;> exact still _
theorem in10 : iblk m c 10 t = m ((c : Thread nD τ).loc main_arg10) :=
  here (s := (Row 1024)) (m ((c : Thread nD τ).loc main_arg10)) ((cfg0.win 10).blk t).view.emb fun _ a => by fin_cases a <;> exact still _
theorem in11 : iblk m c 11 t = m ((c : Thread nD τ).loc main_arg11) :=
  here (s := (Row 1024)) (m ((c : Thread nD τ).loc main_arg11)) ((cfg0.win 11).blk t).view.emb fun _ a => by fin_cases a <;> exact still _
theorem in12 : iblk m c 12 t = m ((c : Thread nD τ).loc main_arg12) :=
  here (s := (Row 5632)) (m ((c : Thread nD τ).loc main_arg12)) ((cfg0.win 12).blk t).view.emb fun _ a => by fin_cases a <;> exact still _
theorem in13 : iblk m c 13 t = m ((c : Thread nD τ).loc main_arg13) :=
  here (s := (Row 1024)) (m ((c : Thread nD τ).loc main_arg13)) ((cfg0.win 13).blk t).view.emb fun _ a => by fin_cases a <;> exact still _
theorem in14 : iblk m c 14 t = m ((c : Thread nD τ).loc main_arg14) :=
  here (s := (Row 1024)) (m ((c : Thread nD τ).loc main_arg14)) ((cfg0.win 14).blk t).view.emb fun _ a => by fin_cases a <;> exact still _
theorem in15 : iblk m c 15 t = m ((c : Thread nD τ).loc main_arg15) :=
  here (s := (Row 256)) (m ((c : Thread nD τ).loc main_arg15)) ((cfg0.win 15).blk t).view.emb fun _ a => by fin_cases a <;> exact still _
theorem in16 : iblk m c 16 t = m ((c : Thread nD τ).loc main_arg16) :=
  here (s := (Row 128)) (m ((c : Thread nD τ).loc main_arg16)) ((cfg0.win 16).blk t).view.emb fun _ a => by fin_cases a <;> exact still _
theorem in17 : iblk m c 17 t = m ((c : Thread nD τ).loc main_arg17) :=
  here (s := (Row 1024)) (m ((c : Thread nD τ).loc main_arg17)) ((cfg0.win 17).blk t).view.emb fun _ a => by fin_cases a <;> exact still _
theorem in18 : iblk m c 18 t = m ((c : Thread nD τ).loc main_arg18) :=
  here (s := (Row 1024)) (m ((c : Thread nD τ).loc main_arg18)) ((cfg0.win 18).blk t).view.emb fun _ a => by fin_cases a <;> exact still _
theorem in19 : iblk m c 19 t = m ((c : Thread nD τ).loc main_arg19) :=
  here (s := (Row 5632)) (m ((c : Thread nD τ).loc main_arg19)) ((cfg0.win 19).blk t).view.emb fun _ a => by fin_cases a <;> exact still _
theorem in20 : iblk m c 20 t = m ((c : Thread nD τ).loc main_arg20) :=
  here (s := (Row 1024)) (m ((c : Thread nD τ).loc main_arg20)) ((cfg0.win 20).blk t).view.emb fun _ a => by fin_cases a <;> exact still _
theorem in21 : iblk m c 21 t = m ((c : Thread nD τ).loc main_arg21) :=
  here (s := (Row 1024)) (m ((c : Thread nD τ).loc main_arg21)) ((cfg0.win 21).blk t).view.emb fun _ a => by fin_cases a <;> exact still _
theorem in22 : iblk m c 22 t = m ((c : Thread nD τ).loc main_arg22) :=
  here (s := (Row 256)) (m ((c : Thread nD τ).loc main_arg22)) ((cfg0.win 22).blk t).view.emb fun _ a => by fin_cases a <;> exact still _
theorem in23 : iblk m c 23 t = m ((c : Thread nD τ).loc main_arg23) :=
  here (s := (Row 128)) (m ((c : Thread nD τ).loc main_arg23)) ((cfg0.win 23).blk t).view.emb fun _ a => by fin_cases a <;> exact still _
theorem in24 : iblk m c 24 t = m ((c : Thread nD τ).loc main_arg24) :=
  here (s := (Row 1024)) (m ((c : Thread nD τ).loc main_arg24)) ((cfg0.win 24).blk t).view.emb fun _ a => by fin_cases a <;> exact still _
theorem in25 : iblk m c 25 t = m ((c : Thread nD τ).loc main_arg25) :=
  here (s := (Row 1024)) (m ((c : Thread nD τ).loc main_arg25)) ((cfg0.win 25).blk t).view.emb fun _ a => by fin_cases a <;> exact still _
theorem in26 : iblk m c 26 t = m ((c : Thread nD τ).loc main_arg26) :=
  here (s := (Row 5632)) (m ((c : Thread nD τ).loc main_arg26)) ((cfg0.win 26).blk t).view.emb fun _ a => by fin_cases a <;> exact still _
theorem in27 : iblk m c 27 t = m ((c : Thread nD τ).loc main_arg27) :=
  here (s := (Row 1024)) (m ((c : Thread nD τ).loc main_arg27)) ((cfg0.win 27).blk t).view.emb fun _ a => by fin_cases a <;> exact still _
theorem in28 : iblk m c 28 t = m ((c : Thread nD τ).loc main_arg28) :=
  here (s := (Row 1024)) (m ((c : Thread nD τ).loc main_arg28)) ((cfg0.win 28).blk t).view.emb fun _ a => by fin_cases a <;> exact still _

/-! The values of the results. -/

abbrev val29 : (Row 128).Idx → EReal :=
  Adam.total (A := 1) (B := 128) (m ((c : Thread nD τ).loc main_arg7))
theorem final29 : (dats m 0 c).arrAt 29 cfg0.N = val29 m c :=
  (dats m 0 c).arrAt_eq_of_cover 29 _ (fun t _ => ((after29 m c t).trans (sent_eq (in7 m c t))).trans
      (here (s := Row 128) (val29 m c) ((cfg0.win 29).blk t).view.emb fun _ a => by fin_cases a <;> exact still _).symm)
    ((by decide +kernel : (cfg0.win 29).Covers).cover _ (Memref.isWhole_whole _))
abbrev val30 : (Row 256).Idx → EReal :=
  Adam.total (A := 1) (B := 256) (m ((c : Thread nD τ).loc main_arg0))
theorem final30 : (dats m 0 c).arrAt 30 cfg0.N = val30 m c :=
  (dats m 0 c).arrAt_eq_of_cover 30 _ (fun t _ => ((after30 m c t).trans (sent_eq (in0 m c t))).trans
      (here (s := Row 256) (val30 m c) ((cfg0.win 30).blk t).view.emb fun _ a => by fin_cases a <;> exact still _).symm)
    ((by decide +kernel : (cfg0.win 30).Covers).cover _ (Memref.isWhole_whole _))
abbrev val31 : (Row 256).Idx → EReal :=
  Adam.step (s := Row 256) (Adam.total (A := 1) (B := 256) (m ((c : Thread nD τ).loc main_arg0))) (m ((c : Thread nD τ).loc main_arg8)) (m ((c : Thread nD τ).loc main_arg15)) (m ((c : Thread nD τ).loc main_arg22))
theorem final31 : (dats m 0 c).arrAt 31 cfg0.N = val31 m c :=
  (dats m 0 c).arrAt_eq_of_cover 31 _ (fun t _ => ((after31 m c t).trans (moved_eq (in0 m c t) (in8 m c t) (in15 m c t) (in22 m c t))).trans
      (here (s := Row 256) (val31 m c) ((cfg0.win 31).blk t).view.emb fun _ a => by fin_cases a <;> exact still _).symm)
    ((by decide +kernel : (cfg0.win 31).Covers).cover _ (Memref.isWhole_whole _))
abbrev val32 : (Row 256).Idx → EReal :=
  Adam.first (s := Row 256) (Adam.total (A := 1) (B := 256) (m ((c : Thread nD τ).loc main_arg0))) (m ((c : Thread nD τ).loc main_arg15))
theorem final32 : (dats m 0 c).arrAt 32 cfg0.N = val32 m c :=
  (dats m 0 c).arrAt_eq_of_cover 32 _ (fun t _ => ((after32 m c t).trans (mean_eq (in0 m c t) (in15 m c t))).trans
      (here (s := Row 256) (val32 m c) ((cfg0.win 32).blk t).view.emb fun _ a => by fin_cases a <;> exact still _).symm)
    ((by decide +kernel : (cfg0.win 32).Covers).cover _ (Memref.isWhole_whole _))
abbrev val33 : (Row 256).Idx → EReal :=
  Adam.second (s := Row 256) (Adam.total (A := 1) (B := 256) (m ((c : Thread nD τ).loc main_arg0))) (m ((c : Thread nD τ).loc main_arg22))
theorem final33 : (dats m 0 c).arrAt 33 cfg0.N = val33 m c :=
  (dats m 0 c).arrAt_eq_of_cover 33 _ (fun t _ => ((after33 m c t).trans (square_eq (in0 m c t) (in22 m c t))).trans
      (here (s := Row 256) (val33 m c) ((cfg0.win 33).blk t).view.emb fun _ a => by fin_cases a <;> exact still _).symm)
    ((by decide +kernel : (cfg0.win 33).Covers).cover _ (Memref.isWhole_whole _))
abbrev val34 : (Row 128).Idx → EReal :=
  Adam.total (A := 1) (B := 128) (m ((c : Thread nD τ).loc main_arg1))
theorem final34 : (dats m 0 c).arrAt 34 cfg0.N = val34 m c :=
  (dats m 0 c).arrAt_eq_of_cover 34 _ (fun t _ => ((after34 m c t).trans (sent_eq (in1 m c t))).trans
      (here (s := Row 128) (val34 m c) ((cfg0.win 34).blk t).view.emb fun _ a => by fin_cases a <;> exact still _).symm)
    ((by decide +kernel : (cfg0.win 34).Covers).cover _ (Memref.isWhole_whole _))
abbrev val35 : (Row 128).Idx → EReal :=
  Adam.step (s := Row 128) (Adam.total (A := 1) (B := 128) (m ((c : Thread nD τ).loc main_arg1))) (m ((c : Thread nD τ).loc main_arg9)) (m ((c : Thread nD τ).loc main_arg16)) (m ((c : Thread nD τ).loc main_arg23))
theorem final35 : (dats m 0 c).arrAt 35 cfg0.N = val35 m c :=
  (dats m 0 c).arrAt_eq_of_cover 35 _ (fun t _ => ((after35 m c t).trans (moved_eq (in1 m c t) (in9 m c t) (in16 m c t) (in23 m c t))).trans
      (here (s := Row 128) (val35 m c) ((cfg0.win 35).blk t).view.emb fun _ a => by fin_cases a <;> exact still _).symm)
    ((by decide +kernel : (cfg0.win 35).Covers).cover _ (Memref.isWhole_whole _))
abbrev val36 : (Row 128).Idx → EReal :=
  Adam.first (s := Row 128) (Adam.total (A := 1) (B := 128) (m ((c : Thread nD τ).loc main_arg1))) (m ((c : Thread nD τ).loc main_arg16))
theorem final36 : (dats m 0 c).arrAt 36 cfg0.N = val36 m c :=
  (dats m 0 c).arrAt_eq_of_cover 36 _ (fun t _ => ((after36 m c t).trans (mean_eq (in1 m c t) (in16 m c t))).trans
      (here (s := Row 128) (val36 m c) ((cfg0.win 36).blk t).view.emb fun _ a => by fin_cases a <;> exact still _).symm)
    ((by decide +kernel : (cfg0.win 36).Covers).cover _ (Memref.isWhole_whole _))
abbrev val37 : (Row 128).Idx → EReal :=
  Adam.second (s := Row 128) (Adam.total (A := 1) (B := 128) (m ((c : Thread nD τ).loc main_arg1))) (m ((c : Thread nD τ).loc main_arg23))
theorem final37 : (dats m 0 c).arrAt 37 cfg0.N = val37 m c :=
  (dats m 0 c).arrAt_eq_of_cover 37 _ (fun t _ => ((after37 m c t).trans (square_eq (in1 m c t) (in23 m c t))).trans
      (here (s := Row 128) (val37 m c) ((cfg0.win 37).blk t).view.emb fun _ a => by fin_cases a <;> exact still _).symm)
    ((by decide +kernel : (cfg0.win 37).Covers).cover _ (Memref.isWhole_whole _))
abbrev val38 : (Row 1024).Idx → EReal :=
  Adam.total (A := 1) (B := 1024) (m ((c : Thread nD τ).loc main_arg2))
theorem final38 : (dats m 0 c).arrAt 38 cfg0.N = val38 m c :=
  (dats m 0 c).arrAt_eq_of_cover 38 _ (fun t _ => ((after38 m c t).trans (sent_eq (in2 m c t))).trans
      (here (s := Row 1024) (val38 m c) ((cfg0.win 38).blk t).view.emb fun _ a => by fin_cases a <;> exact still _).symm)
    ((by decide +kernel : (cfg0.win 38).Covers).cover _ (Memref.isWhole_whole _))
abbrev val39 : (Row 1024).Idx → EReal :=
  Adam.step (s := Row 1024) (Adam.total (A := 1) (B := 1024) (m ((c : Thread nD τ).loc main_arg2))) (m ((c : Thread nD τ).loc main_arg10)) (m ((c : Thread nD τ).loc main_arg17)) (m ((c : Thread nD τ).loc main_arg24))
theorem final39 : (dats m 0 c).arrAt 39 cfg0.N = val39 m c :=
  (dats m 0 c).arrAt_eq_of_cover 39 _ (fun t _ => ((after39 m c t).trans (moved_eq (in2 m c t) (in10 m c t) (in17 m c t) (in24 m c t))).trans
      (here (s := Row 1024) (val39 m c) ((cfg0.win 39).blk t).view.emb fun _ a => by fin_cases a <;> exact still _).symm)
    ((by decide +kernel : (cfg0.win 39).Covers).cover _ (Memref.isWhole_whole _))
abbrev val40 : (Row 1024).Idx → EReal :=
  Adam.first (s := Row 1024) (Adam.total (A := 1) (B := 1024) (m ((c : Thread nD τ).loc main_arg2))) (m ((c : Thread nD τ).loc main_arg17))
theorem final40 : (dats m 0 c).arrAt 40 cfg0.N = val40 m c :=
  (dats m 0 c).arrAt_eq_of_cover 40 _ (fun t _ => ((after40 m c t).trans (mean_eq (in2 m c t) (in17 m c t))).trans
      (here (s := Row 1024) (val40 m c) ((cfg0.win 40).blk t).view.emb fun _ a => by fin_cases a <;> exact still _).symm)
    ((by decide +kernel : (cfg0.win 40).Covers).cover _ (Memref.isWhole_whole _))
abbrev val41 : (Row 1024).Idx → EReal :=
  Adam.second (s := Row 1024) (Adam.total (A := 1) (B := 1024) (m ((c : Thread nD τ).loc main_arg2))) (m ((c : Thread nD τ).loc main_arg24))
theorem final41 : (dats m 0 c).arrAt 41 cfg0.N = val41 m c :=
  (dats m 0 c).arrAt_eq_of_cover 41 _ (fun t _ => ((after41 m c t).trans (square_eq (in2 m c t) (in24 m c t))).trans
      (here (s := Row 1024) (val41 m c) ((cfg0.win 41).blk t).view.emb fun _ a => by fin_cases a <;> exact still _).symm)
    ((by decide +kernel : (cfg0.win 41).Covers).cover _ (Memref.isWhole_whole _))
abbrev val42 : (Row 1024).Idx → EReal :=
  Adam.total (A := 1) (B := 1024) (m ((c : Thread nD τ).loc main_arg3))
theorem final42 : (dats m 0 c).arrAt 42 cfg0.N = val42 m c :=
  (dats m 0 c).arrAt_eq_of_cover 42 _ (fun t _ => ((after42 m c t).trans (sent_eq (in3 m c t))).trans
      (here (s := Row 1024) (val42 m c) ((cfg0.win 42).blk t).view.emb fun _ a => by fin_cases a <;> exact still _).symm)
    ((by decide +kernel : (cfg0.win 42).Covers).cover _ (Memref.isWhole_whole _))
abbrev val43 : (Row 1024).Idx → EReal :=
  Adam.step (s := Row 1024) (Adam.total (A := 1) (B := 1024) (m ((c : Thread nD τ).loc main_arg3))) (m ((c : Thread nD τ).loc main_arg11)) (m ((c : Thread nD τ).loc main_arg18)) (m ((c : Thread nD τ).loc main_arg25))
theorem final43 : (dats m 0 c).arrAt 43 cfg0.N = val43 m c :=
  (dats m 0 c).arrAt_eq_of_cover 43 _ (fun t _ => ((after43 m c t).trans (moved_eq (in3 m c t) (in11 m c t) (in18 m c t) (in25 m c t))).trans
      (here (s := Row 1024) (val43 m c) ((cfg0.win 43).blk t).view.emb fun _ a => by fin_cases a <;> exact still _).symm)
    ((by decide +kernel : (cfg0.win 43).Covers).cover _ (Memref.isWhole_whole _))
abbrev val44 : (Row 1024).Idx → EReal :=
  Adam.first (s := Row 1024) (Adam.total (A := 1) (B := 1024) (m ((c : Thread nD τ).loc main_arg3))) (m ((c : Thread nD τ).loc main_arg18))
theorem final44 : (dats m 0 c).arrAt 44 cfg0.N = val44 m c :=
  (dats m 0 c).arrAt_eq_of_cover 44 _ (fun t _ => ((after44 m c t).trans (mean_eq (in3 m c t) (in18 m c t))).trans
      (here (s := Row 1024) (val44 m c) ((cfg0.win 44).blk t).view.emb fun _ a => by fin_cases a <;> exact still _).symm)
    ((by decide +kernel : (cfg0.win 44).Covers).cover _ (Memref.isWhole_whole _))
abbrev val45 : (Row 1024).Idx → EReal :=
  Adam.second (s := Row 1024) (Adam.total (A := 1) (B := 1024) (m ((c : Thread nD τ).loc main_arg3))) (m ((c : Thread nD τ).loc main_arg25))
theorem final45 : (dats m 0 c).arrAt 45 cfg0.N = val45 m c :=
  (dats m 0 c).arrAt_eq_of_cover 45 _ (fun t _ => ((after45 m c t).trans (square_eq (in3 m c t) (in25 m c t))).trans
      (here (s := Row 1024) (val45 m c) ((cfg0.win 45).blk t).view.emb fun _ a => by fin_cases a <;> exact still _).symm)
    ((by decide +kernel : (cfg0.win 45).Covers).cover _ (Memref.isWhole_whole _))
abbrev val46 : (Row 5632).Idx → EReal :=
  Adam.total (A := 1) (B := 5632) (m ((c : Thread nD τ).loc main_arg4))
theorem final46 : (dats m 0 c).arrAt 46 cfg0.N = val46 m c :=
  (dats m 0 c).arrAt_eq_of_cover 46 _ (fun t _ => ((after46 m c t).trans (sent_eq (in4 m c t))).trans
      (here (s := Row 5632) (val46 m c) ((cfg0.win 46).blk t).view.emb fun _ a => by fin_cases a <;> exact still _).symm)
    ((by decide +kernel : (cfg0.win 46).Covers).cover _ (Memref.isWhole_whole _))
abbrev val47 : (Row 5632).Idx → EReal :=
  Adam.step (s := Row 5632) (Adam.total (A := 1) (B := 5632) (m ((c : Thread nD τ).loc main_arg4))) (m ((c : Thread nD τ).loc main_arg12)) (m ((c : Thread nD τ).loc main_arg19)) (m ((c : Thread nD τ).loc main_arg26))
theorem final47 : (dats m 0 c).arrAt 47 cfg0.N = val47 m c :=
  (dats m 0 c).arrAt_eq_of_cover 47 _ (fun t _ => ((after47 m c t).trans (moved_eq (in4 m c t) (in12 m c t) (in19 m c t) (in26 m c t))).trans
      (here (s := Row 5632) (val47 m c) ((cfg0.win 47).blk t).view.emb fun _ a => by fin_cases a <;> exact still _).symm)
    ((by decide +kernel : (cfg0.win 47).Covers).cover _ (Memref.isWhole_whole _))
abbrev val48 : (Row 5632).Idx → EReal :=
  Adam.first (s := Row 5632) (Adam.total (A := 1) (B := 5632) (m ((c : Thread nD τ).loc main_arg4))) (m ((c : Thread nD τ).loc main_arg19))
theorem final48 : (dats m 0 c).arrAt 48 cfg0.N = val48 m c :=
  (dats m 0 c).arrAt_eq_of_cover 48 _ (fun t _ => ((after48 m c t).trans (mean_eq (in4 m c t) (in19 m c t))).trans
      (here (s := Row 5632) (val48 m c) ((cfg0.win 48).blk t).view.emb fun _ a => by fin_cases a <;> exact still _).symm)
    ((by decide +kernel : (cfg0.win 48).Covers).cover _ (Memref.isWhole_whole _))
abbrev val49 : (Row 5632).Idx → EReal :=
  Adam.second (s := Row 5632) (Adam.total (A := 1) (B := 5632) (m ((c : Thread nD τ).loc main_arg4))) (m ((c : Thread nD τ).loc main_arg26))
theorem final49 : (dats m 0 c).arrAt 49 cfg0.N = val49 m c :=
  (dats m 0 c).arrAt_eq_of_cover 49 _ (fun t _ => ((after49 m c t).trans (square_eq (in4 m c t) (in26 m c t))).trans
      (here (s := Row 5632) (val49 m c) ((cfg0.win 49).blk t).view.emb fun _ a => by fin_cases a <;> exact still _).symm)
    ((by decide +kernel : (cfg0.win 49).Covers).cover _ (Memref.isWhole_whole _))
abbrev val50 : (Row 1024).Idx → EReal :=
  Adam.total (A := 1) (B := 1024) (m ((c : Thread nD τ).loc main_arg5))
theorem final50 : (dats m 0 c).arrAt 50 cfg0.N = val50 m c :=
  (dats m 0 c).arrAt_eq_of_cover 50 _ (fun t _ => ((after50 m c t).trans (sent_eq (in5 m c t))).trans
      (here (s := Row 1024) (val50 m c) ((cfg0.win 50).blk t).view.emb fun _ a => by fin_cases a <;> exact still _).symm)
    ((by decide +kernel : (cfg0.win 50).Covers).cover _ (Memref.isWhole_whole _))
abbrev val51 : (Row 1024).Idx → EReal :=
  Adam.step (s := Row 1024) (Adam.total (A := 1) (B := 1024) (m ((c : Thread nD τ).loc main_arg5))) (m ((c : Thread nD τ).loc main_arg13)) (m ((c : Thread nD τ).loc main_arg20)) (m ((c : Thread nD τ).loc main_arg27))
theorem final51 : (dats m 0 c).arrAt 51 cfg0.N = val51 m c :=
  (dats m 0 c).arrAt_eq_of_cover 51 _ (fun t _ => ((after51 m c t).trans (moved_eq (in5 m c t) (in13 m c t) (in20 m c t) (in27 m c t))).trans
      (here (s := Row 1024) (val51 m c) ((cfg0.win 51).blk t).view.emb fun _ a => by fin_cases a <;> exact still _).symm)
    ((by decide +kernel : (cfg0.win 51).Covers).cover _ (Memref.isWhole_whole _))
abbrev val52 : (Row 1024).Idx → EReal :=
  Adam.first (s := Row 1024) (Adam.total (A := 1) (B := 1024) (m ((c : Thread nD τ).loc main_arg5))) (m ((c : Thread nD τ).loc main_arg20))
theorem final52 : (dats m 0 c).arrAt 52 cfg0.N = val52 m c :=
  (dats m 0 c).arrAt_eq_of_cover 52 _ (fun t _ => ((after52 m c t).trans (mean_eq (in5 m c t) (in20 m c t))).trans
      (here (s := Row 1024) (val52 m c) ((cfg0.win 52).blk t).view.emb fun _ a => by fin_cases a <;> exact still _).symm)
    ((by decide +kernel : (cfg0.win 52).Covers).cover _ (Memref.isWhole_whole _))
abbrev val53 : (Row 1024).Idx → EReal :=
  Adam.second (s := Row 1024) (Adam.total (A := 1) (B := 1024) (m ((c : Thread nD τ).loc main_arg5))) (m ((c : Thread nD τ).loc main_arg27))
theorem final53 : (dats m 0 c).arrAt 53 cfg0.N = val53 m c :=
  (dats m 0 c).arrAt_eq_of_cover 53 _ (fun t _ => ((after53 m c t).trans (square_eq (in5 m c t) (in27 m c t))).trans
      (here (s := Row 1024) (val53 m c) ((cfg0.win 53).blk t).view.emb fun _ a => by fin_cases a <;> exact still _).symm)
    ((by decide +kernel : (cfg0.win 53).Covers).cover _ (Memref.isWhole_whole _))
abbrev val54 : (Row 1024).Idx → EReal :=
  Adam.total (A := 1) (B := 1024) (m ((c : Thread nD τ).loc main_arg6))
theorem final54 : (dats m 0 c).arrAt 54 cfg0.N = val54 m c :=
  (dats m 0 c).arrAt_eq_of_cover 54 _ (fun t _ => ((after54 m c t).trans (sent_eq (in6 m c t))).trans
      (here (s := Row 1024) (val54 m c) ((cfg0.win 54).blk t).view.emb fun _ a => by fin_cases a <;> exact still _).symm)
    ((by decide +kernel : (cfg0.win 54).Covers).cover _ (Memref.isWhole_whole _))
abbrev val55 : (Row 1024).Idx → EReal :=
  Adam.step (s := Row 1024) (Adam.total (A := 1) (B := 1024) (m ((c : Thread nD τ).loc main_arg6))) (m ((c : Thread nD τ).loc main_arg14)) (m ((c : Thread nD τ).loc main_arg21)) (m ((c : Thread nD τ).loc main_arg28))
theorem final55 : (dats m 0 c).arrAt 55 cfg0.N = val55 m c :=
  (dats m 0 c).arrAt_eq_of_cover 55 _ (fun t _ => ((after55 m c t).trans (moved_eq (in6 m c t) (in14 m c t) (in21 m c t) (in28 m c t))).trans
      (here (s := Row 1024) (val55 m c) ((cfg0.win 55).blk t).view.emb fun _ a => by fin_cases a <;> exact still _).symm)
    ((by decide +kernel : (cfg0.win 55).Covers).cover _ (Memref.isWhole_whole _))
abbrev val56 : (Row 1024).Idx → EReal :=
  Adam.first (s := Row 1024) (Adam.total (A := 1) (B := 1024) (m ((c : Thread nD τ).loc main_arg6))) (m ((c : Thread nD τ).loc main_arg21))
theorem final56 : (dats m 0 c).arrAt 56 cfg0.N = val56 m c :=
  (dats m 0 c).arrAt_eq_of_cover 56 _ (fun t _ => ((after56 m c t).trans (mean_eq (in6 m c t) (in21 m c t))).trans
      (here (s := Row 1024) (val56 m c) ((cfg0.win 56).blk t).view.emb fun _ a => by fin_cases a <;> exact still _).symm)
    ((by decide +kernel : (cfg0.win 56).Covers).cover _ (Memref.isWhole_whole _))
abbrev val57 : (Row 1024).Idx → EReal :=
  Adam.second (s := Row 1024) (Adam.total (A := 1) (B := 1024) (m ((c : Thread nD τ).loc main_arg6))) (m ((c : Thread nD τ).loc main_arg28))
theorem final57 : (dats m 0 c).arrAt 57 cfg0.N = val57 m c :=
  (dats m 0 c).arrAt_eq_of_cover 57 _ (fun t _ => ((after57 m c t).trans (square_eq (in6 m c t) (in28 m c t))).trans
      (here (s := Row 1024) (val57 m c) ((cfg0.win 57).blk t).view.emb fun _ a => by fin_cases a <;> exact still _).symm)
    ((by decide +kernel : (cfg0.win 57).Covers).cover _ (Memref.isWhole_whole _))

end Cert.ARepIdeal.Step

namespace Cert.Proof

open Idealize.ShloMosaic Idealize.ShloMosaic.TcCoe Idealize.SL.Sem

theorem frame_ARepRefIdeal : Cert.quiescent_ARepRefIdeal := fun m ρ _ =>
  (θ_run Cert.ARepRefIdeal.defs _ _).mono (fun r h => ⟨fun c => (h c).2.2.2.2.2.2.2.2.2.2.2.2.2.2.2.2.2.2.2.2.2.2.2.2.2.2.2.2.2,
      sem_eq_zero_of_no_sems (by decide) r.2⟩)
    (Cert.ARepRefIdeal.Value.run (F := Ideal) m ρ)

theorem step_congr {s : Shape} {g G w W a A v V : FVec Ideal s .f32} (hg : g = G) (hw : w = W) (ha : a = A) (hv : v = V) :
    Cert.Adam.step g w a v = Cert.Adam.step G W A V := by
  rw [hg, hw, ha, hv]

theorem first_congr {s : Shape} {g G a A : FVec Ideal s .f32} (hg : g = G) (ha : a = A) :
    Cert.Adam.first g a = Cert.Adam.first G A := by
  rw [hg, ha]

theorem second_congr {s : Shape} {g G v V : FVec Ideal s .f32} (hg : g = G) (hv : v = V) :
    Cert.Adam.second g v = Cert.Adam.second G V := by
  rw [hg, hv]

theorem total_congr {n : ℕ} {u : Shape} (x X : (⟨3, ![8, 1, n]⟩ : Shape).Idx → EReal) (init : FVec Ideal u .f32)
    (h : (⟨3, ![8, 1, n]⟩ : Shape).ReducesTo [0] ⟨2, ![1, n]⟩) (hu : 0 < u.numel) (hi : init (Shape.Idx.first hu) = 0)
    (hx : x = X) :
    Host.reduceAdd (x : FVec Ideal ⟨3, ![8, 1, n]⟩ .f32) init h hu = Cert.Adam.total X := by
  rw [← hx]
  exact Cert.Adam.total_host _ _ _ _ hi

set_option maxHeartbeats 4000000 in
theorem algebraic_ARep : Cert.algebraic_ARepIdeal_ARepRefIdeal := by
  intro m ρ m' ρ' _ hagree
  refine ⟨_, _, _, _, _, _, _, _, _, _, _, _, _, _, _, _, _, _, _, _, _, _, _, _, _, _, _, _, _, (θ_run Cert.ARepIdeal.defs _ _).mono (fun r h c =>
      ⟨((h.1 c).1 29).trans (Cert.ARepIdeal.Step.final29 m c),
        ((h.1 c).1 30).trans (Cert.ARepIdeal.Step.final30 m c),
        ((h.1 c).1 31).trans (Cert.ARepIdeal.Step.final31 m c),
        ((h.1 c).1 32).trans (Cert.ARepIdeal.Step.final32 m c),
        ((h.1 c).1 33).trans (Cert.ARepIdeal.Step.final33 m c),
        ((h.1 c).1 34).trans (Cert.ARepIdeal.Step.final34 m c),
        ((h.1 c).1 35).trans (Cert.ARepIdeal.Step.final35 m c),
        ((h.1 c).1 36).trans (Cert.ARepIdeal.Step.final36 m c),
        ((h.1 c).1 37).trans (Cert.ARepIdeal.Step.final37 m c),
        ((h.1 c).1 38).trans (Cert.ARepIdeal.Step.final38 m c),
        ((h.1 c).1 39).trans (Cert.ARepIdeal.Step.final39 m c),
        ((h.1 c).1 40).trans (Cert.ARepIdeal.Step.final40 m c),
        ((h.1 c).1 41).trans (Cert.ARepIdeal.Step.final41 m c),
        ((h.1 c).1 42).trans (Cert.ARepIdeal.Step.final42 m c),
        ((h.1 c).1 43).trans (Cert.ARepIdeal.Step.final43 m c),
        ((h.1 c).1 44).trans (Cert.ARepIdeal.Step.final44 m c),
        ((h.1 c).1 45).trans (Cert.ARepIdeal.Step.final45 m c),
        ((h.1 c).1 46).trans (Cert.ARepIdeal.Step.final46 m c),
        ((h.1 c).1 47).trans (Cert.ARepIdeal.Step.final47 m c),
        ((h.1 c).1 48).trans (Cert.ARepIdeal.Step.final48 m c),
        ((h.1 c).1 49).trans (Cert.ARepIdeal.Step.final49 m c),
        ((h.1 c).1 50).trans (Cert.ARepIdeal.Step.final50 m c),
        ((h.1 c).1 51).trans (Cert.ARepIdeal.Step.final51 m c),
        ((h.1 c).1 52).trans (Cert.ARepIdeal.Step.final52 m c),
        ((h.1 c).1 53).trans (Cert.ARepIdeal.Step.final53 m c),
        ((h.1 c).1 54).trans (Cert.ARepIdeal.Step.final54 m c),
        ((h.1 c).1 55).trans (Cert.ARepIdeal.Step.final55 m c),
        ((h.1 c).1 56).trans (Cert.ARepIdeal.Step.final56 m c),
        ((h.1 c).1 57).trans (Cert.ARepIdeal.Step.final57 m c),
        Cert.ARepIdeal.Step.kept m r h.1 c⟩)
      (Cert.ARepIdeal.Body.run (F := Ideal) m ρ),
    (θ_run Cert.ARepRefIdeal.defs _ _).mono (fun _ h c => ?_) (Cert.ARepRefIdeal.Value.run (F := Ideal) m' ρ')⟩
  obtain ⟨h0, h1, h2, h3, h4, h5, h6, h7, h8, h9, h10, h11, h12, h13, h14, h15, h16, h17, h18, h19, h20, h21, h22, h23, h24, h25, h26, h27, h28⟩ := hagree c
  obtain ⟨r29, r30, r31, r32, r33, r34, r35, r36, r37, r38, r39, r40, r41, r42, r43, r44, r45, r46, r47, r48, r49, r50, r51, r52, r53, r54, r55, r56, r57, rest⟩ := h c
  have g0 := total_congr (n := 256) _ _ (constant (F := Ideal) Cert.ARepRefIdeal.S_ .f32 0x00000000#32)
    Cert.ARepRefIdeal.Gen.reducesTo_S8x1x256_S1x256_d0 Cert.ARepRefIdeal.Gen.h_S_ Ideal.ofBits_zero_f32 h0
  have g1 := total_congr (n := 128) _ _ (constant (F := Ideal) Cert.ARepRefIdeal.S_ .f32 0x00000000#32)
    Cert.ARepRefIdeal.Gen.reducesTo_S8x1x128_S1x128_d0 Cert.ARepRefIdeal.Gen.h_S_ Ideal.ofBits_zero_f32 h1
  have g2 := total_congr (n := 1024) _ _ (constant (F := Ideal) Cert.ARepRefIdeal.S_ .f32 0x00000000#32)
    Cert.ARepRefIdeal.Gen.reducesTo_S8x1x1024_S1x1024_d0 Cert.ARepRefIdeal.Gen.h_S_ Ideal.ofBits_zero_f32 h2
  have g3 := total_congr (n := 1024) _ _ (constant (F := Ideal) Cert.ARepRefIdeal.S_ .f32 0x00000000#32)
    Cert.ARepRefIdeal.Gen.reducesTo_S8x1x1024_S1x1024_d0 Cert.ARepRefIdeal.Gen.h_S_ Ideal.ofBits_zero_f32 h3
  have g4 := total_congr (n := 5632) _ _ (constant (F := Ideal) Cert.ARepRefIdeal.S_ .f32 0x00000000#32)
    Cert.ARepRefIdeal.Gen.reducesTo_S8x1x5632_S1x5632_d0 Cert.ARepRefIdeal.Gen.h_S_ Ideal.ofBits_zero_f32 h4
  have g5 := total_congr (n := 1024) _ _ (constant (F := Ideal) Cert.ARepRefIdeal.S_ .f32 0x00000000#32)
    Cert.ARepRefIdeal.Gen.reducesTo_S8x1x1024_S1x1024_d0 Cert.ARepRefIdeal.Gen.h_S_ Ideal.ofBits_zero_f32 h5
  have g6 := total_congr (n := 1024) _ _ (constant (F := Ideal) Cert.ARepRefIdeal.S_ .f32 0x00000000#32)
    Cert.ARepRefIdeal.Gen.reducesTo_S8x1x1024_S1x1024_d0 Cert.ARepRefIdeal.Gen.h_S_ Ideal.ofBits_zero_f32 h6
  have g7 := total_congr (n := 128) _ _ (constant (F := Ideal) Cert.ARepRefIdeal.S_ .f32 0x00000000#32)
    Cert.ARepRefIdeal.Gen.reducesTo_S8x1x128_S1x128_d0 Cert.ARepRefIdeal.Gen.h_S_ Ideal.ofBits_zero_f32 h7
  exact ⟨r29.trans g7,
    r30.trans g0,
    r31.trans (step_congr g0 h8 h15 h22),
    r32.trans (first_congr g0 h15),
    r33.trans (second_congr g0 h22),
    r34.trans g1,
    r35.trans (step_congr g1 h9 h16 h23),
    r36.trans (first_congr g1 h16),
    r37.trans (second_congr g1 h23),
    r38.trans g2,
    r39.trans (step_congr g2 h10 h17 h24),
    r40.trans (first_congr g2 h17),
    r41.trans (second_congr g2 h24),
    r42.trans g3,
    r43.trans (step_congr g3 h11 h18 h25),
    r44.trans (first_congr g3 h18),
    r45.trans (second_congr g3 h25),
    r46.trans g4,
    r47.trans (step_congr g4 h12 h19 h26),
    r48.trans (first_congr g4 h19),
    r49.trans (second_congr g4 h26),
    r50.trans g5,
    r51.trans (step_congr g5 h13 h20 h27),
    r52.trans (first_congr g5 h20),
    r53.trans (second_congr g5 h27),
    r54.trans g6,
    r55.trans (step_congr g6 h14 h21 h28),
    r56.trans (first_congr g6 h21),
    r57.trans (second_congr g6 h28), rest⟩

end Cert.Proof

end
-- ==== Proof.InStep.lean ====
/-
  The optimiser's step on the fused projection's weight: eight received gradients added up and the step on them, four
  blocks of rows.
-/
module

public import proofs.«01_k».proof.Defs
public import proofs.«01_k».proof.Proof.Adam
public import proofs.«01_k».proof.Proof.Products
public import proofs.«01_k».proof.Proof.Gen.AInIdeal.Value
public import proofs.«01_k».proof.Proof.Gen.AInRefIdeal.Run
public import Idealize.ShloMosaic.Lib.Pipeline.ValueKit.Geometry
public import Idealize.ShloMosaic.Lib.Tactic

@[expose] public section

noncomputable section

namespace Cert.AInIdeal.Step

open Cert.AInIdeal Cert.AInIdeal.Gen Cert.AInIdeal.Value Cert.Adam Cert.Products
open Idealize.ShloMosaic Idealize.ShloMosaic.TcCoe Idealize.SL.Sem

variable (m : (ℓ : Loc nD τ sig) → Buf (Elt Ideal) ℓ) (c : Dev nD) (t : Fin cfg0.N)

/-- The gradients received, added up; the weight and its two running averages. -/
abbrev grad : FVec Ideal S1024x386 .f32 := total (m ((c : Thread nD τ).loc main_arg0) : S8x1024x386.Idx → EReal)
abbrev weight : FVec Ideal S1024x386 .f32 := m ((c : Thread nD τ).loc main_arg1)
abbrev mean : FVec Ideal S1024x386 .f32 := m ((c : Thread nD τ).loc main_arg2)
abbrev square : FVec Ideal S1024x386 .f32 := m ((c : Thread nD τ).loc main_arg3)

/-- The gradient of a block of rows. -/
theorem block_grad (x : Vec Ideal S8x256x386 .bf16) (x1 x2 x3 : Vec Ideal S256x386 .f32) :
    k0_pay5 x x1 x2 x3 = total (x : S8x256x386.Idx → EReal) := gathered (x : S8x256x386.Idx → EReal) _

/-- A point's rows of what a device sent. -/
theorem rows (k : Fin 8) (y : S256x386.Idx) : slice (iblk m c 0 t : S8x256x386.Idx → EReal) k y
    = slice (m ((c : Thread nD τ).loc main_arg0) : S8x1024x386.Idx → EReal) k (((cfg0.win 4).blk t).view.emb y) := by
  refine congrArg (m ((c : Thread nD τ).loc main_arg0)) (funext fun a => Fin.ext ?_)
  fin_cases a
  · show 0 * 8 + 1 * k.val = k.val; omega
  · rfl
  · rfl

/-- What a point writes back: its rows of the gradient, of the step and of the two averages. -/
theorem flushed_g : (dats m 0 c).flushed 4 t = ((cfg0.win 4).blk t).view.read (Elt Ideal) (grad m c) := by
  rw [flushed4]; unfold out0_4; rw [View.canon_unit_zero origin]
  exact (block_grad (iblk m c 0 t) (iblk m c 1 t) (iblk m c 2 t) (iblk m c 3 t)).trans (blockwise _ (weight m c) (mean m c) (square m c) _ _ (rows m c t)).1

theorem flushed_s : (dats m 0 c).flushed 5 t
    = ((cfg0.win 5).blk t).view.read (Elt Ideal) (step (grad m c) (weight m c) (mean m c) (square m c)) := by
  rw [flushed5]; unfold out0_5; rw [View.canon_unit_zero origin, block_grad]
  simp only [View.ld_unit_zero (S := S256x386) origin]
  exact (blockwise _ (weight m c) (mean m c) (square m c) _ _ (rows m c t)).2.1

theorem flushed_m : (dats m 0 c).flushed 6 t
    = ((cfg0.win 6).blk t).view.read (Elt Ideal) (first (grad m c) (mean m c)) := by
  rw [flushed6]; unfold out0_6; rw [View.canon_unit_zero origin, block_grad]
  simp only [View.ld_unit_zero (S := S256x386) origin]
  exact (blockwise _ (weight m c) (mean m c) (square m c) _ _ (rows m c t)).2.2.1

theorem flushed_v : (dats m 0 c).flushed 7 t
    = ((cfg0.win 7).blk t).view.read (Elt Ideal) (second (grad m c) (square m c)) := by
  rw [flushed7]; unfold out0_7; rw [View.canon_unit_zero origin, block_grad]
  simp only [View.ld_unit_zero (S := S256x386) origin]
  exact (blockwise _ (weight m c) (mean m c) (square m c) _ _ (rows m c t)).2.2.2

/-- The four arrays after the run: the points' blocks cover them. -/
theorem final : (dats m 0 c).arrAt 4 cfg0.N = grad m c
    ∧ (dats m 0 c).arrAt 5 cfg0.N = step (grad m c) (weight m c) (mean m c) (square m c)
    ∧ (dats m 0 c).arrAt 6 cfg0.N = first (grad m c) (mean m c)
    ∧ (dats m 0 c).arrAt 7 cfg0.N = second (grad m c) (square m c) :=
  ⟨(dats m 0 c).arrAt_eq_of_cover 4 _ (fun t _ => flushed_g m c t)
      ((by decide +kernel : (cfg0.win 4).Covers).cover _ (Memref.isWhole_whole _)),
    (dats m 0 c).arrAt_eq_of_cover 5 _ (fun t _ => flushed_s m c t)
      ((by decide +kernel : (cfg0.win 5).Covers).cover _ (Memref.isWhole_whole _)),
    (dats m 0 c).arrAt_eq_of_cover 6 _ (fun t _ => flushed_m m c t)
      ((by decide +kernel : (cfg0.win 6).Covers).cover _ (Memref.isWhole_whole _)),
    (dats m 0 c).arrAt_eq_of_cover 7 _ (fun t _ => flushed_v m c t)
      ((by decide +kernel : (cfg0.win 7).Covers).cover _ (Memref.isWhole_whole _))⟩

end Cert.AInIdeal.Step

namespace Cert.Proof

open Idealize.ShloMosaic Idealize.ShloMosaic.TcCoe Idealize.SL.Sem

theorem frame_AInRefIdeal : Cert.quiescent_AInRefIdeal := fun m ρ _ =>
  (θ_run Cert.AInRefIdeal.defs _ _).mono (fun r h => ⟨fun c => (h c).2.2.2.2, sem_eq_zero_of_no_sems (by decide) r.2⟩)
    (Cert.AInRefIdeal.Value.run (F := Ideal) m ρ)

theorem algebraic_AIn : Cert.algebraic_AInIdeal_AInRefIdeal := by
  intro m ρ m' ρ' _ hagree
  refine ⟨_, _, _, _, (θ_run Cert.AInIdeal.defs _ _).mono (fun _ h c =>
      have f := Cert.AInIdeal.Step.final m c
      ⟨(h c).1.trans f.1, (h c).2.1.trans f.2.1, (h c).2.2.1.trans f.2.2.1, (h c).2.2.2.1.trans f.2.2.2, (h c).2.2.2.2⟩)
      (Cert.AInIdeal.Value.run_blocks (F := Ideal) m ρ),
    (θ_run Cert.AInRefIdeal.defs _ _).mono (fun _ h c => ?_) (Cert.AInRefIdeal.Value.run (F := Ideal) m' ρ')⟩
  have h' := h c
  obtain ⟨h0, h1, h2, h3⟩ := hagree c
  rw [Cert.Adam.total_host _ _ _ _ Ideal.ofBits_zero_f32] at h'
  exact ⟨h'.1.trans (by rw [h0]; rfl), h'.2.1.trans (by rw [h0, h1, h2, h3]; rfl), h'.2.2.1.trans (by rw [h0, h2]; rfl),
    h'.2.2.2.1.trans (by rw [h0, h3]; rfl), h'.2.2.2.2⟩

end Cert.Proof

end
-- ==== Proof.OutStep.lean ====
/-
  The optimiser's step on the mixer's output weight: eight received gradients added up and the step on them, in one block.
-/
module

public import proofs.«01_k».proof.Defs
public import proofs.«01_k».proof.Proof.Adam
public import proofs.«01_k».proof.Proof.Products
public import proofs.«01_k».proof.Proof.Gen.AOutIdeal.Value
public import proofs.«01_k».proof.Proof.Gen.AOutRefIdeal.Run
public import Idealize.ShloMosaic.Lib.Pipeline.ValueKit.Geometry
public import Idealize.ShloMosaic.Lib.Tactic

@[expose] public section

noncomputable section

namespace Cert.AOutIdeal.Step

open Cert.AOutIdeal Cert.AOutIdeal.Gen Cert.AOutIdeal.Value Cert.Adam Cert.Products
open Idealize.ShloMosaic Idealize.ShloMosaic.TcCoe Idealize.SL.Sem

variable (m : (ℓ : Loc nD τ sig) → Buf (Elt Ideal) ℓ) (c : Dev nD) (t : Fin cfg0.N)

/-- The gradients received, added up; the weight and its two running averages. -/
abbrev grad : FVec Ideal S128x1024 .f32 := total (m ((c : Thread nD τ).loc main_arg0) : S8x128x1024.Idx → EReal)
abbrev weight : FVec Ideal S128x1024 .f32 := m ((c : Thread nD τ).loc main_arg1)
abbrev mean : FVec Ideal S128x1024 .f32 := m ((c : Thread nD τ).loc main_arg2)
abbrev square : FVec Ideal S128x1024 .f32 := m ((c : Thread nD τ).loc main_arg3)

/-- The gradient of a block of rows. -/
theorem block_grad (x : Vec Ideal S8x128x1024 .bf16) (x1 x2 x3 : Vec Ideal S128x1024 .f32) :
    k0_pay5 x x1 x2 x3 = total (x : S8x128x1024.Idx → EReal) := gathered (x : S8x128x1024.Idx → EReal) _

/-- A point's rows of what a device sent. -/
theorem rows (k : Fin 8) (y : S128x1024.Idx) : slice (iblk m c 0 t : S8x128x1024.Idx → EReal) k y
    = slice (m ((c : Thread nD τ).loc main_arg0) : S8x128x1024.Idx → EReal) k (((cfg0.win 4).blk t).view.emb y) := by
  refine congrArg (m ((c : Thread nD τ).loc main_arg0)) (funext fun a => Fin.ext ?_)
  fin_cases a
  · show 0 * 8 + 1 * k.val = k.val; omega
  · rfl
  · rfl

/-- What a point writes back: its rows of the gradient, of the step and of the two averages. -/
theorem flushed_g : (dats m 0 c).flushed 4 t = ((cfg0.win 4).blk t).view.read (Elt Ideal) (grad m c) := by
  rw [flushed4]; unfold out0_4; rw [View.canon_unit_zero origin]
  exact (block_grad (iblk m c 0 t) (iblk m c 1 t) (iblk m c 2 t) (iblk m c 3 t)).trans (blockwise _ (weight m c) (mean m c) (square m c) _ _ (rows m c t)).1

theorem flushed_s : (dats m 0 c).flushed 5 t
    = ((cfg0.win 5).blk t).view.read (Elt Ideal) (step (grad m c) (weight m c) (mean m c) (square m c)) := by
  rw [flushed5]; unfold out0_5; rw [View.canon_unit_zero origin, block_grad]
  simp only [View.ld_unit_zero (S := S128x1024) origin]
  exact (blockwise _ (weight m c) (mean m c) (square m c) _ _ (rows m c t)).2.1

theorem flushed_m : (dats m 0 c).flushed 6 t
    = ((cfg0.win 6).blk t).view.read (Elt Ideal) (first (grad m c) (mean m c)) := by
  rw [flushed6]; unfold out0_6; rw [View.canon_unit_zero origin, block_grad]
  simp only [View.ld_unit_zero (S := S128x1024) origin]
  exact (blockwise _ (weight m c) (mean m c) (square m c) _ _ (rows m c t)).2.2.1

theorem flushed_v : (dats m 0 c).flushed 7 t
    = ((cfg0.win 7).blk t).view.read (Elt Ideal) (second (grad m c) (square m c)) := by
  rw [flushed7]; unfold out0_7; rw [View.canon_unit_zero origin, block_grad]
  simp only [View.ld_unit_zero (S := S128x1024) origin]
  exact (blockwise _ (weight m c) (mean m c) (square m c) _ _ (rows m c t)).2.2.2

/-- The four arrays after the run: the points' blocks cover them. -/
theorem final : (dats m 0 c).arrAt 4 cfg0.N = grad m c
    ∧ (dats m 0 c).arrAt 5 cfg0.N = step (grad m c) (weight m c) (mean m c) (square m c)
    ∧ (dats m 0 c).arrAt 6 cfg0.N = first (grad m c) (mean m c)
    ∧ (dats m 0 c).arrAt 7 cfg0.N = second (grad m c) (square m c) :=
  ⟨(dats m 0 c).arrAt_eq_of_cover 4 _ (fun t _ => flushed_g m c t)
      ((by decide +kernel : (cfg0.win 4).Covers).cover _ (Memref.isWhole_whole _)),
    (dats m 0 c).arrAt_eq_of_cover 5 _ (fun t _ => flushed_s m c t)
      ((by decide +kernel : (cfg0.win 5).Covers).cover _ (Memref.isWhole_whole _)),
    (dats m 0 c).arrAt_eq_of_cover 6 _ (fun t _ => flushed_m m c t)
      ((by decide +kernel : (cfg0.win 6).Covers).cover _ (Memref.isWhole_whole _)),
    (dats m 0 c).arrAt_eq_of_cover 7 _ (fun t _ => flushed_v m c t)
      ((by decide +kernel : (cfg0.win 7).Covers).cover _ (Memref.isWhole_whole _))⟩

end Cert.AOutIdeal.Step

namespace Cert.Proof

open Idealize.ShloMosaic Idealize.ShloMosaic.TcCoe Idealize.SL.Sem

theorem frame_AOutRefIdeal : Cert.quiescent_AOutRefIdeal := fun m ρ _ =>
  (θ_run Cert.AOutRefIdeal.defs _ _).mono (fun r h => ⟨fun c => (h c).2.2.2.2, sem_eq_zero_of_no_sems (by decide) r.2⟩)
    (Cert.AOutRefIdeal.Value.run (F := Ideal) m ρ)

theorem algebraic_AOut : Cert.algebraic_AOutIdeal_AOutRefIdeal := by
  intro m ρ m' ρ' _ hagree
  refine ⟨_, _, _, _, (θ_run Cert.AOutIdeal.defs _ _).mono (fun _ h c =>
      have f := Cert.AOutIdeal.Step.final m c
      ⟨(h c).1.trans f.1, (h c).2.1.trans f.2.1, (h c).2.2.1.trans f.2.2.1, (h c).2.2.2.1.trans f.2.2.2, (h c).2.2.2.2⟩)
      (Cert.AOutIdeal.Value.run_blocks (F := Ideal) m ρ),
    (θ_run Cert.AOutRefIdeal.defs _ _).mono (fun _ h c => ?_) (Cert.AOutRefIdeal.Value.run (F := Ideal) m' ρ')⟩
  have h' := h c
  obtain ⟨h0, h1, h2, h3⟩ := hagree c
  rw [Cert.Adam.total_host _ _ _ _ Ideal.ofBits_zero_f32] at h'
  exact ⟨h'.1.trans (by rw [h0]; rfl), h'.2.1.trans (by rw [h0, h1, h2, h3]; rfl), h'.2.2.1.trans (by rw [h0, h2]; rfl),
    h'.2.2.2.1.trans (by rw [h0, h3]; rfl), h'.2.2.2.2⟩

end Cert.Proof

end
-- ==== Proof.UpStep.lean ====
/-
  The optimiser's step on the up projection's weight: eight received gradients added up and the step on them, four
  blocks of rows.
-/
module

public import proofs.«01_k».proof.Defs
public import proofs.«01_k».proof.Proof.Adam
public import proofs.«01_k».proof.Proof.Products
public import proofs.«01_k».proof.Proof.Gen.AUpIdeal.Value
public import proofs.«01_k».proof.Proof.Gen.AUpRefIdeal.Run
public import Idealize.ShloMosaic.Lib.Pipeline.ValueKit.Geometry
public import Idealize.ShloMosaic.Lib.Tactic

@[expose] public section

noncomputable section

namespace Cert.AUpIdeal.Step

open Cert.AUpIdeal Cert.AUpIdeal.Gen Cert.AUpIdeal.Value Cert.Adam Cert.Products
open Idealize.ShloMosaic Idealize.ShloMosaic.TcCoe Idealize.SL.Sem

variable (m : (ℓ : Loc nD τ sig) → Buf (Elt Ideal) ℓ) (c : Dev nD) (t : Fin cfg0.N)

/-- The gradients received, added up; the weight and its two running averages. -/
abbrev grad : FVec Ideal S1024x704 .f32 := total (m ((c : Thread nD τ).loc main_arg0) : S8x1024x704.Idx → EReal)
abbrev weight : FVec Ideal S1024x704 .f32 := m ((c : Thread nD τ).loc main_arg1)
abbrev mean : FVec Ideal S1024x704 .f32 := m ((c : Thread nD τ).loc main_arg2)
abbrev square : FVec Ideal S1024x704 .f32 := m ((c : Thread nD τ).loc main_arg3)

/-- The gradient of a block of rows. -/
theorem block_grad (x : Vec Ideal S8x256x704 .bf16) (x1 x2 x3 : Vec Ideal S256x704 .f32) :
    k0_pay5 x x1 x2 x3 = total (x : S8x256x704.Idx → EReal) := gathered (x : S8x256x704.Idx → EReal) _

/-- A point's rows of what a device sent. -/
theorem rows (k : Fin 8) (y : S256x704.Idx) : slice (iblk m c 0 t : S8x256x704.Idx → EReal) k y
    = slice (m ((c : Thread nD τ).loc main_arg0) : S8x1024x704.Idx → EReal) k (((cfg0.win 4).blk t).view.emb y) := by
  refine congrArg (m ((c : Thread nD τ).loc main_arg0)) (funext fun a => Fin.ext ?_)
  fin_cases a
  · show 0 * 8 + 1 * k.val = k.val; omega
  · rfl
  · rfl

/-- What a point writes back: its rows of the gradient, of the step and of the two averages. -/
theorem flushed_g : (dats m 0 c).flushed 4 t = ((cfg0.win 4).blk t).view.read (Elt Ideal) (grad m c) := by
  rw [flushed4]; unfold out0_4; rw [View.canon_unit_zero origin]
  exact (block_grad (iblk m c 0 t) (iblk m c 1 t) (iblk m c 2 t) (iblk m c 3 t)).trans (blockwise _ (weight m c) (mean m c) (square m c) _ _ (rows m c t)).1

theorem flushed_s : (dats m 0 c).flushed 5 t
    = ((cfg0.win 5).blk t).view.read (Elt Ideal) (step (grad m c) (weight m c) (mean m c) (square m c)) := by
  rw [flushed5]; unfold out0_5; rw [View.canon_unit_zero origin, block_grad]
  simp only [View.ld_unit_zero (S := S256x704) origin]
  exact (blockwise _ (weight m c) (mean m c) (square m c) _ _ (rows m c t)).2.1

theorem flushed_m : (dats m 0 c).flushed 6 t
    = ((cfg0.win 6).blk t).view.read (Elt Ideal) (first (grad m c) (mean m c)) := by
  rw [flushed6]; unfold out0_6; rw [View.canon_unit_zero origin, block_grad]
  simp only [View.ld_unit_zero (S := S256x704) origin]
  exact (blockwise _ (weight m c) (mean m c) (square m c) _ _ (rows m c t)).2.2.1

theorem flushed_v : (dats m 0 c).flushed 7 t
    = ((cfg0.win 7).blk t).view.read (Elt Ideal) (second (grad m c) (square m c)) := by
  rw [flushed7]; unfold out0_7; rw [View.canon_unit_zero origin, block_grad]
  simp only [View.ld_unit_zero (S := S256x704) origin]
  exact (blockwise _ (weight m c) (mean m c) (square m c) _ _ (rows m c t)).2.2.2

/-- The four arrays after the run: the points' blocks cover them. -/
theorem final : (dats m 0 c).arrAt 4 cfg0.N = grad m c
    ∧ (dats m 0 c).arrAt 5 cfg0.N = step (grad m c) (weight m c) (mean m c) (square m c)
    ∧ (dats m 0 c).arrAt 6 cfg0.N = first (grad m c) (mean m c)
    ∧ (dats m 0 c).arrAt 7 cfg0.N = second (grad m c) (square m c) :=
  ⟨(dats m 0 c).arrAt_eq_of_cover 4 _ (fun t _ => flushed_g m c t)
      ((by decide +kernel : (cfg0.win 4).Covers).cover _ (Memref.isWhole_whole _)),
    (dats m 0 c).arrAt_eq_of_cover 5 _ (fun t _ => flushed_s m c t)
      ((by decide +kernel : (cfg0.win 5).Covers).cover _ (Memref.isWhole_whole _)),
    (dats m 0 c).arrAt_eq_of_cover 6 _ (fun t _ => flushed_m m c t)
      ((by decide +kernel : (cfg0.win 6).Covers).cover _ (Memref.isWhole_whole _)),
    (dats m 0 c).arrAt_eq_of_cover 7 _ (fun t _ => flushed_v m c t)
      ((by decide +kernel : (cfg0.win 7).Covers).cover _ (Memref.isWhole_whole _))⟩

end Cert.AUpIdeal.Step

namespace Cert.Proof

open Idealize.ShloMosaic Idealize.ShloMosaic.TcCoe Idealize.SL.Sem

theorem frame_AUpRefIdeal : Cert.quiescent_AUpRefIdeal := fun m ρ _ =>
  (θ_run Cert.AUpRefIdeal.defs _ _).mono (fun r h => ⟨fun c => (h c).2.2.2.2, sem_eq_zero_of_no_sems (by decide) r.2⟩)
    (Cert.AUpRefIdeal.Value.run (F := Ideal) m ρ)

theorem algebraic_AUp : Cert.algebraic_AUpIdeal_AUpRefIdeal := by
  intro m ρ m' ρ' _ hagree
  refine ⟨_, _, _, _, (θ_run Cert.AUpIdeal.defs _ _).mono (fun _ h c =>
      have f := Cert.AUpIdeal.Step.final m c
      ⟨(h c).1.trans f.1, (h c).2.1.trans f.2.1, (h c).2.2.1.trans f.2.2.1, (h c).2.2.2.1.trans f.2.2.2, (h c).2.2.2.2⟩)
      (Cert.AUpIdeal.Value.run_blocks (F := Ideal) m ρ),
    (θ_run Cert.AUpRefIdeal.defs _ _).mono (fun _ h c => ?_) (Cert.AUpRefIdeal.Value.run (F := Ideal) m' ρ')⟩
  have h' := h c
  obtain ⟨h0, h1, h2, h3⟩ := hagree c
  rw [Cert.Adam.total_host _ _ _ _ Ideal.ofBits_zero_f32] at h'
  exact ⟨h'.1.trans (by rw [h0]; rfl), h'.2.1.trans (by rw [h0, h1, h2, h3]; rfl), h'.2.2.1.trans (by rw [h0, h2]; rfl),
    h'.2.2.2.1.trans (by rw [h0, h3]; rfl), h'.2.2.2.2⟩

end Cert.Proof

end
-- ==== Proof.DownStep.lean ====
/-
  The optimiser's step on the down projection's weight: eight received gradients added up and the step on them, two
  blocks of rows.
-/
module

public import proofs.«01_k».proof.Defs
public import proofs.«01_k».proof.Proof.Adam
public import proofs.«01_k».proof.Proof.Products
public import proofs.«01_k».proof.Proof.Gen.ADownIdeal.Value
public import proofs.«01_k».proof.Proof.Gen.ADownRefIdeal.Run
public import Idealize.ShloMosaic.Lib.Pipeline.ValueKit.Geometry
public import Idealize.ShloMosaic.Lib.Tactic

@[expose] public section

noncomputable section

namespace Cert.ADownIdeal.Step

open Cert.ADownIdeal Cert.ADownIdeal.Gen Cert.ADownIdeal.Value Cert.Adam Cert.Products
open Idealize.ShloMosaic Idealize.ShloMosaic.TcCoe Idealize.SL.Sem

variable (m : (ℓ : Loc nD τ sig) → Buf (Elt Ideal) ℓ) (c : Dev nD) (t : Fin cfg0.N)

/-- The gradients received, added up; the weight and its two running averages. -/
abbrev grad : FVec Ideal S352x1024 .f32 := total (m ((c : Thread nD τ).loc main_arg0) : S8x352x1024.Idx → EReal)
abbrev weight : FVec Ideal S352x1024 .f32 := m ((c : Thread nD τ).loc main_arg1)
abbrev mean : FVec Ideal S352x1024 .f32 := m ((c : Thread nD τ).loc main_arg2)
abbrev square : FVec Ideal S352x1024 .f32 := m ((c : Thread nD τ).loc main_arg3)

/-- The gradient of a block of rows. -/
theorem block_grad (x : Vec Ideal S8x176x1024 .bf16) (x1 x2 x3 : Vec Ideal S176x1024 .f32) :
    k0_pay5 x x1 x2 x3 = total (x : S8x176x1024.Idx → EReal) := gathered (x : S8x176x1024.Idx → EReal) _

/-- A point's rows of what a device sent. -/
theorem rows (k : Fin 8) (y : S176x1024.Idx) : slice (iblk m c 0 t : S8x176x1024.Idx → EReal) k y
    = slice (m ((c : Thread nD τ).loc main_arg0) : S8x352x1024.Idx → EReal) k (((cfg0.win 4).blk t).view.emb y) := by
  refine congrArg (m ((c : Thread nD τ).loc main_arg0)) (funext fun a => Fin.ext ?_)
  fin_cases a
  · show 0 * 8 + 1 * k.val = k.val; omega
  · rfl
  · rfl

/-- What a point writes back: its rows of the gradient, of the step and of the two averages. -/
theorem flushed_g : (dats m 0 c).flushed 4 t = ((cfg0.win 4).blk t).view.read (Elt Ideal) (grad m c) := by
  rw [flushed4]; unfold out0_4; rw [View.canon_unit_zero origin]
  exact (block_grad (iblk m c 0 t) (iblk m c 1 t) (iblk m c 2 t) (iblk m c 3 t)).trans (blockwise _ (weight m c) (mean m c) (square m c) _ _ (rows m c t)).1

theorem flushed_s : (dats m 0 c).flushed 5 t
    = ((cfg0.win 5).blk t).view.read (Elt Ideal) (step (grad m c) (weight m c) (mean m c) (square m c)) := by
  rw [flushed5]; unfold out0_5; rw [View.canon_unit_zero origin, block_grad]
  simp only [View.ld_unit_zero (S := S176x1024) origin]
  exact (blockwise _ (weight m c) (mean m c) (square m c) _ _ (rows m c t)).2.1

theorem flushed_m : (dats m 0 c).flushed 6 t
    = ((cfg0.win 6).blk t).view.read (Elt Ideal) (first (grad m c) (mean m c)) := by
  rw [flushed6]; unfold out0_6; rw [View.canon_unit_zero origin, block_grad]
  simp only [View.ld_unit_zero (S := S176x1024) origin]
  exact (blockwise _ (weight m c) (mean m c) (square m c) _ _ (rows m c t)).2.2.1

theorem flushed_v : (dats m 0 c).flushed 7 t
    = ((cfg0.win 7).blk t).view.read (Elt Ideal) (second (grad m c) (square m c)) := by
  rw [flushed7]; unfold out0_7; rw [View.canon_unit_zero origin, block_grad]
  simp only [View.ld_unit_zero (S := S176x1024) origin]
  exact (blockwise _ (weight m c) (mean m c) (square m c) _ _ (rows m c t)).2.2.2

/-- The four arrays after the run: the points' blocks cover them. -/
theorem final : (dats m 0 c).arrAt 4 cfg0.N = grad m c
    ∧ (dats m 0 c).arrAt 5 cfg0.N = step (grad m c) (weight m c) (mean m c) (square m c)
    ∧ (dats m 0 c).arrAt 6 cfg0.N = first (grad m c) (mean m c)
    ∧ (dats m 0 c).arrAt 7 cfg0.N = second (grad m c) (square m c) :=
  ⟨(dats m 0 c).arrAt_eq_of_cover 4 _ (fun t _ => flushed_g m c t)
      ((by decide +kernel : (cfg0.win 4).Covers).cover _ (Memref.isWhole_whole _)),
    (dats m 0 c).arrAt_eq_of_cover 5 _ (fun t _ => flushed_s m c t)
      ((by decide +kernel : (cfg0.win 5).Covers).cover _ (Memref.isWhole_whole _)),
    (dats m 0 c).arrAt_eq_of_cover 6 _ (fun t _ => flushed_m m c t)
      ((by decide +kernel : (cfg0.win 6).Covers).cover _ (Memref.isWhole_whole _)),
    (dats m 0 c).arrAt_eq_of_cover 7 _ (fun t _ => flushed_v m c t)
      ((by decide +kernel : (cfg0.win 7).Covers).cover _ (Memref.isWhole_whole _))⟩

end Cert.ADownIdeal.Step

namespace Cert.Proof

open Idealize.ShloMosaic Idealize.ShloMosaic.TcCoe Idealize.SL.Sem

theorem frame_ADownRefIdeal : Cert.quiescent_ADownRefIdeal := fun m ρ _ =>
  (θ_run Cert.ADownRefIdeal.defs _ _).mono (fun r h => ⟨fun c => (h c).2.2.2.2, sem_eq_zero_of_no_sems (by decide) r.2⟩)
    (Cert.ADownRefIdeal.Value.run (F := Ideal) m ρ)

theorem algebraic_ADown : Cert.algebraic_ADownIdeal_ADownRefIdeal := by
  intro m ρ m' ρ' _ hagree
  refine ⟨_, _, _, _, (θ_run Cert.ADownIdeal.defs _ _).mono (fun _ h c =>
      have f := Cert.ADownIdeal.Step.final m c
      ⟨(h c).1.trans f.1, (h c).2.1.trans f.2.1, (h c).2.2.1.trans f.2.2.1, (h c).2.2.2.1.trans f.2.2.2, (h c).2.2.2.2⟩)
      (Cert.ADownIdeal.Value.run_blocks (F := Ideal) m ρ),
    (θ_run Cert.ADownRefIdeal.defs _ _).mono (fun _ h c => ?_) (Cert.ADownRefIdeal.Value.run (F := Ideal) m' ρ')⟩
  have h' := h c
  obtain ⟨h0, h1, h2, h3⟩ := hagree c
  rw [Cert.Adam.total_host _ _ _ _ Ideal.ofBits_zero_f32] at h'
  exact ⟨h'.1.trans (by rw [h0]; rfl), h'.2.1.trans (by rw [h0, h1, h2, h3]; rfl), h'.2.2.1.trans (by rw [h0, h2]; rfl),
    h'.2.2.2.1.trans (by rw [h0, h3]; rfl), h'.2.2.2.2⟩

end Cert.Proof

end
-- ==== Proof.GateStep.lean ====
/-
  The optimiser's step on the gate's weight: eight received gradients added up and the step on them, in one block.
-/
module

public import proofs.«01_k».proof.Defs
public import proofs.«01_k».proof.Proof.Adam
public import proofs.«01_k».proof.Proof.Products
public import proofs.«01_k».proof.Proof.Gen.AGateIdeal.Value
public import proofs.«01_k».proof.Proof.Gen.AGateRefIdeal.Run
public import Idealize.ShloMosaic.Lib.Pipeline.ValueKit.Geometry
public import Idealize.ShloMosaic.Lib.Tactic

@[expose] public section

noncomputable section

namespace Cert.AGateIdeal.Step

open Cert.AGateIdeal Cert.AGateIdeal.Gen Cert.AGateIdeal.Value Cert.Adam Cert.Products
open Idealize.ShloMosaic Idealize.ShloMosaic.TcCoe Idealize.SL.Sem

variable (m : (ℓ : Loc nD τ sig) → Buf (Elt Ideal) ℓ) (c : Dev nD) (t : Fin cfg0.N)

/-- The gradients received, added up; the weight and its two running averages. -/
abbrev grad : FVec Ideal S16x32 .f32 := total (m ((c : Thread nD τ).loc main_arg0) : S8x16x32.Idx → EReal)
abbrev weight : FVec Ideal S16x32 .f32 := m ((c : Thread nD τ).loc main_arg1)
abbrev mean : FVec Ideal S16x32 .f32 := m ((c : Thread nD τ).loc main_arg2)
abbrev square : FVec Ideal S16x32 .f32 := m ((c : Thread nD τ).loc main_arg3)

/-- The gradient of a block of rows. -/
theorem block_grad (x : Vec Ideal S8x16x32 .f32) (x1 x2 x3 : Vec Ideal S16x32 .f32) :
    k0_pay5 x x1 x2 x3 = total (x : S8x16x32.Idx → EReal) := gathered (x : S8x16x32.Idx → EReal) _

/-- A point's rows of what a device sent. -/
theorem rows (k : Fin 8) (y : S16x32.Idx) : slice (iblk m c 0 t : S8x16x32.Idx → EReal) k y
    = slice (m ((c : Thread nD τ).loc main_arg0) : S8x16x32.Idx → EReal) k (((cfg0.win 4).blk t).view.emb y) := by
  refine congrArg (m ((c : Thread nD τ).loc main_arg0)) (funext fun a => Fin.ext ?_)
  fin_cases a
  · show 0 * 8 + 1 * k.val = k.val; omega
  · rfl
  · rfl

/-- What a point writes back: its rows of the gradient, of the step and of the two averages. -/
theorem flushed_g : (dats m 0 c).flushed 4 t = ((cfg0.win 4).blk t).view.read (Elt Ideal) (grad m c) := by
  rw [flushed4]; unfold out0_4; rw [View.canon_unit_zero origin]
  exact (block_grad (iblk m c 0 t) (iblk m c 1 t) (iblk m c 2 t) (iblk m c 3 t)).trans (blockwise _ (weight m c) (mean m c) (square m c) _ _ (rows m c t)).1

theorem flushed_s : (dats m 0 c).flushed 5 t
    = ((cfg0.win 5).blk t).view.read (Elt Ideal) (step (grad m c) (weight m c) (mean m c) (square m c)) := by
  rw [flushed5]; unfold out0_5; rw [View.canon_unit_zero origin, block_grad]
  simp only [View.ld_unit_zero (S := S16x32) origin]
  exact (blockwise _ (weight m c) (mean m c) (square m c) _ _ (rows m c t)).2.1

theorem flushed_m : (dats m 0 c).flushed 6 t
    = ((cfg0.win 6).blk t).view.read (Elt Ideal) (first (grad m c) (mean m c)) := by
  rw [flushed6]; unfold out0_6; rw [View.canon_unit_zero origin, block_grad]
  simp only [View.ld_unit_zero (S := S16x32) origin]
  exact (blockwise _ (weight m c) (mean m c) (square m c) _ _ (rows m c t)).2.2.1

theorem flushed_v : (dats m 0 c).flushed 7 t
    = ((cfg0.win 7).blk t).view.read (Elt Ideal) (second (grad m c) (square m c)) := by
  rw [flushed7]; unfold out0_7; rw [View.canon_unit_zero origin, block_grad]
  simp only [View.ld_unit_zero (S := S16x32) origin]
  exact (blockwise _ (weight m c) (mean m c) (square m c) _ _ (rows m c t)).2.2.2

/-- The four arrays after the run: the points' blocks cover them. -/
theorem final : (dats m 0 c).arrAt 4 cfg0.N = grad m c
    ∧ (dats m 0 c).arrAt 5 cfg0.N = step (grad m c) (weight m c) (mean m c) (square m c)
    ∧ (dats m 0 c).arrAt 6 cfg0.N = first (grad m c) (mean m c)
    ∧ (dats m 0 c).arrAt 7 cfg0.N = second (grad m c) (square m c) :=
  ⟨(dats m 0 c).arrAt_eq_of_cover 4 _ (fun t _ => flushed_g m c t)
      ((by decide +kernel : (cfg0.win 4).Covers).cover _ (Memref.isWhole_whole _)),
    (dats m 0 c).arrAt_eq_of_cover 5 _ (fun t _ => flushed_s m c t)
      ((by decide +kernel : (cfg0.win 5).Covers).cover _ (Memref.isWhole_whole _)),
    (dats m 0 c).arrAt_eq_of_cover 6 _ (fun t _ => flushed_m m c t)
      ((by decide +kernel : (cfg0.win 6).Covers).cover _ (Memref.isWhole_whole _)),
    (dats m 0 c).arrAt_eq_of_cover 7 _ (fun t _ => flushed_v m c t)
      ((by decide +kernel : (cfg0.win 7).Covers).cover _ (Memref.isWhole_whole _))⟩

end Cert.AGateIdeal.Step

namespace Cert.Proof

open Idealize.ShloMosaic Idealize.ShloMosaic.TcCoe Idealize.SL.Sem

theorem frame_AGateRefIdeal : Cert.quiescent_AGateRefIdeal := fun m ρ _ =>
  (θ_run Cert.AGateRefIdeal.defs _ _).mono (fun r h => ⟨fun c => (h c).2.2.2.2, sem_eq_zero_of_no_sems (by decide) r.2⟩)
    (Cert.AGateRefIdeal.Value.run (F := Ideal) m ρ)

theorem algebraic_AGate : Cert.algebraic_AGateIdeal_AGateRefIdeal := by
  intro m ρ m' ρ' _ hagree
  refine ⟨_, _, _, _, (θ_run Cert.AGateIdeal.defs _ _).mono (fun _ h c =>
      have f := Cert.AGateIdeal.Step.final m c
      ⟨(h c).1.trans f.1, (h c).2.1.trans f.2.1, (h c).2.2.1.trans f.2.2.1, (h c).2.2.2.1.trans f.2.2.2, (h c).2.2.2.2⟩)
      (Cert.AGateIdeal.Value.run_blocks (F := Ideal) m ρ),
    (θ_run Cert.AGateRefIdeal.defs _ _).mono (fun _ h c => ?_) (Cert.AGateRefIdeal.Value.run (F := Ideal) m' ρ')⟩
  have h' := h c
  obtain ⟨h0, h1, h2, h3⟩ := hagree c
  rw [Cert.Adam.total_host _ _ _ _ Ideal.ofBits_zero_f32] at h'
  exact ⟨h'.1.trans (by rw [h0]), h'.2.1.trans (by rw [h0, h1, h2, h3]; rfl), h'.2.2.1.trans (by rw [h0, h2]; rfl),
    h'.2.2.2.1.trans (by rw [h0, h3]; rfl), h'.2.2.2.2⟩

end Cert.Proof

end
-- ==== Proof.ConvStep.lean ====
/-
  The optimiser's step on the convolution's weight: eight received gradients added up and the step on them, in one
  block.
-/
module

public import proofs.«01_k».proof.Defs
public import proofs.«01_k».proof.Proof.Adam
public import proofs.«01_k».proof.Proof.Products
public import proofs.«01_k».proof.Proof.Gen.AConvIdeal.Value
public import proofs.«01_k».proof.Proof.Gen.AConvRefIdeal.Run
public import Idealize.ShloMosaic.Lib.Pipeline.ValueKit.Geometry
public import Idealize.ShloMosaic.Lib.Tactic

@[expose] public section

noncomputable section

namespace Cert.AConvIdeal.Step

open Cert.AConvIdeal Cert.AConvIdeal.Gen Cert.AConvIdeal.Value Cert.Adam Cert.Products
open Idealize.ShloMosaic Idealize.ShloMosaic.TcCoe Idealize.SL.Sem

variable (m : (ℓ : Loc nD τ sig) → Buf (Elt Ideal) ℓ) (c : Dev nD) (t : Fin cfg0.N)

/-- The gradients received, added up; the weight and its two running averages. -/
abbrev grad : FVec Ideal S3x704 .f32 := total (m ((c : Thread nD τ).loc main_arg0) : S8x3x704.Idx → EReal)
abbrev weight : FVec Ideal S3x704 .f32 := m ((c : Thread nD τ).loc main_arg1)
abbrev mean : FVec Ideal S3x704 .f32 := m ((c : Thread nD τ).loc main_arg2)
abbrev square : FVec Ideal S3x704 .f32 := m ((c : Thread nD τ).loc main_arg3)

/-- The gradient of a block of rows. -/
theorem block_grad (x : Vec Ideal S8x3x704 .f32) (x1 x2 x3 : Vec Ideal S3x704 .f32) :
    k0_pay5 x x1 x2 x3 = total (x : S8x3x704.Idx → EReal) := gathered (x : S8x3x704.Idx → EReal) _

/-- A point's rows of what a device sent. -/
theorem rows (k : Fin 8) (y : S3x704.Idx) : slice (iblk m c 0 t : S8x3x704.Idx → EReal) k y
    = slice (m ((c : Thread nD τ).loc main_arg0) : S8x3x704.Idx → EReal) k (((cfg0.win 4).blk t).view.emb y) := by
  refine congrArg (m ((c : Thread nD τ).loc main_arg0)) (funext fun a => Fin.ext ?_)
  fin_cases a
  · show 0 * 8 + 1 * k.val = k.val; omega
  · rfl
  · rfl

/-- What a point writes back: its rows of the gradient, of the step and of the two averages. -/
theorem flushed_g : (dats m 0 c).flushed 4 t = ((cfg0.win 4).blk t).view.read (Elt Ideal) (grad m c) := by
  rw [flushed4]; unfold out0_4; rw [View.canon_unit_zero origin]
  exact (block_grad (iblk m c 0 t) (iblk m c 1 t) (iblk m c 2 t) (iblk m c 3 t)).trans (blockwise _ (weight m c) (mean m c) (square m c) _ _ (rows m c t)).1

theorem flushed_s : (dats m 0 c).flushed 5 t
    = ((cfg0.win 5).blk t).view.read (Elt Ideal) (step (grad m c) (weight m c) (mean m c) (square m c)) := by
  rw [flushed5]; unfold out0_5; rw [View.canon_unit_zero origin, block_grad]
  simp only [View.ld_unit_zero (S := S3x704) origin]
  exact (blockwise _ (weight m c) (mean m c) (square m c) _ _ (rows m c t)).2.1

theorem flushed_m : (dats m 0 c).flushed 6 t
    = ((cfg0.win 6).blk t).view.read (Elt Ideal) (first (grad m c) (mean m c)) := by
  rw [flushed6]; unfold out0_6; rw [View.canon_unit_zero origin, block_grad]
  simp only [View.ld_unit_zero (S := S3x704) origin]
  exact (blockwise _ (weight m c) (mean m c) (square m c) _ _ (rows m c t)).2.2.1

theorem flushed_v : (dats m 0 c).flushed 7 t
    = ((cfg0.win 7).blk t).view.read (Elt Ideal) (second (grad m c) (square m c)) := by
  rw [flushed7]; unfold out0_7; rw [View.canon_unit_zero origin, block_grad]
  simp only [View.ld_unit_zero (S := S3x704) origin]
  exact (blockwise _ (weight m c) (mean m c) (square m c) _ _ (rows m c t)).2.2.2

/-- The four arrays after the run: the points' blocks cover them. -/
theorem final : (dats m 0 c).arrAt 4 cfg0.N = grad m c
    ∧ (dats m 0 c).arrAt 5 cfg0.N = step (grad m c) (weight m c) (mean m c) (square m c)
    ∧ (dats m 0 c).arrAt 6 cfg0.N = first (grad m c) (mean m c)
    ∧ (dats m 0 c).arrAt 7 cfg0.N = second (grad m c) (square m c) :=
  ⟨(dats m 0 c).arrAt_eq_of_cover 4 _ (fun t _ => flushed_g m c t)
      ((by decide +kernel : (cfg0.win 4).Covers).cover _ (Memref.isWhole_whole _)),
    (dats m 0 c).arrAt_eq_of_cover 5 _ (fun t _ => flushed_s m c t)
      ((by decide +kernel : (cfg0.win 5).Covers).cover _ (Memref.isWhole_whole _)),
    (dats m 0 c).arrAt_eq_of_cover 6 _ (fun t _ => flushed_m m c t)
      ((by decide +kernel : (cfg0.win 6).Covers).cover _ (Memref.isWhole_whole _)),
    (dats m 0 c).arrAt_eq_of_cover 7 _ (fun t _ => flushed_v m c t)
      ((by decide +kernel : (cfg0.win 7).Covers).cover _ (Memref.isWhole_whole _))⟩

end Cert.AConvIdeal.Step

namespace Cert.Proof

open Idealize.ShloMosaic Idealize.ShloMosaic.TcCoe Idealize.SL.Sem

theorem frame_AConvRefIdeal : Cert.quiescent_AConvRefIdeal := fun m ρ _ =>
  (θ_run Cert.AConvRefIdeal.defs _ _).mono (fun r h => ⟨fun c => (h c).2.2.2.2, sem_eq_zero_of_no_sems (by decide) r.2⟩)
    (Cert.AConvRefIdeal.Value.run (F := Ideal) m ρ)

theorem algebraic_AConv : Cert.algebraic_AConvIdeal_AConvRefIdeal := by
  intro m ρ m' ρ' _ hagree
  refine ⟨_, _, _, _, (θ_run Cert.AConvIdeal.defs _ _).mono (fun _ h c =>
      have f := Cert.AConvIdeal.Step.final m c
      ⟨(h c).1.trans f.1, (h c).2.1.trans f.2.1, (h c).2.2.1.trans f.2.2.1, (h c).2.2.2.1.trans f.2.2.2, (h c).2.2.2.2⟩)
      (Cert.AConvIdeal.Value.run_blocks (F := Ideal) m ρ),
    (θ_run Cert.AConvRefIdeal.defs _ _).mono (fun _ h c => ?_) (Cert.AConvRefIdeal.Value.run (F := Ideal) m' ρ')⟩
  have h' := h c
  obtain ⟨h0, h1, h2, h3⟩ := hagree c
  rw [Cert.Adam.total_host _ _ _ _ Ideal.ofBits_zero_f32] at h'
  exact ⟨h'.1.trans (by rw [h0]), h'.2.1.trans (by rw [h0, h1, h2, h3]; rfl), h'.2.2.1.trans (by rw [h0, h2]; rfl),
    h'.2.2.2.1.trans (by rw [h0, h3]; rfl), h'.2.2.2.2⟩

end Cert.Proof

end
-- ==== Proof.HGrad.lean ====
/-
  The gradient of the feed-forward part's input: the tiled product of the rows of its two operands, accumulated over four
  tiles of the contracted axis, with the residual's gradient, scaled, added on the way out.
-/
module

public import proofs.«01_k».proof.Defs
public import proofs.«01_k».proof.Proof.Products
public import proofs.«01_k».proof.Proof.Gen.DHIdeal.Value
public import proofs.«01_k».proof.Proof.Gen.DHRefIdeal.Run
public import Idealize.ShloMosaic.Lib.Tactic

@[expose] public section

noncomputable section

namespace Cert.DHIdeal.Tiles

open Cert.DHIdeal Cert.DHIdeal.Gen Cert.DHIdeal.Value Cert.Products
open Idealize.ShloMosaic Idealize.ShloMosaic.TcCoe Idealize.SL.Sem Idealize.ShloMosaic.ValueIdx

variable (m : (ℓ : Loc nD τ sig) → Buf (Elt Ideal) ℓ) (ρ : Dev nD → PrngReg)

/-- The gradient that comes in, the weight, and the gradient that the residual brings. -/
abbrev lhs (c : Dev nD) : FVec Ideal S4096x5632 .f32 := m ((c : Thread nD τ).loc main_arg2)
abbrev rhs (c : Dev nD) : FVec Ideal S1024x5632 .f32 := m ((c : Thread nD τ).loc main_arg1)
abbrev res (c : Dev nD) : FVec Ideal S4096x1024 .f32 := m ((c : Thread nD τ).loc main_arg3)

/-- What the call finds in its operands: the arguments, the format of two changed. -/
theorem entry_v0 (c : Dev nD) : V m c main_v0 = (truncf .bf16 (lhs m c) bitsLt_bf16_f32 : FVec Ideal S4096x5632 .bf16) := by
  show StableHlo.after hostOps0 (fun b => m (c, b)) _ = _
  after_results
theorem entry_v1 (c : Dev nD) : V m c main_v1 = (truncf .bf16 (rhs m c) bitsLt_bf16_f32 : FVec Ideal S1024x5632 .bf16) := by
  show StableHlo.after hostOps0 (fun b => m (c, b)) _ = _
  after_results

/-- Which tiles a point works on. -/
theorem places : ∀ t : Fin cfg0.N, win0_0.index t = ![t.val / 4, t.val % 4] ∧ win0_1.index t = ![0, t.val % 4]
    ∧ win0_2.index t = ![t.val / 4, 0] ∧ win0_3.index t = ![t.val / 4, 0] :=
  (by decide +kernel : ∀ t : Fin grid0.N, _)

theorem lhs_tile (c : Dev nD) (t : Fin cfg0.N) {i k : ℕ} (hi : i < 1024) (hk : k < 1408) :
    at2 (iblk m c 0 t : S1024x1408.Idx → EReal) i k = at2 (lhs m c) (t.val / 4 * 1024 + i) (t.val % 4 * 1408 + k) := by
  obtain ⟨e, -⟩ := places t
  refine at2_tile (lhs m c) _ (((cfg0.win 0).blk t).view.emb) _ _ (fun y => ?_) (fun y => ?_) (fun y => ?_) hi hk
  · exact congrFun (entry_v0 m c) _
  · show win0_0.index t (0 : Fin 2) * 1024 + 1 * (y 0).val = _; rw [e]; rfl
  · show win0_0.index t (1 : Fin 2) * 1408 + 1 * (y 1).val = _; rw [e]; rfl

theorem rhs_tile (c : Dev nD) (t : Fin cfg0.N) {i k : ℕ} (hi : i < 1024) (hk : k < 1408) :
    at2 (iblk m c 1 t : S1024x1408.Idx → EReal) i k = at2 (rhs m c) (0 * 1024 + i) (t.val % 4 * 1408 + k) := by
  obtain ⟨-, e, -⟩ := places t
  refine at2_tile (rhs m c) _ (((cfg0.win 1).blk t).view.emb) _ _ (fun y => ?_) (fun y => ?_) (fun y => ?_) hi hk
  · exact congrFun (entry_v1 m c) _
  · show win0_1.index t (0 : Fin 2) * 1024 + 1 * (y 0).val = _; rw [e]; rfl
  · show win0_1.index t (1 : Fin 2) * 1408 + 1 * (y 1).val = _; rw [e]; rfl

theorem res_tile (c : Dev nD) (t : Fin cfg0.N) {i k : ℕ} (hi : i < 1024) (hk : k < 1024) :
    at2 (iblk m c 2 t : S1024x1024.Idx → EReal) i k = at2 (res m c) (t.val / 4 * 1024 + i) (0 * 1024 + k) := by
  obtain ⟨-, -, e, -⟩ := places t
  refine at2_tile (res m c) _ (((cfg0.win 2).blk t).view.emb) _ _ (fun y => ?_) (fun y => ?_) (fun y => ?_) hi hk
  · exact congrFun (V_main_arg3 m c) _
  · show win0_2.index t (0 : Fin 2) * 1024 + 1 * (y 0).val = _; rw [e]; rfl
  · show win0_2.index t (1 : Fin 2) * 1024 + 1 * (y 1).val = _; rw [e]; rfl

section
variable (c : Dev nD) (i : grid0.Coords) (a3 : Memref sig .tc .vmem S1024x1408 .bf16) (h3 : a3.IsWhole)
    (a4 : Memref sig .tc .vmem S1024x1408 .bf16) (h4 : a4.IsWhole) (a5 : Memref sig .tc .vmem S1024x1024 .f32) (h5 : a5.IsWhole)
    (a6 : Memref sig .tc .vmem S1024x1024 .f32) (h6 : a6.IsWhole) (a7 : Memref sig .tc .vmem S1024x1024 .f32) (h7 : a7.IsWhole)
    (x z : Vec Ideal S1024x1408 .bf16) (w : Vec Ideal S1024x1024 .f32)

/-- The first tile of a run is stored in the accumulator. -/
theorem first (c0 c1 c2) : sout0_A_0 c i a3 h3 a4 h4 a5 h5 a6 h6 a7 h7 c0 c1 c2 x z w = k0_pay1 x z := by
  unfold sout0_A_0
  rw [View.read_writes_eq_canon _ _ _ (scover0_A_0 c i a3 h3 a4 h4 a5 h5 a6 h6 a7 h7 c0 c1 c2 x z w)]
  unfold kernelRun0_A
  dsimp only
  sl_unfold_words
  rw [View.canon_unit_zero origin]
  unfold k0_pay2
  simp only [View.readAt_eq_ld, h3.read_unread, h4.read_unread, View.ld_unit_zero (S := S1024x1024) origin,
    View.ld_unit_zero (S := S1024x1408) origin, shapeCast_self]

/-- A middle tile is added to it. -/
theorem middle (c0 c1 c2) (a : Vec Ideal S1024x1024 .f32) :
    sout0_B_0 c i a3 h3 a4 h4 a5 h5 a6 h6 a7 h7 c0 c1 c2 x z w a = addf a (k0_pay1 x z) := by
  unfold sout0_B_0
  rw [View.read_writes_eq_canon _ _ _ (scover0_B_0 c i a3 h3 a4 h4 a5 h5 a6 h6 a7 h7 c0 c1 c2 x z w a)]
  unfold kernelRun0_B
  dsimp only
  sl_unfold_words
  rw [View.canon_unit_zero origin]
  unfold k0_pay3
  simp only [View.readAt_eq_ld, h3.read_unread, h4.read_unread, h5.read_unread, h7.read_unread, View.ld_unit_zero (S := S1024x1024) origin,
    View.ld_unit_zero (S := S1024x1408) origin, shapeCast_self]

/-- The last is added to it on the way out. -/
theorem last (c0 c1 c2) (a : Vec Ideal S1024x1024 .f32) :
    out0_C_3 c i a3 h3 a4 h4 a5 h5 a6 h6 a7 h7 c0 c1 c2 x z w a = addf (addf a (k0_pay1 x z)) (mulf (broadcast S1024x1024 (Scalar.ofBits (F := Ideal) .f32 0x3F9837F0#32)) w) := by
  unfold out0_C_3
  rw [View.read_writes_eq_canon _ _ _ (cover0_C_3 c i a3 h3 a4 h4 a5 h5 a6 h6 a7 h7 c0 c1 c2 x z w a)]
  unfold kernelRun0_C
  dsimp only
  sl_unfold_words
  rw [View.canon_unit_zero origin]
  unfold k0_pay4
  simp only [View.readAt_eq_ld, h3.read_unread, h4.read_unread, h5.read_unread, h7.read_unread, View.ld_unit_zero (S := S1024x1024) origin,
    View.ld_unit_zero (S := S1024x1408) origin, shapeCast_self]

end

/-- A point's own part, at an index. -/
theorem part (x : FVec Ideal S1024x1408 .bf16) (z : FVec Ideal S1024x1408 .bf16) (y : S1024x1024.Idx) :
    (k0_pay1 (F := Ideal) x z : FVec Ideal S1024x1024 .f32) y
      = ∑ k ∈ Finset.range 1408, at2 (x : S1024x1408.Idx → EReal) (y 0).val k * at2 (z : S1024x1408.Idx → EReal) (y 1).val k := by
  unfold k0_pay1
  simp only [shapeCast_self]
  exact matmul_nt (φ₁ := .bf16) (φ₂ := .bf16) _ x z y

theorem held_first (c : Dev nD) (t : Fin cfg0.N) (h0 : t.val % 4 = 0) :
    (outsAt0 m c t.val t.isLt).2 = k0_pay1 (F := Ideal) (iblk m c 0 t) (iblk m c 1 t) := by
  rw [outsAt0_A m c t h0 (by omega) (by omega)]
  dsimp only
  exact first ..

theorem held_middle (c : Dev nD) (t : Fin cfg0.N) (h0 : ¬t.val % 4 = 0) (h1 : ¬t.val % 4 = 3) :
    (outsAt0 m c t.val t.isLt).2
      = addf (outsAt0 m c (t.val - 1) (Nat.lt_of_le_of_lt (Nat.sub_le _ _) t.isLt)).2 (k0_pay1 (F := Ideal) (iblk m c 0 t) (iblk m c 1 t)) := by
  rw [outsAt0_B m c t h0 (by omega) h1]
  dsimp only
  exact middle ..

/-- What the accumulator held before the last point of a run, and that point's own part. -/
theorem whole (c : Dev nD) (t : Fin cfg0.N) (ht : t.val % 4 = 3) (y : S1024x1024.Idx) :
    addf (outsAt0 m c (t.val - 1) (Nat.lt_of_le_of_lt (Nat.sub_le _ _) t.isLt)).2 (k0_pay1 (F := Ideal) (iblk m c 0 t) (iblk m c 1 t)) y
      = ∑ k ∈ Finset.range 5632, at2 (lhs m c) (t.val / 4 * 1024 + (y 0).val) k * at2 (rhs m c) (0 * 1024 + (y 1).val) k :=
  accumulated_nt (φ := .bf16) (J := 4) (k := 1408) (by decide) (lhs m c) (rhs m c) (fun q => q) (fun _ => 0)
    (fun t => iblk m c 0 t) (fun t => iblk m c 1 t) (fun t _ _ => lhs_tile m c t) (fun t _ _ => rhs_tile m c t)
    (fun t h => (outsAt0 m c t h).2) (fun t => k0_pay1 (F := Ideal) (iblk m c 0 t) (iblk m c 1 t))
    (fun t y => part (iblk m c 0 t) (iblk m c 1 t) y)
    (held_first m c) (held_middle m c) t ht y

/-- What the call computes, at an index. -/
def result (c : Dev nD) : S4096x1024.Idx → EReal := fun i =>
  (∑ k ∈ Finset.range 5632, at2 (lhs m c) (i 0).val k * at2 (rhs m c) (i 1).val k)
    + Scalar.ofBits (F := Ideal) .f32 0x3F9837F0#32 * at2 (res m c) (i 0).val (i 1).val

theorem flushed (c : Dev nD) (t : Fin cfg0.N) (hf : (cfg0.win 3).flush t = true) :
    (dats m 0 c).flushed 3 t = ((cfg0.win 3).blk t).view.read (Elt Ideal) (result m c) := by
  have ht : t.val % 4 = 3 := (flush0_3 t).mp hf
  rw [flushed3_C m c t (by omega) (by omega) ht]
  obtain ⟨-, -, -, e⟩ := places t
  funext y
  have h0 : (((cfg0.win 3).blk t).view.emb y 0).val = t.val / 4 * 1024 + (y 0).val := by
    show win0_3.index t (0 : Fin 2) * 1024 + 1 * (y 0).val = _; rw [e, Nat.one_mul]; rfl
  have h1 : (((cfg0.win 3).blk t).view.emb y 1).val = 0 * 1024 + (y 1).val := by
    show win0_3.index t (1 : Fin 2) * 1024 + 1 * (y 1).val = _; rw [e, Nat.one_mul]; rfl
  refine (congrFun (last ..) y).trans ?_
  refine (congrArg₂ (· + ·) (whole m c t ht y) (congrArg (_ * ·)
    ((at2_idx (iblk m c 2 t) y rfl rfl).trans (res_tile m c t (y 0).isLt (y 1).isLt)))).trans ?_
  show _ = (∑ k ∈ Finset.range 5632, at2 (lhs m c) (((cfg0.win 3).blk t).view.emb y 0).val k
    * at2 (rhs m c) (((cfg0.win 3).blk t).view.emb y 1).val k) + Scalar.ofBits (F := Ideal) .f32 0x3F9837F0#32
      * at2 (res m c) (((cfg0.win 3).blk t).view.emb y 0).val (((cfg0.win 3).blk t).view.emb y 1).val
  rw [h0, h1]
  rfl

theorem final (c : Dev nD) : (dats m 0 c).arrAt 3 cfg0.N = result m c :=
  (dats m 0 c).arrAt_eq_of_cover 3 _ (flushed m c) fun i => (covered_iff3 i).2 (by
    have h0 : (i 0).val < 4096 := (i 0).isLt; have h1 : (i 1).val < 1024 := (i 1).isLt; omega)

end Cert.DHIdeal.Tiles

namespace Cert.Proof

open Idealize.ShloMosaic Idealize.ShloMosaic.TcCoe Idealize.SL.Sem

theorem frame_DHRefIdeal : Cert.quiescent_DHRefIdeal := fun m ρ _ =>
  (θ_run Cert.DHRefIdeal.defs _ _).mono (fun r h => ⟨fun c => (h c).2, sem_eq_zero_of_no_sems (by decide) r.2⟩)
    (Cert.DHRefIdeal.Value.run (F := Ideal) m ρ)

theorem algebraic_DH : Cert.algebraic_DHIdeal_DHRefIdeal := by
  intro m ρ m' ρ' _ hagree
  refine ⟨fun c => Cert.DHIdeal.Tiles.result m c,
    (θ_run Cert.DHIdeal.defs _ _).mono (fun _ h c => ⟨(h c).1.trans (Cert.DHIdeal.Tiles.final m c), (h c).2⟩)
      (Cert.DHIdeal.Value.run_blocks (F := Ideal) m ρ),
    (θ_run Cert.DHRefIdeal.defs _ _).mono (fun _ h c => ⟨(h c).1.trans ?_, (h c).2⟩)
      (Cert.DHRefIdeal.Value.run (F := Ideal) m' ρ')⟩
  obtain ⟨-, h1, h2, h3⟩ := hagree c
  rw [h1, h2, h3]
  funext i
  refine (add_comm _ _).trans (congrArg₂ (· + ·)
    (Cert.Products.dot_nt (φ₁ := .f32) (φ₂ := .f32) _ (Cert.DHIdeal.Tiles.lhs m c) (Cert.DHIdeal.Tiles.rhs m c) i) ?_)
  exact congrArg (_ * ·) (Cert.Products.at2_idx (Cert.DHIdeal.Tiles.res m c) i rfl rfl)

end Cert.Proof

end
-- ==== Proof.UpGrad.lean ====
/-
  The gradient of the up projection's weight: the tiled product of the columns of its two operands, accumulated over
  four tiles of the contracted axis.
-/
module

public import proofs.«01_k».proof.Defs
public import proofs.«01_k».proof.Proof.Products
public import proofs.«01_k».proof.Proof.Gen.GUpIdeal.Value
public import proofs.«01_k».proof.Proof.Gen.GUpRefIdeal.Run
public import Idealize.ShloMosaic.Lib.Tactic

@[expose] public section

noncomputable section

namespace Cert.GUpIdeal.Tiles

open Cert.GUpIdeal Cert.GUpIdeal.Gen Cert.GUpIdeal.Value Cert.Products
open Idealize.ShloMosaic Idealize.ShloMosaic.TcCoe Idealize.SL.Sem Idealize.ShloMosaic.ValueIdx

variable (m : (ℓ : Loc nD τ sig) → Buf (Elt Ideal) ℓ) (ρ : Dev nD → PrngReg)

/-- The input of the projection, and the gradient that comes in. -/
abbrev lhs (c : Dev nD) : FVec Ideal S4096x1024 .f32 := m ((c : Thread nD τ).loc main_arg0)
abbrev rhs (c : Dev nD) : FVec Ideal S4096x5632 .f32 := m ((c : Thread nD τ).loc main_arg2)

/-- What the call finds in its two operands: the arguments, their format changed. -/
theorem entry_v0 (c : Dev nD) : V m c main_v0 = (truncf .bf16 (lhs m c) bitsLt_bf16_f32 : FVec Ideal S4096x1024 .bf16) := by
  show StableHlo.after hostOps0 (fun b => m (c, b)) _ = _
  after_results
theorem entry_v1 (c : Dev nD) : V m c main_v1 = (truncf .bf16 (rhs m c) bitsLt_bf16_f32 : FVec Ideal S4096x5632 .bf16) := by
  show StableHlo.after hostOps0 (fun b => m (c, b)) _ = _
  after_results

/-- Which tiles a point works on. -/
theorem places : ∀ t : Fin cfg0.N, win0_0.index t = ![t.val % 4, t.val / 4 / 4] ∧ win0_1.index t = ![t.val % 4, t.val / 4 % 4]
    ∧ win0_2.index t = ![t.val / 4 / 4, t.val / 4 % 4] :=
  (by decide +kernel : ∀ t : Fin grid0.N, _)

theorem lhs_tile (c : Dev nD) (t : Fin cfg0.N) {k i : ℕ} (hk : k < 1024) (hi : i < 1024) :
    at2 (iblk m c 0 t : S1024x1024.Idx → EReal) k i = at2 (lhs m c) (t.val % 4 * 1024 + k) (t.val / 4 / 4 * 1024 + i) := by
  obtain ⟨e, -, -⟩ := places t
  refine at2_tile (lhs m c) _ (((cfg0.win 0).blk t).view.emb) _ _ (fun y => ?_) (fun y => ?_) (fun y => ?_) hk hi
  · exact congrFun (entry_v0 m c) _
  · show win0_0.index t (0 : Fin 2) * 1024 + 1 * (y 0).val = _; rw [e]; rfl
  · show win0_0.index t (1 : Fin 2) * 1024 + 1 * (y 1).val = _; rw [e]; rfl

theorem rhs_tile (c : Dev nD) (t : Fin cfg0.N) {k i : ℕ} (hk : k < 1024) (hi : i < 1408) :
    at2 (iblk m c 1 t : S1024x1408.Idx → EReal) k i = at2 (rhs m c) (t.val % 4 * 1024 + k) (t.val / 4 % 4 * 1408 + i) := by
  obtain ⟨-, e, -⟩ := places t
  refine at2_tile (rhs m c) _ (((cfg0.win 1).blk t).view.emb) _ _ (fun y => ?_) (fun y => ?_) (fun y => ?_) hk hi
  · exact congrFun (entry_v1 m c) _
  · show win0_1.index t (0 : Fin 2) * 1024 + 1 * (y 0).val = _; rw [e]; rfl
  · show win0_1.index t (1 : Fin 2) * 1408 + 1 * (y 1).val = _; rw [e]; rfl

section
variable (c : Dev nD) (i : grid0.Coords) (a3 : Memref sig .tc .vmem S1024x1024 .bf16) (h3 : a3.IsWhole)
    (a4 : Memref sig .tc .vmem S1024x1408 .bf16) (h4 : a4.IsWhole) (a5 : Memref sig .tc .vmem S1024x1408 .bf16) (h5 : a5.IsWhole)
    (a6 : Memref sig .tc .vmem S1024x1408 .f32) (h6 : a6.IsWhole) (x : Vec Ideal S1024x1024 .bf16) (z : Vec Ideal S1024x1408 .bf16)

/-- The first tile of a run is stored in the accumulator. -/
theorem first (c0 c1 c2) : sout0_A_0 c i a3 h3 a4 h4 a5 h5 a6 h6 c0 c1 c2 x z = k0_pay1 x z := by
  unfold sout0_A_0
  rw [View.read_writes_eq_canon _ _ _ (scover0_A_0 c i a3 h3 a4 h4 a5 h5 a6 h6 c0 c1 c2 x z)]
  unfold kernelRun0_A
  dsimp only
  sl_unfold_words
  rw [View.canon_unit_zero origin]
  unfold k0_pay2
  simp only [View.readAt_eq_ld, h3.read_unread, h4.read_unread, View.ld_unit_zero (S := S1024x1024) origin,
    View.ld_unit_zero (S := S1024x1408) origin, shapeCast_self]

/-- A middle tile is added to it. -/
theorem middle (c0 c1 c2) (a : Vec Ideal S1024x1408 .f32) :
    sout0_B_0 c i a3 h3 a4 h4 a5 h5 a6 h6 c0 c1 c2 x z a = addf a (k0_pay1 x z) := by
  unfold sout0_B_0
  rw [View.read_writes_eq_canon _ _ _ (scover0_B_0 c i a3 h3 a4 h4 a5 h5 a6 h6 c0 c1 c2 x z a)]
  unfold kernelRun0_B
  dsimp only
  sl_unfold_words
  rw [View.canon_unit_zero origin]
  unfold k0_pay3
  simp only [View.readAt_eq_ld, h3.read_unread, h4.read_unread, h6.read_unread, View.ld_unit_zero (S := S1024x1024) origin,
    View.ld_unit_zero (S := S1024x1408) origin, shapeCast_self]

/-- The last is added to it on the way out. -/
theorem last (c0 c1 c2) (a : Vec Ideal S1024x1408 .f32) :
    out0_C_2 c i a3 h3 a4 h4 a5 h5 a6 h6 c0 c1 c2 x z a = truncf .bf16 (addf a (k0_pay1 x z)) bitsLt_bf16_f32 := by
  unfold out0_C_2
  rw [View.read_writes_eq_canon _ _ _ (cover0_C_2 c i a3 h3 a4 h4 a5 h5 a6 h6 c0 c1 c2 x z a)]
  unfold kernelRun0_C
  dsimp only
  sl_unfold_words
  rw [View.canon_unit_zero origin]
  unfold k0_pay4
  simp only [View.readAt_eq_ld, h3.read_unread, h4.read_unread, h6.read_unread, View.ld_unit_zero (S := S1024x1024) origin,
    View.ld_unit_zero (S := S1024x1408) origin, shapeCast_self]

end

/-- A point's own part, at an index. -/
theorem part (x : FVec Ideal S1024x1024 .bf16) (z : FVec Ideal S1024x1408 .bf16) (y : S1024x1408.Idx) :
    (k0_pay1 (F := Ideal) x z : FVec Ideal S1024x1408 .f32) y
      = ∑ k ∈ Finset.range 1024, at2 (x : S1024x1024.Idx → EReal) k (y 0).val * at2 (z : S1024x1408.Idx → EReal) k (y 1).val := by
  unfold k0_pay1
  simp only [shapeCast_self]
  exact matmul_tn (φ₁ := .bf16) (φ₂ := .bf16) _ x z y

theorem held_first (c : Dev nD) (t : Fin cfg0.N) (h0 : t.val % 4 = 0) :
    (outsAt0 m c t.val t.isLt).2 = k0_pay1 (F := Ideal) (iblk m c 0 t) (iblk m c 1 t) := by
  rw [outsAt0_A m c t h0 (by omega) (by omega)]
  dsimp only
  exact first ..

theorem held_middle (c : Dev nD) (t : Fin cfg0.N) (h0 : ¬t.val % 4 = 0) (h1 : ¬t.val % 4 = 3) :
    (outsAt0 m c t.val t.isLt).2
      = addf (outsAt0 m c (t.val - 1) (Nat.lt_of_le_of_lt (Nat.sub_le _ _) t.isLt)).2 (k0_pay1 (F := Ideal) (iblk m c 0 t) (iblk m c 1 t)) := by
  rw [outsAt0_B m c t h0 (by omega) h1]
  dsimp only
  exact middle ..

/-- What the accumulator held before the last point of a run, and that point's own part. -/
theorem whole (c : Dev nD) (t : Fin cfg0.N) (ht : t.val % 4 = 3) (y : S1024x1408.Idx) :
    addf (outsAt0 m c (t.val - 1) (Nat.lt_of_le_of_lt (Nat.sub_le _ _) t.isLt)).2 (k0_pay1 (F := Ideal) (iblk m c 0 t) (iblk m c 1 t)) y
      = ∑ k ∈ Finset.range 4096, at2 (lhs m c) k (t.val / 4 / 4 * 1024 + (y 0).val) * at2 (rhs m c) k (t.val / 4 % 4 * 1408 + (y 1).val) :=
  accumulated_tn (φ := .bf16) (J := 4) (k := 1024) (by decide) (lhs m c) (rhs m c) (fun q => q / 4) (fun q => q % 4)
    (fun t => iblk m c 0 t) (fun t => iblk m c 1 t) (fun t _ _ => lhs_tile m c t) (fun t _ _ => rhs_tile m c t)
    (fun t h => (outsAt0 m c t h).2) (fun t => k0_pay1 (F := Ideal) (iblk m c 0 t) (iblk m c 1 t))
    (fun t y => part (iblk m c 0 t) (iblk m c 1 t) y)
    (held_first m c) (held_middle m c) t ht y

/-- The product the call computes, at an index. -/
def result (c : Dev nD) : S1024x5632.Idx → EReal := fun i =>
  ∑ k ∈ Finset.range 4096, at2 (lhs m c) k (i 0).val * at2 (rhs m c) k (i 1).val

theorem flushed (c : Dev nD) (t : Fin cfg0.N) (hf : (cfg0.win 2).flush t = true) :
    (dats m 0 c).flushed 2 t = ((cfg0.win 2).blk t).view.read (Elt Ideal) (result m c) := by
  have ht : t.val % 4 = 3 := (flush0_2 t).mp hf
  rw [flushed2_C m c t (by omega) (by omega) ht]
  obtain ⟨-, -, e⟩ := places t
  funext y
  have h0 : (((cfg0.win 2).blk t).view.emb y 0).val = t.val / 4 / 4 * 1024 + (y 0).val := by
    show win0_2.index t (0 : Fin 2) * 1024 + 1 * (y 0).val = _; rw [e, Nat.one_mul]; rfl
  have h1 : (((cfg0.win 2).blk t).view.emb y 1).val = t.val / 4 % 4 * 1408 + (y 1).val := by
    show win0_2.index t (1 : Fin 2) * 1408 + 1 * (y 1).val = _; rw [e, Nat.one_mul]; rfl
  refine (congrFun (last ..) y).trans ?_
  refine (whole m c t ht y).trans ?_
  show _ = ∑ k ∈ Finset.range 4096, at2 (lhs m c) k (((cfg0.win 2).blk t).view.emb y 0).val
    * at2 (rhs m c) k (((cfg0.win 2).blk t).view.emb y 1).val
  rw [h0, h1]

theorem final (c : Dev nD) : (dats m 0 c).arrAt 2 cfg0.N = result m c :=
  (dats m 0 c).arrAt_eq_of_cover 2 _ (flushed m c) fun i => (covered_iff2 i).2 (by
    have h0 : (i 0).val < 1024 := (i 0).isLt; have h1 : (i 1).val < 5632 := (i 1).isLt; omega)

end Cert.GUpIdeal.Tiles

namespace Cert.Proof

open Idealize.ShloMosaic Idealize.ShloMosaic.TcCoe Idealize.SL.Sem

theorem frame_GUpRefIdeal : Cert.quiescent_GUpRefIdeal := fun m ρ _ =>
  (θ_run Cert.GUpRefIdeal.defs _ _).mono (fun r h => ⟨fun c => (h c).2, sem_eq_zero_of_no_sems (by decide) r.2⟩)
    (Cert.GUpRefIdeal.Value.run (F := Ideal) m ρ)

theorem algebraic_GUp : Cert.algebraic_GUpIdeal_GUpRefIdeal := by
  intro m ρ m' ρ' _ hagree
  refine ⟨fun c => Cert.GUpIdeal.Tiles.result m c,
    (θ_run Cert.GUpIdeal.defs _ _).mono (fun _ h c => ⟨(h c).1.trans (Cert.GUpIdeal.Tiles.final m c), (h c).2⟩)
      (Cert.GUpIdeal.Value.run_blocks (F := Ideal) m ρ),
    (θ_run Cert.GUpRefIdeal.defs _ _).mono (fun _ h c => ⟨(h c).1.trans ?_, (h c).2⟩)
      (Cert.GUpRefIdeal.Value.run (F := Ideal) m' ρ')⟩
  obtain ⟨h0, -, h2⟩ := hagree c
  rw [h0, h2]
  funext i
  refine (Cert.Products.dot_tn (φ₁ := .f32) (φ₂ := .f32) _ (Cert.GUpIdeal.Tiles.rhs m c) (Cert.GUpIdeal.Tiles.lhs m c) _).trans ?_
  exact Finset.sum_congr rfl fun k _ => mul_comm _ _

end Cert.Proof

end
-- ==== Proof.ActGrad.lean ====
/-
  The gradient of the feed-forward activation: one call of the tiled product, a tile of the result per grid point
  and the whole contracted axis in one tile.
-/
module

public import proofs.«01_k».proof.Defs
public import proofs.«01_k».proof.Proof.Products
public import proofs.«01_k».proof.Proof.Gen.DPIdeal.Value
public import proofs.«01_k».proof.Proof.Gen.DPRefIdeal.Run
public import Idealize.ShloMosaic.Lib.Tactic

@[expose] public section

noncomputable section

namespace Cert.DPIdeal.Tiles

open Cert.DPIdeal Cert.DPIdeal.Gen Cert.DPIdeal.Value Cert.Products
open Idealize.ShloMosaic Idealize.ShloMosaic.TcCoe Idealize.SL.Sem Idealize.ShloMosaic.ValueIdx

variable (m : (ℓ : Loc nD τ sig) → Buf (Elt Ideal) ℓ) (ρ : Dev nD → PrngReg)

/-- The gradient that comes in, and the weight. -/
abbrev lhs (c : Dev nD) : FVec Ideal S4096x1024 .f32 := m ((c : Thread nD τ).loc main_arg2)
abbrev rhs (c : Dev nD) : FVec Ideal S2816x1024 .f32 := m ((c : Thread nD τ).loc main_arg1)

/-- What the call finds in its two operands: the arguments, their format changed. -/
theorem entry_v0 (c : Dev nD) : V m c main_v0 = (truncf .bf16 (lhs m c) bitsLt_bf16_f32 : FVec Ideal S4096x1024 .bf16) := by
  show StableHlo.after hostOps0 (fun b => m (c, b)) _ = _
  after_results
theorem entry_v1 (c : Dev nD) : V m c main_v1 = (truncf .bf16 (rhs m c) bitsLt_bf16_f32 : FVec Ideal S2816x1024 .bf16) := by
  show StableHlo.after hostOps0 (fun b => m (c, b)) _ = _
  after_results

/-- Which tiles a point works on. -/
theorem places : ∀ t : Fin cfg0.N, win0_0.index t = ![t.val / 2, 0] ∧ win0_1.index t = ![t.val % 2, 0]
    ∧ win0_2.index t = ![t.val / 2, t.val % 2] :=
  (by decide +kernel : ∀ t : Fin grid0.N, _)

theorem lhs_tile (c : Dev nD) (t : Fin cfg0.N) {i k : ℕ} (hi : i < 1024) (hk : k < 1024) :
    at2 (iblk m c 0 t : S1024x1024.Idx → EReal) i k = at2 (lhs m c) (t.val / 2 * 1024 + i) (0 * 1024 + k) := by
  obtain ⟨e, -, -⟩ := places t
  refine at2_tile (lhs m c) _ (((cfg0.win 0).blk t).view.emb) _ _ (fun y => ?_) (fun y => ?_) (fun y => ?_) hi hk
  · exact congrFun (entry_v0 m c) _
  · show win0_0.index t (0 : Fin 2) * 1024 + 1 * (y 0).val = _; rw [e]; rfl
  · show win0_0.index t (1 : Fin 2) * 1024 + 1 * (y 1).val = _; rw [e]; rfl

theorem rhs_tile (c : Dev nD) (t : Fin cfg0.N) {i k : ℕ} (hi : i < 1408) (hk : k < 1024) :
    at2 (iblk m c 1 t : S1408x1024.Idx → EReal) i k = at2 (rhs m c) (t.val % 2 * 1408 + i) (0 * 1024 + k) := by
  obtain ⟨-, e, -⟩ := places t
  refine at2_tile (rhs m c) _ (((cfg0.win 1).blk t).view.emb) _ _ (fun y => ?_) (fun y => ?_) (fun y => ?_) hi hk
  · exact congrFun (entry_v1 m c) _
  · show win0_1.index t (0 : Fin 2) * 1408 + 1 * (y 0).val = _; rw [e]; rfl
  · show win0_1.index t (1 : Fin 2) * 1024 + 1 * (y 1).val = _; rw [e]; rfl

/-- The body leaves the product of its two tiles. -/
theorem left (c : Dev nD) (i : grid0.Coords) (a3 : Memref sig .tc .vmem S1024x1024 .bf16) (h3 : a3.IsWhole)
    (a4 : Memref sig .tc .vmem S1408x1024 .bf16) (h4 : a4.IsWhole) (a5 : Memref sig .tc .vmem S1024x1408 .bf16) (h5 : a5.IsWhole)
    (a6 : Memref sig .tc .vmem S1024x1408 .f32) (h6 : a6.IsWhole) (x : Vec Ideal S1024x1024 .bf16) (z : Vec Ideal S1408x1024 .bf16)
    (y : S1024x1408.Idx) :
    out0_A_2 c i a3 h3 a4 h4 a5 h5 a6 h6 x z y
      = ∑ k ∈ Finset.range 1024, at2 (x : S1024x1024.Idx → EReal) (y 0).val k * at2 (z : S1408x1024.Idx → EReal) (y 1).val k := by
  unfold out0_A_2
  rw [View.read_writes_eq_canon _ _ _ (cover0_A_2 c i a3 h3 a4 h4 a5 h5 a6 h6 x z)]
  unfold kernelRun0_A
  dsimp only
  sl_unfold_words
  rw [View.canon_unit_zero origin]
  unfold k0_pay1
  simp only [View.readAt_eq_ld, h3.read_unread, h4.read_unread, View.ld_unit_zero (S := S1024x1024) origin,
    View.ld_unit_zero (S := S1408x1024) origin, shapeCast_self]
  exact matmul_nt (φ₁ := .bf16) (φ₂ := .bf16) _ x z y

/-- The product the call computes, at an index. -/
def result (c : Dev nD) : S4096x2816.Idx → EReal := fun i =>
  ∑ k ∈ Finset.range 1024, at2 (lhs m c) (i 0).val k * at2 (rhs m c) (i 1).val k

theorem flushed (c : Dev nD) (t : Fin cfg0.N) :
    (dats m 0 c).flushed 2 t = ((cfg0.win 2).blk t).view.read (Elt Ideal) (result m c) := by
  rw [flushed2_A]
  obtain ⟨-, -, e⟩ := places t
  funext y
  have h0 : (((cfg0.win 2).blk t).view.emb y 0).val = t.val / 2 * 1024 + (y 0).val := by
    show win0_2.index t (0 : Fin 2) * 1024 + 1 * (y 0).val = _; rw [e, Nat.one_mul]; rfl
  have h1 : (((cfg0.win 2).blk t).view.emb y 1).val = t.val % 2 * 1408 + (y 1).val := by
    show win0_2.index t (1 : Fin 2) * 1408 + 1 * (y 1).val = _; rw [e, Nat.one_mul]; rfl
  refine (left c _ _ _ _ _ _ _ _ _ _ _ y).trans ?_
  show _ = ∑ k ∈ Finset.range 1024, at2 (lhs m c) (((cfg0.win 2).blk t).view.emb y 0).val k
    * at2 (rhs m c) (((cfg0.win 2).blk t).view.emb y 1).val k
  rw [h0, h1]
  refine Finset.sum_congr rfl fun k hk => ?_
  rw [lhs_tile m c t (y 0).isLt (Finset.mem_range.mp hk), rhs_tile m c t (y 1).isLt (Finset.mem_range.mp hk),
    Nat.zero_mul, Nat.zero_add]

theorem covered (i : S4096x2816.Idx) : ∃ t : Fin cfg0.N, (cfg0.win 2).flush t = true ∧ i ∈ ((cfg0.win 2).blk t).view.set := by
  have h0 : (i 0).val < 4096 := (i 0).isLt
  have h1 : (i 1).val < 2816 := (i 1).isLt
  let t : Fin cfg0.N := ⟨(i 0).val / 1024 * 2 + (i 1).val / 1408, lt_of_lt_of_eq (by omega) N_0.symm⟩
  obtain ⟨-, -, e⟩ := places t
  have e0 : win0_2.index t (0 : Fin 2) = ((i 0).val / 1024 * 2 + (i 1).val / 1408) / 2 := congrFun e 0
  have e1 : win0_2.index t (1 : Fin 2) = ((i 0).val / 1024 * 2 + (i 1).val / 1408) % 2 := congrFun e 1
  refine ⟨t, (by decide +kernel : ∀ t : Fin grid0.N, win0_2.flush t = true) t, ?_⟩
  show i ∈ ((View.whole main_v2).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1408 ≤ (i 1).val ∧ (i 1).val < win0_2.index t (1 : Fin 2) * 1408 + 1408; omega

theorem final (c : Dev nD) : (dats m 0 c).arrAt 2 cfg0.N = result m c :=
  (dats m 0 c).arrAt_eq_of_cover 2 _ (fun t _ => flushed m c t) covered

end Cert.DPIdeal.Tiles

namespace Cert.Proof

open Idealize.ShloMosaic Idealize.ShloMosaic.TcCoe Idealize.SL.Sem

theorem frame_DPRefIdeal : Cert.quiescent_DPRefIdeal := fun m ρ _ =>
  (θ_run Cert.DPRefIdeal.defs _ _).mono (fun r h => ⟨fun c => (h c).2, sem_eq_zero_of_no_sems (by decide) r.2⟩)
    (Cert.DPRefIdeal.Value.run (F := Ideal) m ρ)

theorem algebraic_DP : Cert.algebraic_DPIdeal_DPRefIdeal := by
  intro m ρ m' ρ' _ hagree
  refine ⟨fun c => Cert.DPIdeal.Tiles.result m c,
    (θ_run Cert.DPIdeal.defs _ _).mono (fun _ h c => ⟨(h c).1.trans (Cert.DPIdeal.Tiles.final m c), (h c).2⟩)
      (Cert.DPIdeal.Value.run_blocks (F := Ideal) m ρ),
    (θ_run Cert.DPRefIdeal.defs _ _).mono (fun _ h c => ⟨(h c).1.trans ?_, (h c).2⟩)
      (Cert.DPRefIdeal.Value.run (F := Ideal) m' ρ')⟩
  obtain ⟨-, h1, h2⟩ := hagree c
  rw [h1, h2]
  funext i
  exact Cert.Products.dot_nt (φ₁ := .f32) (φ₂ := .f32) _ (Cert.DPIdeal.Tiles.lhs m c) (Cert.DPIdeal.Tiles.rhs m c) i

end Cert.Proof

end
-- ==== Proof.InGrad.lean ====
/-
  The gradient of the layer's input: the tiled product of the rows of its two operands, columns of zeros put behind both,
  accumulated over five tiles of the contracted axis, with the residual's gradient, scaled, added on the way out.
-/
module

public import proofs.«01_k».proof.Defs
public import proofs.«01_k».proof.Proof.Products
public import proofs.«01_k».proof.Proof.Gen.DXIdeal.Value
public import proofs.«01_k».proof.Proof.Gen.DXRefIdeal.Run
public import Idealize.ShloMosaic.Lib.Tactic

@[expose] public section

noncomputable section

namespace Cert.DXIdeal.Tiles

open Cert.DXIdeal Cert.DXIdeal.Gen Cert.DXIdeal.Value Cert.Products
open Idealize.ShloMosaic Idealize.ShloMosaic.TcCoe Idealize.SL.Sem Idealize.ShloMosaic.ValueIdx

variable (m : (ℓ : Loc nD τ sig) → Buf (Elt Ideal) ℓ) (ρ : Dev nD → PrngReg)

/-- The gradient that comes in, the weight, and the gradient that the residual brings. -/
abbrev lhs (c : Dev nD) : FVec Ideal S4096x3088 .f32 := m ((c : Thread nD τ).loc main_arg2)
abbrev rhs (c : Dev nD) : FVec Ideal S1024x3088 .f32 := m ((c : Thread nD τ).loc main_arg1)
abbrev res (c : Dev nD) : FVec Ideal S4096x1024 .f32 := m ((c : Thread nD τ).loc main_arg3)

/-- What the call finds in its operands: the arguments, the format of two changed and zeros behind their rows. -/
theorem entry_v3 (c : Dev nD) : V m c main_v3 = (pad S4096x3200 ![0, 0] ![0, 112] ![0, 0]
    (truncf .bf16 (lhs m c) bitsLt_bf16_f32 : FVec Ideal S4096x3088 .bf16) (sitofp .bf16 (constantI S_ 32 0#32) : FVec Ideal S_ .bf16)
    pads_S4096x3088_S4096x3200_000_01120 h_S_ : FVec Ideal S4096x3200 .bf16) := by
  show StableHlo.after (hostOps0 ++ hostOps0_1 ++ hostOps0_2 ++ hostOps0_3) (fun b => m (c, b)) _ = _
  simp only [hostOps0, hostOps0_1, hostOps0_2, hostOps0_3, List.cons_append, List.nil_append]
  after_results_simp
  rfl
theorem entry_v1 (c : Dev nD) : V m c main_v1 = (pad S1024x3200 ![0, 0] ![0, 112] ![0, 0]
    (truncf .bf16 (rhs m c) bitsLt_bf16_f32 : FVec Ideal S1024x3088 .bf16) (sitofp .bf16 (constantI S_ 32 0#32) : FVec Ideal S_ .bf16)
    pads_S1024x3088_S1024x3200_000_01120 h_S_ : FVec Ideal S1024x3200 .bf16) := by
  show StableHlo.after (hostOps0 ++ hostOps0_1 ++ hostOps0_2 ++ hostOps0_3) (fun b => m (c, b)) _ = _
  simp only [hostOps0, hostOps0_1, hostOps0_2, hostOps0_3, List.cons_append, List.nil_append]
  after_results_simp
  rfl

/-- What is put behind the rows is zero. -/
theorem zero_behind : (sitofp .bf16 (constantI S_ 32 0#32) : FVec Ideal S_ .bf16) (Shape.Idx.first h_S_) = (0 : EReal) := by
  show ((((0#32 : BitVec 32).toInt : ℤ) : ℝ) : EReal) = 0
  simp

/-- Which tiles a point works on. -/
theorem places : ∀ t : Fin cfg0.N, win0_0.index t = ![t.val / 5, t.val % 5] ∧ win0_1.index t = ![0, t.val % 5]
    ∧ win0_2.index t = ![t.val / 5, 0] ∧ win0_3.index t = ![t.val / 5, 0] :=
  (by decide +kernel : ∀ t : Fin grid0.N, _)

theorem lhs_tile (c : Dev nD) (t : Fin cfg0.N) {i k : ℕ} (hi : i < 1024) (hk : k < 640) :
    at2 (iblk m c 0 t : S1024x640.Idx → EReal) i k = at2 (lhs m c) (t.val / 5 * 1024 + i) (t.val % 5 * 640 + k) := by
  obtain ⟨e, -⟩ := places t
  refine (at2_tile (V m c main_v3 : S4096x3200.Idx → EReal) _ (((cfg0.win 0).blk t).view.emb) _ _ (fun y => rfl) (fun y => ?_) (fun y => ?_) hi hk).trans
    ((congrArg (fun A : S4096x3200.Idx → EReal => at2 A _ _) (entry_v3 m c)).trans (at2_pad (lhs m c) _ pads_S4096x3088_S4096x3200_000_01120 h_S_ zero_behind (by decide) _ _))
  · show win0_0.index t (0 : Fin 2) * 1024 + 1 * (y 0).val = _; rw [e]; rfl
  · show win0_0.index t (1 : Fin 2) * 640 + 1 * (y 1).val = _; rw [e]; rfl

theorem rhs_tile (c : Dev nD) (t : Fin cfg0.N) {i k : ℕ} (hi : i < 1024) (hk : k < 640) :
    at2 (iblk m c 1 t : S1024x640.Idx → EReal) i k = at2 (rhs m c) (0 * 1024 + i) (t.val % 5 * 640 + k) := by
  obtain ⟨-, e, -⟩ := places t
  refine (at2_tile (V m c main_v1 : S1024x3200.Idx → EReal) _ (((cfg0.win 1).blk t).view.emb) _ _ (fun y => rfl) (fun y => ?_) (fun y => ?_) hi hk).trans
    ((congrArg (fun A : S1024x3200.Idx → EReal => at2 A _ _) (entry_v1 m c)).trans (at2_pad (rhs m c) _ pads_S1024x3088_S1024x3200_000_01120 h_S_ zero_behind (by decide) _ _))
  · show win0_1.index t (0 : Fin 2) * 1024 + 1 * (y 0).val = _; rw [e]; rfl
  · show win0_1.index t (1 : Fin 2) * 640 + 1 * (y 1).val = _; rw [e]; rfl

theorem res_tile (c : Dev nD) (t : Fin cfg0.N) {i k : ℕ} (hi : i < 1024) (hk : k < 1024) :
    at2 (iblk m c 2 t : S1024x1024.Idx → EReal) i k = at2 (res m c) (t.val / 5 * 1024 + i) (0 * 1024 + k) := by
  obtain ⟨-, -, e, -⟩ := places t
  refine at2_tile (res m c) _ (((cfg0.win 2).blk t).view.emb) _ _ (fun y => ?_) (fun y => ?_) (fun y => ?_) hi hk
  · exact congrFun (V_main_arg3 m c) _
  · show win0_2.index t (0 : Fin 2) * 1024 + 1 * (y 0).val = _; rw [e]; rfl
  · show win0_2.index t (1 : Fin 2) * 1024 + 1 * (y 1).val = _; rw [e]; rfl

section
variable (c : Dev nD) (i : grid0.Coords) (a3 : Memref sig .tc .vmem S1024x640 .bf16) (h3 : a3.IsWhole)
    (a4 : Memref sig .tc .vmem S1024x640 .bf16) (h4 : a4.IsWhole) (a5 : Memref sig .tc .vmem S1024x1024 .f32) (h5 : a5.IsWhole)
    (a6 : Memref sig .tc .vmem S1024x1024 .f32) (h6 : a6.IsWhole) (a7 : Memref sig .tc .vmem S1024x1024 .f32) (h7 : a7.IsWhole)
    (x z : Vec Ideal S1024x640 .bf16) (w : Vec Ideal S1024x1024 .f32)

/-- The first tile of a run is stored in the accumulator. -/
theorem first (c0 c1 c2) : sout0_A_0 c i a3 h3 a4 h4 a5 h5 a6 h6 a7 h7 c0 c1 c2 x z w = k0_pay1 x z := by
  unfold sout0_A_0
  rw [View.read_writes_eq_canon _ _ _ (scover0_A_0 c i a3 h3 a4 h4 a5 h5 a6 h6 a7 h7 c0 c1 c2 x z w)]
  unfold kernelRun0_A
  dsimp only
  sl_unfold_words
  rw [View.canon_unit_zero origin]
  unfold k0_pay2
  simp only [View.readAt_eq_ld, h3.read_unread, h4.read_unread, View.ld_unit_zero (S := S1024x1024) origin,
    View.ld_unit_zero (S := S1024x640) origin, shapeCast_self]

/-- A middle tile is added to it. -/
theorem middle (c0 c1 c2) (a : Vec Ideal S1024x1024 .f32) :
    sout0_B_0 c i a3 h3 a4 h4 a5 h5 a6 h6 a7 h7 c0 c1 c2 x z w a = addf a (k0_pay1 x z) := by
  unfold sout0_B_0
  rw [View.read_writes_eq_canon _ _ _ (scover0_B_0 c i a3 h3 a4 h4 a5 h5 a6 h6 a7 h7 c0 c1 c2 x z w a)]
  unfold kernelRun0_B
  dsimp only
  sl_unfold_words
  rw [View.canon_unit_zero origin]
  unfold k0_pay3
  simp only [View.readAt_eq_ld, h3.read_unread, h4.read_unread, h5.read_unread, h7.read_unread, View.ld_unit_zero (S := S1024x1024) origin,
    View.ld_unit_zero (S := S1024x640) origin, shapeCast_self]

/-- The last is added to it on the way out. -/
theorem last (c0 c1 c2) (a : Vec Ideal S1024x1024 .f32) :
    out0_C_3 c i a3 h3 a4 h4 a5 h5 a6 h6 a7 h7 c0 c1 c2 x z w a = addf (addf a (k0_pay1 x z)) (mulf (broadcast S1024x1024 (Scalar.ofBits (F := Ideal) .f32 0x3F9837F0#32)) w) := by
  unfold out0_C_3
  rw [View.read_writes_eq_canon _ _ _ (cover0_C_3 c i a3 h3 a4 h4 a5 h5 a6 h6 a7 h7 c0 c1 c2 x z w a)]
  unfold kernelRun0_C
  dsimp only
  sl_unfold_words
  rw [View.canon_unit_zero origin]
  unfold k0_pay4
  simp only [View.readAt_eq_ld, h3.read_unread, h4.read_unread, h5.read_unread, h7.read_unread, View.ld_unit_zero (S := S1024x1024) origin,
    View.ld_unit_zero (S := S1024x640) origin, shapeCast_self]

end

/-- A point's own part, at an index. -/
theorem part (x : FVec Ideal S1024x640 .bf16) (z : FVec Ideal S1024x640 .bf16) (y : S1024x1024.Idx) :
    (k0_pay1 (F := Ideal) x z : FVec Ideal S1024x1024 .f32) y
      = ∑ k ∈ Finset.range 640, at2 (x : S1024x640.Idx → EReal) (y 0).val k * at2 (z : S1024x640.Idx → EReal) (y 1).val k := by
  unfold k0_pay1
  simp only [shapeCast_self]
  exact matmul_nt (φ₁ := .bf16) (φ₂ := .bf16) _ x z y

theorem held_first (c : Dev nD) (t : Fin cfg0.N) (h0 : t.val % 5 = 0) :
    (outsAt0 m c t.val t.isLt).2 = k0_pay1 (F := Ideal) (iblk m c 0 t) (iblk m c 1 t) := by
  rw [outsAt0_A m c t h0 (by omega) (by omega)]
  dsimp only
  exact first ..

theorem held_middle (c : Dev nD) (t : Fin cfg0.N) (h0 : ¬t.val % 5 = 0) (h1 : ¬t.val % 5 = 4) :
    (outsAt0 m c t.val t.isLt).2
      = addf (outsAt0 m c (t.val - 1) (Nat.lt_of_le_of_lt (Nat.sub_le _ _) t.isLt)).2 (k0_pay1 (F := Ideal) (iblk m c 0 t) (iblk m c 1 t)) := by
  rw [outsAt0_B m c t h0 (by omega) h1]
  dsimp only
  exact middle ..

/-- What the accumulator held before the last point of a run, and that point's own part. -/
theorem whole (c : Dev nD) (t : Fin cfg0.N) (ht : t.val % 5 = 4) (y : S1024x1024.Idx) :
    addf (outsAt0 m c (t.val - 1) (Nat.lt_of_le_of_lt (Nat.sub_le _ _) t.isLt)).2 (k0_pay1 (F := Ideal) (iblk m c 0 t) (iblk m c 1 t)) y
      = ∑ k ∈ Finset.range 3088, at2 (lhs m c) (t.val / 5 * 1024 + (y 0).val) k * at2 (rhs m c) (0 * 1024 + (y 1).val) k :=
  (accumulated_nt (φ := .bf16) (J := 5) (k := 640) (by decide) (lhs m c) (rhs m c) (fun q => q) (fun _ => 0)
    (fun t => iblk m c 0 t) (fun t => iblk m c 1 t) (fun t _ _ => lhs_tile m c t) (fun t _ _ => rhs_tile m c t)
    (fun t h => (outsAt0 m c t h).2) (fun t => k0_pay1 (F := Ideal) (iblk m c 0 t) (iblk m c 1 t))
    (fun t y => part (iblk m c 0 t) (iblk m c 1 t) y)
    (held_first m c) (held_middle m c) t ht y).trans (sum_past (lhs m c) _ _ (by decide))

/-- What the call computes, at an index. -/
def result (c : Dev nD) : S4096x1024.Idx → EReal := fun i =>
  (∑ k ∈ Finset.range 3088, at2 (lhs m c) (i 0).val k * at2 (rhs m c) (i 1).val k)
    + Scalar.ofBits (F := Ideal) .f32 0x3F9837F0#32 * at2 (res m c) (i 0).val (i 1).val

theorem flushed (c : Dev nD) (t : Fin cfg0.N) (hf : (cfg0.win 3).flush t = true) :
    (dats m 0 c).flushed 3 t = ((cfg0.win 3).blk t).view.read (Elt Ideal) (result m c) := by
  have ht : t.val % 5 = 4 := (flush0_3 t).mp hf
  rw [flushed3_C m c t (by omega) (by omega) ht]
  obtain ⟨-, -, -, e⟩ := places t
  funext y
  have h0 : (((cfg0.win 3).blk t).view.emb y 0).val = t.val / 5 * 1024 + (y 0).val := by
    show win0_3.index t (0 : Fin 2) * 1024 + 1 * (y 0).val = _; rw [e, Nat.one_mul]; rfl
  have h1 : (((cfg0.win 3).blk t).view.emb y 1).val = 0 * 1024 + (y 1).val := by
    show win0_3.index t (1 : Fin 2) * 1024 + 1 * (y 1).val = _; rw [e, Nat.one_mul]; rfl
  refine (congrFun (last ..) y).trans ?_
  refine (congrArg₂ (· + ·) (whole m c t ht y) (congrArg (_ * ·)
    ((at2_idx (iblk m c 2 t) y rfl rfl).trans (res_tile m c t (y 0).isLt (y 1).isLt)))).trans ?_
  show _ = (∑ k ∈ Finset.range 3088, at2 (lhs m c) (((cfg0.win 3).blk t).view.emb y 0).val k
    * at2 (rhs m c) (((cfg0.win 3).blk t).view.emb y 1).val k) + Scalar.ofBits (F := Ideal) .f32 0x3F9837F0#32
      * at2 (res m c) (((cfg0.win 3).blk t).view.emb y 0).val (((cfg0.win 3).blk t).view.emb y 1).val
  rw [h0, h1]
  rfl

theorem final (c : Dev nD) : (dats m 0 c).arrAt 3 cfg0.N = result m c :=
  (dats m 0 c).arrAt_eq_of_cover 3 _ (flushed m c) fun i => (covered_iff3 i).2 (by
    have h0 : (i 0).val < 4096 := (i 0).isLt; have h1 : (i 1).val < 1024 := (i 1).isLt; omega)

end Cert.DXIdeal.Tiles

namespace Cert.Proof

open Idealize.ShloMosaic Idealize.ShloMosaic.TcCoe Idealize.SL.Sem

theorem frame_DXRefIdeal : Cert.quiescent_DXRefIdeal := fun m ρ _ =>
  (θ_run Cert.DXRefIdeal.defs _ _).mono (fun r h => ⟨fun c => (h c).2, sem_eq_zero_of_no_sems (by decide) r.2⟩)
    (Cert.DXRefIdeal.Value.run (F := Ideal) m ρ)

theorem algebraic_DX : Cert.algebraic_DXIdeal_DXRefIdeal := by
  intro m ρ m' ρ' _ hagree
  refine ⟨fun c => Cert.DXIdeal.Tiles.result m c,
    (θ_run Cert.DXIdeal.defs _ _).mono (fun _ h c => ⟨(h c).1.trans (Cert.DXIdeal.Tiles.final m c), (h c).2⟩)
      (Cert.DXIdeal.Value.run_blocks (F := Ideal) m ρ),
    (θ_run Cert.DXRefIdeal.defs _ _).mono (fun _ h c => ⟨(h c).1.trans ?_, (h c).2⟩)
      (Cert.DXRefIdeal.Value.run (F := Ideal) m' ρ')⟩
  obtain ⟨-, h1, h2, h3⟩ := hagree c
  rw [h1, h2, h3]
  funext i
  refine (add_comm _ _).trans (congrArg₂ (· + ·)
    (Cert.Products.dot_nt (φ₁ := .f32) (φ₂ := .f32) _ (Cert.DXIdeal.Tiles.lhs m c) (Cert.DXIdeal.Tiles.rhs m c) i) ?_)
  exact congrArg (_ * ·) (Cert.Products.at2_idx (Cert.DXIdeal.Tiles.res m c) i rfl rfl)

end Cert.Proof

end
-- ==== Proof.DownGrad.lean ====
/-
  The gradient of the down projection's weight: the tiled product of the columns of its two operands, accumulated over
  four tiles of the contracted axis.
-/
module

public import proofs.«01_k».proof.Defs
public import proofs.«01_k».proof.Proof.Products
public import proofs.«01_k».proof.Proof.Gen.GDownIdeal.Value
public import proofs.«01_k».proof.Proof.Gen.GDownRefIdeal.Run
public import Idealize.ShloMosaic.Lib.Tactic

@[expose] public section

noncomputable section

namespace Cert.GDownIdeal.Tiles

open Cert.GDownIdeal Cert.GDownIdeal.Gen Cert.GDownIdeal.Value Cert.Products
open Idealize.ShloMosaic Idealize.ShloMosaic.TcCoe Idealize.SL.Sem Idealize.ShloMosaic.ValueIdx

variable (m : (ℓ : Loc nD τ sig) → Buf (Elt Ideal) ℓ) (ρ : Dev nD → PrngReg)

/-- The feed-forward activation, and the gradient that comes in. -/
abbrev lhs (c : Dev nD) : FVec Ideal S4096x2816 .f32 := m ((c : Thread nD τ).loc main_arg0)
abbrev rhs (c : Dev nD) : FVec Ideal S4096x1024 .f32 := m ((c : Thread nD τ).loc main_arg2)

/-- What the call finds in its two operands: the arguments, their format changed. -/
theorem entry_v0 (c : Dev nD) : V m c main_v0 = (truncf .bf16 (lhs m c) bitsLt_bf16_f32 : FVec Ideal S4096x2816 .bf16) := by
  show StableHlo.after hostOps0 (fun b => m (c, b)) _ = _
  after_results
theorem entry_v1 (c : Dev nD) : V m c main_v1 = (truncf .bf16 (rhs m c) bitsLt_bf16_f32 : FVec Ideal S4096x1024 .bf16) := by
  show StableHlo.after hostOps0 (fun b => m (c, b)) _ = _
  after_results

/-- Which tiles a point works on. -/
theorem places : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem lhs_tile (c : Dev nD) (t : Fin cfg0.N) {k i : ℕ} (hk : k < 1024) (hi : i < 1408) :
    at2 (iblk m c 0 t : S1024x1408.Idx → EReal) k i = at2 (lhs m c) (t.val % 4 * 1024 + k) (t.val / 4 * 1408 + i) := by
  obtain ⟨e, -, -⟩ := places t
  refine at2_tile (lhs m c) _ (((cfg0.win 0).blk t).view.emb) _ _ (fun y => ?_) (fun y => ?_) (fun y => ?_) hk hi
  · exact congrFun (entry_v0 m c) _
  · show win0_0.index t (0 : Fin 2) * 1024 + 1 * (y 0).val = _; rw [e]; rfl
  · show win0_0.index t (1 : Fin 2) * 1408 + 1 * (y 1).val = _; rw [e]; rfl

theorem rhs_tile (c : Dev nD) (t : Fin cfg0.N) {k i : ℕ} (hk : k < 1024) (hi : i < 1024) :
    at2 (iblk m c 1 t : S1024x1024.Idx → EReal) k i = at2 (rhs m c) (t.val % 4 * 1024 + k) (0 * 1024 + i) := by
  obtain ⟨-, e, -⟩ := places t
  refine at2_tile (rhs m c) _ (((cfg0.win 1).blk t).view.emb) _ _ (fun y => ?_) (fun y => ?_) (fun y => ?_) hk hi
  · exact congrFun (entry_v1 m c) _
  · show win0_1.index t (0 : Fin 2) * 1024 + 1 * (y 0).val = _; rw [e]; rfl
  · show win0_1.index t (1 : Fin 2) * 1024 + 1 * (y 1).val = _; rw [e]; rfl

section
variable (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (x : Vec Ideal S1024x1408 .bf16) (z : Vec Ideal S1024x1024 .bf16)

/-- The first tile of a run is stored in the accumulator. -/
theorem first (c0 c1 c2) : sout0_A_0 c i a3 h3 a4 h4 a5 h5 a6 h6 c0 c1 c2 x z = k0_pay1 x z := by
  unfold sout0_A_0
  rw [View.read_writes_eq_canon _ _ _ (scover0_A_0 c i a3 h3 a4 h4 a5 h5 a6 h6 c0 c1 c2 x z)]
  unfold kernelRun0_A
  dsimp only
  sl_unfold_words
  rw [View.canon_unit_zero origin]
  unfold k0_pay2
  simp only [View.readAt_eq_ld, h3.read_unread, h4.read_unread, View.ld_unit_zero (S := S1024x1024) origin,
    View.ld_unit_zero (S := S1024x1408) origin, shapeCast_self]

/-- A middle tile is added to it. -/
theorem middle (c0 c1 c2) (a : Vec Ideal S1408x1024 .f32) :
    sout0_B_0 c i a3 h3 a4 h4 a5 h5 a6 h6 c0 c1 c2 x z a = addf a (k0_pay1 x z) := by
  unfold sout0_B_0
  rw [View.read_writes_eq_canon _ _ _ (scover0_B_0 c i a3 h3 a4 h4 a5 h5 a6 h6 c0 c1 c2 x z a)]
  unfold kernelRun0_B
  dsimp only
  sl_unfold_words
  rw [View.canon_unit_zero origin]
  unfold k0_pay3
  simp only [View.readAt_eq_ld, h3.read_unread, h4.read_unread, h6.read_unread, View.ld_unit_zero (S := S1024x1024) origin,
    View.ld_unit_zero (S := S1024x1408) origin, View.ld_unit_zero (S := S1408x1024) origin, shapeCast_self]

/-- The last is added to it on the way out. -/
theorem last (c0 c1 c2) (a : Vec Ideal S1408x1024 .f32) :
    out0_C_2 c i a3 h3 a4 h4 a5 h5 a6 h6 c0 c1 c2 x z a = truncf .bf16 (addf a (k0_pay1 x z)) bitsLt_bf16_f32 := by
  unfold out0_C_2
  rw [View.read_writes_eq_canon _ _ _ (cover0_C_2 c i a3 h3 a4 h4 a5 h5 a6 h6 c0 c1 c2 x z a)]
  unfold kernelRun0_C
  dsimp only
  sl_unfold_words
  rw [View.canon_unit_zero origin]
  unfold k0_pay4
  simp only [View.readAt_eq_ld, h3.read_unread, h4.read_unread, h6.read_unread, View.ld_unit_zero (S := S1024x1024) origin,
    View.ld_unit_zero (S := S1024x1408) origin, View.ld_unit_zero (S := S1408x1024) origin, shapeCast_self]

end

/-- A point's own part, at an index. -/
theorem part (x : FVec Ideal S1024x1408 .bf16) (z : FVec Ideal S1024x1024 .bf16) (y : S1408x1024.Idx) :
    (k0_pay1 (F := Ideal) x z : FVec Ideal S1408x1024 .f32) y
      = ∑ k ∈ Finset.range 1024, at2 (x : S1024x1408.Idx → EReal) k (y 0).val * at2 (z : S1024x1024.Idx → EReal) k (y 1).val := by
  unfold k0_pay1
  simp only [shapeCast_self]
  exact matmul_tn (φ₁ := .bf16) (φ₂ := .bf16) _ x z y

theorem held_first (c : Dev nD) (t : Fin cfg0.N) (h0 : t.val % 4 = 0) :
    (outsAt0 m c t.val t.isLt).2 = k0_pay1 (F := Ideal) (iblk m c 0 t) (iblk m c 1 t) := by
  rw [outsAt0_A m c t h0 (by omega) (by omega)]
  dsimp only
  exact first ..

theorem held_middle (c : Dev nD) (t : Fin cfg0.N) (h0 : ¬t.val % 4 = 0) (h1 : ¬t.val % 4 = 3) :
    (outsAt0 m c t.val t.isLt).2
      = addf (outsAt0 m c (t.val - 1) (Nat.lt_of_le_of_lt (Nat.sub_le _ _) t.isLt)).2 (k0_pay1 (F := Ideal) (iblk m c 0 t) (iblk m c 1 t)) := by
  rw [outsAt0_B m c t h0 (by omega) h1]
  dsimp only
  exact middle ..

/-- What the accumulator held before the last point of a run, and that point's own part. -/
theorem whole (c : Dev nD) (t : Fin cfg0.N) (ht : t.val % 4 = 3) (y : S1408x1024.Idx) :
    addf (outsAt0 m c (t.val - 1) (Nat.lt_of_le_of_lt (Nat.sub_le _ _) t.isLt)).2 (k0_pay1 (F := Ideal) (iblk m c 0 t) (iblk m c 1 t)) y
      = ∑ k ∈ Finset.range 4096, at2 (lhs m c) k (t.val / 4 * 1408 + (y 0).val) * at2 (rhs m c) k (0 * 1024 + (y 1).val) :=
  accumulated_tn (φ := .bf16) (J := 4) (k := 1024) (by decide) (lhs m c) (rhs m c) (fun q => q) (fun _ => 0)
    (fun t => iblk m c 0 t) (fun t => iblk m c 1 t) (fun t _ _ => lhs_tile m c t) (fun t _ _ => rhs_tile m c t)
    (fun t h => (outsAt0 m c t h).2) (fun t => k0_pay1 (F := Ideal) (iblk m c 0 t) (iblk m c 1 t))
    (fun t y => part (iblk m c 0 t) (iblk m c 1 t) y)
    (held_first m c) (held_middle m c) t ht y

/-- The product the call computes, at an index. -/
def result (c : Dev nD) : S2816x1024.Idx → EReal := fun i =>
  ∑ k ∈ Finset.range 4096, at2 (lhs m c) k (i 0).val * at2 (rhs m c) k (i 1).val

theorem flushed (c : Dev nD) (t : Fin cfg0.N) (hf : (cfg0.win 2).flush t = true) :
    (dats m 0 c).flushed 2 t = ((cfg0.win 2).blk t).view.read (Elt Ideal) (result m c) := by
  have ht : t.val % 4 = 3 := (flush0_2 t).mp hf
  rw [flushed2_C m c t (by omega) (by omega) ht]
  obtain ⟨-, -, e⟩ := places t
  funext y
  have h0 : (((cfg0.win 2).blk t).view.emb y 0).val = t.val / 4 * 1408 + (y 0).val := by
    show win0_2.index t (0 : Fin 2) * 1408 + 1 * (y 0).val = _; rw [e, Nat.one_mul]; rfl
  have h1 : (((cfg0.win 2).blk t).view.emb y 1).val = 0 * 1024 + (y 1).val := by
    show win0_2.index t (1 : Fin 2) * 1024 + 1 * (y 1).val = _; rw [e, Nat.one_mul]; rfl
  refine (congrFun (last ..) y).trans ((whole m c t ht y).trans ?_)
  rw [← h0, ← h1]
  rfl

theorem final (c : Dev nD) : (dats m 0 c).arrAt 2 cfg0.N = result m c :=
  (dats m 0 c).arrAt_eq_of_cover 2 _ (flushed m c) fun i => (covered_iff2 i).2 (by
    have h0 : (i 0).val < 2816 := (i 0).isLt; have h1 : (i 1).val < 1024 := (i 1).isLt; omega)

end Cert.GDownIdeal.Tiles

namespace Cert.Proof

open Idealize.ShloMosaic Idealize.ShloMosaic.TcCoe Idealize.SL.Sem

theorem frame_GDownRefIdeal : Cert.quiescent_GDownRefIdeal := fun m ρ _ =>
  (θ_run Cert.GDownRefIdeal.defs _ _).mono (fun r h => ⟨fun c => (h c).2, sem_eq_zero_of_no_sems (by decide) r.2⟩)
    (Cert.GDownRefIdeal.Value.run (F := Ideal) m ρ)

theorem algebraic_GDown : Cert.algebraic_GDownIdeal_GDownRefIdeal := by
  intro m ρ m' ρ' _ hagree
  refine ⟨fun c => Cert.GDownIdeal.Tiles.result m c,
    (θ_run Cert.GDownIdeal.defs _ _).mono (fun _ h c => ⟨(h c).1.trans (Cert.GDownIdeal.Tiles.final m c), (h c).2⟩)
      (Cert.GDownIdeal.Value.run_blocks (F := Ideal) m ρ),
    (θ_run Cert.GDownRefIdeal.defs _ _).mono (fun _ h c => ⟨(h c).1.trans ?_, (h c).2⟩)
      (Cert.GDownRefIdeal.Value.run (F := Ideal) m' ρ')⟩
  obtain ⟨h0, -, h2⟩ := hagree c
  rw [h0, h2]
  funext i
  refine (Cert.Products.dot_tn (φ₁ := .f32) (φ₂ := .f32) _ (Cert.GDownIdeal.Tiles.rhs m c) (Cert.GDownIdeal.Tiles.lhs m c) _).trans ?_
  exact Finset.sum_congr rfl fun k _ => mul_comm _ _

end Cert.Proof

end
-- ==== Proof.ProjGrad.lean ====
/-
  The gradient of the input projection's weight: the tiled product of the columns of its two operands, accumulated over
  four tiles of the contracted axis.
-/
module

public import proofs.«01_k».proof.Defs
public import proofs.«01_k».proof.Proof.Products
public import proofs.«01_k».proof.Proof.Gen.GInIdeal.Value
public import proofs.«01_k».proof.Proof.Gen.GInRefIdeal.Run
public import Idealize.ShloMosaic.Lib.Tactic

@[expose] public section

noncomputable section

namespace Cert.GInIdeal.Tiles

open Cert.GInIdeal Cert.GInIdeal.Gen Cert.GInIdeal.Value Cert.Products
open Idealize.ShloMosaic Idealize.ShloMosaic.TcCoe Idealize.SL.Sem Idealize.ShloMosaic.ValueIdx

variable (m : (ℓ : Loc nD τ sig) → Buf (Elt Ideal) ℓ) (ρ : Dev nD → PrngReg)

/-- The layer's input, and the gradient that comes in. -/
abbrev lhs (c : Dev nD) : FVec Ideal S4096x1024 .f32 := m ((c : Thread nD τ).loc main_arg0)
abbrev rhs (c : Dev nD) : FVec Ideal S4096x3200 .f32 := m ((c : Thread nD τ).loc main_arg2)

/-- What the call finds in its two operands: the arguments, their format changed. -/
theorem entry_v0 (c : Dev nD) : V m c main_v0 = (truncf .bf16 (lhs m c) bitsLt_bf16_f32 : FVec Ideal S4096x1024 .bf16) := by
  show StableHlo.after hostOps0 (fun b => m (c, b)) _ = _
  after_results
theorem entry_v1 (c : Dev nD) : V m c main_v1 = (truncf .bf16 (rhs m c) bitsLt_bf16_f32 : FVec Ideal S4096x3200 .bf16) := by
  show StableHlo.after hostOps0 (fun b => m (c, b)) _ = _
  after_results

/-- Which tiles a point works on. -/
theorem places : ∀ t : Fin cfg0.N, win0_0.index t = ![t.val % 4, 0] ∧ win0_1.index t = ![t.val % 4, t.val / 4]
    ∧ win0_2.index t = ![0, t.val / 4] :=
  (by decide +kernel : ∀ t : Fin grid0.N, _)

theorem lhs_tile (c : Dev nD) (t : Fin cfg0.N) {k i : ℕ} (hk : k < 1024) (hi : i < 1024) :
    at2 (iblk m c 0 t : S1024x1024.Idx → EReal) k i = at2 (lhs m c) (t.val % 4 * 1024 + k) (0 * 1024 + i) := by
  obtain ⟨e, -, -⟩ := places t
  refine at2_tile (lhs m c) _ (((cfg0.win 0).blk t).view.emb) _ _ (fun y => ?_) (fun y => ?_) (fun y => ?_) hk hi
  · exact congrFun (entry_v0 m c) _
  · show win0_0.index t (0 : Fin 2) * 1024 + 1 * (y 0).val = _; rw [e]; rfl
  · show win0_0.index t (1 : Fin 2) * 1024 + 1 * (y 1).val = _; rw [e]; rfl

theorem rhs_tile (c : Dev nD) (t : Fin cfg0.N) {k i : ℕ} (hk : k < 1024) (hi : i < 640) :
    at2 (iblk m c 1 t : S1024x640.Idx → EReal) k i = at2 (rhs m c) (t.val % 4 * 1024 + k) (t.val / 4 * 640 + i) := by
  obtain ⟨-, e, -⟩ := places t
  refine at2_tile (rhs m c) _ (((cfg0.win 1).blk t).view.emb) _ _ (fun y => ?_) (fun y => ?_) (fun y => ?_) hk hi
  · exact congrFun (entry_v1 m c) _
  · show win0_1.index t (0 : Fin 2) * 1024 + 1 * (y 0).val = _; rw [e]; rfl
  · show win0_1.index t (1 : Fin 2) * 640 + 1 * (y 1).val = _; rw [e]; rfl

section
variable (c : Dev nD) (i : grid0.Coords) (a3 : Memref sig .tc .vmem S1024x1024 .bf16) (h3 : a3.IsWhole)
    (a4 : Memref sig .tc .vmem S1024x640 .bf16) (h4 : a4.IsWhole) (a5 : Memref sig .tc .vmem S1024x640 .bf16) (h5 : a5.IsWhole)
    (a6 : Memref sig .tc .vmem S1024x640 .f32) (h6 : a6.IsWhole) (x : Vec Ideal S1024x1024 .bf16) (z : Vec Ideal S1024x640 .bf16)

/-- The first tile of a run is stored in the accumulator. -/
theorem first (c0 c1 c2) : sout0_A_0 c i a3 h3 a4 h4 a5 h5 a6 h6 c0 c1 c2 x z = k0_pay1 x z := by
  unfold sout0_A_0
  rw [View.read_writes_eq_canon _ _ _ (scover0_A_0 c i a3 h3 a4 h4 a5 h5 a6 h6 c0 c1 c2 x z)]
  unfold kernelRun0_A
  dsimp only
  sl_unfold_words
  rw [View.canon_unit_zero origin]
  unfold k0_pay2
  simp only [View.readAt_eq_ld, h3.read_unread, h4.read_unread, View.ld_unit_zero (S := S1024x640) origin,
    View.ld_unit_zero (S := S1024x1024) origin, shapeCast_self]

/-- A middle tile is added to it. -/
theorem middle (c0 c1 c2) (a : Vec Ideal S1024x640 .f32) :
    sout0_B_0 c i a3 h3 a4 h4 a5 h5 a6 h6 c0 c1 c2 x z a = addf a (k0_pay1 x z) := by
  unfold sout0_B_0
  rw [View.read_writes_eq_canon _ _ _ (scover0_B_0 c i a3 h3 a4 h4 a5 h5 a6 h6 c0 c1 c2 x z a)]
  unfold kernelRun0_B
  dsimp only
  sl_unfold_words
  rw [View.canon_unit_zero origin]
  unfold k0_pay3
  simp only [View.readAt_eq_ld, h3.read_unread, h4.read_unread, h6.read_unread, View.ld_unit_zero (S := S1024x640) origin,
    View.ld_unit_zero (S := S1024x1024) origin, shapeCast_self]

/-- The last is added to it on the way out. -/
theorem last (c0 c1 c2) (a : Vec Ideal S1024x640 .f32) :
    out0_C_2 c i a3 h3 a4 h4 a5 h5 a6 h6 c0 c1 c2 x z a = truncf .bf16 (addf a (k0_pay1 x z)) bitsLt_bf16_f32 := by
  unfold out0_C_2
  rw [View.read_writes_eq_canon _ _ _ (cover0_C_2 c i a3 h3 a4 h4 a5 h5 a6 h6 c0 c1 c2 x z a)]
  unfold kernelRun0_C
  dsimp only
  sl_unfold_words
  rw [View.canon_unit_zero origin]
  unfold k0_pay4
  simp only [View.readAt_eq_ld, h3.read_unread, h4.read_unread, h6.read_unread, View.ld_unit_zero (S := S1024x640) origin,
    View.ld_unit_zero (S := S1024x1024) origin, shapeCast_self]

end

/-- A point's own part, at an index. -/
theorem part (x : FVec Ideal S1024x1024 .bf16) (z : FVec Ideal S1024x640 .bf16) (y : S1024x640.Idx) :
    (k0_pay1 (F := Ideal) x z : FVec Ideal S1024x640 .f32) y
      = ∑ k ∈ Finset.range 1024, at2 (x : S1024x1024.Idx → EReal) k (y 0).val * at2 (z : S1024x640.Idx → EReal) k (y 1).val := by
  unfold k0_pay1
  simp only [shapeCast_self]
  exact matmul_tn (φ₁ := .bf16) (φ₂ := .bf16) _ x z y

theorem held_first (c : Dev nD) (t : Fin cfg0.N) (h0 : t.val % 4 = 0) :
    (outsAt0 m c t.val t.isLt).2 = k0_pay1 (F := Ideal) (iblk m c 0 t) (iblk m c 1 t) := by
  rw [outsAt0_A m c t h0 (by omega) (by omega)]
  dsimp only
  exact first ..

theorem held_middle (c : Dev nD) (t : Fin cfg0.N) (h0 : ¬t.val % 4 = 0) (h1 : ¬t.val % 4 = 3) :
    (outsAt0 m c t.val t.isLt).2
      = addf (outsAt0 m c (t.val - 1) (Nat.lt_of_le_of_lt (Nat.sub_le _ _) t.isLt)).2 (k0_pay1 (F := Ideal) (iblk m c 0 t) (iblk m c 1 t)) := by
  rw [outsAt0_B m c t h0 (by omega) h1]
  dsimp only
  exact middle ..

/-- What the accumulator held before the last point of a run, and that point's own part. -/
theorem whole (c : Dev nD) (t : Fin cfg0.N) (ht : t.val % 4 = 3) (y : S1024x640.Idx) :
    addf (outsAt0 m c (t.val - 1) (Nat.lt_of_le_of_lt (Nat.sub_le _ _) t.isLt)).2 (k0_pay1 (F := Ideal) (iblk m c 0 t) (iblk m c 1 t)) y
      = ∑ k ∈ Finset.range 4096, at2 (lhs m c) k (0 * 1024 + (y 0).val) * at2 (rhs m c) k (t.val / 4 * 640 + (y 1).val) :=
  accumulated_tn (φ := .bf16) (J := 4) (k := 1024) (by decide) (lhs m c) (rhs m c) (fun _ => 0) (fun q => q)
    (fun t => iblk m c 0 t) (fun t => iblk m c 1 t) (fun t _ _ => lhs_tile m c t) (fun t _ _ => rhs_tile m c t)
    (fun t h => (outsAt0 m c t h).2) (fun t => k0_pay1 (F := Ideal) (iblk m c 0 t) (iblk m c 1 t))
    (fun t y => part (iblk m c 0 t) (iblk m c 1 t) y)
    (held_first m c) (held_middle m c) t ht y

/-- The product the call computes, at an index. -/
def result (c : Dev nD) : S1024x3200.Idx → EReal := fun i =>
  ∑ k ∈ Finset.range 4096, at2 (lhs m c) k (i 0).val * at2 (rhs m c) k (i 1).val

theorem flushed (c : Dev nD) (t : Fin cfg0.N) (hf : (cfg0.win 2).flush t = true) :
    (dats m 0 c).flushed 2 t = ((cfg0.win 2).blk t).view.read (Elt Ideal) (result m c) := by
  have ht : t.val % 4 = 3 := (flush0_2 t).mp hf
  rw [flushed2_C m c t (by omega) (by omega) ht]
  obtain ⟨-, -, e⟩ := places t
  funext y
  have h0 : (((cfg0.win 2).blk t).view.emb y 0).val = 0 * 1024 + (y 0).val := by
    show win0_2.index t (0 : Fin 2) * 1024 + 1 * (y 0).val = _; rw [e, Nat.one_mul]; rfl
  have h1 : (((cfg0.win 2).blk t).view.emb y 1).val = t.val / 4 * 640 + (y 1).val := by
    show win0_2.index t (1 : Fin 2) * 640 + 1 * (y 1).val = _; rw [e, Nat.one_mul]; rfl
  refine (congrFun (last ..) y).trans ((whole m c t ht y).trans ?_)
  rw [← h0, ← h1]
  rfl

theorem final (c : Dev nD) : (dats m 0 c).arrAt 2 cfg0.N = result m c :=
  (dats m 0 c).arrAt_eq_of_cover 2 _ (flushed m c) fun i => (covered_iff2 i).2 (by
    have h0 : (i 0).val < 1024 := (i 0).isLt; have h1 : (i 1).val < 3200 := (i 1).isLt; omega)

end Cert.GInIdeal.Tiles

namespace Cert.Proof

open Idealize.ShloMosaic Idealize.ShloMosaic.TcCoe Idealize.SL.Sem

theorem frame_GInRefIdeal : Cert.quiescent_GInRefIdeal := fun m ρ _ =>
  (θ_run Cert.GInRefIdeal.defs _ _).mono (fun r h => ⟨fun c => (h c).2, sem_eq_zero_of_no_sems (by decide) r.2⟩)
    (Cert.GInRefIdeal.Value.run (F := Ideal) m ρ)

theorem algebraic_GIn : Cert.algebraic_GInIdeal_GInRefIdeal := by
  intro m ρ m' ρ' _ hagree
  refine ⟨fun c => Cert.GInIdeal.Tiles.result m c,
    (θ_run Cert.GInIdeal.defs _ _).mono (fun _ h c => ⟨(h c).1.trans (Cert.GInIdeal.Tiles.final m c), (h c).2⟩)
      (Cert.GInIdeal.Value.run_blocks (F := Ideal) m ρ),
    (θ_run Cert.GInRefIdeal.defs _ _).mono (fun _ h c => ⟨(h c).1.trans ?_, (h c).2⟩)
      (Cert.GInRefIdeal.Value.run (F := Ideal) m' ρ')⟩
  obtain ⟨h0, -, h2⟩ := hagree c
  rw [h0, h2]
  funext i
  refine (Cert.Products.dot_tn (φ₁ := .f32) (φ₂ := .f32) _ (Cert.GInIdeal.Tiles.rhs m c) (Cert.GInIdeal.Tiles.lhs m c) _).trans ?_
  exact Finset.sum_congr rfl fun k _ => mul_comm _ _

end Cert.Proof

end
-- ==== Proof.UpFwd.lean ====
/-
  The up projection of the forward pass: one call of the tiled product, a tile of the result per grid point and the whole
  contracted axis in one tile.
-/
module

public import proofs.«01_k».proof.Defs
public import proofs.«01_k».proof.Proof.Products
public import proofs.«01_k».proof.Proof.Gen.FUpIdeal.Value
public import proofs.«01_k».proof.Proof.Gen.FUpRefIdeal.Run
public import Idealize.ShloMosaic.Lib.Tactic
public import Idealize.ShloMosaic.Lib.Pipeline.ValueKit.Geometry

@[expose] public section

noncomputable section

namespace Cert.FUpIdeal.Tiles

open Cert.FUpIdeal Cert.FUpIdeal.Gen Cert.FUpIdeal.Value Cert.Products
open Idealize.ShloMosaic Idealize.ShloMosaic.TcCoe Idealize.SL.Sem Idealize.ShloMosaic.ValueIdx

variable (m : (ℓ : Loc nD τ sig) → Buf (Elt Ideal) ℓ) (ρ : Dev nD → PrngReg)

/-- The input of the projection, and the weight. -/
abbrev lhs (c : Dev nD) : FVec Ideal S4096x1024 .f32 := m ((c : Thread nD τ).loc main_arg0)
abbrev rhs (c : Dev nD) : FVec Ideal S1024x5632 .f32 := m ((c : Thread nD τ).loc main_arg1)

/-- What the call finds in its two operands: the arguments, their format changed. -/
theorem entry_v0 (c : Dev nD) : V m c main_v0 = (truncf .bf16 (lhs m c) bitsLt_bf16_f32 : FVec Ideal S4096x1024 .bf16) := by
  show StableHlo.after hostOps0 (fun b => m (c, b)) _ = _
  after_results
theorem entry_v1 (c : Dev nD) : V m c main_v1 = (truncf .bf16 (rhs m c) bitsLt_bf16_f32 : FVec Ideal S1024x5632 .bf16) := by
  show StableHlo.after hostOps0 (fun b => m (c, b)) _ = _
  after_results

/-- Which tiles a point works on. -/
theorem places : ∀ t : Fin cfg0.N, win0_0.index t = ![t.val / 4, 0] ∧ win0_1.index t = ![0, t.val % 4]
    ∧ win0_2.index t = ![t.val / 4, t.val % 4] :=
  (by decide +kernel : ∀ t : Fin grid0.N, _)

theorem lhs_tile (c : Dev nD) (t : Fin cfg0.N) {i k : ℕ} (hi : i < 1024) (hk : k < 1024) :
    at2 (iblk m c 0 t : S1024x1024.Idx → EReal) i k = at2 (lhs m c) (t.val / 4 * 1024 + i) (0 * 1024 + k) := by
  obtain ⟨e, -, -⟩ := places t
  refine at2_tile (lhs m c) _ (((cfg0.win 0).blk t).view.emb) _ _ (fun y => ?_) (fun y => ?_) (fun y => ?_) hi hk
  · exact congrFun (entry_v0 m c) _
  · show win0_0.index t (0 : Fin 2) * 1024 + 1 * (y 0).val = _; rw [e]; rfl
  · show win0_0.index t (1 : Fin 2) * 1024 + 1 * (y 1).val = _; rw [e]; rfl

theorem rhs_tile (c : Dev nD) (t : Fin cfg0.N) {k i : ℕ} (hk : k < 1024) (hi : i < 1408) :
    at2 (iblk m c 1 t : S1024x1408.Idx → EReal) k i = at2 (rhs m c) (0 * 1024 + k) (t.val % 4 * 1408 + i) := by
  obtain ⟨-, e, -⟩ := places t
  refine at2_tile (rhs m c) _ (((cfg0.win 1).blk t).view.emb) _ _ (fun y => ?_) (fun y => ?_) (fun y => ?_) hk hi
  · exact congrFun (entry_v1 m c) _
  · show win0_1.index t (0 : Fin 2) * 1024 + 1 * (y 0).val = _; rw [e]; rfl
  · show win0_1.index t (1 : Fin 2) * 1408 + 1 * (y 1).val = _; rw [e]; rfl

/-- The body leaves the product of its two tiles. -/
theorem left (c : Dev nD) (i : grid0.Coords) (a3 : Memref sig .tc .vmem S1024x1024 .bf16) (h3 : a3.IsWhole)
    (a4 : Memref sig .tc .vmem S1024x1408 .bf16) (h4 : a4.IsWhole) (a5 : Memref sig .tc .vmem S1024x1408 .f32) (h5 : a5.IsWhole)
    (a6 : Memref sig .tc .vmem S1024x1408 .f32) (h6 : a6.IsWhole) (x : Vec Ideal S1024x1024 .bf16) (z : Vec Ideal S1024x1408 .bf16)
    (y : S1024x1408.Idx) :
    out0_A_2 c i a3 h3 a4 h4 a5 h5 a6 h6 x z y
      = ∑ k ∈ Finset.range 1024, at2 (x : S1024x1024.Idx → EReal) (y 0).val k * at2 (z : S1024x1408.Idx → EReal) k (y 1).val := by
  unfold out0_A_2
  rw [View.read_writes_eq_canon _ _ _ (cover0_A_2 c i a3 h3 a4 h4 a5 h5 a6 h6 x z)]
  unfold kernelRun0_A
  dsimp only
  sl_unfold_words
  rw [View.canon_unit_zero origin]
  unfold k0_pay1
  simp only [View.readAt_eq_ld, h3.read_unread, h4.read_unread, View.ld_unit_zero (S := S1024x1024) origin,
    View.ld_unit_zero (S := S1024x1408) origin, shapeCast_self]
  exact matmul_nn (φ₁ := .bf16) (φ₂ := .bf16) _ x z y

/-- The product the call computes, at an index. -/
def result (c : Dev nD) : S4096x5632.Idx → EReal := fun i =>
  ∑ k ∈ Finset.range 1024, at2 (lhs m c) (i 0).val k * at2 (rhs m c) k (i 1).val

theorem flushed (c : Dev nD) (t : Fin cfg0.N) :
    (dats m 0 c).flushed 2 t = ((cfg0.win 2).blk t).view.read (Elt Ideal) (result m c) := by
  rw [flushed2_A]
  obtain ⟨-, -, e⟩ := places t
  funext y
  have h0 : (((cfg0.win 2).blk t).view.emb y 0).val = t.val / 4 * 1024 + (y 0).val := by
    show win0_2.index t (0 : Fin 2) * 1024 + 1 * (y 0).val = _; rw [e, Nat.one_mul]; rfl
  have h1 : (((cfg0.win 2).blk t).view.emb y 1).val = t.val % 4 * 1408 + (y 1).val := by
    show win0_2.index t (1 : Fin 2) * 1408 + 1 * (y 1).val = _; rw [e, Nat.one_mul]; rfl
  refine (left c _ _ _ _ _ _ _ _ _ _ _ y).trans ?_
  show _ = ∑ k ∈ Finset.range 1024, at2 (lhs m c) (((cfg0.win 2).blk t).view.emb y 0).val k
    * at2 (rhs m c) k (((cfg0.win 2).blk t).view.emb y 1).val
  rw [h0, h1]
  refine Finset.sum_congr rfl fun k hk => ?_
  rw [lhs_tile m c t (y 0).isLt (Finset.mem_range.mp hk), rhs_tile m c t (Finset.mem_range.mp hk) (y 1).isLt,
    Nat.zero_mul, Nat.zero_add]

theorem final (c : Dev nD) : (dats m 0 c).arrAt 2 cfg0.N = result m c :=
  (dats m 0 c).arrAt_eq_of_cover 2 _ (fun t _ => flushed m c t)
    ((by decide +kernel : (cfg0.win 2).Covers).cover _ (Memref.isWhole_whole _))

end Cert.FUpIdeal.Tiles

namespace Cert.Proof

open Idealize.ShloMosaic Idealize.ShloMosaic.TcCoe Idealize.SL.Sem

theorem frame_FUpRefIdeal : Cert.quiescent_FUpRefIdeal := fun m ρ _ =>
  (θ_run Cert.FUpRefIdeal.defs _ _).mono (fun r h => ⟨fun c => (h c).2, sem_eq_zero_of_no_sems (by decide) r.2⟩)
    (Cert.FUpRefIdeal.Value.run (F := Ideal) m ρ)

theorem algebraic_FUp : Cert.algebraic_FUpIdeal_FUpRefIdeal := by
  intro m ρ m' ρ' _ hagree
  refine ⟨fun c => Cert.FUpIdeal.Tiles.result m c,
    (θ_run Cert.FUpIdeal.defs _ _).mono (fun _ h c => ⟨(h c).1.trans (Cert.FUpIdeal.Tiles.final m c), (h c).2⟩)
      (Cert.FUpIdeal.Value.run_blocks (F := Ideal) m ρ),
    (θ_run Cert.FUpRefIdeal.defs _ _).mono (fun _ h c => ⟨(h c).1.trans ?_, (h c).2⟩)
      (Cert.FUpRefIdeal.Value.run (F := Ideal) m' ρ')⟩
  obtain ⟨h0, h1⟩ := hagree c
  rw [h0, h1]
  funext i
  exact Cert.Products.dot_nn (φ₁ := .f32) (φ₂ := .f32) _ (Cert.FUpIdeal.Tiles.lhs m c) (Cert.FUpIdeal.Tiles.rhs m c) i

end Cert.Proof

end
-- ==== Proof.DownFwd.lean ====
/-
  The down projection of the forward pass: the tiled product of its two operands, accumulated over two tiles of the
  contracted axis, with the residual, scaled, added on the way out.
-/
module

public import proofs.«01_k».proof.Defs
public import proofs.«01_k».proof.Proof.Products
public import proofs.«01_k».proof.Proof.Gen.FDownIdeal.Value
public import proofs.«01_k».proof.Proof.Gen.FDownRefIdeal.Run
public import Idealize.ShloMosaic.Lib.Tactic

@[expose] public section

noncomputable section

namespace Cert.FDownIdeal.Tiles

open Cert.FDownIdeal Cert.FDownIdeal.Gen Cert.FDownIdeal.Value Cert.Products
open Idealize.ShloMosaic Idealize.ShloMosaic.TcCoe Idealize.SL.Sem Idealize.ShloMosaic.ValueIdx

variable (m : (ℓ : Loc nD τ sig) → Buf (Elt Ideal) ℓ) (ρ : Dev nD → PrngReg)

/-- The input of the projection, the weight, and the residual. -/
abbrev lhs (c : Dev nD) : FVec Ideal S4096x2816 .f32 := m ((c : Thread nD τ).loc main_arg0)
abbrev rhs (c : Dev nD) : FVec Ideal S2816x1024 .f32 := m ((c : Thread nD τ).loc main_arg1)
abbrev res (c : Dev nD) : FVec Ideal S4096x1024 .f32 := m ((c : Thread nD τ).loc main_arg2)

/-- What the call finds in its operands: the arguments, the format of two changed. -/
theorem entry_v0 (c : Dev nD) : V m c main_v0 = (truncf .bf16 (lhs m c) bitsLt_bf16_f32 : FVec Ideal S4096x2816 .bf16) := by
  show StableHlo.after hostOps0 (fun b => m (c, b)) _ = _
  after_results
theorem entry_v1 (c : Dev nD) : V m c main_v1 = (truncf .bf16 (rhs m c) bitsLt_bf16_f32 : FVec Ideal S2816x1024 .bf16) := by
  show StableHlo.after hostOps0 (fun b => m (c, b)) _ = _
  after_results

/-- Which tiles a point works on. -/
theorem places : ∀ t : Fin cfg0.N, win0_0.index t = ![t.val / 2, t.val % 2] ∧ win0_1.index t = ![t.val % 2, 0]
    ∧ win0_2.index t = ![t.val / 2, 0] ∧ win0_3.index t = ![t.val / 2, 0] :=
  (by decide +kernel : ∀ t : Fin grid0.N, _)

theorem lhs_tile (c : Dev nD) (t : Fin cfg0.N) {i k : ℕ} (hi : i < 1024) (hk : k < 1408) :
    at2 (iblk m c 0 t : S1024x1408.Idx → EReal) i k = at2 (lhs m c) (t.val / 2 * 1024 + i) (t.val % 2 * 1408 + k) := by
  obtain ⟨e, -⟩ := places t
  refine at2_tile (lhs m c) _ (((cfg0.win 0).blk t).view.emb) _ _ (fun y => ?_) (fun y => ?_) (fun y => ?_) hi hk
  · exact congrFun (entry_v0 m c) _
  · show win0_0.index t (0 : Fin 2) * 1024 + 1 * (y 0).val = _; rw [e]; rfl
  · show win0_0.index t (1 : Fin 2) * 1408 + 1 * (y 1).val = _; rw [e]; rfl

theorem rhs_tile (c : Dev nD) (t : Fin cfg0.N) {k i : ℕ} (hk : k < 1408) (hi : i < 1024) :
    at2 (iblk m c 1 t : S1408x1024.Idx → EReal) k i = at2 (rhs m c) (t.val % 2 * 1408 + k) (0 * 1024 + i) := by
  obtain ⟨-, e, -⟩ := places t
  refine at2_tile (rhs m c) _ (((cfg0.win 1).blk t).view.emb) _ _ (fun y => ?_) (fun y => ?_) (fun y => ?_) hk hi
  · exact congrFun (entry_v1 m c) _
  · show win0_1.index t (0 : Fin 2) * 1408 + 1 * (y 0).val = _; rw [e]; rfl
  · show win0_1.index t (1 : Fin 2) * 1024 + 1 * (y 1).val = _; rw [e]; rfl

theorem res_tile (c : Dev nD) (t : Fin cfg0.N) {i k : ℕ} (hi : i < 1024) (hk : k < 1024) :
    at2 (iblk m c 2 t : S1024x1024.Idx → EReal) i k = at2 (res m c) (t.val / 2 * 1024 + i) (0 * 1024 + k) := by
  obtain ⟨-, -, e, -⟩ := places t
  refine at2_tile (res m c) _ (((cfg0.win 2).blk t).view.emb) _ _ (fun y => ?_) (fun y => ?_) (fun y => ?_) hi hk
  · exact congrFun (V_main_arg2 m c) _
  · show win0_2.index t (0 : Fin 2) * 1024 + 1 * (y 0).val = _; rw [e]; rfl
  · show win0_2.index t (1 : Fin 2) * 1024 + 1 * (y 1).val = _; rw [e]; rfl

section
variable (c : Dev nD) (i : grid0.Coords) (a3 : Memref sig .tc .vmem S1024x1408 .bf16) (h3 : a3.IsWhole)
    (a4 : Memref sig .tc .vmem S1408x1024 .bf16) (h4 : a4.IsWhole) (a5 : Memref sig .tc .vmem S1024x1024 .f32) (h5 : a5.IsWhole)
    (a6 : Memref sig .tc .vmem S1024x1024 .f32) (h6 : a6.IsWhole) (a7 : Memref sig .tc .vmem S1024x1024 .f32) (h7 : a7.IsWhole)
    (x : Vec Ideal S1024x1408 .bf16) (z : Vec Ideal S1408x1024 .bf16) (w : Vec Ideal S1024x1024 .f32)

/-- The first tile of a run is stored in the accumulator. -/
theorem first (c0 c1 c2) : sout0_A_0 c i a3 h3 a4 h4 a5 h5 a6 h6 a7 h7 c0 c1 c2 x z w = k0_pay1 x z := by
  unfold sout0_A_0
  rw [View.read_writes_eq_canon _ _ _ (scover0_A_0 c i a3 h3 a4 h4 a5 h5 a6 h6 a7 h7 c0 c1 c2 x z w)]
  unfold kernelRun0_A
  dsimp only
  sl_unfold_words
  rw [View.canon_unit_zero origin]
  unfold k0_pay2
  simp only [View.readAt_eq_ld, h3.read_unread, h4.read_unread, View.ld_unit_zero (S := S1024x1024) origin,
    View.ld_unit_zero (S := S1024x1408) origin, View.ld_unit_zero (S := S1408x1024) origin, shapeCast_self]

/-- The last is added to it on the way out. -/
theorem last (c0 c1 c2) (a : Vec Ideal S1024x1024 .f32) :
    out0_B_3 c i a3 h3 a4 h4 a5 h5 a6 h6 a7 h7 c0 c1 c2 x z w a = addf (addf a (k0_pay1 x z)) (mulf (broadcast S1024x1024 (Scalar.ofBits (F := Ideal) .f32 0x3F9837F0#32)) w) := by
  unfold out0_B_3
  rw [View.read_writes_eq_canon _ _ _ (cover0_B_3 c i a3 h3 a4 h4 a5 h5 a6 h6 a7 h7 c0 c1 c2 x z w a)]
  unfold kernelRun0_B
  dsimp only
  sl_unfold_words
  rw [View.canon_unit_zero origin]
  unfold k0_pay4
  simp only [View.readAt_eq_ld, h3.read_unread, h4.read_unread, h5.read_unread, h7.read_unread, View.ld_unit_zero (S := S1024x1024) origin,
    View.ld_unit_zero (S := S1024x1408) origin, View.ld_unit_zero (S := S1408x1024) origin, shapeCast_self]

end

/-- A point's own part, at an index. -/
theorem part (x : FVec Ideal S1024x1408 .bf16) (z : FVec Ideal S1408x1024 .bf16) (y : S1024x1024.Idx) :
    (k0_pay1 (F := Ideal) x z : FVec Ideal S1024x1024 .f32) y
      = ∑ k ∈ Finset.range 1408, at2 (x : S1024x1408.Idx → EReal) (y 0).val k * at2 (z : S1408x1024.Idx → EReal) k (y 1).val := by
  unfold k0_pay1
  simp only [shapeCast_self]
  exact matmul_nn (φ₁ := .bf16) (φ₂ := .bf16) _ x z y

theorem held_first (c : Dev nD) (t : Fin cfg0.N) (h0 : t.val % 2 = 0) :
    (outsAt0 m c t.val t.isLt).2 = k0_pay1 (F := Ideal) (iblk m c 0 t) (iblk m c 1 t) := by
  rw [outsAt0_A m c t h0 (by omega)]
  dsimp only
  exact first ..

/-- No point is neither the first of its run nor the last. -/
theorem held_middle (c : Dev nD) (t : Fin cfg0.N) (h0 : ¬t.val % 2 = 0) (h1 : ¬t.val % 2 = 1) :
    (outsAt0 m c t.val t.isLt).2
      = addf (outsAt0 m c (t.val - 1) (Nat.lt_of_le_of_lt (Nat.sub_le _ _) t.isLt)).2 (k0_pay1 (F := Ideal) (iblk m c 0 t) (iblk m c 1 t)) := by
  omega

/-- What the accumulator held before the last point of a run, and that point's own part. -/
theorem whole (c : Dev nD) (t : Fin cfg0.N) (ht : t.val % 2 = 1) (y : S1024x1024.Idx) :
    addf (outsAt0 m c (t.val - 1) (Nat.lt_of_le_of_lt (Nat.sub_le _ _) t.isLt)).2 (k0_pay1 (F := Ideal) (iblk m c 0 t) (iblk m c 1 t)) y
      = ∑ k ∈ Finset.range 2816, at2 (lhs m c) (t.val / 2 * 1024 + (y 0).val) k * at2 (rhs m c) k (0 * 1024 + (y 1).val) :=
  accumulated_nn (φ := .bf16) (J := 2) (k := 1408) (by decide) (lhs m c) (rhs m c) (fun q => q) (fun _ => 0)
    (fun t => iblk m c 0 t) (fun t => iblk m c 1 t) (fun t _ _ => lhs_tile m c t) (fun t _ _ => rhs_tile m c t)
    (fun t h => (outsAt0 m c t h).2) (fun t => k0_pay1 (F := Ideal) (iblk m c 0 t) (iblk m c 1 t))
    (fun t y => part (iblk m c 0 t) (iblk m c 1 t) y)
    (held_first m c) (held_middle m c) t ht y

/-- What the call computes, at an index. -/
def result (c : Dev nD) : S4096x1024.Idx → EReal := fun i =>
  (∑ k ∈ Finset.range 2816, at2 (lhs m c) (i 0).val k * at2 (rhs m c) k (i 1).val)
    + Scalar.ofBits (F := Ideal) .f32 0x3F9837F0#32 * at2 (res m c) (i 0).val (i 1).val

theorem flushed (c : Dev nD) (t : Fin cfg0.N) (hf : (cfg0.win 3).flush t = true) :
    (dats m 0 c).flushed 3 t = ((cfg0.win 3).blk t).view.read (Elt Ideal) (result m c) := by
  have ht : t.val % 2 = 1 := (flush0_3 t).mp hf
  rw [flushed3_B m c t (by omega) ht]
  obtain ⟨-, -, -, e⟩ := places t
  funext y
  have h0 : (((cfg0.win 3).blk t).view.emb y 0).val = t.val / 2 * 1024 + (y 0).val := by
    show win0_3.index t (0 : Fin 2) * 1024 + 1 * (y 0).val = _; rw [e, Nat.one_mul]; rfl
  have h1 : (((cfg0.win 3).blk t).view.emb y 1).val = 0 * 1024 + (y 1).val := by
    show win0_3.index t (1 : Fin 2) * 1024 + 1 * (y 1).val = _; rw [e, Nat.one_mul]; rfl
  refine (congrFun (last ..) y).trans ?_
  refine (congrArg₂ (· + ·) (whole m c t ht y) (congrArg (_ * ·)
    ((at2_idx (iblk m c 2 t) y rfl rfl).trans (res_tile m c t (y 0).isLt (y 1).isLt)))).trans ?_
  show _ = (∑ k ∈ Finset.range 2816, at2 (lhs m c) (((cfg0.win 3).blk t).view.emb y 0).val k
    * at2 (rhs m c) k (((cfg0.win 3).blk t).view.emb y 1).val) + Scalar.ofBits (F := Ideal) .f32 0x3F9837F0#32
      * at2 (res m c) (((cfg0.win 3).blk t).view.emb y 0).val (((cfg0.win 3).blk t).view.emb y 1).val
  rw [h0, h1]
  rfl

theorem final (c : Dev nD) : (dats m 0 c).arrAt 3 cfg0.N = result m c :=
  (dats m 0 c).arrAt_eq_of_cover 3 _ (flushed m c) fun i => (covered_iff3 i).2 (by
    have h0 : (i 0).val < 4096 := (i 0).isLt; have h1 : (i 1).val < 1024 := (i 1).isLt; omega)

end Cert.FDownIdeal.Tiles

namespace Cert.Proof

open Idealize.ShloMosaic Idealize.ShloMosaic.TcCoe Idealize.SL.Sem

theorem frame_FDownRefIdeal : Cert.quiescent_FDownRefIdeal := fun m ρ _ =>
  (θ_run Cert.FDownRefIdeal.defs _ _).mono (fun r h => ⟨fun c => (h c).2, sem_eq_zero_of_no_sems (by decide) r.2⟩)
    (Cert.FDownRefIdeal.Value.run (F := Ideal) m ρ)

theorem algebraic_FDown : Cert.algebraic_FDownIdeal_FDownRefIdeal := by
  intro m ρ m' ρ' _ hagree
  refine ⟨fun c => Cert.FDownIdeal.Tiles.result m c,
    (θ_run Cert.FDownIdeal.defs _ _).mono (fun _ h c => ⟨(h c).1.trans (Cert.FDownIdeal.Tiles.final m c), (h c).2⟩)
      (Cert.FDownIdeal.Value.run_blocks (F := Ideal) m ρ),
    (θ_run Cert.FDownRefIdeal.defs _ _).mono (fun _ h c => ⟨(h c).1.trans ?_, (h c).2⟩)
      (Cert.FDownRefIdeal.Value.run (F := Ideal) m' ρ')⟩
  obtain ⟨h0, h1, h2⟩ := hagree c
  rw [h0, h1, h2]
  funext i
  refine (add_comm _ _).trans (congrArg₂ (· + ·)
    (Cert.Products.dot_nn (φ₁ := .f32) (φ₂ := .f32) _ (Cert.FDownIdeal.Tiles.lhs m c) (Cert.FDownIdeal.Tiles.rhs m c) i) ?_)
  exact congrArg (_ * ·) (Cert.Products.at2_idx (Cert.FDownIdeal.Tiles.res m c) i rfl rfl)

end Cert.Proof

end
-- ==== Proof.MixFwd.lean ====
/-
  The output projection of the mixers: one call of the tiled product, a band of rows of the result per grid point and the
  whole contracted axis in one tile, with the residual, scaled, added on the way out.
-/
module

public import proofs.«01_k».proof.Defs
public import proofs.«01_k».proof.Proof.Products
public import proofs.«01_k».proof.Proof.Gen.MixIdeal.Value
public import proofs.«01_k».proof.Proof.Gen.MixRefIdeal.Run
public import Idealize.ShloMosaic.Lib.Tactic
public import Idealize.ShloMosaic.Lib.Pipeline.ValueKit.Geometry

@[expose] public section

noncomputable section

namespace Cert.MixIdeal.Tiles

open Cert.MixIdeal Cert.MixIdeal.Gen Cert.MixIdeal.Value Cert.Products
open Idealize.ShloMosaic Idealize.ShloMosaic.TcCoe Idealize.SL.Sem Idealize.ShloMosaic.ValueIdx

variable (m : (ℓ : Loc nD τ sig) → Buf (Elt Ideal) ℓ) (ρ : Dev nD → PrngReg)

/-- The input of the projection, the weight, and the residual. -/
abbrev lhs (c : Dev nD) : FVec Ideal S4096x1024 .f32 := m ((c : Thread nD τ).loc main_arg0)
abbrev rhs (c : Dev nD) : FVec Ideal S1024x1024 .f32 := m ((c : Thread nD τ).loc main_arg1)
abbrev res (c : Dev nD) : FVec Ideal S4096x1024 .f32 := m ((c : Thread nD τ).loc main_arg2)

/-- What the call finds in its two operands: the arguments, their format changed. -/
theorem entry_v0 (c : Dev nD) : V m c main_v0 = (truncf .bf16 (lhs m c) bitsLt_bf16_f32 : FVec Ideal S4096x1024 .bf16) := by
  show StableHlo.after hostOps0 (fun b => m (c, b)) _ = _
  after_results
theorem entry_v1 (c : Dev nD) : V m c main_v1 = (truncf .bf16 (rhs m c) bitsLt_bf16_f32 : FVec Ideal S1024x1024 .bf16) := by
  show StableHlo.after hostOps0 (fun b => m (c, b)) _ = _
  after_results

/-- Which tiles a point works on. -/
theorem places : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem lhs_tile (c : Dev nD) (t : Fin cfg0.N) {i k : ℕ} (hi : i < 1024) (hk : k < 1024) :
    at2 (iblk m c 0 t : S1024x1024.Idx → EReal) i k = at2 (lhs m c) (t.val * 1024 + i) (0 * 1024 + k) := by
  obtain ⟨e, -⟩ := places t
  refine at2_tile (lhs m c) _ (((cfg0.win 0).blk t).view.emb) _ _ (fun y => ?_) (fun y => ?_) (fun y => ?_) hi hk
  · exact congrFun (entry_v0 m c) _
  · show win0_0.index t (0 : Fin 2) * 1024 + 1 * (y 0).val = _; rw [e]; rfl
  · show win0_0.index t (1 : Fin 2) * 1024 + 1 * (y 1).val = _; rw [e]; rfl

theorem rhs_tile (c : Dev nD) (t : Fin cfg0.N) {k i : ℕ} (hk : k < 1024) (hi : i < 1024) :
    at2 (iblk m c 1 t : S1024x1024.Idx → EReal) k i = at2 (rhs m c) (0 * 1024 + k) (0 * 1024 + i) := by
  obtain ⟨-, e, -⟩ := places t
  refine at2_tile (rhs m c) _ (((cfg0.win 1).blk t).view.emb) _ _ (fun y => ?_) (fun y => ?_) (fun y => ?_) hk hi
  · exact congrFun (entry_v1 m c) _
  · show win0_1.index t (0 : Fin 2) * 1024 + 1 * (y 0).val = _; rw [e]; rfl
  · show win0_1.index t (1 : Fin 2) * 1024 + 1 * (y 1).val = _; rw [e]; rfl

theorem res_tile (c : Dev nD) (t : Fin cfg0.N) {i k : ℕ} (hi : i < 1024) (hk : k < 1024) :
    at2 (iblk m c 2 t : S1024x1024.Idx → EReal) i k = at2 (res m c) (t.val * 1024 + i) (0 * 1024 + k) := by
  obtain ⟨-, -, e, -⟩ := places t
  refine at2_tile (res m c) _ (((cfg0.win 2).blk t).view.emb) _ _ (fun y => ?_) (fun y => ?_) (fun y => ?_) hi hk
  · exact congrFun (V_main_arg2 m c) _
  · show win0_2.index t (0 : Fin 2) * 1024 + 1 * (y 0).val = _; rw [e]; rfl
  · show win0_2.index t (1 : Fin 2) * 1024 + 1 * (y 1).val = _; rw [e]; rfl

/-- The body leaves the product of its two tiles, and the residual's. -/
theorem left (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (a7 : Memref sig .tc .vmem S1024x1024 .f32) (h7 : a7.IsWhole)
    (x z : Vec Ideal S1024x1024 .bf16) (w : Vec Ideal S1024x1024 .f32) (y : S1024x1024.Idx) :
    out0_A_3 c i a3 h3 a4 h4 a5 h5 a6 h6 a7 h7 x z w y
      = (∑ k ∈ Finset.range 1024, at2 (x : S1024x1024.Idx → EReal) (y 0).val k * at2 (z : S1024x1024.Idx → EReal) k (y 1).val)
        + Scalar.ofBits (F := Ideal) .f32 0x3F9837F0#32 * w y := by
  unfold out0_A_3
  rw [View.read_writes_eq_canon _ _ _ (cover0_A_3 c i a3 h3 a4 h4 a5 h5 a6 h6 a7 h7 x z w)]
  unfold kernelRun0_A
  dsimp only
  sl_unfold_words
  rw [View.canon_unit_zero origin]
  unfold k0_pay1
  simp only [View.readAt_eq_ld, h3.read_unread, h4.read_unread, h5.read_unread, View.ld_unit_zero (S := S1024x1024) origin,
    View.ld_unit_zero (S := S1024x1024) origin, shapeCast_self]
  exact congrArg (· + _) (matmul_nn (φ₁ := .bf16) (φ₂ := .bf16) _ x z y)

/-- What the call computes, at an index. -/
def result (c : Dev nD) : S4096x1024.Idx → EReal := fun i =>
  (∑ k ∈ Finset.range 1024, at2 (lhs m c) (i 0).val k * at2 (rhs m c) k (i 1).val)
    + Scalar.ofBits (F := Ideal) .f32 0x3F9837F0#32 * at2 (res m c) (i 0).val (i 1).val

theorem flushed (c : Dev nD) (t : Fin cfg0.N) :
    (dats m 0 c).flushed 3 t = ((cfg0.win 3).blk t).view.read (Elt Ideal) (result m c) := by
  rw [flushed3_A]
  obtain ⟨-, -, -, e⟩ := places t
  funext y
  have h0 : (((cfg0.win 3).blk t).view.emb y 0).val = t.val * 1024 + (y 0).val := by
    show win0_3.index t (0 : Fin 2) * 1024 + 1 * (y 0).val = _; rw [e, Nat.one_mul]; rfl
  have h1 : (((cfg0.win 3).blk t).view.emb y 1).val = 0 * 1024 + (y 1).val := by
    show win0_3.index t (1 : Fin 2) * 1024 + 1 * (y 1).val = _; rw [e, Nat.one_mul]; rfl
  refine (left c _ _ _ _ _ _ _ _ _ _ _ _ _ _ y).trans ?_
  refine (congrArg₂ (· + ·) (Finset.sum_congr
    (g := fun k => at2 (lhs m c) (t.val * 1024 + (y 0).val) k * at2 (rhs m c) k (0 * 1024 + (y 1).val)) rfl fun k hk => ?_) (congrArg (_ * ·)
    ((at2_idx (iblk m c 2 t) y rfl rfl).trans (res_tile m c t (y 0).isLt (y 1).isLt)))).trans ?_
  · rw [lhs_tile m c t (y 0).isLt (Finset.mem_range.mp hk), rhs_tile m c t (Finset.mem_range.mp hk) (y 1).isLt,
      Nat.zero_mul, Nat.zero_add]
  rw [← h0, ← h1]
  rfl

theorem final (c : Dev nD) : (dats m 0 c).arrAt 3 cfg0.N = result m c :=
  (dats m 0 c).arrAt_eq_of_cover 3 _ (fun t _ => flushed m c t)
    ((by decide +kernel : (cfg0.win 3).Covers).cover _ (Memref.isWhole_whole _))

end Cert.MixIdeal.Tiles

namespace Cert.Proof

open Idealize.ShloMosaic Idealize.ShloMosaic.TcCoe Idealize.SL.Sem

theorem frame_MixRefIdeal : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

theorem algebraic_Mix : Cert.algebraic_MixIdeal_MixRefIdeal := by
  intro m ρ m' ρ' _ hagree
  refine ⟨fun c => Cert.MixIdeal.Tiles.result m c,
    (θ_run Cert.MixIdeal.defs _ _).mono (fun _ h c => ⟨(h c).1.trans (Cert.MixIdeal.Tiles.final m c), (h c).2⟩)
      (Cert.MixIdeal.Value.run_blocks (F := Ideal) m ρ),
    (θ_run Cert.MixRefIdeal.defs _ _).mono (fun _ h c => ⟨(h c).1.trans ?_, (h c).2⟩)
      (Cert.MixRefIdeal.Value.run (F := Ideal) m' ρ')⟩
  obtain ⟨h0, h1, h2⟩ := hagree c
  rw [h0, h1, h2]
  funext i
  refine (add_comm _ _).trans (congrArg₂ (· + ·)
    (Cert.Products.dot_nn (φ₁ := .f32) (φ₂ := .f32) _ (Cert.MixIdeal.Tiles.lhs m c) (Cert.MixIdeal.Tiles.rhs m c) i) ?_)
  exact congrArg (_ * ·) (Cert.Products.at2_idx (Cert.MixIdeal.Tiles.res m c) i rfl rfl)

end Cert.Proof

end
-- ==== Proof.OutGrad.lean ====
/-
  The gradient of the output projection's weight: the tiled product of the columns of its two operands, accumulated over
  four tiles of the contracted axis into the one tile of the result.
-/
module

public import proofs.«01_k».proof.Defs
public import proofs.«01_k».proof.Proof.Products
public import proofs.«01_k».proof.Proof.Gen.GOutIdeal.Value
public import proofs.«01_k».proof.Proof.Gen.GOutRefIdeal.Run
public import Idealize.ShloMosaic.Lib.Tactic

@[expose] public section

noncomputable section

namespace Cert.GOutIdeal.Tiles

open Cert.GOutIdeal Cert.GOutIdeal.Gen Cert.GOutIdeal.Value Cert.Products
open Idealize.ShloMosaic Idealize.ShloMosaic.TcCoe Idealize.SL.Sem Idealize.ShloMosaic.ValueIdx

variable (m : (ℓ : Loc nD τ sig) → Buf (Elt Ideal) ℓ) (ρ : Dev nD → PrngReg)

/-- What the projection was given, and the gradient that comes in. -/
abbrev lhs (c : Dev nD) : FVec Ideal S4096x1024 .f32 := m ((c : Thread nD τ).loc main_arg0)
abbrev rhs (c : Dev nD) : FVec Ideal S4096x1024 .f32 := m ((c : Thread nD τ).loc main_arg2)

/-- What the call finds in its two operands: the arguments, their format changed. -/
theorem entry_v0 (c : Dev nD) : V m c main_v0 = (truncf .bf16 (lhs m c) bitsLt_bf16_f32 : FVec Ideal S4096x1024 .bf16) := by
  show StableHlo.after hostOps0 (fun b => m (c, b)) _ = _
  after_results
theorem entry_v1 (c : Dev nD) : V m c main_v1 = (truncf .bf16 (rhs m c) bitsLt_bf16_f32 : FVec Ideal S4096x1024 .bf16) := by
  show StableHlo.after hostOps0 (fun b => m (c, b)) _ = _
  after_results

/-- Which tiles a point works on. -/
theorem places : ∀ t : Fin cfg0.N, win0_0.index t = ![t.val % 4, 0] ∧ win0_1.index t = ![t.val % 4, 0]
    ∧ win0_2.index t = ![0, 0] :=
  (by decide +kernel : ∀ t : Fin grid0.N, _)

theorem lhs_tile (c : Dev nD) (t : Fin cfg0.N) {k i : ℕ} (hk : k < 1024) (hi : i < 1024) :
    at2 (iblk m c 0 t : S1024x1024.Idx → EReal) k i = at2 (lhs m c) (t.val % 4 * 1024 + k) (0 * 1024 + i) := by
  obtain ⟨e, -, -⟩ := places t
  refine at2_tile (lhs m c) _ (((cfg0.win 0).blk t).view.emb) _ _ (fun y => ?_) (fun y => ?_) (fun y => ?_) hk hi
  · exact congrFun (entry_v0 m c) _
  · show win0_0.index t (0 : Fin 2) * 1024 + 1 * (y 0).val = _; rw [e]; rfl
  · show win0_0.index t (1 : Fin 2) * 1024 + 1 * (y 1).val = _; rw [e]; rfl

theorem rhs_tile (c : Dev nD) (t : Fin cfg0.N) {k i : ℕ} (hk : k < 1024) (hi : i < 1024) :
    at2 (iblk m c 1 t : S1024x1024.Idx → EReal) k i = at2 (rhs m c) (t.val % 4 * 1024 + k) (0 * 1024 + i) := by
  obtain ⟨-, e, -⟩ := places t
  refine at2_tile (rhs m c) _ (((cfg0.win 1).blk t).view.emb) _ _ (fun y => ?_) (fun y => ?_) (fun y => ?_) hk hi
  · exact congrFun (entry_v1 m c) _
  · show win0_1.index t (0 : Fin 2) * 1024 + 1 * (y 0).val = _; rw [e]; rfl
  · show win0_1.index t (1 : Fin 2) * 1024 + 1 * (y 1).val = _; rw [e]; rfl

section
variable (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole) (x : Vec Ideal S1024x1024 .bf16) (z : Vec Ideal S1024x1024 .bf16)

/-- The first tile of a run is stored in the accumulator. -/
theorem first (c0 c1 c2) : sout0_A_0 c i a3 h3 a4 h4 a5 h5 a6 h6 c0 c1 c2 x z = k0_pay1 x z := by
  unfold sout0_A_0
  rw [View.read_writes_eq_canon _ _ _ (scover0_A_0 c i a3 h3 a4 h4 a5 h5 a6 h6 c0 c1 c2 x z)]
  unfold kernelRun0_A
  dsimp only
  sl_unfold_words
  rw [View.canon_unit_zero origin]
  unfold k0_pay2
  simp only [View.readAt_eq_ld, h3.read_unread, h4.read_unread, View.ld_unit_zero (S := S1024x1024) origin,
    View.ld_unit_zero (S := S1024x1024) origin, shapeCast_self]

/-- A middle tile is added to it. -/
theorem middle (c0 c1 c2) (a : Vec Ideal S1024x1024 .f32) :
    sout0_B_0 c i a3 h3 a4 h4 a5 h5 a6 h6 c0 c1 c2 x z a = addf a (k0_pay1 x z) := by
  unfold sout0_B_0
  rw [View.read_writes_eq_canon _ _ _ (scover0_B_0 c i a3 h3 a4 h4 a5 h5 a6 h6 c0 c1 c2 x z a)]
  unfold kernelRun0_B
  dsimp only
  sl_unfold_words
  rw [View.canon_unit_zero origin]
  unfold k0_pay3
  simp only [View.readAt_eq_ld, h3.read_unread, h4.read_unread, h6.read_unread, View.ld_unit_zero (S := S1024x1024) origin,
    View.ld_unit_zero (S := S1024x1024) origin, shapeCast_self]

/-- The last is added to it on the way out. -/
theorem last (c0 c1 c2) (a : Vec Ideal S1024x1024 .f32) :
    out0_C_2 c i a3 h3 a4 h4 a5 h5 a6 h6 c0 c1 c2 x z a = truncf .bf16 (addf a (k0_pay1 x z)) bitsLt_bf16_f32 := by
  unfold out0_C_2
  rw [View.read_writes_eq_canon _ _ _ (cover0_C_2 c i a3 h3 a4 h4 a5 h5 a6 h6 c0 c1 c2 x z a)]
  unfold kernelRun0_C
  dsimp only
  sl_unfold_words
  rw [View.canon_unit_zero origin]
  unfold k0_pay4
  simp only [View.readAt_eq_ld, h3.read_unread, h4.read_unread, h6.read_unread, View.ld_unit_zero (S := S1024x1024) origin,
    View.ld_unit_zero (S := S1024x1024) origin, shapeCast_self]

end

/-- A point's own part, at an index. -/
theorem part (x : FVec Ideal S1024x1024 .bf16) (z : FVec Ideal S1024x1024 .bf16) (y : S1024x1024.Idx) :
    (k0_pay1 (F := Ideal) x z : FVec Ideal S1024x1024 .f32) y
      = ∑ k ∈ Finset.range 1024, at2 (x : S1024x1024.Idx → EReal) k (y 0).val * at2 (z : S1024x1024.Idx → EReal) k (y 1).val := by
  unfold k0_pay1
  simp only [shapeCast_self]
  exact matmul_tn (φ₁ := .bf16) (φ₂ := .bf16) _ x z y

theorem held_first (c : Dev nD) (t : Fin cfg0.N) (h0 : t.val % 4 = 0) :
    (outsAt0 m c t.val t.isLt).2 = k0_pay1 (F := Ideal) (iblk m c 0 t) (iblk m c 1 t) := by
  rw [outsAt0_A m c t h0 (by omega) (by omega)]
  dsimp only
  exact first ..

theorem held_middle (c : Dev nD) (t : Fin cfg0.N) (h0 : ¬t.val % 4 = 0) (h1 : ¬t.val % 4 = 3) :
    (outsAt0 m c t.val t.isLt).2
      = addf (outsAt0 m c (t.val - 1) (Nat.lt_of_le_of_lt (Nat.sub_le _ _) t.isLt)).2 (k0_pay1 (F := Ideal) (iblk m c 0 t) (iblk m c 1 t)) := by
  rw [outsAt0_B m c t h0 (by omega) h1]
  dsimp only
  exact middle ..

/-- What the accumulator held before the last point of a run, and that point's own part. -/
theorem whole (c : Dev nD) (t : Fin cfg0.N) (ht : t.val % 4 = 3) (y : S1024x1024.Idx) :
    addf (outsAt0 m c (t.val - 1) (Nat.lt_of_le_of_lt (Nat.sub_le _ _) t.isLt)).2 (k0_pay1 (F := Ideal) (iblk m c 0 t) (iblk m c 1 t)) y
      = ∑ k ∈ Finset.range 4096, at2 (lhs m c) k (0 * 1024 + (y 0).val) * at2 (rhs m c) k (0 * 1024 + (y 1).val) :=
  accumulated_tn (φ := .bf16) (J := 4) (k := 1024) (by decide) (lhs m c) (rhs m c) (fun _ => 0) (fun _ => 0)
    (fun t => iblk m c 0 t) (fun t => iblk m c 1 t) (fun t _ _ => lhs_tile m c t) (fun t _ _ => rhs_tile m c t)
    (fun t h => (outsAt0 m c t h).2) (fun t => k0_pay1 (F := Ideal) (iblk m c 0 t) (iblk m c 1 t))
    (fun t y => part (iblk m c 0 t) (iblk m c 1 t) y)
    (held_first m c) (held_middle m c) t ht y

/-- The product the call computes, at an index. -/
def result (c : Dev nD) : S1024x1024.Idx → EReal := fun i =>
  ∑ k ∈ Finset.range 4096, at2 (lhs m c) k (i 0).val * at2 (rhs m c) k (i 1).val

theorem flushed (c : Dev nD) (t : Fin cfg0.N) (hf : (cfg0.win 2).flush t = true) :
    (dats m 0 c).flushed 2 t = ((cfg0.win 2).blk t).view.read (Elt Ideal) (result m c) := by
  have ht : t.val % 4 = 3 := (flush0_2 t).mp hf
  rw [flushed2_C m c t (by omega) (by omega) ht]
  obtain ⟨-, -, e⟩ := places t
  funext y
  have h0 : (((cfg0.win 2).blk t).view.emb y 0).val = 0 * 1024 + (y 0).val := by
    show win0_2.index t (0 : Fin 2) * 1024 + 1 * (y 0).val = _; rw [e, Nat.one_mul]; rfl
  have h1 : (((cfg0.win 2).blk t).view.emb y 1).val = 0 * 1024 + (y 1).val := by
    show win0_2.index t (1 : Fin 2) * 1024 + 1 * (y 1).val = _; rw [e, Nat.one_mul]; rfl
  refine (congrFun (last ..) y).trans ((whole m c t ht y).trans ?_)
  rw [← h0, ← h1]
  rfl

theorem final (c : Dev nD) : (dats m 0 c).arrAt 2 cfg0.N = result m c :=
  (dats m 0 c).arrAt_eq_of_cover 2 _ (flushed m c) fun i => (covered_iff2 i).2 (by
    have h0 : (i 0).val < 1024 := (i 0).isLt; have h1 : (i 1).val < 1024 := (i 1).isLt; omega)

end Cert.GOutIdeal.Tiles

namespace Cert.Proof

open Idealize.ShloMosaic Idealize.ShloMosaic.TcCoe Idealize.SL.Sem

theorem frame_GOutRefIdeal : Cert.quiescent_GOutRefIdeal := fun m ρ _ =>
  (θ_run Cert.GOutRefIdeal.defs _ _).mono (fun r h => ⟨fun c => (h c).2, sem_eq_zero_of_no_sems (by decide) r.2⟩)
    (Cert.GOutRefIdeal.Value.run (F := Ideal) m ρ)

theorem algebraic_GOut : Cert.algebraic_GOutIdeal_GOutRefIdeal := by
  intro m ρ m' ρ' _ hagree
  refine ⟨fun c => Cert.GOutIdeal.Tiles.result m c,
    (θ_run Cert.GOutIdeal.defs _ _).mono (fun _ h c => ⟨(h c).1.trans (Cert.GOutIdeal.Tiles.final m c), (h c).2⟩)
      (Cert.GOutIdeal.Value.run_blocks (F := Ideal) m ρ),
    (θ_run Cert.GOutRefIdeal.defs _ _).mono (fun _ h c => ⟨(h c).1.trans ?_, (h c).2⟩)
      (Cert.GOutRefIdeal.Value.run (F := Ideal) m' ρ')⟩
  obtain ⟨h0, -, h2⟩ := hagree c
  rw [h0, h2]
  funext i
  refine (Cert.Products.dot_tn (φ₁ := .f32) (φ₂ := .f32) _ (Cert.GOutIdeal.Tiles.rhs m c) (Cert.GOutIdeal.Tiles.lhs m c) _).trans ?_
  exact Finset.sum_congr rfl fun k _ => mul_comm _ _

end Cert.Proof

end
-- ==== Proof.CatGrad.lean ====
/-
  The gradient of the output projection's input: one call of the tiled product, a band of rows of the result per grid point
  and the whole contracted axis in one tile.
-/
module

public import proofs.«01_k».proof.Defs
public import proofs.«01_k».proof.Proof.Products
public import proofs.«01_k».proof.Proof.Gen.DCatIdeal.Value
public import proofs.«01_k».proof.Proof.Gen.DCatRefIdeal.Run
public import Idealize.ShloMosaic.Lib.Tactic
public import Idealize.ShloMosaic.Lib.Pipeline.ValueKit.Geometry

@[expose] public section

noncomputable section

namespace Cert.DCatIdeal.Tiles

open Cert.DCatIdeal Cert.DCatIdeal.Gen Cert.DCatIdeal.Value Cert.Products
open Idealize.ShloMosaic Idealize.ShloMosaic.TcCoe Idealize.SL.Sem Idealize.ShloMosaic.ValueIdx

variable (m : (ℓ : Loc nD τ sig) → Buf (Elt Ideal) ℓ) (ρ : Dev nD → PrngReg)

/-- The gradient that comes in, and the weight. -/
abbrev lhs (c : Dev nD) : FVec Ideal S4096x1024 .f32 := m ((c : Thread nD τ).loc main_arg2)
abbrev rhs (c : Dev nD) : FVec Ideal S1024x1024 .f32 := m ((c : Thread nD τ).loc main_arg1)

/-- What the call finds in its two operands: the arguments, their format changed. -/
theorem entry_v0 (c : Dev nD) : V m c main_v0 = (truncf .bf16 (lhs m c) bitsLt_bf16_f32 : FVec Ideal S4096x1024 .bf16) := by
  show StableHlo.after hostOps0 (fun b => m (c, b)) _ = _
  after_results
theorem entry_v1 (c : Dev nD) : V m c main_v1 = (truncf .bf16 (rhs m c) bitsLt_bf16_f32 : FVec Ideal S1024x1024 .bf16) := by
  show StableHlo.after hostOps0 (fun b => m (c, b)) _ = _
  after_results

/-- Which tiles a point works on. -/
theorem places : ∀ t : Fin cfg0.N, win0_0.index t = ![t.val, 0] ∧ win0_1.index t = ![0, 0]
    ∧ win0_2.index t = ![t.val, 0] :=
  (by decide +kernel : ∀ t : Fin grid0.N, _)

theorem lhs_tile (c : Dev nD) (t : Fin cfg0.N) {i k : ℕ} (hi : i < 1024) (hk : k < 1024) :
    at2 (iblk m c 0 t : S1024x1024.Idx → EReal) i k = at2 (lhs m c) (t.val * 1024 + i) (0 * 1024 + k) := by
  obtain ⟨e, -, -⟩ := places t
  refine at2_tile (lhs m c) _ (((cfg0.win 0).blk t).view.emb) _ _ (fun y => ?_) (fun y => ?_) (fun y => ?_) hi hk
  · exact congrFun (entry_v0 m c) _
  · show win0_0.index t (0 : Fin 2) * 1024 + 1 * (y 0).val = _; rw [e]; rfl
  · show win0_0.index t (1 : Fin 2) * 1024 + 1 * (y 1).val = _; rw [e]; rfl

theorem rhs_tile (c : Dev nD) (t : Fin cfg0.N) {i k : ℕ} (hi : i < 1024) (hk : k < 1024) :
    at2 (iblk m c 1 t : S1024x1024.Idx → EReal) i k = at2 (rhs m c) (0 * 1024 + i) (0 * 1024 + k) := by
  obtain ⟨-, e, -⟩ := places t
  refine at2_tile (rhs m c) _ (((cfg0.win 1).blk t).view.emb) _ _ (fun y => ?_) (fun y => ?_) (fun y => ?_) hi hk
  · exact congrFun (entry_v1 m c) _
  · show win0_1.index t (0 : Fin 2) * 1024 + 1 * (y 0).val = _; rw [e]; rfl
  · show win0_1.index t (1 : Fin 2) * 1024 + 1 * (y 1).val = _; rw [e]; rfl

/-- The body leaves the product of its two tiles. -/
theorem left (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (x : Vec Ideal S1024x1024 .bf16) (z : Vec Ideal S1024x1024 .bf16)
    (y : S1024x1024.Idx) :
    out0_A_2 c i a3 h3 a4 h4 a5 h5 a6 h6 x z y
      = ∑ k ∈ Finset.range 1024, at2 (x : S1024x1024.Idx → EReal) (y 0).val k * at2 (z : S1024x1024.Idx → EReal) (y 1).val k := by
  unfold out0_A_2
  rw [View.read_writes_eq_canon _ _ _ (cover0_A_2 c i a3 h3 a4 h4 a5 h5 a6 h6 x z)]
  unfold kernelRun0_A
  dsimp only
  sl_unfold_words
  rw [View.canon_unit_zero origin]
  unfold k0_pay1
  simp only [View.readAt_eq_ld, h3.read_unread, h4.read_unread, View.ld_unit_zero (S := S1024x1024) origin,
    View.ld_unit_zero (S := S1024x1024) origin, shapeCast_self]
  exact matmul_nt (φ₁ := .bf16) (φ₂ := .bf16) _ x z y

/-- The product the call computes, at an index. -/
def result (c : Dev nD) : S4096x1024.Idx → EReal := fun i =>
  ∑ k ∈ Finset.range 1024, at2 (lhs m c) (i 0).val k * at2 (rhs m c) (i 1).val k

theorem flushed (c : Dev nD) (t : Fin cfg0.N) :
    (dats m 0 c).flushed 2 t = ((cfg0.win 2).blk t).view.read (Elt Ideal) (result m c) := by
  rw [flushed2_A]
  obtain ⟨-, -, e⟩ := places t
  funext y
  have h0 : (((cfg0.win 2).blk t).view.emb y 0).val = t.val * 1024 + (y 0).val := by
    show win0_2.index t (0 : Fin 2) * 1024 + 1 * (y 0).val = _; rw [e, Nat.one_mul]; rfl
  have h1 : (((cfg0.win 2).blk t).view.emb y 1).val = 0 * 1024 + (y 1).val := by
    show win0_2.index t (1 : Fin 2) * 1024 + 1 * (y 1).val = _; rw [e, Nat.one_mul]; rfl
  refine (left c _ _ _ _ _ _ _ _ _ _ _ y).trans ?_
  show _ = ∑ k ∈ Finset.range 1024, at2 (lhs m c) (((cfg0.win 2).blk t).view.emb y 0).val k
    * at2 (rhs m c) (((cfg0.win 2).blk t).view.emb y 1).val k
  rw [h0, h1]
  refine Finset.sum_congr rfl fun k hk => ?_
  rw [lhs_tile m c t (y 0).isLt (Finset.mem_range.mp hk), rhs_tile m c t (y 1).isLt (Finset.mem_range.mp hk),
    Nat.zero_mul, Nat.zero_add]

theorem final (c : Dev nD) : (dats m 0 c).arrAt 2 cfg0.N = result m c :=
  (dats m 0 c).arrAt_eq_of_cover 2 _ (fun t _ => flushed m c t)
    ((by decide +kernel : (cfg0.win 2).Covers).cover _ (Memref.isWhole_whole _))

end Cert.DCatIdeal.Tiles

namespace Cert.Proof

open Idealize.ShloMosaic Idealize.ShloMosaic.TcCoe Idealize.SL.Sem

theorem frame_DCatRefIdeal : Cert.quiescent_DCatRefIdeal := fun m ρ _ =>
  (θ_run Cert.DCatRefIdeal.defs _ _).mono (fun r h => ⟨fun c => (h c).2, sem_eq_zero_of_no_sems (by decide) r.2⟩)
    (Cert.DCatRefIdeal.Value.run (F := Ideal) m ρ)

theorem algebraic_DCat : Cert.algebraic_DCatIdeal_DCatRefIdeal := by
  intro m ρ m' ρ' _ hagree
  refine ⟨fun c => Cert.DCatIdeal.Tiles.result m c,
    (θ_run Cert.DCatIdeal.defs _ _).mono (fun _ h c => ⟨(h c).1.trans (Cert.DCatIdeal.Tiles.final m c), (h c).2⟩)
      (Cert.DCatIdeal.Value.run_blocks (F := Ideal) m ρ),
    (θ_run Cert.DCatRefIdeal.defs _ _).mono (fun _ h c => ⟨(h c).1.trans ?_, (h c).2⟩)
      (Cert.DCatRefIdeal.Value.run (F := Ideal) m' ρ')⟩
  obtain ⟨-, h1, h2⟩ := hagree c
  rw [h1, h2]
  funext i
  exact Cert.Products.dot_nt (φ₁ := .f32) (φ₂ := .f32) _ (Cert.DCatIdeal.Tiles.lhs m c) (Cert.DCatIdeal.Tiles.rhs m c) i

end Cert.Proof

end
-- ==== Proof.SbProj.lean ====
/-
  The attention's projection: one call of the tiled product, a tile of the result per grid point and the whole contracted
  axis in one tile.
-/
module

public import proofs.«01_k».proof.Defs
public import proofs.«01_k».proof.Proof.Products
public import proofs.«01_k».proof.Proof.Gen.PSbIdeal.Value
public import proofs.«01_k».proof.Proof.Gen.PSbRefIdeal.Run
public import Idealize.ShloMosaic.Lib.Tactic
public import Idealize.ShloMosaic.Lib.Pipeline.ValueKit.Geometry

@[expose] public section

noncomputable section

namespace Cert.PSbIdeal.Tiles

open Cert.PSbIdeal Cert.PSbIdeal.Gen Cert.PSbIdeal.Value Cert.Products
open Idealize.ShloMosaic Idealize.ShloMosaic.TcCoe Idealize.SL.Sem Idealize.ShloMosaic.ValueIdx

variable (m : (ℓ : Loc nD τ sig) → Buf (Elt Ideal) ℓ) (ρ : Dev nD → PrngReg)

/-- The input of the projection, and the weight. -/
abbrev lhs (c : Dev nD) : FVec Ideal S4096x1024 .f32 := m ((c : Thread nD τ).loc main_arg0)
abbrev rhs (c : Dev nD) : FVec Ideal S1024x1536 .f32 := m ((c : Thread nD τ).loc main_arg1)

/-- What the call finds in its two operands: the arguments, their format changed. -/
theorem entry_v0 (c : Dev nD) : V m c main_v0 = (truncf .bf16 (lhs m c) bitsLt_bf16_f32 : FVec Ideal S4096x1024 .bf16) := by
  show StableHlo.after hostOps0 (fun b => m (c, b)) _ = _
  after_results
theorem entry_v1 (c : Dev nD) : V m c main_v1 = (truncf .bf16 (rhs m c) bitsLt_bf16_f32 : FVec Ideal S1024x1536 .bf16) := by
  show StableHlo.after hostOps0 (fun b => m (c, b)) _ = _
  after_results

/-- Which tiles a point works on. -/
theorem places : ∀ t : Fin cfg0.N, win0_0.index t = ![t.val / 3, 0] ∧ win0_1.index t = ![0, t.val % 3]
    ∧ win0_2.index t = ![t.val / 3, t.val % 3] :=
  (by decide +kernel : ∀ t : Fin grid0.N, _)

theorem lhs_tile (c : Dev nD) (t : Fin cfg0.N) {i k : ℕ} (hi : i < 1024) (hk : k < 1024) :
    at2 (iblk m c 0 t : S1024x1024.Idx → EReal) i k = at2 (lhs m c) (t.val / 3 * 1024 + i) (0 * 1024 + k) := by
  obtain ⟨e, -, -⟩ := places t
  refine at2_tile (lhs m c) _ (((cfg0.win 0).blk t).view.emb) _ _ (fun y => ?_) (fun y => ?_) (fun y => ?_) hi hk
  · exact congrFun (entry_v0 m c) _
  · show win0_0.index t (0 : Fin 2) * 1024 + 1 * (y 0).val = _; rw [e]; rfl
  · show win0_0.index t (1 : Fin 2) * 1024 + 1 * (y 1).val = _; rw [e]; rfl

theorem rhs_tile (c : Dev nD) (t : Fin cfg0.N) {k i : ℕ} (hk : k < 1024) (hi : i < 512) :
    at2 (iblk m c 1 t : S1024x512.Idx → EReal) k i = at2 (rhs m c) (0 * 1024 + k) (t.val % 3 * 512 + i) := by
  obtain ⟨-, e, -⟩ := places t
  refine at2_tile (rhs m c) _ (((cfg0.win 1).blk t).view.emb) _ _ (fun y => ?_) (fun y => ?_) (fun y => ?_) hk hi
  · exact congrFun (entry_v1 m c) _
  · show win0_1.index t (0 : Fin 2) * 1024 + 1 * (y 0).val = _; rw [e]; rfl
  · show win0_1.index t (1 : Fin 2) * 512 + 1 * (y 1).val = _; rw [e]; rfl

/-- The body leaves the product of its two tiles. -/
theorem left (c : Dev nD) (i : grid0.Coords) (a3 : Memref sig .tc .vmem S1024x1024 .bf16) (h3 : a3.IsWhole)
    (a4 : Memref sig .tc .vmem S1024x512 .bf16) (h4 : a4.IsWhole) (a5 : Memref sig .tc .vmem S1024x512 .bf16) (h5 : a5.IsWhole)
    (a6 : Memref sig .tc .vmem S1024x512 .f32) (h6 : a6.IsWhole) (x : Vec Ideal S1024x1024 .bf16) (z : Vec Ideal S1024x512 .bf16)
    (y : S1024x512.Idx) :
    out0_A_2 c i a3 h3 a4 h4 a5 h5 a6 h6 x z y
      = ∑ k ∈ Finset.range 1024, at2 (x : S1024x1024.Idx → EReal) (y 0).val k * at2 (z : S1024x512.Idx → EReal) k (y 1).val := by
  unfold out0_A_2
  rw [View.read_writes_eq_canon _ _ _ (cover0_A_2 c i a3 h3 a4 h4 a5 h5 a6 h6 x z)]
  unfold kernelRun0_A
  dsimp only
  sl_unfold_words
  rw [View.canon_unit_zero origin]
  unfold k0_pay1
  simp only [View.readAt_eq_ld, h3.read_unread, h4.read_unread, View.ld_unit_zero (S := S1024x1024) origin,
    View.ld_unit_zero (S := S1024x512) origin, shapeCast_self]
  exact matmul_nn (φ₁ := .bf16) (φ₂ := .bf16) _ x z y

/-- The product the call computes, at an index. -/
def result (c : Dev nD) : S4096x1536.Idx → EReal := fun i =>
  ∑ k ∈ Finset.range 1024, at2 (lhs m c) (i 0).val k * at2 (rhs m c) k (i 1).val

theorem flushed (c : Dev nD) (t : Fin cfg0.N) :
    (dats m 0 c).flushed 2 t = ((cfg0.win 2).blk t).view.read (Elt Ideal) (result m c) := by
  rw [flushed2_A]
  obtain ⟨-, -, e⟩ := places t
  funext y
  have h0 : (((cfg0.win 2).blk t).view.emb y 0).val = t.val / 3 * 1024 + (y 0).val := by
    show win0_2.index t (0 : Fin 2) * 1024 + 1 * (y 0).val = _; rw [e, Nat.one_mul]; rfl
  have h1 : (((cfg0.win 2).blk t).view.emb y 1).val = t.val % 3 * 512 + (y 1).val := by
    show win0_2.index t (1 : Fin 2) * 512 + 1 * (y 1).val = _; rw [e, Nat.one_mul]; rfl
  refine (left c _ _ _ _ _ _ _ _ _ _ _ y).trans ?_
  show _ = ∑ k ∈ Finset.range 1024, at2 (lhs m c) (((cfg0.win 2).blk t).view.emb y 0).val k
    * at2 (rhs m c) k (((cfg0.win 2).blk t).view.emb y 1).val
  rw [h0, h1]
  refine Finset.sum_congr rfl fun k hk => ?_
  rw [lhs_tile m c t (y 0).isLt (Finset.mem_range.mp hk), rhs_tile m c t (Finset.mem_range.mp hk) (y 1).isLt,
    Nat.zero_mul, Nat.zero_add]

theorem final (c : Dev nD) : (dats m 0 c).arrAt 2 cfg0.N = result m c :=
  (dats m 0 c).arrAt_eq_of_cover 2 _ (fun t _ => flushed m c t)
    ((by decide +kernel : (cfg0.win 2).Covers).cover _ (Memref.isWhole_whole _))

end Cert.PSbIdeal.Tiles

namespace Cert.Proof

open Idealize.ShloMosaic Idealize.ShloMosaic.TcCoe Idealize.SL.Sem

theorem frame_PSbRefIdeal : Cert.quiescent_PSbRefIdeal := fun m ρ _ =>
  (θ_run Cert.PSbRefIdeal.defs _ _).mono (fun r h => ⟨fun c => (h c).2, sem_eq_zero_of_no_sems (by decide) r.2⟩)
    (Cert.PSbRefIdeal.Value.run (F := Ideal) m ρ)

theorem algebraic_PSb : Cert.algebraic_PSbIdeal_PSbRefIdeal := by
  intro m ρ m' ρ' _ hagree
  refine ⟨fun c => Cert.PSbIdeal.Tiles.result m c,
    (θ_run Cert.PSbIdeal.defs _ _).mono (fun _ h c => ⟨(h c).1.trans (Cert.PSbIdeal.Tiles.final m c), (h c).2⟩)
      (Cert.PSbIdeal.Value.run_blocks (F := Ideal) m ρ),
    (θ_run Cert.PSbRefIdeal.defs _ _).mono (fun _ h c => ⟨(h c).1.trans ?_, (h c).2⟩)
      (Cert.PSbRefIdeal.Value.run (F := Ideal) m' ρ')⟩
  obtain ⟨h0, h1⟩ := hagree c
  rw [h0, h1]
  funext i
  exact Cert.Products.dot_nn (φ₁ := .f32) (φ₂ := .f32) _ (Cert.PSbIdeal.Tiles.lhs m c) (Cert.PSbIdeal.Tiles.rhs m c) i

end Cert.Proof

end
-- ==== Proof.GlaProj.lean ====
/-
  The linear attention's projection: one call of the tiled product, a band of rows of the result per grid point and the
  whole contracted axis in one tile.
-/
module

public import proofs.«01_k».proof.Defs
public import proofs.«01_k».proof.Proof.Products
public import proofs.«01_k».proof.Proof.Gen.PGlaIdeal.Value
public import proofs.«01_k».proof.Proof.Gen.PGlaRefIdeal.Run
public import Idealize.ShloMosaic.Lib.Tactic
public import Idealize.ShloMosaic.Lib.Pipeline.ValueKit.Geometry

@[expose] public section

noncomputable section

namespace Cert.PGlaIdeal.Tiles

open Cert.PGlaIdeal Cert.PGlaIdeal.Gen Cert.PGlaIdeal.Value Cert.Products
open Idealize.ShloMosaic Idealize.ShloMosaic.TcCoe Idealize.SL.Sem Idealize.ShloMosaic.ValueIdx

variable (m : (ℓ : Loc nD τ sig) → Buf (Elt Ideal) ℓ) (ρ : Dev nD → PrngReg)

/-- The input of the projection, and the weight. -/
abbrev lhs (c : Dev nD) : FVec Ideal S4096x1024 .f32 := m ((c : Thread nD τ).loc main_arg0)
abbrev rhs (c : Dev nD) : FVec Ideal S1024x1664 .f32 := m ((c : Thread nD τ).loc main_arg1)

/-- What the call finds in its two operands: the arguments, their format changed. -/
theorem entry_v0 (c : Dev nD) : V m c main_v0 = (truncf .bf16 (lhs m c) bitsLt_bf16_f32 : FVec Ideal S4096x1024 .bf16) := by
  show StableHlo.after hostOps0 (fun b => m (c, b)) _ = _
  after_results
theorem entry_v1 (c : Dev nD) : V m c main_v1 = (truncf .bf16 (rhs m c) bitsLt_bf16_f32 : FVec Ideal S1024x1664 .bf16) := by
  show StableHlo.after hostOps0 (fun b => m (c, b)) _ = _
  after_results

/-- Which tiles a point works on. -/
theorem places : ∀ t : Fin cfg0.N, win0_0.index t = ![t.val, 0] ∧ win0_1.index t = ![0, 0]
    ∧ win0_2.index t = ![t.val, 0] :=
  (by decide +kernel : ∀ t : Fin grid0.N, _)

theorem lhs_tile (c : Dev nD) (t : Fin cfg0.N) {i k : ℕ} (hi : i < 1024) (hk : k < 1024) :
    at2 (iblk m c 0 t : S1024x1024.Idx → EReal) i k = at2 (lhs m c) (t.val * 1024 + i) (0 * 1024 + k) := by
  obtain ⟨e, -, -⟩ := places t
  refine at2_tile (lhs m c) _ (((cfg0.win 0).blk t).view.emb) _ _ (fun y => ?_) (fun y => ?_) (fun y => ?_) hi hk
  · exact congrFun (entry_v0 m c) _
  · show win0_0.index t (0 : Fin 2) * 1024 + 1 * (y 0).val = _; rw [e]; rfl
  · show win0_0.index t (1 : Fin 2) * 1024 + 1 * (y 1).val = _; rw [e]; rfl

theorem rhs_tile (c : Dev nD) (t : Fin cfg0.N) {k i : ℕ} (hk : k < 1024) (hi : i < 1664) :
    at2 (iblk m c 1 t : S1024x1664.Idx → EReal) k i = at2 (rhs m c) (0 * 1024 + k) (0 * 1664 + i) := by
  obtain ⟨-, e, -⟩ := places t
  refine at2_tile (rhs m c) _ (((cfg0.win 1).blk t).view.emb) _ _ (fun y => ?_) (fun y => ?_) (fun y => ?_) hk hi
  · exact congrFun (entry_v1 m c) _
  · show win0_1.index t (0 : Fin 2) * 1024 + 1 * (y 0).val = _; rw [e]; rfl
  · show win0_1.index t (1 : Fin 2) * 1664 + 1 * (y 1).val = _; rw [e]; rfl

/-- The body leaves the product of its two tiles. -/
theorem left (c : Dev nD) (i : grid0.Coords) (a3 : Memref sig .tc .vmem S1024x1024 .bf16) (h3 : a3.IsWhole)
    (a4 : Memref sig .tc .vmem S1024x1664 .bf16) (h4 : a4.IsWhole) (a5 : Memref sig .tc .vmem S1024x1664 .f32) (h5 : a5.IsWhole)
    (a6 : Memref sig .tc .vmem S1024x1664 .f32) (h6 : a6.IsWhole) (x : Vec Ideal S1024x1024 .bf16) (z : Vec Ideal S1024x1664 .bf16)
    (y : S1024x1664.Idx) :
    out0_A_2 c i a3 h3 a4 h4 a5 h5 a6 h6 x z y
      = ∑ k ∈ Finset.range 1024, at2 (x : S1024x1024.Idx → EReal) (y 0).val k * at2 (z : S1024x1664.Idx → EReal) k (y 1).val := by
  unfold out0_A_2
  rw [View.read_writes_eq_canon _ _ _ (cover0_A_2 c i a3 h3 a4 h4 a5 h5 a6 h6 x z)]
  unfold kernelRun0_A
  dsimp only
  sl_unfold_words
  rw [View.canon_unit_zero origin]
  unfold k0_pay1
  simp only [View.readAt_eq_ld, h3.read_unread, h4.read_unread, View.ld_unit_zero (S := S1024x1024) origin,
    View.ld_unit_zero (S := S1024x1664) origin, shapeCast_self]
  exact matmul_nn (φ₁ := .bf16) (φ₂ := .bf16) _ x z y

/-- The product the call computes, at an index. -/
def result (c : Dev nD) : S4096x1664.Idx → EReal := fun i =>
  ∑ k ∈ Finset.range 1024, at2 (lhs m c) (i 0).val k * at2 (rhs m c) k (i 1).val

theorem flushed (c : Dev nD) (t : Fin cfg0.N) :
    (dats m 0 c).flushed 2 t = ((cfg0.win 2).blk t).view.read (Elt Ideal) (result m c) := by
  rw [flushed2_A]
  obtain ⟨-, -, e⟩ := places t
  funext y
  have h0 : (((cfg0.win 2).blk t).view.emb y 0).val = t.val * 1024 + (y 0).val := by
    show win0_2.index t (0 : Fin 2) * 1024 + 1 * (y 0).val = _; rw [e, Nat.one_mul]; rfl
  have h1 : (((cfg0.win 2).blk t).view.emb y 1).val = 0 * 1664 + (y 1).val := by
    show win0_2.index t (1 : Fin 2) * 1664 + 1 * (y 1).val = _; rw [e, Nat.one_mul]; rfl
  refine (left c _ _ _ _ _ _ _ _ _ _ _ y).trans ?_
  show _ = ∑ k ∈ Finset.range 1024, at2 (lhs m c) (((cfg0.win 2).blk t).view.emb y 0).val k
    * at2 (rhs m c) k (((cfg0.win 2).blk t).view.emb y 1).val
  rw [h0, h1]
  refine Finset.sum_congr rfl fun k hk => ?_
  rw [lhs_tile m c t (y 0).isLt (Finset.mem_range.mp hk), rhs_tile m c t (Finset.mem_range.mp hk) (y 1).isLt,
    Nat.zero_mul, Nat.zero_add]

theorem final (c : Dev nD) : (dats m 0 c).arrAt 2 cfg0.N = result m c :=
  (dats m 0 c).arrAt_eq_of_cover 2 _ (fun t _ => flushed m c t)
    ((by decide +kernel : (cfg0.win 2).Covers).cover _ (Memref.isWhole_whole _))

end Cert.PGlaIdeal.Tiles

namespace Cert.Proof

open Idealize.ShloMosaic Idealize.ShloMosaic.TcCoe Idealize.SL.Sem

theorem frame_PGlaRefIdeal : Cert.quiescent_PGlaRefIdeal := fun m ρ _ =>
  (θ_run Cert.PGlaRefIdeal.defs _ _).mono (fun r h => ⟨fun c => (h c).2, sem_eq_zero_of_no_sems (by decide) r.2⟩)
    (Cert.PGlaRefIdeal.Value.run (F := Ideal) m ρ)

theorem algebraic_PGla : Cert.algebraic_PGlaIdeal_PGlaRefIdeal := by
  intro m ρ m' ρ' _ hagree
  refine ⟨fun c => Cert.PGlaIdeal.Tiles.result m c,
    (θ_run Cert.PGlaIdeal.defs _ _).mono (fun _ h c => ⟨(h c).1.trans (Cert.PGlaIdeal.Tiles.final m c), (h c).2⟩)
      (Cert.PGlaIdeal.Value.run_blocks (F := Ideal) m ρ),
    (θ_run Cert.PGlaRefIdeal.defs _ _).mono (fun _ h c => ⟨(h c).1.trans ?_, (h c).2⟩)
      (Cert.PGlaRefIdeal.Value.run (F := Ideal) m' ρ')⟩
  obtain ⟨h0, h1⟩ := hagree c
  rw [h0, h1]
  funext i
  exact Cert.Products.dot_nn (φ₁ := .f32) (φ₂ := .f32) _ (Cert.PGlaIdeal.Tiles.lhs m c) (Cert.PGlaIdeal.Tiles.rhs m c) i

end Cert.Proof

end
-- ==== Proof.lean ====
/-
  The proof of `Cert.Claim`: the attention gradient runs to its end from every memory, whichever weights and upstream
  gradients it is given, and leaves its arguments as they were; over the extended reals its value gradient is the reference's.
  So do the products and the optimiser's steps, each of which is its reference over the extended reals.
  The run is Proof/Run.lean's, at the floats' bits and at the extended reals.
-/
module

public import proofs.«01_k».proof.Defs
public import proofs.«01_k».proof.Proof.Run
public import proofs.«01_k».proof.Proof.DvValue
public import proofs.«01_k».proof.Proof.Gen.Kernel
public import proofs.«01_k».proof.Proof.Gen.ReferenceIdeal.Run
public import proofs.«01_k».proof.Proof.Gen.DH
public import proofs.«01_k».proof.Proof.Gen.GUp
public import proofs.«01_k».proof.Proof.Gen.DP
public import proofs.«01_k».proof.Proof.Gen.DX
public import proofs.«01_k».proof.Proof.Gen.GDown
public import proofs.«01_k».proof.Proof.Gen.GIn
public import proofs.«01_k».proof.Proof.Gen.FUp
public import proofs.«01_k».proof.Proof.Gen.FDown
public import proofs.«01_k».proof.Proof.Gen.Mix
public import proofs.«01_k».proof.Proof.Gen.GOut
public import proofs.«01_k».proof.Proof.Gen.DCat
public import proofs.«01_k».proof.Proof.Gen.PSb
public import proofs.«01_k».proof.Proof.Gen.PGla
public import proofs.«01_k».proof.Proof.Gen.Norm
public import proofs.«01_k».proof.Proof.LayerNorm
public import proofs.«01_k».proof.Proof.Gen.ARep
public import proofs.«01_k».proof.Proof.RepStep
public import proofs.«01_k».proof.Proof.Gen.AIn
public import proofs.«01_k».proof.Proof.Gen.AOut
public import proofs.«01_k».proof.Proof.Gen.AUp
public import proofs.«01_k».proof.Proof.Gen.ADown
public import proofs.«01_k».proof.Proof.Gen.AGate
public import proofs.«01_k».proof.Proof.Gen.AConv
public import proofs.«01_k».proof.Proof.InStep
public import proofs.«01_k».proof.Proof.OutStep
public import proofs.«01_k».proof.Proof.UpStep
public import proofs.«01_k».proof.Proof.DownStep
public import proofs.«01_k».proof.Proof.GateStep
public import proofs.«01_k».proof.Proof.ConvStep
public import proofs.«01_k».proof.Proof.HGrad
public import proofs.«01_k».proof.Proof.UpGrad
public import proofs.«01_k».proof.Proof.ActGrad
public import proofs.«01_k».proof.Proof.InGrad
public import proofs.«01_k».proof.Proof.DownGrad
public import proofs.«01_k».proof.Proof.ProjGrad
public import proofs.«01_k».proof.Proof.UpFwd
public import proofs.«01_k».proof.Proof.DownFwd
public import proofs.«01_k».proof.Proof.MixFwd
public import proofs.«01_k».proof.Proof.OutGrad
public import proofs.«01_k».proof.Proof.CatGrad
public import proofs.«01_k».proof.Proof.SbProj
public import proofs.«01_k».proof.Proof.GlaProj
public import Idealize.ShloMosaic.Adequacy
public import Idealize.ShloMosaic.Init

@[expose] public section

noncomputable section

namespace Cert.Proof

open Idealize.ShloMosaic Idealize.ShloMosaic.TcCoe Idealize.SL.Sem

/-- Two tables of one body each are one if that body is. -/
theorem one_body {A : Fin 1 → Type} {B : Fin 1 → Type 1} {f g : ∀ b, A b → B b} (h : ∀ a, f 0 a = g 0 a) : f = g := by
  funext b a
  obtain rfl : b = 0 := Subsingleton.elim _ _
  exact h a

/-- The two programs' body tables are one. -/
theorem bodies_eq : Cert.Kernel.defs₀ (F := Bits) = Cert.KernelIdeal.defs₀ (F := Bits) := by
  unfold Cert.Kernel.defs₀ Cert.KernelIdeal.defs₀
  exact congrArg Defs.onTc (one_body fun ⟨_, _⟩ => rfl)
theorem defs_eq : Cert.Kernel.defs (F := Bits) = Cert.KernelIdeal.defs (F := Bits) :=
  congrArg (Pipeline.defs (Cert.KernelIdeal.pcfgs (F := Bits))) bodies_eq
set_option maxHeartbeats 1000000 in
theorem main_eq : Cert.Kernel.main (F := Bits) = Cert.KernelIdeal.main (F := Bits) := rfl

set_option maxHeartbeats 1000000 in
/-- The kernel ends, faults nowhere, and leaves its arguments: the one run read at the floats' bits. -/
theorem frame_kernel : Cert.quiescent_Kernel := fun m g _ => by
  rw [defs_eq, main_eq]
  exact Cert.KernelIdeal.Sb.frame (F := Bits) m g

/-- The same run at the extended reals. -/
theorem frame_ideal : Cert.quiescent_KernelIdeal := fun m g _ => Cert.KernelIdeal.Sb.frame (F := Ideal) m g

/-- The reference's run, of host operations alone. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-! The products: each frame once, over any float values. -/

theorem frame_DH : Cert.quiescent_DH := fun m g _ => by
  rw [show Cert.DH.defs (F := Bits) = Cert.DHIdeal.defs from
      congrArg (Pipeline.defs (Cert.DHIdeal.pcfgs (F := Bits))) (congrArg Defs.onTc (one_body fun ⟨_, _⟩ => rfl)),
    show Cert.DH.main (F := Bits) = Cert.DHIdeal.main from rfl]
  exact Cert.DHIdeal.Gen.frame (F := Bits) m g
theorem frame_DHIdeal : Cert.quiescent_DHIdeal := fun m g _ => Cert.DHIdeal.Gen.frame (F := Ideal) m g
theorem frame_GUp : Cert.quiescent_GUp := fun m g _ => by
  rw [show Cert.GUp.defs (F := Bits) = Cert.GUpIdeal.defs from
      congrArg (Pipeline.defs (Cert.GUpIdeal.pcfgs (F := Bits))) (congrArg Defs.onTc (one_body fun ⟨_, _⟩ => rfl)),
    show Cert.GUp.main (F := Bits) = Cert.GUpIdeal.main from rfl]
  exact Cert.GUpIdeal.Gen.frame (F := Bits) m g
theorem frame_GUpIdeal : Cert.quiescent_GUpIdeal := fun m g _ => Cert.GUpIdeal.Gen.frame (F := Ideal) m g
theorem frame_DP : Cert.quiescent_DP := fun m g _ => by
  rw [show Cert.DP.defs (F := Bits) = Cert.DPIdeal.defs from
      congrArg (Pipeline.defs (Cert.DPIdeal.pcfgs (F := Bits))) (congrArg Defs.onTc (one_body fun ⟨_, _⟩ => rfl)),
    show Cert.DP.main (F := Bits) = Cert.DPIdeal.main from rfl]
  exact Cert.DPIdeal.Gen.frame (F := Bits) m g
theorem frame_DPIdeal : Cert.quiescent_DPIdeal := fun m g _ => Cert.DPIdeal.Gen.frame (F := Ideal) m g
theorem frame_DX : Cert.quiescent_DX := fun m g _ => by
  rw [show Cert.DX.defs (F := Bits) = Cert.DXIdeal.defs from
      congrArg (Pipeline.defs (Cert.DXIdeal.pcfgs (F := Bits))) (congrArg Defs.onTc (one_body fun ⟨_, _⟩ => rfl)),
    show Cert.DX.main (F := Bits) = Cert.DXIdeal.main from rfl]
  exact Cert.DXIdeal.Gen.frame (F := Bits) m g
theorem frame_DXIdeal : Cert.quiescent_DXIdeal := fun m g _ => Cert.DXIdeal.Gen.frame (F := Ideal) m g
theorem frame_GDown : Cert.quiescent_GDown := fun m g _ => by
  rw [show Cert.GDown.defs (F := Bits) = Cert.GDownIdeal.defs from
      congrArg (Pipeline.defs (Cert.GDownIdeal.pcfgs (F := Bits))) (congrArg Defs.onTc (one_body fun ⟨_, _⟩ => rfl)),
    show Cert.GDown.main (F := Bits) = Cert.GDownIdeal.main from rfl]
  exact Cert.GDownIdeal.Gen.frame (F := Bits) m g
theorem frame_GDownIdeal : Cert.quiescent_GDownIdeal := fun m g _ => Cert.GDownIdeal.Gen.frame (F := Ideal) m g
theorem frame_GIn : Cert.quiescent_GIn := fun m g _ => by
  rw [show Cert.GIn.defs (F := Bits) = Cert.GInIdeal.defs from
      congrArg (Pipeline.defs (Cert.GInIdeal.pcfgs (F := Bits))) (congrArg Defs.onTc (one_body fun ⟨_, _⟩ => rfl)),
    show Cert.GIn.main (F := Bits) = Cert.GInIdeal.main from rfl]
  exact Cert.GInIdeal.Gen.frame (F := Bits) m g
theorem frame_GInIdeal : Cert.quiescent_GInIdeal := fun m g _ => Cert.GInIdeal.Gen.frame (F := Ideal) m g
theorem frame_FUp : Cert.quiescent_FUp := fun m g _ => by
  rw [show Cert.FUp.defs (F := Bits) = Cert.FUpIdeal.defs from
      congrArg (Pipeline.defs (Cert.FUpIdeal.pcfgs (F := Bits))) (congrArg Defs.onTc (one_body fun ⟨_, _⟩ => rfl)),
    show Cert.FUp.main (F := Bits) = Cert.FUpIdeal.main from rfl]
  exact Cert.FUpIdeal.Gen.frame (F := Bits) m g
theorem frame_FUpIdeal : Cert.quiescent_FUpIdeal := fun m g _ => Cert.FUpIdeal.Gen.frame (F := Ideal) m g
theorem frame_FDown : Cert.quiescent_FDown := fun m g _ => by
  rw [show Cert.FDown.defs (F := Bits) = Cert.FDownIdeal.defs from
      congrArg (Pipeline.defs (Cert.FDownIdeal.pcfgs (F := Bits))) (congrArg Defs.onTc (one_body fun ⟨_, _⟩ => rfl)),
    show Cert.FDown.main (F := Bits) = Cert.FDownIdeal.main from rfl]
  exact Cert.FDownIdeal.Gen.frame (F := Bits) m g
theorem frame_FDownIdeal : Cert.quiescent_FDownIdeal := fun m g _ => Cert.FDownIdeal.Gen.frame (F := Ideal) m g
theorem frame_Mix : Cert.quiescent_Mix := fun m g _ => by
  rw [show Cert.Mix.defs (F := Bits) = Cert.MixIdeal.defs from
      congrArg (Pipeline.defs (Cert.MixIdeal.pcfgs (F := Bits))) (congrArg Defs.onTc (one_body fun ⟨_, _⟩ => rfl)),
    show Cert.Mix.main (F := Bits) = Cert.MixIdeal.main from rfl]
  exact Cert.MixIdeal.Gen.frame (F := Bits) m g
theorem frame_MixIdeal : Cert.quiescent_MixIdeal := fun m g _ => Cert.MixIdeal.Gen.frame (F := Ideal) m g
theorem frame_GOut : Cert.quiescent_GOut := fun m g _ => by
  rw [show Cert.GOut.defs (F := Bits) = Cert.GOutIdeal.defs from
      congrArg (Pipeline.defs (Cert.GOutIdeal.pcfgs (F := Bits))) (congrArg Defs.onTc (one_body fun ⟨_, _⟩ => rfl)),
    show Cert.GOut.main (F := Bits) = Cert.GOutIdeal.main from rfl]
  exact Cert.GOutIdeal.Gen.frame (F := Bits) m g
theorem frame_GOutIdeal : Cert.quiescent_GOutIdeal := fun m g _ => Cert.GOutIdeal.Gen.frame (F := Ideal) m g
theorem frame_DCat : Cert.quiescent_DCat := fun m g _ => by
  rw [show Cert.DCat.defs (F := Bits) = Cert.DCatIdeal.defs from
      congrArg (Pipeline.defs (Cert.DCatIdeal.pcfgs (F := Bits))) (congrArg Defs.onTc (one_body fun ⟨_, _⟩ => rfl)),
    show Cert.DCat.main (F := Bits) = Cert.DCatIdeal.main from rfl]
  exact Cert.DCatIdeal.Gen.frame (F := Bits) m g
theorem frame_DCatIdeal : Cert.quiescent_DCatIdeal := fun m g _ => Cert.DCatIdeal.Gen.frame (F := Ideal) m g
theorem frame_PSb : Cert.quiescent_PSb := fun m g _ => by
  rw [show Cert.PSb.defs (F := Bits) = Cert.PSbIdeal.defs from
      congrArg (Pipeline.defs (Cert.PSbIdeal.pcfgs (F := Bits))) (congrArg Defs.onTc (one_body fun ⟨_, _⟩ => rfl)),
    show Cert.PSb.main (F := Bits) = Cert.PSbIdeal.main from rfl]
  exact Cert.PSbIdeal.Gen.frame (F := Bits) m g
theorem frame_PSbIdeal : Cert.quiescent_PSbIdeal := fun m g _ => Cert.PSbIdeal.Gen.frame (F := Ideal) m g
theorem frame_PGla : Cert.quiescent_PGla := fun m g _ => by
  rw [show Cert.PGla.defs (F := Bits) = Cert.PGlaIdeal.defs from
      congrArg (Pipeline.defs (Cert.PGlaIdeal.pcfgs (F := Bits))) (congrArg Defs.onTc (one_body fun ⟨_, _⟩ => rfl)),
    show Cert.PGla.main (F := Bits) = Cert.PGlaIdeal.main from rfl]
  exact Cert.PGlaIdeal.Gen.frame (F := Bits) m g
theorem frame_PGlaIdeal : Cert.quiescent_PGlaIdeal := fun m g _ => Cert.PGlaIdeal.Gen.frame (F := Ideal) m g

theorem frame_AIn : Cert.quiescent_AIn := fun m g _ => by
  rw [show Cert.AIn.defs (F := Bits) = Cert.AInIdeal.defs from
      congrArg (Pipeline.defs (Cert.AInIdeal.pcfgs (F := Bits))) (congrArg Defs.onTc (one_body fun ⟨_, _⟩ => rfl)),
    show Cert.AIn.main (F := Bits) = Cert.AInIdeal.main from rfl]
  exact Cert.AInIdeal.Gen.frame (F := Bits) m g
theorem frame_AInIdeal : Cert.quiescent_AInIdeal := fun m g _ => Cert.AInIdeal.Gen.frame (F := Ideal) m g

theorem frame_AOut : Cert.quiescent_AOut := fun m g _ => by
  rw [show Cert.AOut.defs (F := Bits) = Cert.AOutIdeal.defs from
      congrArg (Pipeline.defs (Cert.AOutIdeal.pcfgs (F := Bits))) (congrArg Defs.onTc (one_body fun ⟨_, _⟩ => rfl)),
    show Cert.AOut.main (F := Bits) = Cert.AOutIdeal.main from rfl]
  exact Cert.AOutIdeal.Gen.frame (F := Bits) m g
theorem frame_AOutIdeal : Cert.quiescent_AOutIdeal := fun m g _ => Cert.AOutIdeal.Gen.frame (F := Ideal) m g

theorem frame_AUp : Cert.quiescent_AUp := fun m g _ => by
  rw [show Cert.AUp.defs (F := Bits) = Cert.AUpIdeal.defs from
      congrArg (Pipeline.defs (Cert.AUpIdeal.pcfgs (F := Bits))) (congrArg Defs.onTc (one_body fun ⟨_, _⟩ => rfl)),
    show Cert.AUp.main (F := Bits) = Cert.AUpIdeal.main from rfl]
  exact Cert.AUpIdeal.Gen.frame (F := Bits) m g
theorem frame_AUpIdeal : Cert.quiescent_AUpIdeal := fun m g _ => Cert.AUpIdeal.Gen.frame (F := Ideal) m g

theorem frame_ADown : Cert.quiescent_ADown := fun m g _ => by
  rw [show Cert.ADown.defs (F := Bits) = Cert.ADownIdeal.defs from
      congrArg (Pipeline.defs (Cert.ADownIdeal.pcfgs (F := Bits))) (congrArg Defs.onTc (one_body fun ⟨_, _⟩ => rfl)),
    show Cert.ADown.main (F := Bits) = Cert.ADownIdeal.main from rfl]
  exact Cert.ADownIdeal.Gen.frame (F := Bits) m g
theorem frame_ADownIdeal : Cert.quiescent_ADownIdeal := fun m g _ => Cert.ADownIdeal.Gen.frame (F := Ideal) m g

theorem frame_AGate : Cert.quiescent_AGate := fun m g _ => by
  rw [show Cert.AGate.defs (F := Bits) = Cert.AGateIdeal.defs from
      congrArg (Pipeline.defs (Cert.AGateIdeal.pcfgs (F := Bits))) (congrArg Defs.onTc (one_body fun ⟨_, _⟩ => rfl)),
    show Cert.AGate.main (F := Bits) = Cert.AGateIdeal.main from rfl]
  exact Cert.AGateIdeal.Gen.frame (F := Bits) m g
theorem frame_AGateIdeal : Cert.quiescent_AGateIdeal := fun m g _ => Cert.AGateIdeal.Gen.frame (F := Ideal) m g

theorem frame_AConv : Cert.quiescent_AConv := fun m g _ => by
  rw [show Cert.AConv.defs (F := Bits) = Cert.AConvIdeal.defs from
      congrArg (Pipeline.defs (Cert.AConvIdeal.pcfgs (F := Bits))) (congrArg Defs.onTc (one_body fun ⟨_, _⟩ => rfl)),
    show Cert.AConv.main (F := Bits) = Cert.AConvIdeal.main from rfl]
  exact Cert.AConvIdeal.Gen.frame (F := Bits) m g
theorem frame_AConvIdeal : Cert.quiescent_AConvIdeal := fun m g _ => Cert.AConvIdeal.Gen.frame (F := Ideal) m g
set_option maxHeartbeats 8000000 in
theorem frame_ARep : Cert.quiescent_ARep := fun m g _ => by
  rw [show Cert.ARep.defs (F := Bits) = Cert.ARepIdeal.defs from
      congrArg (Pipeline.defs (Cert.ARepIdeal.pcfgs (F := Bits))) (congrArg Defs.onTc (one_body fun ⟨_, _⟩ => rfl)),
    show Cert.ARep.main (F := Bits) = Cert.ARepIdeal.main from rfl]
  exact Cert.ARepIdeal.Step.frame (F := Bits) m g
theorem frame_ARepIdeal : Cert.quiescent_ARepIdeal := fun m g _ => Cert.ARepIdeal.Step.frame (F := Ideal) m g
theorem frame_Norm : Cert.quiescent_Norm := fun m g _ => by
  rw [show Cert.Norm.defs (F := Bits) = Cert.NormIdeal.defs from
      congrArg (Pipeline.defs (Cert.NormIdeal.pcfgs (F := Bits))) (congrArg Defs.onTc (one_body fun ⟨_, _⟩ => rfl)),
    show Cert.Norm.main (F := Bits) = Cert.NormIdeal.main from rfl]
  exact Cert.NormIdeal.Gen.frame (F := Bits) m g
theorem frame_NormIdeal : Cert.quiescent_NormIdeal := fun m g _ => Cert.NormIdeal.Gen.frame (F := Ideal) m g

theorem claim : Cert.Claim :=
  ⟨Cert.Kernel.Gen.facts, Cert.KernelIdeal.Gen.facts, Cert.ReferenceIdeal.Gen.facts,
    Cert.DH.Gen.facts, Cert.DHIdeal.Gen.facts, Cert.DHRefIdeal.Gen.facts,
    Cert.GUp.Gen.facts, Cert.GUpIdeal.Gen.facts, Cert.GUpRefIdeal.Gen.facts,
    Cert.DP.Gen.facts, Cert.DPIdeal.Gen.facts, Cert.DPRefIdeal.Gen.facts,
    Cert.DX.Gen.facts, Cert.DXIdeal.Gen.facts, Cert.DXRefIdeal.Gen.facts,
    Cert.GDown.Gen.facts, Cert.GDownIdeal.Gen.facts, Cert.GDownRefIdeal.Gen.facts,
    Cert.GIn.Gen.facts, Cert.GInIdeal.Gen.facts, Cert.GInRefIdeal.Gen.facts,
    Cert.FUp.Gen.facts, Cert.FUpIdeal.Gen.facts, Cert.FUpRefIdeal.Gen.facts,
    Cert.FDown.Gen.facts, Cert.FDownIdeal.Gen.facts, Cert.FDownRefIdeal.Gen.facts,
    Cert.Mix.Gen.facts, Cert.MixIdeal.Gen.facts, Cert.MixRefIdeal.Gen.facts,
    Cert.GOut.Gen.facts, Cert.GOutIdeal.Gen.facts, Cert.GOutRefIdeal.Gen.facts,
    Cert.DCat.Gen.facts, Cert.DCatIdeal.Gen.facts, Cert.DCatRefIdeal.Gen.facts,
    Cert.PSb.Gen.facts, Cert.PSbIdeal.Gen.facts, Cert.PSbRefIdeal.Gen.facts,
    Cert.PGla.Gen.facts, Cert.PGlaIdeal.Gen.facts, Cert.PGlaRefIdeal.Gen.facts,
    Cert.AIn.Gen.facts, Cert.AInIdeal.Gen.facts, Cert.AInRefIdeal.Gen.facts,
    Cert.AOut.Gen.facts, Cert.AOutIdeal.Gen.facts, Cert.AOutRefIdeal.Gen.facts,
    Cert.AUp.Gen.facts, Cert.AUpIdeal.Gen.facts, Cert.AUpRefIdeal.Gen.facts,
    Cert.ADown.Gen.facts, Cert.ADownIdeal.Gen.facts, Cert.ADownRefIdeal.Gen.facts,
    Cert.AGate.Gen.facts, Cert.AGateIdeal.Gen.facts, Cert.AGateRefIdeal.Gen.facts,
    Cert.AConv.Gen.facts, Cert.AConvIdeal.Gen.facts, Cert.AConvRefIdeal.Gen.facts,
    Cert.ARep.Gen.facts, Cert.ARepIdeal.Gen.facts, Cert.ARepRefIdeal.Gen.facts,
    Cert.Norm.Gen.facts, Cert.NormIdeal.Gen.facts, Cert.NormRefIdeal.Gen.facts,
    frame_kernel, frame_ideal, frame_reference,
    frame_DH, frame_DHIdeal, frame_DHRefIdeal, frame_GUp, frame_GUpIdeal, frame_GUpRefIdeal,
    frame_DP, frame_DPIdeal, frame_DPRefIdeal,
    frame_DX, frame_DXIdeal, frame_DXRefIdeal, frame_GDown, frame_GDownIdeal, frame_GDownRefIdeal,
    frame_GIn, frame_GInIdeal, frame_GInRefIdeal, frame_FUp, frame_FUpIdeal, frame_FUpRefIdeal,
    frame_FDown, frame_FDownIdeal, frame_FDownRefIdeal,
    frame_Mix, frame_MixIdeal, frame_MixRefIdeal,
    frame_GOut, frame_GOutIdeal, frame_GOutRefIdeal,
    frame_DCat, frame_DCatIdeal, frame_DCatRefIdeal,
    frame_PSb, frame_PSbIdeal, frame_PSbRefIdeal,
    frame_PGla, frame_PGlaIdeal, frame_PGlaRefIdeal,
    frame_AIn, frame_AInIdeal, frame_AInRefIdeal,
    frame_AOut, frame_AOutIdeal, frame_AOutRefIdeal,
    frame_AUp, frame_AUpIdeal, frame_AUpRefIdeal,
    frame_ADown, frame_ADownIdeal, frame_ADownRefIdeal,
    frame_AGate, frame_AGateIdeal, frame_AGateRefIdeal,
    frame_AConv, frame_AConvIdeal, frame_AConvRefIdeal,
    frame_ARep, frame_ARepIdeal, frame_ARepRefIdeal,
    frame_Norm, frame_NormIdeal, frame_NormRefIdeal,
    trivial, algebraic_dv, trivial, algebraic_DH, trivial, algebraic_GUp, trivial, algebraic_DP,
    trivial, algebraic_DX, trivial, algebraic_GDown, trivial, algebraic_GIn, trivial, algebraic_FUp,
    trivial, algebraic_FDown, trivial, algebraic_Mix, trivial, algebraic_GOut, trivial, algebraic_DCat, trivial, algebraic_PSb, trivial, algebraic_PGla,
    trivial, algebraic_AIn, trivial, algebraic_AOut, trivial, algebraic_AUp, trivial, algebraic_ADown, trivial, algebraic_AGate, trivial, algebraic_AConv,
    trivial, algebraic_ARep, trivial, algebraic_Norm⟩

end Cert.Proof

end
